-- ==== Defs.lean ====
def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite [hPre_finite : Cert.Pre_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite [hPre_finite : Cert.Pre_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))) = (fun _ => 1#1)

def Pre_Gfwd (m : (ℓ : Loc Cert.Gfwd.nD Cert.Gfwd.τ Cert.Gfwd.sig) → Buf (Elt Bits) ℓ) : Prop :=
  True

def Pre_GfwdIdeal (m : (ℓ : Loc Cert.GfwdIdeal.nD Cert.GfwdIdeal.τ Cert.GfwdIdeal.sig) → Buf (Elt Ideal) ℓ) : Prop :=
  True

def Pre_GfwdIdeal_finite_fwd [hPre_finite_fwd : Cert.Pre_finite_fwd.Facts] (m : (ℓ : Loc Cert.GfwdIdeal.nD Cert.GfwdIdeal.τ Cert.GfwdIdeal.sig) → Buf (Elt Ideal) ℓ) : Prop :=
  ∀ c : Dev Cert.GfwdIdeal.nD,
    (Cert.Pre_finite_fwd.fn (F := Ideal) (m ((c.tc : Thread Cert.GfwdIdeal.nD Cert.GfwdIdeal.τ).loc Cert.GfwdIdeal.main_arg0)) (m ((c.tc : Thread Cert.GfwdIdeal.nD Cert.GfwdIdeal.τ).loc Cert.GfwdIdeal.main_arg1)) (m ((c.tc : Thread Cert.GfwdIdeal.nD Cert.GfwdIdeal.τ).loc Cert.GfwdIdeal.main_arg2)) (m ((c.tc : Thread Cert.GfwdIdeal.nD Cert.GfwdIdeal.τ).loc Cert.GfwdIdeal.main_arg3)) (m ((c.tc : Thread Cert.GfwdIdeal.nD Cert.GfwdIdeal.τ).loc Cert.GfwdIdeal.main_arg4)) (m ((c.tc : Thread Cert.GfwdIdeal.nD Cert.GfwdIdeal.τ).loc Cert.GfwdIdeal.main_arg5))) = (fun _ => 1#1)

def Pre_GfwdRefIdeal (m : (ℓ : Loc Cert.GfwdRefIdeal.nD Cert.GfwdRefIdeal.τ Cert.GfwdRefIdeal.sig) → Buf (Elt Ideal) ℓ) : Prop :=
  True

def Pre_GfwdRefIdeal_finite_fwd [hPre_finite_fwd : Cert.Pre_finite_fwd.Facts] (m : (ℓ : Loc Cert.GfwdRefIdeal.nD Cert.GfwdRefIdeal.τ Cert.GfwdRefIdeal.sig) → Buf (Elt Ideal) ℓ) : Prop :=
  ∀ c : Dev Cert.GfwdRefIdeal.nD,
    (Cert.Pre_finite_fwd.fn (F := Ideal) (m ((c.tc : Thread Cert.GfwdRefIdeal.nD Cert.GfwdRefIdeal.τ).loc Cert.GfwdRefIdeal.main_arg0)) (m ((c.tc : Thread Cert.GfwdRefIdeal.nD Cert.GfwdRefIdeal.τ).loc Cert.GfwdRefIdeal.main_arg1)) (m ((c.tc : Thread Cert.GfwdRefIdeal.nD Cert.GfwdRefIdeal.τ).loc Cert.GfwdRefIdeal.main_arg2)) (m ((c.tc : Thread Cert.GfwdRefIdeal.nD Cert.GfwdRefIdeal.τ).loc Cert.GfwdRefIdeal.main_arg3)) (m ((c.tc : Thread Cert.GfwdRefIdeal.nD Cert.GfwdRefIdeal.τ).loc Cert.GfwdRefIdeal.main_arg4)) (m ((c.tc : Thread Cert.GfwdRefIdeal.nD Cert.GfwdRefIdeal.τ).loc Cert.GfwdRefIdeal.main_arg5))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Sfwd (m : (ℓ : Loc Cert.Sfwd.nD Cert.Sfwd.τ Cert.Sfwd.sig) → Buf (Elt Bits) ℓ) : Prop :=
  True

def Pre_SfwdIdeal (m : (ℓ : Loc Cert.SfwdIdeal.nD Cert.SfwdIdeal.τ Cert.SfwdIdeal.sig) → Buf (Elt Ideal) ℓ) : Prop :=
  True

def Pre_SfwdRefIdeal (m : (ℓ : Loc Cert.SfwdRefIdeal.nD Cert.SfwdRefIdeal.τ Cert.SfwdRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3)
      ∧ r.2.mem ((c.tc : Thread Cert.MlpIn.nD Cert.MlpIn.τ).loc Cert.MlpIn.main_arg4) = m ((c.tc : Thread Cert.MlpIn.nD Cert.MlpIn.τ).loc Cert.MlpIn.main_arg4)
      ∧ r.2.mem ((c.tc : Thread Cert.MlpIn.nD Cert.MlpIn.τ).loc Cert.MlpIn.main_arg5) = m ((c.tc : Thread Cert.MlpIn.nD Cert.MlpIn.τ).loc Cert.MlpIn.main_arg5)
      ∧ r.2.mem ((c.tc : Thread Cert.MlpIn.nD Cert.MlpIn.τ).loc Cert.MlpIn.main_arg6) = m ((c.tc : Thread Cert.MlpIn.nD Cert.MlpIn.τ).loc Cert.MlpIn.main_arg6))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
      ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
      ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
      ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2)
      ∧ r.2.mem ((c.tc : Thread Cert.MlpInRefIdeal.nD Cert.MlpInRefIdeal.τ).loc Cert.MlpInRefIdeal.main_arg3) = m ((c.tc : Thread Cert.MlpInRefIdeal.nD Cert.MlpInRefIdeal.τ).loc Cert.MlpInRefIdeal.main_arg3)
      ∧ r.2.mem ((c.tc : Thread Cert.MlpInRefIdeal.nD Cert.MlpInRefIdeal.τ).loc Cert.MlpInRefIdeal.main_arg4) = m ((c.tc : Thread Cert.MlpInRefIdeal.nD Cert.MlpInRefIdeal.τ).loc Cert.MlpInRefIdeal.main_arg4)
      ∧ r.2.mem ((c.tc : Thread Cert.MlpInRefIdeal.nD Cert.MlpInRefIdeal.τ).loc Cert.MlpInRefIdeal.main_arg5) = m ((c.tc : Thread Cert.MlpInRefIdeal.nD Cert.MlpInRefIdeal.τ).loc Cert.MlpInRefIdeal.main_arg5)
      ∧ r.2.mem ((c.tc : Thread Cert.MlpInRefIdeal.nD Cert.MlpInRefIdeal.τ).loc Cert.MlpInRefIdeal.main_arg6) = m ((c.tc : Thread Cert.MlpInRefIdeal.nD Cert.MlpInRefIdeal.τ).loc Cert.MlpInRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11)
      ∧ r.2.mem ((c.tc : Thread Cert.In.nD Cert.In.τ).loc Cert.In.main_arg12) = m ((c.tc : Thread Cert.In.nD Cert.In.τ).loc Cert.In.main_arg12)
      ∧ r.2.mem ((c.tc : Thread Cert.In.nD Cert.In.τ).loc Cert.In.main_arg13) = m ((c.tc : Thread Cert.In.nD Cert.In.τ).loc Cert.In.main_arg13))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11)
      ∧ r.2.mem ((c.tc : Thread Cert.InIdeal.nD Cert.InIdeal.τ).loc Cert.InIdeal.main_arg12) = m ((c.tc : Thread Cert.InIdeal.nD Cert.InIdeal.τ).loc Cert.InIdeal.main_arg12)
      ∧ r.2.mem ((c.tc : Thread Cert.InIdeal.nD Cert.InIdeal.τ).loc Cert.InIdeal.main_arg13) = m ((c.tc : Thread Cert.InIdeal.nD Cert.InIdeal.τ).loc Cert.InIdeal.main_arg13))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpIdeal_pre_finite [hGmlpIdeal : Cert.GmlpIdeal.Facts] [hPre_finite : Cert.Pre_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_GmlpRefIdeal_pre_finite [hGmlpRefIdeal : Cert.GmlpRefIdeal.Facts] [hPre_finite : Cert.Pre_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_Gfwd [hGfwd : Cert.Gfwd.Facts] : Prop :=
  ∀ (m : (ℓ : Loc Cert.Gfwd.nD Cert.Gfwd.τ Cert.Gfwd.sig) → Buf (Elt Bits) ℓ) (g : Dev Cert.Gfwd.nD → PrngReg), Pre_Gfwd m →
    θ_run (Cert.Gfwd.defs (F := Bits)) (onTc (τ := Cert.Gfwd.τ) (Cert.Gfwd.main (F := Bits))) ⟨m, fun _ => 0, g⟩ (fun r => (∀ c : Dev Cert.Gfwd.nD,
      r.2.mem ((c.tc : Thread Cert.Gfwd.nD Cert.Gfwd.τ).loc Cert.Gfwd.main_arg0) = m ((c.tc : Thread Cert.Gfwd.nD Cert.Gfwd.τ).loc Cert.Gfwd.main_arg0)
      ∧ r.2.mem ((c.tc : Thread Cert.Gfwd.nD Cert.Gfwd.τ).loc Cert.Gfwd.main_arg1) = m ((c.tc : Thread Cert.Gfwd.nD Cert.Gfwd.τ).loc Cert.Gfwd.main_arg1)
      ∧ r.2.mem ((c.tc : Thread Cert.Gfwd.nD Cert.Gfwd.τ).loc Cert.Gfwd.main_arg2) = m ((c.tc : Thread Cert.Gfwd.nD Cert.Gfwd.τ).loc Cert.Gfwd.main_arg2)
      ∧ r.2.mem ((c.tc : Thread Cert.Gfwd.nD Cert.Gfwd.τ).loc Cert.Gfwd.main_arg3) = m ((c.tc : Thread Cert.Gfwd.nD Cert.Gfwd.τ).loc Cert.Gfwd.main_arg3)
      ∧ r.2.mem ((c.tc : Thread Cert.Gfwd.nD Cert.Gfwd.τ).loc Cert.Gfwd.main_arg4) = m ((c.tc : Thread Cert.Gfwd.nD Cert.Gfwd.τ).loc Cert.Gfwd.main_arg4)
      ∧ r.2.mem ((c.tc : Thread Cert.Gfwd.nD Cert.Gfwd.τ).loc Cert.Gfwd.main_arg5) = m ((c.tc : Thread Cert.Gfwd.nD Cert.Gfwd.τ).loc Cert.Gfwd.main_arg5))
      ∧ r.2.sem = fun _ => 0)

def quiescent_GfwdIdeal [hGfwdIdeal : Cert.GfwdIdeal.Facts] : Prop :=
  ∀ (m : (ℓ : Loc Cert.GfwdIdeal.nD Cert.GfwdIdeal.τ Cert.GfwdIdeal.sig) → Buf (Elt Ideal) ℓ) (g : Dev Cert.GfwdIdeal.nD → PrngReg), Pre_GfwdIdeal m →
    θ_run (Cert.GfwdIdeal.defs (F := Ideal)) (onTc (τ := Cert.GfwdIdeal.τ) (Cert.GfwdIdeal.main (F := Ideal))) ⟨m, fun _ => 0, g⟩ (fun r => (∀ c : Dev Cert.GfwdIdeal.nD,
      r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
      ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
      ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
      ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
      ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4)
      ∧ r.2.mem ((c.tc : Thread Cert.GfwdIdeal.nD Cert.GfwdIdeal.τ).loc Cert.GfwdIdeal.main_arg5) = m ((c.tc : Thread Cert.GfwdIdeal.nD Cert.GfwdIdeal.τ).loc Cert.GfwdIdeal.main_arg5))
      ∧ r.2.sem = fun _ => 0)

def quiescent_GfwdIdeal_pre_finite_fwd [hGfwdIdeal : Cert.GfwdIdeal.Facts] [hPre_finite_fwd : Cert.Pre_finite_fwd.Facts] : Prop :=
  ∀ (m : (ℓ : Loc Cert.GfwdIdeal.nD Cert.GfwdIdeal.τ Cert.GfwdIdeal.sig) → Buf (Elt Ideal) ℓ) (g : Dev Cert.GfwdIdeal.nD → PrngReg), Pre_GfwdIdeal_finite_fwd m →
    θ_run (Cert.GfwdIdeal.defs (F := Ideal)) (onTc (τ := Cert.GfwdIdeal.τ) (Cert.GfwdIdeal.main (F := Ideal))) ⟨m, fun _ => 0, g⟩ (fun r => (∀ c : Dev Cert.GfwdIdeal.nD,
      r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
      ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
      ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
      ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
      ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4)
      ∧ r.2.mem ((c.tc : Thread Cert.GfwdIdeal.nD Cert.GfwdIdeal.τ).loc Cert.GfwdIdeal.main_arg5) = m ((c.tc : Thread Cert.GfwdIdeal.nD Cert.GfwdIdeal.τ).loc Cert.GfwdIdeal.main_arg5))
      ∧ r.2.sem = fun _ => 0)

def quiescent_GfwdRefIdeal [hGfwdRefIdeal : Cert.GfwdRefIdeal.Facts] : Prop :=
  ∀ (m : (ℓ : Loc Cert.GfwdRefIdeal.nD Cert.GfwdRefIdeal.τ Cert.GfwdRefIdeal.sig) → Buf (Elt Ideal) ℓ) (g : Dev Cert.GfwdRefIdeal.nD → PrngReg), Pre_GfwdRefIdeal m →
    θ_run (Cert.GfwdRefIdeal.defs (F := Ideal)) (onTc (τ := Cert.GfwdRefIdeal.τ) (Cert.GfwdRefIdeal.main (F := Ideal))) ⟨m, fun _ => 0, g⟩ (fun r => (∀ c : Dev Cert.GfwdRefIdeal.nD,
      r.2.mem ((c.tc : Thread Cert.GfwdRefIdeal.nD Cert.GfwdRefIdeal.τ).loc Cert.GfwdRefIdeal.main_arg0) = m ((c.tc : Thread Cert.GfwdRefIdeal.nD Cert.GfwdRefIdeal.τ).loc Cert.GfwdRefIdeal.main_arg0)
      ∧ r.2.mem ((c.tc : Thread Cert.GfwdRefIdeal.nD Cert.GfwdRefIdeal.τ).loc Cert.GfwdRefIdeal.main_arg1) = m ((c.tc : Thread Cert.GfwdRefIdeal.nD Cert.GfwdRefIdeal.τ).loc Cert.GfwdRefIdeal.main_arg1)
      ∧ r.2.mem ((c.tc : Thread Cert.GfwdRefIdeal.nD Cert.GfwdRefIdeal.τ).loc Cert.GfwdRefIdeal.main_arg2) = m ((c.tc : Thread Cert.GfwdRefIdeal.nD Cert.GfwdRefIdeal.τ).loc Cert.GfwdRefIdeal.main_arg2)
      ∧ r.2.mem ((c.tc : Thread Cert.GfwdRefIdeal.nD Cert.GfwdRefIdeal.τ).loc Cert.GfwdRefIdeal.main_arg3) = m ((c.tc : Thread Cert.GfwdRefIdeal.nD Cert.GfwdRefIdeal.τ).loc Cert.GfwdRefIdeal.main_arg3)
      ∧ r.2.mem ((c.tc : Thread Cert.GfwdRefIdeal.nD Cert.GfwdRefIdeal.τ).loc Cert.GfwdRefIdeal.main_arg4) = m ((c.tc : Thread Cert.GfwdRefIdeal.nD Cert.GfwdRefIdeal.τ).loc Cert.GfwdRefIdeal.main_arg4)
      ∧ r.2.mem ((c.tc : Thread Cert.GfwdRefIdeal.nD Cert.GfwdRefIdeal.τ).loc Cert.GfwdRefIdeal.main_arg5) = m ((c.tc : Thread Cert.GfwdRefIdeal.nD Cert.GfwdRefIdeal.τ).loc Cert.GfwdRefIdeal.main_arg5))
      ∧ r.2.sem = fun _ => 0)

def quiescent_GfwdRefIdeal_pre_finite_fwd [hGfwdRefIdeal : Cert.GfwdRefIdeal.Facts] [hPre_finite_fwd : Cert.Pre_finite_fwd.Facts] : Prop :=
  ∀ (m : (ℓ : Loc Cert.GfwdRefIdeal.nD Cert.GfwdRefIdeal.τ Cert.GfwdRefIdeal.sig) → Buf (Elt Ideal) ℓ) (g : Dev Cert.GfwdRefIdeal.nD → PrngReg), Pre_GfwdRefIdeal_finite_fwd m →
    θ_run (Cert.GfwdRefIdeal.defs (F := Ideal)) (onTc (τ := Cert.GfwdRefIdeal.τ) (Cert.GfwdRefIdeal.main (F := Ideal))) ⟨m, fun _ => 0, g⟩ (fun r => (∀ c : Dev Cert.GfwdRefIdeal.nD,
      r.2.mem ((c.tc : Thread Cert.GfwdRefIdeal.nD Cert.GfwdRefIdeal.τ).loc Cert.GfwdRefIdeal.main_arg0) = m ((c.tc : Thread Cert.GfwdRefIdeal.nD Cert.GfwdRefIdeal.τ).loc Cert.GfwdRefIdeal.main_arg0)
      ∧ r.2.mem ((c.tc : Thread Cert.GfwdRefIdeal.nD Cert.GfwdRefIdeal.τ).loc Cert.GfwdRefIdeal.main_arg1) = m ((c.tc : Thread Cert.GfwdRefIdeal.nD Cert.GfwdRefIdeal.τ).loc Cert.GfwdRefIdeal.main_arg1)
      ∧ r.2.mem ((c.tc : Thread Cert.GfwdRefIdeal.nD Cert.GfwdRefIdeal.τ).loc Cert.GfwdRefIdeal.main_arg2) = m ((c.tc : Thread Cert.GfwdRefIdeal.nD Cert.GfwdRefIdeal.τ).loc Cert.GfwdRefIdeal.main_arg2)
      ∧ r.2.mem ((c.tc : Thread Cert.GfwdRefIdeal.nD Cert.GfwdRefIdeal.τ).loc Cert.GfwdRefIdeal.main_arg3) = m ((c.tc : Thread Cert.GfwdRefIdeal.nD Cert.GfwdRefIdeal.τ).loc Cert.GfwdRefIdeal.main_arg3)
      ∧ r.2.mem ((c.tc : Thread Cert.GfwdRefIdeal.nD Cert.GfwdRefIdeal.τ).loc Cert.GfwdRefIdeal.main_arg4) = m ((c.tc : Thread Cert.GfwdRefIdeal.nD Cert.GfwdRefIdeal.τ).loc Cert.GfwdRefIdeal.main_arg4)
      ∧ r.2.mem ((c.tc : Thread Cert.GfwdRefIdeal.nD Cert.GfwdRefIdeal.τ).loc Cert.GfwdRefIdeal.main_arg5) = m ((c.tc : Thread Cert.GfwdRefIdeal.nD Cert.GfwdRefIdeal.τ).loc Cert.GfwdRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_Sfwd [hSfwd : Cert.Sfwd.Facts] : Prop :=
  ∀ (m : (ℓ : Loc Cert.Sfwd.nD Cert.Sfwd.τ Cert.Sfwd.sig) → Buf (Elt Bits) ℓ) (g : Dev Cert.Sfwd.nD → PrngReg), Pre_Sfwd m →
    θ_run (Cert.Sfwd.defs (F := Bits)) (onTc (τ := Cert.Sfwd.τ) (Cert.Sfwd.main (F := Bits))) ⟨m, fun _ => 0, g⟩ (fun r => (∀ c : Dev Cert.Sfwd.nD,
      r.2.mem ((c.tc : Thread Cert.Sfwd.nD Cert.Sfwd.τ).loc Cert.Sfwd.main_arg0) = m ((c.tc : Thread Cert.Sfwd.nD Cert.Sfwd.τ).loc Cert.Sfwd.main_arg0)
      ∧ r.2.mem ((c.tc : Thread Cert.Sfwd.nD Cert.Sfwd.τ).loc Cert.Sfwd.main_arg1) = m ((c.tc : Thread Cert.Sfwd.nD Cert.Sfwd.τ).loc Cert.Sfwd.main_arg1)
      ∧ r.2.mem ((c.tc : Thread Cert.Sfwd.nD Cert.Sfwd.τ).loc Cert.Sfwd.main_arg2) = m ((c.tc : Thread Cert.Sfwd.nD Cert.Sfwd.τ).loc Cert.Sfwd.main_arg2)
      ∧ r.2.mem ((c.tc : Thread Cert.Sfwd.nD Cert.Sfwd.τ).loc Cert.Sfwd.main_arg3) = m ((c.tc : Thread Cert.Sfwd.nD Cert.Sfwd.τ).loc Cert.Sfwd.main_arg3)
      ∧ r.2.mem ((c.tc : Thread Cert.Sfwd.nD Cert.Sfwd.τ).loc Cert.Sfwd.main_arg4) = m ((c.tc : Thread Cert.Sfwd.nD Cert.Sfwd.τ).loc Cert.Sfwd.main_arg4)
      ∧ r.2.mem ((c.tc : Thread Cert.Sfwd.nD Cert.Sfwd.τ).loc Cert.Sfwd.main_arg5) = m ((c.tc : Thread Cert.Sfwd.nD Cert.Sfwd.τ).loc Cert.Sfwd.main_arg5)
      ∧ r.2.mem ((c.tc : Thread Cert.Sfwd.nD Cert.Sfwd.τ).loc Cert.Sfwd.main_arg6) = m ((c.tc : Thread Cert.Sfwd.nD Cert.Sfwd.τ).loc Cert.Sfwd.main_arg6)
      ∧ r.2.mem ((c.tc : Thread Cert.Sfwd.nD Cert.Sfwd.τ).loc Cert.Sfwd.main_arg7) = m ((c.tc : Thread Cert.Sfwd.nD Cert.Sfwd.τ).loc Cert.Sfwd.main_arg7)
      ∧ r.2.mem ((c.tc : Thread Cert.Sfwd.nD Cert.Sfwd.τ).loc Cert.Sfwd.main_arg8) = m ((c.tc : Thread Cert.Sfwd.nD Cert.Sfwd.τ).loc Cert.Sfwd.main_arg8))
      ∧ r.2.sem = fun _ => 0)

def quiescent_SfwdIdeal [hSfwdIdeal : Cert.SfwdIdeal.Facts] : Prop :=
  ∀ (m : (ℓ : Loc Cert.SfwdIdeal.nD Cert.SfwdIdeal.τ Cert.SfwdIdeal.sig) → Buf (Elt Ideal) ℓ) (g : Dev Cert.SfwdIdeal.nD → PrngReg), Pre_SfwdIdeal m →
    θ_run (Cert.SfwdIdeal.defs (F := Ideal)) (onTc (τ := Cert.SfwdIdeal.τ) (Cert.SfwdIdeal.main (F := Ideal))) ⟨m, fun _ => 0, g⟩ (fun r => (∀ c : Dev Cert.SfwdIdeal.nD,
      r.2.mem ((c.tc : Thread Cert.SfwdIdeal.nD Cert.SfwdIdeal.τ).loc Cert.SfwdIdeal.main_arg0) = m ((c.tc : Thread Cert.SfwdIdeal.nD Cert.SfwdIdeal.τ).loc Cert.SfwdIdeal.main_arg0)
      ∧ r.2.mem ((c.tc : Thread Cert.SfwdIdeal.nD Cert.SfwdIdeal.τ).loc Cert.SfwdIdeal.main_arg1) = m ((c.tc : Thread Cert.SfwdIdeal.nD Cert.SfwdIdeal.τ).loc Cert.SfwdIdeal.main_arg1)
      ∧ r.2.mem ((c.tc : Thread Cert.SfwdIdeal.nD Cert.SfwdIdeal.τ).loc Cert.SfwdIdeal.main_arg2) = m ((c.tc : Thread Cert.SfwdIdeal.nD Cert.SfwdIdeal.τ).loc Cert.SfwdIdeal.main_arg2)
      ∧ r.2.mem ((c.tc : Thread Cert.SfwdIdeal.nD Cert.SfwdIdeal.τ).loc Cert.SfwdIdeal.main_arg3) = m ((c.tc : Thread Cert.SfwdIdeal.nD Cert.SfwdIdeal.τ).loc Cert.SfwdIdeal.main_arg3)
      ∧ r.2.mem ((c.tc : Thread Cert.SfwdIdeal.nD Cert.SfwdIdeal.τ).loc Cert.SfwdIdeal.main_arg4) = m ((c.tc : Thread Cert.SfwdIdeal.nD Cert.SfwdIdeal.τ).loc Cert.SfwdIdeal.main_arg4)
      ∧ r.2.mem ((c.tc : Thread Cert.SfwdIdeal.nD Cert.SfwdIdeal.τ).loc Cert.SfwdIdeal.main_arg5) = m ((c.tc : Thread Cert.SfwdIdeal.nD Cert.SfwdIdeal.τ).loc Cert.SfwdIdeal.main_arg5)
      ∧ r.2.mem ((c.tc : Thread Cert.SfwdIdeal.nD Cert.SfwdIdeal.τ).loc Cert.SfwdIdeal.main_arg6) = m ((c.tc : Thread Cert.SfwdIdeal.nD Cert.SfwdIdeal.τ).loc Cert.SfwdIdeal.main_arg6)
      ∧ r.2.mem ((c.tc : Thread Cert.SfwdIdeal.nD Cert.SfwdIdeal.τ).loc Cert.SfwdIdeal.main_arg7) = m ((c.tc : Thread Cert.SfwdIdeal.nD Cert.SfwdIdeal.τ).loc Cert.SfwdIdeal.main_arg7)
      ∧ r.2.mem ((c.tc : Thread Cert.SfwdIdeal.nD Cert.SfwdIdeal.τ).loc Cert.SfwdIdeal.main_arg8) = m ((c.tc : Thread Cert.SfwdIdeal.nD Cert.SfwdIdeal.τ).loc Cert.SfwdIdeal.main_arg8))
      ∧ r.2.sem = fun _ => 0)

def quiescent_SfwdRefIdeal [hSfwdRefIdeal : Cert.SfwdRefIdeal.Facts] : Prop :=
  ∀ (m : (ℓ : Loc Cert.SfwdRefIdeal.nD Cert.SfwdRefIdeal.τ Cert.SfwdRefIdeal.sig) → Buf (Elt Ideal) ℓ) (g : Dev Cert.SfwdRefIdeal.nD → PrngReg), Pre_SfwdRefIdeal m →
    θ_run (Cert.SfwdRefIdeal.defs (F := Ideal)) (onTc (τ := Cert.SfwdRefIdeal.τ) (Cert.SfwdRefIdeal.main (F := Ideal))) ⟨m, fun _ => 0, g⟩ (fun r => (∀ c : Dev Cert.SfwdRefIdeal.nD,
      r.2.mem ((c.tc : Thread Cert.SfwdRefIdeal.nD Cert.SfwdRefIdeal.τ).loc Cert.SfwdRefIdeal.main_arg0) = m ((c.tc : Thread Cert.SfwdRefIdeal.nD Cert.SfwdRefIdeal.τ).loc Cert.SfwdRefIdeal.main_arg0)
      ∧ r.2.mem ((c.tc : Thread Cert.SfwdRefIdeal.nD Cert.SfwdRefIdeal.τ).loc Cert.SfwdRefIdeal.main_arg1) = m ((c.tc : Thread Cert.SfwdRefIdeal.nD Cert.SfwdRefIdeal.τ).loc Cert.SfwdRefIdeal.main_arg1)
      ∧ r.2.mem ((c.tc : Thread Cert.SfwdRefIdeal.nD Cert.SfwdRefIdeal.τ).loc Cert.SfwdRefIdeal.main_arg2) = m ((c.tc : Thread Cert.SfwdRefIdeal.nD Cert.SfwdRefIdeal.τ).loc Cert.SfwdRefIdeal.main_arg2)
      ∧ r.2.mem ((c.tc : Thread Cert.SfwdRefIdeal.nD Cert.SfwdRefIdeal.τ).loc Cert.SfwdRefIdeal.main_arg3) = m ((c.tc : Thread Cert.SfwdRefIdeal.nD Cert.SfwdRefIdeal.τ).loc Cert.SfwdRefIdeal.main_arg3)
      ∧ r.2.mem ((c.tc : Thread Cert.SfwdRefIdeal.nD Cert.SfwdRefIdeal.τ).loc Cert.SfwdRefIdeal.main_arg4) = m ((c.tc : Thread Cert.SfwdRefIdeal.nD Cert.SfwdRefIdeal.τ).loc Cert.SfwdRefIdeal.main_arg4)
      ∧ r.2.mem ((c.tc : Thread Cert.SfwdRefIdeal.nD Cert.SfwdRefIdeal.τ).loc Cert.SfwdRefIdeal.main_arg5) = m ((c.tc : Thread Cert.SfwdRefIdeal.nD Cert.SfwdRefIdeal.τ).loc Cert.SfwdRefIdeal.main_arg5)
      ∧ r.2.mem ((c.tc : Thread Cert.SfwdRefIdeal.nD Cert.SfwdRefIdeal.τ).loc Cert.SfwdRefIdeal.main_arg6) = m ((c.tc : Thread Cert.SfwdRefIdeal.nD Cert.SfwdRefIdeal.τ).loc Cert.SfwdRefIdeal.main_arg6)
      ∧ r.2.mem ((c.tc : Thread Cert.SfwdRefIdeal.nD Cert.SfwdRefIdeal.τ).loc Cert.SfwdRefIdeal.main_arg7) = m ((c.tc : Thread Cert.SfwdRefIdeal.nD Cert.SfwdRefIdeal.τ).loc Cert.SfwdRefIdeal.main_arg7)
      ∧ r.2.mem ((c.tc : Thread Cert.SfwdRefIdeal.nD Cert.SfwdRefIdeal.τ).loc Cert.SfwdRefIdeal.main_arg8) = m ((c.tc : Thread Cert.SfwdRefIdeal.nD Cert.SfwdRefIdeal.τ).loc Cert.SfwdRefIdeal.main_arg8))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9))
      ∧ r.2.sem = fun _ => 0)

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v8)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v8) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v14) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)
      ∧ m' ((c.tc : Thread Cert.MlpInRefIdeal.nD Cert.MlpInRefIdeal.τ).loc Cert.MlpInRefIdeal.main_arg2) = m ((c.tc : Thread Cert.MlpInIdeal.nD Cert.MlpInIdeal.τ).loc Cert.MlpInIdeal.main_arg2)
      ∧ m' ((c.tc : Thread Cert.MlpInRefIdeal.nD Cert.MlpInRefIdeal.τ).loc Cert.MlpInRefIdeal.main_arg3) = m ((c.tc : Thread Cert.MlpInIdeal.nD Cert.MlpInIdeal.τ).loc Cert.MlpInIdeal.main_arg3)
      ∧ m' ((c.tc : Thread Cert.MlpInRefIdeal.nD Cert.MlpInRefIdeal.τ).loc Cert.MlpInRefIdeal.main_arg4) = m ((c.tc : Thread Cert.MlpInIdeal.nD Cert.MlpInIdeal.τ).loc Cert.MlpInIdeal.main_arg4)
      ∧ m' ((c.tc : Thread Cert.MlpInRefIdeal.nD Cert.MlpInRefIdeal.τ).loc Cert.MlpInRefIdeal.main_arg5) = m ((c.tc : Thread Cert.MlpInIdeal.nD Cert.MlpInIdeal.τ).loc Cert.MlpInIdeal.main_arg5)
      ∧ m' ((c.tc : Thread Cert.MlpInRefIdeal.nD Cert.MlpInRefIdeal.τ).loc Cert.MlpInRefIdeal.main_arg6) = m ((c.tc : Thread Cert.MlpInIdeal.nD Cert.MlpInIdeal.τ).loc Cert.MlpInIdeal.main_arg6)) →
    ∃ (v0 : (c : Dev Cert.MlpInIdeal.nD) → Buf (Elt Ideal) ((c.tc : Thread Cert.MlpInIdeal.nD Cert.MlpInIdeal.τ).loc Cert.MlpInIdeal.main_v22_0)) (v1 : (c : Dev Cert.MlpInIdeal.nD) → Buf (Elt Ideal) ((c.tc : Thread Cert.MlpInIdeal.nD Cert.MlpInIdeal.τ).loc Cert.MlpInIdeal.main_v22_1)) (v2 : (c : Dev Cert.MlpInIdeal.nD) → Buf (Elt Ideal) ((c.tc : Thread Cert.MlpInIdeal.nD Cert.MlpInIdeal.τ).loc Cert.MlpInIdeal.main_v22_2)) (v3 : (c : Dev Cert.MlpInIdeal.nD) → Buf (Elt Ideal) ((c.tc : Thread Cert.MlpInIdeal.nD Cert.MlpInIdeal.τ).loc Cert.MlpInIdeal.main_v22_3)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v22_0) = v0 c
          ∧ r.2.mem ((c.tc : Thread Cert.MlpInIdeal.nD Cert.MlpInIdeal.τ).loc Cert.MlpInIdeal.main_v22_1) = v1 c
          ∧ r.2.mem ((c.tc : Thread Cert.MlpInIdeal.nD Cert.MlpInIdeal.τ).loc Cert.MlpInIdeal.main_v22_2) = v2 c
          ∧ r.2.mem ((c.tc : Thread Cert.MlpInIdeal.nD Cert.MlpInIdeal.τ).loc Cert.MlpInIdeal.main_v22_3) = v3 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
          ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
          ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
          ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v80) = v0 c
          ∧ r.2.mem ((c.tc : Thread Cert.MlpInRefIdeal.nD Cert.MlpInRefIdeal.τ).loc Cert.MlpInRefIdeal.main_v82) = v1 c
          ∧ r.2.mem ((c.tc : Thread Cert.MlpInRefIdeal.nD Cert.MlpInRefIdeal.τ).loc Cert.MlpInRefIdeal.main_v83) = v2 c
          ∧ r.2.mem ((c.tc : Thread Cert.MlpInRefIdeal.nD Cert.MlpInRefIdeal.τ).loc Cert.MlpInRefIdeal.main_v84) = v3 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1)
          ∧ r.2.mem ((c.tc : Thread Cert.MlpInRefIdeal.nD Cert.MlpInRefIdeal.τ).loc Cert.MlpInRefIdeal.main_arg2) = m' ((c.tc : Thread Cert.MlpInRefIdeal.nD Cert.MlpInRefIdeal.τ).loc Cert.MlpInRefIdeal.main_arg2)
          ∧ r.2.mem ((c.tc : Thread Cert.MlpInRefIdeal.nD Cert.MlpInRefIdeal.τ).loc Cert.MlpInRefIdeal.main_arg3) = m' ((c.tc : Thread Cert.MlpInRefIdeal.nD Cert.MlpInRefIdeal.τ).loc Cert.MlpInRefIdeal.main_arg3)
          ∧ r.2.mem ((c.tc : Thread Cert.MlpInRefIdeal.nD Cert.MlpInRefIdeal.τ).loc Cert.MlpInRefIdeal.main_arg4) = m' ((c.tc : Thread Cert.MlpInRefIdeal.nD Cert.MlpInRefIdeal.τ).loc Cert.MlpInRefIdeal.main_arg4)
          ∧ r.2.mem ((c.tc : Thread Cert.MlpInRefIdeal.nD Cert.MlpInRefIdeal.τ).loc Cert.MlpInRefIdeal.main_arg5) = m' ((c.tc : Thread Cert.MlpInRefIdeal.nD Cert.MlpInRefIdeal.τ).loc Cert.MlpInRefIdeal.main_arg5)
          ∧ r.2.mem ((c.tc : Thread Cert.MlpInRefIdeal.nD Cert.MlpInRefIdeal.τ).loc Cert.MlpInRefIdeal.main_arg6) = m' ((c.tc : Thread Cert.MlpInRefIdeal.nD Cert.MlpInRefIdeal.τ).loc Cert.MlpInRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)
      ∧ m' ((c.tc : Thread Cert.InRefIdeal.nD Cert.InRefIdeal.τ).loc Cert.InRefIdeal.main_arg12) = m ((c.tc : Thread Cert.InIdeal.nD Cert.InIdeal.τ).loc Cert.InIdeal.main_arg12)
      ∧ m' ((c.tc : Thread Cert.InRefIdeal.nD Cert.InRefIdeal.τ).loc Cert.InRefIdeal.main_arg13) = m ((c.tc : Thread Cert.InIdeal.nD Cert.InIdeal.τ).loc Cert.InIdeal.main_arg13)) →
    ∃ (v0 : (c : Dev Cert.InIdeal.nD) → Buf (Elt Ideal) ((c.tc : Thread Cert.InIdeal.nD Cert.InIdeal.τ).loc Cert.InIdeal.main_v22_0)) (v1 : (c : Dev Cert.InIdeal.nD) → Buf (Elt Ideal) ((c.tc : Thread Cert.InIdeal.nD Cert.InIdeal.τ).loc Cert.InIdeal.main_v22_1)) (v2 : (c : Dev Cert.InIdeal.nD) → Buf (Elt Ideal) ((c.tc : Thread Cert.InIdeal.nD Cert.InIdeal.τ).loc Cert.InIdeal.main_v22_2)) (v3 : (c : Dev Cert.InIdeal.nD) → Buf (Elt Ideal) ((c.tc : Thread Cert.InIdeal.nD Cert.InIdeal.τ).loc Cert.InIdeal.main_v22_3)) (v4 : (c : Dev Cert.InIdeal.nD) → Buf (Elt Ideal) ((c.tc : Thread Cert.InIdeal.nD Cert.InIdeal.τ).loc Cert.InIdeal.main_v22_4)) (v5 : (c : Dev Cert.InIdeal.nD) → Buf (Elt Ideal) ((c.tc : Thread Cert.InIdeal.nD Cert.InIdeal.τ).loc Cert.InIdeal.main_v22_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v22_0) = v0 c
          ∧ r.2.mem ((c.tc : Thread Cert.InIdeal.nD Cert.InIdeal.τ).loc Cert.InIdeal.main_v22_1) = v1 c
          ∧ r.2.mem ((c.tc : Thread Cert.InIdeal.nD Cert.InIdeal.τ).loc Cert.InIdeal.main_v22_2) = v2 c
          ∧ r.2.mem ((c.tc : Thread Cert.InIdeal.nD Cert.InIdeal.τ).loc Cert.InIdeal.main_v22_3) = v3 c
          ∧ r.2.mem ((c.tc : Thread Cert.InIdeal.nD Cert.InIdeal.τ).loc Cert.InIdeal.main_v22_4) = v4 c
          ∧ r.2.mem ((c.tc : Thread Cert.InIdeal.nD Cert.InIdeal.τ).loc Cert.InIdeal.main_v22_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11)
          ∧ r.2.mem ((c.tc : Thread Cert.InIdeal.nD Cert.InIdeal.τ).loc Cert.InIdeal.main_arg12) = m ((c.tc : Thread Cert.InIdeal.nD Cert.InIdeal.τ).loc Cert.InIdeal.main_arg12)
          ∧ r.2.mem ((c.tc : Thread Cert.InIdeal.nD Cert.InIdeal.τ).loc Cert.InIdeal.main_arg13) = m ((c.tc : Thread Cert.InIdeal.nD Cert.InIdeal.τ).loc Cert.InIdeal.main_arg13))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v47) = v0 c
          ∧ r.2.mem ((c.tc : Thread Cert.InRefIdeal.nD Cert.InRefIdeal.τ).loc Cert.InRefIdeal.main_v48) = v1 c
          ∧ r.2.mem ((c.tc : Thread Cert.InRefIdeal.nD Cert.InRefIdeal.τ).loc Cert.InRefIdeal.main_v52) = v2 c
          ∧ r.2.mem ((c.tc : Thread Cert.InRefIdeal.nD Cert.InRefIdeal.τ).loc Cert.InRefIdeal.main_v79) = v3 c
          ∧ r.2.mem ((c.tc : Thread Cert.InRefIdeal.nD Cert.InRefIdeal.τ).loc Cert.InRefIdeal.main_v60) = v4 c
          ∧ r.2.mem ((c.tc : Thread Cert.InRefIdeal.nD Cert.InRefIdeal.τ).loc Cert.InRefIdeal.main_v66) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v8_0)) (v1 : (c : Dev Cert.MlpIdeal.nD) → Buf (Elt Ideal) ((c.tc : Thread Cert.MlpIdeal.nD Cert.MlpIdeal.τ).loc Cert.MlpIdeal.main_v8_1)) (v2 : (c : Dev Cert.MlpIdeal.nD) → Buf (Elt Ideal) ((c.tc : Thread Cert.MlpIdeal.nD Cert.MlpIdeal.τ).loc Cert.MlpIdeal.main_v8_2)) (v3 : (c : Dev Cert.MlpIdeal.nD) → Buf (Elt Ideal) ((c.tc : Thread Cert.MlpIdeal.nD Cert.MlpIdeal.τ).loc Cert.MlpIdeal.main_v8_3)) (v4 : (c : Dev Cert.MlpIdeal.nD) → Buf (Elt Ideal) ((c.tc : Thread Cert.MlpIdeal.nD Cert.MlpIdeal.τ).loc Cert.MlpIdeal.main_v8_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8_0) = v0 c
          ∧ r.2.mem ((c.tc : Thread Cert.MlpIdeal.nD Cert.MlpIdeal.τ).loc Cert.MlpIdeal.main_v8_1) = v1 c
          ∧ r.2.mem ((c.tc : Thread Cert.MlpIdeal.nD Cert.MlpIdeal.τ).loc Cert.MlpIdeal.main_v8_2) = v2 c
          ∧ r.2.mem ((c.tc : Thread Cert.MlpIdeal.nD Cert.MlpIdeal.τ).loc Cert.MlpIdeal.main_v8_3) = v3 c
          ∧ r.2.mem ((c.tc : Thread Cert.MlpIdeal.nD Cert.MlpIdeal.τ).loc Cert.MlpIdeal.main_v8_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v60) = v0 c
          ∧ r.2.mem ((c.tc : Thread Cert.MlpRefIdeal.nD Cert.MlpRefIdeal.τ).loc Cert.MlpRefIdeal.main_v62) = v1 c
          ∧ r.2.mem ((c.tc : Thread Cert.MlpRefIdeal.nD Cert.MlpRefIdeal.τ).loc Cert.MlpRefIdeal.main_v63) = v2 c
          ∧ r.2.mem ((c.tc : Thread Cert.MlpRefIdeal.nD Cert.MlpRefIdeal.τ).loc Cert.MlpRefIdeal.main_v64) = v3 c
          ∧ r.2.mem ((c.tc : Thread Cert.MlpRefIdeal.nD Cert.MlpRefIdeal.τ).loc Cert.MlpRefIdeal.main_v65) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v6)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v6) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v9) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Gmlp_GmlpIdeal : Prop :=
  IdealRules.named_const.Statement Cert.GmlpIdeal.κ "cubic" .f32 0x3D372713#32 ((8943 / 200000 : ℝ) : EReal)
  ∧ IdealRules.named_const.Statement Cert.GmlpIdeal.κ "cubic_slope" .f32 0x3E095D4F#32 ((26829 / 200000 : ℝ) : EReal)

def algebraic_GmlpIdeal_GmlpRefIdeal_pre_finite [hGmlpIdeal : Cert.GmlpIdeal.Facts] [hGmlpRefIdeal : Cert.GmlpRefIdeal.Facts] [hPre_finite : Cert.Pre_finite.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v58_0)) (v1 : (c : Dev Cert.GmlpIdeal.nD) → Buf (Elt Ideal) ((c.tc : Thread Cert.GmlpIdeal.nD Cert.GmlpIdeal.τ).loc Cert.GmlpIdeal.main_v58_1)) (v2 : (c : Dev Cert.GmlpIdeal.nD) → Buf (Elt Ideal) ((c.tc : Thread Cert.GmlpIdeal.nD Cert.GmlpIdeal.τ).loc Cert.GmlpIdeal.main_v58_2)) (v3 : (c : Dev Cert.GmlpIdeal.nD) → Buf (Elt Ideal) ((c.tc : Thread Cert.GmlpIdeal.nD Cert.GmlpIdeal.τ).loc Cert.GmlpIdeal.main_v58_3)) (v4 : (c : Dev Cert.GmlpIdeal.nD) → Buf (Elt Ideal) ((c.tc : Thread Cert.GmlpIdeal.nD Cert.GmlpIdeal.τ).loc Cert.GmlpIdeal.main_v58_4)) (v5 : (c : Dev Cert.GmlpIdeal.nD) → Buf (Elt Ideal) ((c.tc : Thread Cert.GmlpIdeal.nD Cert.GmlpIdeal.τ).loc Cert.GmlpIdeal.main_v58_5)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v58_0) = v0 c
          ∧ r.2.mem ((c.tc : Thread Cert.GmlpIdeal.nD Cert.GmlpIdeal.τ).loc Cert.GmlpIdeal.main_v58_1) = v1 c
          ∧ r.2.mem ((c.tc : Thread Cert.GmlpIdeal.nD Cert.GmlpIdeal.τ).loc Cert.GmlpIdeal.main_v58_2) = v2 c
          ∧ r.2.mem ((c.tc : Thread Cert.GmlpIdeal.nD Cert.GmlpIdeal.τ).loc Cert.GmlpIdeal.main_v58_3) = v3 c
          ∧ r.2.mem ((c.tc : Thread Cert.GmlpIdeal.nD Cert.GmlpIdeal.τ).loc Cert.GmlpIdeal.main_v58_4) = v4 c
          ∧ r.2.mem ((c.tc : Thread Cert.GmlpIdeal.nD Cert.GmlpIdeal.τ).loc Cert.GmlpIdeal.main_v58_5) = v5 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v163) = v0 c
          ∧ r.2.mem ((c.tc : Thread Cert.GmlpRefIdeal.nD Cert.GmlpRefIdeal.τ).loc Cert.GmlpRefIdeal.main_v165) = v1 c
          ∧ r.2.mem ((c.tc : Thread Cert.GmlpRefIdeal.nD Cert.GmlpRefIdeal.τ).loc Cert.GmlpRefIdeal.main_v100) = v2 c
          ∧ r.2.mem ((c.tc : Thread Cert.GmlpRefIdeal.nD Cert.GmlpRefIdeal.τ).loc Cert.GmlpRefIdeal.main_v167) = v3 c
          ∧ r.2.mem ((c.tc : Thread Cert.GmlpRefIdeal.nD Cert.GmlpRefIdeal.τ).loc Cert.GmlpRefIdeal.main_v168) = v4 c
          ∧ r.2.mem ((c.tc : Thread Cert.GmlpRefIdeal.nD Cert.GmlpRefIdeal.τ).loc Cert.GmlpRefIdeal.main_v169) = v5 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6))

def preserves_Gfwd_GfwdIdeal : Prop :=
  IdealRules.named_const.Statement Cert.GfwdIdeal.κ "cubic" .f32 0x3D372713#32 ((8943 / 200000 : ℝ) : EReal)

def algebraic_GfwdIdeal_GfwdRefIdeal_pre_finite_fwd [hGfwdIdeal : Cert.GfwdIdeal.Facts] [hGfwdRefIdeal : Cert.GfwdRefIdeal.Facts] [hPre_finite_fwd : Cert.Pre_finite_fwd.Facts] : Prop :=
  ∀ (m : (ℓ : Loc Cert.GfwdIdeal.nD Cert.GfwdIdeal.τ Cert.GfwdIdeal.sig) → Buf (Elt Ideal) ℓ) (g : Dev Cert.GfwdIdeal.nD → PrngReg)
    (m' : (ℓ : Loc Cert.GfwdRefIdeal.nD Cert.GfwdRefIdeal.τ Cert.GfwdRefIdeal.sig) → Buf (Elt Ideal) ℓ) (g' : Dev Cert.GfwdRefIdeal.nD → PrngReg), Pre_GfwdIdeal_finite_fwd m →
    (∀ c : Dev Cert.GfwdIdeal.nD,
      m' ((c.tc : Thread Cert.GfwdRefIdeal.nD Cert.GfwdRefIdeal.τ).loc Cert.GfwdRefIdeal.main_arg0) = m ((c.tc : Thread Cert.GfwdIdeal.nD Cert.GfwdIdeal.τ).loc Cert.GfwdIdeal.main_arg0)
      ∧ m' ((c.tc : Thread Cert.GfwdRefIdeal.nD Cert.GfwdRefIdeal.τ).loc Cert.GfwdRefIdeal.main_arg1) = m ((c.tc : Thread Cert.GfwdIdeal.nD Cert.GfwdIdeal.τ).loc Cert.GfwdIdeal.main_arg1)
      ∧ m' ((c.tc : Thread Cert.GfwdRefIdeal.nD Cert.GfwdRefIdeal.τ).loc Cert.GfwdRefIdeal.main_arg2) = m ((c.tc : Thread Cert.GfwdIdeal.nD Cert.GfwdIdeal.τ).loc Cert.GfwdIdeal.main_arg2)
      ∧ m' ((c.tc : Thread Cert.GfwdRefIdeal.nD Cert.GfwdRefIdeal.τ).loc Cert.GfwdRefIdeal.main_arg3) = m ((c.tc : Thread Cert.GfwdIdeal.nD Cert.GfwdIdeal.τ).loc Cert.GfwdIdeal.main_arg3)
      ∧ m' ((c.tc : Thread Cert.GfwdRefIdeal.nD Cert.GfwdRefIdeal.τ).loc Cert.GfwdRefIdeal.main_arg4) = m ((c.tc : Thread Cert.GfwdIdeal.nD Cert.GfwdIdeal.τ).loc Cert.GfwdIdeal.main_arg4)
      ∧ m' ((c.tc : Thread Cert.GfwdRefIdeal.nD Cert.GfwdRefIdeal.τ).loc Cert.GfwdRefIdeal.main_arg5) = m ((c.tc : Thread Cert.GfwdIdeal.nD Cert.GfwdIdeal.τ).loc Cert.GfwdIdeal.main_arg5)) →
    ∃ (v0 : (c : Dev Cert.GfwdIdeal.nD) → Buf (Elt Ideal) ((c.tc : Thread Cert.GfwdIdeal.nD Cert.GfwdIdeal.τ).loc Cert.GfwdIdeal.main_v56)),
      θ_run (Cert.GfwdIdeal.defs (F := Ideal)) (onTc (τ := Cert.GfwdIdeal.τ) (Cert.GfwdIdeal.main (F := Ideal))) ⟨m, fun _ => 0, g⟩ (fun r => ∀ c : Dev Cert.GfwdIdeal.nD,
          r.2.mem ((c.tc : Thread Cert.GfwdIdeal.nD Cert.GfwdIdeal.τ).loc Cert.GfwdIdeal.main_v56) = v0 c
          ∧ r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
          ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
          ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
          ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
          ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4)
          ∧ r.2.mem ((c.tc : Thread Cert.GfwdIdeal.nD Cert.GfwdIdeal.τ).loc Cert.GfwdIdeal.main_arg5) = m ((c.tc : Thread Cert.GfwdIdeal.nD Cert.GfwdIdeal.τ).loc Cert.GfwdIdeal.main_arg5))
      ∧ θ_run (Cert.GfwdRefIdeal.defs (F := Ideal)) (onTc (τ := Cert.GfwdRefIdeal.τ) (Cert.GfwdRefIdeal.main (F := Ideal))) ⟨m', fun _ => 0, g'⟩ (fun r => ∀ c : Dev Cert.GfwdRefIdeal.nD,
          r.2.mem ((c.tc : Thread Cert.GfwdRefIdeal.nD Cert.GfwdRefIdeal.τ).loc Cert.GfwdRefIdeal.main_v71) = v0 c
          ∧ r.2.mem ((c.tc : Thread Cert.GfwdRefIdeal.nD Cert.GfwdRefIdeal.τ).loc Cert.GfwdRefIdeal.main_arg0) = m' ((c.tc : Thread Cert.GfwdRefIdeal.nD Cert.GfwdRefIdeal.τ).loc Cert.GfwdRefIdeal.main_arg0)
          ∧ r.2.mem ((c.tc : Thread Cert.GfwdRefIdeal.nD Cert.GfwdRefIdeal.τ).loc Cert.GfwdRefIdeal.main_arg1) = m' ((c.tc : Thread Cert.GfwdRefIdeal.nD Cert.GfwdRefIdeal.τ).loc Cert.GfwdRefIdeal.main_arg1)
          ∧ r.2.mem ((c.tc : Thread Cert.GfwdRefIdeal.nD Cert.GfwdRefIdeal.τ).loc Cert.GfwdRefIdeal.main_arg2) = m' ((c.tc : Thread Cert.GfwdRefIdeal.nD Cert.GfwdRefIdeal.τ).loc Cert.GfwdRefIdeal.main_arg2)
          ∧ r.2.mem ((c.tc : Thread Cert.GfwdRefIdeal.nD Cert.GfwdRefIdeal.τ).loc Cert.GfwdRefIdeal.main_arg3) = m' ((c.tc : Thread Cert.GfwdRefIdeal.nD Cert.GfwdRefIdeal.τ).loc Cert.GfwdRefIdeal.main_arg3)
          ∧ r.2.mem ((c.tc : Thread Cert.GfwdRefIdeal.nD Cert.GfwdRefIdeal.τ).loc Cert.GfwdRefIdeal.main_arg4) = m' ((c.tc : Thread Cert.GfwdRefIdeal.nD Cert.GfwdRefIdeal.τ).loc Cert.GfwdRefIdeal.main_arg4)
          ∧ r.2.mem ((c.tc : Thread Cert.GfwdRefIdeal.nD Cert.GfwdRefIdeal.τ).loc Cert.GfwdRefIdeal.main_arg5) = m' ((c.tc : Thread Cert.GfwdRefIdeal.nD Cert.GfwdRefIdeal.τ).loc Cert.GfwdRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)) (v2 : (c : Dev Cert.OutIdeal.nD) → Buf (Elt Ideal) ((c.tc : Thread Cert.OutIdeal.nD Cert.OutIdeal.τ).loc Cert.OutIdeal.main_v7_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_v7_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_v19) = v1 c
          ∧ r.2.mem ((c.tc : Thread Cert.OutRefIdeal.nD Cert.OutRefIdeal.τ).loc Cert.OutRefIdeal.main_v35) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v15) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_Sfwd_SfwdIdeal : Prop :=
  True

def algebraic_SfwdIdeal_SfwdRefIdeal_on_convolution [hSfwdIdeal : Cert.SfwdIdeal.Facts] [hSfwdRefIdeal : Cert.SfwdRefIdeal.Facts] [hOn_convolution : Cert.On_convolution.Facts] : Prop :=
  ∀ (m : (ℓ : Loc Cert.SfwdIdeal.nD Cert.SfwdIdeal.τ Cert.SfwdIdeal.sig) → Buf (Elt Ideal) ℓ) (g : Dev Cert.SfwdIdeal.nD → PrngReg)
    (m' : (ℓ : Loc Cert.SfwdRefIdeal.nD Cert.SfwdRefIdeal.τ Cert.SfwdRefIdeal.sig) → Buf (Elt Ideal) ℓ) (g' : Dev Cert.SfwdRefIdeal.nD → PrngReg), Pre_SfwdIdeal m →
    (∀ c : Dev Cert.SfwdIdeal.nD,
      m' ((c.tc : Thread Cert.SfwdRefIdeal.nD Cert.SfwdRefIdeal.τ).loc Cert.SfwdRefIdeal.main_arg0) = m ((c.tc : Thread Cert.SfwdIdeal.nD Cert.SfwdIdeal.τ).loc Cert.SfwdIdeal.main_arg0)
      ∧ m' ((c.tc : Thread Cert.SfwdRefIdeal.nD Cert.SfwdRefIdeal.τ).loc Cert.SfwdRefIdeal.main_arg1) = m ((c.tc : Thread Cert.SfwdIdeal.nD Cert.SfwdIdeal.τ).loc Cert.SfwdIdeal.main_arg1)
      ∧ m' ((c.tc : Thread Cert.SfwdRefIdeal.nD Cert.SfwdRefIdeal.τ).loc Cert.SfwdRefIdeal.main_arg2) = m ((c.tc : Thread Cert.SfwdIdeal.nD Cert.SfwdIdeal.τ).loc Cert.SfwdIdeal.main_arg2)
      ∧ m' ((c.tc : Thread Cert.SfwdRefIdeal.nD Cert.SfwdRefIdeal.τ).loc Cert.SfwdRefIdeal.main_arg3) = m ((c.tc : Thread Cert.SfwdIdeal.nD Cert.SfwdIdeal.τ).loc Cert.SfwdIdeal.main_arg3)
      ∧ m' ((c.tc : Thread Cert.SfwdRefIdeal.nD Cert.SfwdRefIdeal.τ).loc Cert.SfwdRefIdeal.main_arg4) = m ((c.tc : Thread Cert.SfwdIdeal.nD Cert.SfwdIdeal.τ).loc Cert.SfwdIdeal.main_arg4)
      ∧ m' ((c.tc : Thread Cert.SfwdRefIdeal.nD Cert.SfwdRefIdeal.τ).loc Cert.SfwdRefIdeal.main_arg5) = m ((c.tc : Thread Cert.SfwdIdeal.nD Cert.SfwdIdeal.τ).loc Cert.SfwdIdeal.main_arg5)
      ∧ m' ((c.tc : Thread Cert.SfwdRefIdeal.nD Cert.SfwdRefIdeal.τ).loc Cert.SfwdRefIdeal.main_arg6) = m ((c.tc : Thread Cert.SfwdIdeal.nD Cert.SfwdIdeal.τ).loc Cert.SfwdIdeal.main_arg6)
      ∧ m' ((c.tc : Thread Cert.SfwdRefIdeal.nD Cert.SfwdRefIdeal.τ).loc Cert.SfwdRefIdeal.main_arg7) = m ((c.tc : Thread Cert.SfwdIdeal.nD Cert.SfwdIdeal.τ).loc Cert.SfwdIdeal.main_arg7)
      ∧ m' ((c.tc : Thread Cert.SfwdRefIdeal.nD Cert.SfwdRefIdeal.τ).loc Cert.SfwdRefIdeal.main_arg8) = m ((c.tc : Thread Cert.SfwdIdeal.nD Cert.SfwdIdeal.τ).loc Cert.SfwdIdeal.main_arg8)) →
    ∃ (v0 : (c : Dev Cert.SfwdIdeal.nD) → Buf (Elt Ideal) ((c.tc : Thread Cert.SfwdIdeal.nD Cert.SfwdIdeal.τ).loc Cert.SfwdIdeal.main_v43_0)) (v1 : (c : Dev Cert.SfwdIdeal.nD) → Buf (Elt Ideal) ((c.tc : Thread Cert.SfwdIdeal.nD Cert.SfwdIdeal.τ).loc Cert.SfwdIdeal.main_v43_1)) (v2 : (c : Dev Cert.SfwdIdeal.nD) → Buf (Elt Ideal) ((c.tc : Thread Cert.SfwdIdeal.nD Cert.SfwdIdeal.τ).loc Cert.SfwdIdeal.main_v43_2)) (v3 : (c : Dev Cert.SfwdIdeal.nD) → Buf (Elt Ideal) ((c.tc : Thread Cert.SfwdIdeal.nD Cert.SfwdIdeal.τ).loc Cert.SfwdIdeal.main_v43_3)),
      θ_run (Cert.SfwdIdeal.defs (F := Ideal)) (onTc (τ := Cert.SfwdIdeal.τ) (Cert.SfwdIdeal.main (F := Ideal))) ⟨m, fun _ => 0, g⟩ (fun r => ∀ c : Dev Cert.SfwdIdeal.nD,
          (∀ i : (⟨3, ![2, 2048, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).1 i = 1#1 → r.2.mem ((c.tc : Thread Cert.SfwdIdeal.nD Cert.SfwdIdeal.τ).loc Cert.SfwdIdeal.main_v43_0) i = v0 c i)
          ∧ (∀ i : (⟨3, ![2, 2048, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.1 i = 1#1 → r.2.mem ((c.tc : Thread Cert.SfwdIdeal.nD Cert.SfwdIdeal.τ).loc Cert.SfwdIdeal.main_v43_1) i = v1 c i)
          ∧ (∀ i : (⟨4, ![2, 16, 128, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.2.1 i = 1#1 → r.2.mem ((c.tc : Thread Cert.SfwdIdeal.nD Cert.SfwdIdeal.τ).loc Cert.SfwdIdeal.main_v43_2) i = v2 c i)
          ∧ (∀ i : (⟨3, ![2, 2048, 1024]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.2.2 i = 1#1 → r.2.mem ((c.tc : Thread Cert.SfwdIdeal.nD Cert.SfwdIdeal.τ).loc Cert.SfwdIdeal.main_v43_3) i = v3 c i)
          ∧ r.2.mem ((c.tc : Thread Cert.SfwdIdeal.nD Cert.SfwdIdeal.τ).loc Cert.SfwdIdeal.main_arg0) = m ((c.tc : Thread Cert.SfwdIdeal.nD Cert.SfwdIdeal.τ).loc Cert.SfwdIdeal.main_arg0)
          ∧ r.2.mem ((c.tc : Thread Cert.SfwdIdeal.nD Cert.SfwdIdeal.τ).loc Cert.SfwdIdeal.main_arg1) = m ((c.tc : Thread Cert.SfwdIdeal.nD Cert.SfwdIdeal.τ).loc Cert.SfwdIdeal.main_arg1)
          ∧ r.2.mem ((c.tc : Thread Cert.SfwdIdeal.nD Cert.SfwdIdeal.τ).loc Cert.SfwdIdeal.main_arg2) = m ((c.tc : Thread Cert.SfwdIdeal.nD Cert.SfwdIdeal.τ).loc Cert.SfwdIdeal.main_arg2)
          ∧ r.2.mem ((c.tc : Thread Cert.SfwdIdeal.nD Cert.SfwdIdeal.τ).loc Cert.SfwdIdeal.main_arg3) = m ((c.tc : Thread Cert.SfwdIdeal.nD Cert.SfwdIdeal.τ).loc Cert.SfwdIdeal.main_arg3)
          ∧ r.2.mem ((c.tc : Thread Cert.SfwdIdeal.nD Cert.SfwdIdeal.τ).loc Cert.SfwdIdeal.main_arg4) = m ((c.tc : Thread Cert.SfwdIdeal.nD Cert.SfwdIdeal.τ).loc Cert.SfwdIdeal.main_arg4)
          ∧ r.2.mem ((c.tc : Thread Cert.SfwdIdeal.nD Cert.SfwdIdeal.τ).loc Cert.SfwdIdeal.main_arg5) = m ((c.tc : Thread Cert.SfwdIdeal.nD Cert.SfwdIdeal.τ).loc Cert.SfwdIdeal.main_arg5)
          ∧ r.2.mem ((c.tc : Thread Cert.SfwdIdeal.nD Cert.SfwdIdeal.τ).loc Cert.SfwdIdeal.main_arg6) = m ((c.tc : Thread Cert.SfwdIdeal.nD Cert.SfwdIdeal.τ).loc Cert.SfwdIdeal.main_arg6)
          ∧ r.2.mem ((c.tc : Thread Cert.SfwdIdeal.nD Cert.SfwdIdeal.τ).loc Cert.SfwdIdeal.main_arg7) = m ((c.tc : Thread Cert.SfwdIdeal.nD Cert.SfwdIdeal.τ).loc Cert.SfwdIdeal.main_arg7)
          ∧ r.2.mem ((c.tc : Thread Cert.SfwdIdeal.nD Cert.SfwdIdeal.τ).loc Cert.SfwdIdeal.main_arg8) = m ((c.tc : Thread Cert.SfwdIdeal.nD Cert.SfwdIdeal.τ).loc Cert.SfwdIdeal.main_arg8))
      ∧ θ_run (Cert.SfwdRefIdeal.defs (F := Ideal)) (onTc (τ := Cert.SfwdRefIdeal.τ) (Cert.SfwdRefIdeal.main (F := Ideal))) ⟨m', fun _ => 0, g'⟩ (fun r => ∀ c : Dev Cert.SfwdRefIdeal.nD,
          (∀ i : (⟨3, ![2, 2048, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).1 i = 1#1 → r.2.mem ((c.tc : Thread Cert.SfwdRefIdeal.nD Cert.SfwdRefIdeal.τ).loc Cert.SfwdRefIdeal.main_v285) i = v0 c i)
          ∧ (∀ i : (⟨3, ![2, 2048, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.1 i = 1#1 → r.2.mem ((c.tc : Thread Cert.SfwdRefIdeal.nD Cert.SfwdRefIdeal.τ).loc Cert.SfwdRefIdeal.main_v260) i = v1 c i)
          ∧ (∀ i : (⟨4, ![2, 16, 128, 512]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.2.1 i = 1#1 → r.2.mem ((c.tc : Thread Cert.SfwdRefIdeal.nD Cert.SfwdRefIdeal.τ).loc Cert.SfwdRefIdeal.main_v287) i = v2 c i)
          ∧ (∀ i : (⟨3, ![2, 2048, 1024]⟩ : Shape).Idx, (Cert.On_convolution.fn (F := Ideal) (m ((c.tc : Thread Cert.SfwdIdeal.nD Cert.SfwdIdeal.τ).loc Cert.SfwdIdeal.main_arg0)) (m ((c.tc : Thread Cert.SfwdIdeal.nD Cert.SfwdIdeal.τ).loc Cert.SfwdIdeal.main_arg1)) (m ((c.tc : Thread Cert.SfwdIdeal.nD Cert.SfwdIdeal.τ).loc Cert.SfwdIdeal.main_arg2)) (m ((c.tc : Thread Cert.SfwdIdeal.nD Cert.SfwdIdeal.τ).loc Cert.SfwdIdeal.main_arg3)) (m ((c.tc : Thread Cert.SfwdIdeal.nD Cert.SfwdIdeal.τ).loc Cert.SfwdIdeal.main_arg4)) (m ((c.tc : Thread Cert.SfwdIdeal.nD Cert.SfwdIdeal.τ).loc Cert.SfwdIdeal.main_arg5)) (m ((c.tc : Thread Cert.SfwdIdeal.nD Cert.SfwdIdeal.τ).loc Cert.SfwdIdeal.main_arg6)) (m ((c.tc : Thread Cert.SfwdIdeal.nD Cert.SfwdIdeal.τ).loc Cert.SfwdIdeal.main_arg7)) (m ((c.tc : Thread Cert.SfwdIdeal.nD Cert.SfwdIdeal.τ).loc Cert.SfwdIdeal.main_arg8))).2.2.2 i = 1#1 → r.2.mem ((c.tc : Thread Cert.SfwdRefIdeal.nD Cert.SfwdRefIdeal.τ).loc Cert.SfwdRefIdeal.main_v38) i = v3 c i)
          ∧ r.2.mem ((c.tc : Thread Cert.SfwdRefIdeal.nD Cert.SfwdRefIdeal.τ).loc Cert.SfwdRefIdeal.main_arg0) = m' ((c.tc : Thread Cert.SfwdRefIdeal.nD Cert.SfwdRefIdeal.τ).loc Cert.SfwdRefIdeal.main_arg0)
          ∧ r.2.mem ((c.tc : Thread Cert.SfwdRefIdeal.nD Cert.SfwdRefIdeal.τ).loc Cert.SfwdRefIdeal.main_arg1) = m' ((c.tc : Thread Cert.SfwdRefIdeal.nD Cert.SfwdRefIdeal.τ).loc Cert.SfwdRefIdeal.main_arg1)
          ∧ r.2.mem ((c.tc : Thread Cert.SfwdRefIdeal.nD Cert.SfwdRefIdeal.τ).loc Cert.SfwdRefIdeal.main_arg2) = m' ((c.tc : Thread Cert.SfwdRefIdeal.nD Cert.SfwdRefIdeal.τ).loc Cert.SfwdRefIdeal.main_arg2)
          ∧ r.2.mem ((c.tc : Thread Cert.SfwdRefIdeal.nD Cert.SfwdRefIdeal.τ).loc Cert.SfwdRefIdeal.main_arg3) = m' ((c.tc : Thread Cert.SfwdRefIdeal.nD Cert.SfwdRefIdeal.τ).loc Cert.SfwdRefIdeal.main_arg3)
          ∧ r.2.mem ((c.tc : Thread Cert.SfwdRefIdeal.nD Cert.SfwdRefIdeal.τ).loc Cert.SfwdRefIdeal.main_arg4) = m' ((c.tc : Thread Cert.SfwdRefIdeal.nD Cert.SfwdRefIdeal.τ).loc Cert.SfwdRefIdeal.main_arg4)
          ∧ r.2.mem ((c.tc : Thread Cert.SfwdRefIdeal.nD Cert.SfwdRefIdeal.τ).loc Cert.SfwdRefIdeal.main_arg5) = m' ((c.tc : Thread Cert.SfwdRefIdeal.nD Cert.SfwdRefIdeal.τ).loc Cert.SfwdRefIdeal.main_arg5)
          ∧ r.2.mem ((c.tc : Thread Cert.SfwdRefIdeal.nD Cert.SfwdRefIdeal.τ).loc Cert.SfwdRefIdeal.main_arg6) = m' ((c.tc : Thread Cert.SfwdRefIdeal.nD Cert.SfwdRefIdeal.τ).loc Cert.SfwdRefIdeal.main_arg6)
          ∧ r.2.mem ((c.tc : Thread Cert.SfwdRefIdeal.nD Cert.SfwdRefIdeal.τ).loc Cert.SfwdRefIdeal.main_arg7) = m' ((c.tc : Thread Cert.SfwdRefIdeal.nD Cert.SfwdRefIdeal.τ).loc Cert.SfwdRefIdeal.main_arg7)
          ∧ r.2.mem ((c.tc : Thread Cert.SfwdRefIdeal.nD Cert.SfwdRefIdeal.τ).loc Cert.SfwdRefIdeal.main_arg8) = m' ((c.tc : Thread Cert.SfwdRefIdeal.nD Cert.SfwdRefIdeal.τ).loc Cert.SfwdRefIdeal.main_arg8))

def preserves_Ssd_SsdIdeal : Prop :=
  True

def Claim : Prop :=
  ∃ (hHidden : Cert.Hidden.Facts) (hHiddenIdeal : Cert.HiddenIdeal.Facts) (hHiddenRefIdeal : Cert.HiddenRefIdeal.Facts) (hMlpIn : Cert.MlpIn.Facts) (hMlpInIdeal : Cert.MlpInIdeal.Facts) (hMlpInRefIdeal : Cert.MlpInRefIdeal.Facts) (hIn : Cert.In.Facts) (hInIdeal : Cert.InIdeal.Facts) (hInRefIdeal : Cert.InRefIdeal.Facts) (hMlp : Cert.Mlp.Facts) (hMlpIdeal : Cert.MlpIdeal.Facts) (hMlpRefIdeal : Cert.MlpRefIdeal.Facts) (hWdown : Cert.Wdown.Facts) (hWdownIdeal : Cert.WdownIdeal.Facts) (hWdownRefIdeal : Cert.WdownRefIdeal.Facts) (hGmlp : Cert.Gmlp.Facts) (hGmlpIdeal : Cert.GmlpIdeal.Facts) (hGmlpRefIdeal : Cert.GmlpRefIdeal.Facts) (hGfwd : Cert.Gfwd.Facts) (hGfwdIdeal : Cert.GfwdIdeal.Facts) (hGfwdRefIdeal : Cert.GfwdRefIdeal.Facts) (hOut : Cert.Out.Facts) (hOutIdeal : Cert.OutIdeal.Facts) (hOutRefIdeal : Cert.OutRefIdeal.Facts) (hPrenorm : Cert.Prenorm.Facts) (hPrenormIdeal : Cert.PrenormIdeal.Facts) (hPrenormRefIdeal : Cert.PrenormRefIdeal.Facts) (hSfwd : Cert.Sfwd.Facts) (hSfwdIdeal : Cert.SfwdIdeal.Facts) (hSfwdRefIdeal : Cert.SfwdRefIdeal.Facts) (hSsd : Cert.Ssd.Facts) (hSsdIdeal : Cert.SsdIdeal.Facts) (hSsdRefIdeal : Cert.SsdRefIdeal.Facts) (hPre_finite : Cert.Pre_finite.Facts) (hPre_finite_fwd : Cert.Pre_finite_fwd.Facts) (hOn_convolution : Cert.On_convolution.Facts),
    quiescent_Hidden (hHidden := hHidden)
    ∧ quiescent_HiddenIdeal (hHiddenIdeal := hHiddenIdeal)
    ∧ quiescent_HiddenRefIdeal (hHiddenRefIdeal := hHiddenRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_In (hIn := hIn)
    ∧ quiescent_InIdeal (hInIdeal := hInIdeal)
    ∧ quiescent_InRefIdeal (hInRefIdeal := hInRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Gmlp (hGmlp := hGmlp)
    ∧ quiescent_GmlpIdeal (hGmlpIdeal := hGmlpIdeal)
    ∧ quiescent_GmlpIdeal_pre_finite (hGmlpIdeal := hGmlpIdeal) (hPre_finite := hPre_finite)
    ∧ quiescent_GmlpRefIdeal (hGmlpRefIdeal := hGmlpRefIdeal)
    ∧ quiescent_GmlpRefIdeal_pre_finite (hGmlpRefIdeal := hGmlpRefIdeal) (hPre_finite := hPre_finite)
    ∧ quiescent_Gfwd (hGfwd := hGfwd)
    ∧ quiescent_GfwdIdeal (hGfwdIdeal := hGfwdIdeal)
    ∧ quiescent_GfwdIdeal_pre_finite_fwd (hGfwdIdeal := hGfwdIdeal) (hPre_finite_fwd := hPre_finite_fwd)
    ∧ quiescent_GfwdRefIdeal (hGfwdRefIdeal := hGfwdRefIdeal)
    ∧ quiescent_GfwdRefIdeal_pre_finite_fwd (hGfwdRefIdeal := hGfwdRefIdeal) (hPre_finite_fwd := hPre_finite_fwd)
    ∧ quiescent_Out (hOut := hOut)
    ∧ quiescent_OutIdeal (hOutIdeal := hOutIdeal)
    ∧ quiescent_OutRefIdeal (hOutRefIdeal := hOutRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Sfwd (hSfwd := hSfwd)
    ∧ quiescent_SfwdIdeal (hSfwdIdeal := hSfwdIdeal)
    ∧ quiescent_SfwdRefIdeal (hSfwdRefIdeal := hSfwdRefIdeal)
    ∧ quiescent_Ssd (hSsd := hSsd)
    ∧ quiescent_SsdIdeal (hSsdIdeal := hSsdIdeal)
    ∧ quiescent_SsdRefIdeal (hSsdRefIdeal := hSsdRefIdeal)
    ∧ preserves_Hidden_HiddenIdeal
    ∧ algebraic_HiddenIdeal_HiddenRefIdeal (hHiddenIdeal := hHiddenIdeal) (hHiddenRefIdeal := hHiddenRefIdeal)
    ∧ preserves_MlpIn_MlpInIdeal
    ∧ algebraic_MlpInIdeal_MlpInRefIdeal (hMlpInIdeal := hMlpInIdeal) (hMlpInRefIdeal := hMlpInRefIdeal)
    ∧ preserves_In_InIdeal
    ∧ algebraic_InIdeal_InRefIdeal (hInIdeal := hInIdeal) (hInRefIdeal := hInRefIdeal)
    ∧ preserves_Mlp_MlpIdeal
    ∧ algebraic_MlpIdeal_MlpRefIdeal (hMlpIdeal := hMlpIdeal) (hMlpRefIdeal := hMlpRefIdeal)
    ∧ preserves_Wdown_WdownIdeal
    ∧ algebraic_WdownIdeal_WdownRefIdeal (hWdownIdeal := hWdownIdeal) (hWdownRefIdeal := hWdownRefIdeal)
    ∧ preserves_Gmlp_GmlpIdeal
    ∧ algebraic_GmlpIdeal_GmlpRefIdeal_pre_finite (hGmlpIdeal := hGmlpIdeal) (hGmlpRefIdeal := hGmlpRefIdeal) (hPre_finite := hPre_finite)
    ∧ preserves_Gfwd_GfwdIdeal
    ∧ algebraic_GfwdIdeal_GfwdRefIdeal_pre_finite_fwd (hGfwdIdeal := hGfwdIdeal) (hGfwdRefIdeal := hGfwdRefIdeal) (hPre_finite_fwd := hPre_finite_fwd)
    ∧ preserves_Out_OutIdeal
    ∧ algebraic_OutIdeal_OutRefIdeal (hOutIdeal := hOutIdeal) (hOutRefIdeal := hOutRefIdeal)
    ∧ preserves_Prenorm_PrenormIdeal
    ∧ algebraic_PrenormIdeal_PrenormRefIdeal (hPrenormIdeal := hPrenormIdeal) (hPrenormRefIdeal := hPrenormRefIdeal)
    ∧ preserves_Sfwd_SfwdIdeal
    ∧ algebraic_SfwdIdeal_SfwdRefIdeal_on_convolution (hSfwdIdeal := hSfwdIdeal) (hSfwdRefIdeal := hSfwdRefIdeal) (hOn_convolution := hOn_convolution)
    ∧ preserves_Ssd_SsdIdeal
-- ==== On_convolution.lean ====
abbrev S2x2048x512 : Shape := ⟨3, ![2, 2048, 512]⟩
abbrev S2x2048x1024 : Shape := ⟨3, ![2, 2048, 1024]⟩
abbrev S2x2048x8 : Shape := ⟨3, ![2, 2048, 8]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S_ : Shape := ⟨0, ![]⟩
abbrev S2x16x128x512 : Shape := ⟨4, ![2, 16, 128, 512]⟩

class Facts : Prop where
  bcast_S_S2x2048x512 : S_.BroadcastsInDim S2x2048x512 (![] : Fin 0 → Fin S2x2048x512.rank)
  bcast_S_S2x16x128x512 : S_.BroadcastsInDim S2x16x128x512 (![] : Fin 0 → Fin S2x16x128x512.rank)
  bcast_S_S2x2048x1024 : S_.BroadcastsInDim S2x2048x1024 (![] : Fin 0 → Fin S2x2048x1024.rank)

variable [Facts]

def fn {F : FTy → Type} [FloatOps F] (main_arg0 : FVec F S2x2048x512 .f32) (main_arg1 : FVec F S2x2048x1024 .f32) (main_arg2 : FVec F S2x2048x8 .f32) (main_arg3 : FVec F S1x4x1024 .f32) (main_arg4 : FVec F S1x1024 .f32) (main_arg5 : FVec F S1x8 .f32) (main_arg6 : FVec F S1x8 .f32) (main_arg7 : FVec F S1x8 .f32) (main_arg8 : FVec F S1x512 .f32) : IVec S2x2048x512 1 × IVec S2x2048x512 1 × IVec S2x16x128x512 1 × IVec S2x2048x1024 1 :=
  let main_c : IVec S_ 1 := constantI S_ 1 0#1
  let main_v0 : IVec S2x2048x512 1 := broadcastInDim S2x2048x512 ![] bcast_S_S2x2048x512 main_c
  let main_c_0 : IVec S_ 1 := constantI S_ 1 0#1
  let main_v1 : IVec S2x2048x512 1 := broadcastInDim S2x2048x512 ![] bcast_S_S2x2048x512 main_c_0
  let main_c_1 : IVec S_ 1 := constantI S_ 1 0#1
  let main_v2 : IVec S2x16x128x512 1 := broadcastInDim S2x16x128x512 ![] bcast_S_S2x16x128x512 main_c_1
  let main_c_2 : IVec S_ 1 := constantI S_ 1 1#1
  let main_v3 : IVec S2x2048x1024 1 := broadcastInDim S2x2048x1024 ![] bcast_S_S2x2048x1024 main_c_2
  (main_v0, main_v1, main_v2, main_v3)
-- ==== Pre_finite.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x1024 : Shape := ⟨3, ![2, 2048, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1x8x64 : S_.BroadcastsInDim S1x8x64 (![] : Fin 0 → Fin S1x8x64.rank)
  reducesTo_S1x8x64_S_d0_1_2 : S1x8x64.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  slices_S2x2048x1024_S2x2048x512_0_0_0 : S2x2048x1024.Slices ![0, 0, 0] S2x2048x512

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg4 : FVec F S1x8x128x128 .f32) (main_arg5 : FVec F S1x8x128 .f32) (main_arg6 : FVec F S2x2048x1024 .f32) (main_v13 : IVec S_ 1) (main_v16 : IVec S1x8x64 1) : IVec S_ 1 :=
  let main_c_5 : IVec S_ 1 := constantI S_ 1 1#1
  let main_v17 : IVec S_ 1 := (fun x v => Host.reduce IntOp.andi x v reducesTo_S1x8x64_S_d0_1_2 h_S_) main_v16 main_c_5
  let main_v18 : IVec S_ 1 := andi main_v13 main_v17
  let main_v19 : FVec F S1x8x128x128 .f32 := Host.absf main_arg4
  let main_cst_6 : FVec F S_ .f32 := constant S_ .f32 0x7F800000#32
  let main_v20 : FVec F S1x8x128x128 .f32 := broadcastInDim S1x8x128x128 ![] bcast_S_S1x8x128x128 main_cst_6
  let main_v21 : IVec S1x8x128x128 1 := cmpf .olt main_v19 main_v20
  let main_c_7 : IVec S_ 1 := constantI S_ 1 1#1
  let main_v22 : IVec S_ 1 := (fun x v => Host.reduce IntOp.andi x v reducesTo_S1x8x128x128_S_d0_1_2_3 h_S_) main_v21 main_c_7
  let main_v23 : IVec S_ 1 := andi main_v18 main_v22
  let main_v24 : FVec F S1x8x128 .f32 := Host.absf main_arg5
  let main_cst_8 : FVec F S_ .f32 := constant S_ .f32 0x7F800000#32
  let main_v25 : FVec F S1x8x128 .f32 := broadcastInDim S1x8x128 ![] bcast_S_S1x8x128 main_cst_8
  let main_v26 : IVec S1x8x128 1 := cmpf .olt main_v24 main_v25
  let main_c_9 : IVec S_ 1 := constantI S_ 1 1#1
  let main_v27 : IVec S_ 1 := (fun x v => Host.reduce IntOp.andi x v reducesTo_S1x8x128_S_d0_1_2 h_S_) main_v26 main_c_9
  let main_v28 : IVec S_ 1 := andi main_v23 main_v27
  let main_v29 : FVec F S2x2048x512 .f32 := (extractStridedSlice S2x2048x512 ![0, 0, 0] · slices_S2x2048x1024_S2x2048x512_0_0_0) main_arg6
  let main_v30 : FVec F S2x2048x512 .f32 := Host.absf main_v29
  let main_cst_10 : FVec F S_ .f32 := constant S_ .f32 0x7F800000#32
  let main_v31 : FVec F S2x2048x512 .f32 := broadcastInDim S2x2048x512 ![] bcast_S_S2x2048x512 main_cst_10
  let main_v32 : IVec S2x2048x512 1 := cmpf .olt main_v30 main_v31
  let main_c_11 : IVec S_ 1 := constantI S_ 1 1#1
  let main_v33 : IVec S_ 1 := (fun x v => Host.reduce IntOp.andi x v reducesTo_S2x2048x512_S_d0_1_2 h_S_) main_v32 main_c_11
  fn_part2 (F := F) main_v28 main_v33

def fn {F : FTy → Type} [FloatOps F] (main_arg0 : FVec F S2x2048x512 .f32) (main_arg1 : FVec F S2x2048x512 .f32) (main_arg2 : FVec F S1x8x64 .f32) (main_arg3 : FVec F S1x8x64 .f32) (main_arg4 : FVec F S1x8x128x128 .f32) (main_arg5 : FVec F S1x8x128 .f32) (main_arg6 : FVec F S2x2048x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S1x8x64 .f32 := Host.absf main_arg2
  let main_cst_2 : FVec F S_ .f32 := constant S_ .f32 0x7F800000#32
  let main_v10 : FVec F S1x8x64 .f32 := broadcastInDim S1x8x64 ![] bcast_S_S1x8x64 main_cst_2
  let main_v11 : IVec S1x8x64 1 := cmpf .olt main_v9 main_v10
  let main_c_3 : IVec S_ 1 := constantI S_ 1 1#1
  let main_v12 : IVec S_ 1 := (fun x v => Host.reduce IntOp.andi x v reducesTo_S1x8x64_S_d0_1_2 h_S_) main_v11 main_c_3
  let main_v13 : IVec S_ 1 := andi main_v8 main_v12
  let main_v14 : FVec F S1x8x64 .f32 := Host.absf main_arg3
  let main_cst_4 : FVec F S_ .f32 := constant S_ .f32 0x7F800000#32
  let main_v15 : FVec F S1x8x64 .f32 := broadcastInDim S1x8x64 ![] bcast_S_S1x8x64 main_cst_4
  let main_v16 : IVec S1x8x64 1 := cmpf .olt main_v14 main_v15
  fn_part1 (F := F) main_arg4 main_arg5 main_arg6 main_v13 main_v16
-- ==== Pre_finite_fwd.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1x8x64 : S_.BroadcastsInDim S1x8x64 (![] : Fin 0 → Fin S1x8x64.rank)
  reducesTo_S1x8x64_S_d0_1_2 : S1x8x64.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128x128 .f32) (main_arg5 : FVec F S1x8x128 .f32) (main_v13 : IVec S_ 1) (main_v16 : IVec S1x8x64 1) : IVec S_ 1 :=
  let main_c_5 : IVec S_ 1 := constantI S_ 1 1#1
  let main_v17 : IVec S_ 1 := (fun x v => Host.reduce IntOp.andi x v reducesTo_S1x8x64_S_d0_1_2 h_S_) main_v16 main_c_5
  let main_v18 : IVec S_ 1 := andi main_v13 main_v17
  let main_v19 : FVec F S1x8x128x128 .f32 := Host.absf main_arg4
  let main_cst_6 : FVec F S_ .f32 := constant S_ .f32 0x7F800000#32
  let main_v20 : FVec F S1x8x128x128 .f32 := broadcastInDim S1x8x128x128 ![] bcast_S_S1x8x128x128 main_cst_6
  let main_v21 : IVec S1x8x128x128 1 := cmpf .olt main_v19 main_v20
  let main_c_7 : IVec S_ 1 := constantI S_ 1 1#1
  let main_v22 : IVec S_ 1 := (fun x v => Host.reduce IntOp.andi x v reducesTo_S1x8x128x128_S_d0_1_2_3 h_S_) main_v21 main_c_7
  let main_v23 : IVec S_ 1 := andi main_v18 main_v22
  let main_v24 : FVec F S1x8x128 .f32 := Host.absf main_arg5
  let main_cst_8 : FVec F S_ .f32 := constant S_ .f32 0x7F800000#32
  let main_v25 : FVec F S1x8x128 .f32 := broadcastInDim S1x8x128 ![] bcast_S_S1x8x128 main_cst_8
  let main_v26 : IVec S1x8x128 1 := cmpf .olt main_v24 main_v25
  let main_c_9 : IVec S_ 1 := constantI S_ 1 1#1
  let main_v27 : IVec S_ 1 := (fun x v => Host.reduce IntOp.andi x v reducesTo_S1x8x128_S_d0_1_2 h_S_) main_v26 main_c_9
  let main_v28 : IVec S_ 1 := andi main_v23 main_v27
  main_v28

def fn {F : FTy → Type} [FloatOps F] (main_arg0 : FVec F S2x2048x512 .f32) (main_arg1 : FVec F S2x2048x512 .f32) (main_arg2 : FVec F S1x8x64 .f32) (main_arg3 : FVec F S1x8x64 .f32) (main_arg4 : FVec F S1x8x128x128 .f32) (main_arg5 : FVec F S1x8x128 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S1x8x64 .f32 := Host.absf main_arg2
  let main_cst_2 : FVec F S_ .f32 := constant S_ .f32 0x7F800000#32
  let main_v10 : FVec F S1x8x64 .f32 := broadcastInDim S1x8x64 ![] bcast_S_S1x8x64 main_cst_2
  let main_v11 : IVec S1x8x64 1 := cmpf .olt main_v9 main_v10
  let main_c_3 : IVec S_ 1 := constantI S_ 1 1#1
  let main_v12 : IVec S_ 1 := (fun x v => Host.reduce IntOp.andi x v reducesTo_S1x8x64_S_d0_1_2 h_S_) main_v11 main_c_3
  let main_v13 : IVec S_ 1 := andi main_v8 main_v12
  let main_v14 : FVec F S1x8x64 .f32 := Host.absf main_arg3
  let main_cst_4 : FVec F S_ .f32 := constant S_ .f32 0x7F800000#32
  let main_v15 : FVec F S1x8x64 .f32 := broadcastInDim S1x8x64 ![] bcast_S_S1x8x64 main_cst_4
  let main_v16 : IVec S1x8x64 1 := cmpf .olt main_v14 main_v15
  fn_part1 (F := F) main_arg4 main_arg5 main_v13 main_v16
-- ==== Hidden.lean ====
abbrev S2x2048x4096 : Shape := ⟨3, ![2, 2048, 4096]⟩
abbrev S1x4096x1024 : Shape := ⟨3, ![1, 4096, 1024]⟩
abbrev S2x2048x1024 : Shape := ⟨3, ![2, 2048, 1024]⟩
abbrev S_ : Shape := ⟨0, ![]⟩
abbrev S4096x4096 : Shape := ⟨2, ![4096, 4096]⟩
abbrev S4096x1024 : Shape := ⟨2, ![4096, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 13
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S1x4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S2x2048x4096, .bf16⟩
  | .hbm, ⟨7, _⟩ => ⟨S4096x4096, .bf16⟩
  | .hbm, ⟨8, _⟩ => ⟨S2x2048x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HiddenRefIdeal.lean ====
abbrev S2x2048x4096 : Shape := ⟨3, ![2, 2048, 4096]⟩
abbrev S1x4096x1024 : Shape := ⟨3, ![1, 4096, 1024]⟩
abbrev S2x2048x1024 : Shape := ⟨3, ![2, 2048, 1024]⟩
abbrev S_ : Shape := ⟨0, ![]⟩
abbrev S4096x1024 : Shape := ⟨2, ![4096, 1024]⟩
abbrev S4096x4096 : Shape := ⟨2, ![4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1x4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .i1⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S4096x1024, .f32⟩
  | .hbm, ⟨16, _⟩ => ⟨S2x2048x1024, .f32⟩
  | .hbm, ⟨17, _⟩ => ⟨S2x2048x4096, .f32⟩
  | .hbm, ⟨18, _⟩ => ⟨S2x2048x4096, .f32⟩
  | .hbm, ⟨19, _⟩ => ⟨S_, .f32⟩
  | .hbm, ⟨20, _⟩ => ⟨S2x2048x4096, .f32⟩
  | .hbm, ⟨21, _⟩ => ⟨S2x2048x4096, .f32⟩
  | .hbm, ⟨22, _⟩ => ⟨S2x2048x4096, .bf16⟩
  | .hbm, ⟨23, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpIn.lean ====
abbrev S2x2048x1024 : Shape := ⟨3, ![2, 2048, 1024]⟩
abbrev S1x1024 : Shape := ⟨2, ![1, 1024]⟩
abbrev S1x1024x4096 : Shape := ⟨3, ![1, 1024, 4096]⟩
abbrev S2x2048x4096 : Shape := ⟨3, ![2, 2048, 4096]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x4096 : Shape := ⟨2, ![4096, 4096]⟩
abbrev S1024x4096 : Shape := ⟨2, ![1024, 4096]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 36
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S2x2048x1024, .f32⟩
  | .hbm, ⟨6, _⟩ => ⟨S2x2048x4096, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S4096x4096, .f32⟩
  | .hbm, ⟨26, _⟩ => ⟨S4096x4096, .bf16⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S1x1024, .f32⟩
  | .hbm, ⟨35, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_29 : BitVec 32 := 0#32
  let v69 : BitVec 1 := Scalar.cmpi .ne v68 c0_i32_29
  v69

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v70 : BitVec 1 := Scalar.xori v67 v_true
  let v71 : BitVec 32 := Scalar.extui v70
  let c0_i32_30 : BitVec 32 := 0#32
  let v72 : BitVec 1 := Scalar.cmpi .ne v71 c0_i32_30
  v72

def k0_cond3 (i : grid0.Coords) : BitVec 1 :=
  let arg0 : BitVec 32 := BitVec.ofNat 32 (i 0).val
  let c0_i32_31 : BitVec 32 := 0#32
  let v73 : BitVec 1 := Scalar.cmpi .eq arg0 c0_i32_31
  let v74 : BitVec 32 := Scalar.extui v73
  let c0_i32_32 : BitVec 32 := 0#32
  let v75 : BitVec 1 := Scalar.cmpi .ne v74 c0_i32_32
  v75

def k0_cond4 (i : grid0.Coords) : BitVec 1 :=
  let arg0 : BitVec 32 := BitVec.ofNat 32 (i 0).val
  let c0_i32_31 : BitVec 32 := 0#32
  let v73 : BitVec 1 := Scalar.cmpi .eq arg0 c0_i32_31
  let true_33 : BitVec 1 := 1#1
  let v76 : BitVec 1 := Scalar.xori v73 true_33
  let v77 : BitVec 32 := Scalar.extui v76
  let c0_i32_34 : BitVec 32 := 0#32
  let v78 : BitVec 1 := Scalar.cmpi .ne v77 c0_i32_34
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpInRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S2x2048x4096 : Shape := ⟨3, ![2, 2048, 4096]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S4096x1024 : Shape := ⟨2, ![4096, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S2x2048x1024, .f32⟩
  | .hbm, ⟨6, _⟩ => ⟨S2x2048x4096, .f32⟩
  | .hbm, ⟨7, _⟩ => ⟨S1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S1024x4096, .f32⟩
  | .hbm, ⟨51, _⟩ => ⟨S2x2048x4096, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S1024, .f32⟩
  | .hbm, ⟨88, _⟩ => ⟨S2x2048x1024, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S2x2048x1024, .f32⟩
  | .hbm, ⟨93, _⟩ => ⟨S2x2048x1024, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S_, .f32⟩
  | .hbm, ⟨99, _⟩ => ⟨S2x2048, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S1x1024, .f32⟩
  | .hbm, ⟨109, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== In.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x512 : Shape := ⟨3, ![2, 2048, 512]⟩
abbrev S2x2048x8 : Shape := ⟨3, ![2, 2048, 8]⟩
abbrev S8x1024x512 : Shape := ⟨3, ![8, 1024, 512]⟩
abbrev S1x1024x512 : Shape := ⟨3, ![1, 1024, 512]⟩
abbrev S1024x512 : Shape := ⟨2, ![1024, 512]⟩
abbrev S1024x2568 : Shape := ⟨2, ![1024, 2568]⟩
abbrev S2568x1024 : Shape := ⟨2, ![2568, 1024]⟩
abbrev S_ : Shape := ⟨0, ![]⟩
abbrev S2688x1024 : Shape := ⟨2, ![2688, 1024]⟩
abbrev S4096x8 : Shape := ⟨2, ![4096, 8]⟩
abbrev S4096x128 : Shape := ⟨2, ![4096, 128]⟩
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩
abbrev S512x128 : Shape := ⟨2, ![512, 128]⟩
abbrev S8x128x512 : Shape := ⟨3, ![8, 128, 512]⟩
abbrev S1x128x512 : Shape := ⟨3, ![1, 128, 512]⟩
abbrev S128x512 : Shape := ⟨2, ![128, 512]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 44
  | .vmem => 37
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x8, .f32⟩
  | .hbm, ⟨9, _⟩ => ⟨S8x1024x512, .f32⟩
  | .hbm, ⟨10, _⟩ => ⟨S8x1024x512, .f32⟩
  | .hbm, ⟨11, _⟩ => ⟨S1x1024x512, .f32⟩
  | .hbm, ⟨12, _⟩ => ⟨S1x1024x512, .f32⟩
  | .hbm, ⟨13, _⟩ => ⟨S1x1024x512, .f32⟩
  | .hbm, ⟨14, _⟩ => ⟨S8x1024x512, .bf16⟩
  | .hbm, ⟨15, _⟩ => ⟨S8x1024x512, .bf16⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x2568, .f32⟩
  | .hbm, ⟨20, _⟩ => ⟨S2568x1024, .f32⟩
  | .hbm, ⟨21, _⟩ => ⟨S2568x1024, .bf16⟩
  | .hbm, ⟨22, _⟩ => ⟨S_, .bf16⟩
  | .hbm, ⟨23, _⟩ => ⟨S2688x1024, .bf16⟩
  | .hbm, ⟨24, _⟩ => ⟨S4096x8, .f32⟩
  | .hbm, ⟨25, _⟩ => ⟨S4096x8, .bf16⟩
  | .hbm, ⟨26, _⟩ => ⟨S_, .bf16⟩
  | .hbm, ⟨27, _⟩ => ⟨S4096x128, .bf16⟩
  | .hbm, ⟨28, _⟩ => ⟨S4096x512, .f32⟩
  | .hbm, ⟨29, _⟩ => ⟨S4096x512, .bf16⟩
  | .hbm, ⟨30, _⟩ => ⟨S4096x512, .f32⟩
  | .hbm, ⟨31, _⟩ => ⟨S4096x512, .bf16⟩
  | .hbm, ⟨32, _⟩ => ⟨S4096x512, .f32⟩
  | .hbm, ⟨33, _⟩ => ⟨S4096x512, .bf16⟩
  | .hbm, ⟨34, _⟩ => ⟨S4096x1024, .f32⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S8x128x512, .bf16⟩
  | .local _ .vmem, ⟨17, _⟩ => ⟨S8x128x512, .bf16⟩
  | .local _ .vmem, ⟨18, _⟩ => ⟨S1x128x512, .bf16⟩
  | .local _ .vmem, ⟨19, _⟩ => ⟨S1x128x512, .bf16⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x512, .f32⟩
  | .local _ .vmem, ⟨36, _⟩ => ⟨S128x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_33 : BitVec 32 := 0#32
  let v63 : BitVec 1 := Scalar.cmpi .ne v62 c0_i32_33
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_34 : BitVec 32 := 0#32
  let v66 : BitVec 1 := Scalar.cmpi .ne v65 c0_i32_34
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InRefIdeal.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x512 : Shape := ⟨3, ![2, 2048, 512]⟩
abbrev S2x2048x8 : Shape := ⟨3, ![2, 2048, 8]⟩
abbrev S8x1024x512 : Shape := ⟨3, ![8, 1024, 512]⟩
abbrev S1x1024x512 : Shape := ⟨3, ![1, 1024, 512]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2568 : Shape := ⟨2, ![1024, 2568]⟩
abbrev S2x2048x2568 : Shape := ⟨3, ![2, 2048, 2568]⟩
abbrev S4096x1024 : Shape := ⟨2, ![4096, 1024]⟩
abbrev S7x1024x512 : Shape := ⟨3, ![7, 1024, 512]⟩
abbrev S1024x512 : Shape := ⟨2, ![1024, 512]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x1024, .f32⟩
  | .hbm, ⟨8, _⟩ => ⟨S2x2048x8, .f32⟩
  | .hbm, ⟨9, _⟩ => ⟨S8x1024x512, .f32⟩
  | .hbm, ⟨10, _⟩ => ⟨S8x1024x512, .f32⟩
  | .hbm, ⟨11, _⟩ => ⟨S1x1024x512, .f32⟩
  | .hbm, ⟨12, _⟩ => ⟨S1x1024x512, .f32⟩
  | .hbm, ⟨13, _⟩ => ⟨S1x1024x512, .f32⟩
  | .hbm, ⟨14, _⟩ => ⟨S1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1024x2568, .f32⟩
  | .hbm, ⟨36, _⟩ => ⟨S2x2048x2568, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S2x2048x1024, .f32⟩
  | .hbm, ⟨41, _⟩ => ⟨S2x2048x8, .f32⟩
  | .hbm, ⟨42, _⟩ => ⟨S2x2048x2568, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S4096x1024, .f32⟩
  | .hbm, ⟨71, _⟩ => ⟨S1x1024, .f32⟩
  | .hbm, ⟨72, _⟩ => ⟨S1x1024x512, .f32⟩
  | .hbm, ⟨73, _⟩ => ⟨S7x1024x512, .f32⟩
  | .hbm, ⟨74, _⟩ => ⟨S8x1024x512, .f32⟩
  | .hbm, ⟨75, _⟩ => ⟨S_, .f32⟩
  | .hbm, ⟨76, _⟩ => ⟨S1024x512, .f32⟩
  | .hbm, ⟨77, _⟩ => ⟨S1024x512, .f32⟩
  | .hbm, ⟨78, _⟩ => ⟨S1024x512, .f32⟩
  | .hbm, ⟨79, _⟩ => ⟨S1024x512, .f32⟩
  | .hbm, ⟨80, _⟩ => ⟨S_, .f32⟩
  | .hbm, ⟨81, _⟩ => ⟨S1024x512, .f32⟩
  | .hbm, ⟨82, _⟩ => ⟨S1024x512, .f32⟩
  | .hbm, ⟨83, _⟩ => ⟨S_, .f32⟩
  | .hbm, ⟨84, _⟩ => ⟨S1024x512, .f32⟩
  | .hbm, ⟨85, _⟩ => ⟨S1024x512, .f32⟩
  | .hbm, ⟨86, _⟩ => ⟨S1024x512, .f32⟩
  | .hbm, ⟨87, _⟩ => ⟨S_, .f32⟩
  | .hbm, ⟨88, _⟩ => ⟨S1024x512, .f32⟩
  | .hbm, ⟨89, _⟩ => ⟨S1024x512, .f32⟩
  | .hbm, ⟨90, _⟩ => ⟨S1024x512, .f32⟩
  | .hbm, ⟨91, _⟩ => ⟨S_, .f32⟩
  | .hbm, ⟨92, _⟩ => ⟨S1024x512, .f32⟩
  | .hbm, ⟨93, _⟩ => ⟨S1024x512, .f32⟩
  | .hbm, ⟨94, _⟩ => ⟨S1024x512, .f32⟩
  | .hbm, ⟨95, _⟩ => ⟨S_, .f32⟩
  | .hbm, ⟨96, _⟩ => ⟨S1024x512, .f32⟩
  | .hbm, ⟨97, _⟩ => ⟨S1024x512, .f32⟩
  | .hbm, ⟨98, _⟩ => ⟨S_, .f32⟩
  | .hbm, ⟨99, _⟩ => ⟨S1024x512, .f32⟩
  | .hbm, ⟨100, _⟩ => ⟨S1024x512, .f32⟩
  | .hbm, ⟨101, _⟩ => ⟨S1024x512, .f32⟩
  | .hbm, ⟨102, _⟩ => ⟨S_, .f32⟩
  | .hbm, ⟨103, _⟩ => ⟨S1024x512, .f32⟩
  | .hbm, ⟨104, _⟩ => ⟨S1024x512, .f32⟩
  | .hbm, ⟨105, _⟩ => ⟨S1024x512, .f32⟩
  | .hbm, ⟨106, _⟩ => ⟨S_, .f32⟩
  | .hbm, ⟨107, _⟩ => ⟨S1024x512, .f32⟩
  | .hbm, ⟨108, _⟩ => ⟨S1024x512, .f32⟩
  | .hbm, ⟨109, _⟩ => ⟨S1024x512, .f32⟩
  | .hbm, ⟨110, _⟩ => ⟨S_, .f32⟩
  | .hbm, ⟨111, _⟩ => ⟨S1024x512, .f32⟩
  | .hbm, ⟨112, _⟩ => ⟨S1024x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Mlp.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S4096x1024 : Shape := ⟨2, ![4096, 1024]⟩
abbrev S1024x4096 : Shape := ⟨2, ![1024, 4096]⟩
abbrev S4096x4096 : Shape := ⟨2, ![4096, 4096]⟩
abbrev S1x128 : Shape := ⟨2, ![1, 128]⟩
abbrev S512x1024 : Shape := ⟨2, ![512, 1024]⟩
abbrev S512x4096 : Shape := ⟨2, ![512, 4096]⟩
abbrev S1 : Shape := ⟨1, ![1]⟩
abbrev S_ : Shape := ⟨0, ![]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1024 : Shape := ⟨1, ![1024]⟩
abbrev S1x1 : Shape := ⟨2, ![1, 1]⟩

abbrev nBuf : Space → Nat
  | .hbm => 19
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S2x2048x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x4096, .bf16⟩
  | .hbm, ⟨15, _⟩ => ⟨S4096x1024, .bf16⟩
  | .hbm, ⟨16, _⟩ => ⟨S4096x1024, .f32⟩
  | .hbm, ⟨17, _⟩ => ⟨S1x1024, .f32⟩
  | .hbm, ⟨18, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x128, .f32⟩
  | .local _ .vmem, ⟨16, _⟩ => ⟨S4096x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_38 : BitVec 32 := 0#32
  let v66 : BitVec 1 := Scalar.cmpi .eq arg0 c0_i32_38
  let v67 : BitVec 32 := Scalar.extui v66
  let c0_i32_39 : BitVec 32 := 0#32
  let v68 : BitVec 1 := Scalar.cmpi .ne v67 c0_i32_39
  v68

def k0_cond4 (i : grid0.Coords) : BitVec 1 :=
  let arg0 : BitVec 32 := BitVec.ofNat 32 (i 0).val
  let c0_i32_38 : BitVec 32 := 0#32
  let v66 : BitVec 1 := Scalar.cmpi .eq arg0 c0_i32_38
  let v_true : BitVec 1 := 1#1
  let v69 : BitVec 1 := Scalar.xori v66 v_true
  let v70 : BitVec 32 := Scalar.extui v69
  let c0_i32_40 : BitVec 32 := 0#32
  let v71 : BitVec 1 := Scalar.cmpi .ne v70 c0_i32_40
  v71

def k0_cond5 (i : grid0.Coords) : BitVec 1 :=
  let arg0 : BitVec 32 := BitVec.ofNat 32 (i 0).val
  let c0_i32_45 : BitVec 32 := 0#32
  let v83 : BitVec 1 := Scalar.cmpi .eq arg0 c0_i32_45
  let v84 : BitVec 32 := Scalar.extui v83
  let c0_i32_46 : BitVec 32 := 0#32
  let v85 : BitVec 1 := Scalar.cmpi .ne v84 c0_i32_46
  v85

def k0_cond6 (i : grid0.Coords) : BitVec 1 :=
  let arg0 : BitVec 32 := BitVec.ofNat 32 (i 0).val
  let c0_i32_45 : BitVec 32 := 0#32
  let v83 : BitVec 1 := Scalar.cmpi .eq arg0 c0_i32_45
  let true_47 : BitVec 1 := 1#1
  let v86 : BitVec 1 := Scalar.xori v83 true_47
  let v87 : BitVec 32 := Scalar.extui v86
  let c0_i32_48 : BitVec 32 := 0#32
  let v88 : BitVec 1 := Scalar.cmpi .ne v87 c0_i32_48
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S2x2048x1024 : Shape := ⟨3, ![2, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S2x2048x4096 : Shape := ⟨3, ![2, 2048, 4096]⟩
abbrev S_ : Shape := ⟨0, ![]⟩
abbrev S4096x1024 : Shape := ⟨2, ![4096, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x4096 : Shape := ⟨2, ![4096, 4096]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x4096, .f32⟩
  | .hbm, ⟨2, _⟩ => ⟨S1x4096x1024, .f32⟩
  | .hbm, ⟨3, _⟩ => ⟨S2x2048x1024, .f32⟩
  | .hbm, ⟨4, _⟩ => ⟨S2x2048x1024, .f32⟩
  | .hbm, ⟨5, _⟩ => ⟨S1x1024, .f32⟩
  | .hbm, ⟨6, _⟩ => ⟨S1024x4096, .f32⟩
  | .hbm, ⟨7, _⟩ => ⟨S2x2048x4096, .f32⟩
  | .hbm, ⟨8, _⟩ => ⟨S_, .f32⟩
  | .hbm, ⟨9, _⟩ => ⟨S2x2048x4096, .f32⟩
  | .hbm, ⟨10, _⟩ => ⟨S2x2048x4096, .f32⟩
  | .hbm, ⟨11, _⟩ => ⟨S2x2048x4096, .f32⟩
  | .hbm, ⟨12, _⟩ => ⟨S4096x1024, .f32⟩
  | .hbm, ⟨13, _⟩ => ⟨S2x2048x1024, .f32⟩
  | .hbm, ⟨14, _⟩ => ⟨S1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S_, .f32⟩
  | .hbm, ⟨44, _⟩ => ⟨S2x2048, .f32⟩
  | .hbm, ⟨45, _⟩ => ⟨S2x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x2048, .f32⟩
  | .hbm, ⟨54, _⟩ => ⟨S_, .f32⟩
  | .hbm, ⟨55, _⟩ => ⟨S2x2048, .f32⟩
  | .hbm, ⟨56, _⟩ => ⟨S2x2048, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1, .f32⟩
  | .hbm, ⟨74, _⟩ => ⟨S_, .f32⟩
  | .hbm, ⟨75, _⟩ => ⟨S2x2048x1, .f32⟩
  | .hbm, ⟨76, _⟩ => ⟨S2x2048x1, .f32⟩
  | .hbm, ⟨77, _⟩ => ⟨S_, .f32⟩
  | .hbm, ⟨78, _⟩ => ⟨S2x2048, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S4096x4096, .f32⟩
  | .hbm, ⟨85, _⟩ => ⟨S4096x4096, .bf16⟩
  | .hbm, ⟨86, _⟩ => ⟨S4096x1024, .f32⟩
  | .hbm, ⟨87, _⟩ => ⟨S4096x1024, .bf16⟩
  | .hbm, ⟨88, _⟩ => ⟨S4096x1024, .f32⟩
  | .hbm, ⟨89, _⟩ => ⟨S1x1024, .f32⟩
  | .hbm, ⟨90, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Wdown.lean ====
abbrev S2x2048x4096 : Shape := ⟨3, ![2, 2048, 4096]⟩
abbrev S2x2048x1024 : Shape := ⟨3, ![2, 2048, 1024]⟩
abbrev S_ : Shape := ⟨0, ![]⟩
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩
abbrev S8x128 : Shape := ⟨2, ![8, 128]⟩

abbrev nBuf : Space → Nat
  | .hbm => 10
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S_, .f32⟩
  | .hbm, ⟨3, _⟩ => ⟨S2x2048x4096, .f32⟩
  | .hbm, ⟨4, _⟩ => ⟨S2x2048x4096, .f32⟩
  | .hbm, ⟨5, _⟩ => ⟨S2x2048x4096, .bf16⟩
  | .hbm, ⟨6, _⟩ => ⟨S4096x4096, .bf16⟩
  | .hbm, ⟨7, _⟩ => ⟨S2x2048x1024, .bf16⟩
  | .hbm, ⟨8, _⟩ => ⟨S4096x1024, .bf16⟩
  | .hbm, ⟨9, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdownRefIdeal.lean ====
abbrev S2x2048x4096 : Shape := ⟨3, ![2, 2048, 4096]⟩
abbrev S2x2048x1024 : Shape := ⟨3, ![2, 2048, 1024]⟩
abbrev S_ : Shape := ⟨0, ![]⟩
abbrev S1x4096x1024 : Shape := ⟨3, ![1, 4096, 1024]⟩
abbrev S4096x1024 : Shape := ⟨2, ![4096, 1024]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S_, .f32⟩
  | .hbm, ⟨3, _⟩ => ⟨S1x4096x1024, .f32⟩
  | .hbm, ⟨4, _⟩ => ⟨S_, .f32⟩
  | .hbm, ⟨5, _⟩ => ⟨S2x2048x4096, .f32⟩
  | .hbm, ⟨6, _⟩ => ⟨S2x2048x4096, .f32⟩
  | .hbm, ⟨7, _⟩ => ⟨S2x2048x4096, .f32⟩
  | .hbm, ⟨8, _⟩ => ⟨S4096x1024, .f32⟩
  | .hbm, ⟨9, _⟩ => ⟨S2x2048x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Gmlp.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x1024 : Shape := ⟨3, ![2, 2048, 1024]⟩
abbrev S256x256 : Shape := ⟨2, ![256, 256]⟩
abbrev S_ : Shape := ⟨0, ![]⟩
abbrev S128x512 : Shape := ⟨2, ![128, 512]⟩
abbrev S512x128 : Shape := ⟨2, ![512, 128]⟩
abbrev S128x128 : Shape := ⟨2, ![128, 128]⟩
abbrev S8x64 : Shape := ⟨2, ![8, 64]⟩
abbrev S8x128x128 : Shape := ⟨3, ![8, 128, 128]⟩
abbrev S8x128 : Shape := ⟨2, ![8, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S1x512 : Shape := ⟨2, ![1, 512]⟩
abbrev S4096x1024 : Shape := ⟨2, ![4096, 1024]⟩
abbrev S4096x512 : Shape := ⟨2, ![4096, 512]⟩
abbrev S512x512 : Shape := ⟨2, ![512, 512]⟩
abbrev S1x128 : Shape := ⟨2, ![1, 128]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩
abbrev S512 : Shape := ⟨1, ![512]⟩

abbrev nBuf : Space → Nat
  | .hbm => 168
  | .vmem => 21
  | .smem => 0
  | _ => 0

abbrev hbmTy0_0 (i : Nat) : BufTy := match i % 128 with
  | 0 => ⟨S2x2048x512, .f32⟩
  | 1 => ⟨S2x2048x512, .f32⟩
  | 2 => ⟨S1x8x64, .f32⟩
  | 3 => ⟨S1x8x64, .f32⟩
  | 4 => ⟨S1x8x128x128, .f32⟩
  | 5 => ⟨S1x8x128, .f32⟩
  | 6 => ⟨S2x2048x1024, .f32⟩
  | 7 => ⟨S256x256, .i32⟩
  | 8 => ⟨S_, .i32⟩
  | 9 => ⟨S_, .i32⟩
  | 10 => ⟨S256x256, .i32⟩
  | 11 => ⟨S256x256, .i32⟩
  | 12 => ⟨S256x256, .i32⟩
  | 13 => ⟨S_, .i32⟩
  | 14 => ⟨S256x256, .i32⟩
  | 15 => ⟨S256x256, .i1⟩
  | 16 => ⟨S256x256, .i32⟩
  | 17 => ⟨S256x256, .i32⟩
  | 18 => ⟨S_, .i32⟩
  | 19 => ⟨S256x256, .i32⟩
  | 20 => ⟨S256x256, .i1⟩
  | 21 => ⟨S256x256, .i1⟩
  | 22 => ⟨S_, .i32⟩
  | 23 => ⟨S256x256, .i32⟩
  | 24 => ⟨S256x256, .i32⟩
  | 25 => ⟨S256x256, .i32⟩
  | 26 => ⟨S256x256, .i32⟩
  | 27 => ⟨S_, .i32⟩
  | 28 => ⟨S_, .i32⟩
  | 29 => ⟨S256x256, .i32⟩
  | 30 => ⟨S256x256, .i32⟩
  | 31 => ⟨S256x256, .i32⟩
  | 32 => ⟨S_, .i32⟩
  | 33 => ⟨S256x256, .i32⟩
  | 34 => ⟨S256x256, .i1⟩
  | 35 => ⟨S256x256, .i32⟩
  | 36 => ⟨S256x256, .i32⟩
  | 37 => ⟨S_, .i32⟩
  | 38 => ⟨S256x256, .i32⟩
  | 39 => ⟨S256x256, .i1⟩
  | 40 => ⟨S256x256, .i1⟩
  | 41 => ⟨S_, .i32⟩
  | 42 => ⟨S256x256, .i32⟩
  | 43 => ⟨S256x256, .i32⟩
  | 44 => ⟨S256x256, .i32⟩
  | 45 => ⟨S256x256, .i1⟩
  | 46 => ⟨S_, .f32⟩
  | 47 => ⟨S_, .f32⟩
  | 48 => ⟨S256x256, .f32⟩
  | 49 => ⟨S256x256, .f32⟩
  | 50 => ⟨S256x256, .f32⟩
  | 51 => ⟨S256x256, .bf16⟩
  | 52 => ⟨S128x512, .i32⟩
  | 53 => ⟨S128x512, .i32⟩
  | 54 => ⟨S_, .i32⟩
  | 55 => ⟨S_, .i32⟩
  | 56 => ⟨S128x512, .i32⟩
  | 57 => ⟨S128x512, .i32⟩
  | 58 => ⟨S128x512, .i32⟩
  | 59 => ⟨S_, .i32⟩
  | 60 => ⟨S128x512, .i32⟩
  | 61 => ⟨S128x512, .i1⟩
  | 62 => ⟨S128x512, .i32⟩
  | 63 => ⟨S128x512, .i32⟩
  | 64 => ⟨S_, .i32⟩
  | 65 => ⟨S128x512, .i32⟩
  | 66 => ⟨S128x512, .i1⟩
  | 67 => ⟨S128x512, .i1⟩
  | 68 => ⟨S_, .i32⟩
  | 69 => ⟨S128x512, .i32⟩
  | 70 => ⟨S128x512, .i32⟩
  | 71 => ⟨S128x512, .i32⟩
  | 72 => ⟨S128x512, .i1⟩
  | 73 => ⟨S_, .f32⟩
  | 74 => ⟨S_, .f32⟩
  | 75 => ⟨S128x512, .f32⟩
  | 76 => ⟨S128x512, .f32⟩
  | 77 => ⟨S128x512, .f32⟩
  | 78 => ⟨S128x512, .bf16⟩
  | 79 => ⟨S512x128, .i32⟩
  | 80 => ⟨S_, .i32⟩
  | 81 => ⟨S_, .i32⟩
  | 82 => ⟨S512x128, .i32⟩
  | 83 => ⟨S512x128, .i32⟩
  | 84 => ⟨S512x128, .i32⟩
  | 85 => ⟨S_, .i32⟩
  | 86 => ⟨S512x128, .i32⟩
  | 87 => ⟨S512x128, .i1⟩
  | 88 => ⟨S512x128, .i32⟩
  | 89 => ⟨S512x128, .i32⟩
  | 90 => ⟨S_, .i32⟩
  | 91 => ⟨S512x128, .i32⟩
  | 92 => ⟨S512x128, .i1⟩
  | 93 => ⟨S512x128, .i1⟩
  | 94 => ⟨S_, .i32⟩
  | 95 => ⟨S512x128, .i32⟩
  | 96 => ⟨S512x128, .i32⟩
  | 97 => ⟨S512x128, .i32⟩
  | 98 => ⟨S512x128, .i32⟩
  | 99 => ⟨S512x128, .i1⟩
  | 100 => ⟨S_, .f32⟩
  | 101 => ⟨S_, .f32⟩
  | 102 => ⟨S512x128, .f32⟩
  | 103 => ⟨S512x128, .f32⟩
  | 104 => ⟨S512x128, .f32⟩
  | 105 => ⟨S512x128, .bf16⟩
  | 106 => ⟨S128x128, .i32⟩
  | 107 => ⟨S128x128, .i32⟩
  | 108 => ⟨S128x128, .i1⟩
  | 109 => ⟨S_, .f32⟩
  | 110 => ⟨S_, .f32⟩
  | 111 => ⟨S128x128, .f32⟩
  | 112 => ⟨S128x128, .f32⟩
  | 113 => ⟨S128x128, .f32⟩
  | 114 => ⟨S128x128, .bf16⟩
  | 115 => ⟨S128x128, .i32⟩
  | 116 => ⟨S128x128, .i32⟩
  | 117 => ⟨S128x128, .i1⟩
  | 118 => ⟨S_, .f32⟩
  | 119 => ⟨S_, .f32⟩
  | 120 => ⟨S128x128, .f32⟩
  | 121 => ⟨S128x128, .f32⟩
  | 122 => ⟨S128x128, .f32⟩
  | 123 => ⟨S128x128, .bf16⟩
  | 124 => ⟨S8x64, .f32⟩
  | 125 => ⟨S8x64, .f32⟩
  | 126 => ⟨S8x128x128, .f32⟩
  | 127 => ⟨S8x128, .f32⟩
  | _ => ⟨S2x2048x512, .f32⟩

abbrev hbmTy0_1 (i : Nat) : BufTy := match i % 128 with
  | 0 => ⟨S_, .f32⟩
  | 1 => ⟨S128x128, .f32⟩
  | 2 => ⟨S128x128, .i32⟩
  | 3 => ⟨S_, .i32⟩
  | 4 => ⟨S128x128, .i32⟩
  | 5 => ⟨S128x128, .i32⟩
  | 6 => ⟨S128x128, .i32⟩
  | 7 => ⟨S128x128, .i1⟩
  | 8 => ⟨S_, .f32⟩
  | 9 => ⟨S128x128, .f32⟩
  | 10 => ⟨S128x128, .f32⟩
  | 11 => ⟨S1x128x128, .f32⟩
  | 12 => ⟨S8x128x128, .f32⟩
  | 13 => ⟨S8x128x128, .f32⟩
  | 14 => ⟨S4x2x128x128, .f32⟩
  | 15 => ⟨S4x128x2x128, .f32⟩
  | 16 => ⟨S4x128x256, .f32⟩
  | 17 => ⟨S4x128x256, .bf16⟩
  | 18 => ⟨S8x128x128, .f32⟩
  | 19 => ⟨S4x2x128x128, .f32⟩
  | 20 => ⟨S4x128x2x128, .f32⟩
  | 21 => ⟨S4x128x256, .f32⟩
  | 22 => ⟨S4x128x256, .bf16⟩
  | 23 => ⟨S128x8, .f32⟩
  | 24 => ⟨S128x8x64, .f32⟩
  | 25 => ⟨S128x512, .f32⟩
  | 26 => ⟨S1x512, .f32⟩
  | 27 => ⟨S1x512, .f32⟩
  | 28 => ⟨S4096x1024, .f32⟩
  | 29 => ⟨S4096x1024, .bf16⟩
  | 30 => ⟨S4096x512, .f32⟩
  | 31 => ⟨S4096x512, .bf16⟩
  | 32 => ⟨S4096x512, .f32⟩
  | 33 => ⟨S4096x512, .bf16⟩
  | 34 => ⟨S4096x512, .bf16⟩
  | 35 => ⟨S4096x512, .bf16⟩
  | 36 => ⟨S8x128x128, .f32⟩
  | 37 => ⟨S128x128, .f32⟩
  | 38 => ⟨S1x512, .f32⟩
  | 39 => ⟨S1x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S4x128x256, .bf16⟩
  | .local _ .vmem, ⟨9, _⟩ => ⟨S4x128x256, .bf16⟩
  | .local _ .vmem, ⟨10, _⟩ => ⟨S128x512, .f32⟩
  | .local _ .vmem, ⟨11, _⟩ => ⟨S256x256, .bf16⟩
  | .local _ .vmem, ⟨12, _⟩ => ⟨S512x128, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S8x128x128, .f32⟩
  | .local _ .vmem, ⟨18, _⟩ => ⟨S128x128, .f32⟩
  | .local _ .vmem, ⟨19, _⟩ => ⟨S1x512, .f32⟩
  | .local _ .vmem, ⟨20, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v3 : Ref sig .tc := ⟨.hbm, 44, rfl⟩
abbrev main_v4 : Ref sig .tc := ⟨.hbm, 45, rfl⟩
abbrev main_cst : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_c_2 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_c : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_0 : Ref sig .tc := ⟨.hbm, 68, rfl⟩
abbrev main_call3_v12 : Ref sig .tc := ⟨.hbm, 69, rfl⟩
abbrev main_call3_v13 : Ref sig .tc := ⟨.hbm, 70, rfl⟩
abbrev main_v9 : Ref sig .tc := ⟨.hbm, 71, rfl⟩
abbrev main_v10 : Ref sig .tc := ⟨.hbm, 72, rfl⟩
abbrev main_cst_3 : Ref sig .tc := ⟨.hbm, 73, rfl⟩
abbrev main_cst_4 : Ref sig .tc := ⟨.hbm, 74, rfl⟩
abbrev main_call4_v0 : Ref sig .tc := ⟨.hbm, 75, rfl⟩
abbrev main_call4_v1 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_c_5 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_v6 : Ref sig .tc := ⟨.hbm, 87, rfl⟩
abbrev main_call5_v7 : Ref sig .tc := ⟨.hbm, 88, rfl⟩
abbrev main_call5_v8 : Ref sig .tc := ⟨.hbm, 89, rfl⟩
abbrev main_call5_c : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_0 : Ref sig .tc := ⟨.hbm, 94, rfl⟩
abbrev main_call5_v12 : Ref sig .tc := ⟨.hbm, 95, rfl⟩
abbrev main_call5_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_cst_6 : Ref sig .tc := ⟨.hbm, 100, rfl⟩
abbrev main_cst_7 : Ref sig .tc := ⟨.hbm, 101, rfl⟩
abbrev main_call6_v0 : Ref sig .tc := ⟨.hbm, 102, rfl⟩
abbrev main_call6_v1 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_cst_8 : Ref sig .tc := ⟨.hbm, 109, rfl⟩
abbrev main_cst_9 : Ref sig .tc := ⟨.hbm, 110, rfl⟩
abbrev main_call7_v0 : Ref sig .tc := ⟨.hbm, 111, rfl⟩
abbrev main_call7_v1 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_cst_10 : Ref sig .tc := ⟨.hbm, 118, rfl⟩
abbrev main_cst_11 : Ref sig .tc := ⟨.hbm, 119, rfl⟩
abbrev main_call8_v0 : Ref sig .tc := ⟨.hbm, 120, rfl⟩
abbrev main_call8_v1 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_cst_12 : Ref sig .tc := ⟨.hbm, 128, rfl⟩
abbrev main_v33 : Ref sig .tc := ⟨.hbm, 129, rfl⟩
abbrev main_call9_v0 : Ref sig .tc := ⟨.hbm, 130, rfl⟩
abbrev main_call9_c : Ref sig .tc := ⟨.hbm, 131, rfl⟩
abbrev main_call9_v1 : Ref sig .tc := ⟨.hbm, 132, rfl⟩
abbrev main_call9_v2 : Ref sig .tc := ⟨.hbm, 133, rfl⟩
abbrev main_call9_v3 : Ref sig .tc := ⟨.hbm, 134, rfl⟩
abbrev main_call9_v4 : Ref sig .tc := ⟨.hbm, 135, rfl⟩
abbrev main_call9_cst : Ref sig .tc := ⟨.hbm, 136, rfl⟩
abbrev main_call9_v5 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_v44 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58_0 : Ref sig .tc := ⟨.hbm, 162, rfl⟩
abbrev main_v58_1 : Ref sig .tc := ⟨.hbm, 163, rfl⟩
abbrev main_v58_2 : Ref sig .tc := ⟨.hbm, 164, rfl⟩
abbrev main_v58_3 : Ref sig .tc := ⟨.hbm, 165, rfl⟩
abbrev main_v58_4 : Ref sig .tc := ⟨.hbm, 166, rfl⟩
abbrev main_v58_5 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v742 : BitVec 1 := Scalar.cmpi .eq arg0 c0_i32
  let v743 : BitVec 32 := Scalar.extui v742
  let c0_i32_229 : BitVec 32 := 0#32
  let v744 : BitVec 1 := Scalar.cmpi .ne v743 c0_i32_229
  v744

def k0_cond2 (i : grid0.Coords) : BitVec 1 :=
  let arg0 : BitVec 32 := BitVec.ofNat 32 (i 0).val
  let c0_i32 : BitVec 32 := 0#32
  let v742 : BitVec 1 := Scalar.cmpi .eq arg0 c0_i32
  let v_true : BitVec 1 := 1#1
  let v745 : BitVec 1 := Scalar.xori v742 v_true
  let v746 : BitVec 32 := Scalar.extui v745
  let c0_i32_230 : BitVec 32 := 0#32
  let v747 : BitVec 1 := Scalar.cmpi .ne v746 c0_i32_230
  v747

def k0_cond3 (i : grid0.Coords) : BitVec 1 :=
  let arg0 : BitVec 32 := BitVec.ofNat 32 (i 0).val
  let c0_i32 : BitVec 32 := 0#32
  let v742 : BitVec 1 := Scalar.cmpi .eq arg0 c0_i32
  let v751 : BitVec 32 := Scalar.extui v742
  let c0_i32_232 : BitVec 32 := 0#32
  let v752 : BitVec 1 := Scalar.cmpi .ne v751 c0_i32_232
  v752

def k0_cond4 (i : grid0.Coords) : BitVec 1 :=
  let arg0 : BitVec 32 := BitVec.ofNat 32 (i 0).val
  let c0_i32 : BitVec 32 := 0#32
  let v742 : BitVec 1 := Scalar.cmpi .eq arg0 c0_i32
  let true_233 : BitVec 1 := 1#1
  let v753 : BitVec 1 := Scalar.xori v742 true_233
  let v754 : BitVec 32 := Scalar.extui v753
  let c0_i32_234 : BitVec 32 := 0#32
  let v755 : BitVec 1 := Scalar.cmpi .ne v754 c0_i32_234
  v755

def k0_cond5 (i : grid0.Coords) : BitVec 1 :=
  let arg0 : BitVec 32 := BitVec.ofNat 32 (i 0).val
  let c0_i32 : BitVec 32 := 0#32
  let v742 : BitVec 1 := Scalar.cmpi .eq arg0 c0_i32
  let v758 : BitVec 32 := Scalar.extui v742
  let c0_i32_236 : BitVec 32 := 0#32
  let v759 : BitVec 1 := Scalar.cmpi .ne v758 c0_i32_236
  v759

def k0_cond6 (i : grid0.Coords) : BitVec 1 :=
  let arg0 : BitVec 32 := BitVec.ofNat 32 (i 0).val
  let c0_i32 : BitVec 32 := 0#32
  let v742 : BitVec 1 := Scalar.cmpi .eq arg0 c0_i32
  let true_237 : BitVec 1 := 1#1
  let v760 : BitVec 1 := Scalar.xori v742 true_237
  let v761 : BitVec 32 := Scalar.extui v760
  let c0_i32_238 : BitVec 32 := 0#32
  let v762 : BitVec 1 := Scalar.cmpi .ne v761 c0_i32_238
  v762

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GmlpIdeal.lean ====
variable {F : FTy → Type} [FloatOps F] [Named F]
def κ : String → Option EReal := fun
  | "cubic" => some ((8943 / 200000 : ℝ) : EReal)
  | "cubic_slope" => some ((26829 / 200000 : ℝ) : EReal)
  | _ => none
-- ==== GmlpRefIdeal.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x1024 : Shape := ⟨3, ![2, 2048, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x64 : Shape := ⟨2, ![8, 64]⟩
abbrev S8x128 : Shape := ⟨2, ![8, 128]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x16x128x8x64 : Shape := ⟨5, ![2, 16, 128, 8, 64]⟩
abbrev S8x2x16x64x128 : Shape := ⟨5, ![8, 2, 16, 64, 128]⟩
abbrev S128x8 : Shape := ⟨2, ![128, 8]⟩
abbrev S1x1x128x8x1 : Shape := ⟨5, ![1, 1, 128, 8, 1]⟩
abbrev S4096x512 : Shape := ⟨2, ![4096, 512]⟩
abbrev S1x512 : Shape := ⟨2, ![1, 512]⟩

abbrev nBuf : Space → Nat
  | .hbm => 232
  | .vmem => 0
  | .smem => 0
  | _ => 0

abbrev hbmTy0_0 (i : Nat) : BufTy := match i % 128 with
  | 0 => ⟨S2x2048x512, .f32⟩
  | 1 => ⟨S2x2048x512, .f32⟩
  | 2 => ⟨S1x8x64, .f32⟩
  | 3 => ⟨S1x8x64, .f32⟩
  | 4 => ⟨S1x8x128x128, .f32⟩
  | 5 => ⟨S1x8x128, .f32⟩
  | 6 => ⟨S2x2048x1024, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S1x128x128, .i1⟩
  | 19 => ⟨S8x128x128, .f32⟩
  | 20 => ⟨S_, .f32⟩
  | 21 => ⟨S_, .f32⟩
  | 22 => ⟨S8x128x128, .i1⟩
  | 23 => ⟨S8x128x128, .f32⟩
  | 24 => ⟨S8x128x128, .f32⟩
  | 25 => ⟨S8x64, .f32⟩
  | 26 => ⟨S8x64, .f32⟩
  | 27 => ⟨S8x128, .f32⟩
  | 28 => ⟨S_, .f32⟩
  | 29 => ⟨S_, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S_, .f32⟩
  | 55 => ⟨S2x2048x512, .f32⟩
  | 56 => ⟨S2x2048x512, .f32⟩
  | 57 => ⟨S2x2048x512, .f32⟩
  | 58 => ⟨S_, .f32⟩
  | 59 => ⟨S_, .f32⟩
  | 60 => ⟨S_, .f32⟩
  | 61 => ⟨S2x2048x512, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S2x2048x512, .f32⟩
  | 68 => ⟨S2x2048x512, .f32⟩
  | 69 => ⟨S2x2048x512, .f32⟩
  | 70 => ⟨S_, .f32⟩
  | 71 => ⟨S2x2048x512, .f32⟩
  | 72 => ⟨S2x2048x512, .f32⟩
  | 73 => ⟨S2x2048x512, .f32⟩
  | 74 => ⟨S_, .f32⟩
  | 75 => ⟨S2x2048x512, .f32⟩
  | 76 => ⟨S2x2048x512, .f32⟩
  | 77 => ⟨S_, .f32⟩
  | 78 => ⟨S2x2048x512, .f32⟩
  | 79 => ⟨S2x2048x512, .f32⟩
  | 80 => ⟨S2x2048x512, .f32⟩
  | 81 => ⟨S_, .f32⟩
  | 82 => ⟨S2x2048x512, .f32⟩
  | 83 => ⟨S2x2048x512, .f32⟩
  | 84 => ⟨S_, .f32⟩
  | 85 => ⟨S2x2048x512, .f32⟩
  | 86 => ⟨S2x2048x512, .f32⟩
  | 87 => ⟨S2x2048x512, .f32⟩
  | 88 => ⟨S2x2048x8x64, .f32⟩
  | 89 => ⟨S_, .f32⟩
  | 90 => ⟨S2x2048x8, .f32⟩
  | 91 => ⟨S2x2048x8x1, .f32⟩
  | 92 => ⟨S_, .f32⟩
  | 93 => ⟨S2x2048x8x1, .f32⟩
  | 94 => ⟨S2x2048x8x1, .f32⟩
  | 95 => ⟨S2x2048x8x64, .f32⟩
  | 96 => ⟨S2x2048x8x64, .f32⟩
  | 97 => ⟨S2x2048x8x64, .f32⟩
  | 98 => ⟨S_, .f32⟩
  | 99 => ⟨S2x2048x8x64, .f32⟩
  | 100 => ⟨S2x2048x8x64, .f32⟩
  | 101 => ⟨S_, .f32⟩
  | 102 => ⟨S2x2048x8, .f32⟩
  | 103 => ⟨S2x2048x8x1, .f32⟩
  | 104 => ⟨S_, .f32⟩
  | 105 => ⟨S2x2048x8x1, .f32⟩
  | 106 => ⟨S2x2048x8x1, .f32⟩
  | 107 => ⟨S2x2048x8x64, .f32⟩
  | 108 => ⟨S2x2048x8x64, .f32⟩
  | 109 => ⟨S_, .f32⟩
  | 110 => ⟨S2x2048x8x1, .f32⟩
  | 111 => ⟨S2x2048x8x1, .f32⟩
  | 112 => ⟨S2x2048x8x1, .f32⟩
  | 113 => ⟨S2x2048x8x1, .f32⟩
  | 114 => ⟨S_, .f32⟩
  | 115 => ⟨S2x2048x8x1, .f32⟩
  | 116 => ⟨S2x2048x8x1, .f32⟩
  | 117 => ⟨S2x2048x8x64, .f32⟩
  | 118 => ⟨S2x2048x8x64, .f32⟩
  | 119 => ⟨S1x1x8x64, .f32⟩
  | 120 => ⟨S2x2048x8x64, .f32⟩
  | 121 => ⟨S2x2048x8x64, .f32⟩
  | 122 => ⟨S1x1x8x64, .f32⟩
  | 123 => ⟨S2x2048x8x64, .f32⟩
  | 124 => ⟨S2x2048x8x64, .f32⟩
  | 125 => ⟨S2x16x128x8x64, .f32⟩
  | 126 => ⟨S8x2x16x64x128, .f32⟩
  | 127 => ⟨S2x16x128x8x64, .f32⟩
  | _ => ⟨S2x2048x512, .f32⟩

abbrev hbmTy0_1 (i : Nat) : BufTy := match i % 128 with
  | 0 => ⟨S128x8, .f32⟩
  | 1 => ⟨S1x1x128x8x1, .f32⟩
  | 2 => ⟨S2x16x128x8x64, .f32⟩
  | 3 => ⟨S2x16x128x8x64, .f32⟩
  | 4 => ⟨S2x2048x512, .f32⟩
  | 5 => ⟨S2x2048x512, .f32⟩
  | 6 => ⟨S2x2048x512, .f32⟩
  | 7 => ⟨S2x2048x512, .f32⟩
  | 8 => ⟨S2x2048x512, .f32⟩
  | 9 => ⟨S2x16x128x8x64, .f32⟩
  | 10 => ⟨S_, .f32⟩
  | 11 => ⟨S128x8, .f32⟩
  | 12 => ⟨S1x1x128x8x1, .f32⟩
  | 13 => ⟨S_, .f32⟩
  | 14 => ⟨S128x8, .f32⟩
  | 15 => ⟨S8x128, .f32⟩
  | 16 => ⟨S8x2x16x64x128, .f32⟩
  | 17 => ⟨S8x128x128, .f32⟩
  | 18 => ⟨S8x2x16x64x128, .f32⟩
  | 19 => ⟨S2x16x128x8x64, .f32⟩
  | 20 => ⟨S2x2048x8x64, .f32⟩
  | 21 => ⟨S_, .f32⟩
  | 22 => ⟨S8x64, .f32⟩
  | 23 => ⟨S1x1x8x64, .f32⟩
  | 24 => ⟨S_, .f32⟩
  | 25 => ⟨S8x64, .f32⟩
  | 26 => ⟨S2x2048x8x64, .f32⟩
  | 27 => ⟨S_, .f32⟩
  | 28 => ⟨S8x64, .f32⟩
  | 29 => ⟨S1x1x8x64, .f32⟩
  | 30 => ⟨S2x2048x8x64, .f32⟩
  | 31 => ⟨S2x2048x8x64, .f32⟩
  | 32 => ⟨S_, .f32⟩
  | 33 => ⟨S8x64, .f32⟩
  | 34 => ⟨S2x2048x8x64, .f32⟩
  | 35 => ⟨S_, .f32⟩
  | 36 => ⟨S2x2048x8, .f32⟩
  | 37 => ⟨S2x2048x8x1, .f32⟩
  | 38 => ⟨S2x2048x8x64, .f32⟩
  | 39 => ⟨S2x2048x8x64, .f32⟩
  | 40 => ⟨S2x2048x8x1, .f32⟩
  | 41 => ⟨S2x2048x8x64, .f32⟩
  | 42 => ⟨S_, .f32⟩
  | 43 => ⟨S2x2048x8, .f32⟩
  | 44 => ⟨S2x2048x8x1, .f32⟩
  | 45 => ⟨S_, .f32⟩
  | 46 => ⟨S2x2048x8x1, .f32⟩
  | 47 => ⟨S2x2048x8x1, .f32⟩
  | 48 => ⟨S_, .f32⟩
  | 49 => ⟨S2x2048x8, .f32⟩
  | 50 => ⟨S2x2048x8x64, .f32⟩
  | 51 => ⟨S2x2048x8x64, .f32⟩
  | 52 => ⟨S2x2048x8x64, .f32⟩
  | 53 => ⟨S_, .f32⟩
  | 54 => ⟨S2x2048x8, .f32⟩
  | 55 => ⟨S2x2048x8x1, .f32⟩
  | 56 => ⟨S2x2048x8x64, .f32⟩
  | 57 => ⟨S2x2048x8x1, .f32⟩
  | 58 => ⟨S_, .f32⟩
  | 59 => ⟨S2x2048x8x1, .f32⟩
  | 60 => ⟨S2x2048x8x1, .f32⟩
  | 61 => ⟨S_, .f32⟩
  | 62 => ⟨S2x2048x8, .f32⟩
  | 63 => ⟨S2x2048x8x64, .f32⟩
  | 64 => ⟨S2x2048x8x64, .f32⟩
  | 65 => ⟨S2x2048x512, .f32⟩
  | 66 => ⟨S2x2048x512, .f32⟩
  | 67 => ⟨S2x2048x512, .f32⟩
  | 68 => ⟨S_, .f32⟩
  | 69 => ⟨S2x2048x512, .f32⟩
  | 70 => ⟨S2x2048x512, .f32⟩
  | 71 => ⟨S2x2048x512, .f32⟩
  | 72 => ⟨S_, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S2x2048x512, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S2x2048x512, .f32⟩
  | 86 => ⟨S_, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S2x2048x512, .f32⟩
  | 93 => ⟨S2x2048x512, .f32⟩
  | 94 => ⟨S4096x512, .f32⟩
  | 95 => ⟨S4096x512, .bf16⟩
  | 96 => ⟨S4096x512, .f32⟩
  | 97 => ⟨S4096x512, .bf16⟩
  | 98 => ⟨S128x8, .f32⟩
  | 99 => ⟨S_, .i32⟩
  | 100 => ⟨S_, .f32⟩
  | 101 => ⟨S128x128, .f32⟩
  | 102 => ⟨S1x512, .f32⟩
  | 103 => ⟨S1x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_cst_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_11 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_cst_17 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_18 : Ref sig .tc := ⟨.hbm, 98, rfl⟩
abbrev main_v60 : Ref sig .tc := ⟨.hbm, 99, rfl⟩
abbrev main_v61 : Ref sig .tc := ⟨.hbm, 100, rfl⟩
abbrev main_cst_19 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_22 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_23 : Ref sig .tc := ⟨.hbm, 138, rfl⟩
abbrev main_v95 : Ref sig .tc := ⟨.hbm, 139, rfl⟩
abbrev main_v96 : Ref sig .tc := ⟨.hbm, 140, rfl⟩
abbrev main_cst_24 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_25 : Ref sig .tc := ⟨.hbm, 149, rfl⟩
abbrev main_v104 : Ref sig .tc := ⟨.hbm, 150, rfl⟩
abbrev main_v105 : Ref sig .tc := ⟨.hbm, 151, rfl⟩
abbrev main_cst_26 : Ref sig .tc := ⟨.hbm, 152, rfl⟩
abbrev main_v106 : Ref sig .tc := ⟨.hbm, 153, rfl⟩
abbrev main_v107 : Ref sig .tc := ⟨.hbm, 154, rfl⟩
abbrev main_cst_27 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_28 : Ref sig .tc := ⟨.hbm, 160, rfl⟩
abbrev main_v112 : Ref sig .tc := ⟨.hbm, 161, rfl⟩
abbrev main_v113 : Ref sig .tc := ⟨.hbm, 162, rfl⟩
abbrev main_cst_29 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_30 : Ref sig .tc := ⟨.hbm, 170, rfl⟩
abbrev main_v120 : Ref sig .tc := ⟨.hbm, 171, rfl⟩
abbrev main_v121 : Ref sig .tc := ⟨.hbm, 172, rfl⟩
abbrev main_cst_31 : Ref sig .tc := ⟨.hbm, 173, rfl⟩
abbrev main_v122 : Ref sig .tc := ⟨.hbm, 174, rfl⟩
abbrev main_v123 : Ref sig .tc := ⟨.hbm, 175, rfl⟩
abbrev main_cst_32 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_33 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_34 : Ref sig .tc := ⟨.hbm, 186, rfl⟩
abbrev main_v132 : Ref sig .tc := ⟨.hbm, 187, rfl⟩
abbrev main_v133 : Ref sig .tc := ⟨.hbm, 188, rfl⟩
abbrev main_cst_35 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_36 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_37 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_38 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_39 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_c_40 : Ref sig .tc := ⟨.hbm, 227, rfl⟩
abbrev main_call2_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩

abbrev nD : Nat := 1
abbrev τ : Topo := Topo.v7x

variable {F : FTy → Type} [FloatOps F]
-- ==== Gfwd.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S256x256 : Shape := ⟨2, ![256, 256]⟩
abbrev S_ : Shape := ⟨0, ![]⟩
abbrev S128x512 : Shape := ⟨2, ![128, 512]⟩
abbrev S512x128 : Shape := ⟨2, ![512, 128]⟩
abbrev S128x128 : Shape := ⟨2, ![128, 128]⟩
abbrev S8x64 : Shape := ⟨2, ![8, 64]⟩
abbrev S8x128x128 : Shape := ⟨3, ![8, 128, 128]⟩
abbrev S8x128 : Shape := ⟨2, ![8, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S1x512 : Shape := ⟨2, ![1, 512]⟩
abbrev S4096x512 : Shape := ⟨2, ![4096, 512]⟩
abbrev S512x512 : Shape := ⟨2, ![512, 512]⟩
abbrev S1x128 : Shape := ⟨2, ![1, 128]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 160
  | .vmem => 11
  | .smem => 0
  | _ => 0

abbrev hbmTy0_0 (i : Nat) : BufTy := match i % 128 with
  | 0 => ⟨S2x2048x512, .f32⟩
  | 1 => ⟨S2x2048x512, .f32⟩
  | 2 => ⟨S1x8x64, .f32⟩
  | 3 => ⟨S1x8x64, .f32⟩
  | 4 => ⟨S1x8x128x128, .f32⟩
  | 5 => ⟨S1x8x128, .f32⟩
  | 6 => ⟨S256x256, .i32⟩
  | 7 => ⟨S_, .i32⟩
  | 8 => ⟨S_, .i32⟩
  | 9 => ⟨S256x256, .i32⟩
  | 10 => ⟨S256x256, .i32⟩
  | 11 => ⟨S256x256, .i32⟩
  | 12 => ⟨S_, .i32⟩
  | 13 => ⟨S256x256, .i32⟩
  | 14 => ⟨S256x256, .i1⟩
  | 15 => ⟨S256x256, .i32⟩
  | 16 => ⟨S256x256, .i32⟩
  | 17 => ⟨S_, .i32⟩
  | 18 => ⟨S256x256, .i32⟩
  | 19 => ⟨S256x256, .i1⟩
  | 20 => ⟨S256x256, .i1⟩
  | 21 => ⟨S_, .i32⟩
  | 22 => ⟨S256x256, .i32⟩
  | 23 => ⟨S256x256, .i32⟩
  | 24 => ⟨S256x256, .i32⟩
  | 25 => ⟨S256x256, .i32⟩
  | 26 => ⟨S_, .i32⟩
  | 27 => ⟨S_, .i32⟩
  | 28 => ⟨S256x256, .i32⟩
  | 29 => ⟨S256x256, .i32⟩
  | 30 => ⟨S256x256, .i32⟩
  | 31 => ⟨S_, .i32⟩
  | 32 => ⟨S256x256, .i32⟩
  | 33 => ⟨S256x256, .i1⟩
  | 34 => ⟨S256x256, .i32⟩
  | 35 => ⟨S256x256, .i32⟩
  | 36 => ⟨S_, .i32⟩
  | 37 => ⟨S256x256, .i32⟩
  | 38 => ⟨S256x256, .i1⟩
  | 39 => ⟨S256x256, .i1⟩
  | 40 => ⟨S_, .i32⟩
  | 41 => ⟨S256x256, .i32⟩
  | 42 => ⟨S256x256, .i32⟩
  | 43 => ⟨S256x256, .i32⟩
  | 44 => ⟨S256x256, .i1⟩
  | 45 => ⟨S_, .f32⟩
  | 46 => ⟨S_, .f32⟩
  | 47 => ⟨S256x256, .f32⟩
  | 48 => ⟨S256x256, .f32⟩
  | 49 => ⟨S256x256, .f32⟩
  | 50 => ⟨S256x256, .bf16⟩
  | 51 => ⟨S128x512, .i32⟩
  | 52 => ⟨S128x512, .i32⟩
  | 53 => ⟨S_, .i32⟩
  | 54 => ⟨S_, .i32⟩
  | 55 => ⟨S128x512, .i32⟩
  | 56 => ⟨S128x512, .i32⟩
  | 57 => ⟨S128x512, .i32⟩
  | 58 => ⟨S_, .i32⟩
  | 59 => ⟨S128x512, .i32⟩
  | 60 => ⟨S128x512, .i1⟩
  | 61 => ⟨S128x512, .i32⟩
  | 62 => ⟨S128x512, .i32⟩
  | 63 => ⟨S_, .i32⟩
  | 64 => ⟨S128x512, .i32⟩
  | 65 => ⟨S128x512, .i1⟩
  | 66 => ⟨S128x512, .i1⟩
  | 67 => ⟨S_, .i32⟩
  | 68 => ⟨S128x512, .i32⟩
  | 69 => ⟨S128x512, .i32⟩
  | 70 => ⟨S128x512, .i32⟩
  | 71 => ⟨S128x512, .i1⟩
  | 72 => ⟨S_, .f32⟩
  | 73 => ⟨S_, .f32⟩
  | 74 => ⟨S128x512, .f32⟩
  | 75 => ⟨S128x512, .f32⟩
  | 76 => ⟨S128x512, .f32⟩
  | 77 => ⟨S128x512, .bf16⟩
  | 78 => ⟨S512x128, .i32⟩
  | 79 => ⟨S_, .i32⟩
  | 80 => ⟨S_, .i32⟩
  | 81 => ⟨S512x128, .i32⟩
  | 82 => ⟨S512x128, .i32⟩
  | 83 => ⟨S512x128, .i32⟩
  | 84 => ⟨S_, .i32⟩
  | 85 => ⟨S512x128, .i32⟩
  | 86 => ⟨S512x128, .i1⟩
  | 87 => ⟨S512x128, .i32⟩
  | 88 => ⟨S512x128, .i32⟩
  | 89 => ⟨S_, .i32⟩
  | 90 => ⟨S512x128, .i32⟩
  | 91 => ⟨S512x128, .i1⟩
  | 92 => ⟨S512x128, .i1⟩
  | 93 => ⟨S_, .i32⟩
  | 94 => ⟨S512x128, .i32⟩
  | 95 => ⟨S512x128, .i32⟩
  | 96 => ⟨S512x128, .i32⟩
  | 97 => ⟨S512x128, .i32⟩
  | 98 => ⟨S512x128, .i1⟩
  | 99 => ⟨S_, .f32⟩
  | 100 => ⟨S_, .f32⟩
  | 101 => ⟨S512x128, .f32⟩
  | 102 => ⟨S512x128, .f32⟩
  | 103 => ⟨S512x128, .f32⟩
  | 104 => ⟨S512x128, .bf16⟩
  | 105 => ⟨S128x128, .i32⟩
  | 106 => ⟨S128x128, .i32⟩
  | 107 => ⟨S128x128, .i1⟩
  | 108 => ⟨S_, .f32⟩
  | 109 => ⟨S_, .f32⟩
  | 110 => ⟨S128x128, .f32⟩
  | 111 => ⟨S128x128, .f32⟩
  | 112 => ⟨S128x128, .f32⟩
  | 113 => ⟨S128x128, .bf16⟩
  | 114 => ⟨S128x128, .i32⟩
  | 115 => ⟨S128x128, .i32⟩
  | 116 => ⟨S128x128, .i1⟩
  | 117 => ⟨S_, .f32⟩
  | 118 => ⟨S_, .f32⟩
  | 119 => ⟨S128x128, .f32⟩
  | 120 => ⟨S128x128, .f32⟩
  | 121 => ⟨S128x128, .f32⟩
  | 122 => ⟨S128x128, .bf16⟩
  | 123 => ⟨S8x64, .f32⟩
  | 124 => ⟨S8x64, .f32⟩
  | 125 => ⟨S8x128x128, .f32⟩
  | 126 => ⟨S8x128, .f32⟩
  | 127 => ⟨S_, .f32⟩
  | _ => ⟨S2x2048x512, .f32⟩

abbrev hbmTy0_1 (i : Nat) : BufTy := match i % 128 with
  | 0 => ⟨S128x128, .f32⟩
  | 1 => ⟨S128x128, .i32⟩
  | 2 => ⟨S_, .i32⟩
  | 3 => ⟨S128x128, .i32⟩
  | 4 => ⟨S128x128, .i32⟩
  | 5 => ⟨S128x128, .i32⟩
  | 6 => ⟨S128x128, .i1⟩
  | 7 => ⟨S_, .f32⟩
  | 8 => ⟨S128x128, .f32⟩
  | 9 => ⟨S128x128, .f32⟩
  | 10 => ⟨S1x128x128, .f32⟩
  | 11 => ⟨S8x128x128, .f32⟩
  | 12 => ⟨S8x128x128, .f32⟩
  | 13 => ⟨S4x2x128x128, .f32⟩
  | 14 => ⟨S4x128x2x128, .f32⟩
  | 15 => ⟨S4x128x256, .f32⟩
  | 16 => ⟨S4x128x256, .bf16⟩
  | 17 => ⟨S8x128x128, .f32⟩
  | 18 => ⟨S4x2x128x128, .f32⟩
  | 19 => ⟨S4x128x2x128, .f32⟩
  | 20 => ⟨S4x128x256, .f32⟩
  | 21 => ⟨S4x128x256, .bf16⟩
  | 22 => ⟨S128x8, .f32⟩
  | 23 => ⟨S128x8x64, .f32⟩
  | 24 => ⟨S128x512, .f32⟩
  | 25 => ⟨S1x512, .f32⟩
  | 26 => ⟨S1x512, .f32⟩
  | 27 => ⟨S4096x512, .f32⟩
  | 28 => ⟨S4096x512, .bf16⟩
  | 29 => ⟨S4096x512, .f32⟩
  | 30 => ⟨S4096x512, .bf16⟩
  | 31 => ⟨S4096x512, .bf16⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x256, .bf16⟩
  | .local _ .vmem, ⟨7, _⟩ => ⟨S128x512, .f32⟩
  | .local _ .vmem, ⟨8, _⟩ => ⟨S256x256, .bf16⟩
  | .local _ .vmem, ⟨9, _⟩ => ⟨S512x512, .bf16⟩
  | .local _ .vmem, ⟨10, _⟩ => ⟨S512x512, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_c_2 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_c : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_0 : Ref sig .tc := ⟨.hbm, 67, rfl⟩
abbrev main_call3_v12 : Ref sig .tc := ⟨.hbm, 68, rfl⟩
abbrev main_call3_v13 : Ref sig .tc := ⟨.hbm, 69, rfl⟩
abbrev main_v9 : Ref sig .tc := ⟨.hbm, 70, rfl⟩
abbrev main_v10 : Ref sig .tc := ⟨.hbm, 71, rfl⟩
abbrev main_cst_3 : Ref sig .tc := ⟨.hbm, 72, rfl⟩
abbrev main_cst_4 : Ref sig .tc := ⟨.hbm, 73, rfl⟩
abbrev main_call4_v0 : Ref sig .tc := ⟨.hbm, 74, rfl⟩
abbrev main_call4_v1 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_c_5 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_v5 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_c : Ref sig .tc := ⟨.hbm, 89, rfl⟩
abbrev main_call5_v9 : Ref sig .tc := ⟨.hbm, 90, rfl⟩
abbrev main_call5_v10 : Ref sig .tc := ⟨.hbm, 91, rfl⟩
abbrev main_call5_v11 : Ref sig .tc := ⟨.hbm, 92, rfl⟩
abbrev main_call5_c_0 : Ref sig .tc := ⟨.hbm, 93, rfl⟩
abbrev main_call5_v12 : Ref sig .tc := ⟨.hbm, 94, rfl⟩
abbrev main_call5_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_cst_6 : Ref sig .tc := ⟨.hbm, 99, rfl⟩
abbrev main_cst_7 : Ref sig .tc := ⟨.hbm, 100, rfl⟩
abbrev main_call6_v0 : Ref sig .tc := ⟨.hbm, 101, rfl⟩
abbrev main_call6_v1 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_cst_8 : Ref sig .tc := ⟨.hbm, 108, rfl⟩
abbrev main_cst_9 : Ref sig .tc := ⟨.hbm, 109, rfl⟩
abbrev main_call7_v0 : Ref sig .tc := ⟨.hbm, 110, rfl⟩
abbrev main_call7_v1 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_cst_10 : Ref sig .tc := ⟨.hbm, 117, rfl⟩
abbrev main_cst_11 : Ref sig .tc := ⟨.hbm, 118, rfl⟩
abbrev main_call8_v0 : Ref sig .tc := ⟨.hbm, 119, rfl⟩
abbrev main_call8_v1 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_cst_12 : Ref sig .tc := ⟨.hbm, 127, rfl⟩
abbrev main_v33 : Ref sig .tc := ⟨.hbm, 128, rfl⟩
abbrev main_call9_v0 : Ref sig .tc := ⟨.hbm, 129, rfl⟩
abbrev main_call9_c : Ref sig .tc := ⟨.hbm, 130, rfl⟩
abbrev main_call9_v1 : Ref sig .tc := ⟨.hbm, 131, rfl⟩
abbrev main_call9_v2 : Ref sig .tc := ⟨.hbm, 132, rfl⟩
abbrev main_call9_v3 : Ref sig .tc := ⟨.hbm, 133, rfl⟩
abbrev main_call9_v4 : Ref sig .tc := ⟨.hbm, 134, rfl⟩
abbrev main_call9_cst : Ref sig .tc := ⟨.hbm, 135, rfl⟩
abbrev main_call9_v5 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GfwdIdeal.lean ====
variable {F : FTy → Type} [FloatOps F] [Named F]
def κ : String → Option EReal := fun
  | "cubic" => some ((8943 / 200000 : ℝ) : EReal)
  | "cubic_slope" => some ((26829 / 200000 : ℝ) : EReal)
  | _ => none
-- ==== GfwdRefIdeal.lean ====
abbrev S2x2048x512 : Shape := ⟨3, ![2, 2048, 512]⟩
abbrev S1x8x64 : Shape := ⟨3, ![1, 8, 64]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x64 : Shape := ⟨2, ![8, 64]⟩
abbrev S8x128 : Shape := ⟨2, ![8, 128]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x16x128x8x64 : Shape := ⟨5, ![2, 16, 128, 8, 64]⟩
abbrev S8x2x16x64x128 : Shape := ⟨5, ![8, 2, 16, 64, 128]⟩
abbrev S128x8 : Shape := ⟨2, ![128, 8]⟩
abbrev S1x1x128x8x1 : Shape := ⟨5, ![1, 1, 128, 8, 1]⟩
abbrev S4096x512 : Shape := ⟨2, ![4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x8x64, .f32⟩
  | .hbm, ⟨3, _⟩ => ⟨S1x8x64, .f32⟩
  | .hbm, ⟨4, _⟩ => ⟨S1x8x128x128, .f32⟩
  | .hbm, ⟨5, _⟩ => ⟨S1x8x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S8x128x128, .f32⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x64, .f32⟩
  | .hbm, ⟨25, _⟩ => ⟨S8x64, .f32⟩
  | .hbm, ⟨26, _⟩ => ⟨S8x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S_, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S_, .f32⟩
  | .hbm, ⟨40, _⟩ => ⟨S2x2048x512, .f32⟩
  | .hbm, ⟨41, _⟩ => ⟨S2x2048x512, .f32⟩
  | .hbm, ⟨42, _⟩ => ⟨S_, .f32⟩
  | .hbm, ⟨43, _⟩ => ⟨S2x2048x512, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x2048x512, .f32⟩
  | .hbm, ⟨50, _⟩ => ⟨S2x2048x512, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S_, .f32⟩
  | .hbm, ⟨55, _⟩ => ⟨S2x2048x512, .f32⟩
  | .hbm, ⟨56, _⟩ => ⟨S2x2048x512, .f32⟩
  | .hbm, ⟨57, _⟩ => ⟨S2x2048x512, .f32⟩
  | .hbm, ⟨58, _⟩ => ⟨S_, .f32⟩
  | .hbm, ⟨59, _⟩ => ⟨S2x2048x512, .f32⟩
  | .hbm, ⟨60, _⟩ => ⟨S2x2048x512, .f32⟩
  | .hbm, ⟨61, _⟩ => ⟨S_, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S2x2048x8x64, .f32⟩
  | .hbm, ⟨66, _⟩ => ⟨S_, .f32⟩
  | .hbm, ⟨67, _⟩ => ⟨S2x2048x8, .f32⟩
  | .hbm, ⟨68, _⟩ => ⟨S2x2048x8x1, .f32⟩
  | .hbm, ⟨69, _⟩ => ⟨S_, .f32⟩
  | .hbm, ⟨70, _⟩ => ⟨S2x2048x8x1, .f32⟩
  | .hbm, ⟨71, _⟩ => ⟨S2x2048x8x1, .f32⟩
  | .hbm, ⟨72, _⟩ => ⟨S2x2048x8x64, .f32⟩
  | .hbm, ⟨73, _⟩ => ⟨S2x2048x8x64, .f32⟩
  | .hbm, ⟨74, _⟩ => ⟨S2x2048x8x64, .f32⟩
  | .hbm, ⟨75, _⟩ => ⟨S_, .f32⟩
  | .hbm, ⟨76, _⟩ => ⟨S2x2048x8, .f32⟩
  | .hbm, ⟨77, _⟩ => ⟨S2x2048x8x1, .f32⟩
  | .hbm, ⟨78, _⟩ => ⟨S_, .f32⟩
  | .hbm, ⟨79, _⟩ => ⟨S2x2048x8x1, .f32⟩
  | .hbm, ⟨80, _⟩ => ⟨S2x2048x8x1, .f32⟩
  | .hbm, ⟨81, _⟩ => ⟨S2x2048x8x64, .f32⟩
  | .hbm, ⟨82, _⟩ => ⟨S2x2048x8x64, .f32⟩
  | .hbm, ⟨83, _⟩ => ⟨S_, .f32⟩
  | .hbm, ⟨84, _⟩ => ⟨S2x2048x8x1, .f32⟩
  | .hbm, ⟨85, _⟩ => ⟨S2x2048x8x1, .f32⟩
  | .hbm, ⟨86, _⟩ => ⟨S2x2048x8x1, .f32⟩
  | .hbm, ⟨87, _⟩ => ⟨S2x2048x8x64, .f32⟩
  | .hbm, ⟨88, _⟩ => ⟨S2x2048x8x64, .f32⟩
  | .hbm, ⟨89, _⟩ => ⟨S1x1x8x64, .f32⟩
  | .hbm, ⟨90, _⟩ => ⟨S2x2048x8x64, .f32⟩
  | .hbm, ⟨91, _⟩ => ⟨S2x2048x8x64, .f32⟩
  | .hbm, ⟨92, _⟩ => ⟨S1x1x8x64, .f32⟩
  | .hbm, ⟨93, _⟩ => ⟨S2x2048x8x64, .f32⟩
  | .hbm, ⟨94, _⟩ => ⟨S2x2048x8x64, .f32⟩
  | .hbm, ⟨95, _⟩ => ⟨S2x16x128x8x64, .f32⟩
  | .hbm, ⟨96, _⟩ => ⟨S8x2x16x64x128, .f32⟩
  | .hbm, ⟨97, _⟩ => ⟨S2x16x128x8x64, .f32⟩
  | .hbm, ⟨98, _⟩ => ⟨S128x8, .f32⟩
  | .hbm, ⟨99, _⟩ => ⟨S1x1x128x8x1, .f32⟩
  | .hbm, ⟨100, _⟩ => ⟨S2x16x128x8x64, .f32⟩
  | .hbm, ⟨101, _⟩ => ⟨S2x16x128x8x64, .f32⟩
  | .hbm, ⟨102, _⟩ => ⟨S2x2048x512, .f32⟩
  | .hbm, ⟨103, _⟩ => ⟨S2x2048x512, .f32⟩
  | .hbm, ⟨104, _⟩ => ⟨S4096x512, .f32⟩
  | .hbm, ⟨105, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_12 : Ref sig .tc := ⟨.hbm, 75, rfl⟩
abbrev main_v44 : Ref sig .tc := ⟨.hbm, 76, rfl⟩
abbrev main_v45 : Ref sig .tc := ⟨.hbm, 77, rfl⟩
abbrev main_cst_13 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Out.lean ====
abbrev S2x2048x512 : Shape := ⟨3, ![2, 2048, 512]⟩
abbrev S1x1024x1024 : Shape := ⟨3, ![1, 1024, 1024]⟩
abbrev S2x2048x1024 : Shape := ⟨3, ![2, 2048, 1024]⟩
abbrev S1x1024 : Shape := ⟨2, ![1, 1024]⟩
abbrev S4096x512 : Shape := ⟨2, ![4096, 512]⟩
abbrev S1024x1024 : Shape := ⟨2, ![1024, 1024]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x1024x1024, .f32⟩
  | .hbm, ⟨3, _⟩ => ⟨S2x2048x1024, .f32⟩
  | .hbm, ⟨4, _⟩ => ⟨S1x1024, .f32⟩
  | .hbm, ⟨5, _⟩ => ⟨S1x1024, .f32⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S1024x1024, .f32⟩
  | .hbm, ⟨11, _⟩ => ⟨S1024x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S2x2048x512 : Shape := ⟨3, ![2, 2048, 512]⟩
abbrev S1x1024x1024 : Shape := ⟨3, ![1, 1024, 1024]⟩
abbrev S2x2048x1024 : Shape := ⟨3, ![2, 2048, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x1024x1024, .f32⟩
  | .hbm, ⟨3, _⟩ => ⟨S2x2048x1024, .f32⟩
  | .hbm, ⟨4, _⟩ => ⟨S1x1024, .f32⟩
  | .hbm, ⟨5, _⟩ => ⟨S1x1024, .f32⟩
  | .hbm, ⟨6, _⟩ => ⟨S2x2048x1024, .f32⟩
  | .hbm, ⟨7, _⟩ => ⟨S1024x1024, .f32⟩
  | .hbm, ⟨8, _⟩ => ⟨S2x2048x1024, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S4096x1024, .f32⟩
  | .hbm, ⟨28, _⟩ => ⟨S4096x1024, .f32⟩
  | .hbm, ⟨29, _⟩ => ⟨S1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Prenorm.lean ====
abbrev S2x2048x1024 : Shape := ⟨3, ![2, 2048, 1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Sfwd.lean ====
abbrev S2x2048x512 : Shape := ⟨3, ![2, 2048, 512]⟩
abbrev S2x2048x1024 : Shape := ⟨3, ![2, 2048, 1024]⟩
abbrev S2x2048x8 : Shape := ⟨3, ![2, 2048, 8]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S256x256 : Shape := ⟨2, ![256, 256]⟩
abbrev S_ : Shape := ⟨0, ![]⟩
abbrev S128x512 : Shape := ⟨2, ![128, 512]⟩
abbrev S512x128 : Shape := ⟨2, ![512, 128]⟩
abbrev S128x128 : Shape := ⟨2, ![128, 128]⟩
abbrev S1x128 : Shape := ⟨2, ![1, 128]⟩
abbrev S1x8x64 : Shape := ⟨3, ![1, 8, 64]⟩
abbrev S4096x512 : Shape := ⟨2, ![4096, 512]⟩
abbrev S4096x1024 : Shape := ⟨2, ![4096, 1024]⟩
abbrev S4096x8 : Shape := ⟨2, ![4096, 8]⟩
abbrev S4096x128 : Shape := ⟨2, ![4096, 128]⟩
abbrev S4x1024 : Shape := ⟨2, ![4, 1024]⟩
abbrev S2x2048x128 : Shape := ⟨3, ![2, 2048, 128]⟩
abbrev S2x16x128x512 : Shape := ⟨4, ![2, 16, 128, 512]⟩
abbrev S2x128x512 : Shape := ⟨3, ![2, 128, 512]⟩
abbrev S2x128x1024 : Shape := ⟨3, ![2, 128, 1024]⟩
abbrev S2x8x1024 : Shape := ⟨3, ![2, 8, 1024]⟩
abbrev S2x128x128 : Shape := ⟨3, ![2, 128, 128]⟩
abbrev S2x1x128x512 : Shape := ⟨4, ![2, 1, 128, 512]⟩
abbrev S1x128x1024 : Shape := ⟨3, ![1, 128, 1024]⟩
abbrev S128x1024 : Shape := ⟨2, ![128, 1024]⟩
abbrev S1x8x1024 : Shape := ⟨3, ![1, 8, 1024]⟩
abbrev S8x1024 : Shape := ⟨2, ![8, 1024]⟩
abbrev S16x8x1024 : Shape := ⟨3, ![16, 8, 1024]⟩
abbrev S1x8x1 : Shape := ⟨3, ![1, 8, 1]⟩
abbrev S15x8x1024 : Shape := ⟨3, ![15, 8, 1024]⟩
abbrev S1x128x128 : Shape := ⟨3, ![1, 128, 128]⟩
abbrev S128x1 : Shape := ⟨2, ![128, 1]⟩
abbrev S1x1x128x512 : Shape := ⟨4, ![1, 1, 128, 512]⟩
abbrev S128x256 : Shape := ⟨2, ![128, 256]⟩
abbrev S256x128 : Shape := ⟨2, ![256, 128]⟩
abbrev S1x128x512 : Shape := ⟨3, ![1, 128, 512]⟩
abbrev S128 : Shape := ⟨1, ![128]⟩

abbrev nBuf : Space → Nat
  | .hbm => 147
  | .vmem => 26
  | .smem => 0
  | _ => 0

abbrev hbmTy0_0 (i : Nat) : BufTy := match i % 128 with
  | 0 => ⟨S2x2048x512, .f32⟩
  | 1 => ⟨S2x2048x1024, .f32⟩
  | 2 => ⟨S2x2048x8, .f32⟩
  | 3 => ⟨S1x4x1024, .f32⟩
  | 4 => ⟨S1x1024, .f32⟩
  | 5 => ⟨S1x8, .f32⟩
  | 6 => ⟨S1x8, .f32⟩
  | 7 => ⟨S1x8, .f32⟩
  | 8 => ⟨S1x512, .f32⟩
  | 9 => ⟨S256x256, .i32⟩
  | 10 => ⟨S_, .i32⟩
  | 11 => ⟨S_, .i32⟩
  | 12 => ⟨S256x256, .i32⟩
  | 13 => ⟨S256x256, .i32⟩
  | 14 => ⟨S256x256, .i32⟩
  | 15 => ⟨S_, .i32⟩
  | 16 => ⟨S256x256, .i32⟩
  | 17 => ⟨S256x256, .i1⟩
  | 18 => ⟨S256x256, .i32⟩
  | 19 => ⟨S256x256, .i32⟩
  | 20 => ⟨S_, .i32⟩
  | 21 => ⟨S256x256, .i32⟩
  | 22 => ⟨S256x256, .i1⟩
  | 23 => ⟨S256x256, .i1⟩
  | 24 => ⟨S_, .i32⟩
  | 25 => ⟨S256x256, .i32⟩
  | 26 => ⟨S256x256, .i32⟩
  | 27 => ⟨S256x256, .i32⟩
  | 28 => ⟨S256x256, .i32⟩
  | 29 => ⟨S_, .i32⟩
  | 30 => ⟨S_, .i32⟩
  | 31 => ⟨S256x256, .i32⟩
  | 32 => ⟨S256x256, .i32⟩
  | 33 => ⟨S256x256, .i32⟩
  | 34 => ⟨S_, .i32⟩
  | 35 => ⟨S256x256, .i32⟩
  | 36 => ⟨S256x256, .i1⟩
  | 37 => ⟨S256x256, .i32⟩
  | 38 => ⟨S256x256, .i32⟩
  | 39 => ⟨S_, .i32⟩
  | 40 => ⟨S256x256, .i32⟩
  | 41 => ⟨S256x256, .i1⟩
  | 42 => ⟨S256x256, .i1⟩
  | 43 => ⟨S_, .i32⟩
  | 44 => ⟨S256x256, .i32⟩
  | 45 => ⟨S256x256, .i32⟩
  | 46 => ⟨S256x256, .i32⟩
  | 47 => ⟨S256x256, .i1⟩
  | 48 => ⟨S_, .f32⟩
  | 49 => ⟨S_, .f32⟩
  | 50 => ⟨S256x256, .f32⟩
  | 51 => ⟨S256x256, .f32⟩
  | 52 => ⟨S256x256, .f32⟩
  | 53 => ⟨S256x256, .bf16⟩
  | 54 => ⟨S128x512, .i32⟩
  | 55 => ⟨S128x512, .i32⟩
  | 56 => ⟨S_, .i32⟩
  | 57 => ⟨S_, .i32⟩
  | 58 => ⟨S128x512, .i32⟩
  | 59 => ⟨S128x512, .i32⟩
  | 60 => ⟨S128x512, .i32⟩
  | 61 => ⟨S_, .i32⟩
  | 62 => ⟨S128x512, .i32⟩
  | 63 => ⟨S128x512, .i1⟩
  | 64 => ⟨S128x512, .i32⟩
  | 65 => ⟨S128x512, .i32⟩
  | 66 => ⟨S_, .i32⟩
  | 67 => ⟨S128x512, .i32⟩
  | 68 => ⟨S128x512, .i1⟩
  | 69 => ⟨S128x512, .i1⟩
  | 70 => ⟨S_, .i32⟩
  | 71 => ⟨S128x512, .i32⟩
  | 72 => ⟨S128x512, .i32⟩
  | 73 => ⟨S128x512, .i32⟩
  | 74 => ⟨S128x512, .i1⟩
  | 75 => ⟨S_, .f32⟩
  | 76 => ⟨S_, .f32⟩
  | 77 => ⟨S128x512, .f32⟩
  | 78 => ⟨S128x512, .f32⟩
  | 79 => ⟨S128x512, .f32⟩
  | 80 => ⟨S128x512, .bf16⟩
  | 81 => ⟨S512x128, .i32⟩
  | 82 => ⟨S_, .i32⟩
  | 83 => ⟨S_, .i32⟩
  | 84 => ⟨S512x128, .i32⟩
  | 85 => ⟨S512x128, .i32⟩
  | 86 => ⟨S512x128, .i32⟩
  | 87 => ⟨S_, .i32⟩
  | 88 => ⟨S512x128, .i32⟩
  | 89 => ⟨S512x128, .i1⟩
  | 90 => ⟨S512x128, .i32⟩
  | 91 => ⟨S512x128, .i32⟩
  | 92 => ⟨S_, .i32⟩
  | 93 => ⟨S512x128, .i32⟩
  | 94 => ⟨S512x128, .i1⟩
  | 95 => ⟨S512x128, .i1⟩
  | 96 => ⟨S_, .i32⟩
  | 97 => ⟨S512x128, .i32⟩
  | 98 => ⟨S512x128, .i32⟩
  | 99 => ⟨S512x128, .i32⟩
  | 100 => ⟨S512x128, .i32⟩
  | 101 => ⟨S512x128, .i1⟩
  | 102 => ⟨S_, .f32⟩
  | 103 => ⟨S_, .f32⟩
  | 104 => ⟨S512x128, .f32⟩
  | 105 => ⟨S512x128, .f32⟩
  | 106 => ⟨S512x128, .f32⟩
  | 107 => ⟨S512x128, .bf16⟩
  | 108 => ⟨S128x128, .i32⟩
  | 109 => ⟨S128x128, .i32⟩
  | 110 => ⟨S128x128, .i1⟩
  | 111 => ⟨S_, .f32⟩
  | 112 => ⟨S_, .f32⟩
  | 113 => ⟨S128x128, .f32⟩
  | 114 => ⟨S128x128, .f32⟩
  | 115 => ⟨S128x128, .f32⟩
  | 116 => ⟨S128x128, .bf16⟩
  | 117 => ⟨S128x128, .i32⟩
  | 118 => ⟨S128x128, .i32⟩
  | 119 => ⟨S128x128, .i1⟩
  | 120 => ⟨S_, .f32⟩
  | 121 => ⟨S_, .f32⟩
  | 122 => ⟨S128x128, .f32⟩
  | 123 => ⟨S128x128, .f32⟩
  | 124 => ⟨S128x128, .f32⟩
  | 125 => ⟨S128x128, .bf16⟩
  | 126 => ⟨S_, .f32⟩
  | 127 => ⟨S1x128, .f32⟩
  | _ => ⟨S2x2048x512, .f32⟩

abbrev hbmTy0_1 (i : Nat) : BufTy := match i % 128 with
  | 0 => ⟨S_, .f32⟩
  | 1 => ⟨S1x128, .f32⟩
  | 2 => ⟨S1x8x64, .f32⟩
  | 3 => ⟨S1x512, .f32⟩
  | 4 => ⟨S4096x512, .f32⟩
  | 5 => ⟨S4096x512, .bf16⟩
  | 6 => ⟨S4096x1024, .f32⟩
  | 7 => ⟨S4096x8, .f32⟩
  | 8 => ⟨S_, .f32⟩
  | 9 => ⟨S4096x128, .f32⟩
  | 10 => ⟨S4x1024, .f32⟩
  | 11 => ⟨S2x2048x512, .bf16⟩
  | 12 => ⟨S2x2048x1024, .f32⟩
  | 13 => ⟨S2x2048x1024, .f32⟩
  | 14 => ⟨S2x2048x128, .f32⟩
  | 15 => ⟨S2x2048x512, .bf16⟩
  | 16 => ⟨S2x2048x512, .f32⟩
  | 17 => ⟨S2x16x128x512, .f32⟩
  | 18 => ⟨S2x2048x1024, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | .local _ .vmem, ⟨0, _⟩ => ⟨S2x128x512, .bf16⟩
  | .local _ .vmem, ⟨1, _⟩ => ⟨S2x128x512, .bf16⟩
  | .local _ .vmem, ⟨2, _⟩ => ⟨S2x128x1024, .f32⟩
  | .local _ .vmem, ⟨3, _⟩ => ⟨S2x128x1024, .f32⟩
  | .local _ .vmem, ⟨4, _⟩ => ⟨S2x8x1024, .f32⟩
  | .local _ .vmem, ⟨5, _⟩ => ⟨S2x8x1024, .f32⟩
  | .local _ .vmem, ⟨6, _⟩ => ⟨S2x128x128, .f32⟩
  | .local _ .vmem, ⟨7, _⟩ => ⟨S2x128x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S128x512, .bf16⟩
  | .local _ .vmem, ⟨15, _⟩ => ⟨S128x128, .bf16⟩
  | .local _ .vmem, ⟨16, _⟩ => ⟨S2x128x512, .bf16⟩
  | .local _ .vmem, ⟨17, _⟩ => ⟨S2x128x512, .bf16⟩
  | .local _ .vmem, ⟨18, _⟩ => ⟨S2x128x512, .f32⟩
  | .local _ .vmem, ⟨19, _⟩ => ⟨S2x128x512, .f32⟩
  | .local _ .vmem, ⟨20, _⟩ => ⟨S2x1x128x512, .f32⟩
  | .local _ .vmem, ⟨21, _⟩ => ⟨S2x1x128x512, .f32⟩
  | .local _ .vmem, ⟨22, _⟩ => ⟨S2x128x1024, .f32⟩
  | .local _ .vmem, ⟨23, _⟩ => ⟨S2x128x1024, .f32⟩
  | .local _ .vmem, ⟨24, _⟩ => ⟨S128x512, .f32⟩
  | .local _ .vmem, ⟨25, _⟩ => ⟨S128x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v3 : Ref sig .tc := ⟨.hbm, 46, rfl⟩
abbrev main_v4 : Ref sig .tc := ⟨.hbm, 47, rfl⟩
abbrev main_cst : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c_2 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_c : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_0 : Ref sig .tc := ⟨.hbm, 70, rfl⟩
abbrev main_call3_v12 : Ref sig .tc := ⟨.hbm, 71, rfl⟩
abbrev main_call3_v13 : Ref sig .tc := ⟨.hbm, 72, rfl⟩
abbrev main_v9 : Ref sig .tc := ⟨.hbm, 73, rfl⟩
abbrev main_v10 : Ref sig .tc := ⟨.hbm, 74, rfl⟩
abbrev main_cst_3 : Ref sig .tc := ⟨.hbm, 75, rfl⟩
abbrev main_cst_4 : Ref sig .tc := ⟨.hbm, 76, rfl⟩
abbrev main_call4_v0 : Ref sig .tc := ⟨.hbm, 77, rfl⟩
abbrev main_call4_v1 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_c_5 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_call5_v5 : Ref sig .tc := ⟨.hbm, 88, rfl⟩
abbrev main_call5_v6 : Ref sig .tc := ⟨.hbm, 89, rfl⟩
abbrev main_call5_v7 : Ref sig .tc := ⟨.hbm, 90, rfl⟩
abbrev main_call5_v8 : Ref sig .tc := ⟨.hbm, 91, rfl⟩
abbrev main_call5_c : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_0 : Ref sig .tc := ⟨.hbm, 96, rfl⟩
abbrev main_call5_v12 : Ref sig .tc := ⟨.hbm, 97, rfl⟩
abbrev main_call5_v13 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩
abbrev main_cst_6 : Ref sig .tc := ⟨.hbm, 102, rfl⟩
abbrev main_cst_7 : Ref sig .tc := ⟨.hbm, 103, rfl⟩
abbrev main_call6_v0 : Ref sig .tc := ⟨.hbm, 104, rfl⟩
abbrev main_call6_v1 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_cst_8 : Ref sig .tc := ⟨.hbm, 111, rfl⟩
abbrev main_cst_9 : Ref sig .tc := ⟨.hbm, 112, rfl⟩
abbrev main_call7_v0 : Ref sig .tc := ⟨.hbm, 113, rfl⟩
abbrev main_call7_v1 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_cst_10 : Ref sig .tc := ⟨.hbm, 120, rfl⟩
abbrev main_cst_11 : Ref sig .tc := ⟨.hbm, 121, rfl⟩
abbrev main_call8_v0 : Ref sig .tc := ⟨.hbm, 122, rfl⟩
abbrev main_call8_v1 : Ref sig .tc := ⟨.hbm, 123, rfl⟩
abbrev main_v27 : Ref sig .tc := ⟨.hbm, 124, rfl⟩
abbrev main_v28 : Ref sig .tc := ⟨.hbm, 125, rfl⟩
abbrev main_cst_12 : Ref sig .tc := ⟨.hbm, 126, rfl⟩
abbrev main_v29 : Ref sig .tc := ⟨.hbm, 127, rfl⟩
abbrev main_cst_13 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_cst_14 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43_0 : Ref sig .tc := ⟨.hbm, 143, rfl⟩
abbrev main_v43_1 : Ref sig .tc := ⟨.hbm, 144, rfl⟩
abbrev main_v43_2 : Ref sig .tc := ⟨.hbm, 145, rfl⟩
abbrev main_v43_3 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SfwdRefIdeal.lean ====
abbrev S2x2048x512 : Shape := ⟨3, ![2, 2048, 512]⟩
abbrev S2x2048x1024 : Shape := ⟨3, ![2, 2048, 1024]⟩
abbrev S2x2048x8 : Shape := ⟨3, ![2, 2048, 8]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S1024 : Shape := ⟨1, ![1024]⟩
abbrev S8 : Shape := ⟨1, ![8]⟩
abbrev S_ : Shape := ⟨0, ![]⟩
abbrev S2x3x1024 : Shape := ⟨3, ![2, 3, 1024]⟩
abbrev S2x2051x1024 : Shape := ⟨3, ![2, 2051, 1024]⟩
abbrev S1x1x1024 : Shape := ⟨3, ![1, 1, 1024]⟩
abbrev S2x2048x8x64 : Shape := ⟨4, ![2, 2048, 8, 64]⟩
abbrev S2x2048x256 : Shape := ⟨3, ![2, 2048, 256]⟩
abbrev S2x2048x2x128 : Shape := ⟨4, ![2, 2048, 2, 128]⟩
abbrev S1x1x8 : Shape := ⟨3, ![1, 1, 8]⟩
abbrev S2x16x128x2x4x64 : Shape := ⟨6, ![2, 16, 128, 2, 4, 64]⟩
abbrev S2x16x128x2x4 : Shape := ⟨5, ![2, 16, 128, 2, 4]⟩
abbrev S2x16x128x2x128 : Shape := ⟨5, ![2, 16, 128, 2, 128]⟩
abbrev S2x4 : Shape := ⟨2, ![2, 4]⟩
abbrev S1x1x1x2x4 : Shape := ⟨5, ![1, 1, 1, 2, 4]⟩
abbrev S2x16x128x2x4x1 : Shape := ⟨6, ![2, 16, 128, 2, 4, 1]⟩
abbrev S128x128 : Shape := ⟨2, ![128, 128]⟩
abbrev S128x128x1x1 : Shape := ⟨4, ![128, 128, 1, 1]⟩
abbrev S2x16x128x1x2x4 : Shape := ⟨6, ![2, 16, 128, 1, 2, 4]⟩
abbrev S2x16x1x128x2x4 : Shape := ⟨6, ![2, 16, 1, 128, 2, 4]⟩
abbrev S2x16x128x128x2x4 : Shape := ⟨6, ![2, 16, 128, 128, 2, 4]⟩
abbrev S2x16x2x128x128 : Shape := ⟨5, ![2, 16, 2, 128, 128]⟩
abbrev S2x16x128x128x2 : Shape := ⟨5, ![2, 16, 128, 128, 2]⟩
abbrev S2x16x128x128x2x1 : Shape := ⟨6, ![2, 16, 128, 128, 2, 1]⟩
abbrev S2x16x2x4x64x128 : Shape := ⟨6, ![2, 16, 2, 4, 64, 128]⟩
abbrev S2x16x1x2x4 : Shape := ⟨5, ![2, 16, 1, 2, 4]⟩
abbrev S2x16x2x4 : Shape := ⟨4, ![2, 16, 2, 4]⟩
abbrev S2x2x4x64x128 : Shape := ⟨5, ![2, 2, 4, 64, 128]⟩
abbrev S16x2x2x4x64x128 : Shape := ⟨6, ![16, 2, 2, 4, 64, 128]⟩
abbrev S16x2x2x4 : Shape := ⟨4, ![16, 2, 2, 4]⟩
abbrev S1x2x2x4x64x128 : Shape := ⟨6, ![1, 2, 2, 4, 64, 128]⟩
abbrev S1x2x2x4 : Shape := ⟨4, ![1, 2, 2, 4]⟩
abbrev S2x2x4 : Shape := ⟨3, ![2, 2, 4]⟩
abbrev S2x2x4x1x1 : Shape := ⟨5, ![2, 2, 4, 1, 1]⟩
abbrev S2x4x1 : Shape := ⟨3, ![2, 4, 1]⟩
abbrev S1x1x1x2x4x1 : Shape := ⟨6, ![1, 1, 1, 2, 4, 1]⟩
abbrev S512 : Shape := ⟨1, ![512]⟩
abbrev S2x2048x2x256 : Shape := ⟨4, ![2, 2048, 2, 256]⟩
abbrev S2x2048x2 : Shape := ⟨3, ![2, 2048, 2]⟩
abbrev S2x2048x2x1 : Shape := ⟨4, ![2, 2048, 2, 1]⟩
abbrev S1x1x512 : Shape := ⟨3, ![1, 1, 512]⟩
abbrev S2x16x128x512 : Shape := ⟨4, ![2, 16, 128, 512]⟩

abbrev nBuf : Space → Nat
  | .hbm => 335
  | .vmem => 0
  | .smem => 0
  | _ => 0

abbrev hbmTy0_0 (i : Nat) : BufTy := match i % 128 with
  | 0 => ⟨S2x2048x512, .f32⟩
  | 1 => ⟨S2x2048x1024, .f32⟩
  | 2 => ⟨S2x2048x8, .f32⟩
  | 3 => ⟨S1x4x1024, .f32⟩
  | 4 => ⟨S1x1024, .f32⟩
  | 5 => ⟨S1x8, .f32⟩
  | 6 => ⟨S1x8, .f32⟩
  | 7 => ⟨S1x8, .f32⟩
  | 8 => ⟨S1x512, .f32⟩
  | 9 => ⟨S4x1024, .f32⟩
  | 10 => ⟨S1024, .f32⟩
  | 11 => ⟨S8, .f32⟩
  | 12 => ⟨S8, .f32⟩
  | 13 => ⟨S8, .f32⟩
  | 14 => ⟨S_, .f32⟩
  | 15 => ⟨S2x3x1024, .f32⟩
  | 16 => ⟨S2x2051x1024, .f32⟩
  | 17 => ⟨S1x1024, .f32⟩
  | 18 => ⟨S1024, .f32⟩
  | 19 => ⟨S2x2048x1024, .f32⟩
  | 20 => ⟨S1x1x1024, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S1x1024, .f32⟩
  | 27 => ⟨S1024, .f32⟩
  | 28 => ⟨S2x2048x1024, .f32⟩
  | 29 => ⟨S1x1x1024, .f32⟩
  | 30 => ⟨S2x2048x1024, .f32⟩
  | 31 => ⟨S2x2048x1024, .f32⟩
  | 32 => ⟨S2x2048x1024, .f32⟩
  | 33 => ⟨S1x1024, .f32⟩
  | 34 => ⟨S1024, .f32⟩
  | 35 => ⟨S2x2048x1024, .f32⟩
  | 36 => ⟨S1x1x1024, .f32⟩
  | 37 => ⟨S2x2048x1024, .f32⟩
  | 38 => ⟨S2x2048x1024, .f32⟩
  | 39 => ⟨S2x2048x1024, .f32⟩
  | 40 => ⟨S1x1024, .f32⟩
  | 41 => ⟨S1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S2x2048x1024, .f32⟩
  | 52 => ⟨S_, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S2x2048x1024, .f32⟩
  | 59 => ⟨S2x2048x512, .f32⟩
  | 60 => ⟨S2x2048x8x64, .f32⟩
  | 61 => ⟨S2x2048x256, .f32⟩
  | 62 => ⟨S2x2048x2x128, .f32⟩
  | 63 => ⟨S2x2048x256, .f32⟩
  | 64 => ⟨S2x2048x2x128, .f32⟩
  | 65 => ⟨S1x1x8, .f32⟩
  | 66 => ⟨S2x2048x8, .f32⟩
  | 67 => ⟨S2x2048x8, .f32⟩
  | 68 => ⟨S_, .f32⟩
  | 69 => ⟨S2x2048x8, .f32⟩
  | 70 => ⟨S2x2048x8, .f32⟩
  | 71 => ⟨S2x2048x8, .f32⟩
  | 72 => ⟨S2x2048x8, .f32⟩
  | 73 => ⟨S2x2048x8, .i1⟩
  | 74 => ⟨S2x2048x8, .f32⟩
  | 75 => ⟨S2x2048x8, .f32⟩
  | 76 => ⟨S2x2048x8, .f32⟩
  | 77 => ⟨S2x2048x8, .f32⟩
  | 78 => ⟨S2x2048x8, .f32⟩
  | 79 => ⟨S2x2048x8, .f32⟩
  | 80 => ⟨S2x2048x8, .f32⟩
  | 81 => ⟨S2x2048x8, .f32⟩
  | 82 => ⟨S8, .f32⟩
  | 83 => ⟨S8, .f32⟩
  | 84 => ⟨S2x16x128x2x4x64, .f32⟩
  | 85 => ⟨S2x16x128x2x4, .f32⟩
  | 86 => ⟨S2x16x128x2x128, .f32⟩
  | 87 => ⟨S2x16x128x2x128, .f32⟩
  | 88 => ⟨S2x4, .f32⟩
  | 89 => ⟨S2x4, .f32⟩
  | 90 => ⟨S1x1x1x2x4, .f32⟩
  | 91 => ⟨S2x16x128x2x4, .f32⟩
  | 92 => ⟨S2x16x128x2x4, .f32⟩
  | 93 => ⟨S_, .f32⟩
  | 94 => ⟨S_, .f32⟩
  | 95 => ⟨S2x16x128x2x4, .f32⟩
  | 96 => ⟨S2x16x128x2x4x1, .f32⟩
  | 97 => ⟨S2x16x128x2x4x64, .f32⟩
  | 98 => ⟨S2x16x128x2x4x64, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S128x128x1x1, .i1⟩
  | 111 => ⟨S2x16x128x1x2x4, .f32⟩
  | 112 => ⟨S2x16x1x128x2x4, .f32⟩
  | 113 => ⟨S2x16x128x128x2x4, .f32⟩
  | 114 => ⟨S2x16x128x128x2x4, .f32⟩
  | 115 => ⟨S2x16x128x128x2x4, .f32⟩
  | 116 => ⟨S_, .f32⟩
  | 117 => ⟨S_, .f32⟩
  | 118 => ⟨S2x16x128x128x2x4, .i1⟩
  | 119 => ⟨S2x16x128x128x2x4, .f32⟩
  | 120 => ⟨S2x16x128x128x2x4, .f32⟩
  | 121 => ⟨S2x16x128x128x2x4, .f32⟩
  | 122 => ⟨S2x16x2x128x128, .f32⟩
  | 123 => ⟨S2x16x128x128x2, .f32⟩
  | 124 => ⟨S2x16x128x128x2x1, .f32⟩
  | 125 => ⟨S2x16x128x128x2x4, .f32⟩
  | 126 => ⟨S2x16x128x128x2x4, .f32⟩
  | 127 => ⟨S2x16x2x4x64x128, .f32⟩
  | _ => ⟨S2x2048x512, .f32⟩

abbrev hbmTy0_1 (i : Nat) : BufTy := match i % 128 with
  | 0 => ⟨S2x16x128x2x4x64, .f32⟩
  | 1 => ⟨S2x16x1x2x4, .f32⟩
  | 2 => ⟨S2x16x128x2x4, .f32⟩
  | 3 => ⟨S2x16x128x2x4, .f32⟩
  | 4 => ⟨S2x16x128x2x4, .f32⟩
  | 5 => ⟨S2x16x128x2x4x1, .f32⟩
  | 6 => ⟨S2x16x128x2x4x64, .f32⟩
  | 7 => ⟨S2x16x128x2x4x64, .f32⟩
  | 8 => ⟨S2x16x2x4x64x128, .f32⟩
  | 9 => ⟨S2x16x1x2x4, .f32⟩
  | 10 => ⟨S2x16x2x4, .f32⟩
  | 11 => ⟨S2x16x2x4, .f32⟩
  | 12 => ⟨S_, .f32⟩
  | 13 => ⟨S2x2x4x64x128, .f32⟩
  | 14 => ⟨S16x2x2x4x64x128, .f32⟩
  | 15 => ⟨S16x2x2x4, .f32⟩
  | 16 => ⟨S1x2x2x4x64x128, .f32⟩
  | 17 => ⟨S2x2x4x64x128, .f32⟩
  | 18 => ⟨S1x2x2x4, .f32⟩
  | 19 => ⟨S2x2x4, .f32⟩
  | 20 => ⟨S2x2x4x1x1, .f32⟩
  | 21 => ⟨S2x2x4x64x128, .f32⟩
  | 22 => ⟨S2x2x4x64x128, .f32⟩
  | 23 => ⟨S2x2x4x64x128, .f32⟩
  | 24 => ⟨S1x2x2x4x64x128, .f32⟩
  | 25 => ⟨S2x2x4x64x128, .f32⟩
  | 26 => ⟨S1x2x2x4, .f32⟩
  | 27 => ⟨S2x2x4, .f32⟩
  | 28 => ⟨S2x2x4x1x1, .f32⟩
  | 29 => ⟨S2x2x4x64x128, .f32⟩
  | 30 => ⟨S2x2x4x64x128, .f32⟩
  | 31 => ⟨S2x2x4x64x128, .f32⟩
  | 32 => ⟨S1x2x2x4x64x128, .f32⟩
  | 33 => ⟨S2x2x4x64x128, .f32⟩
  | 34 => ⟨S1x2x2x4, .f32⟩
  | 35 => ⟨S2x2x4, .f32⟩
  | 36 => ⟨S2x2x4x1x1, .f32⟩
  | 37 => ⟨S2x2x4x64x128, .f32⟩
  | 38 => ⟨S2x2x4x64x128, .f32⟩
  | 39 => ⟨S2x2x4x64x128, .f32⟩
  | 40 => ⟨S1x2x2x4x64x128, .f32⟩
  | 41 => ⟨S2x2x4x64x128, .f32⟩
  | 42 => ⟨S1x2x2x4, .f32⟩
  | 43 => ⟨S2x2x4, .f32⟩
  | 44 => ⟨S2x2x4x1x1, .f32⟩
  | 45 => ⟨S2x2x4x64x128, .f32⟩
  | 46 => ⟨S2x2x4x64x128, .f32⟩
  | 47 => ⟨S2x2x4x64x128, .f32⟩
  | 48 => ⟨S1x2x2x4x64x128, .f32⟩
  | 49 => ⟨S2x2x4x64x128, .f32⟩
  | 50 => ⟨S1x2x2x4, .f32⟩
  | 51 => ⟨S2x2x4, .f32⟩
  | 52 => ⟨S2x2x4x1x1, .f32⟩
  | 53 => ⟨S2x2x4x64x128, .f32⟩
  | 54 => ⟨S2x2x4x64x128, .f32⟩
  | 55 => ⟨S2x2x4x64x128, .f32⟩
  | 56 => ⟨S1x2x2x4x64x128, .f32⟩
  | 57 => ⟨S2x2x4x64x128, .f32⟩
  | 58 => ⟨S1x2x2x4, .f32⟩
  | 59 => ⟨S2x2x4, .f32⟩
  | 60 => ⟨S2x2x4x1x1, .f32⟩
  | 61 => ⟨S2x2x4x64x128, .f32⟩
  | 62 => ⟨S2x2x4x64x128, .f32⟩
  | 63 => ⟨S2x2x4x64x128, .f32⟩
  | 64 => ⟨S1x2x2x4x64x128, .f32⟩
  | 65 => ⟨S2x2x4x64x128, .f32⟩
  | 66 => ⟨S1x2x2x4, .f32⟩
  | 67 => ⟨S2x2x4, .f32⟩
  | 68 => ⟨S2x2x4x1x1, .f32⟩
  | 69 => ⟨S2x2x4x64x128, .f32⟩
  | 70 => ⟨S2x2x4x64x128, .f32⟩
  | 71 => ⟨S2x2x4x64x128, .f32⟩
  | 72 => ⟨S1x2x2x4x64x128, .f32⟩
  | 73 => ⟨S2x2x4x64x128, .f32⟩
  | 74 => ⟨S1x2x2x4, .f32⟩
  | 75 => ⟨S2x2x4, .f32⟩
  | 76 => ⟨S2x2x4x1x1, .f32⟩
  | 77 => ⟨S2x2x4x64x128, .f32⟩
  | 78 => ⟨S2x2x4x64x128, .f32⟩
  | 79 => ⟨S2x2x4x64x128, .f32⟩
  | 80 => ⟨S1x2x2x4x64x128, .f32⟩
  | 81 => ⟨S2x2x4x64x128, .f32⟩
  | 82 => ⟨S1x2x2x4, .f32⟩
  | 83 => ⟨S2x2x4, .f32⟩
  | 84 => ⟨S2x2x4x1x1, .f32⟩
  | 85 => ⟨S2x2x4x64x128, .f32⟩
  | 86 => ⟨S2x2x4x64x128, .f32⟩
  | 87 => ⟨S2x2x4x64x128, .f32⟩
  | 88 => ⟨S1x2x2x4x64x128, .f32⟩
  | 89 => ⟨S2x2x4x64x128, .f32⟩
  | 90 => ⟨S1x2x2x4, .f32⟩
  | 91 => ⟨S2x2x4, .f32⟩
  | 92 => ⟨S2x2x4x1x1, .f32⟩
  | 93 => ⟨S2x2x4x64x128, .f32⟩
  | 94 => ⟨S2x2x4x64x128, .f32⟩
  | 95 => ⟨S2x2x4x64x128, .f32⟩
  | 96 => ⟨S1x2x2x4x64x128, .f32⟩
  | 97 => ⟨S2x2x4x64x128, .f32⟩
  | 98 => ⟨S1x2x2x4, .f32⟩
  | 99 => ⟨S2x2x4, .f32⟩
  | 100 => ⟨S2x2x4x1x1, .f32⟩
  | 101 => ⟨S2x2x4x64x128, .f32⟩
  | 102 => ⟨S2x2x4x64x128, .f32⟩
  | 103 => ⟨S2x2x4x64x128, .f32⟩
  | 104 => ⟨S1x2x2x4x64x128, .f32⟩
  | 105 => ⟨S2x2x4x64x128, .f32⟩
  | 106 => ⟨S1x2x2x4, .f32⟩
  | 107 => ⟨S2x2x4, .f32⟩
  | 108 => ⟨S2x2x4x1x1, .f32⟩
  | 109 => ⟨S2x2x4x64x128, .f32⟩
  | 110 => ⟨S2x2x4x64x128, .f32⟩
  | 111 => ⟨S2x2x4x64x128, .f32⟩
  | 112 => ⟨S1x2x2x4x64x128, .f32⟩
  | 113 => ⟨S2x2x4x64x128, .f32⟩
  | 114 => ⟨S1x2x2x4, .f32⟩
  | 115 => ⟨S2x2x4, .f32⟩
  | 116 => ⟨S2x2x4x1x1, .f32⟩
  | 117 => ⟨S2x2x4x64x128, .f32⟩
  | 118 => ⟨S2x2x4x64x128, .f32⟩
  | 119 => ⟨S2x2x4x64x128, .f32⟩
  | 120 => ⟨S1x2x2x4x64x128, .f32⟩
  | 121 => ⟨S2x2x4x64x128, .f32⟩
  | 122 => ⟨S1x2x2x4, .f32⟩
  | 123 => ⟨S2x2x4, .f32⟩
  | 124 => ⟨S2x2x4x1x1, .f32⟩
  | 125 => ⟨S2x2x4x64x128, .f32⟩
  | 126 => ⟨S2x2x4x64x128, .f32⟩
  | 127 => ⟨S2x2x4x64x128, .f32⟩
  | _ => ⟨S2x2048x512, .f32⟩

abbrev hbmTy0_2 (i : Nat) : BufTy := match i % 128 with
  | 0 => ⟨S1x2x2x4x64x128, .f32⟩
  | 1 => ⟨S2x2x4x64x128, .f32⟩
  | 2 => ⟨S1x2x2x4, .f32⟩
  | 3 => ⟨S2x2x4, .f32⟩
  | 4 => ⟨S2x2x4x1x1, .f32⟩
  | 5 => ⟨S2x2x4x64x128, .f32⟩
  | 6 => ⟨S2x2x4x64x128, .f32⟩
  | 7 => ⟨S2x2x4x64x128, .f32⟩
  | 8 => ⟨S1x2x2x4x64x128, .f32⟩
  | 9 => ⟨S2x2x4x64x128, .f32⟩
  | 10 => ⟨S1x2x2x4, .f32⟩
  | 11 => ⟨S2x2x4, .f32⟩
  | 12 => ⟨S2x2x4x1x1, .f32⟩
  | 13 => ⟨S2x2x4x64x128, .f32⟩
  | 14 => ⟨S2x2x4x64x128, .f32⟩
  | 15 => ⟨S2x2x4x64x128, .f32⟩
  | 16 => ⟨S1x2x2x4x64x128, .f32⟩
  | 17 => ⟨S1x2x2x4x64x128, .f32⟩
  | 18 => ⟨S1x2x2x4x64x128, .f32⟩
  | 19 => ⟨S1x2x2x4x64x128, .f32⟩
  | 20 => ⟨S1x2x2x4x64x128, .f32⟩
  | 21 => ⟨S1x2x2x4x64x128, .f32⟩
  | 22 => ⟨S1x2x2x4x64x128, .f32⟩
  | 23 => ⟨S1x2x2x4x64x128, .f32⟩
  | 24 => ⟨S1x2x2x4x64x128, .f32⟩
  | 25 => ⟨S1x2x2x4x64x128, .f32⟩
  | 26 => ⟨S1x2x2x4x64x128, .f32⟩
  | 27 => ⟨S1x2x2x4x64x128, .f32⟩
  | 28 => ⟨S1x2x2x4x64x128, .f32⟩
  | 29 => ⟨S1x2x2x4x64x128, .f32⟩
  | 30 => ⟨S1x2x2x4x64x128, .f32⟩
  | 31 => ⟨S1x2x2x4x64x128, .f32⟩
  | 32 => ⟨S16x2x2x4x64x128, .f32⟩
  | 33 => ⟨S2x16x2x4x64x128, .f32⟩
  | 34 => ⟨S2x16x128x2x4, .f32⟩
  | 35 => ⟨S2x16x128x2x4x1, .f32⟩
  | 36 => ⟨S2x16x2x4x64x128, .f32⟩
  | 37 => ⟨S2x16x128x2x4x64, .f32⟩
  | 38 => ⟨S2x16x128x2x4x64, .f32⟩
  | 39 => ⟨S2x16x128x2x4x64, .f32⟩
  | 40 => ⟨S2x16x128x2x4x64, .f32⟩
  | 41 => ⟨S2x4x1, .f32⟩
  | 42 => ⟨S1x1x1x2x4x1, .f32⟩
  | 43 => ⟨S2x16x128x2x4x64, .f32⟩
  | 44 => ⟨S2x16x128x2x4x64, .f32⟩
  | 45 => ⟨S2x16x128x2x4x64, .f32⟩
  | 46 => ⟨S2x2048x512, .f32⟩
  | 47 => ⟨S512, .f32⟩
  | 48 => ⟨S2x2048x512, .f32⟩
  | 49 => ⟨S2x2048x512, .f32⟩
  | 50 => ⟨S_, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S2x2048x512, .f32⟩
  | 58 => ⟨S2x2048x2x256, .f32⟩
  | 59 => ⟨S2x2048x2x256, .f32⟩
  | 60 => ⟨S_, .f32⟩
  | 61 => ⟨S2x2048x2, .f32⟩
  | 62 => ⟨S2x2048x2x1, .f32⟩
  | 63 => ⟨S_, .f32⟩
  | 64 => ⟨S2x2048x2x1, .f32⟩
  | 65 => ⟨S2x2048x2x1, .f32⟩
  | 66 => ⟨S_, .f32⟩
  | 67 => ⟨S2x2048x2x1, .f32⟩
  | 68 => ⟨S2x2048x2x1, .f32⟩
  | 69 => ⟨S2x2048x2x1, .f32⟩
  | 70 => ⟨S2x2048x2x256, .f32⟩
  | 71 => ⟨S2x2048x2x256, .f32⟩
  | 72 => ⟨S2x2048x512, .f32⟩
  | 73 => ⟨S1x1x512, .f32⟩
  | 74 => ⟨S2x2048x512, .f32⟩
  | 75 => ⟨S2x2048x512, .f32⟩
  | 76 => ⟨S2x2048x512, .bf16⟩
  | 77 => ⟨S2x16x128x2x4x64, .f32⟩
  | 78 => ⟨S2x16x128x512, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_1 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_call0_cst : Ref sig .tc := ⟨.hbm, 93, rfl⟩
abbrev main_call1_call0_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c : Ref sig .tc := ⟨.hbm, 99, rfl⟩
abbrev main_v71 : Ref sig .tc := ⟨.hbm, 100, rfl⟩
abbrev main_call2_v0 : Ref sig .tc := ⟨.hbm, 101, rfl⟩
abbrev main_call2_c : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_0 : Ref sig .tc := ⟨.hbm, 107, rfl⟩
abbrev main_call2_v5 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_3 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_4 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_cst_5 : Ref sig .tc := ⟨.hbm, 306, rfl⟩
abbrev main_v264 : Ref sig .tc := ⟨.hbm, 307, rfl⟩
abbrev main_v265 : Ref sig .tc := ⟨.hbm, 308, rfl⟩
abbrev main_cst_6 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_cst_7 : Ref sig .tc := ⟨.hbm, 316, rfl⟩
abbrev main_v272 : Ref sig .tc := ⟨.hbm, 317, rfl⟩
abbrev main_v273 : Ref sig .tc := ⟨.hbm, 318, rfl⟩
abbrev main_cst_8 : Ref sig .tc := ⟨.hbm, 319, rfl⟩
abbrev main_v274 : Ref sig .tc := ⟨.hbm, 320, rfl⟩
abbrev main_v275 : Ref sig .tc := ⟨.hbm, 321, rfl⟩
abbrev main_cst_9 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩

abbrev nD : Nat := 1
abbrev τ : Topo := Topo.v7x

variable {F : FTy → Type} [FloatOps F]
-- ==== Ssd.lean ====
abbrev S2x2048x512 : Shape := ⟨3, ![2, 2048, 512]⟩
abbrev S2x2048x1024 : Shape := ⟨3, ![2, 2048, 1024]⟩
abbrev S2x2048x8 : Shape := ⟨3, ![2, 2048, 8]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S256x256 : Shape := ⟨2, ![256, 256]⟩
abbrev S_ : Shape := ⟨0, ![]⟩
abbrev S128x512 : Shape := ⟨2, ![128, 512]⟩
abbrev S512x128 : Shape := ⟨2, ![512, 128]⟩
abbrev S128x128 : Shape := ⟨2, ![128, 128]⟩
abbrev S1x128 : Shape := ⟨2, ![1, 128]⟩
abbrev S1x8x64 : Shape := ⟨3, ![1, 8, 64]⟩
abbrev S4x1024 : Shape := ⟨2, ![4, 1024]⟩
abbrev S1024 : Shape := ⟨1, ![1024]⟩
abbrev S8 : Shape := ⟨1, ![8]⟩
abbrev S2x3x1024 : Shape := ⟨3, ![2, 3, 1024]⟩
abbrev S2x2051x1024 : Shape := ⟨3, ![2, 2051, 1024]⟩
abbrev S1x1x1024 : Shape := ⟨3, ![1, 1, 1024]⟩
abbrev S2x2048x8x64 : Shape := ⟨4, ![2, 2048, 8, 64]⟩
abbrev S2x2048x256 : Shape := ⟨3, ![2, 2048, 256]⟩
abbrev S2x2048x2x128 : Shape := ⟨4, ![2, 2048, 2, 128]⟩
abbrev S1x1x8 : Shape := ⟨3, ![1, 1, 8]⟩
abbrev S2x16x128x2x4x64 : Shape := ⟨6, ![2, 16, 128, 2, 4, 64]⟩
abbrev S2x16x128x2x4 : Shape := ⟨5, ![2, 16, 128, 2, 4]⟩
abbrev S2x16x128x2x128 : Shape := ⟨5, ![2, 16, 128, 2, 128]⟩
abbrev S2x4 : Shape := ⟨2, ![2, 4]⟩
abbrev S1x1x1x2x4 : Shape := ⟨5, ![1, 1, 1, 2, 4]⟩
abbrev S2x16x128x2x4x1 : Shape := ⟨6, ![2, 16, 128, 2, 4, 1]⟩
abbrev S128x128x1x1 : Shape := ⟨4, ![128, 128, 1, 1]⟩
abbrev S2x16x128x1x2x4 : Shape := ⟨6, ![2, 16, 128, 1, 2, 4]⟩
abbrev S2x16x1x128x2x4 : Shape := ⟨6, ![2, 16, 1, 128, 2, 4]⟩
abbrev S2x16x128x128x2x4 : Shape := ⟨6, ![2, 16, 128, 128, 2, 4]⟩
abbrev S2x16x2x128x128 : Shape := ⟨5, ![2, 16, 2, 128, 128]⟩
abbrev S2x16x128x128x2 : Shape := ⟨5, ![2, 16, 128, 128, 2]⟩
abbrev S2x16x128x128x2x1 : Shape := ⟨6, ![2, 16, 128, 128, 2, 1]⟩
abbrev S2x16x2x4x64x128 : Shape := ⟨6, ![2, 16, 2, 4, 64, 128]⟩
abbrev S2x16x1x2x4 : Shape := ⟨5, ![2, 16, 1, 2, 4]⟩
abbrev S2x16x2x4 : Shape := ⟨4, ![2, 16, 2, 4]⟩
abbrev S2x2x4x64x128 : Shape := ⟨5, ![2, 2, 4, 64, 128]⟩
abbrev S16x2x2x4x64x128 : Shape := ⟨6, ![16, 2, 2, 4, 64, 128]⟩
abbrev S16x2x2x4 : Shape := ⟨4, ![16, 2, 2, 4]⟩
abbrev S1x2x2x4x64x128 : Shape := ⟨6, ![1, 2, 2, 4, 64, 128]⟩
abbrev S1x2x2x4 : Shape := ⟨4, ![1, 2, 2, 4]⟩
abbrev S2x2x4 : Shape := ⟨3, ![2, 2, 4]⟩
abbrev S2x2x4x1x1 : Shape := ⟨5, ![2, 2, 4, 1, 1]⟩
abbrev S2x4x1 : Shape := ⟨3, ![2, 4, 1]⟩
abbrev S1x1x1x2x4x1 : Shape := ⟨6, ![1, 1, 1, 2, 4, 1]⟩
abbrev S2x16x128x512 : Shape := ⟨4, ![2, 16, 128, 512]⟩
abbrev S4096x512 : Shape := ⟨2, ![4096, 512]⟩
abbrev S4096x1024 : Shape := ⟨2, ![4096, 1024]⟩
abbrev S4096x8 : Shape := ⟨2, ![4096, 8]⟩
abbrev S4096x128 : Shape := ⟨2, ![4096, 128]⟩
abbrev S2x2048x128 : Shape := ⟨3, ![2, 2048, 128]⟩
abbrev S8x1024 : Shape := ⟨2, ![8, 1024]⟩
abbrev S2x128x512 : Shape := ⟨3, ![2, 128, 512]⟩
abbrev S2x128x1024 : Shape := ⟨3, ![2, 128, 1024]⟩
abbrev S2x128x128 : Shape := ⟨3, ![2, 128, 128]⟩
abbrev S2x1x128x512 : Shape := ⟨4, ![2, 1, 128, 512]⟩
abbrev S1x128x1024 : Shape := ⟨3, ![1, 128, 1024]⟩
abbrev S128x1024 : Shape := ⟨2, ![128, 1024]⟩
abbrev S1x128x128 : Shape := ⟨3, ![1, 128, 128]⟩
abbrev S128x1 : Shape := ⟨2, ![128, 1]⟩
abbrev S1x1x128x512 : Shape := ⟨4, ![1, 1, 128, 512]⟩
abbrev S1x128x512 : Shape := ⟨3, ![1, 128, 512]⟩
abbrev S128x256 : Shape := ⟨2, ![128, 256]⟩
abbrev S128 : Shape := ⟨1, ![128]⟩
abbrev S512 : Shape := ⟨1, ![512]⟩
abbrev S256x128 : Shape := ⟨2, ![256, 128]⟩
abbrev S16x8x1024 : Shape := ⟨3, ![16, 8, 1024]⟩
abbrev S1x8x1024 : Shape := ⟨3, ![1, 8, 1024]⟩
abbrev S1x8x1 : Shape := ⟨3, ![1, 8, 1]⟩
abbrev S15x8x1024 : Shape := ⟨3, ![15, 8, 1024]⟩
abbrev S8x1 : Shape := ⟨2, ![8, 1]⟩

abbrev nBuf : Space → Nat
  | .hbm => 455
  | .vmem => 40
  | .smem => 0
  | _ => 0

abbrev hbmTy0_0 (i : Nat) : BufTy := match i % 128 with
  | 0 => ⟨S2x2048x512, .f32⟩
  | 1 => ⟨S2x2048x1024, .f32⟩
  | 2 => ⟨S2x2048x8, .f32⟩
  | 3 => ⟨S1x4x1024, .f32⟩
  | 4 => ⟨S1x1024, .f32⟩
  | 5 => ⟨S1x8, .f32⟩
  | 6 => ⟨S1x8, .f32⟩
  | 7 => ⟨S1x8, .f32⟩
  | 8 => ⟨S1x512, .f32⟩
  | 9 => ⟨S2x2048x1024, .f32⟩
  | 10 => ⟨S256x256, .i32⟩
  | 11 => ⟨S_, .i32⟩
  | 12 => ⟨S_, .i32⟩
  | 13 => ⟨S256x256, .i32⟩
  | 14 => ⟨S256x256, .i32⟩
  | 15 => ⟨S256x256, .i32⟩
  | 16 => ⟨S_, .i32⟩
  | 17 => ⟨S256x256, .i32⟩
  | 18 => ⟨S256x256, .i1⟩
  | 19 => ⟨S256x256, .i32⟩
  | 20 => ⟨S256x256, .i32⟩
  | 21 => ⟨S_, .i32⟩
  | 22 => ⟨S256x256, .i32⟩
  | 23 => ⟨S256x256, .i1⟩
  | 24 => ⟨S256x256, .i1⟩
  | 25 => ⟨S_, .i32⟩
  | 26 => ⟨S256x256, .i32⟩
  | 27 => ⟨S256x256, .i32⟩
  | 28 => ⟨S256x256, .i32⟩
  | 29 => ⟨S256x256, .i32⟩
  | 30 => ⟨S_, .i32⟩
  | 31 => ⟨S_, .i32⟩
  | 32 => ⟨S256x256, .i32⟩
  | 33 => ⟨S256x256, .i32⟩
  | 34 => ⟨S256x256, .i32⟩
  | 35 => ⟨S_, .i32⟩
  | 36 => ⟨S256x256, .i32⟩
  | 37 => ⟨S256x256, .i1⟩
  | 38 => ⟨S256x256, .i32⟩
  | 39 => ⟨S256x256, .i32⟩
  | 40 => ⟨S_, .i32⟩
  | 41 => ⟨S256x256, .i32⟩
  | 42 => ⟨S256x256, .i1⟩
  | 43 => ⟨S256x256, .i1⟩
  | 44 => ⟨S_, .i32⟩
  | 45 => ⟨S256x256, .i32⟩
  | 46 => ⟨S256x256, .i32⟩
  | 47 => ⟨S256x256, .i32⟩
  | 48 => ⟨S256x256, .i1⟩
  | 49 => ⟨S_, .f32⟩
  | 50 => ⟨S_, .f32⟩
  | 51 => ⟨S256x256, .f32⟩
  | 52 => ⟨S256x256, .f32⟩
  | 53 => ⟨S256x256, .f32⟩
  | 54 => ⟨S256x256, .bf16⟩
  | 55 => ⟨S128x512, .i32⟩
  | 56 => ⟨S128x512, .i32⟩
  | 57 => ⟨S_, .i32⟩
  | 58 => ⟨S_, .i32⟩
  | 59 => ⟨S128x512, .i32⟩
  | 60 => ⟨S128x512, .i32⟩
  | 61 => ⟨S128x512, .i32⟩
  | 62 => ⟨S_, .i32⟩
  | 63 => ⟨S128x512, .i32⟩
  | 64 => ⟨S128x512, .i1⟩
  | 65 => ⟨S128x512, .i32⟩
  | 66 => ⟨S128x512, .i32⟩
  | 67 => ⟨S_, .i32⟩
  | 68 => ⟨S128x512, .i32⟩
  | 69 => ⟨S128x512, .i1⟩
  | 70 => ⟨S128x512, .i1⟩
  | 71 => ⟨S_, .i32⟩
  | 72 => ⟨S128x512, .i32⟩
  | 73 => ⟨S128x512, .i32⟩
  | 74 => ⟨S128x512, .i32⟩
  | 75 => ⟨S128x512, .i1⟩
  | 76 => ⟨S_, .f32⟩
  | 77 => ⟨S_, .f32⟩
  | 78 => ⟨S128x512, .f32⟩
  | 79 => ⟨S128x512, .f32⟩
  | 80 => ⟨S128x512, .f32⟩
  | 81 => ⟨S128x512, .bf16⟩
  | 82 => ⟨S512x128, .i32⟩
  | 83 => ⟨S_, .i32⟩
  | 84 => ⟨S_, .i32⟩
  | 85 => ⟨S512x128, .i32⟩
  | 86 => ⟨S512x128, .i32⟩
  | 87 => ⟨S512x128, .i32⟩
  | 88 => ⟨S_, .i32⟩
  | 89 => ⟨S512x128, .i32⟩
  | 90 => ⟨S512x128, .i1⟩
  | 91 => ⟨S512x128, .i32⟩
  | 92 => ⟨S512x128, .i32⟩
  | 93 => ⟨S_, .i32⟩
  | 94 => ⟨S512x128, .i32⟩
  | 95 => ⟨S512x128, .i1⟩
  | 96 => ⟨S512x128, .i1⟩
  | 97 => ⟨S_, .i32⟩
  | 98 => ⟨S512x128, .i32⟩
  | 99 => ⟨S512x128, .i32⟩
  | 100 => ⟨S512x128, .i32⟩
  | 101 => ⟨S512x128, .i32⟩
  | 102 => ⟨S512x128, .i1⟩
  | 103 => ⟨S_, .f32⟩
  | 104 => ⟨S_, .f32⟩
  | 105 => ⟨S512x128, .f32⟩
  | 106 => ⟨S512x128, .f32⟩
  | 107 => ⟨S512x128, .f32⟩
  | 108 => ⟨S512x128, .bf16⟩
  | 109 => ⟨S128x128, .i32⟩
  | 110 => ⟨S128x128, .i32⟩
  | 111 => ⟨S128x128, .i1⟩
  | 112 => ⟨S_, .f32⟩
  | 113 => ⟨S_, .f32⟩
  | 114 => ⟨S128x128, .f32⟩
  | 115 => ⟨S128x128, .f32⟩
  | 116 => ⟨S128x128, .f32⟩
  | 117 => ⟨S128x128, .bf16⟩
  | 118 => ⟨S128x128, .i32⟩
  | 119 => ⟨S128x128, .i32⟩
  | 120 => ⟨S128x128, .i1⟩
  | 121 => ⟨S_, .f32⟩
  | 122 => ⟨S_, .f32⟩
  | 123 => ⟨S128x128, .f32⟩
  | 124 => ⟨S128x128, .f32⟩
  | 125 => ⟨S128x128, .f32⟩
  | 126 => ⟨S128x128, .bf16⟩
  | 127 => ⟨S_, .f32⟩
  | _ => ⟨S2x2048x512, .f32⟩

abbrev hbmTy0_1 (i : Nat) : BufTy := match i % 128 with
  | 0 => ⟨S1x128, .f32⟩
  | 1 => ⟨S_, .f32⟩
  | 2 => ⟨S1x128, .f32⟩
  | 3 => ⟨S1x8x64, .f32⟩
  | 4 => ⟨S1x512, .f32⟩
  | 5 => ⟨S4x1024, .f32⟩
  | 6 => ⟨S1024, .f32⟩
  | 7 => ⟨S8, .f32⟩
  | 8 => ⟨S8, .f32⟩
  | 9 => ⟨S8, .f32⟩
  | 10 => ⟨S_, .f32⟩
  | 11 => ⟨S2x3x1024, .f32⟩
  | 12 => ⟨S2x2051x1024, .f32⟩
  | 13 => ⟨S1x1024, .f32⟩
  | 14 => ⟨S1024, .f32⟩
  | 15 => ⟨S2x2048x1024, .f32⟩
  | 16 => ⟨S1x1x1024, .f32⟩
  | 17 => ⟨S2x2048x1024, .f32⟩
  | 18 => ⟨S2x2048x1024, .f32⟩
  | 19 => ⟨S_, .f32⟩
  | 20 => ⟨S2x2048x1024, .f32⟩
  | 21 => ⟨S2x2048x1024, .f32⟩
  | 22 => ⟨S1x1024, .f32⟩
  | 23 => ⟨S1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x2048x1024, .f32⟩
  | 29 => ⟨S1x1024, .f32⟩
  | 30 => ⟨S1024, .f32⟩
  | 31 => ⟨S2x2048x1024, .f32⟩
  | 32 => ⟨S1x1x1024, .f32⟩
  | 33 => ⟨S2x2048x1024, .f32⟩
  | 34 => ⟨S2x2048x1024, .f32⟩
  | 35 => ⟨S2x2048x1024, .f32⟩
  | 36 => ⟨S1x1024, .f32⟩
  | 37 => ⟨S1024, .f32⟩
  | 38 => ⟨S2x2048x1024, .f32⟩
  | 39 => ⟨S1x1x1024, .f32⟩
  | 40 => ⟨S2x2048x1024, .f32⟩
  | 41 => ⟨S2x2048x1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S_, .f32⟩
  | 49 => ⟨S2x2048x1024, .f32⟩
  | 50 => ⟨S2x2048x1024, .f32⟩
  | 51 => ⟨S_, .f32⟩
  | 52 => ⟨S2x2048x1024, .f32⟩
  | 53 => ⟨S2x2048x1024, .f32⟩
  | 54 => ⟨S2x2048x1024, .f32⟩
  | 55 => ⟨S2x2048x512, .f32⟩
  | 56 => ⟨S2x2048x8x64, .f32⟩
  | 57 => ⟨S2x2048x256, .f32⟩
  | 58 => ⟨S2x2048x2x128, .f32⟩
  | 59 => ⟨S2x2048x256, .f32⟩
  | 60 => ⟨S2x2048x2x128, .f32⟩
  | 61 => ⟨S1x1x8, .f32⟩
  | 62 => ⟨S2x2048x8, .f32⟩
  | 63 => ⟨S2x2048x8, .f32⟩
  | 64 => ⟨S_, .f32⟩
  | 65 => ⟨S2x2048x8, .f32⟩
  | 66 => ⟨S2x2048x8, .f32⟩
  | 67 => ⟨S2x2048x8, .f32⟩
  | 68 => ⟨S2x2048x8, .f32⟩
  | 69 => ⟨S2x2048x8, .i1⟩
  | 70 => ⟨S2x2048x8, .f32⟩
  | 71 => ⟨S2x2048x8, .f32⟩
  | 72 => ⟨S2x2048x8, .f32⟩
  | 73 => ⟨S2x2048x8, .f32⟩
  | 74 => ⟨S2x2048x8, .f32⟩
  | 75 => ⟨S2x2048x8, .f32⟩
  | 76 => ⟨S2x2048x8, .f32⟩
  | 77 => ⟨S2x2048x8, .f32⟩
  | 78 => ⟨S8, .f32⟩
  | 79 => ⟨S8, .f32⟩
  | 80 => ⟨S2x16x128x2x4x64, .f32⟩
  | 81 => ⟨S2x16x128x2x4, .f32⟩
  | 82 => ⟨S2x16x128x2x128, .f32⟩
  | 83 => ⟨S2x16x128x2x128, .f32⟩
  | 84 => ⟨S2x4, .f32⟩
  | 85 => ⟨S2x4, .f32⟩
  | 86 => ⟨S1x1x1x2x4, .f32⟩
  | 87 => ⟨S2x16x128x2x4, .f32⟩
  | 88 => ⟨S2x16x128x2x4, .f32⟩
  | 89 => ⟨S_, .f32⟩
  | 90 => ⟨S_, .f32⟩
  | 91 => ⟨S2x16x128x2x4, .f32⟩
  | 92 => ⟨S2x16x128x2x4x1, .f32⟩
  | 93 => ⟨S2x16x128x2x4x64, .f32⟩
  | 94 => ⟨S2x16x128x2x4x64, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S128x128x1x1, .i1⟩
  | 107 => ⟨S2x16x128x1x2x4, .f32⟩
  | 108 => ⟨S2x16x1x128x2x4, .f32⟩
  | 109 => ⟨S2x16x128x128x2x4, .f32⟩
  | 110 => ⟨S2x16x128x128x2x4, .f32⟩
  | 111 => ⟨S2x16x128x128x2x4, .f32⟩
  | 112 => ⟨S_, .f32⟩
  | 113 => ⟨S_, .f32⟩
  | 114 => ⟨S2x16x128x128x2x4, .i1⟩
  | 115 => ⟨S2x16x128x128x2x4, .f32⟩
  | 116 => ⟨S2x16x128x128x2x4, .f32⟩
  | 117 => ⟨S2x16x128x128x2x4, .f32⟩
  | 118 => ⟨S2x16x2x128x128, .f32⟩
  | 119 => ⟨S2x16x128x128x2, .f32⟩
  | 120 => ⟨S2x16x128x128x2x1, .f32⟩
  | 121 => ⟨S2x16x128x128x2x4, .f32⟩
  | 122 => ⟨S2x16x128x128x2x4, .f32⟩
  | 123 => ⟨S2x16x2x4x64x128, .f32⟩
  | 124 => ⟨S2x16x128x2x4x64, .f32⟩
  | 125 => ⟨S2x16x1x2x4, .f32⟩
  | 126 => ⟨S2x16x128x2x4, .f32⟩
  | 127 => ⟨S2x16x128x2x4, .f32⟩
  | _ => ⟨S2x2048x512, .f32⟩

abbrev hbmTy0_2 (i : Nat) : BufTy := match i % 128 with
  | 0 => ⟨S2x16x128x2x4, .f32⟩
  | 1 => ⟨S2x16x128x2x4x1, .f32⟩
  | 2 => ⟨S2x16x128x2x4x64, .f32⟩
  | 3 => ⟨S2x16x128x2x4x64, .f32⟩
  | 4 => ⟨S2x16x2x4x64x128, .f32⟩
  | 5 => ⟨S2x16x1x2x4, .f32⟩
  | 6 => ⟨S2x16x2x4, .f32⟩
  | 7 => ⟨S2x16x2x4, .f32⟩
  | 8 => ⟨S_, .f32⟩
  | 9 => ⟨S2x2x4x64x128, .f32⟩
  | 10 => ⟨S16x2x2x4x64x128, .f32⟩
  | 11 => ⟨S16x2x2x4, .f32⟩
  | 12 => ⟨S1x2x2x4x64x128, .f32⟩
  | 13 => ⟨S2x2x4x64x128, .f32⟩
  | 14 => ⟨S1x2x2x4, .f32⟩
  | 15 => ⟨S2x2x4, .f32⟩
  | 16 => ⟨S2x2x4x1x1, .f32⟩
  | 17 => ⟨S2x2x4x64x128, .f32⟩
  | 18 => ⟨S2x2x4x64x128, .f32⟩
  | 19 => ⟨S2x2x4x64x128, .f32⟩
  | 20 => ⟨S1x2x2x4x64x128, .f32⟩
  | 21 => ⟨S2x2x4x64x128, .f32⟩
  | 22 => ⟨S1x2x2x4, .f32⟩
  | 23 => ⟨S2x2x4, .f32⟩
  | 24 => ⟨S2x2x4x1x1, .f32⟩
  | 25 => ⟨S2x2x4x64x128, .f32⟩
  | 26 => ⟨S2x2x4x64x128, .f32⟩
  | 27 => ⟨S2x2x4x64x128, .f32⟩
  | 28 => ⟨S1x2x2x4x64x128, .f32⟩
  | 29 => ⟨S2x2x4x64x128, .f32⟩
  | 30 => ⟨S1x2x2x4, .f32⟩
  | 31 => ⟨S2x2x4, .f32⟩
  | 32 => ⟨S2x2x4x1x1, .f32⟩
  | 33 => ⟨S2x2x4x64x128, .f32⟩
  | 34 => ⟨S2x2x4x64x128, .f32⟩
  | 35 => ⟨S2x2x4x64x128, .f32⟩
  | 36 => ⟨S1x2x2x4x64x128, .f32⟩
  | 37 => ⟨S2x2x4x64x128, .f32⟩
  | 38 => ⟨S1x2x2x4, .f32⟩
  | 39 => ⟨S2x2x4, .f32⟩
  | 40 => ⟨S2x2x4x1x1, .f32⟩
  | 41 => ⟨S2x2x4x64x128, .f32⟩
  | 42 => ⟨S2x2x4x64x128, .f32⟩
  | 43 => ⟨S2x2x4x64x128, .f32⟩
  | 44 => ⟨S1x2x2x4x64x128, .f32⟩
  | 45 => ⟨S2x2x4x64x128, .f32⟩
  | 46 => ⟨S1x2x2x4, .f32⟩
  | 47 => ⟨S2x2x4, .f32⟩
  | 48 => ⟨S2x2x4x1x1, .f32⟩
  | 49 => ⟨S2x2x4x64x128, .f32⟩
  | 50 => ⟨S2x2x4x64x128, .f32⟩
  | 51 => ⟨S2x2x4x64x128, .f32⟩
  | 52 => ⟨S1x2x2x4x64x128, .f32⟩
  | 53 => ⟨S2x2x4x64x128, .f32⟩
  | 54 => ⟨S1x2x2x4, .f32⟩
  | 55 => ⟨S2x2x4, .f32⟩
  | 56 => ⟨S2x2x4x1x1, .f32⟩
  | 57 => ⟨S2x2x4x64x128, .f32⟩
  | 58 => ⟨S2x2x4x64x128, .f32⟩
  | 59 => ⟨S2x2x4x64x128, .f32⟩
  | 60 => ⟨S1x2x2x4x64x128, .f32⟩
  | 61 => ⟨S2x2x4x64x128, .f32⟩
  | 62 => ⟨S1x2x2x4, .f32⟩
  | 63 => ⟨S2x2x4, .f32⟩
  | 64 => ⟨S2x2x4x1x1, .f32⟩
  | 65 => ⟨S2x2x4x64x128, .f32⟩
  | 66 => ⟨S2x2x4x64x128, .f32⟩
  | 67 => ⟨S2x2x4x64x128, .f32⟩
  | 68 => ⟨S1x2x2x4x64x128, .f32⟩
  | 69 => ⟨S2x2x4x64x128, .f32⟩
  | 70 => ⟨S1x2x2x4, .f32⟩
  | 71 => ⟨S2x2x4, .f32⟩
  | 72 => ⟨S2x2x4x1x1, .f32⟩
  | 73 => ⟨S2x2x4x64x128, .f32⟩
  | 74 => ⟨S2x2x4x64x128, .f32⟩
  | 75 => ⟨S2x2x4x64x128, .f32⟩
  | 76 => ⟨S1x2x2x4x64x128, .f32⟩
  | 77 => ⟨S2x2x4x64x128, .f32⟩
  | 78 => ⟨S1x2x2x4, .f32⟩
  | 79 => ⟨S2x2x4, .f32⟩
  | 80 => ⟨S2x2x4x1x1, .f32⟩
  | 81 => ⟨S2x2x4x64x128, .f32⟩
  | 82 => ⟨S2x2x4x64x128, .f32⟩
  | 83 => ⟨S2x2x4x64x128, .f32⟩
  | 84 => ⟨S1x2x2x4x64x128, .f32⟩
  | 85 => ⟨S2x2x4x64x128, .f32⟩
  | 86 => ⟨S1x2x2x4, .f32⟩
  | 87 => ⟨S2x2x4, .f32⟩
  | 88 => ⟨S2x2x4x1x1, .f32⟩
  | 89 => ⟨S2x2x4x64x128, .f32⟩
  | 90 => ⟨S2x2x4x64x128, .f32⟩
  | 91 => ⟨S2x2x4x64x128, .f32⟩
  | 92 => ⟨S1x2x2x4x64x128, .f32⟩
  | 93 => ⟨S2x2x4x64x128, .f32⟩
  | 94 => ⟨S1x2x2x4, .f32⟩
  | 95 => ⟨S2x2x4, .f32⟩
  | 96 => ⟨S2x2x4x1x1, .f32⟩
  | 97 => ⟨S2x2x4x64x128, .f32⟩
  | 98 => ⟨S2x2x4x64x128, .f32⟩
  | 99 => ⟨S2x2x4x64x128, .f32⟩
  | 100 => ⟨S1x2x2x4x64x128, .f32⟩
  | 101 => ⟨S2x2x4x64x128, .f32⟩
  | 102 => ⟨S1x2x2x4, .f32⟩
  | 103 => ⟨S2x2x4, .f32⟩
  | 104 => ⟨S2x2x4x1x1, .f32⟩
  | 105 => ⟨S2x2x4x64x128, .f32⟩
  | 106 => ⟨S2x2x4x64x128, .f32⟩
  | 107 => ⟨S2x2x4x64x128, .f32⟩
  | 108 => ⟨S1x2x2x4x64x128, .f32⟩
  | 109 => ⟨S2x2x4x64x128, .f32⟩
  | 110 => ⟨S1x2x2x4, .f32⟩
  | 111 => ⟨S2x2x4, .f32⟩
  | 112 => ⟨S2x2x4x1x1, .f32⟩
  | 113 => ⟨S2x2x4x64x128, .f32⟩
  | 114 => ⟨S2x2x4x64x128, .f32⟩
  | 115 => ⟨S2x2x4x64x128, .f32⟩
  | 116 => ⟨S1x2x2x4x64x128, .f32⟩
  | 117 => ⟨S2x2x4x64x128, .f32⟩
  | 118 => ⟨S1x2x2x4, .f32⟩
  | 119 => ⟨S2x2x4, .f32⟩
  | 120 => ⟨S2x2x4x1x1, .f32⟩
  | 121 => ⟨S2x2x4x64x128, .f32⟩
  | 122 => ⟨S2x2x4x64x128, .f32⟩
  | 123 => ⟨S2x2x4x64x128, .f32⟩
  | 124 => ⟨S1x2x2x4x64x128, .f32⟩
  | 125 => ⟨S2x2x4x64x128, .f32⟩
  | 126 => ⟨S1x2x2x4, .f32⟩
  | 127 => ⟨S2x2x4, .f32⟩
  | _ => ⟨S2x2048x512, .f32⟩

abbrev hbmTy0_3 (i : Nat) : BufTy := match i % 128 with
  | 0 => ⟨S2x2x4x1x1, .f32⟩
  | 1 => ⟨S2x2x4x64x128, .f32⟩
  | 2 => ⟨S2x2x4x64x128, .f32⟩
  | 3 => ⟨S2x2x4x64x128, .f32⟩
  | 4 => ⟨S1x2x2x4x64x128, .f32⟩
  | 5 => ⟨S2x2x4x64x128, .f32⟩
  | 6 => ⟨S1x2x2x4, .f32⟩
  | 7 => ⟨S2x2x4, .f32⟩
  | 8 => ⟨S2x2x4x1x1, .f32⟩
  | 9 => ⟨S2x2x4x64x128, .f32⟩
  | 10 => ⟨S2x2x4x64x128, .f32⟩
  | 11 => ⟨S2x2x4x64x128, .f32⟩
  | 12 => ⟨S1x2x2x4x64x128, .f32⟩
  | 13 => ⟨S1x2x2x4x64x128, .f32⟩
  | 14 => ⟨S1x2x2x4x64x128, .f32⟩
  | 15 => ⟨S1x2x2x4x64x128, .f32⟩
  | 16 => ⟨S1x2x2x4x64x128, .f32⟩
  | 17 => ⟨S1x2x2x4x64x128, .f32⟩
  | 18 => ⟨S1x2x2x4x64x128, .f32⟩
  | 19 => ⟨S1x2x2x4x64x128, .f32⟩
  | 20 => ⟨S1x2x2x4x64x128, .f32⟩
  | 21 => ⟨S1x2x2x4x64x128, .f32⟩
  | 22 => ⟨S1x2x2x4x64x128, .f32⟩
  | 23 => ⟨S1x2x2x4x64x128, .f32⟩
  | 24 => ⟨S1x2x2x4x64x128, .f32⟩
  | 25 => ⟨S1x2x2x4x64x128, .f32⟩
  | 26 => ⟨S1x2x2x4x64x128, .f32⟩
  | 27 => ⟨S1x2x2x4x64x128, .f32⟩
  | 28 => ⟨S16x2x2x4x64x128, .f32⟩
  | 29 => ⟨S2x16x2x4x64x128, .f32⟩
  | 30 => ⟨S2x16x128x2x4, .f32⟩
  | 31 => ⟨S2x16x128x2x4x1, .f32⟩
  | 32 => ⟨S2x16x2x4x64x128, .f32⟩
  | 33 => ⟨S2x16x128x2x4x64, .f32⟩
  | 34 => ⟨S2x16x128x2x4x64, .f32⟩
  | 35 => ⟨S2x16x128x2x4x64, .f32⟩
  | 36 => ⟨S2x16x128x2x4x64, .f32⟩
  | 37 => ⟨S2x4x1, .f32⟩
  | 38 => ⟨S1x1x1x2x4x1, .f32⟩
  | 39 => ⟨S2x16x128x2x4x64, .f32⟩
  | 40 => ⟨S2x16x128x2x4x64, .f32⟩
  | 41 => ⟨S2x16x128x2x4x64, .f32⟩
  | 42 => ⟨S2x2048x512, .f32⟩
  | 43 => ⟨S2x16x128x2x4x64, .f32⟩
  | 44 => ⟨S2x16x128x512, .f32⟩
  | 45 => ⟨S4096x512, .f32⟩
  | 46 => ⟨S4096x512, .bf16⟩
  | 47 => ⟨S4096x1024, .f32⟩
  | 48 => ⟨S4096x8, .f32⟩
  | 49 => ⟨S_, .f32⟩
  | 50 => ⟨S4096x128, .f32⟩
  | 51 => ⟨S4096x1024, .f32⟩
  | 52 => ⟨S4096x512, .f32⟩
  | 53 => ⟨S4096x1024, .f32⟩
  | 54 => ⟨S4096x1024, .bf16⟩
  | 55 => ⟨S4x1024, .f32⟩
  | 56 => ⟨S2x2048x1024, .bf16⟩
  | 57 => ⟨S2x2048x512, .bf16⟩
  | 58 => ⟨S2x2048x1024, .f32⟩
  | 59 => ⟨S2x2048x1024, .f32⟩
  | 60 => ⟨S2x2048x128, .f32⟩
  | 61 => ⟨S2x2048x512, .f32⟩
  | 62 => ⟨S2x2048x512, .bf16⟩
  | 63 => ⟨S2x2048x1024, .bf16⟩
  | 64 => ⟨S2x2048x128, .bf16⟩
  | 65 => ⟨S8x1024, .f32⟩
  | 66 => ⟨S1x1024, .f32⟩
  | 67 => ⟨S1x128, .f32⟩
  | 68 => ⟨S1x128, .f32⟩
  | 69 => ⟨S1x128, .f32⟩
  | 70 => ⟨S1x512, .f32⟩
  | _ => ⟨S2x2048x512, .f32⟩

abbrev hbmTy (i : Nat) : BufTy := match i / 128 with
  | 0 => hbmTy0_0 i
  | 1 => hbmTy0_1 i
  | 2 => hbmTy0_2 i
  | 3 => hbmTy0_3 i
  | _ => ⟨S2x2048x512, .f32⟩

abbrev bufTy : (tb : Table) → Fin (tcTables nBuf tb) → BufTy
  | .hbm, ⟨i, _⟩ => hbmTy i
  | .local _ .vmem, ⟨0, _⟩ => ⟨S2x128x512, .bf16⟩
  | .local _ .vmem, ⟨1, _⟩ => ⟨S2x128x512, .bf16⟩
  | .local _ .vmem, ⟨2, _⟩ => ⟨S2x128x512, .bf16⟩
  | .local _ .vmem, ⟨3, _⟩ => ⟨S2x128x512, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x128, .f32⟩
  | .local _ .vmem, ⟨9, _⟩ => ⟨S2x128x128, .f32⟩
  | .local _ .vmem, ⟨10, _⟩ => ⟨S2x128x512, .f32⟩
  | .local _ .vmem, ⟨11, _⟩ => ⟨S2x128x512, .f32⟩
  | .local _ .vmem, ⟨12, _⟩ => ⟨S2x1x128x512, .f32⟩
  | .local _ .vmem, ⟨13, _⟩ => ⟨S2x1x128x512, .f32⟩
  | .local _ .vmem, ⟨14, _⟩ => ⟨S4x1024, .f32⟩
  | .local _ .vmem, ⟨15, _⟩ => ⟨S1x1024, .f32⟩
  | .local _ .vmem, ⟨16, _⟩ => ⟨S1x128, .f32⟩
  | .local _ .vmem, ⟨17, _⟩ => ⟨S1x128, .f32⟩
  | .local _ .vmem, ⟨18, _⟩ => ⟨S1x512, .f32⟩
  | .local _ .vmem, ⟨19, _⟩ => ⟨S1x512, .f32⟩
  | .local _ .vmem, ⟨20, _⟩ => ⟨S128x512, .bf16⟩
  | .local _ .vmem, ⟨21, _⟩ => ⟨S512x128, .bf16⟩
  | .local _ .vmem, ⟨22, _⟩ => ⟨S128x128, .bf16⟩
  | .local _ .vmem, ⟨23, _⟩ => ⟨S128x128, .bf16⟩
  | .local _ .vmem, ⟨24, _⟩ => ⟨S2x128x512, .bf16⟩
  | .local _ .vmem, ⟨25, _⟩ => ⟨S2x128x512, .bf16⟩
  | .local _ .vmem, ⟨26, _⟩ => ⟨S2x128x1024, .bf16⟩
  | .local _ .vmem, ⟨27, _⟩ => ⟨S2x128x1024, .bf16⟩
  | .local _ .vmem, ⟨28, _⟩ => ⟨S2x128x128, .bf16⟩
  | .local _ .vmem, ⟨29, _⟩ => ⟨S2x128x128, .bf16⟩
  | .local _ .vmem, ⟨30, _⟩ => ⟨S8x1024, .f32⟩
  | .local _ .vmem, ⟨31, _⟩ => ⟨S1x1024, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x512, .f32⟩
  | .local _ .vmem, ⟨36, _⟩ => ⟨S8x1024, .f32⟩
  | .local _ .vmem, ⟨37, _⟩ => ⟨S8x1024, .f32⟩
  | .local _ .vmem, ⟨38, _⟩ => ⟨S128x512, .f32⟩
  | .local _ .vmem, ⟨39, _⟩ => ⟨S128x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v3 : Ref sig .tc := ⟨.hbm, 47, rfl⟩
abbrev main_v4 : Ref sig .tc := ⟨.hbm, 48, rfl⟩
abbrev main_cst : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_c_2 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v9 : Ref sig .tc := ⟨.hbm, 74, rfl⟩
abbrev main_v10 : Ref sig .tc := ⟨.hbm, 75, rfl⟩
abbrev main_cst_3 : Ref sig .tc := ⟨.hbm, 76, rfl⟩
abbrev main_cst_4 : Ref sig .tc := ⟨.hbm, 77, rfl⟩
abbrev main_call4_v0 : Ref sig .tc := ⟨.hbm, 78, rfl⟩
abbrev main_call4_v1 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_c_5 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_v5 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_c : Ref sig .tc := ⟨.hbm, 93, rfl⟩
abbrev main_call5_v9 : Ref sig .tc := ⟨.hbm, 94, rfl⟩
abbrev main_call5_v10 : Ref sig .tc := ⟨.hbm, 95, rfl⟩
abbrev main_call5_v11 : Ref sig .tc := ⟨.hbm, 96, rfl⟩
abbrev main_call5_c_0 : Ref sig .tc := ⟨.hbm, 97, rfl⟩
abbrev main_call5_v12 : Ref sig .tc := ⟨.hbm, 98, rfl⟩
abbrev main_call5_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_cst_6 : Ref sig .tc := ⟨.hbm, 103, rfl⟩
abbrev main_cst_7 : Ref sig .tc := ⟨.hbm, 104, rfl⟩
abbrev main_call6_v0 : Ref sig .tc := ⟨.hbm, 105, rfl⟩
abbrev main_call6_v1 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_cst_8 : Ref sig .tc := ⟨.hbm, 112, rfl⟩
abbrev main_cst_9 : Ref sig .tc := ⟨.hbm, 113, rfl⟩
abbrev main_call7_v0 : Ref sig .tc := ⟨.hbm, 114, rfl⟩
abbrev main_call7_v1 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_cst_10 : Ref sig .tc := ⟨.hbm, 121, rfl⟩
abbrev main_cst_11 : Ref sig .tc := ⟨.hbm, 122, rfl⟩
abbrev main_call8_v0 : Ref sig .tc := ⟨.hbm, 123, rfl⟩
abbrev main_call8_v1 : Ref sig .tc := ⟨.hbm, 124, rfl⟩
abbrev main_v27 : Ref sig .tc := ⟨.hbm, 125, rfl⟩
abbrev main_v28 : Ref sig .tc := ⟨.hbm, 126, rfl⟩
abbrev main_cst_12 : Ref sig .tc := ⟨.hbm, 127, rfl⟩
abbrev main_v29 : Ref sig .tc := ⟨.hbm, 128, rfl⟩
abbrev main_cst_13 : Ref sig .tc := ⟨.hbm, 129, rfl⟩
abbrev main_v30 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_cst_14 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_cst_15 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_cst_16 : Ref sig .tc := ⟨.hbm, 176, rfl⟩
abbrev main_v74 : Ref sig .tc := ⟨.hbm, 177, rfl⟩
abbrev main_v75 : Ref sig .tc := ⟨.hbm, 178, rfl⟩
abbrev main_cst_17 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_call9_cst : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_call9_v3 : Ref sig .tc := ⟨.hbm, 196, rfl⟩
abbrev main_call9_v4 : Ref sig .tc := ⟨.hbm, 197, rfl⟩
abbrev main_call9_v5 : Ref sig .tc := ⟨.hbm, 198, rfl⟩
abbrev main_call9_v6 : Ref sig .tc := ⟨.hbm, 199, rfl⟩
abbrev main_call9_v7 : Ref sig .tc := ⟨.hbm, 200, rfl⟩
abbrev main_call9_v8 : Ref sig .tc := ⟨.hbm, 201, rfl⟩
abbrev main_call9_v9 : Ref sig .tc := ⟨.hbm, 202, rfl⟩
abbrev main_call9_v10 : Ref sig .tc := ⟨.hbm, 203, rfl⟩
abbrev main_call9_v11 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_call10_call0_cst : Ref sig .tc := ⟨.hbm, 217, rfl⟩
abbrev main_call10_call0_v0 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_c_18 : Ref sig .tc := ⟨.hbm, 223, rfl⟩
abbrev main_v104 : Ref sig .tc := ⟨.hbm, 224, rfl⟩
abbrev main_call11_v0 : Ref sig .tc := ⟨.hbm, 225, rfl⟩
abbrev main_call11_c : Ref sig .tc := ⟨.hbm, 226, rfl⟩
abbrev main_call11_v1 : Ref sig .tc := ⟨.hbm, 227, rfl⟩
abbrev main_call11_v2 : Ref sig .tc := ⟨.hbm, 228, rfl⟩
abbrev main_call11_v3 : Ref sig .tc := ⟨.hbm, 229, rfl⟩
abbrev main_call11_v4 : Ref sig .tc := ⟨.hbm, 230, rfl⟩
abbrev main_call11_c_0 : Ref sig .tc := ⟨.hbm, 231, rfl⟩
abbrev main_call11_v5 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_cst_19 : Ref sig .tc := ⟨.hbm, 240, rfl⟩
abbrev main_call12_v0 : Ref sig .tc := ⟨.hbm, 241, rfl⟩
abbrev main_call12_v1 : Ref sig .tc := ⟨.hbm, 242, rfl⟩
abbrev main_call12_v2 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_cst_20 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_v163 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_v196 : Ref sig .tc := ⟨.hbm, 329, rfl⟩
abbrev main_v197 : Ref sig .tc := ⟨.hbm, 330, rfl⟩
abbrev main_v198 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_v242 : Ref sig .tc := ⟨.hbm, 375, rfl⟩
abbrev main_v243 : Ref sig .tc := ⟨.hbm, 376, rfl⟩
abbrev main_v244 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_v279 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_cst_21 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_v310 : Ref sig .tc := ⟨.hbm, 444, rfl⟩
abbrev main_v311 : Ref sig .tc := ⟨.hbm, 445, rfl⟩
abbrev main_v312_0 : Ref sig .tc := ⟨.hbm, 446, rfl⟩
abbrev main_v312_1 : Ref sig .tc := ⟨.hbm, 447, rfl⟩
abbrev main_v312_2 : Ref sig .tc := ⟨.hbm, 448, rfl⟩
abbrev main_v312_3 : Ref sig .tc := ⟨.hbm, 449, rfl⟩
abbrev main_v312_4 : Ref sig .tc := ⟨.hbm, 450, rfl⟩
abbrev main_v312_5 : Ref sig .tc := ⟨.hbm, 451, rfl⟩
abbrev main_v312_6 : Ref sig .tc := ⟨.hbm, 452, rfl⟩
abbrev main_v312_7 : Ref sig .tc := ⟨.hbm, 453, rfl⟩
abbrev main_v312_8 : Ref sig .tc := ⟨.hbm, 454, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v1615 : BitVec 32 := Scalar.extui v0
  let c0_i32_440 : BitVec 32 := 0#32
  let v1616 : BitVec 1 := Scalar.cmpi .ne v1615 c0_i32_440
  v1616

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1617 : BitVec 1 := Scalar.xori v0 v_true
  let v1618 : BitVec 32 := Scalar.extui v1617
  let c0_i32_441 : BitVec 32 := 0#32
  let v1619 : BitVec 1 := Scalar.cmpi .ne v1618 c0_i32_441
  v1619

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v1620 : BitVec 32 := Scalar.extui v0
  let c0_i32_442 : BitVec 32 := 0#32
  let v1621 : BitVec 1 := Scalar.cmpi .ne v1620 c0_i32_442
  v1621

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_443 : BitVec 1 := 1#1
  let v1622 : BitVec 1 := Scalar.xori v0 true_443
  let v1623 : BitVec 32 := Scalar.extui v1622
  let c0_i32_444 : BitVec 32 := 0#32
  let v1624 : BitVec 1 := Scalar.cmpi .ne v1623 c0_i32_444
  v1624

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v1625 : BitVec 32 := Scalar.extui v0
  let c0_i32_445 : BitVec 32 := 0#32
  let v1626 : BitVec 1 := Scalar.cmpi .ne v1625 c0_i32_445
  v1626

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_446 : BitVec 1 := 1#1
  let v1627 : BitVec 1 := Scalar.xori v0 true_446
  let v1628 : BitVec 32 := Scalar.extui v1627
  let c0_i32_447 : BitVec 32 := 0#32
  let v1629 : BitVec 1 := Scalar.cmpi .ne v1628 c0_i32_447
  v1629

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v1630 : BitVec 32 := Scalar.extui v0
  let c0_i32_448 : BitVec 32 := 0#32
  let v1631 : BitVec 1 := Scalar.cmpi .ne v1630 c0_i32_448
  v1631

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_449 : BitVec 1 := 1#1
  let v1632 : BitVec 1 := Scalar.xori v0 true_449
  let v1633 : BitVec 32 := Scalar.extui v1632
  let c0_i32_450 : BitVec 32 := 0#32
  let v1634 : BitVec 1 := Scalar.cmpi .ne v1633 c0_i32_450
  v1634

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v1635 : BitVec 32 := Scalar.extui v0
  let c0_i32_451 : BitVec 32 := 0#32
  let v1636 : BitVec 1 := Scalar.cmpi .ne v1635 c0_i32_451
  v1636

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_452 : BitVec 1 := 1#1
  let v1637 : BitVec 1 := Scalar.xori v0 true_452
  let v1638 : BitVec 32 := Scalar.extui v1637
  let c0_i32_453 : BitVec 32 := 0#32
  let v1639 : BitVec 1 := Scalar.cmpi .ne v1638 c0_i32_453
  v1639

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v1640 : BitVec 32 := Scalar.extui v0
  let c0_i32_454 : BitVec 32 := 0#32
  let v1641 : BitVec 1 := Scalar.cmpi .ne v1640 c0_i32_454
  v1641

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_455 : BitVec 1 := 1#1
  let v1642 : BitVec 1 := Scalar.xori v0 true_455
  let v1643 : BitVec 32 := Scalar.extui v1642
  let c0_i32_456 : BitVec 32 := 0#32
  let v1644 : BitVec 1 := Scalar.cmpi .ne v1643 c0_i32_456
  v1644

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c1_i32 : BitVec 32 := 1#32
  let c0_i32_0 : BitVec 32 := 0#32
  ![c0_i32.toNat, v0.toNat, c1_i32.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_18 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_19 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== SsdRefIdeal.lean ====
abbrev S2x2048x512 : Shape := ⟨3, ![2, 2048, 512]⟩
abbrev S2x2048x1024 : Shape := ⟨3, ![2, 2048, 1024]⟩
abbrev S2x2048x8 : Shape := ⟨3, ![2, 2048, 8]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S2x3x1024 : Shape := ⟨3, ![2, 3, 1024]⟩
abbrev S2x2051x1024 : Shape := ⟨3, ![2, 2051, 1024]⟩
abbrev S1x1x1024 : Shape := ⟨3, ![1, 1, 1024]⟩
abbrev S2x2048x8x64 : Shape := ⟨4, ![2, 2048, 8, 64]⟩
abbrev S2x2048x256 : Shape := ⟨3, ![2, 2048, 256]⟩
abbrev S2x2048x2x128 : Shape := ⟨4, ![2, 2048, 2, 128]⟩
abbrev S1x1x8 : Shape := ⟨3, ![1, 1, 8]⟩
abbrev S2x16x128x2x4x64 : Shape := ⟨6, ![2, 16, 128, 2, 4, 64]⟩
abbrev S2x16x128x2x4 : Shape := ⟨5, ![2, 16, 128, 2, 4]⟩
abbrev S2x16x128x2x128 : Shape := ⟨5, ![2, 16, 128, 2, 128]⟩
abbrev S2x4 : Shape := ⟨2, ![2, 4]⟩
abbrev S1x1x1x2x4 : Shape := ⟨5, ![1, 1, 1, 2, 4]⟩
abbrev S2x16x128x2x4x1 : Shape := ⟨6, ![2, 16, 128, 2, 4, 1]⟩
abbrev S128x128 : Shape := ⟨2, ![128, 128]⟩
abbrev S128x128x1x1 : Shape := ⟨4, ![128, 128, 1, 1]⟩
abbrev S2x16x128x1x2x4 : Shape := ⟨6, ![2, 16, 128, 1, 2, 4]⟩
abbrev S2x16x1x128x2x4 : Shape := ⟨6, ![2, 16, 1, 128, 2, 4]⟩
abbrev S2x16x128x128x2x4 : Shape := ⟨6, ![2, 16, 128, 128, 2, 4]⟩
abbrev S2x16x2x128x128 : Shape := ⟨5, ![2, 16, 2, 128, 128]⟩
abbrev S2x16x128x128x2 : Shape := ⟨5, ![2, 16, 128, 128, 2]⟩
abbrev S2x16x128x128x2x1 : Shape := ⟨6, ![2, 16, 128, 128, 2, 1]⟩
abbrev S2x16x2x4x64x128 : Shape := ⟨6, ![2, 16, 2, 4, 64, 128]⟩
abbrev S2x16x1x2x4 : Shape := ⟨5, ![2, 16, 1, 2, 4]⟩
abbrev S2x16x2x4 : Shape := ⟨4, ![2, 16, 2, 4]⟩
abbrev S2x2x4x64x128 : Shape := ⟨5, ![2, 2, 4, 64, 128]⟩
abbrev S16x2x2x4x64x128 : Shape := ⟨6, ![16, 2, 2, 4, 64, 128]⟩
abbrev S16x2x2x4 : Shape := ⟨4, ![16, 2, 2, 4]⟩
abbrev S1x2x2x4x64x128 : Shape := ⟨6, ![1, 2, 2, 4, 64, 128]⟩
abbrev S1x2x2x4 : Shape := ⟨4, ![1, 2, 2, 4]⟩
abbrev S2x2x4 : Shape := ⟨3, ![2, 2, 4]⟩
abbrev S2x2x4x1x1 : Shape := ⟨5, ![2, 2, 4, 1, 1]⟩
abbrev S2x4x1 : Shape := ⟨3, ![2, 4, 1]⟩
abbrev S1x1x1x2x4x1 : Shape := ⟨6, ![1, 1, 1, 2, 4, 1]⟩
abbrev S2x2048x2x256 : Shape := ⟨4, ![2, 2048, 2, 256]⟩
abbrev S2x2048x2 : Shape := ⟨3, ![2, 2048, 2]⟩
abbrev S2x2048x2x1 : Shape := ⟨4, ![2, 2048, 2, 1]⟩
abbrev S1x1x512 : Shape := ⟨3, ![1, 1, 512]⟩
abbrev S2x16x2x4x128x128 : Shape := ⟨6, ![2, 16, 2, 4, 128, 128]⟩
abbrev S2x2048x120 : Shape := ⟨3, ![2, 2048, 120]⟩
abbrev S2x2048x128 : Shape := ⟨3, ![2, 2048, 128]⟩
abbrev S8x1024 : Shape := ⟨2, ![8, 1024]⟩
abbrev S1x120 : Shape := ⟨2, ![1, 120]⟩
abbrev S1x128 : Shape := ⟨2, ![1, 128]⟩

abbrev nBuf : Space → Nat
  | .hbm => 929
  | .vmem => 0
  | .smem => 0
  | _ => 0

abbrev hbmTy0_0 (i : Nat) : BufTy := match i % 128 with
  | 0 => ⟨S2x2048x512, .f32⟩
  | 1 => ⟨S2x2048x1024, .f32⟩
  | 2 => ⟨S2x2048x8, .f32⟩
  | 3 => ⟨S1x4x1024, .f32⟩
  | 4 => ⟨S1x1024, .f32⟩
  | 5 => ⟨S1x8, .f32⟩
  | 6 => ⟨S1x8, .f32⟩
  | 7 => ⟨S1x8, .f32⟩
  | 8 => ⟨S1x512, .f32⟩
  | 9 => ⟨S2x2048x1024, .f32⟩
  | 10 => ⟨S4x1024, .f32⟩
  | 11 => ⟨S1024, .f32⟩
  | 12 => ⟨S8, .f32⟩
  | 13 => ⟨S8, .f32⟩
  | 14 => ⟨S8, .f32⟩
  | 15 => ⟨S512, .f32⟩
  | 16 => ⟨S_, .f32⟩
  | 17 => ⟨S2x3x1024, .f32⟩
  | 18 => ⟨S2x2051x1024, .f32⟩
  | 19 => ⟨S_, .f32⟩
  | 20 => ⟨S2x3x1024, .f32⟩
  | 21 => ⟨S1x1024, .f32⟩
  | 22 => ⟨S1024, .f32⟩
  | 23 => ⟨S2x2048x1024, .f32⟩
  | 24 => ⟨S1x1x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S1x1024, .f32⟩
  | 31 => ⟨S1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x2048x1024, .f32⟩
  | 37 => ⟨S1x1024, .f32⟩
  | 38 => ⟨S1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S1x1024, .f32⟩
  | 45 => ⟨S1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S1x1x1024, .f32⟩
  | 52 => ⟨S2x2048x1024, .f32⟩
  | 53 => ⟨S2x2048x1024, .f32⟩
  | 54 => ⟨S2x2048x1024, .f32⟩
  | 55 => ⟨S2x2048x1024, .f32⟩
  | 56 => ⟨S_, .f32⟩
  | 57 => ⟨S2x2048x1024, .f32⟩
  | 58 => ⟨S2x2048x1024, .f32⟩
  | 59 => ⟨S_, .f32⟩
  | 60 => ⟨S2x2048x1024, .f32⟩
  | 61 => ⟨S2x2048x1024, .f32⟩
  | 62 => ⟨S_, .f32⟩
  | 63 => ⟨S2x2048x1024, .f32⟩
  | 64 => ⟨S2x2048x1024, .f32⟩
  | 65 => ⟨S2x2048x1024, .f32⟩
  | 66 => ⟨S2x2048x1024, .f32⟩
  | 67 => ⟨S2x2048x512, .f32⟩
  | 68 => ⟨S2x2048x8x64, .f32⟩
  | 69 => ⟨S2x2048x256, .f32⟩
  | 70 => ⟨S2x2048x2x128, .f32⟩
  | 71 => ⟨S2x2048x256, .f32⟩
  | 72 => ⟨S2x2048x2x128, .f32⟩
  | 73 => ⟨S1x1x8, .f32⟩
  | 74 => ⟨S2x2048x8, .f32⟩
  | 75 => ⟨S2x2048x8, .f32⟩
  | 76 => ⟨S_, .f32⟩
  | 77 => ⟨S2x2048x8, .f32⟩
  | 78 => ⟨S2x2048x8, .f32⟩
  | 79 => ⟨S2x2048x8, .f32⟩
  | 80 => ⟨S2x2048x8, .f32⟩
  | 81 => ⟨S2x2048x8, .i1⟩
  | 82 => ⟨S2x2048x8, .f32⟩
  | 83 => ⟨S2x2048x8, .f32⟩
  | 84 => ⟨S2x2048x8, .f32⟩
  | 85 => ⟨S2x2048x8, .f32⟩
  | 86 => ⟨S2x2048x8, .f32⟩
  | 87 => ⟨S2x2048x8, .f32⟩
  | 88 => ⟨S2x2048x8, .f32⟩
  | 89 => ⟨S2x2048x8, .f32⟩
  | 90 => ⟨S_, .f32⟩
  | 91 => ⟨S2x2048x8, .f32⟩
  | 92 => ⟨S2x2048x8, .i1⟩
  | 93 => ⟨S_, .f32⟩
  | 94 => ⟨S2x2048x8, .f32⟩
  | 95 => ⟨S2x2048x8, .f32⟩
  | 96 => ⟨S_, .f32⟩
  | 97 => ⟨S2x2048x8, .f32⟩
  | 98 => ⟨S2x2048x8, .i1⟩
  | 99 => ⟨S_, .f32⟩
  | 100 => ⟨S2x2048x8, .f32⟩
  | 101 => ⟨S2x2048x8, .f32⟩
  | 102 => ⟨S2x2048x8, .f32⟩
  | 103 => ⟨S2x2048x8, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S2x2048x8, .f32⟩
  | 112 => ⟨S2x2048x8, .i1⟩
  | 113 => ⟨S_, .f32⟩
  | 114 => ⟨S2x2048x8, .f32⟩
  | 115 => ⟨S2x2048x8, .f32⟩
  | 116 => ⟨S2x2048x8, .f32⟩
  | 117 => ⟨S2x2048x8, .f32⟩
  | 118 => ⟨S2x2048x8, .f32⟩
  | 119 => ⟨S_, .f32⟩
  | 120 => ⟨S2x2048x8, .f32⟩
  | 121 => ⟨S2x2048x8, .f32⟩
  | 122 => ⟨S8, .f32⟩
  | 123 => ⟨S8, .f32⟩
  | 124 => ⟨S2x16x128x2x4x64, .f32⟩
  | 125 => ⟨S2x16x128x2x4, .f32⟩
  | 126 => ⟨S2x16x128x2x128, .f32⟩
  | 127 => ⟨S2x16x128x2x128, .f32⟩
  | _ => ⟨S2x2048x512, .f32⟩

abbrev hbmTy0_1 (i : Nat) : BufTy := match i % 128 with
  | 0 => ⟨S2x4, .f32⟩
  | 1 => ⟨S2x4, .f32⟩
  | 2 => ⟨S1x1x1x2x4, .f32⟩
  | 3 => ⟨S2x16x128x2x4, .f32⟩
  | 4 => ⟨S2x16x128x2x4, .f32⟩
  | 5 => ⟨S_, .f32⟩
  | 6 => ⟨S_, .f32⟩
  | 7 => ⟨S2x16x128x2x4, .f32⟩
  | 8 => ⟨S2x16x128x2x4x1, .f32⟩
  | 9 => ⟨S2x16x128x2x4x64, .f32⟩
  | 10 => ⟨S2x16x128x2x4x64, .f32⟩
  | 11 => ⟨S_, .i1⟩
  | 12 => ⟨S128x128, .i1⟩
  | 13 => ⟨S128x128, .i32⟩
  | 14 => ⟨S_, .i32⟩
  | 15 => ⟨S128x128, .i32⟩
  | 16 => ⟨S128x128, .i32⟩
  | 17 => ⟨S128x128, .i32⟩
  | 18 => ⟨S128x128, .i1⟩
  | 19 => ⟨S_, .i1⟩
  | 20 => ⟨S128x128, .i1⟩
  | 21 => ⟨S128x128, .i1⟩
  | 22 => ⟨S128x128x1x1, .i1⟩
  | 23 => ⟨S2x16x128x1x2x4, .f32⟩
  | 24 => ⟨S2x16x1x128x2x4, .f32⟩
  | 25 => ⟨S2x16x128x128x2x4, .f32⟩
  | 26 => ⟨S2x16x128x128x2x4, .f32⟩
  | 27 => ⟨S2x16x128x128x2x4, .f32⟩
  | 28 => ⟨S_, .f32⟩
  | 29 => ⟨S_, .f32⟩
  | 30 => ⟨S2x16x128x128x2x4, .i1⟩
  | 31 => ⟨S2x16x128x128x2x4, .f32⟩
  | 32 => ⟨S2x16x128x128x2x4, .f32⟩
  | 33 => ⟨S_, .f32⟩
  | 34 => ⟨S2x16x128x128x2x4, .f32⟩
  | 35 => ⟨S2x16x128x128x2x4, .f32⟩
  | 36 => ⟨S2x16x2x128x128, .f32⟩
  | 37 => ⟨S2x16x128x128x2, .f32⟩
  | 38 => ⟨S2x16x128x128x2x1, .f32⟩
  | 39 => ⟨S2x16x128x128x2x4, .f32⟩
  | 40 => ⟨S2x16x128x128x2x4, .f32⟩
  | 41 => ⟨S2x16x2x4x64x128, .f32⟩
  | 42 => ⟨S2x16x128x2x4x64, .f32⟩
  | 43 => ⟨S2x16x1x2x4, .f32⟩
  | 44 => ⟨S2x16x128x2x4, .f32⟩
  | 45 => ⟨S2x16x128x2x4, .f32⟩
  | 46 => ⟨S2x16x128x2x4, .f32⟩
  | 47 => ⟨S2x16x128x2x4x1, .f32⟩
  | 48 => ⟨S2x16x128x2x4x64, .f32⟩
  | 49 => ⟨S2x16x128x2x4x64, .f32⟩
  | 50 => ⟨S2x16x2x4x64x128, .f32⟩
  | 51 => ⟨S2x16x1x2x4, .f32⟩
  | 52 => ⟨S2x16x2x4, .f32⟩
  | 53 => ⟨S2x16x2x4, .f32⟩
  | 54 => ⟨S_, .f32⟩
  | 55 => ⟨S2x2x4x64x128, .f32⟩
  | 56 => ⟨S16x2x2x4x64x128, .f32⟩
  | 57 => ⟨S16x2x2x4, .f32⟩
  | 58 => ⟨S1x2x2x4x64x128, .f32⟩
  | 59 => ⟨S2x2x4x64x128, .f32⟩
  | 60 => ⟨S1x2x2x4, .f32⟩
  | 61 => ⟨S2x2x4, .f32⟩
  | 62 => ⟨S2x2x4x1x1, .f32⟩
  | 63 => ⟨S2x2x4x64x128, .f32⟩
  | 64 => ⟨S2x2x4x64x128, .f32⟩
  | 65 => ⟨S2x2x4x64x128, .f32⟩
  | 66 => ⟨S1x2x2x4x64x128, .f32⟩
  | 67 => ⟨S2x2x4x64x128, .f32⟩
  | 68 => ⟨S1x2x2x4, .f32⟩
  | 69 => ⟨S2x2x4, .f32⟩
  | 70 => ⟨S2x2x4x1x1, .f32⟩
  | 71 => ⟨S2x2x4x64x128, .f32⟩
  | 72 => ⟨S2x2x4x64x128, .f32⟩
  | 73 => ⟨S2x2x4x64x128, .f32⟩
  | 74 => ⟨S1x2x2x4x64x128, .f32⟩
  | 75 => ⟨S2x2x4x64x128, .f32⟩
  | 76 => ⟨S1x2x2x4, .f32⟩
  | 77 => ⟨S2x2x4, .f32⟩
  | 78 => ⟨S2x2x4x1x1, .f32⟩
  | 79 => ⟨S2x2x4x64x128, .f32⟩
  | 80 => ⟨S2x2x4x64x128, .f32⟩
  | 81 => ⟨S2x2x4x64x128, .f32⟩
  | 82 => ⟨S1x2x2x4x64x128, .f32⟩
  | 83 => ⟨S2x2x4x64x128, .f32⟩
  | 84 => ⟨S1x2x2x4, .f32⟩
  | 85 => ⟨S2x2x4, .f32⟩
  | 86 => ⟨S2x2x4x1x1, .f32⟩
  | 87 => ⟨S2x2x4x64x128, .f32⟩
  | 88 => ⟨S2x2x4x64x128, .f32⟩
  | 89 => ⟨S2x2x4x64x128, .f32⟩
  | 90 => ⟨S1x2x2x4x64x128, .f32⟩
  | 91 => ⟨S2x2x4x64x128, .f32⟩
  | 92 => ⟨S1x2x2x4, .f32⟩
  | 93 => ⟨S2x2x4, .f32⟩
  | 94 => ⟨S2x2x4x1x1, .f32⟩
  | 95 => ⟨S2x2x4x64x128, .f32⟩
  | 96 => ⟨S2x2x4x64x128, .f32⟩
  | 97 => ⟨S2x2x4x64x128, .f32⟩
  | 98 => ⟨S1x2x2x4x64x128, .f32⟩
  | 99 => ⟨S2x2x4x64x128, .f32⟩
  | 100 => ⟨S1x2x2x4, .f32⟩
  | 101 => ⟨S2x2x4, .f32⟩
  | 102 => ⟨S2x2x4x1x1, .f32⟩
  | 103 => ⟨S2x2x4x64x128, .f32⟩
  | 104 => ⟨S2x2x4x64x128, .f32⟩
  | 105 => ⟨S2x2x4x64x128, .f32⟩
  | 106 => ⟨S1x2x2x4x64x128, .f32⟩
  | 107 => ⟨S2x2x4x64x128, .f32⟩
  | 108 => ⟨S1x2x2x4, .f32⟩
  | 109 => ⟨S2x2x4, .f32⟩
  | 110 => ⟨S2x2x4x1x1, .f32⟩
  | 111 => ⟨S2x2x4x64x128, .f32⟩
  | 112 => ⟨S2x2x4x64x128, .f32⟩
  | 113 => ⟨S2x2x4x64x128, .f32⟩
  | 114 => ⟨S1x2x2x4x64x128, .f32⟩
  | 115 => ⟨S2x2x4x64x128, .f32⟩
  | 116 => ⟨S1x2x2x4, .f32⟩
  | 117 => ⟨S2x2x4, .f32⟩
  | 118 => ⟨S2x2x4x1x1, .f32⟩
  | 119 => ⟨S2x2x4x64x128, .f32⟩
  | 120 => ⟨S2x2x4x64x128, .f32⟩
  | 121 => ⟨S2x2x4x64x128, .f32⟩
  | 122 => ⟨S1x2x2x4x64x128, .f32⟩
  | 123 => ⟨S2x2x4x64x128, .f32⟩
  | 124 => ⟨S1x2x2x4, .f32⟩
  | 125 => ⟨S2x2x4, .f32⟩
  | 126 => ⟨S2x2x4x1x1, .f32⟩
  | 127 => ⟨S2x2x4x64x128, .f32⟩
  | _ => ⟨S2x2048x512, .f32⟩

abbrev hbmTy0_2 (i : Nat) : BufTy := match i % 128 with
  | 0 => ⟨S2x2x4x64x128, .f32⟩
  | 1 => ⟨S2x2x4x64x128, .f32⟩
  | 2 => ⟨S1x2x2x4x64x128, .f32⟩
  | 3 => ⟨S2x2x4x64x128, .f32⟩
  | 4 => ⟨S1x2x2x4, .f32⟩
  | 5 => ⟨S2x2x4, .f32⟩
  | 6 => ⟨S2x2x4x1x1, .f32⟩
  | 7 => ⟨S2x2x4x64x128, .f32⟩
  | 8 => ⟨S2x2x4x64x128, .f32⟩
  | 9 => ⟨S2x2x4x64x128, .f32⟩
  | 10 => ⟨S1x2x2x4x64x128, .f32⟩
  | 11 => ⟨S2x2x4x64x128, .f32⟩
  | 12 => ⟨S1x2x2x4, .f32⟩
  | 13 => ⟨S2x2x4, .f32⟩
  | 14 => ⟨S2x2x4x1x1, .f32⟩
  | 15 => ⟨S2x2x4x64x128, .f32⟩
  | 16 => ⟨S2x2x4x64x128, .f32⟩
  | 17 => ⟨S2x2x4x64x128, .f32⟩
  | 18 => ⟨S1x2x2x4x64x128, .f32⟩
  | 19 => ⟨S2x2x4x64x128, .f32⟩
  | 20 => ⟨S1x2x2x4, .f32⟩
  | 21 => ⟨S2x2x4, .f32⟩
  | 22 => ⟨S2x2x4x1x1, .f32⟩
  | 23 => ⟨S2x2x4x64x128, .f32⟩
  | 24 => ⟨S2x2x4x64x128, .f32⟩
  | 25 => ⟨S2x2x4x64x128, .f32⟩
  | 26 => ⟨S1x2x2x4x64x128, .f32⟩
  | 27 => ⟨S2x2x4x64x128, .f32⟩
  | 28 => ⟨S1x2x2x4, .f32⟩
  | 29 => ⟨S2x2x4, .f32⟩
  | 30 => ⟨S2x2x4x1x1, .f32⟩
  | 31 => ⟨S2x2x4x64x128, .f32⟩
  | 32 => ⟨S2x2x4x64x128, .f32⟩
  | 33 => ⟨S2x2x4x64x128, .f32⟩
  | 34 => ⟨S1x2x2x4x64x128, .f32⟩
  | 35 => ⟨S2x2x4x64x128, .f32⟩
  | 36 => ⟨S1x2x2x4, .f32⟩
  | 37 => ⟨S2x2x4, .f32⟩
  | 38 => ⟨S2x2x4x1x1, .f32⟩
  | 39 => ⟨S2x2x4x64x128, .f32⟩
  | 40 => ⟨S2x2x4x64x128, .f32⟩
  | 41 => ⟨S2x2x4x64x128, .f32⟩
  | 42 => ⟨S1x2x2x4x64x128, .f32⟩
  | 43 => ⟨S2x2x4x64x128, .f32⟩
  | 44 => ⟨S1x2x2x4, .f32⟩
  | 45 => ⟨S2x2x4, .f32⟩
  | 46 => ⟨S2x2x4x1x1, .f32⟩
  | 47 => ⟨S2x2x4x64x128, .f32⟩
  | 48 => ⟨S2x2x4x64x128, .f32⟩
  | 49 => ⟨S2x2x4x64x128, .f32⟩
  | 50 => ⟨S1x2x2x4x64x128, .f32⟩
  | 51 => ⟨S2x2x4x64x128, .f32⟩
  | 52 => ⟨S1x2x2x4, .f32⟩
  | 53 => ⟨S2x2x4, .f32⟩
  | 54 => ⟨S2x2x4x1x1, .f32⟩
  | 55 => ⟨S2x2x4x64x128, .f32⟩
  | 56 => ⟨S2x2x4x64x128, .f32⟩
  | 57 => ⟨S2x2x4x64x128, .f32⟩
  | 58 => ⟨S1x2x2x4x64x128, .f32⟩
  | 59 => ⟨S1x2x2x4x64x128, .f32⟩
  | 60 => ⟨S1x2x2x4x64x128, .f32⟩
  | 61 => ⟨S1x2x2x4x64x128, .f32⟩
  | 62 => ⟨S1x2x2x4x64x128, .f32⟩
  | 63 => ⟨S1x2x2x4x64x128, .f32⟩
  | 64 => ⟨S1x2x2x4x64x128, .f32⟩
  | 65 => ⟨S1x2x2x4x64x128, .f32⟩
  | 66 => ⟨S1x2x2x4x64x128, .f32⟩
  | 67 => ⟨S1x2x2x4x64x128, .f32⟩
  | 68 => ⟨S1x2x2x4x64x128, .f32⟩
  | 69 => ⟨S1x2x2x4x64x128, .f32⟩
  | 70 => ⟨S1x2x2x4x64x128, .f32⟩
  | 71 => ⟨S1x2x2x4x64x128, .f32⟩
  | 72 => ⟨S1x2x2x4x64x128, .f32⟩
  | 73 => ⟨S1x2x2x4x64x128, .f32⟩
  | 74 => ⟨S16x2x2x4x64x128, .f32⟩
  | 75 => ⟨S_, .f32⟩
  | 76 => ⟨S2x2x4x64x128, .f32⟩
  | 77 => ⟨S2x16x2x4x64x128, .f32⟩
  | 78 => ⟨S2x16x128x2x4, .f32⟩
  | 79 => ⟨S2x16x128x2x4x1, .f32⟩
  | 80 => ⟨S2x16x2x4x64x128, .f32⟩
  | 81 => ⟨S2x16x128x2x4x64, .f32⟩
  | 82 => ⟨S2x16x128x2x4x64, .f32⟩
  | 83 => ⟨S2x16x128x2x4x64, .f32⟩
  | 84 => ⟨S2x16x128x2x4x64, .f32⟩
  | 85 => ⟨S2x4x1, .f32⟩
  | 86 => ⟨S1x1x1x2x4x1, .f32⟩
  | 87 => ⟨S2x16x128x2x4x64, .f32⟩
  | 88 => ⟨S2x16x128x2x4x64, .f32⟩
  | 89 => ⟨S2x16x128x2x4x64, .f32⟩
  | 90 => ⟨S2x2048x512, .f32⟩
  | 91 => ⟨S2x2048x512, .f32⟩
  | 92 => ⟨S2x2048x512, .f32⟩
  | 93 => ⟨S_, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S_, .f32⟩
  | 100 => ⟨S2x2048x512, .f32⟩
  | 101 => ⟨S2x2048x512, .f32⟩
  | 102 => ⟨S2x2048x512, .f32⟩
  | 103 => ⟨S2x2048x512, .f32⟩
  | 104 => ⟨S2x2048x512, .f32⟩
  | 105 => ⟨S2x2048x2x256, .f32⟩
  | 106 => ⟨S2x2048x2x256, .f32⟩
  | 107 => ⟨S_, .f32⟩
  | 108 => ⟨S2x2048x2, .f32⟩
  | 109 => ⟨S2x2048x2x1, .f32⟩
  | 110 => ⟨S_, .f32⟩
  | 111 => ⟨S2x2048x2x1, .f32⟩
  | 112 => ⟨S2x2048x2x1, .f32⟩
  | 113 => ⟨S_, .f32⟩
  | 114 => ⟨S2x2048x2x1, .f32⟩
  | 115 => ⟨S2x2048x2x1, .f32⟩
  | 116 => ⟨S2x2048x2x1, .f32⟩
  | 117 => ⟨S2x2048x2x1, .f32⟩
  | 118 => ⟨S_, .f32⟩
  | 119 => ⟨S2x2048x2x1, .f32⟩
  | 120 => ⟨S2x2048x2x1, .f32⟩
  | 121 => ⟨S2x2048x2x256, .f32⟩
  | 122 => ⟨S2x2048x2x256, .f32⟩
  | 123 => ⟨S2x2048x512, .f32⟩
  | 124 => ⟨S1x1x512, .f32⟩
  | 125 => ⟨S2x2048x512, .f32⟩
  | 126 => ⟨S2x2048x512, .f32⟩
  | 127 => ⟨S2x2048x512, .f32⟩
  | _ => ⟨S2x2048x512, .f32⟩

abbrev hbmTy0_3 (i : Nat) : BufTy := match i % 128 with
  | 0 => ⟨S2x2048x512, .f32⟩
  | 1 => ⟨S_, .f32⟩
  | 2 => ⟨S512, .f32⟩
  | 3 => ⟨S1x1x512, .f32⟩
  | 4 => ⟨S2x2048x512, .f32⟩
  | 5 => ⟨S2x2048x512, .f32⟩
  | 6 => ⟨S_, .f32⟩
  | 7 => ⟨S512, .f32⟩
  | 8 => ⟨S2x2048x2x256, .f32⟩
  | 9 => ⟨S2x2048x2x256, .f32⟩
  | 10 => ⟨S_, .f32⟩
  | 11 => ⟨S2x2048x2, .f32⟩
  | 12 => ⟨S2x2048x2x1, .f32⟩
  | 13 => ⟨S2x2048x2x256, .f32⟩
  | 14 => ⟨S2x2048x2x256, .f32⟩
  | 15 => ⟨S2x2048x2x1, .f32⟩
  | 16 => ⟨S_, .f32⟩
  | 17 => ⟨S2x2048x2x1, .f32⟩
  | 18 => ⟨S2x2048x2x1, .f32⟩
  | 19 => ⟨S_, .f32⟩
  | 20 => ⟨S2x2048x2, .f32⟩
  | 21 => ⟨S2x2048x2x256, .f32⟩
  | 22 => ⟨S2x2048x2x256, .f32⟩
  | 23 => ⟨S2x2048x2x256, .f32⟩
  | 24 => ⟨S2x2048x2x256, .f32⟩
  | 25 => ⟨S2x2048x2x256, .f32⟩
  | 26 => ⟨S2x2048x512, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S2x2048x512, .f32⟩
  | 33 => ⟨S2x16x128x2x4x64, .f32⟩
  | 34 => ⟨S2x16x128x2x4x64, .f32⟩
  | 35 => ⟨S2x16x128x2x4x64, .f32⟩
  | 36 => ⟨S2x16x128x2x4x64, .f32⟩
  | 37 => ⟨S_, .f32⟩
  | 38 => ⟨S2x4, .f32⟩
  | 39 => ⟨S1x1x1x2x4x1, .f32⟩
  | 40 => ⟨S_, .f32⟩
  | 41 => ⟨S2x4, .f32⟩
  | 42 => ⟨S2x4x1, .f32⟩
  | 43 => ⟨S_, .f32⟩
  | 44 => ⟨S2x4, .f32⟩
  | 45 => ⟨S2x16x128x2x4x64, .f32⟩
  | 46 => ⟨S2x16x128x2x4x64, .f32⟩
  | 47 => ⟨S2x16x128x2x4x64, .f32⟩
  | 48 => ⟨S_, .f32⟩
  | 49 => ⟨S2x16x128x2x4, .f32⟩
  | 50 => ⟨S2x16x128x2x4x1, .f32⟩
  | 51 => ⟨S2x16x2x4x64x128, .f32⟩
  | 52 => ⟨S2x16x2x128x128, .f32⟩
  | 53 => ⟨S2x16x128x2x128, .f32⟩
  | 54 => ⟨S2x16x2x4x64x128, .f32⟩
  | 55 => ⟨S_, .f32⟩
  | 56 => ⟨S2x16x128x2x4, .f32⟩
  | 57 => ⟨S2x16x128x2x4, .f32⟩
  | 58 => ⟨S16x2x2x4x64x128, .f32⟩
  | 59 => ⟨S1x2x2x4x64x128, .f32⟩
  | 60 => ⟨S2x2x4x64x128, .f32⟩
  | 61 => ⟨S1x2x2x4x64x128, .f32⟩
  | 62 => ⟨S2x2x4x64x128, .f32⟩
  | 63 => ⟨S1x2x2x4x64x128, .f32⟩
  | 64 => ⟨S2x2x4x64x128, .f32⟩
  | 65 => ⟨S1x2x2x4x64x128, .f32⟩
  | 66 => ⟨S2x2x4x64x128, .f32⟩
  | 67 => ⟨S1x2x2x4x64x128, .f32⟩
  | 68 => ⟨S2x2x4x64x128, .f32⟩
  | 69 => ⟨S1x2x2x4x64x128, .f32⟩
  | 70 => ⟨S2x2x4x64x128, .f32⟩
  | 71 => ⟨S1x2x2x4x64x128, .f32⟩
  | 72 => ⟨S2x2x4x64x128, .f32⟩
  | 73 => ⟨S1x2x2x4x64x128, .f32⟩
  | 74 => ⟨S2x2x4x64x128, .f32⟩
  | 75 => ⟨S1x2x2x4x64x128, .f32⟩
  | 76 => ⟨S2x2x4x64x128, .f32⟩
  | 77 => ⟨S1x2x2x4x64x128, .f32⟩
  | 78 => ⟨S2x2x4x64x128, .f32⟩
  | 79 => ⟨S1x2x2x4x64x128, .f32⟩
  | 80 => ⟨S2x2x4x64x128, .f32⟩
  | 81 => ⟨S1x2x2x4x64x128, .f32⟩
  | 82 => ⟨S2x2x4x64x128, .f32⟩
  | 83 => ⟨S1x2x2x4x64x128, .f32⟩
  | 84 => ⟨S2x2x4x64x128, .f32⟩
  | 85 => ⟨S1x2x2x4x64x128, .f32⟩
  | 86 => ⟨S2x2x4x64x128, .f32⟩
  | 87 => ⟨S1x2x2x4x64x128, .f32⟩
  | 88 => ⟨S2x2x4x64x128, .f32⟩
  | 89 => ⟨S1x2x2x4x64x128, .f32⟩
  | 90 => ⟨S2x2x4x64x128, .f32⟩
  | 91 => ⟨S2x2x4x64x128, .f32⟩
  | 92 => ⟨S_, .f32⟩
  | 93 => ⟨S2x2x4, .f32⟩
  | 94 => ⟨S2x2x4x1x1, .f32⟩
  | 95 => ⟨S2x2x4x64x128, .f32⟩
  | 96 => ⟨S2x2x4x64x128, .f32⟩
  | 97 => ⟨S2x2x4x64x128, .f32⟩
  | 98 => ⟨S_, .f32⟩
  | 99 => ⟨S2x2x4, .f32⟩
  | 100 => ⟨S1x2x2x4, .f32⟩
  | 101 => ⟨S_, .f32⟩
  | 102 => ⟨S16x2x2x4, .f32⟩
  | 103 => ⟨S1x2x2x4x64x128, .f32⟩
  | 104 => ⟨S_, .f32⟩
  | 105 => ⟨S16x2x2x4x64x128, .f32⟩
  | 106 => ⟨S2x2x4x64x128, .f32⟩
  | 107 => ⟨S_, .f32⟩
  | 108 => ⟨S2x2x4, .f32⟩
  | 109 => ⟨S2x2x4x1x1, .f32⟩
  | 110 => ⟨S2x2x4x64x128, .f32⟩
  | 111 => ⟨S2x2x4x64x128, .f32⟩
  | 112 => ⟨S2x2x4x64x128, .f32⟩
  | 113 => ⟨S_, .f32⟩
  | 114 => ⟨S2x2x4, .f32⟩
  | 115 => ⟨S1x2x2x4, .f32⟩
  | 116 => ⟨S_, .f32⟩
  | 117 => ⟨S16x2x2x4, .f32⟩
  | 118 => ⟨S16x2x2x4, .f32⟩
  | 119 => ⟨S1x2x2x4x64x128, .f32⟩
  | 120 => ⟨S_, .f32⟩
  | 121 => ⟨S16x2x2x4x64x128, .f32⟩
  | 122 => ⟨S16x2x2x4x64x128, .f32⟩
  | 123 => ⟨S2x2x4x64x128, .f32⟩
  | 124 => ⟨S_, .f32⟩
  | 125 => ⟨S2x2x4, .f32⟩
  | 126 => ⟨S2x2x4x1x1, .f32⟩
  | 127 => ⟨S2x2x4x64x128, .f32⟩
  | _ => ⟨S2x2048x512, .f32⟩

abbrev hbmTy0_4 (i : Nat) : BufTy := match i % 128 with
  | 0 => ⟨S2x2x4x64x128, .f32⟩
  | 1 => ⟨S2x2x4x64x128, .f32⟩
  | 2 => ⟨S_, .f32⟩
  | 3 => ⟨S2x2x4, .f32⟩
  | 4 => ⟨S1x2x2x4, .f32⟩
  | 5 => ⟨S_, .f32⟩
  | 6 => ⟨S16x2x2x4, .f32⟩
  | 7 => ⟨S16x2x2x4, .f32⟩
  | 8 => ⟨S1x2x2x4x64x128, .f32⟩
  | 9 => ⟨S_, .f32⟩
  | 10 => ⟨S16x2x2x4x64x128, .f32⟩
  | 11 => ⟨S16x2x2x4x64x128, .f32⟩
  | 12 => ⟨S2x2x4x64x128, .f32⟩
  | 13 => ⟨S_, .f32⟩
  | 14 => ⟨S2x2x4, .f32⟩
  | 15 => ⟨S2x2x4x1x1, .f32⟩
  | 16 => ⟨S2x2x4x64x128, .f32⟩
  | 17 => ⟨S2x2x4x64x128, .f32⟩
  | 18 => ⟨S2x2x4x64x128, .f32⟩
  | 19 => ⟨S_, .f32⟩
  | 20 => ⟨S2x2x4, .f32⟩
  | 21 => ⟨S1x2x2x4, .f32⟩
  | 22 => ⟨S_, .f32⟩
  | 23 => ⟨S16x2x2x4, .f32⟩
  | 24 => ⟨S16x2x2x4, .f32⟩
  | 25 => ⟨S1x2x2x4x64x128, .f32⟩
  | 26 => ⟨S_, .f32⟩
  | 27 => ⟨S16x2x2x4x64x128, .f32⟩
  | 28 => ⟨S16x2x2x4x64x128, .f32⟩
  | 29 => ⟨S2x2x4x64x128, .f32⟩
  | 30 => ⟨S_, .f32⟩
  | 31 => ⟨S2x2x4, .f32⟩
  | 32 => ⟨S2x2x4x1x1, .f32⟩
  | 33 => ⟨S2x2x4x64x128, .f32⟩
  | 34 => ⟨S2x2x4x64x128, .f32⟩
  | 35 => ⟨S2x2x4x64x128, .f32⟩
  | 36 => ⟨S_, .f32⟩
  | 37 => ⟨S2x2x4, .f32⟩
  | 38 => ⟨S1x2x2x4, .f32⟩
  | 39 => ⟨S_, .f32⟩
  | 40 => ⟨S16x2x2x4, .f32⟩
  | 41 => ⟨S16x2x2x4, .f32⟩
  | 42 => ⟨S1x2x2x4x64x128, .f32⟩
  | 43 => ⟨S_, .f32⟩
  | 44 => ⟨S16x2x2x4x64x128, .f32⟩
  | 45 => ⟨S16x2x2x4x64x128, .f32⟩
  | 46 => ⟨S2x2x4x64x128, .f32⟩
  | 47 => ⟨S_, .f32⟩
  | 48 => ⟨S2x2x4, .f32⟩
  | 49 => ⟨S2x2x4x1x1, .f32⟩
  | 50 => ⟨S2x2x4x64x128, .f32⟩
  | 51 => ⟨S2x2x4x64x128, .f32⟩
  | 52 => ⟨S2x2x4x64x128, .f32⟩
  | 53 => ⟨S_, .f32⟩
  | 54 => ⟨S2x2x4, .f32⟩
  | 55 => ⟨S1x2x2x4, .f32⟩
  | 56 => ⟨S_, .f32⟩
  | 57 => ⟨S16x2x2x4, .f32⟩
  | 58 => ⟨S16x2x2x4, .f32⟩
  | 59 => ⟨S1x2x2x4x64x128, .f32⟩
  | 60 => ⟨S_, .f32⟩
  | 61 => ⟨S16x2x2x4x64x128, .f32⟩
  | 62 => ⟨S16x2x2x4x64x128, .f32⟩
  | 63 => ⟨S2x2x4x64x128, .f32⟩
  | 64 => ⟨S_, .f32⟩
  | 65 => ⟨S2x2x4, .f32⟩
  | 66 => ⟨S2x2x4x1x1, .f32⟩
  | 67 => ⟨S2x2x4x64x128, .f32⟩
  | 68 => ⟨S2x2x4x64x128, .f32⟩
  | 69 => ⟨S2x2x4x64x128, .f32⟩
  | 70 => ⟨S_, .f32⟩
  | 71 => ⟨S2x2x4, .f32⟩
  | 72 => ⟨S1x2x2x4, .f32⟩
  | 73 => ⟨S_, .f32⟩
  | 74 => ⟨S16x2x2x4, .f32⟩
  | 75 => ⟨S16x2x2x4, .f32⟩
  | 76 => ⟨S1x2x2x4x64x128, .f32⟩
  | 77 => ⟨S_, .f32⟩
  | 78 => ⟨S16x2x2x4x64x128, .f32⟩
  | 79 => ⟨S16x2x2x4x64x128, .f32⟩
  | 80 => ⟨S2x2x4x64x128, .f32⟩
  | 81 => ⟨S_, .f32⟩
  | 82 => ⟨S2x2x4, .f32⟩
  | 83 => ⟨S2x2x4x1x1, .f32⟩
  | 84 => ⟨S2x2x4x64x128, .f32⟩
  | 85 => ⟨S2x2x4x64x128, .f32⟩
  | 86 => ⟨S2x2x4x64x128, .f32⟩
  | 87 => ⟨S_, .f32⟩
  | 88 => ⟨S2x2x4, .f32⟩
  | 89 => ⟨S1x2x2x4, .f32⟩
  | 90 => ⟨S_, .f32⟩
  | 91 => ⟨S16x2x2x4, .f32⟩
  | 92 => ⟨S16x2x2x4, .f32⟩
  | 93 => ⟨S1x2x2x4x64x128, .f32⟩
  | 94 => ⟨S_, .f32⟩
  | 95 => ⟨S16x2x2x4x64x128, .f32⟩
  | 96 => ⟨S16x2x2x4x64x128, .f32⟩
  | 97 => ⟨S2x2x4x64x128, .f32⟩
  | 98 => ⟨S_, .f32⟩
  | 99 => ⟨S2x2x4, .f32⟩
  | 100 => ⟨S2x2x4x1x1, .f32⟩
  | 101 => ⟨S2x2x4x64x128, .f32⟩
  | 102 => ⟨S2x2x4x64x128, .f32⟩
  | 103 => ⟨S2x2x4x64x128, .f32⟩
  | 104 => ⟨S_, .f32⟩
  | 105 => ⟨S2x2x4, .f32⟩
  | 106 => ⟨S1x2x2x4, .f32⟩
  | 107 => ⟨S_, .f32⟩
  | 108 => ⟨S16x2x2x4, .f32⟩
  | 109 => ⟨S16x2x2x4, .f32⟩
  | 110 => ⟨S1x2x2x4x64x128, .f32⟩
  | 111 => ⟨S_, .f32⟩
  | 112 => ⟨S16x2x2x4x64x128, .f32⟩
  | 113 => ⟨S16x2x2x4x64x128, .f32⟩
  | 114 => ⟨S2x2x4x64x128, .f32⟩
  | 115 => ⟨S_, .f32⟩
  | 116 => ⟨S2x2x4, .f32⟩
  | 117 => ⟨S2x2x4x1x1, .f32⟩
  | 118 => ⟨S2x2x4x64x128, .f32⟩
  | 119 => ⟨S2x2x4x64x128, .f32⟩
  | 120 => ⟨S2x2x4x64x128, .f32⟩
  | 121 => ⟨S_, .f32⟩
  | 122 => ⟨S2x2x4, .f32⟩
  | 123 => ⟨S1x2x2x4, .f32⟩
  | 124 => ⟨S_, .f32⟩
  | 125 => ⟨S16x2x2x4, .f32⟩
  | 126 => ⟨S16x2x2x4, .f32⟩
  | 127 => ⟨S1x2x2x4x64x128, .f32⟩
  | _ => ⟨S2x2048x512, .f32⟩

abbrev hbmTy0_5 (i : Nat) : BufTy := match i % 128 with
  | 0 => ⟨S_, .f32⟩
  | 1 => ⟨S16x2x2x4x64x128, .f32⟩
  | 2 => ⟨S16x2x2x4x64x128, .f32⟩
  | 3 => ⟨S2x2x4x64x128, .f32⟩
  | 4 => ⟨S_, .f32⟩
  | 5 => ⟨S2x2x4, .f32⟩
  | 6 => ⟨S2x2x4x1x1, .f32⟩
  | 7 => ⟨S2x2x4x64x128, .f32⟩
  | 8 => ⟨S2x2x4x64x128, .f32⟩
  | 9 => ⟨S2x2x4x64x128, .f32⟩
  | 10 => ⟨S_, .f32⟩
  | 11 => ⟨S2x2x4, .f32⟩
  | 12 => ⟨S1x2x2x4, .f32⟩
  | 13 => ⟨S_, .f32⟩
  | 14 => ⟨S16x2x2x4, .f32⟩
  | 15 => ⟨S16x2x2x4, .f32⟩
  | 16 => ⟨S1x2x2x4x64x128, .f32⟩
  | 17 => ⟨S_, .f32⟩
  | 18 => ⟨S16x2x2x4x64x128, .f32⟩
  | 19 => ⟨S16x2x2x4x64x128, .f32⟩
  | 20 => ⟨S2x2x4x64x128, .f32⟩
  | 21 => ⟨S_, .f32⟩
  | 22 => ⟨S2x2x4, .f32⟩
  | 23 => ⟨S2x2x4x1x1, .f32⟩
  | 24 => ⟨S2x2x4x64x128, .f32⟩
  | 25 => ⟨S2x2x4x64x128, .f32⟩
  | 26 => ⟨S2x2x4x64x128, .f32⟩
  | 27 => ⟨S_, .f32⟩
  | 28 => ⟨S2x2x4, .f32⟩
  | 29 => ⟨S1x2x2x4, .f32⟩
  | 30 => ⟨S_, .f32⟩
  | 31 => ⟨S16x2x2x4, .f32⟩
  | 32 => ⟨S16x2x2x4, .f32⟩
  | 33 => ⟨S1x2x2x4x64x128, .f32⟩
  | 34 => ⟨S_, .f32⟩
  | 35 => ⟨S16x2x2x4x64x128, .f32⟩
  | 36 => ⟨S16x2x2x4x64x128, .f32⟩
  | 37 => ⟨S2x2x4x64x128, .f32⟩
  | 38 => ⟨S_, .f32⟩
  | 39 => ⟨S2x2x4, .f32⟩
  | 40 => ⟨S2x2x4x1x1, .f32⟩
  | 41 => ⟨S2x2x4x64x128, .f32⟩
  | 42 => ⟨S2x2x4x64x128, .f32⟩
  | 43 => ⟨S2x2x4x64x128, .f32⟩
  | 44 => ⟨S_, .f32⟩
  | 45 => ⟨S2x2x4, .f32⟩
  | 46 => ⟨S1x2x2x4, .f32⟩
  | 47 => ⟨S_, .f32⟩
  | 48 => ⟨S16x2x2x4, .f32⟩
  | 49 => ⟨S16x2x2x4, .f32⟩
  | 50 => ⟨S1x2x2x4x64x128, .f32⟩
  | 51 => ⟨S_, .f32⟩
  | 52 => ⟨S16x2x2x4x64x128, .f32⟩
  | 53 => ⟨S16x2x2x4x64x128, .f32⟩
  | 54 => ⟨S2x2x4x64x128, .f32⟩
  | 55 => ⟨S_, .f32⟩
  | 56 => ⟨S2x2x4, .f32⟩
  | 57 => ⟨S2x2x4x1x1, .f32⟩
  | 58 => ⟨S2x2x4x64x128, .f32⟩
  | 59 => ⟨S2x2x4x64x128, .f32⟩
  | 60 => ⟨S2x2x4x64x128, .f32⟩
  | 61 => ⟨S_, .f32⟩
  | 62 => ⟨S2x2x4, .f32⟩
  | 63 => ⟨S1x2x2x4, .f32⟩
  | 64 => ⟨S_, .f32⟩
  | 65 => ⟨S16x2x2x4, .f32⟩
  | 66 => ⟨S16x2x2x4, .f32⟩
  | 67 => ⟨S1x2x2x4x64x128, .f32⟩
  | 68 => ⟨S_, .f32⟩
  | 69 => ⟨S16x2x2x4x64x128, .f32⟩
  | 70 => ⟨S16x2x2x4x64x128, .f32⟩
  | 71 => ⟨S2x2x4x64x128, .f32⟩
  | 72 => ⟨S_, .f32⟩
  | 73 => ⟨S2x2x4, .f32⟩
  | 74 => ⟨S2x2x4x1x1, .f32⟩
  | 75 => ⟨S_, .f32⟩
  | 76 => ⟨S2x2x4, .f32⟩
  | 77 => ⟨S1x2x2x4, .f32⟩
  | 78 => ⟨S_, .f32⟩
  | 79 => ⟨S16x2x2x4, .f32⟩
  | 80 => ⟨S16x2x2x4, .f32⟩
  | 81 => ⟨S1x2x2x4x64x128, .f32⟩
  | 82 => ⟨S_, .f32⟩
  | 83 => ⟨S16x2x2x4x64x128, .f32⟩
  | 84 => ⟨S16x2x2x4x64x128, .f32⟩
  | 85 => ⟨S2x16x2x4, .f32⟩
  | 86 => ⟨S2x16x2x4x64x128, .f32⟩
  | 87 => ⟨S2x16x2x4, .f32⟩
  | 88 => ⟨S2x16x1x2x4, .f32⟩
  | 89 => ⟨S_, .f32⟩
  | 90 => ⟨S2x16x128x2x4, .f32⟩
  | 91 => ⟨S2x16x128x2x4, .f32⟩
  | 92 => ⟨S2x16x2x128x128, .f32⟩
  | 93 => ⟨S2x16x128x2x128, .f32⟩
  | 94 => ⟨S2x16x2x4x64x128, .f32⟩
  | 95 => ⟨S2x16x128x2x4x64, .f32⟩
  | 96 => ⟨S2x16x128x2x4x64, .f32⟩
  | 97 => ⟨S2x16x128x2x4x64, .f32⟩
  | 98 => ⟨S2x16x128x2x4x64, .f32⟩
  | 99 => ⟨S_, .f32⟩
  | 100 => ⟨S2x16x128x2x4, .f32⟩
  | 101 => ⟨S2x16x128x2x4x1, .f32⟩
  | 102 => ⟨S_, .f32⟩
  | 103 => ⟨S2x16x128x2x4, .f32⟩
  | 104 => ⟨S2x16x128x2x4, .f32⟩
  | 105 => ⟨S_, .f32⟩
  | 106 => ⟨S2x16x2x4, .f32⟩
  | 107 => ⟨S2x16x1x2x4, .f32⟩
  | 108 => ⟨S2x16x128x2x4, .f32⟩
  | 109 => ⟨S2x16x128x2x4, .f32⟩
  | 110 => ⟨S_, .f32⟩
  | 111 => ⟨S2x16x128x2x4, .f32⟩
  | 112 => ⟨S2x16x128x2x4, .f32⟩
  | 113 => ⟨S2x16x2x4x64x128, .f32⟩
  | 114 => ⟨S2x16x2x4x128x128, .f32⟩
  | 115 => ⟨S2x16x128x128x2x4, .f32⟩
  | 116 => ⟨S2x16x2x4x64x128, .f32⟩
  | 117 => ⟨S2x16x128x2x4x64, .f32⟩
  | 118 => ⟨S2x16x128x2x4x64, .f32⟩
  | 119 => ⟨S2x16x128x128x2x4, .f32⟩
  | 120 => ⟨S2x16x128x128x2x4, .f32⟩
  | 121 => ⟨S2x16x128x128x2x4, .f32⟩
  | 122 => ⟨S_, .f32⟩
  | 123 => ⟨S2x16x128x128x2, .f32⟩
  | 124 => ⟨S2x16x128x128x2x1, .f32⟩
  | 125 => ⟨S_, .f32⟩
  | 126 => ⟨S2x16x128x128x2, .f32⟩
  | 127 => ⟨S2x16x2x128x128, .f32⟩
  | _ => ⟨S2x2048x512, .f32⟩

abbrev hbmTy0_6 (i : Nat) : BufTy := match i % 128 with
  | 0 => ⟨S2x16x2x128x128, .f32⟩
  | 1 => ⟨S2x16x128x2x128, .f32⟩
  | 2 => ⟨S2x16x128x2x128, .f32⟩
  | 3 => ⟨S2x16x2x128x128, .f32⟩
  | 4 => ⟨S2x16x128x2x128, .f32⟩
  | 5 => ⟨S2x16x128x2x128, .f32⟩
  | 6 => ⟨S2x16x128x128x2x4, .f32⟩
  | 7 => ⟨S_, .f32⟩
  | 8 => ⟨S2x16x128x128x2x4, .f32⟩
  | 9 => ⟨S2x16x128x128x2x4, .f32⟩
  | 10 => ⟨S_, .f32⟩
  | 11 => ⟨S2x16x128x2x4, .f32⟩
  | 12 => ⟨S2x16x128x1x2x4, .f32⟩
  | 13 => ⟨S2x16x128x128x2x4, .f32⟩
  | 14 => ⟨S_, .f32⟩
  | 15 => ⟨S2x16x128x2x4, .f32⟩
  | 16 => ⟨S2x16x1x128x2x4, .f32⟩
  | 17 => ⟨S_, .f32⟩
  | 18 => ⟨S2x16x128x2x4, .f32⟩
  | 19 => ⟨S2x16x128x2x4, .f32⟩
  | 20 => ⟨S_, .f32⟩
  | 21 => ⟨S2x16x128x2x4, .f32⟩
  | 22 => ⟨S2x16x128x2x4, .f32⟩
  | 23 => ⟨S2x16x128x2x4x64, .f32⟩
  | 24 => ⟨S_, .f32⟩
  | 25 => ⟨S2x16x128x2x4, .f32⟩
  | 26 => ⟨S2x16x128x2x4x1, .f32⟩
  | 27 => ⟨S2x16x128x2x4x64, .f32⟩
  | 28 => ⟨S2x16x128x2x4x64, .f32⟩
  | 29 => ⟨S2x16x128x2x4x64, .f32⟩
  | 30 => ⟨S_, .f32⟩
  | 31 => ⟨S2x16x128x2x4, .f32⟩
  | 32 => ⟨S_, .f32⟩
  | 33 => ⟨S_, .f32⟩
  | 34 => ⟨S2x16x128x2x4, .f32⟩
  | 35 => ⟨S2x16x128x2x4, .f32⟩
  | 36 => ⟨S_, .f32⟩
  | 37 => ⟨S2x4, .f32⟩
  | 38 => ⟨S1x1x1x2x4, .f32⟩
  | 39 => ⟨S2x16x128x2x4, .f32⟩
  | 40 => ⟨S2x16x128x2x4, .f32⟩
  | 41 => ⟨S2x16x128x2x4, .f32⟩
  | 42 => ⟨S_, .f32⟩
  | 43 => ⟨S2x4, .f32⟩
  | 44 => ⟨S8, .f32⟩
  | 45 => ⟨S8, .f32⟩
  | 46 => ⟨S2x2048x2x128, .f32⟩
  | 47 => ⟨S2x2048x2x128, .f32⟩
  | 48 => ⟨S2x2048x8, .f32⟩
  | 49 => ⟨S2x2048x8x64, .f32⟩
  | 50 => ⟨S8, .f32⟩
  | 51 => ⟨S8, .f32⟩
  | 52 => ⟨S2x2048x8, .f32⟩
  | 53 => ⟨S_, .f32⟩
  | 54 => ⟨S8, .f32⟩
  | 55 => ⟨S1x1x8, .f32⟩
  | 56 => ⟨S_, .f32⟩
  | 57 => ⟨S8, .f32⟩
  | 58 => ⟨S2x2048x256, .f32⟩
  | 59 => ⟨S_, .f32⟩
  | 60 => ⟨S2x2048x1024, .f32⟩
  | 61 => ⟨S2x2048x256, .f32⟩
  | 62 => ⟨S_, .f32⟩
  | 63 => ⟨S2x2048x1024, .f32⟩
  | 64 => ⟨S2x2048x1024, .f32⟩
  | 65 => ⟨S2x2048x512, .f32⟩
  | 66 => ⟨S_, .f32⟩
  | 67 => ⟨S2x2048x1024, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S_, .f32⟩
  | 74 => ⟨S1024, .f32⟩
  | 75 => ⟨S1x1x1024, .f32⟩
  | 76 => ⟨S_, .f32⟩
  | 77 => ⟨S1024, .f32⟩
  | 78 => ⟨S2x2048x1024, .f32⟩
  | 79 => ⟨S2x2048x1024, .f32⟩
  | 80 => ⟨S2x2048x1024, .f32⟩
  | 81 => ⟨S_, .f32⟩
  | 82 => ⟨S1024, .f32⟩
  | 83 => ⟨S1x1x1024, .f32⟩
  | 84 => ⟨S_, .f32⟩
  | 85 => ⟨S1024, .f32⟩
  | 86 => ⟨S_, .f32⟩
  | 87 => ⟨S2x2051x1024, .f32⟩
  | 88 => ⟨S1x1024, .f32⟩
  | 89 => ⟨S_, .f32⟩
  | 90 => ⟨S4x1024, .f32⟩
  | 91 => ⟨S2x2048x1024, .f32⟩
  | 92 => ⟨S2x2048x1024, .f32⟩
  | 93 => ⟨S2x2048x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S2x2051x1024, .f32⟩
  | 101 => ⟨S2x2051x1024, .f32⟩
  | 102 => ⟨S1x1024, .f32⟩
  | 103 => ⟨S_, .f32⟩
  | 104 => ⟨S4x1024, .f32⟩
  | 105 => ⟨S4x1024, .f32⟩
  | 106 => ⟨S2x2048x1024, .f32⟩
  | 107 => ⟨S2x2048x1024, .f32⟩
  | 108 => ⟨S2x2048x1024, .f32⟩
  | 109 => ⟨S_, .f32⟩
  | 110 => ⟨S1024, .f32⟩
  | 111 => ⟨S1x1x1024, .f32⟩
  | 112 => ⟨S_, .f32⟩
  | 113 => ⟨S1024, .f32⟩
  | 114 => ⟨S_, .f32⟩
  | 115 => ⟨S2x2051x1024, .f32⟩
  | 116 => ⟨S2x2051x1024, .f32⟩
  | 117 => ⟨S1x1024, .f32⟩
  | 118 => ⟨S_, .f32⟩
  | 119 => ⟨S4x1024, .f32⟩
  | 120 => ⟨S4x1024, .f32⟩
  | 121 => ⟨S2x2048x1024, .f32⟩
  | 122 => ⟨S2x2048x1024, .f32⟩
  | 123 => ⟨S2x2048x1024, .f32⟩
  | 124 => ⟨S_, .f32⟩
  | 125 => ⟨S1024, .f32⟩
  | 126 => ⟨S1x1x1024, .f32⟩
  | 127 => ⟨S_, .f32⟩
  | _ => ⟨S2x2048x512, .f32⟩

abbrev hbmTy0_7 (i : Nat) : BufTy := match i % 128 with
  | 0 => ⟨S1024, .f32⟩
  | 1 => ⟨S_, .f32⟩
  | 2 => ⟨S2x2051x1024, .f32⟩
  | 3 => ⟨S2x2051x1024, .f32⟩
  | 4 => ⟨S1x1024, .f32⟩
  | 5 => ⟨S_, .f32⟩
  | 6 => ⟨S4x1024, .f32⟩
  | 7 => ⟨S4x1024, .f32⟩
  | 8 => ⟨S2x3x1024, .f32⟩
  | 9 => ⟨S2x2048x1024, .f32⟩
  | 10 => ⟨S2x2048x512, .bf16⟩
  | 11 => ⟨S2x2048x1024, .bf16⟩
  | 12 => ⟨S_, .f32⟩
  | 13 => ⟨S2x2048x120, .f32⟩
  | 14 => ⟨S2x2048x128, .f32⟩
  | 15 => ⟨S2x2048x128, .bf16⟩
  | 16 => ⟨S_, .f32⟩
  | 17 => ⟨S4x1024, .f32⟩
  | 18 => ⟨S8x1024, .f32⟩
  | 19 => ⟨S1x1024, .f32⟩
  | 20 => ⟨S1x8, .f32⟩
  | 21 => ⟨S_, .f32⟩
  | 22 => ⟨S1x120, .f32⟩
  | 23 => ⟨S1x128, .f32⟩
  | 24 => ⟨S1x8, .f32⟩
  | 25 => ⟨S_, .f32⟩
  | 26 => ⟨S1x120, .f32⟩
  | 27 => ⟨S1x128, .f32⟩
  | 28 => ⟨S1x8, .f32⟩
  | 29 => ⟨S_, .f32⟩
  | 30 => ⟨S1x120, .f32⟩
  | 31 => ⟨S1x128, .f32⟩
  | 32 => ⟨S1x512, .f32⟩
  | _ => ⟨S2x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v60_0 : Ref sig .tc := ⟨.hbm, 89, rfl⟩
abbrev main_call0_cst_0 : Ref sig .tc := ⟨.hbm, 90, rfl⟩
abbrev main_call0_v13 : Ref sig .tc := ⟨.hbm, 91, rfl⟩
abbrev main_call0_v14 : Ref sig .tc := ⟨.hbm, 92, rfl⟩
abbrev main_call0_cst_1 : Ref sig .tc := ⟨.hbm, 93, rfl⟩
abbrev main_call0_v15 : Ref sig .tc := ⟨.hbm, 94, rfl⟩
abbrev main_call0_v16 : Ref sig .tc := ⟨.hbm, 95, rfl⟩
abbrev main_call0_cst_2 : Ref sig .tc := ⟨.hbm, 96, rfl⟩
abbrev main_call0_v17 : Ref sig .tc := ⟨.hbm, 97, rfl⟩
abbrev main_call0_v18 : Ref sig .tc := ⟨.hbm, 98, rfl⟩
abbrev main_call0_cst_3 : Ref sig .tc := ⟨.hbm, 99, rfl⟩
abbrev main_call0_v19 : Ref sig .tc := ⟨.hbm, 100, rfl⟩
abbrev main_call0_v20 : Ref sig .tc := ⟨.hbm, 101, rfl⟩
abbrev main_call0_v21 : Ref sig .tc := ⟨.hbm, 102, rfl⟩
abbrev main_v60_1 : Ref sig .tc := ⟨.hbm, 103, rfl⟩
abbrev main_call0_cst_4 : Ref sig .tc := ⟨.hbm, 104, rfl⟩
abbrev main_call0_cst_5 : Ref sig .tc := ⟨.hbm, 105, rfl⟩
abbrev main_call0_v23 : Ref sig .tc := ⟨.hbm, 106, rfl⟩
abbrev main_call0_cst_6 : Ref sig .tc := ⟨.hbm, 107, rfl⟩
abbrev main_call0_cst_7 : Ref sig .tc := ⟨.hbm, 108, rfl⟩
abbrev main_call0_v24 : Ref sig .tc := ⟨.hbm, 109, rfl⟩
abbrev main_call0_cst_8 : Ref sig .tc := ⟨.hbm, 110, rfl⟩
abbrev main_call0_v25 : Ref sig .tc := ⟨.hbm, 111, rfl⟩
abbrev main_call0_v26 : Ref sig .tc := ⟨.hbm, 112, rfl⟩
abbrev main_call0_cst_9 : Ref sig .tc := ⟨.hbm, 113, rfl⟩
abbrev main_call0_v27 : Ref sig .tc := ⟨.hbm, 114, rfl⟩
abbrev main_call0_v28 : Ref sig .tc := ⟨.hbm, 115, rfl⟩
abbrev main_call0_v29 : Ref sig .tc := ⟨.hbm, 116, rfl⟩
abbrev main_call0_v30 : Ref sig .tc := ⟨.hbm, 117, rfl⟩
abbrev main_call0_v31 : Ref sig .tc := ⟨.hbm, 118, rfl⟩
abbrev main_call0_cst_10 : Ref sig .tc := ⟨.hbm, 119, rfl⟩
abbrev main_call0_v32 : Ref sig .tc := ⟨.hbm, 120, rfl⟩
abbrev main_v60_2 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_call1_call0_cst : Ref sig .tc := ⟨.hbm, 133, rfl⟩
abbrev main_call1_call0_v0 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_c : Ref sig .tc := ⟨.hbm, 139, rfl⟩
abbrev main_v76 : Ref sig .tc := ⟨.hbm, 140, rfl⟩
abbrev main_call2_v0 : Ref sig .tc := ⟨.hbm, 141, rfl⟩
abbrev main_call2_c : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_c_0 : Ref sig .tc := ⟨.hbm, 147, rfl⟩
abbrev main_call2_v5 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_cst_5 : Ref sig .tc := ⟨.hbm, 156, rfl⟩
abbrev main_call3_v0 : Ref sig .tc := ⟨.hbm, 157, rfl⟩
abbrev main_v84_1 : Ref sig .tc := ⟨.hbm, 158, rfl⟩
abbrev main_call3_v2 : Ref sig .tc := ⟨.hbm, 159, rfl⟩
abbrev main_v84_0 : Ref sig .tc := ⟨.hbm, 160, rfl⟩
abbrev main_call3_cst : Ref sig .tc := ⟨.hbm, 161, rfl⟩
abbrev main_v84_2 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_cst_6 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_cst_7 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_cst_8 : Ref sig .tc := ⟨.hbm, 349, rfl⟩
abbrev main_v269 : Ref sig .tc := ⟨.hbm, 350, rfl⟩
abbrev main_v270 : Ref sig .tc := ⟨.hbm, 351, rfl⟩
abbrev main_cst_9 : Ref sig .tc := ⟨.hbm, 352, rfl⟩
abbrev main_v271 : Ref sig .tc := ⟨.hbm, 353, rfl⟩
abbrev main_v272 : Ref sig .tc := ⟨.hbm, 354, rfl⟩
abbrev main_cst_10 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_cst_11 : Ref sig .tc := ⟨.hbm, 363, rfl⟩
abbrev main_v280 : Ref sig .tc := ⟨.hbm, 364, rfl⟩
abbrev main_v281 : Ref sig .tc := ⟨.hbm, 365, rfl⟩
abbrev main_cst_12 : Ref sig .tc := ⟨.hbm, 366, rfl⟩
abbrev main_v282 : Ref sig .tc := ⟨.hbm, 367, rfl⟩
abbrev main_v283 : Ref sig .tc := ⟨.hbm, 368, rfl⟩
abbrev main_cst_13 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_cst_14 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_cst_15 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_cst_16 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_cst_17 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_cst_18 : Ref sig .tc := ⟨.hbm, 400, rfl⟩
abbrev main_v310 : Ref sig .tc := ⟨.hbm, 401, rfl⟩
abbrev main_v311 : Ref sig .tc := ⟨.hbm, 402, rfl⟩
abbrev main_cst_19 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_cst_20 : Ref sig .tc := ⟨.hbm, 421, rfl⟩
abbrev main_v329 : Ref sig .tc := ⟨.hbm, 422, rfl⟩
abbrev main_v330 : Ref sig .tc := ⟨.hbm, 423, rfl⟩
abbrev main_cst_21 : Ref sig .tc := ⟨.hbm, 424, rfl⟩
abbrev main_v331 : Ref sig .tc := ⟨.hbm, 425, rfl⟩
abbrev main_v332 : Ref sig .tc := ⟨.hbm, 426, rfl⟩
abbrev main_cst_22 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_cst_23 : Ref sig .tc := ⟨.hbm, 432, rfl⟩
abbrev main_v337 : Ref sig .tc := ⟨.hbm, 433, rfl⟩
abbrev main_v338 : Ref sig .tc := ⟨.hbm, 434, rfl⟩
abbrev main_v339 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_cst_24 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_v375 : Ref sig .tc := ⟨.hbm, 472, rfl⟩
abbrev main_v376 : Ref sig .tc := ⟨.hbm, 473, rfl⟩
abbrev main_v377 : Ref sig .tc := ⟨.hbm, 474, rfl⟩
abbrev main_v378 : Ref sig .tc := ⟨.hbm, 475, rfl⟩
abbrev main_cst_25 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_v383 : Ref sig .tc := ⟨.hbm, 481, rfl⟩
abbrev main_cst_26 : Ref sig .tc := ⟨.hbm, 482, rfl⟩
abbrev main_v384 : Ref sig .tc := ⟨.hbm, 483, rfl⟩
abbrev main_v385 : Ref sig .tc := ⟨.hbm, 484, rfl⟩
abbrev main_cst_27 : Ref sig .tc := ⟨.hbm, 485, rfl⟩
abbrev main_v386 : Ref sig .tc := ⟨.hbm, 486, rfl⟩
abbrev main_v387 : Ref sig .tc := ⟨.hbm, 487, rfl⟩
abbrev main_cst_28 : Ref sig .tc := ⟨.hbm, 488, rfl⟩
abbrev main_v388 : Ref sig .tc := ⟨.hbm, 489, rfl⟩
abbrev main_v389 : Ref sig .tc := ⟨.hbm, 490, rfl⟩
abbrev main_cst_29 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_cst_30 : Ref sig .tc := ⟨.hbm, 497, rfl⟩
abbrev main_v395 : Ref sig .tc := ⟨.hbm, 498, rfl⟩
abbrev main_v396 : Ref sig .tc := ⟨.hbm, 499, rfl⟩
abbrev main_cst_31 : Ref sig .tc := ⟨.hbm, 500, rfl⟩
abbrev main_v397 : Ref sig .tc := ⟨.hbm, 501, rfl⟩
abbrev main_v398 : Ref sig .tc := ⟨.hbm, 502, rfl⟩
abbrev main_v399 : Ref sig .tc := ⟨.hbm, 503, rfl⟩
abbrev main_cst_32 : Ref sig .tc := ⟨.hbm, 504, rfl⟩
abbrev main_v400 : Ref sig .tc := ⟨.hbm, 505, rfl⟩
abbrev main_v401 : Ref sig .tc := ⟨.hbm, 506, rfl⟩
abbrev main_v402 : Ref sig .tc := ⟨.hbm, 507, rfl⟩
abbrev main_cst_33 : Ref sig .tc := ⟨.hbm, 508, rfl⟩
abbrev main_v403 : Ref sig .tc := ⟨.hbm, 509, rfl⟩
abbrev main_v404 : Ref sig .tc := ⟨.hbm, 510, rfl⟩
abbrev main_v405 : Ref sig .tc := ⟨.hbm, 511, rfl⟩
abbrev main_v406 : Ref sig .tc := ⟨.hbm, 512, rfl⟩
abbrev main_v407 : Ref sig .tc := ⟨.hbm, 513, rfl⟩
abbrev main_cst_34 : Ref sig .tc := ⟨.hbm, 514, rfl⟩
abbrev main_v408 : Ref sig .tc := ⟨.hbm, 515, rfl⟩
abbrev main_v409 : Ref sig .tc := ⟨.hbm, 516, rfl⟩
abbrev main_cst_35 : Ref sig .tc := ⟨.hbm, 517, rfl⟩
abbrev main_v410 : Ref sig .tc := ⟨.hbm, 518, rfl⟩
abbrev main_v411 : Ref sig .tc := ⟨.hbm, 519, rfl⟩
abbrev main_v412 : Ref sig .tc := ⟨.hbm, 520, rfl⟩
abbrev main_cst_36 : Ref sig .tc := ⟨.hbm, 521, rfl⟩
abbrev main_v413 : Ref sig .tc := ⟨.hbm, 522, rfl⟩
abbrev main_v414 : Ref sig .tc := ⟨.hbm, 523, rfl⟩
abbrev main_v415 : Ref sig .tc := ⟨.hbm, 524, rfl⟩
abbrev main_cst_37 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_v420 : Ref sig .tc := ⟨.hbm, 530, rfl⟩
abbrev main_cst_38 : Ref sig .tc := ⟨.hbm, 531, rfl⟩
abbrev main_v421 : Ref sig .tc := ⟨.hbm, 532, rfl⟩
abbrev main_v422 : Ref sig .tc := ⟨.hbm, 533, rfl⟩
abbrev main_cst_39 : Ref sig .tc := ⟨.hbm, 534, rfl⟩
abbrev main_v423 : Ref sig .tc := ⟨.hbm, 535, rfl⟩
abbrev main_v424 : Ref sig .tc := ⟨.hbm, 536, rfl⟩
abbrev main_v425 : Ref sig .tc := ⟨.hbm, 537, rfl⟩
abbrev main_cst_40 : Ref sig .tc := ⟨.hbm, 538, rfl⟩
abbrev main_v426 : Ref sig .tc := ⟨.hbm, 539, rfl⟩
abbrev main_v427 : Ref sig .tc := ⟨.hbm, 540, rfl⟩
abbrev main_v428 : Ref sig .tc := ⟨.hbm, 541, rfl⟩
abbrev main_cst_41 : Ref sig .tc := ⟨.hbm, 542, rfl⟩
abbrev main_v429 : Ref sig .tc := ⟨.hbm, 543, rfl⟩
abbrev main_v430 : Ref sig .tc := ⟨.hbm, 544, rfl⟩
abbrev main_v431 : Ref sig .tc := ⟨.hbm, 545, rfl⟩
abbrev main_v432 : Ref sig .tc := ⟨.hbm, 546, rfl⟩
abbrev main_v433 : Ref sig .tc := ⟨.hbm, 547, rfl⟩
abbrev main_cst_42 : Ref sig .tc := ⟨.hbm, 548, rfl⟩
abbrev main_v434 : Ref sig .tc := ⟨.hbm, 549, rfl⟩
abbrev main_v435 : Ref sig .tc := ⟨.hbm, 550, rfl⟩
abbrev main_cst_43 : Ref sig .tc := ⟨.hbm, 551, rfl⟩
abbrev main_v436 : Ref sig .tc := ⟨.hbm, 552, rfl⟩
abbrev main_v437 : Ref sig .tc := ⟨.hbm, 553, rfl⟩
abbrev main_v438 : Ref sig .tc := ⟨.hbm, 554, rfl⟩
abbrev main_cst_44 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_cst_45 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_v446 : Ref sig .tc := ⟨.hbm, 564, rfl⟩
abbrev main_cst_46 : Ref sig .tc := ⟨.hbm, 565, rfl⟩
abbrev main_v447 : Ref sig .tc := ⟨.hbm, 566, rfl⟩
abbrev main_v448 : Ref sig .tc := ⟨.hbm, 567, rfl⟩
abbrev main_cst_47 : Ref sig .tc := ⟨.hbm, 568, rfl⟩
abbrev main_v449 : Ref sig .tc := ⟨.hbm, 569, rfl⟩
abbrev main_v450 : Ref sig .tc := ⟨.hbm, 570, rfl⟩
abbrev main_v451 : Ref sig .tc := ⟨.hbm, 571, rfl⟩
abbrev main_cst_48 : Ref sig .tc := ⟨.hbm, 572, rfl⟩
abbrev main_v452 : Ref sig .tc := ⟨.hbm, 573, rfl⟩
abbrev main_v453 : Ref sig .tc := ⟨.hbm, 574, rfl⟩
abbrev main_v454 : Ref sig .tc := ⟨.hbm, 575, rfl⟩
abbrev main_cst_49 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_cst_50 : Ref sig .tc := ⟨.hbm, 582, rfl⟩
abbrev main_v460 : Ref sig .tc := ⟨.hbm, 583, rfl⟩
abbrev main_v461 : Ref sig .tc := ⟨.hbm, 584, rfl⟩
abbrev main_cst_51 : Ref sig .tc := ⟨.hbm, 585, rfl⟩
abbrev main_v462 : Ref sig .tc := ⟨.hbm, 586, rfl⟩
abbrev main_v463 : Ref sig .tc := ⟨.hbm, 587, rfl⟩
abbrev main_v464 : Ref sig .tc := ⟨.hbm, 588, rfl⟩
abbrev main_cst_52 : Ref sig .tc := ⟨.hbm, 589, rfl⟩
abbrev main_v465 : Ref sig .tc := ⟨.hbm, 590, rfl⟩
abbrev main_v466 : Ref sig .tc := ⟨.hbm, 591, rfl⟩
abbrev main_v467 : Ref sig .tc := ⟨.hbm, 592, rfl⟩
abbrev main_cst_53 : Ref sig .tc := ⟨.hbm, 593, rfl⟩
abbrev main_v468 : Ref sig .tc := ⟨.hbm, 594, rfl⟩
abbrev main_v469 : Ref sig .tc := ⟨.hbm, 595, rfl⟩
abbrev main_v470 : Ref sig .tc := ⟨.hbm, 596, rfl⟩
abbrev main_v471 : Ref sig .tc := ⟨.hbm, 597, rfl⟩
abbrev main_v472 : Ref sig .tc := ⟨.hbm, 598, rfl⟩
abbrev main_cst_54 : Ref sig .tc := ⟨.hbm, 599, rfl⟩
abbrev main_v473 : Ref sig .tc := ⟨.hbm, 600, rfl⟩
abbrev main_v474 : Ref sig .tc := ⟨.hbm, 601, rfl⟩
abbrev main_cst_55 : Ref sig .tc := ⟨.hbm, 602, rfl⟩
abbrev main_v475 : Ref sig .tc := ⟨.hbm, 603, rfl⟩
abbrev main_v476 : Ref sig .tc := ⟨.hbm, 604, rfl⟩
abbrev main_v477 : Ref sig .tc := ⟨.hbm, 605, rfl⟩
abbrev main_cst_56 : Ref sig .tc := ⟨.hbm, 606, rfl⟩
abbrev main_v478 : Ref sig .tc := ⟨.hbm, 607, rfl⟩
abbrev main_v479 : Ref sig .tc := ⟨.hbm, 608, rfl⟩
abbrev main_v480 : Ref sig .tc := ⟨.hbm, 609, rfl⟩
abbrev main_cst_57 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_v484 : Ref sig .tc := ⟨.hbm, 614, rfl⟩
abbrev main_v485 : Ref sig .tc := ⟨.hbm, 615, rfl⟩
abbrev main_cst_58 : Ref sig .tc := ⟨.hbm, 616, rfl⟩
abbrev main_v486 : Ref sig .tc := ⟨.hbm, 617, rfl⟩
abbrev main_v487 : Ref sig .tc := ⟨.hbm, 618, rfl⟩
abbrev main_cst_59 : Ref sig .tc := ⟨.hbm, 619, rfl⟩
abbrev main_v488 : Ref sig .tc := ⟨.hbm, 620, rfl⟩
abbrev main_v489 : Ref sig .tc := ⟨.hbm, 621, rfl⟩
abbrev main_v490 : Ref sig .tc := ⟨.hbm, 622, rfl⟩
abbrev main_cst_60 : Ref sig .tc := ⟨.hbm, 623, rfl⟩
abbrev main_v491 : Ref sig .tc := ⟨.hbm, 624, rfl⟩
abbrev main_v492 : Ref sig .tc := ⟨.hbm, 625, rfl⟩
abbrev main_v493 : Ref sig .tc := ⟨.hbm, 626, rfl⟩
abbrev main_cst_61 : Ref sig .tc := ⟨.hbm, 627, rfl⟩
abbrev main_v494 : Ref sig .tc := ⟨.hbm, 628, rfl⟩
abbrev main_v495 : Ref sig .tc := ⟨.hbm, 629, rfl⟩
abbrev main_v496 : Ref sig .tc := ⟨.hbm, 630, rfl⟩
abbrev main_v497 : Ref sig .tc := ⟨.hbm, 631, rfl⟩
abbrev main_v498 : Ref sig .tc := ⟨.hbm, 632, rfl⟩
abbrev main_cst_62 : Ref sig .tc := ⟨.hbm, 633, rfl⟩
abbrev main_v499 : Ref sig .tc := ⟨.hbm, 634, rfl⟩
abbrev main_v500 : Ref sig .tc := ⟨.hbm, 635, rfl⟩
abbrev main_cst_63 : Ref sig .tc := ⟨.hbm, 636, rfl⟩
abbrev main_v501 : Ref sig .tc := ⟨.hbm, 637, rfl⟩
abbrev main_v502 : Ref sig .tc := ⟨.hbm, 638, rfl⟩
abbrev main_v503 : Ref sig .tc := ⟨.hbm, 639, rfl⟩
abbrev main_cst_64 : Ref sig .tc := ⟨.hbm, 640, rfl⟩
abbrev main_v504 : Ref sig .tc := ⟨.hbm, 641, rfl⟩
abbrev main_v505 : Ref sig .tc := ⟨.hbm, 642, rfl⟩
abbrev main_v506 : Ref sig .tc := ⟨.hbm, 643, rfl⟩
abbrev main_cst_65 : Ref sig .tc := ⟨.hbm, 644, rfl⟩
abbrev main_v507 : Ref sig .tc := ⟨.hbm, 645, rfl⟩
abbrev main_v508 : Ref sig .tc := ⟨.hbm, 646, rfl⟩
abbrev main_v509 : Ref sig .tc := ⟨.hbm, 647, rfl⟩
abbrev main_v510 : Ref sig .tc := ⟨.hbm, 648, rfl⟩
abbrev main_v511 : Ref sig .tc := ⟨.hbm, 649, rfl⟩
abbrev main_cst_66 : Ref sig .tc := ⟨.hbm, 650, rfl⟩
abbrev main_v512 : Ref sig .tc := ⟨.hbm, 651, rfl⟩
abbrev main_v513 : Ref sig .tc := ⟨.hbm, 652, rfl⟩
abbrev main_cst_67 : Ref sig .tc := ⟨.hbm, 653, rfl⟩
abbrev main_v514 : Ref sig .tc := ⟨.hbm, 654, rfl⟩
abbrev main_v515 : Ref sig .tc := ⟨.hbm, 655, rfl⟩
abbrev main_v516 : Ref sig .tc := ⟨.hbm, 656, rfl⟩
abbrev main_cst_68 : Ref sig .tc := ⟨.hbm, 657, rfl⟩
abbrev main_v517 : Ref sig .tc := ⟨.hbm, 658, rfl⟩
abbrev main_v518 : Ref sig .tc := ⟨.hbm, 659, rfl⟩
abbrev main_v519 : Ref sig .tc := ⟨.hbm, 660, rfl⟩
abbrev main_cst_69 : Ref sig .tc := ⟨.hbm, 661, rfl⟩
abbrev main_v520 : Ref sig .tc := ⟨.hbm, 662, rfl⟩
abbrev main_v521 : Ref sig .tc := ⟨.hbm, 663, rfl⟩
abbrev main_v522 : Ref sig .tc := ⟨.hbm, 664, rfl⟩
abbrev main_v523 : Ref sig .tc := ⟨.hbm, 665, rfl⟩
abbrev main_v524 : Ref sig .tc := ⟨.hbm, 666, rfl⟩
abbrev main_cst_70 : Ref sig .tc := ⟨.hbm, 667, rfl⟩
abbrev main_v525 : Ref sig .tc := ⟨.hbm, 668, rfl⟩
abbrev main_v526 : Ref sig .tc := ⟨.hbm, 669, rfl⟩
abbrev main_cst_71 : Ref sig .tc := ⟨.hbm, 670, rfl⟩
abbrev main_v527 : Ref sig .tc := ⟨.hbm, 671, rfl⟩
abbrev main_v528 : Ref sig .tc := ⟨.hbm, 672, rfl⟩
abbrev main_v529 : Ref sig .tc := ⟨.hbm, 673, rfl⟩
abbrev main_cst_72 : Ref sig .tc := ⟨.hbm, 674, rfl⟩
abbrev main_v530 : Ref sig .tc := ⟨.hbm, 675, rfl⟩
abbrev main_v531 : Ref sig .tc := ⟨.hbm, 676, rfl⟩
abbrev main_v532 : Ref sig .tc := ⟨.hbm, 677, rfl⟩
abbrev main_cst_73 : Ref sig .tc := ⟨.hbm, 678, rfl⟩
abbrev main_v533 : Ref sig .tc := ⟨.hbm, 679, rfl⟩
abbrev main_v534 : Ref sig .tc := ⟨.hbm, 680, rfl⟩
abbrev main_v535 : Ref sig .tc := ⟨.hbm, 681, rfl⟩
abbrev main_v536 : Ref sig .tc := ⟨.hbm, 682, rfl⟩
abbrev main_v537 : Ref sig .tc := ⟨.hbm, 683, rfl⟩
abbrev main_cst_74 : Ref sig .tc := ⟨.hbm, 684, rfl⟩
abbrev main_v538 : Ref sig .tc := ⟨.hbm, 685, rfl⟩
abbrev main_v539 : Ref sig .tc := ⟨.hbm, 686, rfl⟩
abbrev main_cst_75 : Ref sig .tc := ⟨.hbm, 687, rfl⟩
abbrev main_v540 : Ref sig .tc := ⟨.hbm, 688, rfl⟩
abbrev main_v541 : Ref sig .tc := ⟨.hbm, 689, rfl⟩
abbrev main_v542 : Ref sig .tc := ⟨.hbm, 690, rfl⟩
abbrev main_cst_76 : Ref sig .tc := ⟨.hbm, 691, rfl⟩
abbrev main_v543 : Ref sig .tc := ⟨.hbm, 692, rfl⟩
abbrev main_v544 : Ref sig .tc := ⟨.hbm, 693, rfl⟩
abbrev main_v545 : Ref sig .tc := ⟨.hbm, 694, rfl⟩
abbrev main_cst_77 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_v550 : Ref sig .tc := ⟨.hbm, 700, rfl⟩
abbrev main_cst_78 : Ref sig .tc := ⟨.hbm, 701, rfl⟩
abbrev main_v551 : Ref sig .tc := ⟨.hbm, 702, rfl⟩
abbrev main_v552 : Ref sig .tc := ⟨.hbm, 703, rfl⟩
abbrev main_cst_79 : Ref sig .tc := ⟨.hbm, 704, rfl⟩
abbrev main_v553 : Ref sig .tc := ⟨.hbm, 705, rfl⟩
abbrev main_v554 : Ref sig .tc := ⟨.hbm, 706, rfl⟩
abbrev main_v555 : Ref sig .tc := ⟨.hbm, 707, rfl⟩
abbrev main_cst_80 : Ref sig .tc := ⟨.hbm, 708, rfl⟩
abbrev main_v556 : Ref sig .tc := ⟨.hbm, 709, rfl⟩
abbrev main_v557 : Ref sig .tc := ⟨.hbm, 710, rfl⟩
abbrev main_v558 : Ref sig .tc := ⟨.hbm, 711, rfl⟩
abbrev main_cst_81 : Ref sig .tc := ⟨.hbm, 712, rfl⟩
abbrev main_v559 : Ref sig .tc := ⟨.hbm, 713, rfl⟩
abbrev main_v560 : Ref sig .tc := ⟨.hbm, 714, rfl⟩
abbrev main_cst_82 : Ref sig .tc := ⟨.hbm, 715, rfl⟩
abbrev main_v561 : Ref sig .tc := ⟨.hbm, 716, rfl⟩
abbrev main_v562 : Ref sig .tc := ⟨.hbm, 717, rfl⟩
abbrev main_cst_83 : Ref sig .tc := ⟨.hbm, 718, rfl⟩
abbrev main_v563 : Ref sig .tc := ⟨.hbm, 719, rfl⟩
abbrev main_v564 : Ref sig .tc := ⟨.hbm, 720, rfl⟩
abbrev main_v565 : Ref sig .tc := ⟨.hbm, 721, rfl⟩
abbrev main_cst_84 : Ref sig .tc := ⟨.hbm, 722, rfl⟩
abbrev main_v566 : Ref sig .tc := ⟨.hbm, 723, rfl⟩
abbrev main_v567 : Ref sig .tc := ⟨.hbm, 724, rfl⟩
abbrev main_v568 : Ref sig .tc := ⟨.hbm, 725, rfl⟩
abbrev main_v569 : Ref sig .tc := ⟨.hbm, 726, rfl⟩
abbrev main_v570 : Ref sig .tc := ⟨.hbm, 727, rfl⟩
abbrev main_v571 : Ref sig .tc := ⟨.hbm, 728, rfl⟩
abbrev main_cst_85 : Ref sig .tc := ⟨.hbm, 729, rfl⟩
abbrev main_v572 : Ref sig .tc := ⟨.hbm, 730, rfl⟩
abbrev main_v573 : Ref sig .tc := ⟨.hbm, 731, rfl⟩
abbrev main_v574 : Ref sig .tc := ⟨.hbm, 732, rfl⟩
abbrev main_v575 : Ref sig .tc := ⟨.hbm, 733, rfl⟩
abbrev main_v576 : Ref sig .tc := ⟨.hbm, 734, rfl⟩
abbrev main_v577 : Ref sig .tc := ⟨.hbm, 735, rfl⟩
abbrev main_v578 : Ref sig .tc := ⟨.hbm, 736, rfl⟩
abbrev main_v579 : Ref sig .tc := ⟨.hbm, 737, rfl⟩
abbrev main_v580 : Ref sig .tc := ⟨.hbm, 738, rfl⟩
abbrev main_cst_86 : Ref sig .tc := ⟨.hbm, 739, rfl⟩
abbrev main_v581 : Ref sig .tc := ⟨.hbm, 740, rfl⟩
abbrev main_v582 : Ref sig .tc := ⟨.hbm, 741, rfl⟩
abbrev main_cst_87 : Ref sig .tc := ⟨.hbm, 742, rfl⟩
abbrev main_v583 : Ref sig .tc := ⟨.hbm, 743, rfl⟩
abbrev main_v584 : Ref sig .tc := ⟨.hbm, 744, rfl⟩
abbrev main_cst_88 : Ref sig .tc := ⟨.hbm, 745, rfl⟩
abbrev main_v585 : Ref sig .tc := ⟨.hbm, 746, rfl⟩
abbrev main_v586 : Ref sig .tc := ⟨.hbm, 747, rfl⟩
abbrev main_v587 : Ref sig .tc := ⟨.hbm, 748, rfl⟩
abbrev main_v588 : Ref sig .tc := ⟨.hbm, 749, rfl⟩
abbrev main_cst_89 : Ref sig .tc := ⟨.hbm, 750, rfl⟩
abbrev main_v589 : Ref sig .tc := ⟨.hbm, 751, rfl⟩
abbrev main_v590 : Ref sig .tc := ⟨.hbm, 752, rfl⟩
abbrev main_v591 : Ref sig .tc := ⟨.hbm, 753, rfl⟩
abbrev main_v592 : Ref sig .tc := ⟨.hbm, 754, rfl⟩
abbrev main_v593 : Ref sig .tc := ⟨.hbm, 755, rfl⟩
abbrev main_v594 : Ref sig .tc := ⟨.hbm, 756, rfl⟩
abbrev main_v595 : Ref sig .tc := ⟨.hbm, 757, rfl⟩
abbrev main_v596 : Ref sig .tc := ⟨.hbm, 758, rfl⟩
abbrev main_v597 : Ref sig .tc := ⟨.hbm, 759, rfl⟩
abbrev main_v598 : Ref sig .tc := ⟨.hbm, 760, rfl⟩
abbrev main_v599 : Ref sig .tc := ⟨.hbm, 761, rfl⟩
abbrev main_cst_90 : Ref sig .tc := ⟨.hbm, 762, rfl⟩
abbrev main_v600 : Ref sig .tc := ⟨.hbm, 763, rfl⟩
abbrev main_v601 : Ref sig .tc := ⟨.hbm, 764, rfl⟩
abbrev main_cst_91 : Ref sig .tc := ⟨.hbm, 765, rfl⟩
abbrev main_v602 : Ref sig .tc := ⟨.hbm, 766, rfl⟩
abbrev main_v603 : Ref sig .tc := ⟨.hbm, 767, rfl⟩
abbrev main_v604 : Ref sig .tc := ⟨.hbm, 768, rfl⟩
abbrev main_v605 : Ref sig .tc := ⟨.hbm, 769, rfl⟩
abbrev main_v606 : Ref sig .tc := ⟨.hbm, 770, rfl⟩
abbrev main_v607 : Ref sig .tc := ⟨.hbm, 771, rfl⟩
abbrev main_v608 : Ref sig .tc := ⟨.hbm, 772, rfl⟩
abbrev main_v609 : Ref sig .tc := ⟨.hbm, 773, rfl⟩
abbrev main_v610 : Ref sig .tc := ⟨.hbm, 774, rfl⟩
abbrev main_call4_cst : Ref sig .tc := ⟨.hbm, 775, rfl⟩
abbrev main_call4_v0 : Ref sig .tc := ⟨.hbm, 776, rfl⟩
abbrev main_v611 : Ref sig .tc := ⟨.hbm, 777, rfl⟩
abbrev main_cst_92 : Ref sig .tc := ⟨.hbm, 778, rfl⟩
abbrev main_v612 : Ref sig .tc := ⟨.hbm, 779, rfl⟩
abbrev main_v613 : Ref sig .tc := ⟨.hbm, 780, rfl⟩
abbrev main_v614 : Ref sig .tc := ⟨.hbm, 781, rfl⟩
abbrev main_cst_93 : Ref sig .tc := ⟨.hbm, 782, rfl⟩
abbrev main_v615 : Ref sig .tc := ⟨.hbm, 783, rfl⟩
abbrev main_v616 : Ref sig .tc := ⟨.hbm, 784, rfl⟩
abbrev main_cst_94 : Ref sig .tc := ⟨.hbm, 785, rfl⟩
abbrev main_v617 : Ref sig .tc := ⟨.hbm, 786, rfl⟩
abbrev main_v618 : Ref sig .tc := ⟨.hbm, 787, rfl⟩
abbrev main_cst_95 : Ref sig .tc := ⟨.hbm, 788, rfl⟩
abbrev main_v619 : Ref sig .tc := ⟨.hbm, 789, rfl⟩
abbrev main_v620 : Ref sig .tc := ⟨.hbm, 790, rfl⟩
abbrev main_v621 : Ref sig .tc := ⟨.hbm, 791, rfl⟩
abbrev main_cst_96 : Ref sig .tc := ⟨.hbm, 792, rfl⟩
abbrev main_v622 : Ref sig .tc := ⟨.hbm, 793, rfl⟩
abbrev main_v623 : Ref sig .tc := ⟨.hbm, 794, rfl⟩
abbrev main_v624 : Ref sig .tc := ⟨.hbm, 795, rfl⟩
abbrev main_v625 : Ref sig .tc := ⟨.hbm, 796, rfl⟩
abbrev main_v626 : Ref sig .tc := ⟨.hbm, 797, rfl⟩
abbrev main_cst_97 : Ref sig .tc := ⟨.hbm, 798, rfl⟩
abbrev main_v627 : Ref sig .tc := ⟨.hbm, 799, rfl⟩
abbrev main_call5_call0_cst : Ref sig .tc := ⟨.hbm, 800, rfl⟩
abbrev main_call5_call0_v0 : Ref sig .tc := ⟨.hbm, 801, rfl⟩
abbrev main_v628 : Ref sig .tc := ⟨.hbm, 802, rfl⟩
abbrev main_v629 : Ref sig .tc := ⟨.hbm, 803, rfl⟩
abbrev main_cst_98 : Ref sig .tc := ⟨.hbm, 804, rfl⟩
abbrev main_v630 : Ref sig .tc := ⟨.hbm, 805, rfl⟩
abbrev main_v631 : Ref sig .tc := ⟨.hbm, 806, rfl⟩
abbrev main_v632 : Ref sig .tc := ⟨.hbm, 807, rfl⟩
abbrev main_v633 : Ref sig .tc := ⟨.hbm, 808, rfl⟩
abbrev main_v634 : Ref sig .tc := ⟨.hbm, 809, rfl⟩
abbrev main_cst_99 : Ref sig .tc := ⟨.hbm, 810, rfl⟩
abbrev main_v635 : Ref sig .tc := ⟨.hbm, 811, rfl⟩
abbrev main_v636 : Ref sig .tc := ⟨.hbm, 812, rfl⟩
abbrev main_v637 : Ref sig .tc := ⟨.hbm, 813, rfl⟩
abbrev main_v638 : Ref sig .tc := ⟨.hbm, 814, rfl⟩
abbrev main_v639 : Ref sig .tc := ⟨.hbm, 815, rfl⟩
abbrev main_v640 : Ref sig .tc := ⟨.hbm, 816, rfl⟩
abbrev main_v641 : Ref sig .tc := ⟨.hbm, 817, rfl⟩
abbrev main_v642 : Ref sig .tc := ⟨.hbm, 818, rfl⟩
abbrev main_v643 : Ref sig .tc := ⟨.hbm, 819, rfl⟩
abbrev main_v644 : Ref sig .tc := ⟨.hbm, 820, rfl⟩
abbrev main_cst_100 : Ref sig .tc := ⟨.hbm, 821, rfl⟩
abbrev main_v645 : Ref sig .tc := ⟨.hbm, 822, rfl⟩
abbrev main_v646 : Ref sig .tc := ⟨.hbm, 823, rfl⟩
abbrev main_cst_101 : Ref sig .tc := ⟨.hbm, 824, rfl⟩
abbrev main_v647 : Ref sig .tc := ⟨.hbm, 825, rfl⟩
abbrev main_v648 : Ref sig .tc := ⟨.hbm, 826, rfl⟩
abbrev main_cst_102 : Ref sig .tc := ⟨.hbm, 827, rfl⟩
abbrev main_v649 : Ref sig .tc := ⟨.hbm, 828, rfl⟩
abbrev main_v650 : Ref sig .tc := ⟨.hbm, 829, rfl⟩
abbrev main_cst_103 : Ref sig .tc := ⟨.hbm, 830, rfl⟩
abbrev main_v651 : Ref sig .tc := ⟨.hbm, 831, rfl⟩
abbrev main_v652 : Ref sig .tc := ⟨.hbm, 832, rfl⟩
abbrev main_v653 : Ref sig .tc := ⟨.hbm, 833, rfl⟩
abbrev main_cst_104 : Ref sig .tc := ⟨.hbm, 834, rfl⟩
abbrev main_v654 : Ref sig .tc := ⟨.hbm, 835, rfl⟩
abbrev main_v655 : Ref sig .tc := ⟨.hbm, 836, rfl⟩
abbrev main_v656 : Ref sig .tc := ⟨.hbm, 837, rfl⟩
abbrev main_v657 : Ref sig .tc := ⟨.hbm, 838, rfl⟩
abbrev main_v658 : Ref sig .tc := ⟨.hbm, 839, rfl⟩
abbrev main_v659 : Ref sig .tc := ⟨.hbm, 840, rfl⟩
abbrev main_cst_105 : Ref sig .tc := ⟨.hbm, 841, rfl⟩
abbrev main_v660 : Ref sig .tc := ⟨.hbm, 842, rfl⟩
abbrev main_v661 : Ref sig .tc := ⟨.hbm, 843, rfl⟩
abbrev main_cst_106 : Ref sig .tc := ⟨.hbm, 844, rfl⟩
abbrev main_v662 : Ref sig .tc := ⟨.hbm, 845, rfl⟩
abbrev main_v663 : Ref sig .tc := ⟨.hbm, 846, rfl⟩
abbrev main_v664 : Ref sig .tc := ⟨.hbm, 847, rfl⟩
abbrev main_v665 : Ref sig .tc := ⟨.hbm, 848, rfl⟩
abbrev main_cst_107 : Ref sig .tc := ⟨.hbm, 849, rfl⟩
abbrev main_v666 : Ref sig .tc := ⟨.hbm, 850, rfl⟩
abbrev main_v667 : Ref sig .tc := ⟨.hbm, 851, rfl⟩
abbrev main_cst_108 : Ref sig .tc := ⟨.hbm, 852, rfl⟩
abbrev main_v668 : Ref sig .tc := ⟨.hbm, 853, rfl⟩
abbrev main_cst_109 : Ref sig .tc := ⟨.hbm, 854, rfl⟩
abbrev main_v669 : Ref sig .tc := ⟨.hbm, 855, rfl⟩
abbrev main_v670 : Ref sig .tc := ⟨.hbm, 856, rfl⟩
abbrev main_cst_110 : Ref sig .tc := ⟨.hbm, 857, rfl⟩
abbrev main_v671 : Ref sig .tc := ⟨.hbm, 858, rfl⟩
abbrev main_v672 : Ref sig .tc := ⟨.hbm, 859, rfl⟩
abbrev main_v673 : Ref sig .tc := ⟨.hbm, 860, rfl⟩
abbrev main_v674 : Ref sig .tc := ⟨.hbm, 861, rfl⟩
abbrev main_cst_111 : Ref sig .tc := ⟨.hbm, 862, rfl⟩
abbrev main_v675 : Ref sig .tc := ⟨.hbm, 863, rfl⟩
abbrev main_v676 : Ref sig .tc := ⟨.hbm, 864, rfl⟩
abbrev main_cst_112 : Ref sig .tc := ⟨.hbm, 865, rfl⟩
abbrev main_v677 : Ref sig .tc := ⟨.hbm, 866, rfl⟩
abbrev main_cst_113 : Ref sig .tc := ⟨.hbm, 867, rfl⟩
abbrev main_v678 : Ref sig .tc := ⟨.hbm, 868, rfl⟩
abbrev main_v679 : Ref sig .tc := ⟨.hbm, 869, rfl⟩
abbrev main_v680 : Ref sig .tc := ⟨.hbm, 870, rfl⟩
abbrev main_cst_114 : Ref sig .tc := ⟨.hbm, 871, rfl⟩
abbrev main_v681 : Ref sig .tc := ⟨.hbm, 872, rfl⟩
abbrev main_v682 : Ref sig .tc := ⟨.hbm, 873, rfl⟩
abbrev main_v683 : Ref sig .tc := ⟨.hbm, 874, rfl⟩
abbrev main_v684 : Ref sig .tc := ⟨.hbm, 875, rfl⟩
abbrev main_v685 : Ref sig .tc := ⟨.hbm, 876, rfl⟩
abbrev main_cst_115 : Ref sig .tc := ⟨.hbm, 877, rfl⟩
abbrev main_v686 : Ref sig .tc := ⟨.hbm, 878, rfl⟩
abbrev main_v687 : Ref sig .tc := ⟨.hbm, 879, rfl⟩
abbrev main_cst_116 : Ref sig .tc := ⟨.hbm, 880, rfl⟩
abbrev main_v688 : Ref sig .tc := ⟨.hbm, 881, rfl⟩
abbrev main_cst_117 : Ref sig .tc := ⟨.hbm, 882, rfl⟩
abbrev main_v689 : Ref sig .tc := ⟨.hbm, 883, rfl⟩
abbrev main_v690 : Ref sig .tc := ⟨.hbm, 884, rfl⟩
abbrev main_v691 : Ref sig .tc := ⟨.hbm, 885, rfl⟩
abbrev main_cst_118 : Ref sig .tc := ⟨.hbm, 886, rfl⟩
abbrev main_v692 : Ref sig .tc := ⟨.hbm, 887, rfl⟩
abbrev main_v693 : Ref sig .tc := ⟨.hbm, 888, rfl⟩
abbrev main_v694 : Ref sig .tc := ⟨.hbm, 889, rfl⟩
abbrev main_v695 : Ref sig .tc := ⟨.hbm, 890, rfl⟩
abbrev main_v696 : Ref sig .tc := ⟨.hbm, 891, rfl⟩
abbrev main_cst_119 : Ref sig .tc := ⟨.hbm, 892, rfl⟩
abbrev main_v697 : Ref sig .tc := ⟨.hbm, 893, rfl⟩
abbrev main_v698 : Ref sig .tc := ⟨.hbm, 894, rfl⟩
abbrev main_cst_120 : Ref sig .tc := ⟨.hbm, 895, rfl⟩
abbrev main_v699 : Ref sig .tc := ⟨.hbm, 896, rfl⟩
abbrev main_cst_121 : Ref sig .tc := ⟨.hbm, 897, rfl⟩
abbrev main_v700 : Ref sig .tc := ⟨.hbm, 898, rfl⟩
abbrev main_v701 : Ref sig .tc := ⟨.hbm, 899, rfl⟩
abbrev main_v702 : Ref sig .tc := ⟨.hbm, 900, rfl⟩
abbrev main_cst_122 : Ref sig .tc := ⟨.hbm, 901, rfl⟩
abbrev main_v703 : Ref sig .tc := ⟨.hbm, 902, rfl⟩
abbrev main_v704 : Ref sig .tc := ⟨.hbm, 903, rfl⟩
abbrev main_v705 : Ref sig .tc := ⟨.hbm, 904, rfl⟩
abbrev main_v706 : Ref sig .tc := ⟨.hbm, 905, rfl⟩
abbrev main_v707 : Ref sig .tc := ⟨.hbm, 906, rfl⟩
abbrev main_v708 : Ref sig .tc := ⟨.hbm, 907, rfl⟩
abbrev main_cst_123 : Ref sig .tc := ⟨.hbm, 908, rfl⟩
abbrev main_v709 : Ref sig .tc := ⟨.hbm, 909, rfl⟩
abbrev main_v710 : Ref sig .tc := ⟨.hbm, 910, rfl⟩
abbrev main_v711 : Ref sig .tc := ⟨.hbm, 911, rfl⟩
abbrev main_cst_124 : Ref sig .tc := ⟨.hbm, 912, rfl⟩
abbrev main_v712 : Ref sig .tc := ⟨.hbm, 913, rfl⟩
abbrev main_v713 : Ref sig .tc := ⟨.hbm, 914, rfl⟩
abbrev main_v714 : Ref sig .tc := ⟨.hbm, 915, rfl⟩
abbrev main_v715 : Ref sig .tc := ⟨.hbm, 916, rfl⟩
abbrev main_cst_125 : Ref sig .tc := ⟨.hbm, 917, rfl⟩
abbrev main_v716 : Ref sig .tc := ⟨.hbm, 918, rfl⟩
abbrev main_v717 : Ref sig .tc := ⟨.hbm, 919, rfl⟩
abbrev main_v718 : Ref sig .tc := ⟨.hbm, 920, rfl⟩
abbrev main_cst_126 : Ref sig .tc := ⟨.hbm, 921, rfl⟩
abbrev main_v719 : Ref sig .tc := ⟨.hbm, 922, rfl⟩
abbrev main_v720 : Ref sig .tc := ⟨.hbm, 923, rfl⟩
abbrev main_v721 : Ref sig .tc := ⟨.hbm, 924, rfl⟩
abbrev main_cst_127 : Ref sig .tc := ⟨.hbm, 925, rfl⟩
abbrev main_v722 : Ref sig .tc := ⟨.hbm, 926, rfl⟩
abbrev main_v723 : Ref sig .tc := ⟨.hbm, 927, rfl⟩
abbrev main_v724 : Ref sig .tc := ⟨.hbm, 928, rfl⟩

abbrev nD : Nat := 1
abbrev τ : Topo := Topo.v7x

variable {F : FTy → Type} [FloatOps F]
-- ==== Proof.Hidden.lean ====
/-
  The squared ReLU's gradient: what the call `mlp_bwd_hidden` leaves in its result is the derivative `jax.vjp` writes.

  A grid point `(j, i)` writes the block of rows `1024 i …` and columns `2048 j …`: the product of the rows of the
  cotangent with the rows of `w_down`, times twice the saved `max(a, 0)`.  The reference selects the same product times
  `2 max(a, 0)` where `a > 0` and zero elsewhere.
-/
module

public import proofs.«01_k».proof.Defs
public import proofs.«01_k».proof.Proof.Gen.HiddenIdeal.Value
public import proofs.«01_k».proof.Proof.Gen.HiddenRefIdeal.Run
public import proofs.«01_k».proof.Proof.Gen.Hidden.Frame
public import Idealize.ShloMosaic.Lib.Pipeline.ValueKit
public import Idealize.ShloMosaic.Lib.Quiescent

@[expose] public section

set_option maxRecDepth 16384

noncomputable section

namespace Cert.HiddenValue

open Cert.HiddenIdeal Cert.HiddenIdeal.Gen Idealize.ShloMosaic Idealize.ShloMosaic.TcCoe Idealize.SL.Sem
open Idealize.ShloMosaic.Pipeline (Dat)

variable (m : (ℓ : Loc nD τ sig) → Buf (Elt Ideal) ℓ)

/-- The derivative in `a`, as the reference's operations compute it from `a`, `w_down` and the cotangent. -/
abbrev grad (a : FVec Ideal S2x2048x4096 .f32) (w : FVec Ideal S1x4096x1024 .f32) (ct : FVec Ideal S2x2048x1024 .f32) : FVec Ideal S4096x4096 .bf16 :=
  shapeCast _ (truncf .bf16 (select (cmpf .ogt a (broadcastInDim S2x2048x4096 ![] Cert.HiddenRefIdeal.Gen.bcast_S_S2x2048x4096 (constant S_ .f32 0x00000000#32))) (mulf (Host.dotGeneral Cert.HiddenRefIdeal.dot_S2x2048x1024_S4096x1024_S2x2048x4096_2_1_01_0_n_n none ct (shapeCast _ w Cert.HiddenRefIdeal.Gen.shapeCasts_S1x4096x1024_S4096x1024)) (mulf (broadcastInDim S2x2048x4096 ![] Cert.HiddenRefIdeal.Gen.bcast_S_S2x2048x4096 (constant S_ .f32 0x40000000#32)) (maximumf a (broadcastInDim S2x2048x4096 ![] Cert.HiddenRefIdeal.Gen.bcast_S_S2x2048x4096 (constant S_ .f32 0x00000000#32))))) (broadcastInDim S2x2048x4096 ![] Cert.HiddenRefIdeal.Gen.bcast_S_S2x2048x4096 (constant S_ .f32 0x00000000#32))) Cert.HiddenRefIdeal.Gen.bitsLt_bf16_f32) Cert.HiddenRefIdeal.Gen.shapeCasts_S2x2048x4096_S4096x4096

/-- The derivative at the arguments of device `c`. -/
abbrev result (c : Dev nD) : FVec Ideal S4096x4096 .bf16 :=
  grad (m ((c : Thread nD τ).loc main_arg0)) (m ((c : Thread nD τ).loc main_arg1)) (m ((c : Thread nD τ).loc main_arg2))

/-- The blocks' places at the grid points. -/
theorem places : ∀ t : Fin cfg0.N, win0_0.index t = ![t.val % 4, 0] ∧ win0_1.index t = ![t.val / 4, 0]
    ∧ win0_2.index t = ![t.val % 4, t.val / 4] ∧ win0_3.index t = ![t.val % 4, t.val / 4] ∧ t.val < 8 :=
  (by decide +kernel : ∀ t : Fin grid0.N, _)

/-- Where `a ≤ 0` the saved `max(a, 0)` is zero, so the select is the plain product. -/
theorem select_relu (a s c : EReal) : (if 0 < a then s * (c * max a 0) else 0) = s * (c * max a 0) := by
  by_cases h : 0 < a
  · rw [if_pos h]
  · rw [if_neg h, max_eq_right (not_lt.mp h), mul_zero, mul_zero]

/-- The derivative at a token and a hidden unit. -/
theorem grad_apply (a : FVec Ideal S2x2048x4096 .f32) (w : FVec Ideal S1x4096x1024 .f32) (ct : FVec Ideal S2x2048x1024 .f32) (i j : Fin 4096) :
    grad a w ct (ix2 i j) = (∑ k : Fin 1024, ct (ix3 ⟨i.val / 2048, by omega⟩ ⟨i.val % 2048, by omega⟩ k) * w (ix3 0 j k))
      * (Ideal.ofBits .f32 0x40000000#32 * max (a (ix3 ⟨i.val / 2048, by omega⟩ ⟨i.val % 2048, by omega⟩ j)) 0) := by
  pointwise [grad]
  exact select_relu _ _ _

/-- What the body stores, at an index of its block. -/
theorem pay_apply (x0 : FVec Ideal S1024x1024 .bf16) (x1 : FVec Ideal S2048x1024 .bf16) (x2 : FVec Ideal S1024x2048 .bf16) (r : Fin 1024) (q : Fin 2048) :
    k0_pay1 x0 x1 x2 (ix2 r q) = (∑ k : Fin 1024, x0 (ix2 r k) * x1 (ix2 q k)) * (Ideal.ofBits .f32 0x40000000#32 * x2 (ix2 r q)) := by
  pointwise [k0_pay1]

theorem point (c : Dev nD) (t : Fin cfg0.N) (y : S1024x2048.Idx) :
    k0_pay1 (iblk m c 0 t) (iblk m c 1 t) (iblk m c 2 t) y
      = grad (m ((c : Thread nD τ).loc main_arg0)) (m ((c : Thread nD τ).loc main_arg1)) (m ((c : Thread nD τ).loc main_arg2))
          (((cfg0.win 3).blk t).view.emb y) := by
  have ht := (places t).2.2.2.2
  obtain ⟨r, q, rfl⟩ : ∃ (r : Fin 1024) (q : Fin 2048), y = ix2 r q := ⟨y 0, y 1, eq_ix2 y⟩
  have e : (((cfg0.win 3).blk t).view.emb (ix2 r q)) = (ix2 (⟨t.val % 4 * 1024 + r.val, by omega⟩ : Fin 4096) (⟨t.val / 4 * 2048 + q.val, by omega⟩ : Fin 4096)) := by
    blk_ext [places t]
  rw [e]
  refine (pay_apply _ _ _ r q).trans (Eq.trans ?_ (grad_apply _ _ _ _ _).symm)
  blk_point [iblk, places t]
  refine congrArg (Ideal.ofBits .f32 0x40000000#32 * ·) ?_
  entry_read
  pointwise
  refine congrArg (max · 0) ?_
  blk_ext [places t]

/-- The result of the call, whole: the derivative. -/
theorem final (c : Dev nD) : (dats m 0 c).arrAt 3 cfg0.N = result m c := by
  refine (dats m 0 c).arrAt_eq_of_covers 3 _ (by decide +kernel) fun t _ y => ?_
  blk_simp
  rw [after0_3]; frame_out
  exact point m c t y

end Cert.HiddenValue

namespace Cert.HiddenClaims

open Idealize.ShloMosaic Idealize.ShloMosaic.TcCoe Idealize.SL.Sem

theorem frame : Cert.quiescent_Hidden := fun m ρ _ => Cert.Hidden.Gen.frame m ρ
theorem frame_ideal : Cert.quiescent_HiddenIdeal := fun m ρ _ => Cert.HiddenIdeal.Gen.frame m ρ
theorem frame_ref : Cert.quiescent_HiddenRefIdeal := fun m ρ _ =>
  (θ_run Cert.HiddenRefIdeal.defs _ _).mono (fun r h => ⟨fun c => (h c).2, sem_eq_zero_of_no_sems (by decide) r.2⟩)
    (Cert.HiddenRefIdeal.Value.run (F := Ideal) m ρ)

theorem algebraic : Cert.algebraic_HiddenIdeal_HiddenRefIdeal := by
  intro m ρ m' ρ' _ hag
  refine ⟨Cert.HiddenValue.result m, ?_, ?_⟩
  · exact (θ_run Cert.HiddenIdeal.defs _ _).mono (fun _ h c => ⟨(h c).1.trans (Cert.HiddenValue.final m c), (h c).2⟩)
      (Cert.HiddenIdeal.Value.run_blocks m ρ)
  · refine (θ_run Cert.HiddenRefIdeal.defs _ _).mono (fun _ h c => ⟨(h c).1.trans ?_, (h c).2⟩)
      (Cert.HiddenRefIdeal.Value.run (F := Ideal) m' ρ')
    rw [(hag c).1, (hag c).2.1, (hag c).2.2]

end Cert.HiddenClaims

end
-- ==== Proof.Norm.lean ====
module

public import Idealize.ShloMosaic.Lib.Pipeline.ValueKit
public import Idealize.ShloMosaic.Lib.IdealHost

@[expose] public section

/-! # The gradient of a root-mean-square norm over the extended reals

A norm `y = x * rsqrt (mean (x * x) + eps)` has two gradients in this proof: the one a kernel
writes by hand and the one reverse-mode differentiation writes. `back_eq` says they are equal at
every row of extended reals, the infinite ones included. -/

set_option maxRecDepth 16384

namespace Cert.Norm

open Idealize.ShloMosaic

/-- A factor that is nonnegative and finite distributes over any sum. -/
theorem factor_sum {ι : Type} (s : Finset ι) (f : ι → EReal) {r : EReal} (h0 : 0 ≤ r) (ht : r ≠ ⊤) :
    ∑ k ∈ s, r * f k = r * ∑ k ∈ s, f k := by
  classical
  induction s using Finset.induction_on with
  | empty => simp
  | insert a s ha ih =>
    rw [Finset.sum_insert ha, Finset.sum_insert ha, ih, EReal.left_distrib_of_nonneg_of_ne_top h0 ht]

theorem square_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The mean square of a row with the small constant added. -/
noncomputable def energy {n : ℕ} (N e : EReal) (x : Fin n → EReal) : EReal :=
  Ideal.div (∑ k, x k * x k) N + e

/-- The kernel's gradient with respect to entry `i` of the row. -/
noncomputable def hand {n : ℕ} (N e : EReal) (x d : Fin n → EReal) (i : Fin n) : EReal :=
  Ideal.rsqrt (energy N e x) * (d i - (x i * Ideal.rsqrt (energy N e x)) *
    Ideal.div (∑ k, d k * (x k * Ideal.rsqrt (energy N e x))) N)

/-- The slope reverse mode gives every entry of the row. -/
noncomputable def slope {n : ℕ} (N e h : EReal) (x d : Fin n → EReal) : EReal :=
  Ideal.div ((∑ k, x k * d k) * (h * Ideal.div (Ideal.rsqrt (energy N e x)) (energy N e x))) N

theorem energy_cases {n : ℕ} {N e : ℝ} (hN : 0 < N) (he : 0 < e) (x : Fin n → EReal) :
    energy (N : EReal) e x = ⊤ ∨ ∃ p : ℝ, 0 < p ∧ energy (N : EReal) e x = (p : EReal) := by
  have hs : 0 ≤ Ideal.div (∑ k, x k * x k) (N : EReal) := by
    rw [Ideal.div_coe hN.ne']
    exact mul_nonneg (Finset.sum_nonneg fun k _ => square_nonneg _)
      (EReal.coe_nonneg.mpr (by positivity))
  have hp : 0 < energy (N : EReal) e x :=
    lt_of_lt_of_le (EReal.coe_pos.mpr he) (le_add_of_nonneg_left hs)
  induction h : energy (N : EReal) e x with
  | bot => rw [h] at hp; exact absurd hp (not_lt.mpr bot_le)
  | top => exact Or.inl rfl
  | coe p => rw [h] at hp; exact Or.inr ⟨p, EReal.coe_pos.mp hp, rfl⟩

/-- The kernel's gradient of the norm is the derivative. -/
theorem back_eq {n : ℕ} {N e : ℝ} (hN : 0 < N) (he : 0 < e) (x d : Fin n → EReal) (i : Fin n) :
    hand (N : EReal) e x d i =
      d i * Ideal.rsqrt (energy (N : EReal) e x) + slope (N : EReal) e ((-(1 / 2) : ℝ) : EReal) x d * x i
        + x i * slope (N : EReal) e ((-(1 / 2) : ℝ) : EReal) x d := by
  rcases energy_cases hN he x with h | ⟨p, hp, h⟩
  · have hr : Ideal.rsqrt (⊤ : EReal) = 0 := rfl
    have hz : Ideal.div 0 (⊤ : EReal) = 0 := by simp [Ideal.div]
    simp only [hand, slope, h, hr, hz, Ideal.div_coe hN.ne', zero_mul, mul_zero, add_zero]
  · have hr : Ideal.rsqrt (p : EReal) = (((√p)⁻¹ : ℝ) : EReal) := by
      show (if p < 0 then (⊥ : EReal) else if p = 0 then ⊤ else (((√p)⁻¹ : ℝ) : EReal)) = _
      rw [if_neg (not_lt.mpr hp.le), if_neg hp.ne']
    set r : ℝ := (√p)⁻¹ with hrdef
    have hr0 : 0 < r := inv_pos.mpr (Real.sqrt_pos.mpr hp)
    have hrr : r * r = p⁻¹ := by rw [hrdef, ← mul_inv, Real.mul_self_sqrt hp.le]
    have hdiv : Ideal.div (r : EReal) p = ((r * r * r : ℝ) : EReal) := by
      rw [Ideal.div_coe hp.ne', ← EReal.coe_mul, hrr, one_div, mul_comm]
    have hsum : ∑ k, d k * (x k * (r : EReal)) = r * ∑ k, x k * d k := by
      rw [← factor_sum _ _ (EReal.coe_nonneg.mpr hr0.le) (EReal.coe_ne_top r)]
      exact Finset.sum_congr rfl fun k _ => by rw [mul_comm (x k) (d k), mul_left_comm, mul_comm]; ac_rfl
    set S := ∑ k, x k * d k
    have hk : 0 ≤ ((r * r * r * (1 / N) / 2 : ℝ) : EReal) := EReal.coe_nonneg.mpr (by positivity)
    have hslope : slope (N : EReal) e ((-(1 / 2) : ℝ) : EReal) x d =
        -(S * ((r * r * r * (1 / N) / 2 : ℝ) : EReal)) := by
      rw [slope, h, hr, hdiv, Ideal.div_coe hN.ne', ← mul_neg, ← EReal.coe_neg, mul_assoc, ← EReal.coe_mul,
        ← EReal.coe_mul]
      congr 2; ring
    have hhand : (r : EReal) * (-((x i * r) * (r * S * ((1 / N : ℝ) : EReal)))) =
        -(x i * S) * (((r * r * r * (1 / N) / 2 : ℝ) : EReal) + ((r * r * r * (1 / N) / 2 : ℝ) : EReal)) := by
      rw [← EReal.coe_add, show r * r * r * (1 / N) / 2 + r * r * r * (1 / N) / 2 = r * r * r * (1 / N) by ring,
        EReal.coe_mul, EReal.coe_mul, EReal.coe_mul, mul_neg, neg_mul]
      congr 1; ac_rfl
    rw [hslope, hand, h, hr, hsum, Ideal.div_coe hN.ne', sub_eq_add_neg,
      EReal.left_distrib_of_nonneg_of_ne_top (EReal.coe_nonneg.mpr hr0.le) (EReal.coe_ne_top r), hhand,
      EReal.left_distrib_of_nonneg hk hk, mul_comm (r : EReal) (d i), add_assoc]
    congr 2
    · rw [neg_mul, neg_mul]; congr 1; ac_rfl
    · rw [neg_mul, mul_neg]; congr 1; ac_rfl

/-! ## The literals of the norm -/

/-- The row length 1024. -/
noncomputable abbrev len : EReal := Ideal.ofBits .f32 0x44800000#32
/-- The constant added to the mean square. -/
noncomputable abbrev eps : EReal := Ideal.ofBits .f32 0x358637BD#32
/-- Minus one half. -/
noncomputable abbrev half : EReal := Ideal.ofBits .f32 0xBF000000#32

theorem len_eq : len = ((1024 : ℝ) : EReal) := by
  simp [len, Ideal.ofBits, Ideal.ieee, -EReal.coe_mul]; norm_num

theorem half_eq : half = ((-(1 / 2) : ℝ) : EReal) := by
  simp [half, Ideal.ofBits, Ideal.ieee, -EReal.coe_mul, -EReal.coe_neg]; norm_num

theorem eps_eq : ∃ e : ℝ, 0 < e ∧ eps = (e : EReal) := by
  refine ⟨8796093 / 2 ^ 43, by norm_num, ?_⟩
  simp [eps, Ideal.ofBits, Ideal.ieee, -EReal.coe_mul]; norm_num

/-! ## The host's norm of an array of rows, and its gradients as reverse mode writes them -/

abbrev S0 : Shape := ⟨0, ![]⟩
abbrev S1024 : Shape := ⟨1, ![1024]⟩
abbrev S2x2048 : Shape := ⟨2, ![2, 2048]⟩
abbrev S1x1024 : Shape := ⟨2, ![1, 1024]⟩
abbrev S1x1x1024 : Shape := ⟨3, ![1, 1, 1024]⟩
abbrev S2x2048x1 : Shape := ⟨3, ![2, 2048, 1]⟩
abbrev S2x2048x1024 : Shape := ⟨3, ![2, 2048, 1024]⟩

/-- The row of a token. -/
abbrev row (x : FVec Ideal S2x2048x1024 .f32) (b : Fin 2) (l : Fin 2048) : Fin 1024 → EReal := fun k => x (ix3 b l k)

/-- The sum along a row. -/
noncomputable abbrev rowSum (x : FVec Ideal S2x2048x1024 .f32) : FVec Ideal S2x2048 .f32 :=
  Host.reduceAdd x (constant S0 .f32 0x00000000#32) (axes := [2]) (t := S2x2048) (by decide) (by decide)

noncomputable abbrev col (w : BitVec 32) : FVec Ideal S2x2048x1 .f32 :=
  broadcastInDim S2x2048x1 ![] (by decide) (constant S0 .f32 w)

/-- A column repeated along the rows. -/
noncomputable abbrev wide (v : FVec Ideal S2x2048x1 .f32) : FVec Ideal S2x2048x1024 .f32 :=
  broadcastInDim S2x2048x1024 ![0, 1, 2] (by decide) v

noncomputable abbrev meanSq (x : FVec Ideal S2x2048x1024 .f32) : FVec Ideal S2x2048x1 .f32 :=
  addf (Host.divf (broadcastInDim S2x2048x1 ![0, 1] (by decide) (rowSum (mulf x x))) (col 0x44800000#32)) (col 0x358637BD#32)

noncomputable abbrev rinv (x : FVec Ideal S2x2048x1024 .f32) : FVec Ideal S2x2048x1 .f32 := Host.rsqrt (meanSq x)

/-- The rows divided by their root mean squares. -/
noncomputable abbrev unit (x : FVec Ideal S2x2048x1024 .f32) : FVec Ideal S2x2048x1024 .f32 := mulf x (wide (rinv x))

/-- The weight, for every token. -/
noncomputable abbrev gain (g : FVec Ideal S1x1024 .f32) : FVec Ideal S2x2048x1024 .f32 :=
  broadcastInDim S2x2048x1024 ![0, 1, 2] (by decide) (broadcastInDim S1x1x1024 ![2] (by decide) (shapeCast S1024 g (by decide)))

/-- The reference's slope. -/
noncomputable abbrev slopes (x d : FVec Ideal S2x2048x1024 .f32) : FVec Ideal S2x2048x1024 .f32 :=
  broadcastInDim S2x2048x1024 ![0, 1] (by decide)
    (Host.reduceAdd (Host.divf (mulf (shapeCast S2x2048x1 (rowSum (mulf x d)) (by decide)) (mulf (col 0xBF000000#32) (Host.divf (rinv x) (meanSq x))))
      (col 0x44800000#32)) (constant S0 .f32 0x00000000#32) (axes := [2]) (t := S2x2048) (by decide) (by decide))

/-- The reference's gradient with respect to the weight. -/
noncomputable abbrev gainGrad (x d : FVec Ideal S2x2048x1024 .f32) : FVec Ideal S1x1024 .f32 :=
  shapeCast S1x1024 (Host.reduceAdd (shapeCast S1x1x1024 (Host.reduceAdd (mulf (unit x) d) (constant S0 .f32 0x00000000#32) (axes := [0, 1]) (t := S1024)
    (by decide) (by decide)) (by decide)) (constant S0 .f32 0x00000000#32) (axes := [0, 1]) (t := S1024) (by decide) (by decide)) (by decide)

/-- The reference's gradient with respect to the rows. -/
noncomputable abbrev back (x d : FVec Ideal S2x2048x1024 .f32) : FVec Ideal S2x2048x1024 .f32 :=
  addf (addf (mulf d (wide (rinv x))) (mulf x (slopes x d))) (mulf (slopes x d) x)

/-- The same, added to a gradient that has come another way. -/
noncomputable abbrev backAcc (a x d : FVec Ideal S2x2048x1024 .f32) : FVec Ideal S2x2048x1024 .f32 :=
  addf (addf (addf a (mulf d (wide (rinv x)))) (mulf x (slopes x d))) (mulf (slopes x d) x)

/-! ## The sum over the tokens -/

section Tokens
variable {n0 n1 n2 : ℕ} {t : Shape}

theorem tokens_rank (h : (⟨3, ![n0, n1, n2]⟩ : Shape).ReducesTo [0, 1] t) : t.rank = 1 := h.1

theorem tokens_lt (h : (⟨3, ![n0, n1, n2]⟩ : Shape).ReducesTo [0, 1] t) : 0 < t.rank := by rw [tokens_rank h]; exact Nat.one_pos

theorem reduce_tokens (h : (⟨3, ![n0, n1, n2]⟩ : Shape).ReducesTo [0, 1] t) (v : (⟨3, ![n0, n1, n2]⟩ : Shape).Idx → EReal) (init : EReal) (j : t.Idx)
    (k : Fin n2) (hk : (j ⟨0, tokens_lt h⟩).val = k.val) :
    Ideal.hostReduceAdd h v init j = init + ∑ a : Fin n0, ∑ b : Fin n1, v (ix3 a b k) := by
  have key : ∀ i, h.drop i = j ↔ ∃ p : Fin n0 × Fin n1, ix3 p.1 p.2 k = i := by
    intro i
    refine ⟨fun e => ⟨(i 0, i 1), ?_⟩, ?_⟩
    · have e0 : (i 2).val = k.val := (congrArg Fin.val (congrFun e ⟨0, tokens_lt h⟩)).trans hk
      exact (congrArg (ix3 (i 0) (i 1)) (Fin.ext e0.symm)).trans (eq_ix3 i).symm
    · rintro ⟨p, rfl⟩
      funext b
      obtain ⟨b, hb⟩ := b
      obtain rfl : b = 0 := by have := tokens_rank h; omega
      exact Fin.ext hk.symm
  refine congrArg (init + ·) ?_
  rw [Finset.sum_filter_eq_sum_of_fiber _ (fun p : Fin n0 × Fin n1 => ix3 p.1 p.2 k)
    (fun _ _ e => Prod.ext (congrFun e 0) (congrFun e 1)) key v, Fintype.sum_prod_type]

theorem sum_tokens (h : (⟨3, ![n0, n1, n2]⟩ : Shape).ReducesTo [0, 1] ⟨1, ![n2]⟩) (v : (⟨3, ![n0, n1, n2]⟩ : Shape).Idx → EReal) (init : EReal) (k : Fin n2) :
    Ideal.hostReduceAdd h v init (ix1 k) = init + ∑ a : Fin n0, ∑ b : Fin n1, v (ix3 a b k) :=
  reduce_tokens h v init (ix1 k) k rfl

end Tokens

/-! ## The host's arrays at an index -/

theorem unit_apply (x : FVec Ideal S2x2048x1024 .f32) (b : Fin 2) (l : Fin 2048) (k : Fin 1024) :
    unit x (ix3 b l k) = x (ix3 b l k) * Ideal.rsqrt (energy len eps (row x b l)) := by
  pointwise [energy]

theorem gain_apply (g : FVec Ideal S1x1024 .f32) (b : Fin 2) (l : Fin 2048) (k : Fin 1024) :
    gain g (ix3 b l k) = g (ix2 0 k) := by
  pointwise

theorem rinv_apply (x : FVec Ideal S2x2048x1024 .f32) (b : Fin 2) (l : Fin 2048) (k : Fin 1024) :
    wide (rinv x) (ix3 b l k) = Ideal.rsqrt (energy len eps (row x b l)) := by
  pointwise [energy]

theorem slopes_apply (x d : FVec Ideal S2x2048x1024 .f32) (b : Fin 2) (l : Fin 2048) (k : Fin 1024) :
    slopes x d (ix3 b l k) = slope len eps half (row x b l) (row d b l) := by
  pointwise [slope, energy]
  exact Fin.sum_univ_one _

theorem gainGrad_apply (x d : FVec Ideal S2x2048x1024 .f32) (k : Fin 1024) :
    gainGrad x d (ix2 0 k) = ∑ b : Fin 2, ∑ l : Fin 2048, unit x (ix3 b l k) * d (ix3 b l k) := by
  pointwise [sum_tokens]
  simp only [Fin.sum_univ_one]

theorem hand_eq (x d : Fin 1024 → EReal) (i : Fin 1024) :
    hand len eps x d i = d i * Ideal.rsqrt (energy len eps x) + x i * slope len eps half x d + slope len eps half x d * x i := by
  obtain ⟨e, he, h⟩ := eps_eq
  rw [len_eq, half_eq, h, back_eq (by norm_num) he, mul_comm (slope _ _ _ _ _)]

theorem back_apply (x d : FVec Ideal S2x2048x1024 .f32) (b : Fin 2) (l : Fin 2048) (k : Fin 1024) :
    back x d (ix3 b l k) = hand len eps (row x b l) (row d b l) k := by
  rw [hand_eq]
  show d (ix3 b l k) * wide (rinv x) (ix3 b l k) + x (ix3 b l k) * slopes x d (ix3 b l k) + slopes x d (ix3 b l k) * x (ix3 b l k) = _
  rw [rinv_apply, slopes_apply]

theorem backAcc_apply (a x d : FVec Ideal S2x2048x1024 .f32) (b : Fin 2) (l : Fin 2048) (k : Fin 1024) :
    backAcc a x d (ix3 b l k) = a (ix3 b l k) + hand len eps (row x b l) (row d b l) k := by
  rw [← back_apply]
  show a (ix3 b l k) + _ + _ + _ = a (ix3 b l k) + (_ + _ + _)
  rw [← add_assoc, ← add_assoc]

theorem same_apply (v : FVec Ideal S2x2048x1024 .f32) (h : Shape.ShapeCasts S2x2048x1024 S2x2048x1024) (b : Fin 2) (l : Fin 2048) (k : Fin 1024) :
    shapeCast S2x2048x1024 v h (ix3 b l k) = v (ix3 b l k) := by
  pointwise

end Cert.Norm
-- ==== Proof.MlpIn.lean ====
/-
  The gradients of the two norms between the MLP and the mixers: what the call `mlp_bwd_in` leaves in its four results is
  the derivative `jax.vjp` writes, at every extended real.

  A grid point works on 512 tokens: the product of their rows of `da` with `w_up`, the gradient of the norm over `x2` added
  to `dy`, the gradient of the norm over `o`, and the two weights' gradients, which add up over the eight points.
-/
module

public import proofs.«01_k».proof.Defs
public import proofs.«01_k».proof.Proof.Norm
public import proofs.«01_k».proof.Proof.Gen.MlpInIdeal.Value
public import proofs.«01_k».proof.Proof.Gen.MlpInRefIdeal.Run
public import proofs.«01_k».proof.Proof.Gen.MlpIn.Frame
public import Idealize.ShloMosaic.Lib.Pipeline.ValueKit
public import Idealize.ShloMosaic.Lib.Quiescent

@[expose] public section

set_option maxRecDepth 16384

noncomputable section

namespace Cert.MlpInValue

open Cert.MlpInIdeal Cert.MlpInIdeal.Gen Idealize.ShloMosaic Idealize.ShloMosaic.TcCoe Idealize.SL.Sem
open Idealize.ShloMosaic.Pipeline (Dat)
open Cert.Norm (len eps energy hand row unit gain back backAcc gainGrad)

variable (m : (ℓ : Loc nD τ sig) → Buf (Elt Ideal) ℓ)

/-! ## The derivative -/

/-- The residual stream after the mixers. -/
abbrev stream (o x : FVec Ideal S2x2048x1024 .f32) (g2 : FVec Ideal S1x1024 .f32) : FVec Ideal S2x2048x1024 .f32 :=
  addf x (mulf (unit o) (gain g2))

/-- The cotangent of the second norm's result. -/
abbrev normed (w : FVec Ideal S1x1024x4096 .f32) (da : FVec Ideal S2x2048x4096 .f32) : FVec Ideal S2x2048x1024 .f32 :=
  Host.dotGeneral Cert.MlpInRefIdeal.dot_S2x2048x4096_S1024x4096_S2x2048x1024_2_1_01_0_n_n none da (shapeCast _ w Cert.MlpInRefIdeal.Gen.shapeCasts_S1x1024x4096_S1024x4096)

abbrev dstream (o x : FVec Ideal S2x2048x1024 .f32) (g2 g3 : FVec Ideal S1x1024 .f32) (w : FVec Ideal S1x1024x4096 .f32)
    (dy : FVec Ideal S2x2048x1024 .f32) (da : FVec Ideal S2x2048x4096 .f32) : FVec Ideal S2x2048x1024 .f32 :=
  backAcc dy (stream o x g2) (mulf (normed w da) (gain g3))

abbrev dmixed (o x : FVec Ideal S2x2048x1024 .f32) (g2 g3 : FVec Ideal S1x1024 .f32) (w : FVec Ideal S1x1024x4096 .f32)
    (dy : FVec Ideal S2x2048x1024 .f32) (da : FVec Ideal S2x2048x4096 .f32) : FVec Ideal S2x2048x1024 .f32 :=
  back o (mulf (shapeCast S2x2048x1024 (dstream o x g2 g3 w dy da) (by decide)) (gain g2))

abbrev argO (c : Dev nD) : FVec Ideal S2x2048x1024 .f32 := m ((c : Thread nD τ).loc main_arg0)
abbrev argX (c : Dev nD) : FVec Ideal S2x2048x1024 .f32 := m ((c : Thread nD τ).loc main_arg1)
abbrev argG2 (c : Dev nD) : FVec Ideal S1x1024 .f32 := m ((c : Thread nD τ).loc main_arg2)
abbrev argG3 (c : Dev nD) : FVec Ideal S1x1024 .f32 := m ((c : Thread nD τ).loc main_arg3)
abbrev argW (c : Dev nD) : FVec Ideal S1x1024x4096 .f32 := m ((c : Thread nD τ).loc main_arg4)
abbrev argDy (c : Dev nD) : FVec Ideal S2x2048x1024 .f32 := m ((c : Thread nD τ).loc main_arg5)
abbrev argDa (c : Dev nD) : FVec Ideal S2x2048x4096 .f32 := m ((c : Thread nD τ).loc main_arg6)

/-- The four results at the arguments of device `c`. -/
abbrev resultX (c : Dev nD) : FVec Ideal S4096x1024 .f32 :=
  shapeCast _ (dstream (argO m c) (argX m c) (argG2 m c) (argG3 m c) (argW m c) (argDy m c) (argDa m c)) Cert.MlpInRefIdeal.Gen.shapeCasts_S2x2048x1024_S4096x1024
abbrev resultO (c : Dev nD) : FVec Ideal S4096x1024 .bf16 :=
  truncf .bf16 (shapeCast _ (dmixed (argO m c) (argX m c) (argG2 m c) (argG3 m c) (argW m c) (argDy m c) (argDa m c)) Cert.MlpInRefIdeal.Gen.shapeCasts_S2x2048x1024_S4096x1024) Cert.MlpInRefIdeal.Gen.bitsLt_bf16_f32
abbrev resultG3 (c : Dev nD) : FVec Ideal S1x1024 .f32 :=
  gainGrad (stream (argO m c) (argX m c) (argG2 m c)) (normed (argW m c) (argDa m c))
abbrev resultG2 (c : Dev nD) : FVec Ideal S1x1024 .f32 :=
  gainGrad (argO m c) (shapeCast S2x2048x1024 (dstream (argO m c) (argX m c) (argG2 m c) (argG3 m c) (argW m c) (argDy m c) (argDa m c)) (by decide))

/-! ## What a grid point computes -/

/-- The blocks' places at the grid points. -/
theorem places : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0]
    ∧ win0_6.index t = ![0, 0] ∧ win0_7.index t = ![t.val, 0] ∧ win0_8.index t = ![t.val, 0] ∧ win0_9.index t = ![0, 0]
    ∧ win0_10.index t = ![0, 0] ∧ t.val < 8 :=
  (by decide +kernel : ∀ t : Fin grid0.N, _)

theorem pay2_apply (v0 : FVec Ideal S512x4096 .bf16) (v2 : FVec Ideal S1024x4096 .bf16) (r : Fin 512) (q : Fin 1024) :
    k0_pay2 (F := Ideal) v0 v2 (ix2 r q) = ∑ k : Fin 4096, v0 (ix2 r k) * v2 (ix2 q k) := by
  pointwise [k0_pay2]

theorem pay4_apply (v5 : FVec Ideal S512x1024 .f32) (r : Fin 512) :
    k0_pay4 (F := Ideal) v5 (ix2 r 0) = Ideal.rsqrt (energy len eps fun k => v5 (ix2 r k)) := by
  pointwise [k0_pay4, k0_pay3, energy]

theorem pay5_apply (v5 : FVec Ideal S512x1024 .f32) (r : Fin 512) (q : Fin 1024) :
    k0_pay5 (F := Ideal) v5 (ix2 r q) = v5 (ix2 r q) * Ideal.rsqrt (energy len eps fun k => v5 (ix2 r k)) := by
  rw [← pay4_apply]
  pointwise [k0_pay5, k0_pay3]

theorem pay6_apply (v0 : FVec Ideal S512x4096 .bf16) (v2 : FVec Ideal S1024x4096 .bf16) (v5 : FVec Ideal S512x1024 .f32) (q : Fin 1024) :
    k0_pay6 (F := Ideal) v0 v2 v5 (ix2 0 q) = ∑ r : Fin 512, k0_pay2 (F := Ideal) v0 v2 (ix2 r q) * k0_pay5 (F := Ideal) v5 (ix2 r q) := by
  pointwise [k0_pay6]

theorem pay7_apply (v0 : FVec Ideal S512x4096 .bf16) (v2 : FVec Ideal S1024x4096 .bf16) (v5 : FVec Ideal S512x1024 .f32) (v7 : FVec Ideal S1x1024 .f32)
    (v33 : FVec Ideal S512x1024 .f32) (r : Fin 512) (q : Fin 1024) :
    k0_pay7 (F := Ideal) v0 v2 v5 v7 v33 (ix2 r q) = v33 (ix2 r q) + hand len eps (fun k => v5 (ix2 r k)) (fun k => k0_pay2 (F := Ideal) v0 v2 (ix2 r k) * v7 (ix2 0 k)) q := by
  unfold hand
  simp only [← pay5_apply]
  rw [← pay4_apply]
  pointwise [k0_pay7]

theorem pay11_apply (v35 v37 : FVec Ideal S512x1024 .f32) (q : Fin 1024) :
    k0_pay11 (F := Ideal) v35 v37 (ix2 0 q) = ∑ r : Fin 512, v35 (ix2 r q) * k0_pay5 (F := Ideal) v37 (ix2 r q) := by
  show k0_pay11 (F := Ideal) v35 v37 (ix2 0 q) = ∑ r : Fin 512, v35 (ix2 r q) * k0_pay10 (F := Ideal) v37 (ix2 r q)
  pointwise [k0_pay11]

theorem pay12_apply (v35 v37 : FVec Ideal S512x1024 .f32) (v39 : FVec Ideal S1x1024 .f32) (r : Fin 512) (q : Fin 1024) :
    k0_pay12 (F := Ideal) v35 v37 v39 (ix2 r q) = hand len eps (fun k => v37 (ix2 r k)) (fun k => v35 (ix2 r k) * v39 (ix2 0 k)) q := by
  unfold hand
  simp only [← pay5_apply]
  rw [← pay4_apply]
  show k0_pay12 (F := Ideal) v35 v37 v39 (ix2 r q) = k0_pay9 (F := Ideal) v37 (ix2 r 0) * (v35 (ix2 r q) * v39 (ix2 0 q) - k0_pay10 (F := Ideal) v37 (ix2 r q) *
    Ideal.div (∑ k : Fin 1024, v35 (ix2 r k) * v39 (ix2 0 k) * k0_pay10 (F := Ideal) v37 (ix2 r k)) len)
  pointwise [k0_pay12]

/-! ## The blocks a point reads -/

/-- The sequence and the place in it of a point's row. -/
abbrev seq (t : Fin cfg0.N) : Fin 2 := ⟨t.val / 4, by have : t.val < 8 := t.isLt; omega⟩
abbrev tok (t : Fin cfg0.N) (r : Fin 512) : Fin 2048 := ⟨t.val % 4 * 512 + r.val, by omega⟩

theorem read_da (c : Dev nD) (t : Fin cfg0.N) (r : Fin 512) (k : Fin 4096) :
    (iblk m c 0 t : FVec Ideal S512x4096 .bf16) (ix2 r k) = argDa m c (ix3 (seq t) (tok t r) k) := by
  have ht : t.val < 8 := t.isLt
  blk_point [iblk, places t]

theorem read_w (c : Dev nD) (t : Fin cfg0.N) (q : Fin 1024) (k : Fin 4096) :
    (iblk m c 1 t : FVec Ideal S1024x4096 .bf16) (ix2 q k) = argW m c (ix3 0 q k) := by
  blk_point [iblk, places t]

theorem read_x2 (c : Dev nD) (t : Fin cfg0.N) (r : Fin 512) (k : Fin 1024) :
    (iblk m c 2 t : FVec Ideal S512x1024 .f32) (ix2 r k) = stream (argO m c) (argX m c) (argG2 m c) (ix3 (seq t) (tok t r) k) := by
  have ht : t.val < 8 := t.isLt
  blk_point [iblk, places t]
  entry_read
  have e : (win0_2.blk t).view.emb (ix2 r k) = (ix2 (⟨t.val * 512 + r.val, by omega⟩ : Fin 4096) k) := by blk_ext [places t]
  rw [e]
  have hb : (⟨(t.val * 512 + r.val) / 2048, by omega⟩ : Fin 2) = seq t := Fin.ext (by show (t.val * 512 + r.val) / 2048 = t.val / 4; omega)
  have hl : (⟨(t.val * 512 + r.val) % 2048, by omega⟩ : Fin 2048) = tok t r := Fin.ext (by show (t.val * 512 + r.val) % 2048 = t.val % 4 * 512 + r.val; omega)
  rw [← hb, ← hl]
  pointwise

theorem read_dy (c : Dev nD) (t : Fin cfg0.N) (r : Fin 512) (k : Fin 1024) :
    (iblk m c 3 t : FVec Ideal S512x1024 .f32) (ix2 r k) = argDy m c (ix3 (seq t) (tok t r) k) := by
  have ht : t.val < 8 := t.isLt
  blk_point [iblk, places t]

theorem read_o (c : Dev nD) (t : Fin cfg0.N) (r : Fin 512) (k : Fin 1024) :
    (iblk m c 4 t : FVec Ideal S512x1024 .f32) (ix2 r k) = argO m c (ix3 (seq t) (tok t r) k) := by
  have ht : t.val < 8 := t.isLt
  blk_point [iblk, places t]

theorem read_g3 (c : Dev nD) (t : Fin cfg0.N) (k : Fin 1024) :
    (iblk m c 5 t : FVec Ideal S1x1024 .f32) (ix2 0 k) = argG3 m c (ix2 0 k) := by
  blk_point [iblk, places t]

theorem read_g2 (c : Dev nD) (t : Fin cfg0.N) (k : Fin 1024) :
    (iblk m c 6 t : FVec Ideal S1x1024 .f32) (ix2 0 k) = argG2 m c (ix2 0 k) := by
  blk_point [iblk, places t]

/-! ## What a point computes, as the derivative's arrays -/

theorem normed_apply (w : FVec Ideal S1x1024x4096 .f32) (da : FVec Ideal S2x2048x4096 .f32) (b : Fin 2) (l : Fin 2048) (q : Fin 1024) :
    normed w da (ix3 b l q) = ∑ k : Fin 4096, da (ix3 b l k) * w (ix3 0 q k) := by
  pointwise

theorem point_normed (c : Dev nD) (t : Fin cfg0.N) (r : Fin 512) (q : Fin 1024) :
    k0_pay2 (F := Ideal) (iblk m c 0 t) (iblk m c 1 t) (ix2 r q) = normed (argW m c) (argDa m c) (ix3 (seq t) (tok t r) q) := by
  refine (pay2_apply _ _ r q).trans (Eq.trans ?_ (normed_apply _ _ _ _ _).symm)
  exact Finset.sum_congr rfl fun k _ => congrArg₂ (· * ·) (read_da m c t r k) (read_w m c t q k)

theorem point_x2 (c : Dev nD) (t : Fin cfg0.N) (r : Fin 512) (q : Fin 1024) :
    k0_pay5 (F := Ideal) (iblk m c 2 t) (ix2 r q) = unit (stream (argO m c) (argX m c) (argG2 m c)) (ix3 (seq t) (tok t r) q) := by
  refine (pay5_apply _ r q).trans (Eq.trans ?_ (Cert.Norm.unit_apply _ _ _ _).symm)
  rw [read_x2]
  exact congrArg (fun f => _ * Ideal.rsqrt (energy len eps f)) (funext fun k => read_x2 m c t r k)

theorem point_o (c : Dev nD) (t : Fin cfg0.N) (r : Fin 512) (q : Fin 1024) :
    k0_pay5 (F := Ideal) (iblk m c 4 t) (ix2 r q) = unit (argO m c) (ix3 (seq t) (tok t r) q) := by
  refine (pay5_apply _ r q).trans (Eq.trans ?_ (Cert.Norm.unit_apply _ _ _ _).symm)
  rw [read_o]
  exact congrArg (fun f => _ * Ideal.rsqrt (energy len eps f)) (funext fun k => read_o m c t r k)

/-- The derivative with respect to the residual stream, on the rows of a point. -/
abbrev blockX (c : Dev nD) (t : Fin cfg0.N) : FVec Ideal S512x1024 .f32 :=
  k0_pay7 (F := Ideal) (iblk m c 0 t) (iblk m c 1 t) (iblk m c 2 t) (iblk m c 5 t) (iblk m c 3 t)

theorem point_dx (c : Dev nD) (t : Fin cfg0.N) (r : Fin 512) (q : Fin 1024) :
    blockX m c t (ix2 r q) =
      dstream (argO m c) (argX m c) (argG2 m c) (argG3 m c) (argW m c) (argDy m c) (argDa m c) (ix3 (seq t) (tok t r) q) := by
  refine (pay7_apply _ _ _ _ _ r q).trans (Eq.trans ?_ (Cert.Norm.backAcc_apply _ _ _ _ _ _).symm)
  refine congrArg₂ (· + ·) (read_dy m c t r q) (congrArg₂ (fun x d => hand len eps x d q) (funext fun k => read_x2 m c t r k) (funext fun k => ?_))
  exact congrArg₂ (· * ·) (point_normed m c t r k) ((read_g3 m c t k).trans (Cert.Norm.gain_apply _ _ _ _).symm)

theorem point_do (c : Dev nD) (t : Fin cfg0.N) (r : Fin 512) (q : Fin 1024) :
    k0_pay12 (F := Ideal) (blockX m c t) (iblk m c 4 t) (iblk m c 6 t) (ix2 r q) =
      dmixed (argO m c) (argX m c) (argG2 m c) (argG3 m c) (argW m c) (argDy m c) (argDa m c) (ix3 (seq t) (tok t r) q) := by
  refine (pay12_apply _ _ _ r q).trans (Eq.trans ?_ (Cert.Norm.back_apply _ _ _ _ _).symm)
  refine congrArg₂ (fun x d => hand len eps x d q) (funext fun k => read_o m c t r k) (funext fun k => ?_)
  refine congrArg₂ (· * ·) ((point_dx m c t r k).trans ?_) ((read_g2 m c t k).trans (Cert.Norm.gain_apply _ _ _ _).symm)
  exact (Cert.Norm.same_apply _ _ _ _ _).symm

/-! ## The results, whole -/

theorem flat_apply (v : FVec Ideal S2x2048x1024 .f32) (i : Fin 4096) (q : Fin 1024) :
    (shapeCast S4096x1024 v Cert.MlpInRefIdeal.Gen.shapeCasts_S2x2048x1024_S4096x1024) (ix2 i q)
      = v (ix3 ⟨i.val / 2048, by omega⟩ ⟨i.val % 2048, by omega⟩ q) := by
  pointwise

theorem flat_block (v : FVec Ideal S2x2048x1024 .f32) (t : Fin cfg0.N) (r : Fin 512) (q : Fin 1024) (h : t.val * 512 + r.val < 4096) :
    (shapeCast S4096x1024 v Cert.MlpInRefIdeal.Gen.shapeCasts_S2x2048x1024_S4096x1024) (ix2 ⟨t.val * 512 + r.val, h⟩ q) = v (ix3 (seq t) (tok t r) q) := by
  refine (flat_apply v _ q).trans ?_
  congr 2
  · exact Fin.ext (by show (t.val * 512 + r.val) / 2048 = t.val / 4; omega)
  · exact Fin.ext (by show (t.val * 512 + r.val) % 2048 = t.val % 4 * 512 + r.val; omega)

theorem after7 (c : Dev nD) (t : Fin cfg0.N) : (outsAt0 m c t.val t.isLt).1 = blockX m c t := by
  have ht : t.val < 8 := t.isLt
  by_cases h : t.val = 0
  · rw [outsAt0_A m c t (by omega) (by omega) (by omega) (by omega)]; frame_out
  · rw [outsAt0_B m c t (by omega) (by omega) (by omega) (by omega)]; frame_out

theorem after8 (c : Dev nD) (t : Fin cfg0.N) :
    (outsAt0 m c t.val t.isLt).2.1 = k0_pay12 (F := Ideal) (blockX m c t) (iblk m c 4 t) (iblk m c 6 t) := by
  have ht : t.val < 8 := t.isLt
  by_cases h : t.val = 0
  · rw [outsAt0_A m c t (by omega) (by omega) (by omega) (by omega)]; frame_out
  · rw [outsAt0_B m c t (by omega) (by omega) (by omega) (by omega)]; frame_out

theorem final7 (c : Dev nD) : (dats m 0 c).arrAt 7 cfg0.N = resultX m c := by
  refine (dats m 0 c).arrAt_eq_of_covers 7 _ (by decide +kernel) fun t _ y => ?_
  blk_simp
  rw [after0_7, after7]
  have ht : t.val < 8 := t.isLt
  obtain ⟨r, q, rfl⟩ : ∃ (r : Fin 512) (q : Fin 1024), y = ix2 r q := ⟨y 0, y 1, eq_ix2 y⟩
  have e : (((cfg0.win 7).blk t).view.emb (ix2 r q)) = (ix2 (⟨t.val * 512 + r.val, by omega⟩ : Fin 4096) q) := by
    blk_ext [places t]
  rw [e]
  exact (point_dx m c t r q).trans (flat_block _ t r q (by omega)).symm

theorem final8 (c : Dev nD) : (dats m 0 c).arrAt 8 cfg0.N = resultO m c := by
  refine (dats m 0 c).arrAt_eq_of_covers 8 _ (by decide +kernel) fun t _ y => ?_
  blk_simp
  rw [after0_8, after8]
  have ht : t.val < 8 := t.isLt
  obtain ⟨r, q, rfl⟩ : ∃ (r : Fin 512) (q : Fin 1024), y = ix2 r q := ⟨y 0, y 1, eq_ix2 y⟩
  have e : (((cfg0.win 8).blk t).view.emb (ix2 r q)) = (ix2 (⟨t.val * 512 + r.val, by omega⟩ : Fin 4096) q) := by
    blk_ext [places t]
  rw [e]
  exact (point_do m c t r q).trans (flat_block _ t r q (by omega)).symm

/-- The last point. -/
abbrev last : Fin cfg0.N := ⟨7, by decide⟩

theorem pay1_apply (v : FVec Ideal S1x1024 .f32) (acc : FVec Ideal S1x1024 .f32) (j : S1x1024.Idx) : k0_pay1 (F := Ideal) v acc j = acc j + v j := by
  pointwise [k0_pay1]

theorem pay13_apply (v : FVec Ideal S1x1024 .f32) (acc : FVec Ideal S1x1024 .f32) (j : S1x1024.Idx) : k0_pay13 (F := Ideal) v acc j = acc j + v j := by
  pointwise [k0_pay13]

theorem after9 (c : Dev nD) (j : S1x1024.Idx) :
    (outsAt0 m c last.val last.isLt).2.2.1 j = ∑ t : Fin cfg0.N, k0_pay6 (F := Ideal) (iblk m c 0 t) (iblk m c 1 t) (iblk m c 2 t) j := by
  rw [Pipeline.eq_sum_fin_of_reset_step_apply_last (fun n h => (outsAt0 m c n h).2.2.1) 8 (fun _ => (0 : EReal))
    (fun t j => k0_pay6 (F := Ideal) (iblk m c 0 t) (iblk m c 1 t) (iblk m c 2 t) j)
    (fun t h j => by
      have ht : t.val < 8 := t.isLt
      rw [outsAt0_A m c t (by omega) (by omega) (by omega) (by omega)]; frame_out; rw [zero_add])
    (fun t h j => by
      have ht : t.val < 8 := t.isLt
      rw [outsAt0_B m c t (by omega) (by omega) (by omega) (by omega)]; frame_out; rw [pay13_apply])
    (le_of_eq N_0) last rfl j, zero_add]

theorem after10 (c : Dev nD) (j : S1x1024.Idx) :
    (outsAt0 m c last.val last.isLt).2.2.2 j = ∑ t : Fin cfg0.N, k0_pay11 (F := Ideal) (blockX m c t) (iblk m c 4 t) j := by
  rw [Pipeline.eq_sum_fin_of_reset_step_apply_last (fun n h => (outsAt0 m c n h).2.2.2) 8 (fun _ => (0 : EReal))
    (fun t j => k0_pay11 (F := Ideal) (blockX m c t) (iblk m c 4 t) j)
    (fun t h j => by
      have ht : t.val < 8 := t.isLt
      rw [outsAt0_A m c t (by omega) (by omega) (by omega) (by omega)]; frame_out; rw [zero_add])
    (fun t h j => by
      have ht : t.val < 8 := t.isLt
      rw [outsAt0_B m c t (by omega) (by omega) (by omega) (by omega)]; frame_out; rw [pay1_apply])
    (le_of_eq N_0) last rfl j, zero_add]

theorem final9 (c : Dev nD) : (dats m 0 c).arrAt 9 cfg0.N = resultG3 m c := by
  refine (dats m 0 c).arrAt_eq_of_after_last 9 last (by decide +kernel) _ fun j => ?_
  blk_simp
  obtain ⟨z, q, rfl⟩ : ∃ (z : Fin 1) (q : Fin 1024), j = ix2 z q := ⟨j 0, j 1, eq_ix2 j⟩
  obtain rfl : z = 0 := Subsingleton.elim _ _
  rw [after0_9]
  refine (after9 m c (ix2 0 q)).trans (Eq.trans ?_ (Cert.Norm.gainGrad_apply _ _ q).symm)
  simp only [pay6_apply]
  refine Fin.sum_points_lanes_congr 4 fun t r ha hl => ?_
  rw [point_normed, point_x2]
  exact mul_comm _ _

theorem final10 (c : Dev nD) : (dats m 0 c).arrAt 10 cfg0.N = resultG2 m c := by
  refine (dats m 0 c).arrAt_eq_of_after_last 10 last (by decide +kernel) _ fun j => ?_
  blk_simp
  obtain ⟨z, q, rfl⟩ : ∃ (z : Fin 1) (q : Fin 1024), j = ix2 z q := ⟨j 0, j 1, eq_ix2 j⟩
  obtain rfl : z = 0 := Subsingleton.elim _ _
  rw [after0_10]
  refine (after10 m c (ix2 0 q)).trans (Eq.trans ?_ (Cert.Norm.gainGrad_apply _ _ q).symm)
  simp only [pay11_apply]
  refine Fin.sum_points_lanes_congr 4 fun t r ha hl => ?_
  rw [point_dx, point_o, Cert.Norm.same_apply]
  exact mul_comm _ _

end Cert.MlpInValue

namespace Cert.MlpInClaims

open Idealize.ShloMosaic Idealize.ShloMosaic.TcCoe Idealize.SL.Sem

theorem frame : Cert.quiescent_MlpIn := fun m ρ _ => Cert.MlpIn.Gen.frame m ρ
theorem frame_ideal : Cert.quiescent_MlpInIdeal := fun m ρ _ => Cert.MlpInIdeal.Gen.frame m ρ
theorem frame_ref : Cert.quiescent_MlpInRefIdeal := fun m ρ _ =>
  (θ_run Cert.MlpInRefIdeal.defs _ _).mono (fun r h => ⟨fun c => (h c).2.2.2.2, sem_eq_zero_of_no_sems (by decide) r.2⟩)
    (Cert.MlpInRefIdeal.Value.run (F := Ideal) m ρ)

theorem algebraic : Cert.algebraic_MlpInIdeal_MlpInRefIdeal := by
  intro m ρ m' ρ' _ hag
  refine ⟨Cert.MlpInValue.resultX m, Cert.MlpInValue.resultO m, Cert.MlpInValue.resultG3 m, Cert.MlpInValue.resultG2 m, ?_, ?_⟩
  · exact (θ_run Cert.MlpInIdeal.defs _ _).mono (fun _ h c => ⟨(h c).1.trans (Cert.MlpInValue.final7 m c),
      (h c).2.1.trans (Cert.MlpInValue.final8 m c), (h c).2.2.1.trans (Cert.MlpInValue.final9 m c),
      (h c).2.2.2.1.trans (Cert.MlpInValue.final10 m c), (h c).2.2.2.2⟩)
      (Cert.MlpInIdeal.Value.run_blocks m ρ)
  · refine (θ_run Cert.MlpInRefIdeal.defs _ _).mono (fun _ h c => ⟨(h c).1.trans ?_, (h c).2.1.trans ?_, (h c).2.2.1.trans ?_,
      (h c).2.2.2.1.trans ?_, (h c).2.2.2.2⟩)
      (Cert.MlpInRefIdeal.Value.run (F := Ideal) m' ρ')
    · unfold Cert.MlpInRefIdeal.Value.res_main_v80
      rw [(hag c).1, (hag c).2.1, (hag c).2.2.1, (hag c).2.2.2.1, (hag c).2.2.2.2.1, (hag c).2.2.2.2.2.1, (hag c).2.2.2.2.2.2]
      rfl
    · unfold Cert.MlpInRefIdeal.Value.res_main_v82
      rw [(hag c).1, (hag c).2.1, (hag c).2.2.1, (hag c).2.2.2.1, (hag c).2.2.2.2.1, (hag c).2.2.2.2.2.1, (hag c).2.2.2.2.2.2]
      rfl
    · rw [(hag c).1, (hag c).2.1, (hag c).2.2.1, (hag c).2.2.2.2.1, (hag c).2.2.2.2.2.2]
    · unfold Cert.MlpInRefIdeal.Value.res_main_v84
      rw [(hag c).1, (hag c).2.1, (hag c).2.2.1, (hag c).2.2.2.1, (hag c).2.2.2.2.1, (hag c).2.2.2.2.2.1, (hag c).2.2.2.2.2.2]
      rfl

end Cert.MlpInClaims

end
-- ==== Proof.Adam.lean ====
/-
  One element of the AdamW update, as extended reals: the two moments and the change of the weight, with the constants of the
  training step as the literals both programs hold.
-/
module

public import Idealize.ShloMosaic.Lib.Pipeline.ValueKit

@[expose] public section

namespace Cert.Adam

open Idealize.ShloMosaic

/-- The first moment after a gradient. -/
noncomputable def moment (g a : EReal) : EReal := Ideal.ofBits .f32 0x3F666666#32 * a + Ideal.ofBits .f32 0x3DCCCCCD#32 * g

/-- The second moment after a gradient. -/
noncomputable def square (g a : EReal) : EReal := Ideal.ofBits .f32 0x3F7FBE77#32 * a + Ideal.ofBits .f32 0x3A83126F#32 * (g * g)

/-- The change of a weight. -/
noncomputable def change (g w a b : EReal) : EReal :=
  Ideal.ofBits .f32 0xBA83126F#32 *
    (Ideal.div (Ideal.div (moment g a) (Ideal.ofBits .f32 0x3F26BD02#32))
        (Ideal.sqrt (Ideal.div (square g b) (Ideal.ofBits .f32 0x3C231ACC#32)) + Ideal.ofBits .f32 0x322BCC77#32)
      + Ideal.ofBits .f32 0x3C23D70A#32 * w)

end Cert.Adam

end
-- ==== Proof.In.lean ====
/-
  The gradient of the first norm through the input projection: what the call `in_bwd` leaves is the derivative `jax.vjp`
  writes of the norm, the projection and its split into five parts, at every extended real; and the update of `w_up` that
  rides along is the reference's AdamW step on the sum of the eight devices' gradients.

  A grid point works on 512 tokens and on 128 rows of `w_up`: five products against the five row ranges of the transposed
  weight, padded from 2568 to 2688 rows with zeros, then the norm's gradient; the norm weight's gradient adds up over the
  eight points.
-/
module

public import proofs.«01_k».proof.Defs
public import proofs.«01_k».proof.Proof.Norm
public import proofs.«01_k».proof.Proof.Adam
public import proofs.«01_k».proof.Proof.Gen.InIdeal.Value
public import proofs.«01_k».proof.Proof.Gen.InRefIdeal.Run
public import proofs.«01_k».proof.Proof.Gen.In.Frame
public import Idealize.ShloMosaic.Lib.Pipeline.ValueKit
public import Idealize.ShloMosaic.Lib.Quiescent

@[expose] public section

set_option maxRecDepth 16384

noncomputable section

namespace Cert.InValue

open Cert.InIdeal Cert.InIdeal.Gen Idealize.ShloMosaic Idealize.ShloMosaic.TcCoe Idealize.SL.Sem
open Idealize.ShloMosaic.Pipeline (Dat)
open Cert.Norm (len eps energy hand row unit gain back backAcc gainGrad)

variable (m : (ℓ : Loc nD τ sig) → Buf (Elt Ideal) ℓ)

/-! ## The derivative and the update -/

/-- The cotangent of the projection: its five parts side by side. -/
abbrev joined (du dv dz : FVec Ideal S2x2048x512 .f32) (dxbc : FVec Ideal S2x2048x1024 .f32) (ddt : FVec Ideal S2x2048x8 .f32) :
    FVec Ideal Cert.InRefIdeal.S2x2048x2568 .f32 :=
  concatenate Cert.InRefIdeal.S2x2048x2568 2 [⟨S2x2048x512, du⟩, ⟨S2x2048x512, dv⟩, ⟨S2x2048x512, dz⟩, ⟨S2x2048x1024, dxbc⟩, ⟨S2x2048x8, ddt⟩]
    Cert.InRefIdeal.Gen.concatenates_S2x2048x512_S2x2048x512_S2x2048x512_S2x2048x1024_S2x2048x8_S2x2048x2568_d2

/-- The cotangent of the norm's result. -/
abbrev normed (w : FVec Ideal S1x1024x2568 .f32) (du dv dz : FVec Ideal S2x2048x512 .f32) (dxbc : FVec Ideal S2x2048x1024 .f32)
    (ddt : FVec Ideal S2x2048x8 .f32) : FVec Ideal S2x2048x1024 .f32 :=
  Host.dotGeneral Cert.InRefIdeal.dot_S2x2048x2568_S1024x2568_S2x2048x1024_2_1_01_0_n_n none (joined du dv dz dxbc ddt)
    (shapeCast _ w Cert.InRefIdeal.Gen.shapeCasts_S1x1024x2568_S1024x2568)

abbrev argX (c : Dev nD) : FVec Ideal S2x2048x1024 .f32 := m ((c : Thread nD τ).loc main_arg0)
abbrev argG (c : Dev nD) : FVec Ideal S1x1024 .f32 := m ((c : Thread nD τ).loc main_arg1)
abbrev argW (c : Dev nD) : FVec Ideal S1x1024x2568 .f32 := m ((c : Thread nD τ).loc main_arg2)
abbrev argDx (c : Dev nD) : FVec Ideal S2x2048x1024 .f32 := m ((c : Thread nD τ).loc main_arg3)
abbrev argDu (c : Dev nD) : FVec Ideal S2x2048x512 .f32 := m ((c : Thread nD τ).loc main_arg4)
abbrev argDv (c : Dev nD) : FVec Ideal S2x2048x512 .f32 := m ((c : Thread nD τ).loc main_arg5)
abbrev argDz (c : Dev nD) : FVec Ideal S2x2048x512 .f32 := m ((c : Thread nD τ).loc main_arg6)
abbrev argDc (c : Dev nD) : FVec Ideal S2x2048x1024 .f32 := m ((c : Thread nD τ).loc main_arg7)
abbrev argDt (c : Dev nD) : FVec Ideal S2x2048x8 .f32 := m ((c : Thread nD τ).loc main_arg8)
abbrev argP (c : Dev nD) : FVec Ideal S8x1024x512 .f32 := m ((c : Thread nD τ).loc main_arg9)
abbrev argO (c : Dev nD) : FVec Ideal S8x1024x512 .f32 := m ((c : Thread nD τ).loc main_arg10)
abbrev argUw (c : Dev nD) : FVec Ideal S1x1024x512 .f32 := m ((c : Thread nD τ).loc main_arg11)
abbrev argUm (c : Dev nD) : FVec Ideal S1x1024x512 .f32 := m ((c : Thread nD τ).loc main_arg12)
abbrev argUv (c : Dev nD) : FVec Ideal S1x1024x512 .f32 := m ((c : Thread nD τ).loc main_arg13)

abbrev dnorm (c : Dev nD) : FVec Ideal S2x2048x1024 .f32 :=
  normed (argW m c) (argDu m c) (argDv m c) (argDz m c) (argDc m c) (argDt m c)

abbrev dstream (c : Dev nD) : FVec Ideal S2x2048x1024 .f32 :=
  backAcc (argDx m c) (argX m c) (mulf (dnorm m c) (gain (argG m c)))

/-- The eight devices' gradients, added. -/
abbrev added (p o : FVec Ideal S8x1024x512 .f32) : FVec Ideal S1024x512 .f32 :=
  Host.reduceAdd (concatenate S8x1024x512 0
      [⟨Cert.InRefIdeal.S1x1024x512, extractStridedSlice Cert.InRefIdeal.S1x1024x512 ![0, 0, 0] o Cert.InRefIdeal.Gen.slices_S8x1024x512_S1x1024x512_0_0_0⟩,
       ⟨Cert.InRefIdeal.S7x1024x512, extractStridedSlice Cert.InRefIdeal.S7x1024x512 ![1, 0, 0] p Cert.InRefIdeal.Gen.slices_S8x1024x512_S7x1024x512_1_0_0⟩]
      Cert.InRefIdeal.Gen.concatenates_S1x1024x512_S7x1024x512_S8x1024x512_d0)
    (constant Cert.InRefIdeal.S_ .f32 0x00000000#32) Cert.InRefIdeal.Gen.reducesTo_S8x1024x512_S1024x512_d0 Cert.InRefIdeal.Gen.h_S_

abbrev lit (w : BitVec 32) : FVec Ideal S1024x512 .f32 :=
  broadcastInDim S1024x512 ![] Cert.InRefIdeal.Gen.bcast_S_S1024x512 (constant Cert.InRefIdeal.S_ .f32 w)
abbrev shard (v : FVec Ideal S1x1024x512 .f32) : FVec Ideal S1024x512 .f32 := shapeCast _ v Cert.InRefIdeal.Gen.shapeCasts_S1x1024x512_S1024x512

abbrev moment (g : FVec Ideal S1024x512 .f32) (a : FVec Ideal S1x1024x512 .f32) : FVec Ideal S1024x512 .f32 :=
  addf (mulf (lit 0x3F666666#32) (shard a)) (mulf (lit 0x3DCCCCCD#32) g)
abbrev square (g : FVec Ideal S1024x512 .f32) (a : FVec Ideal S1x1024x512 .f32) : FVec Ideal S1024x512 .f32 :=
  addf (mulf (lit 0x3F7FBE77#32) (shard a)) (mulf (lit 0x3A83126F#32) (mulf g g))
abbrev change (g : FVec Ideal S1024x512 .f32) (w a b : FVec Ideal S1x1024x512 .f32) : FVec Ideal S1024x512 .f32 :=
  mulf (lit 0xBA83126F#32) (addf (Host.divf (Host.divf (moment g a) (lit 0x3F26BD02#32))
    (addf (Host.sqrt (Host.divf (square g b) (lit 0x3C231ACC#32))) (lit 0x322BCC77#32))) (mulf (lit 0x3C23D70A#32) (shard w)))

/-- The results at the arguments of device `c`. -/
abbrev resultX (c : Dev nD) : FVec Ideal S4096x1024 .f32 := shapeCast _ (dstream m c) Cert.InRefIdeal.Gen.shapeCasts_S2x2048x1024_S4096x1024
abbrev resultG (c : Dev nD) : FVec Ideal S1x1024 .f32 := gainGrad (argX m c) (dnorm m c)
abbrev sumUp (c : Dev nD) : FVec Ideal S1024x512 .f32 := added (argP m c) (argO m c)
abbrev changeUp (c : Dev nD) : FVec Ideal S1024x512 .f32 := change (sumUp m c) (argUw m c) (argUm m c) (argUv m c)
abbrev momentUp (c : Dev nD) : FVec Ideal S1024x512 .f32 := moment (sumUp m c) (argUm m c)
abbrev squareUp (c : Dev nD) : FVec Ideal S1024x512 .f32 := square (sumUp m c) (argUv m c)

/-! ## What a grid point computes -/

/-- The blocks' places at the grid points. -/
theorem places : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![0, 0]
    ∧ win0_6.index t = ![t.val, 0] ∧ win0_7.index t = ![t.val, 0] ∧ win0_8.index t = ![0, 0] ∧ win0_9.index t = ![0, t.val, 0]
    ∧ win0_10.index t = ![0, t.val, 0] ∧ win0_11.index t = ![t.val, 0] ∧ win0_12.index t = ![t.val, 0] ∧ win0_13.index t = ![t.val, 0]
    ∧ win0_14.index t = ![t.val, 0] ∧ win0_15.index t = ![0, 0] ∧ win0_16.index t = ![t.val, 0] ∧ win0_17.index t = ![t.val, 0]
    ∧ win0_18.index t = ![t.val, 0] ∧ win0_19.index t = ![t.val, 0] ∧ t.val < 8 :=
  (by decide +kernel : ∀ t : Fin grid0.N, _)

theorem pay1_apply (v0 : FVec Ideal S512x512 .bf16) (v2 : FVec Ideal S512x1024 .bf16) (v5 : FVec Ideal S512x512 .bf16) (v7 : FVec Ideal S512x1024 .bf16)
    (v11 : FVec Ideal S512x512 .bf16) (v13 : FVec Ideal S512x1024 .bf16) (v17 : FVec Ideal S512x1024 .bf16) (v19 : FVec Ideal S1024x1024 .bf16)
    (v23 : FVec Ideal S512x128 .bf16) (v25 : FVec Ideal S128x1024 .bf16) (r : Fin 512) (q : Fin 1024) :
    k0_pay1 (F := Ideal) v0 v2 v5 v7 v11 v13 v17 v19 v23 v25 (ix2 r q) = (∑ k : Fin 512, v0 (ix2 r k) * v2 (ix2 k q)) + (∑ k : Fin 512, v5 (ix2 r k) * v7 (ix2 k q))
      + (∑ k : Fin 512, v11 (ix2 r k) * v13 (ix2 k q)) + (∑ k : Fin 1024, v17 (ix2 r k) * v19 (ix2 k q)) + (∑ k : Fin 128, v23 (ix2 r k) * v25 (ix2 k q)) := by
  pointwise [k0_pay1]

theorem pay4_apply (v : FVec Ideal S512x1024 .f32) (r : Fin 512) (q : Fin 1024) :
    k0_pay4 (F := Ideal) (k0_pay2 (F := Ideal) v) (ix2 r q) = v (ix2 r q) * Ideal.rsqrt (energy len eps fun k => v (ix2 r k)) := by
  pointwise [k0_pay4, k0_pay3, k0_pay2, energy]

theorem pay5_apply (v28 v : FVec Ideal S512x1024 .f32) (q : Fin 1024) :
    k0_pay5 (F := Ideal) v28 (k0_pay2 (F := Ideal) v) (ix2 0 q) = ∑ r : Fin 512, v28 (ix2 r q) * k0_pay4 (F := Ideal) (k0_pay2 (F := Ideal) v) (ix2 r q) := by
  pointwise [k0_pay5]

theorem pay3_apply (v : FVec Ideal S512x1024 .f32) (r : Fin 512) :
    k0_pay3 (F := Ideal) (k0_pay2 (F := Ideal) v) (ix2 r 0) = Ideal.rsqrt (energy len eps fun k => v (ix2 r k)) := by
  pointwise [k0_pay3, k0_pay2, energy]

theorem pay6_apply (v28 v : FVec Ideal S512x1024 .f32) (v31 : FVec Ideal S1x1024 .f32) (v57 : FVec Ideal S512x1024 .f32) (r : Fin 512) (q : Fin 1024) :
    k0_pay6 (F := Ideal) v28 (k0_pay2 (F := Ideal) v) v31 v57 (ix2 r q)
      = v57 (ix2 r q) + hand len eps (fun k => v (ix2 r k)) (fun k => v28 (ix2 r k) * v31 (ix2 0 k)) q := by
  unfold hand
  simp only [← pay4_apply]
  rw [← pay3_apply]
  pointwise [k0_pay6]

theorem pay7_apply (v28 v : FVec Ideal S512x1024 .f32) (acc : FVec Ideal S1x1024 .f32) (j : S1x1024.Idx) :
    k0_pay7 (F := Ideal) v28 v acc j = acc j + k0_pay5 (F := Ideal) v28 v j := by
  pointwise [k0_pay7]

theorem pay11_apply (v68 v69 v73 v78 v83 v88 v93 v98 v103 : FVec Ideal S1x128x512 .bf16) (r : Fin 128) (q : Fin 512) :
    k0_pay11 (F := Ideal) (k0_pay8 (F := Ideal) v68) (k0_pay9 (F := Ideal) (k0_pay8 (F := Ideal) v68) v69 v73 v78 v83 v88 v93) (k0_pay10 (F := Ideal) (k0_pay8 (F := Ideal) v68) v98) v103 (ix2 r q) =
      v68 (ix3 0 r q) + v73 (ix3 0 r q) + v78 (ix3 0 r q) + v83 (ix3 0 r q) + v88 (ix3 0 r q) + v93 (ix3 0 r q) + v98 (ix3 0 r q) + v103 (ix3 0 r q) := by
  pointwise [k0_pay11, k0_pay10, k0_pay9, k0_pay8]

theorem pay12_apply (a : FVec Ideal S128x512 .bf16) (b d : FVec Ideal S128x512 .f32) (e : FVec Ideal S1x128x512 .bf16) (v : FVec Ideal S128x512 .f32) (r : Fin 128) (q : Fin 512) :
    k0_pay12 (F := Ideal) a b d e v (ix2 r q) = Cert.Adam.moment (k0_pay11 (F := Ideal) a b d e (ix2 r q)) (v (ix2 r q)) := by
  unfold Cert.Adam.moment
  pointwise [k0_pay12]

theorem pay13_apply (a : FVec Ideal S128x512 .bf16) (b d : FVec Ideal S128x512 .f32) (e : FVec Ideal S1x128x512 .bf16) (v : FVec Ideal S128x512 .f32) (r : Fin 128) (q : Fin 512) :
    k0_pay13 (F := Ideal) a b d e v (ix2 r q) = Cert.Adam.square (k0_pay11 (F := Ideal) a b d e (ix2 r q)) (v (ix2 r q)) := by
  unfold Cert.Adam.square
  pointwise [k0_pay13]

theorem pay14_apply (a : FVec Ideal S128x512 .bf16) (b d : FVec Ideal S128x512 .f32) (e : FVec Ideal S1x128x512 .bf16) (w u v : FVec Ideal S128x512 .f32) (r : Fin 128) (q : Fin 512) :
    k0_pay14 (F := Ideal) a b d e w u v (ix2 r q) = Cert.Adam.change (k0_pay11 (F := Ideal) a b d e (ix2 r q)) (w (ix2 r q)) (u (ix2 r q)) (v (ix2 r q)) := by
  unfold Cert.Adam.change
  rw [← pay12_apply, ← pay13_apply]
  pointwise [k0_pay14]

/-! ## The reference's arrays, an element each -/

theorem joined_apply (du dv dz : FVec Ideal S2x2048x512 .f32) (dxbc : FVec Ideal S2x2048x1024 .f32) (ddt : FVec Ideal S2x2048x8 .f32)
    (b : Fin 2) (l : Fin 2048) (k : Fin 2568) :
    joined du dv dz dxbc ddt (ix3 b l k) = if h : k.val < 512 then du (ix3 b l ⟨k.val, h⟩) else
      if h : k.val - 512 < 512 then dv (ix3 b l ⟨k.val - 512, h⟩) else if h : k.val - 512 - 512 < 512 then dz (ix3 b l ⟨k.val - 512 - 512, h⟩) else
      if h : k.val - 512 - 512 - 512 < 1024 then dxbc (ix3 b l ⟨k.val - 512 - 512 - 512, h⟩) else ddt (ix3 b l ⟨k.val - 512 - 512 - 512 - 1024, by omega⟩) := by
  pointwise

theorem normed_sum (w : FVec Ideal S1x1024x2568 .f32) (du dv dz : FVec Ideal S2x2048x512 .f32) (dxbc : FVec Ideal S2x2048x1024 .f32)
    (ddt : FVec Ideal S2x2048x8 .f32) (b : Fin 2) (l : Fin 2048) (q : Fin 1024) :
    normed w du dv dz dxbc ddt (ix3 b l q) = ∑ k : Fin 2568, joined du dv dz dxbc ddt (ix3 b l k) * w (ix3 0 q k) := by
  show Host.dotGeneral _ none (joined du dv dz dxbc ddt) _ (ix3 b l q) = _
  generalize joined du dv dz dxbc ddt = v
  pointwise

/-- A sum over 2568 columns, range by range. -/
theorem sum_ranges (f : Fin 2568 → EReal) :
    ∑ k : Fin 2568, f k = (∑ k : Fin 512, f ⟨k.val, by omega⟩) + (∑ k : Fin 512, f ⟨512 + k.val, by omega⟩)
      + (∑ k : Fin 512, f ⟨1024 + k.val, by omega⟩) + (∑ k : Fin 1024, f ⟨1536 + k.val, by omega⟩) + ∑ k : Fin 8, f ⟨2560 + k.val, by omega⟩ := by
  have h1 := Fin.sum_univ_add (a := 2560) (b := 8) f
  have h2 := Fin.sum_univ_add (a := 1536) (b := 1024) fun i => f (Fin.castAdd 8 i)
  have h3 := Fin.sum_univ_add (a := 1024) (b := 512) fun i : Fin (1024 + 512) => f ⟨i.val, by omega⟩
  have h4 := Fin.sum_univ_add (a := 512) (b := 512) fun i : Fin (512 + 512) => f ⟨i.val, by omega⟩
  exact h1.trans (congrArg (· + _) (h2.trans (congrArg (· + _) (h3.trans (congrArg (· + _) h4)))))

theorem normed_apply (w : FVec Ideal S1x1024x2568 .f32) (du dv dz : FVec Ideal S2x2048x512 .f32) (dxbc : FVec Ideal S2x2048x1024 .f32)
    (ddt : FVec Ideal S2x2048x8 .f32) (b : Fin 2) (l : Fin 2048) (q : Fin 1024) :
    normed w du dv dz dxbc ddt (ix3 b l q) =
      (∑ k : Fin 512, du (ix3 b l k) * w (ix3 0 q ⟨k.val, by omega⟩)) + (∑ k : Fin 512, dv (ix3 b l k) * w (ix3 0 q ⟨512 + k.val, by omega⟩))
      + (∑ k : Fin 512, dz (ix3 b l k) * w (ix3 0 q ⟨1024 + k.val, by omega⟩)) + (∑ k : Fin 1024, dxbc (ix3 b l k) * w (ix3 0 q ⟨1536 + k.val, by omega⟩))
      + ∑ k : Fin 8, ddt (ix3 b l k) * w (ix3 0 q ⟨2560 + k.val, by omega⟩) := by
  rw [normed_sum, sum_ranges]
  refine congrArg₂ (· + ·) (congrArg₂ (· + ·) (congrArg₂ (· + ·) (congrArg₂ (· + ·) ?_ ?_) ?_) ?_) ?_ <;>
    refine Finset.sum_congr rfl fun k _ => congrArg (· * _) ((joined_apply _ _ _ _ _ _ _ _).trans ?_)
  · exact dif_pos k.isLt
  · rw [dif_neg (by show ¬ 512 + k.val < 512; omega), dif_pos (by show 512 + k.val - 512 < 512; omega)]
    exact congrArg (fun i => dv (ix3 b l i)) (Fin.ext (by show 512 + k.val - 512 = k.val; omega))
  · rw [dif_neg (by show ¬ 1024 + k.val < 512; omega), dif_neg (by show ¬ 1024 + k.val - 512 < 512; omega), dif_pos (by show 1024 + k.val - 512 - 512 < 512; omega)]
    exact congrArg (fun i => dz (ix3 b l i)) (Fin.ext (by show 1024 + k.val - 512 - 512 = k.val; omega))
  · rw [dif_neg (by show ¬ 1536 + k.val < 512; omega), dif_neg (by show ¬ 1536 + k.val - 512 < 512; omega),
      dif_neg (by show ¬ 1536 + k.val - 512 - 512 < 512; omega), dif_pos (by show 1536 + k.val - 512 - 512 - 512 < 1024; omega)]
    exact congrArg (fun i => dxbc (ix3 b l i)) (Fin.ext (by show 1536 + k.val - 512 - 512 - 512 = k.val; omega))
  · rw [dif_neg (by show ¬ 2560 + k.val < 512; omega), dif_neg (by show ¬ 2560 + k.val - 512 < 512; omega),
      dif_neg (by show ¬ 2560 + k.val - 512 - 512 < 512; omega), dif_neg (by show ¬ 2560 + k.val - 512 - 512 - 512 < 1024; omega)]
    exact congrArg (fun i => ddt (ix3 b l i)) (Fin.ext (by show 2560 + k.val - 512 - 512 - 512 - 1024 = k.val; omega))

theorem added_apply (p o : FVec Ideal S8x1024x512 .f32) (r : Fin 1024) (q : Fin 512) :
    added p o (ix2 r q) = o (ix3 0 r q) + p (ix3 1 r q) + p (ix3 2 r q) + p (ix3 3 r q) + p (ix3 4 r q) + p (ix3 5 r q) + p (ix3 6 r q) + p (ix3 7 r q) := by
  pointwise
  refine (congrArg₂ (· + ·) (Fin.sum_univ_one _) (Fin.sum_univ_seven _)).trans ?_
  simp only [← add_assoc]
  rfl

theorem moment_apply (g : FVec Ideal S1024x512 .f32) (a : FVec Ideal S1x1024x512 .f32) (r : Fin 1024) (q : Fin 512) :
    moment g a (ix2 r q) = Cert.Adam.moment (g (ix2 r q)) (a (ix3 0 r q)) := by
  unfold Cert.Adam.moment
  pointwise

theorem square_apply (g : FVec Ideal S1024x512 .f32) (a : FVec Ideal S1x1024x512 .f32) (r : Fin 1024) (q : Fin 512) :
    square g a (ix2 r q) = Cert.Adam.square (g (ix2 r q)) (a (ix3 0 r q)) := by
  unfold Cert.Adam.square
  pointwise

theorem change_apply (g : FVec Ideal S1024x512 .f32) (w a b : FVec Ideal S1x1024x512 .f32) (r : Fin 1024) (q : Fin 512) :
    change g w a b (ix2 r q) = Cert.Adam.change (g (ix2 r q)) (w (ix3 0 r q)) (a (ix3 0 r q)) (b (ix3 0 r q)) := by
  unfold Cert.Adam.change Cert.Adam.moment Cert.Adam.square
  pointwise

/-! ## The blocks a point reads -/

/-- The sequence and the token of a point's row. -/
abbrev seq (t : Fin cfg0.N) : Fin 2 := ⟨t.val / 4, by have h : t.val < 8 := t.isLt; omega⟩
abbrev tok (t : Fin cfg0.N) (r : Fin 512) : Fin 2048 := ⟨t.val % 4 * 512 + r.val, by omega⟩
/-- The row of `w_up` a point's row is. -/
abbrev at_ (t : Fin cfg0.N) (r : Fin 128) : Fin 1024 := ⟨t.val * 128 + r.val, by have h : t.val < 8 := t.isLt; omega⟩

theorem read_du (c : Dev nD) (t : Fin cfg0.N) (r k : Fin 512) : (iblk m c 0 t : FVec Ideal S512x512 .bf16) (ix2 r k) = argDu m c (ix3 (seq t) (tok t r) k) := by
  have ht : t.val < 8 := t.isLt
  blk_point [iblk, places t]

theorem read_dv (c : Dev nD) (t : Fin cfg0.N) (r k : Fin 512) : (iblk m c 1 t : FVec Ideal S512x512 .bf16) (ix2 r k) = argDv m c (ix3 (seq t) (tok t r) k) := by
  have ht : t.val < 8 := t.isLt
  blk_point [iblk, places t]

theorem read_dz (c : Dev nD) (t : Fin cfg0.N) (r k : Fin 512) : (iblk m c 2 t : FVec Ideal S512x512 .bf16) (ix2 r k) = argDz m c (ix3 (seq t) (tok t r) k) := by
  have ht : t.val < 8 := t.isLt
  blk_point [iblk, places t]

theorem read_dc (c : Dev nD) (t : Fin cfg0.N) (r : Fin 512) (k : Fin 1024) :
    (iblk m c 3 t : FVec Ideal S512x1024 .bf16) (ix2 r k) = argDc m c (ix3 (seq t) (tok t r) k) := by
  have ht : t.val < 8 := t.isLt
  blk_point [iblk, places t]

theorem read_dt (c : Dev nD) (t : Fin cfg0.N) (r : Fin 512) (k : Fin 128) (h : k.val < 8) :
    (iblk m c 4 t : FVec Ideal S512x128 .bf16) (ix2 r k) = argDt m c (ix3 (seq t) (tok t r) ⟨k.val, h⟩) := by
  have ht : t.val < 8 := t.isLt
  have hb : t.val * 512 + r.val < 4096 := by omega
  blk_simp [iblk]
  have e : (win0_4.blk t).view.emb (ix2 r k) = ix2 (⟨t.val * 512 + r.val, hb⟩ : Fin 4096) k := by blk_ext [places t]
  rw [e]
  entry_read
  pointwise [h, hb]
  refine congrArg₂ (fun a b => argDt m c (ix3 a b ⟨k.val, h⟩)) (Fin.ext ?_) (Fin.ext ?_)
  · show (t.val * 512 + r.val) / 2048 = t.val / 4; omega
  · show (t.val * 512 + r.val) % 2048 = t.val % 4 * 512 + r.val; omega

theorem read_w (c : Dev nD) (t : Fin cfg0.N) (i : Fin 2688) (q : Fin 1024) (h : i.val < 2568) :
    (iblk m c 5 t : FVec Ideal S2688x1024 .bf16) (ix2 i q) = argW m c (ix3 0 q ⟨i.val, h⟩) := by
  blk_simp [iblk]
  have e : (win0_5.blk t).view.emb (ix2 i q) = ix2 i q := by blk_ext [places t]
  rw [e]
  entry_read
  pointwise [h]

theorem read_zero (c : Dev nD) (t : Fin cfg0.N) (i : Fin 2688) (q : Fin 1024) (h : ¬ i.val < 2568) :
    (iblk m c 5 t : FVec Ideal S2688x1024 .bf16) (ix2 i q) = (0 : EReal) := by
  blk_simp [iblk]
  have e : (win0_5.blk t).view.emb (ix2 i q) = ix2 i q := by blk_ext [places t]
  rw [e]
  entry_read
  pointwise [h]

theorem read_x (c : Dev nD) (t : Fin cfg0.N) (r : Fin 512) (k : Fin 1024) :
    (iblk m c 6 t : FVec Ideal S512x1024 .f32) (ix2 r k) = argX m c (ix3 (seq t) (tok t r) k) := by
  have ht : t.val < 8 := t.isLt
  blk_point [iblk, places t]

theorem read_dx (c : Dev nD) (t : Fin cfg0.N) (r : Fin 512) (k : Fin 1024) :
    (iblk m c 7 t : FVec Ideal S512x1024 .f32) (ix2 r k) = argDx m c (ix3 (seq t) (tok t r) k) := by
  have ht : t.val < 8 := t.isLt
  blk_point [iblk, places t]

theorem read_g (c : Dev nD) (t : Fin cfg0.N) (k : Fin 1024) : (iblk m c 8 t : FVec Ideal S1x1024 .f32) (ix2 0 k) = argG m c (ix2 0 k) := by
  blk_point [iblk, places t]

theorem read_own (c : Dev nD) (t : Fin cfg0.N) (r : Fin 128) (k : Fin 512) :
    (iblk m c 10 t : FVec Ideal S1x128x512 .bf16) (ix3 0 r k) = argO m c (ix3 0 (at_ t r) k) := by
  have ht : t.val < 8 := t.isLt
  blk_point [iblk, places t]

theorem read_uw (c : Dev nD) (t : Fin cfg0.N) (r : Fin 128) (k : Fin 512) :
    (iblk m c 11 t : FVec Ideal S128x512 .f32) (ix2 r k) = argUw m c (ix3 0 (at_ t r) k) := by
  have ht : t.val < 8 := t.isLt
  blk_point [iblk, places t]

theorem read_um (c : Dev nD) (t : Fin cfg0.N) (r : Fin 128) (k : Fin 512) :
    (iblk m c 12 t : FVec Ideal S128x512 .f32) (ix2 r k) = argUm m c (ix3 0 (at_ t r) k) := by
  have ht : t.val < 8 := t.isLt
  blk_point [iblk, places t]

theorem read_uv (c : Dev nD) (t : Fin cfg0.N) (r : Fin 128) (k : Fin 512) :
    (iblk m c 13 t : FVec Ideal S128x512 .f32) (ix2 r k) = argUv m c (ix3 0 (at_ t r) k) := by
  have ht : t.val < 8 := t.isLt
  blk_point [iblk, places t]

/-! ## What a point computes, as the derivative's arrays -/

/-- The five row ranges of the padded weight. -/
abbrev rows0 (v : FVec Ideal S2688x1024 .bf16) : FVec Ideal S512x1024 .bf16 :=
  fun x => v ((Rect.unit (s := S2688x1024) ![0, 0] S512x1024.size inb_S2688x1024_S512x1024_0_0).idx x)
abbrev rows1 (v : FVec Ideal S2688x1024 .bf16) : FVec Ideal S512x1024 .bf16 :=
  fun x => v ((Rect.unit (s := S2688x1024) ![512, 0] S512x1024.size inb_S2688x1024_S512x1024_512_0).idx x)
abbrev rows2 (v : FVec Ideal S2688x1024 .bf16) : FVec Ideal S512x1024 .bf16 :=
  fun x => v ((Rect.unit (s := S2688x1024) ![1024, 0] S512x1024.size inb_S2688x1024_S512x1024_1024_0).idx x)
abbrev rows3 (v : FVec Ideal S2688x1024 .bf16) : FVec Ideal S1024x1024 .bf16 :=
  fun x => v ((Rect.unit (s := S2688x1024) ![1536, 0] S1024x1024.size inb_S2688x1024_S1024x1024_1536_0).idx x)
abbrev rows4 (v : FVec Ideal S2688x1024 .bf16) : FVec Ideal S128x1024 .bf16 :=
  fun x => v ((Rect.unit (s := S2688x1024) ![2560, 0] S128x1024.size inb_S2688x1024_S128x1024_2560_0).idx x)

theorem rows0_apply (v : FVec Ideal S2688x1024 .bf16) (k : Fin 512) (q : Fin 1024) : rows0 v (ix2 k q) = v (ix2 ⟨k.val, by omega⟩ q) := by
  pointwise [rows0]

theorem rows1_apply (v : FVec Ideal S2688x1024 .bf16) (k : Fin 512) (q : Fin 1024) : rows1 v (ix2 k q) = v (ix2 ⟨512 + k.val, by omega⟩ q) := by
  pointwise [rows1]

theorem rows2_apply (v : FVec Ideal S2688x1024 .bf16) (k : Fin 512) (q : Fin 1024) : rows2 v (ix2 k q) = v (ix2 ⟨1024 + k.val, by omega⟩ q) := by
  pointwise [rows2]

theorem rows3_apply (v : FVec Ideal S2688x1024 .bf16) (k : Fin 1024) (q : Fin 1024) : rows3 v (ix2 k q) = v (ix2 ⟨1536 + k.val, by omega⟩ q) := by
  pointwise [rows3]

theorem rows4_apply (v : FVec Ideal S2688x1024 .bf16) (k : Fin 128) (q : Fin 1024) : rows4 v (ix2 k q) = v (ix2 ⟨2560 + k.val, by omega⟩ q) := by
  pointwise [rows4]

/-- The gradient of the recurrence's steps on the rows of a point, padded from 8 columns to 128. -/
abbrev steps (c : Dev nD) (t : Fin cfg0.N) : FVec Ideal S512x128 .bf16 := iblk m c 4 t

/-- The last product: of its 128 columns only eight carry something, the others meet zero rows of the weight. -/
theorem point_tail (c : Dev nD) (t : Fin cfg0.N) (r : Fin 512) (q : Fin 1024) :
    (∑ k : Fin 128, steps m c t (ix2 r k) * rows4 (iblk m c 5 t) (ix2 k q))
      = ∑ k : Fin 8, argDt m c (ix3 (seq t) (tok t r) k) * argW m c (ix3 0 q ⟨2560 + k.val, by omega⟩) := by
  refine (Fin.sum_univ_add (a := 8) (b := 120) _).trans ?_
  refine (congrArg (_ + ·) (Finset.sum_eq_zero fun k _ => ?_)).trans ((add_zero _).trans (Finset.sum_congr rfl fun k _ => ?_))
  · rw [rows4_apply, read_zero m c t _ q (by show ¬ 2560 + (8 + k.val) < 2568; omega), mul_zero]
  · rw [rows4_apply, read_w m c t _ q (by show 2560 + k.val < 2568; omega)]
    exact congrArg (· * _) (read_dt m c t r (Fin.castAdd 120 k) k.isLt)

/-- The cotangent of the norm's result, on the rows of a point. -/
abbrev blockN (c : Dev nD) (t : Fin cfg0.N) : FVec Ideal S512x1024 .f32 :=
  k0_pay1 (F := Ideal) (iblk m c 0 t) (rows0 (iblk m c 5 t)) (iblk m c 1 t) (rows1 (iblk m c 5 t)) (iblk m c 2 t) (rows2 (iblk m c 5 t)) (iblk m c 3 t) (rows3 (iblk m c 5 t)) (iblk m c 4 t) (rows4 (iblk m c 5 t))

theorem point_normed (c : Dev nD) (t : Fin cfg0.N) (r : Fin 512) (q : Fin 1024) :
    blockN m c t (ix2 r q) = dnorm m c (ix3 (seq t) (tok t r) q) := by
  refine (pay1_apply _ _ _ _ _ _ _ _ _ _ r q).trans (Eq.trans ?_ (normed_apply _ _ _ _ _ _ _ _ _).symm)
  refine congrArg₂ (· + ·) (congrArg₂ (· + ·) (congrArg₂ (· + ·) (congrArg₂ (· + ·) ?_ ?_) ?_) ?_) (point_tail m c t r q) <;>
    refine Finset.sum_congr rfl fun k _ => ?_
  · exact congrArg₂ (· * ·) (read_du m c t r k) ((rows0_apply _ k q).trans (read_w m c t ⟨k.val, by omega⟩ q (by show k.val < 2568; omega)))
  · exact congrArg₂ (· * ·) (read_dv m c t r k) ((rows1_apply _ k q).trans (read_w m c t ⟨512 + k.val, by omega⟩ q (by show 512 + k.val < 2568; omega)))
  · exact congrArg₂ (· * ·) (read_dz m c t r k) ((rows2_apply _ k q).trans (read_w m c t ⟨1024 + k.val, by omega⟩ q (by show 1024 + k.val < 2568; omega)))
  · exact congrArg₂ (· * ·) (read_dc m c t r k) ((rows3_apply _ k q).trans (read_w m c t ⟨1536 + k.val, by omega⟩ q (by show 1536 + k.val < 2568; omega)))

theorem point_x (c : Dev nD) (t : Fin cfg0.N) (r : Fin 512) (q : Fin 1024) :
    k0_pay4 (F := Ideal) (k0_pay2 (F := Ideal) (iblk m c 6 t)) (ix2 r q) = unit (argX m c) (ix3 (seq t) (tok t r) q) := by
  refine (pay4_apply _ r q).trans (Eq.trans ?_ (Cert.Norm.unit_apply _ _ _ _).symm)
  rw [read_x]
  exact congrArg (fun f => _ * Ideal.rsqrt (energy len eps f)) (funext fun k => read_x m c t r k)

theorem point_dx (c : Dev nD) (t : Fin cfg0.N) (r : Fin 512) (q : Fin 1024) :
    k0_pay6 (F := Ideal) (blockN m c t) (k0_pay2 (F := Ideal) (iblk m c 6 t)) (iblk m c 8 t) (iblk m c 7 t) (ix2 r q)
      = dstream m c (ix3 (seq t) (tok t r) q) := by
  refine (pay6_apply _ _ _ _ r q).trans (Eq.trans ?_ (Cert.Norm.backAcc_apply _ _ _ _ _ _).symm)
  refine congrArg₂ (· + ·) (read_dx m c t r q) (congrArg₂ (fun x d => hand len eps x d q) (funext fun k => read_x m c t r k) (funext fun k => ?_))
  exact congrArg₂ (· * ·) (point_normed m c t r k) ((read_g m c t k).trans (Cert.Norm.gain_apply _ _ _ _).symm)

/-! ## The update of `w_up` -/

/-- Device `k`'s part of the gradient. -/
abbrev part (v : FVec Ideal S8x128x512 .bf16) (k : ℕ) (h : ∀ a, (![k, 0, 0] : Fin 3 → ℕ) a + S1x128x512.size a ≤ S8x128x512.size a) : FVec Ideal S1x128x512 .bf16 :=
  fun x => v ((Rect.unit (s := S8x128x512) ![k, 0, 0] S1x128x512.size h).idx x)

theorem part_apply (v : FVec Ideal S8x128x512 .bf16) (k : ℕ) (h) (hk : k < 8) (r : Fin 128) (q : Fin 512) :
    part v k h (ix3 0 r q) = v (ix3 ⟨k, hk⟩ r q) := by
  pointwise [part]

theorem read_part (c : Dev nD) (t : Fin cfg0.N) (k : Fin 8) (r : Fin 128) (q : Fin 512) :
    (iblk m c 9 t : FVec Ideal S8x128x512 .bf16) (ix3 k r q) = argP m c (ix3 k (at_ t r) q) := by
  have ht : t.val < 8 := t.isLt
  blk_point [iblk, places t]

/-- The eight parts on the rows of a point, added up: the device's own and the seven it received. -/
abbrev own (c : Dev nD) (t : Fin cfg0.N) : FVec Ideal S128x512 .bf16 := k0_pay8 (F := Ideal) (iblk m c 10 t)
abbrev six (c : Dev nD) (t : Fin cfg0.N) : FVec Ideal S128x512 .f32 :=
  k0_pay9 (F := Ideal) (own m c t) (part (iblk m c 9 t) 0 inb_S8x128x512_S1x128x512_0_0_0) (part (iblk m c 9 t) 1 inb_S8x128x512_S1x128x512_1_0_0)
    (part (iblk m c 9 t) 2 inb_S8x128x512_S1x128x512_2_0_0) (part (iblk m c 9 t) 3 inb_S8x128x512_S1x128x512_3_0_0)
    (part (iblk m c 9 t) 4 inb_S8x128x512_S1x128x512_4_0_0) (part (iblk m c 9 t) 5 inb_S8x128x512_S1x128x512_5_0_0)
abbrev seventh (c : Dev nD) (t : Fin cfg0.N) : FVec Ideal S128x512 .f32 := k0_pay10 (F := Ideal) (own m c t) (part (iblk m c 9 t) 6 inb_S8x128x512_S1x128x512_6_0_0)
abbrev eighth (c : Dev nD) (t : Fin cfg0.N) : FVec Ideal S1x128x512 .bf16 := part (iblk m c 9 t) 7 inb_S8x128x512_S1x128x512_7_0_0
abbrev blockSum (c : Dev nD) (t : Fin cfg0.N) : FVec Ideal S128x512 .f32 := k0_pay11 (F := Ideal) (own m c t) (six m c t) (seventh m c t) (eighth m c t)

theorem point_sum (c : Dev nD) (t : Fin cfg0.N) (r : Fin 128) (q : Fin 512) : blockSum m c t (ix2 r q) = sumUp m c (ix2 (at_ t r) q) := by
  refine (pay11_apply _ _ _ _ _ _ _ _ _ r q).trans (Eq.trans ?_ (added_apply _ _ _ _).symm)
  have e (k : ℕ) (h) (hk : k < 8) := (part_apply (iblk m c 9 t) k h hk r q).trans (read_part m c t ⟨k, hk⟩ r q)
  exact congrArg₂ (· + ·) (congrArg₂ (· + ·) (congrArg₂ (· + ·) (congrArg₂ (· + ·) (congrArg₂ (· + ·) (congrArg₂ (· + ·) (congrArg₂ (· + ·)
    (read_own m c t r q) (e 1 _ (by decide))) (e 2 _ (by decide))) (e 3 _ (by decide))) (e 4 _ (by decide))) (e 5 _ (by decide)))
    (e 6 _ (by decide))) (e 7 _ (by decide))

theorem point_moment (c : Dev nD) (t : Fin cfg0.N) (r : Fin 128) (q : Fin 512) :
    k0_pay12 (F := Ideal) (own m c t) (six m c t) (seventh m c t) (eighth m c t) (iblk m c 12 t) (ix2 r q) = momentUp m c (ix2 (at_ t r) q) := by
  refine (pay12_apply _ _ _ _ _ r q).trans (Eq.trans ?_ (moment_apply _ _ _ _).symm)
  exact congrArg₂ _ (point_sum m c t r q) (read_um m c t r q)

theorem point_square (c : Dev nD) (t : Fin cfg0.N) (r : Fin 128) (q : Fin 512) :
    k0_pay13 (F := Ideal) (own m c t) (six m c t) (seventh m c t) (eighth m c t) (iblk m c 13 t) (ix2 r q) = squareUp m c (ix2 (at_ t r) q) := by
  refine (pay13_apply _ _ _ _ _ r q).trans (Eq.trans ?_ (square_apply _ _ _ _).symm)
  exact congrArg₂ _ (point_sum m c t r q) (read_uv m c t r q)

theorem point_change (c : Dev nD) (t : Fin cfg0.N) (r : Fin 128) (q : Fin 512) :
    k0_pay14 (F := Ideal) (own m c t) (six m c t) (seventh m c t) (eighth m c t) (iblk m c 11 t) (iblk m c 12 t) (iblk m c 13 t) (ix2 r q)
      = changeUp m c (ix2 (at_ t r) q) := by
  refine (pay14_apply _ _ _ _ _ _ _ r q).trans (Eq.trans ?_ (change_apply _ _ _ _ _ _).symm)
  exact congr (congr (congrArg₂ _ (point_sum m c t r q) (read_uw m c t r q)) (read_um m c t r q)) (read_uv m c t r q)

/-! ## The results, whole -/

theorem flat_apply (v : FVec Ideal S2x2048x1024 .f32) (i : Fin 4096) (q : Fin 1024) :
    (shapeCast S4096x1024 v Cert.InRefIdeal.Gen.shapeCasts_S2x2048x1024_S4096x1024) (ix2 i q)
      = v (ix3 ⟨i.val / 2048, by omega⟩ ⟨i.val % 2048, by omega⟩ q) := by
  pointwise

theorem flat_block (v : FVec Ideal S2x2048x1024 .f32) (t : Fin cfg0.N) (r : Fin 512) (q : Fin 1024) (h : t.val * 512 + r.val < 4096) :
    (shapeCast S4096x1024 v Cert.InRefIdeal.Gen.shapeCasts_S2x2048x1024_S4096x1024) (ix2 ⟨t.val * 512 + r.val, h⟩ q) = v (ix3 (seq t) (tok t r) q) := by
  refine (flat_apply v _ q).trans ?_
  congr 2
  · exact Fin.ext (by show (t.val * 512 + r.val) / 2048 = t.val / 4; omega)
  · exact Fin.ext (by show (t.val * 512 + r.val) % 2048 = t.val % 4 * 512 + r.val; omega)

theorem after14 (c : Dev nD) (t : Fin cfg0.N) : (outsAt0 m c t.val t.isLt).1 =
    k0_pay6 (F := Ideal) (blockN m c t) (k0_pay2 (F := Ideal) (iblk m c 6 t)) (iblk m c 8 t) (iblk m c 7 t) := by
  have ht : t.val < 8 := t.isLt
  by_cases h : t.val = 0
  · rw [outsAt0_A m c t (by omega) (by omega)]; frame_out; rfl
  · rw [outsAt0_B m c t (by omega) (by omega)]; frame_out; rfl

theorem after16 (c : Dev nD) (t : Fin cfg0.N) : (outsAt0 m c t.val t.isLt).2.2.1 =
    blockSum m c t := by
  have ht : t.val < 8 := t.isLt
  by_cases h : t.val = 0
  · rw [outsAt0_A m c t (by omega) (by omega)]; frame_out; rfl
  · rw [outsAt0_B m c t (by omega) (by omega)]; frame_out; rfl

theorem after17 (c : Dev nD) (t : Fin cfg0.N) : (outsAt0 m c t.val t.isLt).2.2.2.1 =
    k0_pay14 (F := Ideal) (own m c t) (six m c t) (seventh m c t) (eighth m c t) (iblk m c 11 t) (iblk m c 12 t) (iblk m c 13 t) := by
  have ht : t.val < 8 := t.isLt
  by_cases h : t.val = 0
  · rw [outsAt0_A m c t (by omega) (by omega)]; frame_out; rfl
  · rw [outsAt0_B m c t (by omega) (by omega)]; frame_out; rfl

theorem after18 (c : Dev nD) (t : Fin cfg0.N) : (outsAt0 m c t.val t.isLt).2.2.2.2.1 =
    k0_pay12 (F := Ideal) (own m c t) (six m c t) (seventh m c t) (eighth m c t) (iblk m c 12 t) := by
  have ht : t.val < 8 := t.isLt
  by_cases h : t.val = 0
  · rw [outsAt0_A m c t (by omega) (by omega)]; frame_out; rfl
  · rw [outsAt0_B m c t (by omega) (by omega)]; frame_out; rfl

theorem after19 (c : Dev nD) (t : Fin cfg0.N) : (outsAt0 m c t.val t.isLt).2.2.2.2.2 =
    k0_pay13 (F := Ideal) (own m c t) (six m c t) (seventh m c t) (eighth m c t) (iblk m c 13 t) := by
  have ht : t.val < 8 := t.isLt
  by_cases h : t.val = 0
  · rw [outsAt0_A m c t (by omega) (by omega)]; frame_out; rfl
  · rw [outsAt0_B m c t (by omega) (by omega)]; frame_out; rfl

theorem final14 (c : Dev nD) : (dats m 0 c).arrAt 14 cfg0.N = resultX m c := by
  refine (dats m 0 c).arrAt_eq_of_covers 14 _ (by decide +kernel) fun t _ y => ?_
  blk_simp
  rw [after0_14, after14]
  have ht : t.val < 8 := t.isLt
  obtain ⟨r, q, rfl⟩ : ∃ (r : Fin 512) (q : Fin 1024), y = ix2 r q := ⟨y 0, y 1, eq_ix2 y⟩
  have e : (((cfg0.win 14).blk t).view.emb (ix2 r q)) = (ix2 (⟨t.val * 512 + r.val, by omega⟩ : Fin 4096) q) := by
    blk_ext [places t]
  rw [e]
  exact (point_dx m c t r q).trans (flat_block _ t r q (by omega)).symm

/-- The last point. -/
abbrev last : Fin cfg0.N := ⟨7, by decide⟩

theorem after15 (c : Dev nD) (j : S1x1024.Idx) :
    (outsAt0 m c last.val last.isLt).2.1 j = ∑ t : Fin cfg0.N, k0_pay5 (F := Ideal) (blockN m c t) (k0_pay2 (F := Ideal) (iblk m c 6 t)) j := by
  rw [Pipeline.eq_sum_fin_of_reset_step_apply_last (fun n h => (outsAt0 m c n h).2.1) 8 (fun _ => (0 : EReal))
    (fun t j => k0_pay5 (F := Ideal) (blockN m c t) (k0_pay2 (F := Ideal) (iblk m c 6 t)) j)
    (fun t h j => by
      have ht : t.val < 8 := t.isLt
      rw [outsAt0_A m c t (by omega) (by omega)]; frame_out; rw [zero_add]; rfl)
    (fun t h j => by
      have ht : t.val < 8 := t.isLt
      rw [outsAt0_B m c t (by omega) (by omega)]; frame_out; rw [pay7_apply]; rfl)
    (le_of_eq N_0) last rfl j, zero_add]

theorem final15 (c : Dev nD) : (dats m 0 c).arrAt 15 cfg0.N = resultG m c := by
  refine (dats m 0 c).arrAt_eq_of_after_last 15 last (by decide +kernel) _ fun j => ?_
  blk_simp
  obtain ⟨z, q, rfl⟩ : ∃ (z : Fin 1) (q : Fin 1024), j = ix2 z q := ⟨j 0, j 1, eq_ix2 j⟩
  obtain rfl : z = 0 := Subsingleton.elim _ _
  rw [after0_15]
  refine (after15 m c (ix2 0 q)).trans (Eq.trans ?_ (Cert.Norm.gainGrad_apply _ _ q).symm)
  simp only [pay5_apply]
  refine Fin.sum_points_lanes_congr 4 fun t r ha hl => ?_
  rw [point_normed, point_x]
  exact mul_comm _ _

theorem final16 (c : Dev nD) : (dats m 0 c).arrAt 16 cfg0.N = sumUp m c := by
  refine (dats m 0 c).arrAt_eq_of_covers 16 _ (by decide +kernel) fun t _ y => ?_
  blk_simp
  rw [after0_16, after16]
  have ht : t.val < 8 := t.isLt
  obtain ⟨r, q, rfl⟩ : ∃ (r : Fin 128) (q : Fin 512), y = ix2 r q := ⟨y 0, y 1, eq_ix2 y⟩
  have e : (((cfg0.win 16).blk t).view.emb (ix2 r q)) = ix2 (at_ t r) q := by blk_ext [places t]
  rw [e]
  exact point_sum m c t r q

theorem final17 (c : Dev nD) : (dats m 0 c).arrAt 17 cfg0.N = changeUp m c := by
  refine (dats m 0 c).arrAt_eq_of_covers 17 _ (by decide +kernel) fun t _ y => ?_
  blk_simp
  rw [after0_17, after17]
  have ht : t.val < 8 := t.isLt
  obtain ⟨r, q, rfl⟩ : ∃ (r : Fin 128) (q : Fin 512), y = ix2 r q := ⟨y 0, y 1, eq_ix2 y⟩
  have e : (((cfg0.win 17).blk t).view.emb (ix2 r q)) = ix2 (at_ t r) q := by blk_ext [places t]
  rw [e]
  exact point_change m c t r q

theorem final18 (c : Dev nD) : (dats m 0 c).arrAt 18 cfg0.N = momentUp m c := by
  refine (dats m 0 c).arrAt_eq_of_covers 18 _ (by decide +kernel) fun t _ y => ?_
  blk_simp
  rw [after0_18, after18]
  have ht : t.val < 8 := t.isLt
  obtain ⟨r, q, rfl⟩ : ∃ (r : Fin 128) (q : Fin 512), y = ix2 r q := ⟨y 0, y 1, eq_ix2 y⟩
  have e : (((cfg0.win 18).blk t).view.emb (ix2 r q)) = ix2 (at_ t r) q := by blk_ext [places t]
  rw [e]
  exact point_moment m c t r q

theorem final19 (c : Dev nD) : (dats m 0 c).arrAt 19 cfg0.N = squareUp m c := by
  refine (dats m 0 c).arrAt_eq_of_covers 19 _ (by decide +kernel) fun t _ y => ?_
  blk_simp
  rw [after0_19, after19]
  have ht : t.val < 8 := t.isLt
  obtain ⟨r, q, rfl⟩ : ∃ (r : Fin 128) (q : Fin 512), y = ix2 r q := ⟨y 0, y 1, eq_ix2 y⟩
  have e : (((cfg0.win 19).blk t).view.emb (ix2 r q)) = ix2 (at_ t r) q := by blk_ext [places t]
  rw [e]
  exact point_square m c t r q

end Cert.InValue

namespace Cert.InClaims

open Idealize.ShloMosaic Idealize.ShloMosaic.TcCoe Idealize.SL.Sem

theorem frame : Cert.quiescent_In := fun m ρ _ => Cert.In.Gen.frame m ρ
theorem frame_ideal : Cert.quiescent_InIdeal := fun m ρ _ => Cert.InIdeal.Gen.frame m ρ
theorem frame_ref : Cert.quiescent_InRefIdeal := fun m ρ _ =>
  (θ_run Cert.InRefIdeal.defs _ _).mono (fun r h => ⟨fun c => (h c).2.2.2.2.2.2, sem_eq_zero_of_no_sems (by decide) r.2⟩)
    (Cert.InRefIdeal.Value.run (F := Ideal) m ρ)

theorem algebraic : Cert.algebraic_InIdeal_InRefIdeal := by
  intro m ρ m' ρ' _ hag
  refine ⟨Cert.InValue.resultX m, Cert.InValue.resultG m, Cert.InValue.sumUp m, Cert.InValue.changeUp m, Cert.InValue.momentUp m,
    Cert.InValue.squareUp m, ?_, ?_⟩
  · exact (θ_run Cert.InIdeal.defs _ _).mono (fun _ h c => ⟨(h c).1.trans (Cert.InValue.final14 m c),
      (h c).2.1.trans (Cert.InValue.final15 m c), (h c).2.2.1.trans (Cert.InValue.final16 m c),
      (h c).2.2.2.1.trans (Cert.InValue.final17 m c), (h c).2.2.2.2.1.trans (Cert.InValue.final18 m c),
      (h c).2.2.2.2.2.1.trans (Cert.InValue.final19 m c), (h c).2.2.2.2.2.2⟩)
      (Cert.InIdeal.Value.run_blocks m ρ)
  · refine (θ_run Cert.InRefIdeal.defs _ _).mono (fun _ h c => ?_) (Cert.InRefIdeal.Value.run (F := Ideal) m' ρ')
    obtain ⟨a0, a1, a2, a3, a4, a5, a6, a7, a8, a9, a10, a11, a12, a13⟩ := hag c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · unfold Cert.InRefIdeal.Value.res_main_v47
      rw [a0, a1, a2, a3, a4, a5, a6, a7, a8]
      rfl
    · rw [a0, a2, a4, a5, a6, a7, a8]
    · rw [a9, a10]
    · rw [a9, a10, a11, a12, a13]
    · rw [a9, a10, a12]
    · rw [a9, a10, a13]

end Cert.InClaims

end
-- ==== Proof.Mlp.lean ====
/-
  The forward call of the second half of the layer, which ends in the loss and starts the backward pass: `mlp_fwd` leaves the
  rectified products, the gradients of the loss with respect to the second product, the residual stream and the last norm's
  weight, and the loss, at every extended real. The reference takes the loss's gradients by `jax.vjp`.

  A grid point works on 512 tokens. The second weight is copied into scratch at the first point and found there afterwards;
  the gradient of the norm's weight and the loss add up over the eight points.
-/
module

public import proofs.«01_k».proof.Defs
public import proofs.«01_k».proof.Proof.Norm
public import proofs.«01_k».proof.Proof.Gen.MlpIdeal.Value
public import proofs.«01_k».proof.Proof.Gen.MlpRefIdeal.Run
public import proofs.«01_k».proof.Proof.Gen.Mlp.Frame
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MlpValue

open Cert.MlpIdeal Cert.MlpIdeal.Gen Idealize.ShloMosaic Idealize.ShloMosaic.TcCoe Idealize.SL.Sem
open Idealize.ShloMosaic.Pipeline (Dat)
open Cert.Norm (len eps energy hand row unit gain back gainGrad)

variable (m : (ℓ : Loc nD τ sig) → Buf (Elt Ideal) ℓ)

/-! ## The reference's arrays -/

abbrev S0 : Shape := Cert.MlpRefIdeal.S_
abbrev whole (w : BitVec 32) : FVec Ideal S2x2048x1024 .f32 :=
  broadcastInDim S2x2048x1024 ![] Cert.MlpRefIdeal.Gen.bcast_S_S2x2048x1024 (constant Cert.MlpRefIdeal.S_ .f32 w)

/-- The rectified first product. -/
abbrev rect (h : FVec Ideal S2x2048x1024 .f32) (wu : FVec Ideal S1x1024x4096 .f32) : FVec Ideal Cert.MlpRefIdeal.S2x2048x4096 .f32 :=
  maximumf (Host.dotGeneral Cert.MlpRefIdeal.dot_S2x2048x1024_S1024x4096_S2x2048x4096_2_0_01_1_n_n none h
      (shapeCast _ wu Cert.MlpRefIdeal.Gen.shapeCasts_S1x1024x4096_S1024x4096))
    (broadcastInDim Cert.MlpRefIdeal.S2x2048x4096 ![] Cert.MlpRefIdeal.Gen.bcast_S_S2x2048x4096 (constant Cert.MlpRefIdeal.S_ .f32 0x00000000#32))

/-- The second product, of the squares. -/
abbrev down (a : FVec Ideal Cert.MlpRefIdeal.S2x2048x4096 .f32) (wd : FVec Ideal S1x4096x1024 .f32) : FVec Ideal S2x2048x1024 .f32 :=
  Host.dotGeneral Cert.MlpRefIdeal.dot_S2x2048x4096_S4096x1024_S2x2048x1024_2_0_01_1_n_n none (mulf a a)
    (shapeCast _ wd Cert.MlpRefIdeal.Gen.shapeCasts_S1x4096x1024_S4096x1024)

/-- How far the layer's result is from the target. -/
abbrev err (d x t : FVec Ideal S2x2048x1024 .f32) (g : FVec Ideal S1x1024 .f32) : FVec Ideal S2x2048x1024 .f32 :=
  subf (addf x (mulf (unit d) (gain g))) t

/-- The gradient of the loss with respect to the layer's result. -/
abbrev slope (e : FVec Ideal S2x2048x1024 .f32) : FVec Ideal S2x2048x1024 .f32 :=
  mulf (broadcastInDim S2x2048x1024 ![0, 1] Cert.MlpRefIdeal.Gen.bcast_S2x2048_S2x2048x1024_0_1
      (Host.divf (broadcastInDim Cert.MlpRefIdeal.S2x2048 ![] Cert.MlpRefIdeal.Gen.bcast_S_S2x2048
          (mulf (constant Cert.MlpRefIdeal.S_ .f32 0x3F000000#32) (constant Cert.MlpRefIdeal.S_ .f32 0x3F800000#32)))
        (broadcastInDim Cert.MlpRefIdeal.S2x2048 ![] Cert.MlpRefIdeal.Gen.bcast_S_S2x2048 (constant Cert.MlpRefIdeal.S_ .f32 0x44800000#32))))
    (mulf (whole 0x40000000#32) e)

/-- The loss: half the sum of the tokens' mean squares. -/
abbrev loss (e : FVec Ideal S2x2048x1024 .f32) : FVec Ideal S1x128 .f32 :=
  broadcastInDim S1x128 ![] Cert.MlpRefIdeal.Gen.bcast_S_S1x128 (mulf (constant Cert.MlpRefIdeal.S_ .f32 0x3F000000#32)
    (Host.reduceAdd (Host.divf (Host.reduceAdd (mulf e e) (constant Cert.MlpRefIdeal.S_ .f32 0x00000000#32)
          Cert.MlpRefIdeal.Gen.reducesTo_S2x2048x1024_S2x2048_d2 Cert.MlpRefIdeal.Gen.h_S_)
        (broadcastInDim Cert.MlpRefIdeal.S2x2048 ![] Cert.MlpRefIdeal.Gen.bcast_S_S2x2048 (constant Cert.MlpRefIdeal.S_ .f32 0x44800000#32)))
      (constant Cert.MlpRefIdeal.S_ .f32 0x00000000#32) Cert.MlpRefIdeal.Gen.reducesTo_S2x2048_S_d0_1 Cert.MlpRefIdeal.Gen.h_S_))

abbrev argH (c : Dev nD) : FVec Ideal S2x2048x1024 .f32 := m ((c : Thread nD τ).loc main_arg0)
abbrev argU (c : Dev nD) : FVec Ideal S1x1024x4096 .f32 := m ((c : Thread nD τ).loc main_arg1)
abbrev argD (c : Dev nD) : FVec Ideal S1x4096x1024 .f32 := m ((c : Thread nD τ).loc main_arg2)
abbrev argX (c : Dev nD) : FVec Ideal S2x2048x1024 .f32 := m ((c : Thread nD τ).loc main_arg3)
abbrev argT (c : Dev nD) : FVec Ideal S2x2048x1024 .f32 := m ((c : Thread nD τ).loc main_arg4)
abbrev argG (c : Dev nD) : FVec Ideal S1x1024 .f32 := m ((c : Thread nD τ).loc main_arg5)

abbrev rects (c : Dev nD) : FVec Ideal Cert.MlpRefIdeal.S2x2048x4096 .f32 := rect (argH m c) (argU m c)
abbrev downs (c : Dev nD) : FVec Ideal S2x2048x1024 .f32 := down (rects m c) (argD m c)
abbrev errs (c : Dev nD) : FVec Ideal S2x2048x1024 .f32 := err (downs m c) (argX m c) (argT m c) (argG m c)
abbrev slopes (c : Dev nD) : FVec Ideal S2x2048x1024 .f32 := slope (errs m c)
abbrev backs (c : Dev nD) : FVec Ideal S2x2048x1024 .f32 := back (downs m c) (mulf (slopes m c) (gain (argG m c)))

/-- The results at the arguments of device `c`. -/
abbrev resultA (c : Dev nD) : FVec Ideal S4096x4096 .bf16 :=
  truncf .bf16 (shapeCast _ (rects m c) Cert.MlpRefIdeal.Gen.shapeCasts_S2x2048x4096_S4096x4096) Cert.MlpRefIdeal.Gen.bitsLt_bf16_f32
abbrev resultD (c : Dev nD) : FVec Ideal S4096x1024 .bf16 :=
  truncf .bf16 (shapeCast _ (backs m c) Cert.MlpRefIdeal.Gen.shapeCasts_S2x2048x1024_S4096x1024) Cert.MlpRefIdeal.Gen.bitsLt_bf16_f32
abbrev resultY (c : Dev nD) : FVec Ideal S4096x1024 .f32 := shapeCast _ (slopes m c) Cert.MlpRefIdeal.Gen.shapeCasts_S2x2048x1024_S4096x1024
abbrev resultG (c : Dev nD) : FVec Ideal S1x1024 .f32 := gainGrad (downs m c) (slopes m c)
abbrev resultL (c : Dev nD) : FVec Ideal S1x128 .f32 := loss (errs m c)

/-! ## What a grid point computes -/

/-- The blocks' places at the grid points. -/
theorem places : ∀ t : Fin cfg0.N, win0_0.index t = ![t.val, 0] ∧ win0_1.index t = ![0, 0]
    ∧ win0_2.index t = ![t.val, 0] ∧ win0_3.index t = ![t.val, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0] ∧ t.val < 8 :=
  (by decide +kernel : ∀ t : Fin grid0.N, _)

/-- The rectified product of a block of tokens. -/
def up (h : FVec Ideal S512x1024 .bf16) (w : FVec Ideal S1024x4096 .bf16) : FVec Ideal S512x4096 .bf16 :=
  fun y => max (∑ k : Fin 1024, h (ix2 (y 0) k) * w (ix2 k (y 1))) 0

/-- Columns of the first weight. -/
abbrev cols0 (w : FVec Ideal S1024x4096 .bf16) : FVec Ideal S1024x2048 .bf16 :=
  fun x => w ((Rect.unit (s := S1024x4096) ![0, 0] S1024x2048.size inb_S1024x4096_S1024x2048_0_0).idx x)
abbrev cols1 (w : FVec Ideal S1024x4096 .bf16) : FVec Ideal S1024x2048 .bf16 :=
  fun x => w ((Rect.unit (s := S1024x4096) ![0, 2048] S1024x2048.size inb_S1024x4096_S1024x2048_0_2048).idx x)

theorem pay5_apply (h : FVec Ideal S512x1024 .bf16) (w : FVec Ideal S1024x4096 .bf16) (r : Fin 512) (q : Fin 2048) :
    k0_pay5 (F := Ideal) h (cols0 w) (ix2 r q) = up h w (ix2 r ⟨q.val, by omega⟩) := by
  have e (x : Fin 1024) : cols0 w (ix2 x q) = w (ix2 x ⟨q.val, by omega⟩) := by pointwise [cols0]
  unfold up
  pointwise [k0_pay5, k0_pay4]
  simp only [e]

theorem pay6_apply (h : FVec Ideal S512x1024 .bf16) (w : FVec Ideal S1024x4096 .bf16) (r : Fin 512) (q : Fin 2048) :
    k0_pay6 (F := Ideal) h (cols1 w) (ix2 r q) = up h w (ix2 r ⟨2048 + q.val, by omega⟩) := by
  have e (x : Fin 1024) : cols1 w (ix2 x q) = w (ix2 x ⟨2048 + q.val, by omega⟩) := by pointwise [cols1]
  unfold up
  pointwise [k0_pay6, k0_pay4]
  simp only [e]

/-- The two halves of the columns a point stores, the later first. -/
abbrev stored (h : FVec Ideal S512x1024 .bf16) (w : FVec Ideal S1024x4096 .bf16) : List (View.Piece (Elt Ideal) S512x4096 (.bf16)) :=
  [⟨Rect.unit (s := S512x4096) ![0, 2048] S512x2048.size inb_S512x4096_S512x2048_0_2048, k0_pay6 (F := Ideal) h (cols1 w)⟩,
   ⟨Rect.unit (s := S512x4096) ![0, 0] S512x2048.size inb_S512x4096_S512x2048_0_0, k0_pay5 (F := Ideal) h (cols0 w)⟩]

theorem stored_eq (h : FVec Ideal S512x1024 .bf16) (w : FVec Ideal S1024x4096 .bf16) : View.canon (stored h w) = up h w := by
  funext y
  refine View.canon_append_of_piecesOf (up h w) [] (stored h w) ⟨fun x => ?_, fun x => ?_, trivial⟩ y ?_
  · obtain ⟨r, q, rfl⟩ : ∃ (r : Fin 512) (q : Fin 2048), x = ix2 r q := ⟨x 0, x 1, eq_ix2 x⟩
    refine (pay6_apply h w r q).trans (congrArg (up h w) (funext fun a => ?_))
    fin_cases a <;> apply Fin.ext
    · show r.val = 0 + 1 * r.val; omega
    · show 2048 + q.val = 2048 + 1 * q.val; omega
  · obtain ⟨r, q, rfl⟩ : ∃ (r : Fin 512) (q : Fin 2048), x = ix2 r q := ⟨x 0, x 1, eq_ix2 x⟩
    refine (pay5_apply h w r q).trans (congrArg (up h w) (funext fun a => ?_))
    fin_cases a <;> apply Fin.ext
    · show r.val = 0 + 1 * r.val; omega
    · show q.val = 0 + 1 * q.val; omega
  · obtain ⟨r, q, rfl⟩ : ∃ (r : Fin 512) (q : Fin 4096), y = ix2 r q := ⟨y 0, y 1, eq_ix2 y⟩
    by_cases hq : q.val < 2048
    · refine ⟨_, List.mem_cons_of_mem _ (List.mem_cons_self ..), (Rect.mem_set_unit (inb := inb_S512x4096_S512x2048_0_0)).mpr fun a => ?_⟩
      fin_cases a
      · exact ⟨Nat.zero_le _, by show r.val < 0 + 512; omega⟩
      · exact ⟨Nat.zero_le _, by show q.val < 0 + 2048; omega⟩
    · refine ⟨_, List.mem_cons_self .., (Rect.mem_set_unit (inb := inb_S512x4096_S512x2048_0_2048)).mpr fun a => ?_⟩
      fin_cases a
      · exact ⟨Nat.zero_le _, by show r.val < 0 + 512; omega⟩
      · exact ⟨by show 2048 ≤ q.val; omega, by show q.val < 2048 + 2048; omega⟩

theorem pay7_apply (a : FVec Ideal S512x4096 .bf16) (w : FVec Ideal S4096x1024 .bf16) (r : Fin 512) (q : Fin 1024) :
    k0_pay7 (F := Ideal) a w (ix2 r q) = ∑ k : Fin 4096, (a (ix2 r k) * a (ix2 r k)) * w (ix2 k q) := by
  pointwise [k0_pay7]

theorem pay8_apply (a : FVec Ideal S512x4096 .bf16) (w : FVec Ideal S4096x1024 .bf16) (r : Fin 512) :
    k0_pay8 (F := Ideal) a w (ix1 r) = ∑ k : Fin 1024, k0_pay7 (F := Ideal) a w (ix2 r k) * k0_pay7 (F := Ideal) a w (ix2 r k) := by
  unfold k0_pay8
  generalize k0_pay7 (F := Ideal) a w = v
  pointwise

section Rows
variable (v : FVec Ideal S512x1024 .f32) (s : FVec Ideal S512 .f32) (hs : ∀ r : Fin 512, s (ix1 r) = ∑ k : Fin 1024, v (ix2 r k) * v (ix2 r k))
include hs

theorem pay9_apply (r : Fin 512) : k0_pay9 (F := Ideal) s (ix2 r 0) = Ideal.rsqrt (energy len eps fun k => v (ix2 r k)) := by
  unfold energy
  rw [← hs r]
  pointwise [k0_pay9]

theorem pay10_apply (r : Fin 512) (q : Fin 1024) :
    k0_pay10 (F := Ideal) v s (ix2 r q) = v (ix2 r q) * Ideal.rsqrt (energy len eps fun k => v (ix2 r k)) := by
  rw [← pay9_apply v s hs r]
  pointwise [k0_pay10]

theorem pay13_apply (g : FVec Ideal S1x1024 .f32) (x t : FVec Ideal S512x1024 .f32) (r : Fin 512) (q : Fin 1024) :
    k0_pay13 (F := Ideal) v s g x t (ix2 r q)
      = hand len eps (fun k => v (ix2 r k)) (fun k => k0_pay12 (F := Ideal) v s g x t (ix2 r k) * g (ix2 0 k)) q := by
  unfold hand
  simp only [← pay10_apply v s hs]
  rw [← pay9_apply v s hs]
  unfold k0_pay13
  generalize k0_pay12 (F := Ideal) v s g x t = d
  pointwise

end Rows

theorem pay11_apply (v : FVec Ideal S512x1024 .f32) (s : FVec Ideal S512 .f32) (g : FVec Ideal S1x1024 .f32) (x t : FVec Ideal S512x1024 .f32)
    (r : Fin 512) (q : Fin 1024) :
    k0_pay11 (F := Ideal) v s g x t (ix2 r q) = x (ix2 r q) + k0_pay10 (F := Ideal) v s (ix2 r q) * g (ix2 0 q) - t (ix2 r q) := by
  unfold k0_pay11
  generalize k0_pay10 (F := Ideal) v s = u
  pointwise

theorem pay12_apply (v : FVec Ideal S512x1024 .f32) (s : FVec Ideal S512 .f32) (g : FVec Ideal S1x1024 .f32) (x t : FVec Ideal S512x1024 .f32)
    (r : Fin 512) (q : Fin 1024) :
    k0_pay12 (F := Ideal) v s g x t (ix2 r q) = k0_pay11 (F := Ideal) v s g x t (ix2 r q) * Ideal.ofBits .f32 0x3A800000#32 := by
  unfold k0_pay12
  generalize k0_pay11 (F := Ideal) v s g x t = u
  pointwise

theorem pay14_apply (v : FVec Ideal S512x1024 .f32) (s : FVec Ideal S512 .f32) (g : FVec Ideal S1x1024 .f32) (x t : FVec Ideal S512x1024 .f32)
    (q : Fin 1024) :
    k0_pay14 (F := Ideal) v s g x t (ix2 0 q) = ∑ r : Fin 512, k0_pay12 (F := Ideal) v s g x t (ix2 r q) * k0_pay10 (F := Ideal) v s (ix2 r q) := by
  unfold k0_pay14
  generalize k0_pay12 (F := Ideal) v s g x t = u
  generalize k0_pay10 (F := Ideal) v s = w
  pointwise

theorem pay2_apply (e : FVec Ideal S512x1024 .f32) (l : Fin 128) :
    k0_pay2 (F := Ideal) e (ix2 0 l) = Ideal.div (Ideal.ofBits .f32 0x3F000000#32 * ∑ r : Fin 512, ∑ k : Fin 1024, e (ix2 r k) * e (ix2 r k)) len := by
  pointwise [k0_pay2]

theorem pay3_apply (e : FVec Ideal S512x1024 .f32) (acc : FVec Ideal S1x128 .f32) (j : S1x128.Idx) :
    k0_pay3 (F := Ideal) e acc j = acc j + k0_pay2 (F := Ideal) e j := by
  unfold k0_pay3
  generalize k0_pay2 (F := Ideal) e = u
  pointwise

theorem pay1_apply (v acc : FVec Ideal S1x1024 .f32) (j : S1x1024.Idx) : k0_pay1 (F := Ideal) v acc j = acc j + v j := by
  pointwise [k0_pay1]

/-! ## The reference's arrays, an element each -/

theorem rect_apply (h : FVec Ideal S2x2048x1024 .f32) (wu : FVec Ideal S1x1024x4096 .f32) (b : Fin 2) (l : Fin 2048) (q : Fin 4096) :
    rect h wu (ix3 b l q) = max (∑ k : Fin 1024, h (ix3 b l k) * wu (ix3 0 k q)) 0 := by
  pointwise

theorem down_apply (a : FVec Ideal Cert.MlpRefIdeal.S2x2048x4096 .f32) (wd : FVec Ideal S1x4096x1024 .f32) (b : Fin 2) (l : Fin 2048) (q : Fin 1024) :
    down a wd (ix3 b l q) = ∑ k : Fin 4096, (a (ix3 b l k) * a (ix3 b l k)) * wd (ix3 0 k q) := by
  pointwise

theorem err_apply (d x t : FVec Ideal S2x2048x1024 .f32) (g : FVec Ideal S1x1024 .f32) (b : Fin 2) (l : Fin 2048) (q : Fin 1024) :
    err d x t g (ix3 b l q) = x (ix3 b l q) + unit d (ix3 b l q) * gain g (ix3 b l q) - t (ix3 b l q) := rfl

theorem scale (e : EReal) : Ideal.div (Ideal.ofBits .f32 0x3F000000#32 * Ideal.ofBits .f32 0x3F800000#32) len * (Ideal.ofBits .f32 0x40000000#32 * e)
    = e * Ideal.ofBits .f32 0x3A800000#32 := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1 / 1024 : ℝ) : EReal) := by simp [Ideal.ofBits, Ideal.ieee, -EReal.coe_mul]; norm_num
  rw [Cert.Norm.len_eq, Ideal.div_coe (by norm_num), h1, h2, h3, h4, ← mul_assoc, ← EReal.coe_mul, ← EReal.coe_mul, ← EReal.coe_mul, mul_comm e]
  norm_num

theorem slope_apply (e : FVec Ideal S2x2048x1024 .f32) (b : Fin 2) (l : Fin 2048) (q : Fin 1024) :
    slope e (ix3 b l q) = e (ix3 b l q) * Ideal.ofBits .f32 0x3A800000#32 := by
  rw [← scale]
  pointwise

theorem loss_apply (e : FVec Ideal S2x2048x1024 .f32) (l : Fin 128) :
    loss e (ix2 0 l) = Ideal.ofBits .f32 0x3F000000#32 * ∑ b : Fin 2, ∑ i : Fin 2048, Ideal.div (∑ k : Fin 1024, e (ix3 b i k) * e (ix3 b i k)) len := by
  pointwise

/-! ## The point's blocks -/

abbrev blkH (c : Dev nD) (t : Fin cfg0.N) : FVec Ideal S512x1024 .bf16 := iblk m c 0 t
abbrev blkU (c : Dev nD) (t : Fin cfg0.N) : FVec Ideal S1024x4096 .bf16 := iblk m c 1 t
abbrev blkX (c : Dev nD) (t : Fin cfg0.N) : FVec Ideal S512x1024 .f32 := iblk m c 2 t
abbrev blkT (c : Dev nD) (t : Fin cfg0.N) : FVec Ideal S512x1024 .f32 := iblk m c 3 t
abbrev blkG (c : Dev nD) (t : Fin cfg0.N) : FVec Ideal S1x1024 .f32 := iblk m c 4 t
abbrev wDown (c : Dev nD) : FVec Ideal S4096x1024 .bf16 := V m c main_v5
abbrev blkA (c : Dev nD) (t : Fin cfg0.N) : FVec Ideal S512x4096 .bf16 := up (blkH m c t) (blkU m c t)
abbrev blkD (c : Dev nD) (t : Fin cfg0.N) : FVec Ideal S512x1024 .f32 := k0_pay7 (F := Ideal) (blkA m c t) (wDown m c)
abbrev blkS (c : Dev nD) (t : Fin cfg0.N) : FVec Ideal S512 .f32 := k0_pay8 (F := Ideal) (blkA m c t) (wDown m c)

theorem loaded {κ : Kind} {sp : Space} (v : View sig κ sp S512x4096 .bf16) (h : FVec Ideal S512x1024 .bf16) (w : FVec Ideal S1024x4096 .bf16) :
    v.readCov (Val := Elt Ideal) (stored h w) (Rect.unit (s := S512x4096) ![0, 0] ![512, 4096] inb_S512x4096_S512x4096_0_0).toLoadRect = up h w := by
  rw [View.readCov_eq_canon', stored_eq]
  funext j
  refine congrArg (up h w) (funext fun a => ?_)
  fin_cases a <;> apply Fin.ext
  · show 0 + 1 * (j 0).val = (j 0).val; omega
  · show 0 + 1 * (j 1).val = (j 1).val; omega

theorem canon_copied (w : FVec Ideal S4096x1024 .bf16) :
    View.canon (Val := Elt Ideal) [(⟨Rect.whole S4096x1024, w⟩ : View.Piece (Elt Ideal) S4096x1024 (.bf16))] = w := by
  funext x
  have e := View.canon_cons_emb (Val := Elt Ideal) (e := .bf16) (Rect.whole S4096x1024) w [] x
  rwa [Rect.emb_whole_apply] at e

theorem copied {κ : Kind} {sp : Space} (v : View sig κ sp S4096x1024 .bf16) (w : FVec Ideal S4096x1024 .bf16) :
    v.readCov (Val := Elt Ideal) [⟨Rect.whole S4096x1024, w⟩] (Rect.unit (s := S4096x1024) ![0, 0] ![4096, 1024] inb_S4096x1024_S4096x1024_0_0).toLoadRect = w := by
  rw [View.readCov_eq_canon', canon_copied]
  funext j
  refine congrArg w (funext fun a => ?_)
  fin_cases a <;> apply Fin.ext
  · show 0 + 1 * (j 0).val = (j 0).val; omega
  · show 0 + 1 * (j 1).val = (j 1).val; omega

/-- The scratch holds the second weight after every point. -/
theorem carried (c : Dev nD) : ∀ (n : ℕ) (h : n < cfg0.N), (outsAt0 m c n h).2.2.2.2.2 = V m c main_v5
  | 0, h => by
    rw [outsAt0_A m c ⟨0, h⟩ rfl rfl rfl (Nat.not_succ_le_zero 0) rfl (Nat.not_succ_le_zero 0)]
    frame_out
    exact canon_copied _
  | n + 1, h => by
    have hn : n + 1 < 8 := h
    have h0 : ¬(n + 1) % 8 = 0 := by omega
    rw [outsAt0_B m c ⟨n + 1, h⟩ h0 h0 h0 (Nat.succ_pos n) h0 (Nat.succ_pos n)]
    exact carried c n (Nat.lt_of_succ_lt h)

theorem afterA (c : Dev nD) (t : Fin cfg0.N) : (outsAt0 m c t.val t.isLt).1 = blkA m c t := by
  have ht : t.val < 8 := t.isLt
  refine Eq.trans ?_ (stored_eq (blkH m c t) (blkU m c t))
  by_cases h : t.val % 8 = 0
  · rw [outsAt0_A m c t h (by omega) (by omega) (by omega) (by omega) (by omega)]; frame_out; rfl
  · rw [outsAt0_B m c t h (by omega) (by omega) (by omega) (by omega) (by omega)]; frame_out; rfl

theorem afterD (c : Dev nD) (t : Fin cfg0.N) : (outsAt0 m c t.val t.isLt).2.1
    = k0_pay13 (F := Ideal) (blkD m c t) (blkS m c t) (blkG m c t) (blkX m c t) (blkT m c t) := by
  have ht : t.val < 8 := t.isLt
  unfold blkD blkS blkA
  rw [← loaded (ms0_5 t).view]
  by_cases h : t.val % 8 = 0
  · rw [outsAt0_A m c t h (by omega) (by omega) (by omega) (by omega) (by omega)]
    frame_out
    rw [← copied (View.whole cc0_scratch0) (wDown m c)]
    rfl
  · rw [outsAt0_B m c t h (by omega) (by omega) (by omega) (by omega) (by omega)]
    frame_out
    rw [carried, read_unread_whole]
    rfl

theorem afterY (c : Dev nD) (t : Fin cfg0.N) : (outsAt0 m c t.val t.isLt).2.2.1
    = k0_pay12 (F := Ideal) (blkD m c t) (blkS m c t) (blkG m c t) (blkX m c t) (blkT m c t) := by
  have ht : t.val < 8 := t.isLt
  unfold blkD blkS blkA
  rw [← loaded (ms0_5 t).view]
  by_cases h : t.val % 8 = 0
  · rw [outsAt0_A m c t h (by omega) (by omega) (by omega) (by omega) (by omega)]
    frame_out
    rw [← copied (View.whole cc0_scratch0) (wDown m c)]
    rfl
  · rw [outsAt0_B m c t h (by omega) (by omega) (by omega) (by omega) (by omega)]
    frame_out
    rw [carried, read_unread_whole]
    rfl

/-- The last point. -/
abbrev last : Fin cfg0.N := ⟨7, by decide⟩

abbrev termG (c : Dev nD) (t : Fin cfg0.N) : FVec Ideal S1x1024 .f32 :=
  k0_pay14 (F := Ideal) (blkD m c t) (blkS m c t) (blkG m c t) (blkX m c t) (blkT m c t)
abbrev blkE (c : Dev nD) (t : Fin cfg0.N) : FVec Ideal S512x1024 .f32 :=
  k0_pay11 (F := Ideal) (blkD m c t) (blkS m c t) (blkG m c t) (blkX m c t) (blkT m c t)

theorem afterG (c : Dev nD) (j : S1x1024.Idx) :
    (outsAt0 m c last.val last.isLt).2.2.2.1 j = ∑ t : Fin cfg0.N, termG m c t j := by
  rw [Pipeline.eq_sum_fin_of_reset_step_apply_last (fun n h => (outsAt0 m c n h).2.2.2.1) 8 (fun _ => (0 : EReal)) (fun t j => termG m c t j)
    (fun t h j => by
      have ht : t.val < 8 := t.isLt
      unfold termG blkD blkS blkA
      rw [← loaded (ms0_5 t).view, ← copied (View.whole cc0_scratch0) (wDown m c)]
      rw [outsAt0_A m c t h (by omega) (by omega) (by omega) (by omega) (by omega)]; frame_out; rw [zero_add]; rfl)
    (fun t h j => by
      have ht : t.val < 8 := t.isLt
      unfold termG blkD blkS blkA
      rw [← loaded (ms0_5 t).view]
      rw [outsAt0_B m c t h (by omega) (by omega) (by omega) (by omega) (by omega)]; frame_out; rw [pay1_apply, carried, read_unread_whole]; rfl)
    (le_of_eq N_0) last rfl j, zero_add]

theorem afterL (c : Dev nD) (j : S1x128.Idx) :
    (outsAt0 m c last.val last.isLt).2.2.2.2.1 j = ∑ t : Fin cfg0.N, k0_pay2 (F := Ideal) (blkE m c t) j := by
  rw [Pipeline.eq_sum_fin_of_reset_step_apply_last (fun n h => (outsAt0 m c n h).2.2.2.2.1) 8 (fun _ => (0 : EReal))
    (fun t j => k0_pay2 (F := Ideal) (blkE m c t) j)
    (fun t h j => by
      have ht : t.val < 8 := t.isLt
      unfold blkE blkD blkS blkA
      rw [← loaded (ms0_5 t).view, ← copied (View.whole cc0_scratch0) (wDown m c)]
      rw [outsAt0_A m c t h (by omega) (by omega) (by omega) (by omega) (by omega)]; frame_out; rw [zero_add]; rfl)
    (fun t h j => by
      have ht : t.val < 8 := t.isLt
      unfold blkE blkD blkS blkA
      rw [← loaded (ms0_5 t).view]
      rw [outsAt0_B m c t h (by omega) (by omega) (by omega) (by omega) (by omega)]; frame_out; rw [pay3_apply, carried, read_unread_whole]; rfl)
    (le_of_eq N_0) last rfl j, zero_add]

/-! ## The blocks as parts of the arguments -/

abbrev seq (t : Fin cfg0.N) : Fin 2 := ⟨t.val / 4, by have : t.val < 8 := t.isLt; omega⟩
abbrev tok (t : Fin cfg0.N) (r : Fin 512) : Fin 2048 := ⟨t.val % 4 * 512 + r.val, by omega⟩

theorem read_h (c : Dev nD) (t : Fin cfg0.N) (r : Fin 512) (k : Fin 1024) : blkH m c t (ix2 r k) = argH m c (ix3 (seq t) (tok t r) k) := by
  have ht : t.val < 8 := t.isLt
  blk_point [blkH, iblk, places t]

theorem read_u (c : Dev nD) (t : Fin cfg0.N) (k : Fin 1024) (q : Fin 4096) : blkU m c t (ix2 k q) = argU m c (ix3 0 k q) := by
  blk_point [blkU, iblk, places t]

theorem read_x (c : Dev nD) (t : Fin cfg0.N) (r : Fin 512) (k : Fin 1024) : blkX m c t (ix2 r k) = argX m c (ix3 (seq t) (tok t r) k) := by
  have ht : t.val < 8 := t.isLt
  blk_point [blkX, iblk, places t]

theorem read_t (c : Dev nD) (t : Fin cfg0.N) (r : Fin 512) (k : Fin 1024) : blkT m c t (ix2 r k) = argT m c (ix3 (seq t) (tok t r) k) := by
  have ht : t.val < 8 := t.isLt
  blk_point [blkT, iblk, places t]

theorem read_g (c : Dev nD) (t : Fin cfg0.N) (k : Fin 1024) : blkG m c t (ix2 0 k) = argG m c (ix2 0 k) := by
  blk_point [blkG, iblk, places t]

theorem read_d (c : Dev nD) (k : Fin 4096) (q : Fin 1024) : wDown m c (ix2 k q) = argD m c (ix3 0 k q) := by
  unfold wDown
  entry_read
  pointwise

/-! ## What a point computes, as the reference's arrays -/

theorem point_rect (c : Dev nD) (t : Fin cfg0.N) (r : Fin 512) (q : Fin 4096) : blkA m c t (ix2 r q) = rects m c (ix3 (seq t) (tok t r) q) := by
  refine Eq.trans ?_ (rect_apply _ _ _ _ _).symm
  exact congrArg (fun s => max s 0) (Finset.sum_congr rfl fun k _ => congrArg₂ (· * ·) (read_h m c t r k) (read_u m c t k q))

theorem point_down (c : Dev nD) (t : Fin cfg0.N) (r : Fin 512) (q : Fin 1024) : blkD m c t (ix2 r q) = downs m c (ix3 (seq t) (tok t r) q) := by
  refine (pay7_apply _ _ r q).trans (Eq.trans ?_ (down_apply _ _ _ _ _).symm)
  exact Finset.sum_congr rfl fun k _ => congrArg₂ (fun a w => (a * a) * w) (point_rect m c t r k) (read_d m c k q)

theorem sums (c : Dev nD) (t : Fin cfg0.N) (r : Fin 512) : blkS m c t (ix1 r) = ∑ k : Fin 1024, blkD m c t (ix2 r k) * blkD m c t (ix2 r k) :=
  pay8_apply _ _ r

theorem point_unit (c : Dev nD) (t : Fin cfg0.N) (r : Fin 512) (q : Fin 1024) :
    k0_pay10 (F := Ideal) (blkD m c t) (blkS m c t) (ix2 r q) = unit (downs m c) (ix3 (seq t) (tok t r) q) := by
  refine (pay10_apply _ _ (sums m c t) r q).trans (Eq.trans ?_ (Cert.Norm.unit_apply _ _ _ _).symm)
  rw [point_down]
  exact congrArg (fun f => _ * Ideal.rsqrt (energy len eps f)) (funext fun k => point_down m c t r k)

theorem point_err (c : Dev nD) (t : Fin cfg0.N) (r : Fin 512) (q : Fin 1024) : blkE m c t (ix2 r q) = errs m c (ix3 (seq t) (tok t r) q) := by
  refine (pay11_apply _ _ _ _ _ r q).trans (Eq.trans ?_ (err_apply _ _ _ _ _ _ _).symm)
  rw [point_unit, read_x, read_t, read_g, Cert.Norm.gain_apply]

theorem point_slope (c : Dev nD) (t : Fin cfg0.N) (r : Fin 512) (q : Fin 1024) :
    k0_pay12 (F := Ideal) (blkD m c t) (blkS m c t) (blkG m c t) (blkX m c t) (blkT m c t) (ix2 r q) = slopes m c (ix3 (seq t) (tok t r) q) :=
  (pay12_apply _ _ _ _ _ r q).trans ((congrArg (· * _) (point_err m c t r q)).trans (slope_apply _ _ _ _).symm)

theorem point_back (c : Dev nD) (t : Fin cfg0.N) (r : Fin 512) (q : Fin 1024) :
    k0_pay13 (F := Ideal) (blkD m c t) (blkS m c t) (blkG m c t) (blkX m c t) (blkT m c t) (ix2 r q) = backs m c (ix3 (seq t) (tok t r) q) := by
  refine (pay13_apply _ _ (sums m c t) _ _ _ r q).trans (Eq.trans ?_ (Cert.Norm.back_apply _ _ _ _ _).symm)
  refine congrArg₂ (fun x d => hand len eps x d q) (funext fun k => point_down m c t r k) (funext fun k => ?_)
  exact congrArg₂ (· * ·) (point_slope m c t r k) ((read_g m c t k).trans (Cert.Norm.gain_apply _ _ _ _).symm)

/-! ## The results, whole -/

theorem flat_block (v : FVec Ideal S2x2048x1024 .f32) (t : Fin cfg0.N) (r : Fin 512) (q : Fin 1024) (h : t.val * 512 + r.val < 4096) :
    (shapeCast S4096x1024 v Cert.MlpRefIdeal.Gen.shapeCasts_S2x2048x1024_S4096x1024) (ix2 ⟨t.val * 512 + r.val, h⟩ q) = v (ix3 (seq t) (tok t r) q) := by
  have e (i : Fin 4096) : (shapeCast S4096x1024 v Cert.MlpRefIdeal.Gen.shapeCasts_S2x2048x1024_S4096x1024) (ix2 i q)
      = v (ix3 ⟨i.val / 2048, by omega⟩ ⟨i.val % 2048, by omega⟩ q) := by pointwise
  refine (e _).trans ?_
  congr 2
  · exact Fin.ext (by show (t.val * 512 + r.val) / 2048 = t.val / 4; omega)
  · exact Fin.ext (by show (t.val * 512 + r.val) % 2048 = t.val % 4 * 512 + r.val; omega)

theorem flat_wide (v : FVec Ideal Cert.MlpRefIdeal.S2x2048x4096 .f32) (t : Fin cfg0.N) (r : Fin 512) (q : Fin 4096) (h : t.val * 512 + r.val < 4096) :
    (shapeCast S4096x4096 v Cert.MlpRefIdeal.Gen.shapeCasts_S2x2048x4096_S4096x4096) (ix2 ⟨t.val * 512 + r.val, h⟩ q) = v (ix3 (seq t) (tok t r) q) := by
  have e (i : Fin 4096) : (shapeCast S4096x4096 v Cert.MlpRefIdeal.Gen.shapeCasts_S2x2048x4096_S4096x4096) (ix2 i q)
      = v (ix3 ⟨i.val / 2048, by omega⟩ ⟨i.val % 2048, by omega⟩ q) := by pointwise
  refine (e _).trans ?_
  congr 2
  · exact Fin.ext (by show (t.val * 512 + r.val) / 2048 = t.val / 4; omega)
  · exact Fin.ext (by show (t.val * 512 + r.val) % 2048 = t.val % 4 * 512 + r.val; omega)

theorem final5 (c : Dev nD) : (dats m 0 c).arrAt 5 cfg0.N = resultA m c := by
  refine (dats m 0 c).arrAt_eq_of_covers 5 _ (by decide +kernel) fun t _ y => ?_
  blk_simp
  rw [after0_5, afterA]
  have ht : t.val < 8 := t.isLt
  obtain ⟨r, q, rfl⟩ : ∃ (r : Fin 512) (q : Fin 4096), y = ix2 r q := ⟨y 0, y 1, eq_ix2 y⟩
  have e : (((cfg0.win 5).blk t).view.emb (ix2 r q)) = (ix2 (⟨t.val * 512 + r.val, by omega⟩ : Fin 4096) q) := by
    blk_ext [places t]
  rw [e]
  exact (point_rect m c t r q).trans (flat_wide _ t r q (by omega)).symm

theorem final6 (c : Dev nD) : (dats m 0 c).arrAt 6 cfg0.N = resultD m c := by
  refine (dats m 0 c).arrAt_eq_of_covers 6 _ (by decide +kernel) fun t _ y => ?_
  blk_simp
  rw [after0_6, afterD]
  have ht : t.val < 8 := t.isLt
  obtain ⟨r, q, rfl⟩ : ∃ (r : Fin 512) (q : Fin 1024), y = ix2 r q := ⟨y 0, y 1, eq_ix2 y⟩
  have e : (((cfg0.win 6).blk t).view.emb (ix2 r q)) = (ix2 (⟨t.val * 512 + r.val, by omega⟩ : Fin 4096) q) := by
    blk_ext [places t]
  rw [e]
  exact (point_back m c t r q).trans (flat_block _ t r q (by omega)).symm

theorem final7 (c : Dev nD) : (dats m 0 c).arrAt 7 cfg0.N = resultY m c := by
  refine (dats m 0 c).arrAt_eq_of_covers 7 _ (by decide +kernel) fun t _ y => ?_
  blk_simp
  rw [after0_7, afterY]
  have ht : t.val < 8 := t.isLt
  obtain ⟨r, q, rfl⟩ : ∃ (r : Fin 512) (q : Fin 1024), y = ix2 r q := ⟨y 0, y 1, eq_ix2 y⟩
  have e : (((cfg0.win 7).blk t).view.emb (ix2 r q)) = (ix2 (⟨t.val * 512 + r.val, by omega⟩ : Fin 4096) q) := by
    blk_ext [places t]
  rw [e]
  exact (point_slope m c t r q).trans (flat_block _ t r q (by omega)).symm

theorem final8 (c : Dev nD) : (dats m 0 c).arrAt 8 cfg0.N = resultG m c := by
  refine (dats m 0 c).arrAt_eq_of_after_last 8 last (by decide +kernel) _ fun j => ?_
  blk_simp
  obtain ⟨z, q, rfl⟩ : ∃ (z : Fin 1) (q : Fin 1024), j = ix2 z q := ⟨j 0, j 1, eq_ix2 j⟩
  obtain rfl : z = 0 := Subsingleton.elim _ _
  rw [after0_8]
  refine (afterG m c (ix2 0 q)).trans (Eq.trans ?_ (Cert.Norm.gainGrad_apply _ _ q).symm)
  simp only [termG, pay14_apply]
  refine Fin.sum_points_lanes_congr 4 fun t r ha hl => ?_
  rw [point_slope, point_unit]
  exact mul_comm _ _

/-- Halving and averaging a sum, before or after adding up the tokens. -/
theorem mean_half (s : EReal) : Ideal.div (Ideal.ofBits .f32 0x3F000000#32 * s) len = ((1 / 2048 : ℝ) : EReal) * s := by
  have h1 : Ideal.ofBits .f32 0x3F000000#32 = ((1 / 2 : ℝ) : EReal) := by simp [Ideal.ofBits, Ideal.ieee, -EReal.coe_mul]; norm_num
  rw [Cert.Norm.len_eq, Ideal.div_coe (by norm_num), h1, mul_comm, ← mul_assoc, ← EReal.coe_mul]
  norm_num

theorem half_mean (f : Fin 2 → Fin 2048 → EReal) :
    Ideal.ofBits .f32 0x3F000000#32 * ∑ b : Fin 2, ∑ i : Fin 2048, Ideal.div (f b i) len = ((1 / 2048 : ℝ) : EReal) * ∑ b : Fin 2, ∑ i : Fin 2048, f b i := by
  have h1 : Ideal.ofBits .f32 0x3F000000#32 = ((1 / 2 : ℝ) : EReal) := by simp [Ideal.ofBits, Ideal.ieee, -EReal.coe_mul]; norm_num
  have h2 (s : EReal) : Ideal.div s len = ((1 / 1024 : ℝ) : EReal) * s := by rw [Cert.Norm.len_eq, Ideal.div_coe (by norm_num), mul_comm]
  have h0 : (0 : EReal) ≤ ((1 / 1024 : ℝ) : EReal) := by exact_mod_cast (by norm_num : (0 : ℝ) ≤ 1 / 1024)
  simp only [h2, Cert.Norm.factor_sum _ _ h0 (EReal.coe_ne_top _)]
  rw [h1, ← mul_assoc, ← EReal.coe_mul]
  norm_num

theorem final9 (c : Dev nD) : (dats m 0 c).arrAt 9 cfg0.N = resultL m c := by
  refine (dats m 0 c).arrAt_eq_of_after_last 9 last (by decide +kernel) _ fun j => ?_
  blk_simp
  obtain ⟨z, l, rfl⟩ : ∃ (z : Fin 1) (l : Fin 128), j = ix2 z l := ⟨j 0, j 1, eq_ix2 j⟩
  obtain rfl : z = 0 := Subsingleton.elim _ _
  rw [after0_9]
  refine (afterL m c (ix2 0 l)).trans (Eq.trans ?_ (loss_apply _ l).symm)
  have h0 : (0 : EReal) ≤ ((1 / 2048 : ℝ) : EReal) := by exact_mod_cast (by norm_num : (0 : ℝ) ≤ 1 / 2048)
  rw [half_mean]
  simp only [pay2_apply, mean_half, Cert.Norm.factor_sum _ _ h0 (EReal.coe_ne_top _)]
  refine congrArg (_ * ·) (Fin.sum_points_lanes_congr 4 fun t r ha hl => ?_)
  exact Finset.sum_congr rfl fun k _ => congrArg (fun e => e * e) (point_err m c t r k)

end Cert.MlpValue

namespace Cert.MlpClaims

open Idealize.ShloMosaic Idealize.ShloMosaic.TcCoe Idealize.SL.Sem
open Cert.MlpValue

theorem frame : Cert.quiescent_Mlp := fun m ρ _ => Cert.Mlp.Gen.frame m ρ
theorem frame_ideal : Cert.quiescent_MlpIdeal := fun m ρ _ => Cert.MlpIdeal.Gen.frame m ρ
theorem frame_ref : Cert.quiescent_MlpRefIdeal := fun m ρ _ =>
  (θ_run Cert.MlpRefIdeal.defs _ _).mono (fun r h => ⟨fun c => (h c).2.2.2.2.2, sem_eq_zero_of_no_sems (by decide) r.2⟩)
    (Cert.MlpRefIdeal.Value.run (F := Ideal) m ρ)

theorem algebraic : Cert.algebraic_MlpIdeal_MlpRefIdeal := by
  intro m ρ m' ρ' _ hag
  refine ⟨resultA m, resultD m, resultY m, resultG m, resultL m, ?_, ?_⟩
  · exact (θ_run Cert.MlpIdeal.defs _ _).mono (fun _ h c => ⟨(h c).1.trans (final5 m c), (h c).2.1.trans (final6 m c),
      (h c).2.2.1.trans (final7 m c), (h c).2.2.2.1.trans (final8 m c), (h c).2.2.2.2.1.trans (final9 m c), (h c).2.2.2.2.2⟩)
      (Cert.MlpIdeal.Value.run_blocks m ρ)
  · refine (θ_run Cert.MlpRefIdeal.defs _ _).mono (fun _ h c => ?_) (Cert.MlpRefIdeal.Value.run (F := Ideal) m' ρ')
    obtain ⟨a0, a1, a2, a3, a4, a5⟩ := hag c
    refine ⟨(h c).1.trans ?_, (h c).2.1.trans ?_, (h c).2.2.1.trans ?_, (h c).2.2.2.1.trans ?_, (h c).2.2.2.2.1.trans ?_, (h c).2.2.2.2.2⟩
    · rw [a0, a1]
    · unfold Cert.MlpRefIdeal.Value.res_main_v62
      rw [a0, a1, a2, a3, a4, a5]
      rfl
    · rw [a0, a1, a2, a3, a4, a5]
    · unfold Cert.MlpRefIdeal.Value.res_main_v64
      rw [a0, a1, a2, a3, a4, a5]
      rfl
    · unfold Cert.MlpRefIdeal.Value.res_main_v65
      rw [a0, a1, a2, a3, a4, a5]

end Cert.MlpClaims

end
-- ==== Proof.Wdown.lean ====
/-
  The gradient of the second weight: what the call `wgrad_down` leaves in its result is the derivative `jax.vjp` writes.

  A grid point writes the rows `512 t …` of the gradient: the product of the squared columns of the saved `max(a, 0)`
  with the cotangent, over all tokens.  The reference sums over sequences and positions; a token is the pair of both.
-/
module

public import proofs.«01_k».proof.Defs
public import proofs.«01_k».proof.Proof.Gen.WdownIdeal.Value
public import proofs.«01_k».proof.Proof.Gen.WdownRefIdeal.Run
public import proofs.«01_k».proof.Proof.Gen.Wdown.Frame
public import Idealize.ShloMosaic.Lib.Pipeline.ValueKit
public import Idealize.ShloMosaic.Lib.Quiescent

@[expose] public section

set_option maxRecDepth 16384

noncomputable section

namespace Cert.WdownValue

open Cert.WdownIdeal Cert.WdownIdeal.Gen Idealize.ShloMosaic Idealize.ShloMosaic.TcCoe Idealize.SL.Sem
open Idealize.ShloMosaic.Pipeline (Dat)

variable (m : (ℓ : Loc nD τ sig) → Buf (Elt Ideal) ℓ)

/-- `max(a, 0)`, as the reference's operations write it. -/
abbrev relu (a : FVec Ideal S2x2048x4096 .f32) : FVec Ideal S2x2048x4096 .f32 :=
  maximumf a (broadcastInDim S2x2048x4096 ![] Cert.WdownRefIdeal.Gen.bcast_S_S2x2048x4096 (constant S_ .f32 0x00000000#32))

/-- The derivative in the weight, as the reference's operations compute it from `a` and the cotangent. -/
abbrev grad (a : FVec Ideal S2x2048x4096 .f32) (ct : FVec Ideal S2x2048x1024 .f32) : FVec Ideal S4096x1024 .bf16 :=
  truncf .bf16 (shapeCast _ (broadcastInDim Cert.WdownRefIdeal.S1x4096x1024 ![1, 2] Cert.WdownRefIdeal.Gen.bcast_S4096x1024_S1x4096x1024_1_2
    (transpose S4096x1024 [1, 0] (Host.dotGeneral Cert.WdownRefIdeal.dot_S2x2048x1024_S2x2048x4096_S1024x4096_01_01_2_2_n_n none ct
      (mulf (relu a) (relu a))) Cert.WdownRefIdeal.Gen.transposes_S1024x4096_S4096x1024_1_0)) Cert.WdownRefIdeal.Gen.shapeCasts_S1x4096x1024_S4096x1024)
    bitsLt_bf16_f32

/-- The derivative at the arguments of device `c`. -/
abbrev result (c : Dev nD) : FVec Ideal S4096x1024 .bf16 :=
  grad (m ((c : Thread nD τ).loc main_arg0)) (m ((c : Thread nD τ).loc main_arg1))

/-- The blocks' places at the grid points. -/
theorem places : ∀ t : Fin cfg0.N, win0_0.index t = ![0, t.val] ∧ win0_1.index t = ![0, 0]
    ∧ win0_2.index t = ![t.val, 0] ∧ t.val < 8 :=
  (by decide +kernel : ∀ t : Fin grid0.N, _)

/-- The derivative at a hidden unit and a column. -/
theorem grad_apply (a : FVec Ideal S2x2048x4096 .f32) (ct : FVec Ideal S2x2048x1024 .f32) (i : Fin 4096) (j : Fin 1024) :
    grad a ct (ix2 i j) = ∑ b : Fin 2, ∑ l : Fin 2048, ct (ix3 b l j) * (max (a (ix3 b l i)) 0 * max (a (ix3 b l i)) 0) := by
  pointwise [grad, relu]

/-- What the body stores, at an index of its block. -/
theorem pay_apply (x0 : FVec Ideal S4096x512 .bf16) (x1 : FVec Ideal S4096x1024 .bf16) (r : Fin 512) (q : Fin 1024) :
    k0_pay1 (F := Ideal) x0 x1 (ix2 r q) = ∑ k : Fin 4096, (x0 (ix2 k r) * x0 (ix2 k r)) * x1 (ix2 k q) := by
  pointwise [k0_pay1]

/-- The product before the squared ReLU, on device `c`. -/
abbrev hidden (c : Dev nD) : FVec Ideal S2x2048x4096 .f32 := m ((c : Thread nD τ).loc main_arg0)

/-- The saved `max(a, 0)`, token by token. -/
abbrev saved (c : Dev nD) : FVec Ideal S4096x4096 .bf16 := V m c main_v3

/-- The block of the saved `max(a, 0)` at an index. -/
theorem read_relu (c : Dev nD) (t : Fin cfg0.N) (k : Fin 4096) (r : Fin 512) (h : t.val * 512 + r.val < 4096) :
    (iblk m c 0 t : FVec Ideal S4096x512 .bf16) (ix2 k r)
      = max (hidden m c (ix3 (⟨k.val / 2048, by omega⟩ : Fin 2) (⟨k.val % 2048, by omega⟩ : Fin 2048) (⟨t.val * 512 + r.val, h⟩ : Fin 4096))) 0 := by
  have ht := (places t).2.2.2
  refine Eq.trans (b := saved m c (ix2 k ⟨t.val * 512 + r.val, h⟩)) ?_ ?_
  · blk_point [iblk, places t]
  · unfold saved
    entry_read
    pointwise

/-- The block of the cotangent at an index. -/
theorem read_ct (c : Dev nD) (t : Fin cfg0.N) (k : Fin 4096) (q : Fin 1024) :
    (iblk m c 1 t : FVec Ideal S4096x1024 .bf16) (ix2 k q)
      = (m ((c : Thread nD τ).loc main_arg1) : FVec Ideal S2x2048x1024 .f32) (ix3 (⟨k.val / 2048, by omega⟩ : Fin 2) (⟨k.val % 2048, by omega⟩ : Fin 2048) q) := by
  have ht := (places t).2.2.2
  blk_point [iblk, places t]

theorem point (c : Dev nD) (t : Fin cfg0.N) (y : S512x1024.Idx) :
    k0_pay1 (F := Ideal) (iblk m c 0 t) (iblk m c 1 t) y = result m c (((cfg0.win 2).blk t).view.emb y) := by
  have ht := (places t).2.2.2
  obtain ⟨r, q, rfl⟩ : ∃ (r : Fin 512) (q : Fin 1024), y = ix2 r q := ⟨y 0, y 1, eq_ix2 y⟩
  have e : (((cfg0.win 2).blk t).view.emb (ix2 r q)) = (ix2 (⟨t.val * 512 + r.val, by omega⟩ : Fin 4096) q) := by
    blk_ext [places t]
  rw [e]
  refine (pay_apply _ _ r q).trans (Eq.trans ?_ (grad_apply _ _ _ _).symm)
  refine Fin.sum_divmod_congr fun k hb hl => ?_
  rw [read_relu m c t k r (by omega), read_ct m c t k q, mul_comm]

/-- The result of the call, whole: the derivative. -/
theorem final (c : Dev nD) : (dats m 0 c).arrAt 2 cfg0.N = result m c := by
  refine (dats m 0 c).arrAt_eq_of_covers 2 _ (by decide +kernel) fun t _ y => ?_
  blk_simp
  rw [after0_2, outsAt0]; frame_out
  exact point m c t y

end Cert.WdownValue

namespace Cert.WdownClaims

open Idealize.ShloMosaic Idealize.ShloMosaic.TcCoe Idealize.SL.Sem

theorem frame : Cert.quiescent_Wdown := fun m ρ _ => Cert.Wdown.Gen.frame m ρ
theorem frame_ideal : Cert.quiescent_WdownIdeal := fun m ρ _ => Cert.WdownIdeal.Gen.frame m ρ
theorem frame_ref : Cert.quiescent_WdownRefIdeal := fun m ρ _ =>
  (θ_run Cert.WdownRefIdeal.defs _ _).mono (fun r h => ⟨fun c => (h c).2, sem_eq_zero_of_no_sems (by decide) r.2⟩)
    (Cert.WdownRefIdeal.Value.run (F := Ideal) m ρ)

theorem algebraic : Cert.algebraic_WdownIdeal_WdownRefIdeal := by
  intro m ρ m' ρ' _ hag
  refine ⟨Cert.WdownValue.result m, ?_, ?_⟩
  · exact (θ_run Cert.WdownIdeal.defs _ _).mono (fun _ h c => ⟨(h c).1.trans (Cert.WdownValue.final m c), (h c).2⟩)
      (Cert.WdownIdeal.Value.run_blocks m ρ)
  · refine (θ_run Cert.WdownRefIdeal.defs _ _).mono (fun _ h c => ⟨(h c).1.trans ?_, (h c).2⟩)
      (Cert.WdownRefIdeal.Value.run (F := Ideal) m' ρ')
    rw [(hag c).1, (hag c).2]

end Cert.WdownClaims

end
-- ==== Proof.Gate.lean ====
/-
  The spatial gating unit on real numbers: what it computes, token by token, its gradients, and the two identities of
  the layer norm's and the GELU's derivative.  Tokens are natural numbers (both sequences, one after the other), columns
  are the 512 of the unit: head `c / 64`, lane `c % 64`.  A chunk is 128 tokens.
-/
module

public import Idealize.ShloMosaic.Lib.Pipeline.ValueKit
public import Idealize.ShloMosaic.Lib.IdealHost

@[expose] public section

noncomputable section

namespace Cert.Gate

open Idealize.ShloMosaic

/-! ## Literals -/

abbrev slopeLit : EReal := Ideal.ofBits .f32 0x3F4C422A#32
abbrev epsLit : EReal := Ideal.ofBits .f32 0x358637BD#32

/-- The literal for `√(2/π)`. -/
def g : ℝ := slopeLit.toReal
/-- The layer norm's `1e-6`. -/
def eps : ℝ := epsLit.toReal
/-- The cubic coefficient `0.044715`. -/
def cub : ℝ := 8943 / 200000

theorem g_eq : slopeLit = ((g : ℝ) : EReal) := by
  unfold g
  have h : slopeLit = ((13386282 / 16777216 : ℝ) : EReal) := by
    simp [slopeLit, Ideal.ofBits, Ideal.ieee, -EReal.coe_mul]; norm_num
  rw [h, EReal.toReal_coe]

theorem eps_eq : epsLit = ((eps : ℝ) : EReal) ∧ 0 < eps := by
  unfold eps
  have h : epsLit = ((8796093 / 8796093022208 : ℝ) : EReal) := by
    simp [epsLit, Ideal.ofBits, Ideal.ieee, -EReal.coe_mul]; norm_num
  rw [h, EReal.toReal_coe]
  exact ⟨rfl, by norm_num⟩

theorem zero_eq : Ideal.ofBits .f32 0x00000000#32 = ((0 : ℝ) : EReal) := by
  simp [Ideal.ofBits, Ideal.ieee, -EReal.coe_mul]
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem lanes_eq : Ideal.ofBits .f32 0x42800000#32 = ((64 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul, -EReal.coe_neg]; norm_num
theorem numer_eq : Ideal.ofBits .f32 0x460BBC00#32 = ((8943 : ℝ) : EReal) := by
  simp [Ideal.ofBits, Ideal.ieee, -EReal.coe_mul]; norm_num
theorem denom_eq : Ideal.ofBits .f32 0x48435000#32 = ((200000 : ℝ) : EReal) := by
  simp [Ideal.ofBits, Ideal.ieee, -EReal.coe_mul]; norm_num

theorem div_real {y : ℝ} (h : y ≠ 0) (x : ℝ) : Ideal.div (x : EReal) (y : EReal) = ((x / y : ℝ) : EReal) := by
  rw [Ideal.div_coe h, ← EReal.coe_mul, mul_one_div]

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The GELU -/

def th (x : ℝ) : ℝ := Real.tanh (g * (x + cub * x * x * x))
def gel (x : ℝ) : ℝ := 1 / 2 * x * (1 + th x)
def slope (x : ℝ) : ℝ := 1 / 2 * (1 + th x) + 1 / 2 * x * (1 - th x * th x) * g * (1 + 3 * cub * x * x)

/-- The derivative as differentiation of `x * (1/2 (1 + tanh))` writes it, by the value `d` it is multiplied with. -/
theorem slope_back (x d : ℝ) :
    d * (1 / 2 * (1 + th x)) + g * (1 / 2 * (x * d) * ((1 + th x) * (1 - th x)))
      + cub * (g * (1 / 2 * (x * d) * ((1 + th x) * (1 - th x)))) * (3 * (x * x)) = d * slope x := by
  unfold slope; ring

/-! ## The layer norm of one head -/

def mean (f : Fin 64 → ℝ) : ℝ := (∑ p : Fin 64, f p) / 64
def dev (f : Fin 64 → ℝ) (p : Fin 64) : ℝ := f p - mean f
def spread (f : Fin 64 → ℝ) : ℝ := mean (fun p => dev f p * dev f p) + eps
def rs (f : Fin 64 → ℝ) : ℝ := (Real.sqrt (spread f))⁻¹
def hat (f : Fin 64 → ℝ) (p : Fin 64) : ℝ := dev f p * rs f
/-- The derivative with respect to the normalised head's input, `d` the cotangent. -/
def back (f d : Fin 64 → ℝ) (p : Fin 64) : ℝ := rs f * (d p - mean d - hat f p * mean (fun q => d q * hat f q))

theorem spread_pos (f : Fin 64 → ℝ) : 0 < spread f := by
  have h : 0 ≤ mean (fun p => dev f p * dev f p) :=
    div_nonneg (Finset.sum_nonneg fun p _ => mul_self_nonneg _) (by norm_num)
  exact add_pos_of_nonneg_of_pos h eps_eq.2

theorem rsqrt_spread (f : Fin 64 → ℝ) : Ideal.rsqrt ((spread f : ℝ) : EReal) = ((rs f : ℝ) : EReal) := by
  have h := spread_pos f
  rw [Ideal.rsqrt_coe, if_neg (not_lt.mpr h.le), if_neg h.ne']
  rfl

theorem rs_sq (f : Fin 64 → ℝ) : rs f * rs f * spread f = 1 := by
  have h := spread_pos f
  have hs : Real.sqrt (spread f) ≠ 0 := (Real.sqrt_pos.mpr h).ne'
  unfold rs
  rw [← mul_inv, Real.mul_self_sqrt h.le, inv_mul_cancel₀ h.ne']

theorem sum_dev (f : Fin 64 → ℝ) : ∑ p : Fin 64, dev f p = 0 := by
  unfold dev mean
  rw [Finset.sum_sub_distrib, Finset.sum_const, Finset.card_univ, Fintype.card_fin, nsmul_eq_mul]
  push_cast; ring

/-- The derivative as differentiation writes it: through the reciprocal root and through the two means. -/
theorem back_eq (f d : Fin 64 → ℝ) (p : Fin 64) :
    d p * rs f + (∑ q : Fin 64, dev f q * d q) * (-(1 / 2) * (rs f / spread f)) / 64 * (2 * dev f p)
      + ((∑ q : Fin 64, -(d q * rs f))
          + ∑ q : Fin 64, -((∑ q : Fin 64, dev f q * d q) * (-(1 / 2) * (rs f / spread f)) / 64 * (2 * dev f q))) / 64
      = back f d p := by
  have h := spread_pos f
  have hr := rs_sq f
  have hq : rs f / spread f = rs f * rs f * rs f := by
    rw [div_eq_iff h.ne']
    linear_combination -(rs f) * hr
  have hz : ∑ q : Fin 64, -((∑ q : Fin 64, dev f q * d q) * (-(1 / 2) * (rs f / spread f)) / 64 * (2 * dev f q)) = 0 := by
    have e : ∀ q : Fin 64, -((∑ q : Fin 64, dev f q * d q) * (-(1 / 2) * (rs f / spread f)) / 64 * (2 * dev f q))
        = -((∑ q : Fin 64, dev f q * d q) * (-(1 / 2) * (rs f / spread f)) / 64 * 2) * dev f q := fun q => by ring
    simp only [e]
    rw [← Finset.mul_sum, sum_dev, mul_zero]
  have hd : ∑ q : Fin 64, -(d q * rs f) = -(rs f * ∑ q : Fin 64, d q) := by
    rw [Finset.sum_neg_distrib, ← Finset.sum_mul, mul_comm]
  have hh : ∑ q : Fin 64, d q * hat f q = rs f * ∑ q : Fin 64, dev f q * d q := by
    rw [Finset.mul_sum]
    exact Finset.sum_congr rfl fun q _ => by unfold hat; ring
  rw [hz, hd, hq]
  unfold back mean
  rw [hh]
  unfold hat
  ring

/-! ## The unit and its gradients -/

/-- Lane `p` of head `h`. -/
def col (h : Fin 8) (p : Fin 64) : Fin 512 := ⟨64 * h.val + p.val, by omega⟩
def hd (c : Fin 512) : Fin 8 := ⟨c.val / 64, by omega⟩
def ln (c : Fin 512) : Fin 64 := ⟨c.val % 64, by omega⟩

theorem col_hd_ln (c : Fin 512) : col (hd c) (ln c) = c := Fin.ext (by simp only [col, hd, ln]; omega)
theorem hd_col (h : Fin 8) (p : Fin 64) : hd (col h p) = h := Fin.ext (by simp only [col, hd]; omega)
theorem ln_col (h : Fin 8) (p : Fin 64) : ln (col h p) = p := Fin.ext (by simp only [col, ln]; omega)

/-- The position in its chunk of a token, and token `s` of the same chunk. -/
def pos (T : ℕ) : Fin 128 := ⟨T % 128, Nat.mod_lt _ (by norm_num)⟩
def mate (T : ℕ) (s : Fin 128) : ℕ := T / 128 * 128 + s.val

/-- Everything the unit reads. -/
structure Data where
  u : ℕ → Fin 512 → ℝ
  v : ℕ → Fin 512 → ℝ
  d : ℕ → Fin 512 → ℝ
  lw : Fin 512 → ℝ
  lb : Fin 512 → ℝ
  w : Fin 8 → Fin 128 → Fin 128 → ℝ
  b : Fin 8 → Fin 128 → ℝ

variable (D : Data)

/-- One head of a table of tokens and columns. -/
def head (X : ℕ → Fin 512 → ℝ) (T : ℕ) (h : Fin 8) (p : Fin 64) : ℝ := X T (col h p)

def gu (T : ℕ) (c : Fin 512) : ℝ := gel (D.u T c)
def gv (T : ℕ) (c : Fin 512) : ℝ := gel (D.v T c)
def centred (T : ℕ) (c : Fin 512) : ℝ := dev (head (gv D) T (hd c)) (ln c)
def scale (T : ℕ) (c : Fin 512) : ℝ := rs (head (gv D) T (hd c))
def unit (T : ℕ) (c : Fin 512) : ℝ := hat (head (gv D) T (hd c)) (ln c)
def normed (T : ℕ) (c : Fin 512) : ℝ := unit D T c * D.lw c + D.lb c
def mixed (T : ℕ) (c : Fin 512) : ℝ := ∑ s : Fin 128, D.w (hd c) (pos T) s * normed D (mate T s) c + D.b (hd c) (pos T)
/-- The cotangent of the gate. -/
def dgate (T : ℕ) (c : Fin 512) : ℝ := D.d T c * gu D T c
def dnormed (T : ℕ) (c : Fin 512) : ℝ := ∑ t : Fin 128, D.w (hd c) t (pos T) * dgate D (mate T t) c
def dhat (T : ℕ) (c : Fin 512) : ℝ := dnormed D T c * D.lw c
def du (T : ℕ) (c : Fin 512) : ℝ := D.d T c * mixed D T c * slope (D.u T c)
def dgv (T : ℕ) (c : Fin 512) : ℝ := back (head (gv D) T (hd c)) (head (dhat D) T (hd c)) (ln c)
def dv (T : ℕ) (c : Fin 512) : ℝ := dgv D T c * slope (D.v T c)
/-- The gradient of the mixing weights (before the causal mask is laid over it), chunk by chunk. -/
def dwAt (n : ℕ) (h : Fin 8) (t s : Fin 128) : ℝ :=
  ∑ p : Fin 64, dgate D (128 * n + t.val) (col h p) * normed D (128 * n + s.val) (col h p)
def dw (h : Fin 8) (t s : Fin 128) : ℝ := ∑ n : Fin 32, dwAt D n.val h t s
def dbAt (n : ℕ) (t : Fin 128) (h : Fin 8) : ℝ := ∑ p : Fin 64, dgate D (128 * n + t.val) (col h p)
def db (t : Fin 128) (h : Fin 8) : ℝ := ∑ n : Fin 32, dbAt D n.val t h
def dlw (c : Fin 512) : ℝ := ∑ T : Fin 4096, dnormed D T.val c * unit D T.val c
def dlb (c : Fin 512) : ℝ := ∑ T : Fin 4096, dnormed D T.val c

end Cert.Gate

end
-- ==== Proof.GateKernel.lean ====
/-
  The blocks the body of `gmlp_bwd` computes at a grid point, as functions over the real numbers.

  A grid point holds 512 tokens, four chunks of 128, and 512 columns, eight heads of 64.  `Is o x X` says that the block
  `x` holds the rows `o, o + 1, …` of the table of real numbers `X`.
-/
module

public import proofs.«01_k».proof.Defs
public import proofs.«01_k».proof.Proof.Gate
public import proofs.«01_k».proof.Proof.Gen.GmlpIdeal.Value
public import Idealize.ShloMosaic.Lib.Pipeline.ValueKit

@[expose] public section

set_option maxRecDepth 16384

noncomputable section

namespace Cert.GateKernel

open Cert.GmlpIdeal Cert.GmlpIdeal.Gen Cert.Gate Idealize.ShloMosaic Idealize.SL.Sem

abbrev Tab := FVec Ideal S512x512 .f32
abbrev Sq := FVec Ideal S128x128 .f32

/-- The block holds the rows `o …` of a table of reals. -/
def Is (o : ℕ) (x : Tab) (X : ℕ → Fin 512 → ℝ) : Prop := ∀ r c : Fin 512, x (ix2 r c) = ((X (o + r.val) c : ℝ) : EReal)

/-- The block of a chunk and two heads holds `128` rows from `n` and the columns from `k`. -/
def IsSq (n k : ℕ) (x : Sq) (X : ℕ → Fin 512 → ℝ) : Prop :=
  ∀ (r q : Fin 128) (h : k + q.val < 512), x (ix2 r q) = ((X (n + r.val) ⟨k + q.val, h⟩ : ℝ) : EReal)

theorem cubic_eq : (Named.named (F := Ideal) κ "cubic" 0x3D372713#32 : Ideal .f32) = ((cub : ℝ) : EReal) :=
  IdealRules.named_const.ideal_named_scalar κ "cubic" _ _ rfl
theorem cubic_slope_eq : (Named.named (F := Ideal) κ "cubic_slope" 0x3E095D4F#32 : Ideal .f32) = ((3 * cub : ℝ) : EReal) := by
  refine (IdealRules.named_const.ideal_named_scalar κ "cubic_slope" _ _ rfl).trans ?_
  simp only [cub]; norm_num

variable {o : ℕ}

/-! ## The body's pieces -/

theorem slices (r j : Fin 4) : S512x512.Slices ![128 * r.val, 128 * j.val] S128x128 := by
  revert r j; decide

/-- Chunk `r`, heads `2 j` and `2 j + 1`. -/
def cut (r j : Fin 4) (x : Tab) : Sq := extractStridedSlice S128x128 ![128 * r.val, 128 * j.val] x (slices r j)

/-- A chunk of two heads, each laid over zeros, one under the other. -/
def stack (x : Sq) : FVec Ideal S256x128 .bf16 :=
  truncf .bf16 (concatenate S256x128 0 [⟨S128x128, mulf x (broadcastTo S128x128 (k0_pay17 (F := Ideal)) broadcasts_S1x128_S128x128)⟩,
    ⟨S128x128, mulf x (broadcastTo S128x128 (k0_pay18 (F := Ideal)) broadcasts_S1x128_S128x128)⟩]
    concatenates_S128x128_S128x128_S256x128_d0) bitsLt_bf16_f32

/-- The weights of two heads over a chunk. -/
def mix (w : FVec Ideal S1x128x256 .bf16) (x : Sq) : Sq :=
  matmul dot_S128x256_S256x128_S128x128_1_0_0_1_n_n none (shapeCast S128x256 w shapeCasts_S1x128x256_S128x256) (stack x)
    (constant S128x128 .f32 0x00000000#32)

theorem inb (j : Fin 4) : ∀ a : Fin S4x128x256.rank, (![j.val, 0, 0] : Fin 3 → ℕ) a + (![1, 128, 256] : Fin 3 → ℕ) a ≤ S4x128x256.size a := by
  revert j; decide

/-- The weights of heads `2 j` and `2 j + 1`. -/
def pair (w : FVec Ideal S4x128x256 .bf16) (j : Fin 4) : FVec Ideal S1x128x256 .bf16 :=
  fun x => w ((Rect.unit (s := S4x128x256) ![j.val, 0, 0] S1x128x256.size (inb j)).idx x)

/-- The weights of all heads over a chunk. -/
def mixRow (w : FVec Ideal S4x128x256 .bf16) (r : Fin 4) (x : Tab) : FVec Ideal S128x512 .f32 :=
  concatenate S128x512 1 [⟨S128x128, mix (pair w 0) (cut r 0 x)⟩, ⟨S128x128, mix (pair w 1) (cut r 1 x)⟩,
    ⟨S128x128, mix (pair w 2) (cut r 2 x)⟩, ⟨S128x128, mix (pair w 3) (cut r 3 x)⟩] concatenates_S128x128_S128x128_S128x128_S128x128_S128x512_d1

/-- Four chunks under one another. -/
def rows (f : Fin 4 → FVec Ideal S128x512 .f32) : Tab :=
  concatenate S512x512 0 [⟨S128x512, f 0⟩, ⟨S128x512, f 1⟩, ⟨S128x512, f 2⟩, ⟨S128x512, f 3⟩]
    concatenates_S128x512_S128x512_S128x512_S128x512_S512x512_d0

/-- The mean of every head, over the head's columns. -/
def headMean (A : FVec Ideal S256x256 .bf16) (x : Tab) : Tab :=
  let a := extractStridedSlice S512x256 ![0, 0] x slices_S512x512_o0_0_S512x256
  let a' : FVec Ideal S512x256 .bf16 := truncf .bf16 a bitsLt_bf16_f32
  let b := extractStridedSlice S512x256 ![0, 256] x slices_S512x512_o0_256_S512x256
  let b' : FVec Ideal S512x256 .bf16 := truncf .bf16 b bitsLt_bf16_f32
  let z : FVec Ideal S512x256 .f32 := constant S512x256 .f32 0x00000000#32
  let s (u : FVec Ideal S512x256 .f32) (u' : FVec Ideal S512x256 .bf16) : FVec Ideal S512x256 .f32 :=
    addf (matmul dot_S512x256_S256x256_S512x256_1_0_0_1_n_n none u' A z)
      (matmul dot_S512x256_S256x256_S512x256_1_0_0_1_n_n none (truncf .bf16 (subf u (extf .f32 u' bitsLt_bf16_f32)) bitsLt_bf16_f32) A z)
  concatenate S512x512 1 [⟨S512x256, s a a'⟩, ⟨S512x256, s b b'⟩] concatenates_S512x256_S512x256_S512x512_d1

/-- One chunk's share of a head's weight gradient. -/
def outer (mask : FVec Ideal S1x128 .f32) (r j : Fin 4) (g x : Tab) : Sq :=
  matmul dot_S128x128_S128x128_S128x128_1_1_0_0_n_n none
    (truncf .bf16 (mulf (cut r j g) (broadcastTo S128x128 mask broadcasts_S1x128_S128x128)) bitsLt_bf16_f32)
    (truncf .bf16 (cut r j x) bitsLt_bf16_f32) (constant S128x128 .f32 0x00000000#32)

def outers (mask : FVec Ideal S1x128 .f32) (j : Fin 4) (g x : Tab) : Sq :=
  addf (addf (addf (outer mask 0 j g x) (outer mask 1 j g x)) (outer mask 2 j g x)) (outer mask 3 j g x)

theorem slices' (r : Fin 4) : S512x512.Slices ![128 * r.val, 0] S128x512 := by
  revert r; decide

/-- One chunk's share of the biases' gradient: the columns of every head summed. -/
def heads (E : FVec Ideal S512x128 .bf16) (r : Fin 4) (g : Tab) : Sq :=
  let x := extractStridedSlice S128x512 ![128 * r.val, 0] g (slices' r)
  let x' : FVec Ideal S128x512 .bf16 := truncf .bf16 x bitsLt_bf16_f32
  let z : FVec Ideal S128x128 .f32 := constant S128x128 .f32 0x00000000#32
  addf (matmul dot_S128x512_S512x128_S128x128_1_0_0_1_n_n none x' E z)
    (matmul dot_S128x512_S512x128_S128x128_1_0_0_1_n_n none (truncf .bf16 (subf x (extf .f32 x' bitsLt_bf16_f32)) bitsLt_bf16_f32) E z)

/-- What a grid point computes from its ten input blocks. -/
structure Blocks where
  d : FVec Ideal S512x512 .bf16
  u : FVec Ideal S512x512 .bf16
  v : FVec Ideal S512x512 .bf16
  lw : FVec Ideal S1x512 .f32
  lb : FVec Ideal S1x512 .f32
  w : FVec Ideal S4x128x256 .bf16
  wt : FVec Ideal S4x128x256 .bf16
  bias : FVec Ideal S128x512 .f32
  avg : FVec Ideal S256x256 .bf16
  ex : FVec Ideal S512x128 .bf16

variable (B : Blocks)

/-- `gelu`, and its derivative, as the body writes them. -/
def act (x : Tab) : Tab :=
  tanh (mulf (broadcast S512x512 (Scalar.ofBits .f32 0x3F4C422A#32)) (addf x (mulf (mulf (mulf (broadcast S512x512 (Named.named κ "cubic" 0x3D372713#32)) x) x) x)))
def gelT (x : Tab) : Tab :=
  mulf (mulf (broadcast S512x512 (Scalar.ofBits .f32 0x3F000000#32)) x) (addf (broadcast S512x512 (Scalar.ofBits .f32 0x3F800000#32)) (act x))
def slopeT (x : Tab) : Tab :=
  let one : Tab := broadcast S512x512 (Scalar.ofBits .f32 0x3F800000#32)
  let half : Tab := broadcast S512x512 (Scalar.ofBits .f32 0x3F000000#32)
  addf (mulf half (addf one (act x)))
    (mulf (mulf (mulf (mulf half x) (subf one (mulf (act x) (act x)))) (broadcast S512x512 (Scalar.ofBits .f32 0x3F4C422A#32)))
      (addf one (mulf (mulf (broadcast S512x512 (Named.named κ "cubic_slope" 0x3E095D4F#32)) x) x)))

def wide (x : FVec Ideal S512x512 .bf16) : Tab := extf .f32 (shapeCast S512x512 x shapeCasts_S512x512_S512x512) bitsLt_bf16_f32
def lane (x : FVec Ideal S1x512 .f32) : Tab := broadcastTo S512x512 (shapeCast S1x512 x shapeCasts_S1x512_S1x512) broadcasts_S1x512_S512x512
def A : FVec Ideal S256x256 .bf16 := shapeCast S256x256 B.avg shapeCasts_S256x256_S256x256
def bias : FVec Ideal S128x512 .f32 := shapeCast S128x512 B.bias shapeCasts_S128x512_S128x512
def E : FVec Ideal S512x128 .bf16 := shapeCast S512x128 B.ex shapeCasts_S512x128_S512x128
def centredT : Tab := subf (gelT (wide B.v)) (headMean (A B) (gelT (wide B.v)))
def scaleT : Tab :=
  rsqrt (addf (headMean (A B) (mulf (centredT B) (centredT B))) (broadcast S512x512 (Scalar.ofBits .f32 0x358637BD#32)))
def unitT : Tab := mulf (centredT B) (scaleT B)
def normedT : Tab := addf (mulf (unitT B) (lane B.lw)) (lane B.lb)
def mixedT : Tab := rows fun r => addf (mixRow B.w r (normedT B)) (bias B)
def dgateT : Tab := mulf (wide B.d) (gelT (wide B.u))
def duT : FVec Ideal S512x512 .bf16 := truncf .bf16 (mulf (mulf (wide B.d) (mixedT B)) (slopeT (wide B.u))) bitsLt_bf16_f32
def dnormedT : Tab := rows fun r => mixRow B.wt r (dgateT B)
def dhatT : Tab := mulf (dnormedT B) (lane B.lw)
def dgvT : Tab :=
  mulf (scaleT B) (subf (subf (dhatT B) (headMean (A B) (dhatT B))) (mulf (unitT B) (headMean (A B) (mulf (dhatT B) (unitT B)))))
def dvT : FVec Ideal S512x512 .bf16 := truncf .bf16 (mulf (dgvT B) (slopeT (wide B.v))) bitsLt_bf16_f32
def dbT : Sq := addf (addf (addf (heads (E B) 0 (dgateT B)) (heads (E B) 1 (dgateT B))) (heads (E B) 2 (dgateT B))) (heads (E B) 3 (dgateT B))
/-- One head's weight gradient over the four chunks. -/
def dwT (h : Fin 8) : Sq :=
  outers (if h.val % 2 = 0 then k0_pay17 (F := Ideal) else k0_pay18 (F := Ideal)) ⟨h.val / 2, by omega⟩ (dgateT B) (normedT B)
def colSum (x : Tab) : FVec Ideal S1x512 .f32 :=
  shapeCast S1x512 (multiReduction .add [0] S512 x 0x00000000#32 reduces_S512x512_S512 (.inl rfl) rfl) shapeCasts_S512_S1x512

end Cert.GateKernel

end
-- ==== Proof.GateReal.lean ====
/-
  The values of the blocks of `gmlp_bwd`'s grid point: each is a block of the corresponding table of real numbers.
-/
module

public import proofs.«01_k».proof.Proof.GateKernel

@[expose] public section

set_option maxRecDepth 16384

noncomputable section

namespace Cert.GateReal

open Cert.GmlpIdeal Cert.GmlpIdeal.Gen Cert.Gate Cert.GateKernel Idealize.ShloMosaic Idealize.SL.Sem

/-! ## Sums over blocks of lanes -/

theorem sum_pick (m n : ℕ) (f : Fin (m * n) → ℝ) (h : Fin m) :
    ∑ k : Fin (m * n), (if k.val / n = h.val then f k else 0)
      = ∑ p : Fin n, f ⟨n * h.val + p.val, by have := h.isLt; have := p.isLt; nlinarith⟩ := by
  rw [← finProdFinEquiv.sum_comp, Fintype.sum_prod_type, Finset.sum_eq_single h]
  · refine Finset.sum_congr rfl fun p _ => ?_
    have e : (finProdFinEquiv (h, p)).val / n = h.val := by
      simp only [finProdFinEquiv_apply_val]
      rw [Nat.add_mul_div_left _ _ (by have := p.isLt; omega), Nat.div_eq_of_lt p.isLt, Nat.zero_add]
    rw [if_pos e]
    exact congrArg f (Fin.ext (by simp only [finProdFinEquiv_apply_val]; omega))
  · intro a _ ha
    refine Finset.sum_eq_zero fun p _ => ?_
    have e : (finProdFinEquiv (a, p)).val / n = a.val := by
      simp only [finProdFinEquiv_apply_val]
      rw [Nat.add_mul_div_left _ _ (by have := p.isLt; omega), Nat.div_eq_of_lt p.isLt, Nat.zero_add]
    rw [if_neg fun h' => ha (Fin.ext (e.symm.trans h'))]
  · exact fun hn => absurd (Finset.mem_univ _) hn

theorem sub_zero' (x : ℝ) : (x : EReal) - (x : EReal) = ((0 : ℝ) : EReal) := by
  rw [← EReal.coe_sub, sub_self]

theorem slope_lit : Ideal.ofBits .f32 0x3F4C422A#32 = ((g : ℝ) : EReal) := g_eq

variable {o : ℕ}

/-! ## Pointwise blocks -/

theorem act_at {x : Tab} {X : ℕ → Fin 512 → ℝ} (h : Is o x X) (r c : Fin 512) : act x (ix2 r c) = ((th (X (o + r.val) c) : ℝ) : EReal) := by
  pointwise [act]
  rw [h r c, slope_lit, cubic_eq]
  simp only [← EReal.coe_mul, ← EReal.coe_add, Ideal.tanh_coe]
  rfl

theorem gel_is {x : Tab} {X : ℕ → Fin 512 → ℝ} (h : Is o x X) : Is o (gelT x) (fun T c => gel (X T c)) := by
  intro r c
  have ha := act_at h r c
  unfold gelT
  generalize act x = a at ha ⊢
  pointwise []
  rw [h r c, ha, half_eq]
  simp only [← EReal.coe_one, ← EReal.coe_mul, ← EReal.coe_add]
  rfl

theorem slope_is {x : Tab} {X : ℕ → Fin 512 → ℝ} (h : Is o x X) : Is o (slopeT x) (fun T c => slope (X T c)) := by
  intro r c
  have ha := act_at h r c
  unfold slopeT
  generalize act x = a at ha ⊢
  pointwise []
  rw [h r c, ha, half_eq, slope_lit, cubic_slope_eq]
  simp only [← EReal.coe_one, ← EReal.coe_mul, ← EReal.coe_add, ← EReal.coe_sub]
  rfl

/-- The two products with the averaging matrix: the second is a product with zeros. -/
theorem mean_sum {A : FVec Ideal S256x256 .bf16}
    (hA : ∀ k c : Fin 256, A (ix2 k c) = (((if k.val / 64 = c.val / 64 then 1 / 64 else 0 : ℝ)) : EReal))
    (y : Fin 256 → EReal) (Y : Fin 256 → ℝ) (hy : ∀ k, y k = (Y k : EReal)) (c : Fin 256) :
    ∑ k, y k * A (ix2 k c) + ∑ k, (y k - y k) * A (ix2 k c)
      = (((∑ p : Fin 64, Y ⟨64 * (c.val / 64) + p.val, by omega⟩) / 64 : ℝ) : EReal) := by
  simp only [hy, hA, sub_zero', ← EReal.coe_mul, coe_sum, ← EReal.coe_add]
  have e := sum_pick 4 64 (fun k => Y k * (1 / 64)) ⟨c.val / 64, by omega⟩
  simp only [← Finset.sum_mul] at e
  simp only [zero_mul, Finset.sum_const_zero, add_zero, mul_ite, mul_zero, ite_self]
  rw [e, mul_one_div]

theorem mean_is {A : FVec Ideal S256x256 .bf16}
    (hA : ∀ k c : Fin 256, A (ix2 k c) = (((if k.val / 64 = c.val / 64 then 1 / 64 else 0 : ℝ)) : EReal))
    {x : Tab} {X : ℕ → Fin 512 → ℝ} (h : Is o x X) : Is o (headMean A x) (fun T c => mean (head X T (hd c))) := by
  intro r c
  pointwise [headMean]
  split
  · rename_i hc
    rw [mean_sum hA (fun k => x (ix2 r ⟨k.val, by omega⟩)) (fun k => X (o + r.val) ⟨k.val, by omega⟩) (fun k => h r _)]
    rfl
  · rename_i hc
    rw [mean_sum hA (fun k => x (ix2 r ⟨256 + k.val, by omega⟩)) (fun k => X (o + r.val) ⟨256 + k.val, by omega⟩) (fun k => h r _)]
    unfold mean head col hd
    refine congrArg (fun s : ℝ => ((s / 64 : ℝ) : EReal)) (Finset.sum_congr rfl fun p _ => congrArg (X (o + r.val)) (Fin.ext ?_))
    simp only
    omega

/-- The columns of a pair's first head. -/
theorem low_mask (q : Fin 128) : k0_pay17 (F := Ideal) (ix2 0 q) = (((if q.val / 64 = 0 then 1 else 0 : ℝ)) : EReal) := by
  pointwise [k0_pay17]
  have e : ∀ q : Fin 128, BitVec.setWidth 32 (IntOp.cmpi CmpIPredicate.slt (BitVec.ofNat 32 q.val) 64#32)
      = if q.val / 64 = 0 then 1#32 else 0#32 := by decide
  rw [e q]
  split
  · simp [FloatOps.sitofp]
  · simp [FloatOps.sitofp]

/-- The columns of its second. -/
theorem high_mask (q : Fin 128) : k0_pay18 (F := Ideal) (ix2 0 q) = (((if q.val / 64 = 1 then 1 else 0 : ℝ)) : EReal) := by
  have e := low_mask q
  unfold k0_pay18
  generalize k0_pay17 (F := Ideal) = a at e ⊢
  pointwise []
  rw [e, ← EReal.coe_one, ← EReal.coe_sub]
  refine congrArg _ ?_
  by_cases hq : q.val / 64 = 0
  · rw [if_pos hq, if_neg (by omega)]; norm_num
  · rw [if_neg hq, if_pos (by omega)]; norm_num

theorem cut_is {x : Tab} {X : ℕ → Fin 512 → ℝ} (h : Is o x X) (r j : Fin 4) : IsSq (o + 128 * r.val) (128 * j.val) (cut r j x) X := by
  intro t q hq
  pointwise [cut]
  rw [h, Nat.add_assoc]

theorem stack_is {n k : ℕ} {x : Sq} {X : ℕ → Fin 512 → ℝ} (h : IsSq n k x X) (hk : k + 128 ≤ 512) (i : Fin 256) (q : Fin 128) :
    stack x (ix2 i q) = (((if i.val / 128 = q.val / 64 then X (n + i.val % 128) ⟨k + q.val, by omega⟩ else 0 : ℝ)) : EReal) := by
  pointwise [stack]
  have e1 : k0_pay17 (F := Ideal) (ix2 0 q) = (((if q.val / 64 = 0 then 1 else 0 : ℝ)) : EReal) := low_mask q
  have e2 : k0_pay18 (F := Ideal) (ix2 0 q) = (((if q.val / 64 = 1 then 1 else 0 : ℝ)) : EReal) := high_mask q
  split
  · rename_i hi
    rw [h _ q (by omega), e1, ← EReal.coe_mul, mul_ite, mul_one, mul_zero]
    have a1 : i.val / 128 = 0 := by omega
    have a2 : i.val % 128 = i.val := by omega
    simp only [a1, a2, eq_comm]
  · rename_i hi
    rw [h _ q (by omega), e2, ← EReal.coe_mul, mul_ite, mul_one, mul_zero]
    have a1 : i.val / 128 = 1 := by omega
    have a2 : i.val % 128 = i.val - 128 := by omega
    simp only [a1, a2, eq_comm]

theorem rows_at (f : Fin 4 → FVec Ideal S128x512 .f32) (r c : Fin 512) :
    rows f (ix2 r c) = f ⟨r.val / 128, by omega⟩ (ix2 ⟨r.val % 128, by omega⟩ c) := by
  pointwise [rows]
  have key : ∀ (a b : Fin 4) (p q : Fin 128), a = b → p = q → f a (ix2 p c) = f b (ix2 q c) := by
    rintro a _ p _ rfl rfl; rfl
  split
  · exact key _ _ _ _ (Fin.ext (by show 0 = r.val / 128; omega)) (Fin.ext (by show r.val = r.val % 128; omega))
  split
  · exact key _ _ _ _ (Fin.ext (by show 1 = r.val / 128; omega)) (Fin.ext (by show r.val - 128 = r.val % 128; omega))
  split
  · exact key _ _ _ _ (Fin.ext (by show 2 = r.val / 128; omega)) (Fin.ext (by show r.val - 128 - 128 = r.val % 128; omega))
  · exact key _ _ _ _ (Fin.ext (by show 3 = r.val / 128; omega)) (Fin.ext (by show r.val - 128 - 128 - 128 = r.val % 128; omega))

theorem colSum_is {x : Tab} {X : ℕ → Fin 512 → ℝ} (h : Is o x X) (c : Fin 512) :
    colSum x (ix2 0 c) = ((∑ r : Fin 512, X (o + r.val) c : ℝ) : EReal) := by
  pointwise [colSum]
  simp only [h _ c, coe_sum]

/-- The products of stacked weights with a stacked chunk: every column meets its own head's weights. -/
theorem mix_is {n k : ℕ} {x : Sq} {X : ℕ → Fin 512 → ℝ} (h : IsSq n k x X) (hk : k + 128 ≤ 512) (w : FVec Ideal S1x128x256 .bf16)
    (V : Fin 128 → Fin 256 → ℝ) (hw : ∀ t i, w (ix3 0 t i) = ((V t i : ℝ) : EReal)) (t q : Fin 128) :
    mix w x (ix2 t q) = ((∑ s : Fin 128, V t ⟨128 * (q.val / 64) + s.val, by omega⟩ * X (n + s.val) ⟨k + q.val, by omega⟩ : ℝ) : EReal) := by
  unfold mix
  have hs := stack_is h hk
  generalize stack x = a at hs ⊢
  pointwise []
  simp only [hw, hs, ← EReal.coe_mul, coe_sum, mul_ite, mul_zero]
  have e := sum_pick 2 128 (fun i => V t i * X (n + i.val % 128) ⟨k + q.val, by omega⟩) ⟨q.val / 64, by omega⟩
  rw [e]
  refine congrArg _ (Finset.sum_congr rfl fun s _ => ?_)
  have e2 : (128 * (q.val / 64) + s.val) % 128 = s.val := by omega
  simp only [e2]

/-- The four pairs' weights, `W` head by head. -/
def Weights (w : FVec Ideal S4x128x256 .bf16) (W : Fin 8 → Fin 128 → Fin 128 → ℝ) : Prop :=
  ∀ (j : Fin 4) (t : Fin 128) (i : Fin 256), w (ix3 j t i) = ((W ⟨2 * j.val + i.val / 128, by omega⟩ t ⟨i.val % 128, by omega⟩ : ℝ) : EReal)

theorem pair_at (w : FVec Ideal S4x128x256 .bf16) (j : Fin 4) (t : Fin 128) (i : Fin 256) : pair w j (ix3 0 t i) = w (ix3 j t i) := by
  unfold pair
  refine congrArg w ?_
  funext a
  fin_cases a
  · exact Fin.ext (show j.val + 1 * 0 = j.val by omega)
  · exact Fin.ext (show 0 + 1 * t.val = t.val by omega)
  · exact Fin.ext (show 0 + 1 * i.val = i.val by omega)

theorem mixRow_is {w : FVec Ideal S4x128x256 .bf16} {W : Fin 8 → Fin 128 → Fin 128 → ℝ} (hw : Weights w W)
    {x : Tab} {X : ℕ → Fin 512 → ℝ} (h : Is o x X) (r : Fin 4) (t : Fin 128) (c : Fin 512) :
    mixRow w r x (ix2 t c) = ((∑ s : Fin 128, W (hd c) t s * X (o + 128 * r.val + s.val) c : ℝ) : EReal) := by
  have hm := fun (j : Fin 4) (q : Fin 128) => mix_is (cut_is h r j) (by omega) (pair w j) _ (fun t i => (pair_at w j t i).trans (hw j t i)) t q
  have key : ∀ (j : Fin 4) (q : Fin 128), 128 * j.val + q.val = c.val → mix (pair w j) (cut r j x) (ix2 t q)
      = ((∑ s : Fin 128, W (hd c) t s * X (o + 128 * r.val + s.val) c : ℝ) : EReal) := by
    intro j q e
    rw [hm j q]
    refine congrArg _ (Finset.sum_congr rfl fun s _ => ?_)
    have e1 : (⟨2 * j.val + (128 * (q.val / 64) + s.val) / 128, by omega⟩ : Fin 8) = hd c := Fin.ext (by simp only [hd]; omega)
    have e2 : (⟨(128 * (q.val / 64) + s.val) % 128, by omega⟩ : Fin 128) = s := Fin.ext (by simp only; omega)
    have e3 : (⟨128 * j.val + q.val, by omega⟩ : Fin 512) = c := Fin.ext e
    rw [e1, e2, e3]
  have k0 := key 0
  have k1 := key 1
  have k2 := key 2
  have k3 := key 3
  unfold mixRow
  generalize mix (pair w 0) (cut r 0 x) = a0 at k0 ⊢
  generalize mix (pair w 1) (cut r 1 x) = a1 at k1 ⊢
  generalize mix (pair w 2) (cut r 2 x) = a2 at k2 ⊢
  generalize mix (pair w 3) (cut r 3 x) = a3 at k3 ⊢
  pointwise []
  split
  · exact k0 _ (by show 128 * 0 + c.val = c.val; omega)
  split
  · exact k1 _ (by show 128 * 1 + (c.val - 128) = c.val; omega)
  split
  · exact k2 _ (by show 128 * 2 + (c.val - 128 - 128) = c.val; omega)
  · exact k3 _ (by show 128 * 3 + (c.val - 128 - 128 - 128) = c.val; omega)

/-- One chunk's products of the two heads' columns: the mask keeps one head's. -/
theorem outer_is (mask : FVec Ideal S1x128 .f32) (i : ℕ) (hi : i < 2)
    (hm : ∀ q : Fin 128, mask (ix2 0 q) = (((if q.val / 64 = i then 1 else 0 : ℝ)) : EReal))
    {g x : Tab} {G X : ℕ → Fin 512 → ℝ} (hg : Is o g G) (hx : Is o x X) (r j : Fin 4) (t s : Fin 128) :
    outer mask r j g x (ix2 t s) = ((∑ p : Fin 64, G (o + 128 * r.val + t.val) (col ⟨2 * j.val + i, by omega⟩ p)
      * X (o + 128 * r.val + s.val) (col ⟨2 * j.val + i, by omega⟩ p) : ℝ) : EReal) := by
  have h1 := fun (t q : Fin 128) => cut_is hg r j t q (by omega)
  have h2 := fun (t q : Fin 128) => cut_is hx r j t q (by omega)
  unfold outer
  generalize cut r j g = a at h1 ⊢
  generalize cut r j x = b at h2 ⊢
  pointwise []
  simp only [hm, h1, h2, ← EReal.coe_mul, coe_sum, mul_ite, mul_one, mul_zero, ite_mul, zero_mul]
  have e := sum_pick 2 64 (fun q => G (o + 128 * r.val + t.val) ⟨128 * j.val + q.val, by omega⟩ * X (o + 128 * r.val + s.val) ⟨128 * j.val + q.val, by omega⟩) ⟨i, hi⟩
  refine congrArg _ (e.trans (Finset.sum_congr rfl fun p _ => ?_))
  have e1 : (⟨128 * j.val + (64 * i + p.val), by omega⟩ : Fin 512) = col ⟨2 * j.val + i, by omega⟩ p := Fin.ext (by simp only [col]; omega)
  simp only [e1]

/-- One chunk's columns summed head by head. -/
theorem heads_is {E : FVec Ideal S512x128 .bf16}
    (hE : ∀ (k : Fin 512) (c : Fin 128), E (ix2 k c) = (((if k.val / 64 = c.val then 1 else 0 : ℝ)) : EReal))
    {g : Tab} {G : ℕ → Fin 512 → ℝ} (hg : Is o g G) (r : Fin 4) (t c : Fin 128) :
    heads E r g (ix2 t c) = (((if h : c.val < 8 then ∑ p : Fin 64, G (o + 128 * r.val + t.val) (col ⟨c.val, h⟩ p) else 0 : ℝ)) : EReal) := by
  have h1 : ∀ k : Fin 512, g (ix2 ⟨128 * r.val + t.val, by omega⟩ k) = ((G (o + 128 * r.val + t.val) k : ℝ) : EReal) := by
    intro k
    rw [hg, Nat.add_assoc]
  pointwise [heads]
  simp only [h1, hE, sub_zero', ← EReal.coe_mul, coe_sum, ← EReal.coe_add, mul_ite, mul_one, mul_zero, ite_self, Finset.sum_const_zero, add_zero]
  refine congrArg _ ?_
  split
  · rename_i hc
    exact sum_pick 8 64 (fun k => G (o + 128 * r.val + t.val) k) ⟨c.val, hc⟩
  · exact Finset.sum_eq_zero fun k _ => if_neg (by omega)

/-! ## The grid point -/

/-- The input blocks of point `t`. -/
structure Holds (B : Blocks) (D : Data) (t : ℕ) : Prop where
  d : Is (512 * t) (wide B.d) D.d
  u : Is (512 * t) (wide B.u) D.u
  v : Is (512 * t) (wide B.v) D.v
  lw : ∀ r c : Fin 512, lane B.lw (ix2 r c) = ((D.lw c : ℝ) : EReal)
  lb : ∀ r c : Fin 512, lane B.lb (ix2 r c) = ((D.lb c : ℝ) : EReal)
  w : Weights B.w D.w
  wt : Weights B.wt (fun h t s => D.w h s t)
  bias : ∀ (t : Fin 128) (c : Fin 512), bias B (ix2 t c) = ((D.b (hd c) t : ℝ) : EReal)
  avg : ∀ k c : Fin 256, A B (ix2 k c) = (((if k.val / 64 = c.val / 64 then 1 / 64 else 0 : ℝ)) : EReal)
  ex : ∀ (k : Fin 512) (c : Fin 128), E B (ix2 k c) = (((if k.val / 64 = c.val then 1 else 0 : ℝ)) : EReal)

section Ops
variable {x y : Tab} {X Y : ℕ → Fin 512 → ℝ}

theorem mul_is (hx : Is o x X) (hy : Is o y Y) : Is o (mulf x y) (fun T c => X T c * Y T c) := by
  intro r c
  have a := hx r c
  have b := hy r c
  pointwise []
  rw [a, b, ← EReal.coe_mul]
theorem add_is (hx : Is o x X) (hy : Is o y Y) : Is o (addf x y) (fun T c => X T c + Y T c) := by
  intro r c
  have a := hx r c
  have b := hy r c
  pointwise []
  rw [a, b, ← EReal.coe_add]
theorem sub_is (hx : Is o x X) (hy : Is o y Y) : Is o (subf x y) (fun T c => X T c - Y T c) := by
  intro r c
  have a := hx r c
  have b := hy r c
  pointwise []
  rw [a, b, ← EReal.coe_sub]
theorem to_is (hx : Is o x X) (e : ∀ T c, X T c = Y T c) : Is o x Y := fun r c => (hx r c).trans (congrArg _ (e _ c))
end Ops

variable {B : Blocks} {D : Data} {n : ℕ} (H : Holds B D n)

include H

theorem gv_is : Is (512 * n) (gelT (wide B.v)) (gv D) := gel_is H.v
theorem gu_is : Is (512 * n) (gelT (wide B.u)) (gu D) := gel_is H.u
theorem lw_is : Is (512 * n) (lane B.lw) (fun _ c => D.lw c) := fun r c => H.lw r c
theorem lb_is : Is (512 * n) (lane B.lb) (fun _ c => D.lb c) := fun r c => H.lb r c

theorem centred_is : Is (512 * n) (centredT B) (centred D) := by
  refine to_is (sub_is (gv_is H) (mean_is H.avg (gv_is H))) fun T c => ?_
  unfold centred dev
  rw [head, col_hd_ln]

theorem scale_is : Is (512 * n) (scaleT B) (scale D) := by
  intro r c
  have hm := mean_is H.avg (mul_is (centred_is H) (centred_is H)) r c
  unfold scaleT
  generalize headMean (A B) (mulf (centredT B) (centredT B)) = a at hm ⊢
  pointwise []
  rw [hm, show Ideal.ofBits .f32 0x358637BD#32 = ((eps : ℝ) : EReal) from eps_eq.1, ← EReal.coe_add]
  have e : ∀ T, mean (head (fun T c => centred D T c * centred D T c) T (hd c)) + eps = spread (head (gv D) T (hd c)) := by
    intro T
    refine congrArg (fun f => mean f + eps) ?_
    funext p
    simp only [head, centred, hd_col, ln_col]
  rw [e, rsqrt_spread]
  rfl

theorem unit_is : Is (512 * n) (unitT B) (unit D) := mul_is (centred_is H) (scale_is H)
theorem normed_is : Is (512 * n) (normedT B) (normed D) := add_is (mul_is (unit_is H) (lw_is H)) (lb_is H)
theorem dgate_is : Is (512 * n) (dgateT B) (dgate D) := mul_is H.d (gu_is H)

theorem mixed_is : Is (512 * n) (mixedT B) (mixed D) := by
  intro r c
  unfold mixedT
  rw [rows_at]
  have hm := mixRow_is H.w (normed_is H) ⟨r.val / 128, by omega⟩ ⟨r.val % 128, by omega⟩ c
  have hb := H.bias ⟨r.val % 128, by omega⟩ c
  generalize mixRow B.w ⟨r.val / 128, by omega⟩ (normedT B) = a at hm ⊢
  generalize GateKernel.bias B = b at hb ⊢
  pointwise []
  rw [hm, hb, ← EReal.coe_add]
  have e1 : pos (512 * n + r.val) = ⟨r.val % 128, by omega⟩ := Fin.ext (by simp only [pos]; omega)
  have e2 : ∀ s : Fin 128, mate (512 * n + r.val) s = 512 * n + 128 * (r.val / 128) + s.val := fun s => by simp only [mate]; omega
  simp only [mixed, e1, e2]

theorem dnormed_is : Is (512 * n) (dnormedT B) (dnormed D) := by
  intro r c
  unfold dnormedT
  rw [rows_at, mixRow_is H.wt (dgate_is H) ⟨r.val / 128, by omega⟩ ⟨r.val % 128, by omega⟩ c]
  have e1 : pos (512 * n + r.val) = ⟨r.val % 128, by omega⟩ := Fin.ext (by simp only [pos]; omega)
  have e2 : ∀ s : Fin 128, mate (512 * n + r.val) s = 512 * n + 128 * (r.val / 128) + s.val := fun s => by simp only [mate]; omega
  simp only [dnormed, e1, e2]

theorem du_is (r c : Fin 512) : duT B (ix2 r c) = ((du D (512 * n + r.val) c : ℝ) : EReal) := by
  have h := mul_is (mul_is H.d (mixed_is H)) (slope_is H.u) r c
  unfold duT
  generalize mulf (mulf (wide B.d) (mixedT B)) (slopeT (wide B.u)) = a at h ⊢
  pointwise []
  rw [h]
  rfl

theorem dhat_is : Is (512 * n) (dhatT B) (dhat D) := mul_is (dnormed_is H) (lw_is H)

theorem dgv_is : Is (512 * n) (dgvT B) (dgv D) := by
  refine to_is (mul_is (scale_is H) (sub_is (sub_is (dhat_is H) (mean_is H.avg (dhat_is H)))
    (mul_is (unit_is H) (mean_is H.avg (mul_is (dhat_is H) (unit_is H)))))) fun T c => ?_
  unfold dgv back scale unit
  have e1 : dhat D T c = head (dhat D) T (hd c) (ln c) := by rw [head, col_hd_ln]
  have e2 : head (fun T c => dhat D T c * hat (head (gv D) T (hd c)) (ln c)) T (hd c)
      = fun q => head (dhat D) T (hd c) q * hat (head (gv D) T (hd c)) q := by
    funext q
    simp only [head, hd_col, ln_col]
  rw [e2, e1]

theorem dv_is (r c : Fin 512) : dvT B (ix2 r c) = ((dv D (512 * n + r.val) c : ℝ) : EReal) := by
  have h := mul_is (dgv_is H) (slope_is H.v) r c
  unfold dvT
  generalize mulf (dgvT B) (slopeT (wide B.v)) = a at h ⊢
  pointwise []
  rw [h]
  rfl

theorem dw_is (h : Fin 8) (t s : Fin 128) :
    dwT B h (ix2 t s) = ((∑ k : Fin 4, dwAt D (4 * n + k.val) h t s : ℝ) : EReal) := by
  have key : ∀ r : Fin 4, outer (if h.val % 2 = 0 then k0_pay17 (F := Ideal) else k0_pay18 (F := Ideal)) r ⟨h.val / 2, by omega⟩
      (dgateT B) (normedT B) (ix2 t s) = ((dwAt D (4 * n + r.val) h t s : ℝ) : EReal) := by
    intro r
    rw [outer_is _ (h.val % 2) (by omega) (fun q => ?_) (dgate_is H) (normed_is H)]
    · unfold dwAt
      have e1 : (⟨2 * (h.val / 2) + h.val % 2, by omega⟩ : Fin 8) = h := Fin.ext (by simp only; omega)
      have e2 : 128 * (4 * n + r.val) = 512 * n + 128 * r.val := by omega
      simp only [e1, e2]
    · split
      · rename_i hh; rw [low_mask, hh]
      · rename_i hh; rw [high_mask, show h.val % 2 = 1 by omega]
  have k0 := key 0
  have k1 := key 1
  have k2 := key 2
  have k3 := key 3
  unfold dwT outers
  generalize outer _ 0 _ _ _ = a0 at k0 ⊢
  generalize outer _ 1 _ _ _ = a1 at k1 ⊢
  generalize outer _ 2 _ _ _ = a2 at k2 ⊢
  generalize outer _ 3 _ _ _ = a3 at k3 ⊢
  pointwise []
  rw [k0, k1, k2, k3, ← EReal.coe_add, ← EReal.coe_add, ← EReal.coe_add, Fin.sum_univ_four]

theorem db_is (t c : Fin 128) :
    dbT B (ix2 t c) = ((∑ k : Fin 4, (if h : c.val < 8 then dbAt D (4 * n + k.val) t ⟨c.val, h⟩ else 0) : ℝ) : EReal) := by
  have key : ∀ r : Fin 4, heads (E B) r (dgateT B) (ix2 t c)
      = (((if h : c.val < 8 then dbAt D (4 * n + r.val) t ⟨c.val, h⟩ else 0 : ℝ)) : EReal) := by
    intro r
    rw [heads_is H.ex (dgate_is H)]
    unfold dbAt
    have e2 : 128 * (4 * n + r.val) = 512 * n + 128 * r.val := by omega
    simp only [e2]
  have k0 := key 0
  have k1 := key 1
  have k2 := key 2
  have k3 := key 3
  unfold dbT
  generalize heads _ 0 _ = a0 at k0 ⊢
  generalize heads _ 1 _ = a1 at k1 ⊢
  generalize heads _ 2 _ = a2 at k2 ⊢
  generalize heads _ 3 _ = a3 at k3 ⊢
  pointwise []
  rw [k0, k1, k2, k3, ← EReal.coe_add, ← EReal.coe_add, ← EReal.coe_add, Fin.sum_univ_four]

theorem dlw_is (c : Fin 512) : colSum (mulf (dnormedT B) (unitT B)) (ix2 0 c)
    = ((∑ r : Fin 512, dnormed D (512 * n + r.val) c * unit D (512 * n + r.val) c : ℝ) : EReal) :=
  colSum_is (mul_is (dnormed_is H) (unit_is H)) c

theorem dlb_is (c : Fin 512) : colSum (dnormedT B) (ix2 0 c) = ((∑ r : Fin 512, dnormed D (512 * n + r.val) c : ℝ) : EReal) :=
  colSum_is (dnormed_is H) c

end Cert.GateReal

end
-- ==== Proof.GateWords.lean ====
/-
  What a grid point of `gmlp_bwd` leaves in its blocks, read off the body's run: the values of `GateKernel`.
-/
module

public import proofs.«01_k».proof.Defs
public import proofs.«01_k».proof.Proof.GateKernel
public import proofs.«01_k».proof.Proof.Gen.GmlpIdeal.Value
public import Idealize.ShloMosaic.Lib.Pipeline.ValueKit
public import Idealize.ShloMosaic.Lib.Pipeline.ValueKit.Stack

@[expose] public section

set_option maxRecDepth 16384

noncomputable section

namespace Cert.GateWords

open Cert.GmlpIdeal Cert.GmlpIdeal.Gen Cert.GateKernel Idealize.ShloMosaic Idealize.SL.Sem

theorem whole {sp : Space} {S : Shape} {e : EltTy} {a : Memref sig .tc sp S e} (h : a.IsWhole) {off : Fin S.rank → Nat}
    (inb : ∀ i, off i + S.size i ≤ S.size i) (x : S.Idx → Elt Ideal e) (h0 : ∀ i, off i = 0) :
    View.readAt (Elt Ideal) a.view (Rect.unit off S.size inb).toLoadRect (h.unread x) = x := by
  rw [View.readAt_eq_ld, Memref.IsWhole.read_unread, View.ld_unit_lit' _ _ h0]

section Words

variable (c : Dev nD)
  (a1 : Memref sig .tc .vmem S512x512 .bf16) (h1 : a1.IsWhole) (x0 : Vec Ideal S512x512 .bf16)
  (a2 : Memref sig .tc .vmem S512x512 .bf16) (h2 : a2.IsWhole) (x1 : Vec Ideal S512x512 .bf16)
  (a3 : Memref sig .tc .vmem S512x512 .bf16) (h3 : a3.IsWhole) (x2 : Vec Ideal S512x512 .bf16)
  (a4 : Memref sig .tc .vmem S1x512 .f32) (h4 : a4.IsWhole) (x3 : Vec Ideal S1x512 .f32)
  (a5 : Memref sig .tc .vmem S1x512 .f32) (h5 : a5.IsWhole) (x4 : Vec Ideal S1x512 .f32)
  (a6 : Memref sig .tc .vmem S4x128x256 .bf16) (h6 : a6.IsWhole) (x5 : Vec Ideal S4x128x256 .bf16)
  (a7 : Memref sig .tc .vmem S4x128x256 .bf16) (h7 : a7.IsWhole) (x6 : Vec Ideal S4x128x256 .bf16)
  (a8 : Memref sig .tc .vmem S128x512 .f32) (h8 : a8.IsWhole) (x7 : Vec Ideal S128x512 .f32)
  (a9 : Memref sig .tc .vmem S256x256 .bf16) (h9 : a9.IsWhole) (x8 : Vec Ideal S256x256 .bf16)
  (a10 : Memref sig .tc .vmem S512x128 .bf16) (h10 : a10.IsWhole) (x9 : Vec Ideal S512x128 .bf16)

/-- The ten input blocks, as the body loads them. -/
def got : Blocks where
  d := View.readAt (Elt Ideal) a1.view (Rect.unit ![0, 0] S512x512.size inb_S512x512_S512x512_0_0).toLoadRect (h1.unread x0)
  u := View.readAt (Elt Ideal) a2.view (Rect.unit ![0, 0] S512x512.size inb_S512x512_S512x512_0_0).toLoadRect (h2.unread x1)
  v := View.readAt (Elt Ideal) a3.view (Rect.unit ![0, 0] S512x512.size inb_S512x512_S512x512_0_0).toLoadRect (h3.unread x2)
  lw := View.readAt (Elt Ideal) a4.view (Rect.unit ![0, 0] S1x512.size inb_S1x512_S1x512_0_0).toLoadRect (h4.unread x3)
  lb := View.readAt (Elt Ideal) a5.view (Rect.unit ![0, 0] S1x512.size inb_S1x512_S1x512_0_0).toLoadRect (h5.unread x4)
  w := a6.view.read (Elt Ideal) (h6.unread x5)
  wt := a7.view.read (Elt Ideal) (h7.unread x6)
  bias := View.readAt (Elt Ideal) a8.view (Rect.unit ![0, 0] S128x512.size inb_S128x512_S128x512_0_0).toLoadRect (h8.unread x7)
  avg := View.readAt (Elt Ideal) a9.view (Rect.unit ![0, 0] S256x256.size inb_S256x256_S256x256_0_0).toLoadRect (h9.unread x8)
  ex := View.readAt (Elt Ideal) a10.view (Rect.unit ![0, 0] S512x128.size inb_S512x128_S512x128_0_0).toLoadRect (h10.unread x9)

theorem got_eq : got a1 h1 x0 a2 h2 x1 a3 h3 x2 a4 h4 x3 a5 h5 x4 a6 h6 x5 a7 h7 x6 a8 h8 x7 a9 h9 x8 a10 h10 x9 = ⟨x0, x1, x2, x3, x4, x5, x6, x7, x8, x9⟩ := by
  unfold got
  rw [Memref.IsWhole.read_unread, Memref.IsWhole.read_unread, whole h1 _ _ (by decide), whole h2 _ _ (by decide), whole h3 _ _ (by decide), whole h4 _ _ (by decide), whole h5 _ _ (by decide), whole h8 _ _ (by decide), whole h9 _ _ (by decide), whole h10 _ _ (by decide)]

theorem first_v102 : kernelRun0_A.sl.v102 (F := Ideal) c a3 h3 a9 h9 x2 x8 = centredT (got a1 h1 x0 a2 h2 x1 a3 h3 x2 a4 h4 x3 a5 h5 x4 a6 h6 x5 a7 h7 x6 a8 h8 x7 a9 h9 x8 a10 h10 x9) := rfl
theorem first_v123 : kernelRun0_A.sl.v123 (F := Ideal) c a3 h3 a9 h9 x2 x8 = scaleT (got a1 h1 x0 a2 h2 x1 a3 h3 x2 a4 h4 x3 a5 h5 x4 a6 h6 x5 a7 h7 x6 a8 h8 x7 a9 h9 x8 a10 h10 x9) := by
  have h : kernelRun0_A.sl.v123 (F := Ideal) c a3 h3 a9 h9 x2 x8 = rsqrt (addf (headMean (A (got a1 h1 x0 a2 h2 x1 a3 h3 x2 a4 h4 x3 a5 h5 x4 a6 h6 x5 a7 h7 x6 a8 h8 x7 a9 h9 x8 a10 h10 x9)) (mulf (kernelRun0_A.sl.v102 (F := Ideal) c a3 h3 a9 h9 x2 x8) (kernelRun0_A.sl.v102 (F := Ideal) c a3 h3 a9 h9 x2 x8))) (broadcast S512x512 (Scalar.ofBits .f32 0x358637BD#32))) := rfl
  rw [h, first_v102 c a1 h1 x0 a2 h2 x1 a3 h3 x2 a4 h4 x3 a5 h5 x4 a6 h6 x5 a7 h7 x6 a8 h8 x7 a9 h9 x8 a10 h10 x9]
  rfl
theorem first_v124 : kernelRun0_A.sl.v124 (F := Ideal) c a3 h3 a9 h9 x2 x8 = unitT (got a1 h1 x0 a2 h2 x1 a3 h3 x2 a4 h4 x3 a5 h5 x4 a6 h6 x5 a7 h7 x6 a8 h8 x7 a9 h9 x8 a10 h10 x9) := by
  have h : kernelRun0_A.sl.v124 (F := Ideal) c a3 h3 a9 h9 x2 x8 = mulf (kernelRun0_A.sl.v102 (F := Ideal) c a3 h3 a9 h9 x2 x8) (kernelRun0_A.sl.v123 (F := Ideal) c a3 h3 a9 h9 x2 x8) := rfl
  rw [h, first_v102 c a1 h1 x0 a2 h2 x1 a3 h3 x2 a4 h4 x3 a5 h5 x4 a6 h6 x5 a7 h7 x6 a8 h8 x7 a9 h9 x8 a10 h10 x9, first_v123 c a1 h1 x0 a2 h2 x1 a3 h3 x2 a4 h4 x3 a5 h5 x4 a6 h6 x5 a7 h7 x6 a8 h8 x7 a9 h9 x8 a10 h10 x9]
  rfl
theorem first_v128 : kernelRun0_A.sl.v128 (F := Ideal) c a3 h3 a4 h4 a5 h5 a9 h9 x2 x3 x4 x8 = normedT (got a1 h1 x0 a2 h2 x1 a3 h3 x2 a4 h4 x3 a5 h5 x4 a6 h6 x5 a7 h7 x6 a8 h8 x7 a9 h9 x8 a10 h10 x9) := by
  have h : kernelRun0_A.sl.v128 (F := Ideal) c a3 h3 a4 h4 a5 h5 a9 h9 x2 x3 x4 x8 = addf (mulf (kernelRun0_A.sl.v124 (F := Ideal) c a3 h3 a9 h9 x2 x8) (lane (got a1 h1 x0 a2 h2 x1 a3 h3 x2 a4 h4 x3 a5 h5 x4 a6 h6 x5 a7 h7 x6 a8 h8 x7 a9 h9 x8 a10 h10 x9).lw)) (lane (got a1 h1 x0 a2 h2 x1 a3 h3 x2 a4 h4 x3 a5 h5 x4 a6 h6 x5 a7 h7 x6 a8 h8 x7 a9 h9 x8 a10 h10 x9).lb) := rfl
  rw [h, first_v124 c a1 h1 x0 a2 h2 x1 a3 h3 x2 a4 h4 x3 a5 h5 x4 a6 h6 x5 a7 h7 x6 a8 h8 x7 a9 h9 x8 a10 h10 x9]
  rfl
theorem first_v305 : kernelRun0_A.sl.v305 (F := Ideal) c a1 h1 a2 h2 x0 x1 = dgateT (got a1 h1 x0 a2 h2 x1 a3 h3 x2 a4 h4 x3 a5 h5 x4 a6 h6 x5 a7 h7 x6 a8 h8 x7 a9 h9 x8 a10 h10 x9) := rfl
theorem first_v297 : kernelRun0_A.sl.v297 (F := Ideal) c a3 h3 a4 h4 a5 h5 a6 h6 a8 h8 a9 h9 x2 x3 x4 x5 x7 x8 = mixedT (got a1 h1 x0 a2 h2 x1 a3 h3 x2 a4 h4 x3 a5 h5 x4 a6 h6 x5 a7 h7 x6 a8 h8 x7 a9 h9 x8 a10 h10 x9) := by
  have h : kernelRun0_A.sl.v297 (F := Ideal) c a3 h3 a4 h4 a5 h5 a6 h6 a8 h8 a9 h9 x2 x3 x4 x5 x7 x8 = rows fun r => addf (mixRow (got a1 h1 x0 a2 h2 x1 a3 h3 x2 a4 h4 x3 a5 h5 x4 a6 h6 x5 a7 h7 x6 a8 h8 x7 a9 h9 x8 a10 h10 x9).w r (kernelRun0_A.sl.v128 (F := Ideal) c a3 h3 a4 h4 a5 h5 a9 h9 x2 x3 x4 x8)) (bias (got a1 h1 x0 a2 h2 x1 a3 h3 x2 a4 h4 x3 a5 h5 x4 a6 h6 x5 a7 h7 x6 a8 h8 x7 a9 h9 x8 a10 h10 x9)) := rfl
  rw [h, first_v128 c a1 h1 x0 a2 h2 x1 a3 h3 x2 a4 h4 x3 a5 h5 x4 a6 h6 x5 a7 h7 x6 a8 h8 x7 a9 h9 x8 a10 h10 x9]
  rfl
theorem first_v303 : kernelRun0_A.sl.v303 (F := Ideal) c a1 h1 a2 h2 a3 h3 a4 h4 a5 h5 a6 h6 a8 h8 a9 h9 x0 x1 x2 x3 x4 x5 x7 x8 = duT (got a1 h1 x0 a2 h2 x1 a3 h3 x2 a4 h4 x3 a5 h5 x4 a6 h6 x5 a7 h7 x6 a8 h8 x7 a9 h9 x8 a10 h10 x9) := by
  have h : kernelRun0_A.sl.v303 (F := Ideal) c a1 h1 a2 h2 a3 h3 a4 h4 a5 h5 a6 h6 a8 h8 a9 h9 x0 x1 x2 x3 x4 x5 x7 x8 = truncf .bf16 (mulf (mulf (wide (got a1 h1 x0 a2 h2 x1 a3 h3 x2 a4 h4 x3 a5 h5 x4 a6 h6 x5 a7 h7 x6 a8 h8 x7 a9 h9 x8 a10 h10 x9).d) (kernelRun0_A.sl.v297 (F := Ideal) c a3 h3 a4 h4 a5 h5 a6 h6 a8 h8 a9 h9 x2 x3 x4 x5 x7 x8)) (slopeT (wide (got a1 h1 x0 a2 h2 x1 a3 h3 x2 a4 h4 x3 a5 h5 x4 a6 h6 x5 a7 h7 x6 a8 h8 x7 a9 h9 x8 a10 h10 x9).u))) bitsLt_bf16_f32 := rfl
  rw [h, first_v297 c a1 h1 x0 a2 h2 x1 a3 h3 x2 a4 h4 x3 a5 h5 x4 a6 h6 x5 a7 h7 x6 a8 h8 x7 a9 h9 x8 a10 h10 x9]
  rfl
theorem first_v697 : kernelRun0_A.sl.v697 (F := Ideal) c a1 h1 a2 h2 a7 h7 x0 x1 x6 = dnormedT (got a1 h1 x0 a2 h2 x1 a3 h3 x2 a4 h4 x3 a5 h5 x4 a6 h6 x5 a7 h7 x6 a8 h8 x7 a9 h9 x8 a10 h10 x9) := by
  have h : kernelRun0_A.sl.v697 (F := Ideal) c a1 h1 a2 h2 a7 h7 x0 x1 x6 = rows fun r => mixRow (got a1 h1 x0 a2 h2 x1 a3 h3 x2 a4 h4 x3 a5 h5 x4 a6 h6 x5 a7 h7 x6 a8 h8 x7 a9 h9 x8 a10 h10 x9).wt r (kernelRun0_A.sl.v305 (F := Ideal) c a1 h1 a2 h2 x0 x1) := rfl
  rw [h, first_v305 c a1 h1 x0 a2 h2 x1 a3 h3 x2 a4 h4 x3 a5 h5 x4 a6 h6 x5 a7 h7 x6 a8 h8 x7 a9 h9 x8 a10 h10 x9]
  rfl
theorem first_v84 : kernelRun0_A.sl.v84 (F := Ideal) c a3 h3 x2 = slopeT (wide (got a1 h1 x0 a2 h2 x1 a3 h3 x2 a4 h4 x3 a5 h5 x4 a6 h6 x5 a7 h7 x6 a8 h8 x7 a9 h9 x8 a10 h10 x9).v) := rfl
theorem first_v613 : kernelRun0_A.sl.v613 (F := Ideal) c a1 h1 a2 h2 a3 h3 a4 h4 a5 h5 a9 h9 x0 x1 x2 x3 x4 x8 = outers (k0_pay17 (F := Ideal)) 0 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v613 (F := Ideal) c a1 h1 a2 h2 a3 h3 a4 h4 a5 h5 a9 h9 x0 x1 x2 x3 x4 x8 = outers (k0_pay17 (F := Ideal)) 0 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v618 : kernelRun0_A.sl.v618 (F := Ideal) c a1 h1 a2 h2 a3 h3 a4 h4 a5 h5 a9 h9 x0 x1 x2 x3 x4 x8 = outers (k0_pay18 (F := Ideal)) 0 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v618 (F := Ideal) c a1 h1 a2 h2 a3 h3 a4 h4 a5 h5 a9 h9 x0 x1 x2 x3 x4 x8 = outers (k0_pay18 (F := Ideal)) 0 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v635 : kernelRun0_A.sl.v635 (F := Ideal) c a1 h1 a2 h2 a3 h3 a4 h4 a5 h5 a9 h9 x0 x1 x2 x3 x4 x8 = outers (k0_pay17 (F := Ideal)) 1 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v635 (F := Ideal) c a1 h1 a2 h2 a3 h3 a4 h4 a5 h5 a9 h9 x0 x1 x2 x3 x4 x8 = outers (k0_pay17 (F := Ideal)) 1 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v640 : kernelRun0_A.sl.v640 (F := Ideal) c a1 h1 a2 h2 a3 h3 a4 h4 a5 h5 a9 h9 x0 x1 x2 x3 x4 x8 = outers (k0_pay18 (F := Ideal)) 1 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v640 (F := Ideal) c a1 h1 a2 h2 a3 h3 a4 h4 a5 h5 a9 h9 x0 x1 x2 x3 x4 x8 = outers (k0_pay18 (F := Ideal)) 1 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v657 : kernelRun0_A.sl.v657 (F := Ideal) c a1 h1 a2 h2 a3 h3 a4 h4 a5 h5 a9 h9 x0 x1 x2 x3 x4 x8 = outers (k0_pay17 (F := Ideal)) 2 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v657 (F := Ideal) c a1 h1 a2 h2 a3 h3 a4 h4 a5 h5 a9 h9 x0 x1 x2 x3 x4 x8 = outers (k0_pay17 (F := Ideal)) 2 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v662 : kernelRun0_A.sl.v662 (F := Ideal) c a1 h1 a2 h2 a3 h3 a4 h4 a5 h5 a9 h9 x0 x1 x2 x3 x4 x8 = outers (k0_pay18 (F := Ideal)) 2 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v662 (F := Ideal) c a1 h1 a2 h2 a3 h3 a4 h4 a5 h5 a9 h9 x0 x1 x2 x3 x4 x8 = outers (k0_pay18 (F := Ideal)) 2 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v679 : kernelRun0_A.sl.v679 (F := Ideal) c a1 h1 a2 h2 a3 h3 a4 h4 a5 h5 a9 h9 x0 x1 x2 x3 x4 x8 = outers (k0_pay17 (F := Ideal)) 3 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v679 (F := Ideal) c a1 h1 a2 h2 a3 h3 a4 h4 a5 h5 a9 h9 x0 x1 x2 x3 x4 x8 = outers (k0_pay17 (F := Ideal)) 3 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v684 : kernelRun0_A.sl.v684 (F := Ideal) c a1 h1 a2 h2 a3 h3 a4 h4 a5 h5 a9 h9 x0 x1 x2 x3 x4 x8 = outers (k0_pay18 (F := Ideal)) 3 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) := by
  have h : kernelRun0_A.sl.v684 (F := Ideal) c a1 h1 a2 h2 a3 h3 a4 h4 a5 h5 a9 h9 x0 x1 x2 x3 x4 x8 = outers (k0_pay18 (F := Ideal)) 3 (kernelRun0_A.sl.v305 (F := Ideal) c a1 h1 a2 h2 x0 x1) (kernelRun0_A.sl.v128 (F := Ideal) c a3 h3 a4 h4 a5 h5 a9 h9 x2 x3 x4 x8) := rfl
  rw [h, first_v305 c a1 h1 x0 a2 h2 x1 a3 h3 x2 a4 h4 x3 a5 h5 x4 a6 h6 x5 a7 h7 x6 a8 h8 x7 a9 h9 x8 a10 h10 x9, first_v128 c a1 h1 x0 a2 h2 x1 a3 h3 x2 a4 h4 x3 a5 h5 x4 a6 h6 x5 a7 h7 x6 a8 h8 x7 a9 h9 x8 a10 h10 x9]
theorem first_v696 : kernelRun0_A.sl.v696 (F := Ideal) c a1 h1 a2 h2 a10 h10 x0 x1 x9 = dbT (got a1 h1 x0 a2 h2 x1 a3 h3 x2 a4 h4 x3 a5 h5 x4 a6 h6 x5 a7 h7 x6 a8 h8 x7 a9 h9 x8 a10 h10 x9) := by
  have h : kernelRun0_A.sl.v696 (F := Ideal) c a1 h1 a2 h2 a10 h10 x0 x1 x9 = addf (addf (addf (heads (E (got a1 h1 x0 a2 h2 x1 a3 h3 x2 a4 h4 x3 a5 h5 x4 a6 h6 x5 a7 h7 x6 a8 h8 x7 a9 h9 x8 a10 h10 x9)) 0 (kernelRun0_A.sl.v305 (F := Ideal) c a1 h1 a2 h2 x0 x1)) (heads (E (got a1 h1 x0 a2 h2 x1 a3 h3 x2 a4 h4 x3 a5 h5 x4 a6 h6 x5 a7 h7 x6 a8 h8 x7 a9 h9 x8 a10 h10 x9)) 1 (kernelRun0_A.sl.v305 (F := Ideal) c a1 h1 a2 h2 x0 x1))) (heads (E (got a1 h1 x0 a2 h2 x1 a3 h3 x2 a4 h4 x3 a5 h5 x4 a6 h6 x5 a7 h7 x6 a8 h8 x7 a9 h9 x8 a10 h10 x9)) 2 (kernelRun0_A.sl.v305 (F := Ideal) c a1 h1 a2 h2 x0 x1))) (heads (E (got a1 h1 x0 a2 h2 x1 a3 h3 x2 a4 h4 x3 a5 h5 x4 a6 h6 x5 a7 h7 x6 a8 h8 x7 a9 h9 x8 a10 h10 x9)) 3 (kernelRun0_A.sl.v305 (F := Ideal) c a1 h1 a2 h2 x0 x1)) := rfl
  rw [h, first_v305 c a1 h1 x0 a2 h2 x1 a3 h3 x2 a4 h4 x3 a5 h5 x4 a6 h6 x5 a7 h7 x6 a8 h8 x7 a9 h9 x8 a10 h10 x9]
  rfl
theorem first_v717 : kernelRun0_A.sl.v717 (F := Ideal) c a1 h1 a2 h2 a4 h4 a7 h7 a9 h9 x0 x1 x3 x6 x8 = subf (dhatT (got a1 h1 x0 a2 h2 x1 a3 h3 x2 a4 h4 x3 a5 h5 x4 a6 h6 x5 a7 h7 x6 a8 h8 x7 a9 h9 x8 a10 h10 x9)) (headMean (A (got a1 h1 x0 a2 h2 x1 a3 h3 x2 a4 h4 x3 a5 h5 x4 a6 h6 x5 a7 h7 x6 a8 h8 x7 a9 h9 x8 a10 h10 x9)) (dhatT (got a1 h1 x0 a2 h2 x1 a3 h3 x2 a4 h4 x3 a5 h5 x4 a6 h6 x5 a7 h7 x6 a8 h8 x7 a9 h9 x8 a10 h10 x9))) := by
  have h : kernelRun0_A.sl.v717 (F := Ideal) c a1 h1 a2 h2 a4 h4 a7 h7 a9 h9 x0 x1 x3 x6 x8 = subf (mulf (kernelRun0_A.sl.v697 (F := Ideal) c a1 h1 a2 h2 a7 h7 x0 x1 x6) (lane (got a1 h1 x0 a2 h2 x1 a3 h3 x2 a4 h4 x3 a5 h5 x4 a6 h6 x5 a7 h7 x6 a8 h8 x7 a9 h9 x8 a10 h10 x9).lw)) (headMean (A (got a1 h1 x0 a2 h2 x1 a3 h3 x2 a4 h4 x3 a5 h5 x4 a6 h6 x5 a7 h7 x6 a8 h8 x7 a9 h9 x8 a10 h10 x9)) (mulf (kernelRun0_A.sl.v697 (F := Ideal) c a1 h1 a2 h2 a7 h7 x0 x1 x6) (lane (got a1 h1 x0 a2 h2 x1 a3 h3 x2 a4 h4 x3 a5 h5 x4 a6 h6 x5 a7 h7 x6 a8 h8 x7 a9 h9 x8 a10 h10 x9).lw))) := rfl
  rw [h, first_v697 c a1 h1 x0 a2 h2 x1 a3 h3 x2 a4 h4 x3 a5 h5 x4 a6 h6 x5 a7 h7 x6 a8 h8 x7 a9 h9 x8 a10 h10 x9]
  rfl
theorem first_v718 : kernelRun0_A.sl.v718 (F := Ideal) c a1 h1 a2 h2 a3 h3 a4 h4 a7 h7 a9 h9 x0 x1 x2 x3 x6 x8 = mulf (dhatT (got a1 h1 x0 a2 h2 x1 a3 h3 x2 a4 h4 x3 a5 h5 x4 a6 h6 x5 a7 h7 x6 a8 h8 x7 a9 h9 x8 a10 h10 x9)) (unitT (got a1 h1 x0 a2 h2 x1 a3 h3 x2 a4 h4 x3 a5 h5 x4 a6 h6 x5 a7 h7 x6 a8 h8 x7 a9 h9 x8 a10 h10 x9)) := by
  have h : kernelRun0_A.sl.v718 (F := Ideal) c a1 h1 a2 h2 a3 h3 a4 h4 a7 h7 a9 h9 x0 x1 x2 x3 x6 x8 = mulf (mulf (kernelRun0_A.sl.v697 (F := Ideal) c a1 h1 a2 h2 a7 h7 x0 x1 x6) (lane (got a1 h1 x0 a2 h2 x1 a3 h3 x2 a4 h4 x3 a5 h5 x4 a6 h6 x5 a7 h7 x6 a8 h8 x7 a9 h9 x8 a10 h10 x9).lw)) (kernelRun0_A.sl.v124 (F := Ideal) c a3 h3 a9 h9 x2 x8) := rfl
  rw [h, first_v697 c a1 h1 x0 a2 h2 x1 a3 h3 x2 a4 h4 x3 a5 h5 x4 a6 h6 x5 a7 h7 x6 a8 h8 x7 a9 h9 x8 a10 h10 x9, first_v124 c a1 h1 x0 a2 h2 x1 a3 h3 x2 a4 h4 x3 a5 h5 x4 a6 h6 x5 a7 h7 x6 a8 h8 x7 a9 h9 x8 a10 h10 x9]
  rfl
theorem first_DV : k0_pay151 (kernelRun0_A.sl.r (F := Ideal) c a9 h9 x8) (kernelRun0_A.sl.v84 (F := Ideal) c a3 h3 x2) (kernelRun0_A.sl.v123 (F := Ideal) c a3 h3 a9 h9 x2 x8) (kernelRun0_A.sl.v124 (F := Ideal) c a3 h3 a9 h9 x2 x8) (kernelRun0_A.sl.v717 (F := Ideal) c a1 h1 a2 h2 a4 h4 a7 h7 a9 h9 x0 x1 x3 x6 x8) (kernelRun0_A.sl.v718 (F := Ideal) c a1 h1 a2 h2 a3 h3 a4 h4 a7 h7 a9 h9 x0 x1 x2 x3 x6 x8) (kernelRun0_A.sl.v726 (F := Ideal) c a1 h1 a2 h2 a3 h3 a4 h4 a7 h7 a9 h9 x0 x1 x2 x3 x6 x8) = dvT (got a1 h1 x0 a2 h2 x1 a3 h3 x2 a4 h4 x3 a5 h5 x4 a6 h6 x5 a7 h7 x6 a8 h8 x7 a9 h9 x8 a10 h10 x9) := by
  have h : k0_pay151 (kernelRun0_A.sl.r (F := Ideal) c a9 h9 x8) (kernelRun0_A.sl.v84 (F := Ideal) c a3 h3 x2) (kernelRun0_A.sl.v123 (F := Ideal) c a3 h3 a9 h9 x2 x8) (kernelRun0_A.sl.v124 (F := Ideal) c a3 h3 a9 h9 x2 x8) (kernelRun0_A.sl.v717 (F := Ideal) c a1 h1 a2 h2 a4 h4 a7 h7 a9 h9 x0 x1 x3 x6 x8) (kernelRun0_A.sl.v718 (F := Ideal) c a1 h1 a2 h2 a3 h3 a4 h4 a7 h7 a9 h9 x0 x1 x2 x3 x6 x8) (kernelRun0_A.sl.v726 (F := Ideal) c a1 h1 a2 h2 a3 h3 a4 h4 a7 h7 a9 h9 x0 x1 x2 x3 x6 x8) = truncf .bf16 (mulf (mulf (kernelRun0_A.sl.v123 (F := Ideal) c a3 h3 a9 h9 x2 x8) (subf (kernelRun0_A.sl.v717 (F := Ideal) c a1 h1 a2 h2 a4 h4 a7 h7 a9 h9 x0 x1 x3 x6 x8) (mulf (kernelRun0_A.sl.v124 (F := Ideal) c a3 h3 a9 h9 x2 x8) (headMean (A (got a1 h1 x0 a2 h2 x1 a3 h3 x2 a4 h4 x3 a5 h5 x4 a6 h6 x5 a7 h7 x6 a8 h8 x7 a9 h9 x8 a10 h10 x9)) (kernelRun0_A.sl.v718 (F := Ideal) c a1 h1 a2 h2 a3 h3 a4 h4 a7 h7 a9 h9 x0 x1 x2 x3 x6 x8))))) (kernelRun0_A.sl.v84 (F := Ideal) c a3 h3 x2)) bitsLt_bf16_f32 := rfl
  rw [h, first_v123 c a1 h1 x0 a2 h2 x1 a3 h3 x2 a4 h4 x3 a5 h5 x4 a6 h6 x5 a7 h7 x6 a8 h8 x7 a9 h9 x8 a10 h10 x9, first_v717 c a1 h1 x0 a2 h2 x1 a3 h3 x2 a4 h4 x3 a5 h5 x4 a6 h6 x5 a7 h7 x6 a8 h8 x7 a9 h9 x8 a10 h10 x9, first_v124 c a1 h1 x0 a2 h2 x1 a3 h3 x2 a4 h4 x3 a5 h5 x4 a6 h6 x5 a7 h7 x6 a8 h8 x7 a9 h9 x8 a10 h10 x9, first_v718 c a1 h1 x0 a2 h2 x1 a3 h3 x2 a4 h4 x3 a5 h5 x4 a6 h6 x5 a7 h7 x6 a8 h8 x7 a9 h9 x8 a10 h10 x9, first_v84 c a1 h1 x0 a2 h2 x1 a3 h3 x2 a4 h4 x3 a5 h5 x4 a6 h6 x5 a7 h7 x6 a8 h8 x7 a9 h9 x8 a10 h10 x9]
  rfl
theorem first_DLW : k0_pay157 (kernelRun0_A.sl.v124 (F := Ideal) c a3 h3 a9 h9 x2 x8) (kernelRun0_A.sl.v697 (F := Ideal) c a1 h1 a2 h2 a7 h7 x0 x1 x6) = colSum (mulf (dnormedT (got a1 h1 x0 a2 h2 x1 a3 h3 x2 a4 h4 x3 a5 h5 x4 a6 h6 x5 a7 h7 x6 a8 h8 x7 a9 h9 x8 a10 h10 x9)) (unitT (got a1 h1 x0 a2 h2 x1 a3 h3 x2 a4 h4 x3 a5 h5 x4 a6 h6 x5 a7 h7 x6 a8 h8 x7 a9 h9 x8 a10 h10 x9))) := by
  have h : k0_pay157 (kernelRun0_A.sl.v124 (F := Ideal) c a3 h3 a9 h9 x2 x8) (kernelRun0_A.sl.v697 (F := Ideal) c a1 h1 a2 h2 a7 h7 x0 x1 x6) = colSum (mulf (kernelRun0_A.sl.v697 (F := Ideal) c a1 h1 a2 h2 a7 h7 x0 x1 x6) (kernelRun0_A.sl.v124 (F := Ideal) c a3 h3 a9 h9 x2 x8)) := rfl
  rw [h, first_v697 c a1 h1 x0 a2 h2 x1 a3 h3 x2 a4 h4 x3 a5 h5 x4 a6 h6 x5 a7 h7 x6 a8 h8 x7 a9 h9 x8 a10 h10 x9, first_v124 c a1 h1 x0 a2 h2 x1 a3 h3 x2 a4 h4 x3 a5 h5 x4 a6 h6 x5 a7 h7 x6 a8 h8 x7 a9 h9 x8 a10 h10 x9]
theorem first_DLB : k0_pay2 (kernelRun0_A.sl.v697 (F := Ideal) c a1 h1 a2 h2 a7 h7 x0 x1 x6) = colSum (dnormedT (got a1 h1 x0 a2 h2 x1 a3 h3 x2 a4 h4 x3 a5 h5 x4 a6 h6 x5 a7 h7 x6 a8 h8 x7 a9 h9 x8 a10 h10 x9)) := by
  have h : k0_pay2 (kernelRun0_A.sl.v697 (F := Ideal) c a1 h1 a2 h2 a7 h7 x0 x1 x6) = colSum (kernelRun0_A.sl.v697 (F := Ideal) c a1 h1 a2 h2 a7 h7 x0 x1 x6) := rfl
  rw [h, first_v697 c a1 h1 x0 a2 h2 x1 a3 h3 x2 a4 h4 x3 a5 h5 x4 a6 h6 x5 a7 h7 x6 a8 h8 x7 a9 h9 x8 a10 h10 x9]
theorem next_v123 : kernelRun0_B.sl.v123 (F := Ideal) c a3 h3 a9 h9 x2 x8 = scaleT (got a1 h1 x0 a2 h2 x1 a3 h3 x2 a4 h4 x3 a5 h5 x4 a6 h6 x5 a7 h7 x6 a8 h8 x7 a9 h9 x8 a10 h10 x9) :=
  first_v123 c a1 h1 x0 a2 h2 x1 a3 h3 x2 a4 h4 x3 a5 h5 x4 a6 h6 x5 a7 h7 x6 a8 h8 x7 a9 h9 x8 a10 h10 x9
theorem next_v124 : kernelRun0_B.sl.v124 (F := Ideal) c a3 h3 a9 h9 x2 x8 = unitT (got a1 h1 x0 a2 h2 x1 a3 h3 x2 a4 h4 x3 a5 h5 x4 a6 h6 x5 a7 h7 x6 a8 h8 x7 a9 h9 x8 a10 h10 x9) :=
  first_v124 c a1 h1 x0 a2 h2 x1 a3 h3 x2 a4 h4 x3 a5 h5 x4 a6 h6 x5 a7 h7 x6 a8 h8 x7 a9 h9 x8 a10 h10 x9
theorem next_v303 : kernelRun0_B.sl.v303 (F := Ideal) c a1 h1 a2 h2 a3 h3 a4 h4 a5 h5 a6 h6 a8 h8 a9 h9 x0 x1 x2 x3 x4 x5 x7 x8 = duT (got a1 h1 x0 a2 h2 x1 a3 h3 x2 a4 h4 x3 a5 h5 x4 a6 h6 x5 a7 h7 x6 a8 h8 x7 a9 h9 x8 a10 h10 x9) :=
  first_v303 c a1 h1 x0 a2 h2 x1 a3 h3 x2 a4 h4 x3 a5 h5 x4 a6 h6 x5 a7 h7 x6 a8 h8 x7 a9 h9 x8 a10 h10 x9
theorem next_v697 : kernelRun0_B.sl.v697 (F := Ideal) c a1 h1 a2 h2 a7 h7 x0 x1 x6 = dnormedT (got a1 h1 x0 a2 h2 x1 a3 h3 x2 a4 h4 x3 a5 h5 x4 a6 h6 x5 a7 h7 x6 a8 h8 x7 a9 h9 x8 a10 h10 x9) :=
  first_v697 c a1 h1 x0 a2 h2 x1 a3 h3 x2 a4 h4 x3 a5 h5 x4 a6 h6 x5 a7 h7 x6 a8 h8 x7 a9 h9 x8 a10 h10 x9
theorem next_v84 : kernelRun0_B.sl.v84 (F := Ideal) c a3 h3 x2 = slopeT (wide (got a1 h1 x0 a2 h2 x1 a3 h3 x2 a4 h4 x3 a5 h5 x4 a6 h6 x5 a7 h7 x6 a8 h8 x7 a9 h9 x8 a10 h10 x9).v) :=
  first_v84 c a1 h1 x0 a2 h2 x1 a3 h3 x2 a4 h4 x3 a5 h5 x4 a6 h6 x5 a7 h7 x6 a8 h8 x7 a9 h9 x8 a10 h10 x9
theorem next_v613 : kernelRun0_B.sl.v613 (F := Ideal) c a1 h1 a2 h2 a3 h3 a4 h4 a5 h5 a9 h9 x0 x1 x2 x3 x4 x8 = outers (k0_pay17 (F := Ideal)) 0 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v613 c a1 h1 x0 a2 h2 x1 a3 h3 x2 a4 h4 x3 a5 h5 x4 a6 h6 x5 a7 h7 x6 a8 h8 x7 a9 h9 x8 a10 h10 x9
theorem next_v618 : kernelRun0_B.sl.v618 (F := Ideal) c a1 h1 a2 h2 a3 h3 a4 h4 a5 h5 a9 h9 x0 x1 x2 x3 x4 x8 = outers (k0_pay18 (F := Ideal)) 0 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v618 c a1 h1 x0 a2 h2 x1 a3 h3 x2 a4 h4 x3 a5 h5 x4 a6 h6 x5 a7 h7 x6 a8 h8 x7 a9 h9 x8 a10 h10 x9
theorem next_v635 : kernelRun0_B.sl.v635 (F := Ideal) c a1 h1 a2 h2 a3 h3 a4 h4 a5 h5 a9 h9 x0 x1 x2 x3 x4 x8 = outers (k0_pay17 (F := Ideal)) 1 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v635 c a1 h1 x0 a2 h2 x1 a3 h3 x2 a4 h4 x3 a5 h5 x4 a6 h6 x5 a7 h7 x6 a8 h8 x7 a9 h9 x8 a10 h10 x9
theorem next_v640 : kernelRun0_B.sl.v640 (F := Ideal) c a1 h1 a2 h2 a3 h3 a4 h4 a5 h5 a9 h9 x0 x1 x2 x3 x4 x8 = outers (k0_pay18 (F := Ideal)) 1 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v640 c a1 h1 x0 a2 h2 x1 a3 h3 x2 a4 h4 x3 a5 h5 x4 a6 h6 x5 a7 h7 x6 a8 h8 x7 a9 h9 x8 a10 h10 x9
theorem next_v657 : kernelRun0_B.sl.v657 (F := Ideal) c a1 h1 a2 h2 a3 h3 a4 h4 a5 h5 a9 h9 x0 x1 x2 x3 x4 x8 = outers (k0_pay17 (F := Ideal)) 2 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v657 c a1 h1 x0 a2 h2 x1 a3 h3 x2 a4 h4 x3 a5 h5 x4 a6 h6 x5 a7 h7 x6 a8 h8 x7 a9 h9 x8 a10 h10 x9
theorem next_v662 : kernelRun0_B.sl.v662 (F := Ideal) c a1 h1 a2 h2 a3 h3 a4 h4 a5 h5 a9 h9 x0 x1 x2 x3 x4 x8 = outers (k0_pay18 (F := Ideal)) 2 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v662 c a1 h1 x0 a2 h2 x1 a3 h3 x2 a4 h4 x3 a5 h5 x4 a6 h6 x5 a7 h7 x6 a8 h8 x7 a9 h9 x8 a10 h10 x9
theorem next_v679 : kernelRun0_B.sl.v679 (F := Ideal) c a1 h1 a2 h2 a3 h3 a4 h4 a5 h5 a9 h9 x0 x1 x2 x3 x4 x8 = outers (k0_pay17 (F := Ideal)) 3 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v679 c a1 h1 x0 a2 h2 x1 a3 h3 x2 a4 h4 x3 a5 h5 x4 a6 h6 x5 a7 h7 x6 a8 h8 x7 a9 h9 x8 a10 h10 x9
theorem next_v684 : kernelRun0_B.sl.v684 (F := Ideal) c a1 h1 a2 h2 a3 h3 a4 h4 a5 h5 a9 h9 x0 x1 x2 x3 x4 x8 = outers (k0_pay18 (F := Ideal)) 3 (dgateT (got a1 h1 x0 a2 h2 x1 a3 h3 x2 a4 h4 x3 a5 h5 x4 a6 h6 x5 a7 h7 x6 a8 h8 x7 a9 h9 x8 a10 h10 x9)) (normedT (got a1 h1 x0 a2 h2 x1 a3 h3 x2 a4 h4 x3 a5 h5 x4 a6 h6 x5 a7 h7 x6 a8 h8 x7 a9 h9 x8 a10 h10 x9)) :=
  first_v684 c a1 h1 x0 a2 h2 x1 a3 h3 x2 a4 h4 x3 a5 h5 x4 a6 h6 x5 a7 h7 x6 a8 h8 x7 a9 h9 x8 a10 h10 x9
theorem next_v696 : kernelRun0_B.sl.v696 (F := Ideal) c a1 h1 a2 h2 a10 h10 x0 x1 x9 = dbT (got a1 h1 x0 a2 h2 x1 a3 h3 x2 a4 h4 x3 a5 h5 x4 a6 h6 x5 a7 h7 x6 a8 h8 x7 a9 h9 x8 a10 h10 x9) :=
  first_v696 c a1 h1 x0 a2 h2 x1 a3 h3 x2 a4 h4 x3 a5 h5 x4 a6 h6 x5 a7 h7 x6 a8 h8 x7 a9 h9 x8 a10 h10 x9
theorem next_v717 : kernelRun0_B.sl.v717 (F := Ideal) c a1 h1 a2 h2 a4 h4 a7 h7 a9 h9 x0 x1 x3 x6 x8 = subf (dhatT (got a1 h1 x0 a2 h2 x1 a3 h3 x2 a4 h4 x3 a5 h5 x4 a6 h6 x5 a7 h7 x6 a8 h8 x7 a9 h9 x8 a10 h10 x9)) (headMean (A (got a1 h1 x0 a2 h2 x1 a3 h3 x2 a4 h4 x3 a5 h5 x4 a6 h6 x5 a7 h7 x6 a8 h8 x7 a9 h9 x8 a10 h10 x9)) (dhatT (got a1 h1 x0 a2 h2 x1 a3 h3 x2 a4 h4 x3 a5 h5 x4 a6 h6 x5 a7 h7 x6 a8 h8 x7 a9 h9 x8 a10 h10 x9))) :=
  first_v717 c a1 h1 x0 a2 h2 x1 a3 h3 x2 a4 h4 x3 a5 h5 x4 a6 h6 x5 a7 h7 x6 a8 h8 x7 a9 h9 x8 a10 h10 x9
theorem next_v718 : kernelRun0_B.sl.v718 (F := Ideal) c a1 h1 a2 h2 a3 h3 a4 h4 a7 h7 a9 h9 x0 x1 x2 x3 x6 x8 = mulf (dhatT (got a1 h1 x0 a2 h2 x1 a3 h3 x2 a4 h4 x3 a5 h5 x4 a6 h6 x5 a7 h7 x6 a8 h8 x7 a9 h9 x8 a10 h10 x9)) (unitT (got a1 h1 x0 a2 h2 x1 a3 h3 x2 a4 h4 x3 a5 h5 x4 a6 h6 x5 a7 h7 x6 a8 h8 x7 a9 h9 x8 a10 h10 x9)) :=
  first_v718 c a1 h1 x0 a2 h2 x1 a3 h3 x2 a4 h4 x3 a5 h5 x4 a6 h6 x5 a7 h7 x6 a8 h8 x7 a9 h9 x8 a10 h10 x9
theorem next_DV : k0_pay151 (kernelRun0_B.sl.r (F := Ideal) c a9 h9 x8) (kernelRun0_B.sl.v84 (F := Ideal) c a3 h3 x2) (kernelRun0_B.sl.v123 (F := Ideal) c a3 h3 a9 h9 x2 x8) (kernelRun0_B.sl.v124 (F := Ideal) c a3 h3 a9 h9 x2 x8) (kernelRun0_B.sl.v717 (F := Ideal) c a1 h1 a2 h2 a4 h4 a7 h7 a9 h9 x0 x1 x3 x6 x8) (kernelRun0_B.sl.v718 (F := Ideal) c a1 h1 a2 h2 a3 h3 a4 h4 a7 h7 a9 h9 x0 x1 x2 x3 x6 x8) (kernelRun0_B.sl.v726 (F := Ideal) c a1 h1 a2 h2 a3 h3 a4 h4 a7 h7 a9 h9 x0 x1 x2 x3 x6 x8) = dvT (got a1 h1 x0 a2 h2 x1 a3 h3 x2 a4 h4 x3 a5 h5 x4 a6 h6 x5 a7 h7 x6 a8 h8 x7 a9 h9 x8 a10 h10 x9) :=
  first_DV c a1 h1 x0 a2 h2 x1 a3 h3 x2 a4 h4 x3 a5 h5 x4 a6 h6 x5 a7 h7 x6 a8 h8 x7 a9 h9 x8 a10 h10 x9
theorem next_DLW : k0_pay157 (kernelRun0_B.sl.v124 (F := Ideal) c a3 h3 a9 h9 x2 x8) (kernelRun0_B.sl.v697 (F := Ideal) c a1 h1 a2 h2 a7 h7 x0 x1 x6) = colSum (mulf (dnormedT (got a1 h1 x0 a2 h2 x1 a3 h3 x2 a4 h4 x3 a5 h5 x4 a6 h6 x5 a7 h7 x6 a8 h8 x7 a9 h9 x8 a10 h10 x9)) (unitT (got a1 h1 x0 a2 h2 x1 a3 h3 x2 a4 h4 x3 a5 h5 x4 a6 h6 x5 a7 h7 x6 a8 h8 x7 a9 h9 x8 a10 h10 x9))) :=
  first_DLW c a1 h1 x0 a2 h2 x1 a3 h3 x2 a4 h4 x3 a5 h5 x4 a6 h6 x5 a7 h7 x6 a8 h8 x7 a9 h9 x8 a10 h10 x9
theorem next_DLB : k0_pay2 (kernelRun0_B.sl.v697 (F := Ideal) c a1 h1 a2 h2 a7 h7 x0 x1 x6) = colSum (dnormedT (got a1 h1 x0 a2 h2 x1 a3 h3 x2 a4 h4 x3 a5 h5 x4 a6 h6 x5 a7 h7 x6 a8 h8 x7 a9 h9 x8 a10 h10 x9)) :=
  first_DLB c a1 h1 x0 a2 h2 x1 a3 h3 x2 a4 h4 x3 a5 h5 x4 a6 h6 x5 a7 h7 x6 a8 h8 x7 a9 h9 x8 a10 h10 x9
end Words

section Points

variable (m : (ℓ : Loc nD τ sig) → Buf (Elt Ideal) ℓ)

/-- The ten input blocks of a grid point. -/
def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t⟩

theorem blocks_eq (c : Dev nD) (t : Fin cfg0.N) : got (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t) = blocks m c t := got_eq (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)

theorem du_A (c : Dev nD) (t : Fin cfg0.N) (h0 : t.val % 8 = 0) (h1 : ¬1 ≤ t.val) :
    (outsAt0 m c t.val t.isLt).1 = duT (blocks m c t) := by
  rw [outsAt0_A m c t h0 h1 h0 h1 h0 h1]
  dsimp only
  unfold out0_A_10
  rw [View.read_writes_junk_eq_canon]
  dsimp only [kernelRun0_A]
  rw [View.canon_cons_unit_lit' _ _ _ (by decide)]
  exact (first_v303 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem dv_A (c : Dev nD) (t : Fin cfg0.N) (h0 : t.val % 8 = 0) (h1 : ¬1 ≤ t.val) :
    (outsAt0 m c t.val t.isLt).2.1 = dvT (blocks m c t) := by
  rw [outsAt0_A m c t h0 h1 h0 h1 h0 h1]
  dsimp only
  unfold out0_A_11
  rw [View.read_writes_junk_eq_canon]
  dsimp only [kernelRun0_A]
  rw [View.canon_cons_unit_lit' _ _ _ (by decide)]
  exact (first_DV c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem du_B (c : Dev nD) (t : Fin cfg0.N) (h0 : ¬t.val % 8 = 0) (h1 : 1 ≤ t.val) :
    (outsAt0 m c t.val t.isLt).1 = duT (blocks m c t) := by
  rw [outsAt0_B m c t h0 h1 h0 h1 h0 h1]
  dsimp only
  unfold out0_B_10
  rw [View.read_writes_junk_eq_canon]
  dsimp only [kernelRun0_B]
  rw [View.canon_cons_unit_lit' _ _ _ (by decide)]
  exact (next_v303 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem dv_B (c : Dev nD) (t : Fin cfg0.N) (h0 : ¬t.val % 8 = 0) (h1 : 1 ≤ t.val) :
    (outsAt0 m c t.val t.isLt).2.1 = dvT (blocks m c t) := by
  rw [outsAt0_B m c t h0 h1 h0 h1 h0 h1]
  dsimp only
  unfold out0_B_11
  rw [View.read_writes_junk_eq_canon]
  dsimp only [kernelRun0_B]
  rw [View.canon_cons_unit_lit' _ _ _ (by decide)]
  exact (next_DV c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem db_A (c : Dev nD) (t : Fin cfg0.N) (h0 : t.val % 8 = 0) (h1 : ¬1 ≤ t.val) :
    (outsAt0 m c t.val t.isLt).2.2.2.1 = dbT (blocks m c t) := by
  rw [outsAt0_A m c t h0 h1 h0 h1 h0 h1]
  dsimp only
  unfold out0_A_13
  rw [View.read_writes_junk_eq_canon]
  dsimp only [kernelRun0_A]
  rw [View.canon_cons_unit_lit' _ _ _ (by decide)]
  exact (first_v696 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem dlw_A (c : Dev nD) (t : Fin cfg0.N) (h0 : t.val % 8 = 0) (h1 : ¬1 ≤ t.val) :
    (outsAt0 m c t.val t.isLt).2.2.2.2.1 = colSum (mulf (dnormedT (blocks m c t)) (unitT (blocks m c t))) := by
  rw [outsAt0_A m c t h0 h1 h0 h1 h0 h1]
  dsimp only
  unfold out0_A_14
  rw [View.read_writes_junk_eq_canon]
  dsimp only [kernelRun0_A]
  rw [View.canon_cons_unit_lit' _ _ _ (by decide)]
  exact (first_DLW c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem dlb_A (c : Dev nD) (t : Fin cfg0.N) (h0 : t.val % 8 = 0) (h1 : ¬1 ≤ t.val) :
    (outsAt0 m c t.val t.isLt).2.2.2.2.2 = colSum (dnormedT (blocks m c t)) := by
  rw [outsAt0_A m c t h0 h1 h0 h1 h0 h1]
  dsimp only
  unfold out0_A_15
  rw [View.read_writes_junk_eq_canon]
  dsimp only [kernelRun0_A]
  rw [View.canon_cons_unit_lit' _ _ _ (by decide)]
  exact (first_DLB c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)).trans (by rw [blocks_eq])

theorem db_B (c : Dev nD) (t : Fin cfg0.N) (h0 : ¬t.val % 8 = 0) (h1 : 1 ≤ t.val) :
    (outsAt0 m c t.val t.isLt).2.2.2.1 = addf (outsAt0 m c (t.val - 1) (Nat.lt_of_le_of_lt (Nat.sub_le _ _) t.isLt)).2.2.2.1 (dbT (blocks m c t)) := by
  rw [outsAt0_B m c t h0 h1 h0 h1 h0 h1]
  dsimp only
  unfold out0_B_13
  rw [View.read_writes_junk_eq_canon]
  dsimp only [kernelRun0_B]
  rw [View.canon_cons_unit_lit' _ _ _ (by decide)]
  have e := next_v696 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)
  rw [blocks_eq] at e
  rw [← e]
  exact congrArg₂ addf ((shapeCast_self _ _).trans (whole _ _ _ (by decide))) rfl

theorem dlw_B (c : Dev nD) (t : Fin cfg0.N) (h0 : ¬t.val % 8 = 0) (h1 : 1 ≤ t.val) :
    (outsAt0 m c t.val t.isLt).2.2.2.2.1 = addf (outsAt0 m c (t.val - 1) (Nat.lt_of_le_of_lt (Nat.sub_le _ _) t.isLt)).2.2.2.2.1 (colSum (mulf (dnormedT (blocks m c t)) (unitT (blocks m c t)))) := by
  rw [outsAt0_B m c t h0 h1 h0 h1 h0 h1]
  dsimp only
  unfold out0_B_14
  rw [View.read_writes_junk_eq_canon]
  dsimp only [kernelRun0_B]
  rw [View.canon_cons_unit_lit' _ _ _ (by decide)]
  have e := next_DLW c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)
  rw [blocks_eq] at e
  rw [← e]
  exact congrArg₂ addf ((shapeCast_self _ _).trans (whole _ _ _ (by decide))) rfl

theorem dlb_B (c : Dev nD) (t : Fin cfg0.N) (h0 : ¬t.val % 8 = 0) (h1 : 1 ≤ t.val) :
    (outsAt0 m c t.val t.isLt).2.2.2.2.2 = addf (outsAt0 m c (t.val - 1) (Nat.lt_of_le_of_lt (Nat.sub_le _ _) t.isLt)).2.2.2.2.2 (colSum (dnormedT (blocks m c t))) := by
  rw [outsAt0_B m c t h0 h1 h0 h1 h0 h1]
  dsimp only
  unfold out0_B_15
  rw [View.read_writes_junk_eq_canon]
  dsimp only [kernelRun0_B]
  rw [View.canon_cons_unit_lit' _ _ _ (by decide)]
  have e := next_DLB c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)
  rw [blocks_eq] at e
  rw [← e]
  exact congrArg₂ addf ((shapeCast_self _ _).trans (whole _ _ _ (by decide))) rfl

/-- The matrix of one head. -/
def member (x : FVec Ideal S8x128x128 .f32) (k : Fin 8) : Sq := fun y => x (ix3 k (y 0) (y 1))

theorem inb8 (k : Fin 8) : ∀ a : Fin S8x128x128.rank, (![k.val, 0, 0] : Fin 3 → ℕ) a + S1x128x128.size a ≤ S8x128x128.size a := by
  revert k; decide

/-- The piece of a head at the first point. -/
theorem piece_A (f : Fin 8 → Sq) (k : Fin 8) (w : Sq) (hw : w = f k) (x : S1x128x128.Idx) (y : S8x128x128.Idx)
    (h0 : (y 0).val = k.val + (x 0).val) (h1 : (y 1).val = (x 1).val) (h2 : (y 2).val = (x 2).val) :
    shapeCast S1x128x128 w shapeCasts_S128x128_S1x128x128 x = stackAlong0 f y := by
  rw [hw]
  refine stack_piece f k shapeCasts_S128x128_S1x128x128 x y h0 fun a => ?_
  match a with
  | 0 => exact h1
  | 1 => exact h2

theorem flat3 (x : FVec Ideal S1x128x128 .f32) (p q : Fin 128) :
    shapeCast S128x128 x shapeCasts_S1x128x128_S128x128 (ix2 p q) = x (ix3 0 p q) := by
  pointwise []

/-- The piece of a head at the other points: added to what the point before left. -/
theorem piece_B {a : Memref sig .tc .vmem S8x128x128 .f32} (h : a.IsWhole) (prev : FVec Ideal S8x128x128 .f32)
    (f : Fin 8 → Sq) (k : Fin 8) (w : Sq) (hw : w = f k) (x : S1x128x128.Idx) (y : S8x128x128.Idx)
    (h0 : (y 0).val = k.val + (x 0).val) (h1 : (y 1).val = (x 1).val) (h2 : (y 2).val = (x 2).val) :
    k0_pay12 (F := Ideal) w (View.readAt (Elt Ideal) a.view (Rect.unit (s := S8x128x128) ![k.val, 0, 0] S1x128x128.size (inb8 k)).toLoadRect (h.unread prev)) x
      = stackAlong0 (fun k => addf (member prev k) (f k)) y := by
  have e : shapeCast S128x128 (View.readAt (Elt Ideal) a.view (Rect.unit (s := S8x128x128) ![k.val, 0, 0] S1x128x128.size (inb8 k)).toLoadRect (h.unread prev))
      shapeCasts_S1x128x128_S128x128 = member prev k := by
    rw [View.readAt_eq_ld, Memref.IsWhole.read_unread]
    funext z
    obtain ⟨p, q, rfl⟩ : ∃ (p q : Fin 128), z = ix2 p q := ⟨z 0, z 1, eq_ix2 z⟩
    rw [flat3]
    refine (congrArg prev ?_ : prev _ = prev (ix3 k p q))
    funext a
    fin_cases a
    · exact Fin.ext (show k.val + 1 * 0 = k.val by omega)
    · exact Fin.ext (show 0 + 1 * p.val = p.val by omega)
    · exact Fin.ext (show 0 + 1 * q.val = q.val by omega)
  unfold k0_pay12
  dsimp only
  rw [e]
  exact piece_A _ k _ (by rw [hw]) x y h0 h1 h2

theorem dw_A (c : Dev nD) (t : Fin cfg0.N) (h0 : t.val % 8 = 0) (h1 : ¬1 ≤ t.val) (y : S8x128x128.Idx) :
    (outsAt0 m c t.val t.isLt).2.2.1 y = stackAlong0 (dwT (blocks m c t)) y := by
  rw [outsAt0_A m c t h0 h1 h0 h1 h0 h1]
  dsimp only
  unfold out0_A_12
  rw [View.read_writes_junk_eq_canon, ← blocks_eq]
  dsimp only [kernelRun0_A]
  canon_tiles y h
  · exact piece_A _ 7 _ (first_v684 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 6 _ (first_v679 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 5 _ (first_v662 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 4 _ (first_v657 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 3 _ (first_v640 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 2 _ (first_v635 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 1 _ (first_v618 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_A _ 0 _ (first_v613 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ (h0.trans (Nat.zero_add _).symm) h1 h2

theorem dw_B (c : Dev nD) (t : Fin cfg0.N) (h0 : ¬t.val % 8 = 0) (h1 : 1 ≤ t.val) (y : S8x128x128.Idx) :
    (outsAt0 m c t.val t.isLt).2.2.1 y = stackAlong0 (fun k => addf
      (member (outsAt0 m c (t.val - 1) (Nat.lt_of_le_of_lt (Nat.sub_le _ _) t.isLt)).2.2.1 k) (dwT (blocks m c t) k)) y := by
  rw [outsAt0_B m c t h0 h1 h0 h1 h0 h1]
  dsimp only
  unfold out0_B_12
  rw [View.read_writes_junk_eq_canon, ← blocks_eq]
  dsimp only [kernelRun0_B]
  canon_tiles y h
  · exact piece_B (hs0_12 t) _ _ 7 _ (next_v684 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 6 _ (next_v679 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 5 _ (next_v662 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 4 _ (next_v657 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 3 _ (next_v640 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 2 _ (next_v635 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 1 _ (next_v618 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ h0 h1 h2
  · exact piece_B (hs0_12 t) _ _ 0 _ (next_v613 c (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t)) _ _ (h0.trans (Nat.zero_add _).symm) h1 h2

end Points
end Cert.GateWords
end
-- ==== Proof.GateHost.lean ====
/-
  What `gmlp_bwd` reads: the host lines before the call, and its input blocks at a grid point, as the real numbers of the
  arguments.
-/
module

public import proofs.«01_k».proof.Proof.GateReal
public import proofs.«01_k».proof.Proof.GateWords

@[expose] public section

set_option maxRecDepth 16384

noncomputable section

namespace Cert.GateHost

open Cert.GmlpIdeal Cert.GmlpIdeal.Gen Cert.Gate Cert.GateKernel Idealize.ShloMosaic Idealize.ShloMosaic.TcCoe Idealize.SL.Sem
open Idealize.ShloMosaic.Pipeline (Dat)

variable (m : (ℓ : Loc nD τ sig) → Buf (Elt Ideal) ℓ)

theorem places : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0, 0]
    ∧ win0_7.index t = ![0, 0] ∧ win0_8.index t = ![0, 0] ∧ win0_9.index t = ![0, 0] ∧ win0_10.index t = ![t.val, 0]
    ∧ win0_11.index t = ![t.val, 0] ∧ t.val < 8 :=
  (by decide +kernel : ∀ t : Fin grid0.N, _)

/-- A whole number divided by `64`, rounded down, as the host computes it on words. -/
def quot (k : BitVec 32) : BitVec 32 :=
  Scalar.select (IntOp.andi (IntOp.cmpi CmpIPredicate.ne (if k = 0 then (0 : BitVec 32) else if k.msb = true then -1 else 1)
      (if 64#32 = 0 then (0 : BitVec 32) else if (64#32).msb = true then -1 else 1)) (IntOp.cmpi CmpIPredicate.ne (IntOp.remsi ArithUnit.host k 64#32) 0#32))
    (IntOp.subi (IntOp.divsi ArithUnit.host k 64#32) 1#32) (IntOp.divsi ArithUnit.host k 64#32)

theorem quot_eq : ∀ k : Fin 512, quot (BitVec.ofNat 32 k.val) = BitVec.ofNat 32 (k.val / 64) := by decide +kernel

theorem pick_eq {x y : EReal} : ∀ a b : Fin 128, Scalar.select (IntOp.cmpi CmpIPredicate.eq (BitVec.ofNat 32 a.val) (BitVec.ofNat 32 b.val)) x y
    = if a.val = b.val then x else y := by
  intro a b
  have e : IntOp.cmpi CmpIPredicate.eq (BitVec.ofNat 32 a.val) (BitVec.ofNat 32 b.val) = if a.val = b.val then 1#1 else 0#1 := by
    revert a b; decide +kernel
  rw [e]
  split <;> rfl

theorem mask_eq (x : EReal) : ∀ a b : Fin 128,
    Scalar.select (IntOp.cmpi CmpIPredicate.sge (IntOp.addi (BitVec.ofNat 32 a.val) 0#32) (BitVec.ofNat 32 b.val)) x 0
      = x * (((if b.val ≤ a.val then 1 else 0 : ℝ)) : EReal) := by
  intro a b
  have e : IntOp.cmpi CmpIPredicate.sge (IntOp.addi (BitVec.ofNat 32 a.val) 0#32) (BitVec.ofNat 32 b.val) = if b.val ≤ a.val then 1#1 else 0#1 := by
    revert a b; decide +kernel
  rw [e]
  split
  · rw [EReal.coe_one, mul_one]; rfl
  · rw [EReal.coe_zero, mul_zero]; rfl

abbrev avgM (c : Dev nD) : FVec Ideal S256x256 .bf16 := V m c main_v6
abbrev expandM (c : Dev nD) : FVec Ideal S512x128 .bf16 := V m c main_v18
abbrev wcatM (c : Dev nD) : FVec Ideal S4x128x256 .bf16 := V m c main_v41
abbrev wtcatM (c : Dev nD) : FVec Ideal S4x128x256 .bf16 := V m c main_v46
abbrev biasM (c : Dev nD) : FVec Ideal S128x512 .f32 := V m c main_v49
abbrev lwM (c : Dev nD) : FVec Ideal S1x512 .f32 := V m c main_v50
abbrev lbM (c : Dev nD) : FVec Ideal S1x512 .f32 := V m c main_v51
abbrev dM (c : Dev nD) : FVec Ideal S4096x1024 .bf16 := V m c main_v53
abbrev uM (c : Dev nD) : FVec Ideal S4096x512 .bf16 := V m c main_v55
abbrev vM (c : Dev nD) : FVec Ideal S4096x512 .bf16 := V m c main_v57
abbrev uArg (c : Dev nD) : FVec Ideal S2x2048x512 .f32 := m ((c : Thread nD τ).loc main_arg0)
abbrev vArg (c : Dev nD) : FVec Ideal S2x2048x512 .f32 := m ((c : Thread nD τ).loc main_arg1)
abbrev lwArg (c : Dev nD) : FVec Ideal S1x8x64 .f32 := m ((c : Thread nD τ).loc main_arg2)
abbrev lbArg (c : Dev nD) : FVec Ideal S1x8x64 .f32 := m ((c : Thread nD τ).loc main_arg3)
abbrev wArg (c : Dev nD) : FVec Ideal S1x8x128x128 .f32 := m ((c : Thread nD τ).loc main_arg4)
abbrev bArg (c : Dev nD) : FVec Ideal S1x8x128 .f32 := m ((c : Thread nD τ).loc main_arg5)
abbrev dArg (c : Dev nD) : FVec Ideal S2x2048x1024 .f32 := m ((c : Thread nD τ).loc main_arg6)

theorem avg_at (c : Dev nD) (k q : Fin 256) : avgM m c (ix2 k q) = (((if k.val / 64 = q.val / 64 then 1 / 64 else 0 : ℝ)) : EReal) := by
  unfold avgM V
  simp only [List.flatten_cons, List.flatten_nil, List.append_assoc, List.cons_append, List.nil_append]
  entry_read
  simp only [StableHlo.TRef.toBuf, StableHlo.TRef.ofBuf, cast_cast, cast_eq]
  pointwise
  show Scalar.select (IntOp.cmpi CmpIPredicate.eq (quot (BitVec.ofNat 32 k.val)) (quot (BitVec.ofNat 32 q.val))) _ _ = _
  rw [quot_eq ⟨k.val, by omega⟩, quot_eq ⟨q.val, by omega⟩]
  refine (pick_eq ⟨k.val / 64, by omega⟩ ⟨q.val / 64, by omega⟩).trans ?_
  have e : Ideal.ofBits .f32 0x3C800000#32 = ((1 / 64 : ℝ) : EReal) := by
    simp [Ideal.ofBits, Ideal.ieee, -EReal.coe_mul]; norm_num
  rw [e]
  split <;> simp

theorem expand_at (c : Dev nD) (k : Fin 512) (q : Fin 128) : expandM m c (ix2 k q) = (((if k.val / 64 = q.val then 1 else 0 : ℝ)) : EReal) := by
  unfold expandM V
  simp only [List.flatten_cons, List.flatten_nil, List.append_assoc, List.cons_append, List.nil_append]
  entry_read
  simp only [StableHlo.TRef.toBuf, StableHlo.TRef.ofBuf, cast_cast, cast_eq]
  pointwise
  show Scalar.select (IntOp.cmpi CmpIPredicate.eq (quot (BitVec.ofNat 32 k.val)) _) _ _ = _
  rw [quot_eq k]
  refine (pick_eq ⟨k.val / 64, by omega⟩ q).trans ?_
  split <;> simp

theorem wcat_at (c : Dev nD) (j : Fin 4) (t : Fin 128) (i : Fin 256) : wcatM m c (ix3 j t i)
    = wArg m c (ix4 0 ⟨2 * j.val + i.val / 128, by omega⟩ t ⟨i.val % 128, by omega⟩) * (((if i.val % 128 ≤ t.val then 1 else 0 : ℝ)) : EReal) := by
  unfold wcatM V
  simp only [List.flatten_cons, List.flatten_nil, List.append_assoc, List.cons_append, List.nil_append]
  entry_read
  simp only [StableHlo.TRef.toBuf, StableHlo.TRef.ofBuf, cast_cast, cast_eq]
  pointwise
  have e : (⟨j.val * 2 + i.val / 128, by omega⟩ : Fin 8) = ⟨2 * j.val + i.val / 128, by omega⟩ := Fin.ext (by simp only; omega)
  rw [e]
  exact mask_eq _ t ⟨i.val % 128, by omega⟩

theorem wtcat_at (c : Dev nD) (j : Fin 4) (t : Fin 128) (i : Fin 256) : wtcatM m c (ix3 j t i)
    = wArg m c (ix4 0 ⟨2 * j.val + i.val / 128, by omega⟩ ⟨i.val % 128, by omega⟩ t) * (((if t.val ≤ i.val % 128 then 1 else 0 : ℝ)) : EReal) := by
  unfold wtcatM V
  simp only [List.flatten_cons, List.flatten_nil, List.append_assoc, List.cons_append, List.nil_append]
  entry_read
  simp only [StableHlo.TRef.toBuf, StableHlo.TRef.ofBuf, cast_cast, cast_eq]
  pointwise
  have e : (⟨j.val * 2 + i.val / 128, by omega⟩ : Fin 8) = ⟨2 * j.val + i.val / 128, by omega⟩ := Fin.ext (by simp only; omega)
  rw [e]
  exact mask_eq _ ⟨i.val % 128, by omega⟩ t

theorem bias_at (c : Dev nD) (t : Fin 128) (q : Fin 512) : biasM m c (ix2 t q) = bArg m c (ix3 0 (hd q) t) := by
  unfold biasM V
  simp only [List.flatten_cons, List.flatten_nil, List.append_assoc, List.cons_append, List.nil_append]
  entry_read
  pointwise
  rfl

theorem lw_at (c : Dev nD) (q : Fin 512) : lwM m c (ix2 0 q) = lwArg m c (ix3 0 (hd q) (ln q)) := by
  unfold lwM V
  simp only [List.flatten_cons, List.flatten_nil, List.append_assoc, List.cons_append, List.nil_append]
  entry_read
  pointwise
  rfl

theorem lb_at (c : Dev nD) (q : Fin 512) : lbM m c (ix2 0 q) = lbArg m c (ix3 0 (hd q) (ln q)) := by
  unfold lbM V
  simp only [List.flatten_cons, List.flatten_nil, List.append_assoc, List.cons_append, List.nil_append]
  entry_read
  pointwise
  rfl

theorem d_at (c : Dev nD) (T : Fin 4096) (q : Fin 1024) : dM m c (ix2 T q) = dArg m c (ix3 ⟨T.val / 2048, by omega⟩ ⟨T.val % 2048, by omega⟩ q) := by
  unfold dM V
  simp only [List.flatten_cons, List.flatten_nil, List.append_assoc, List.cons_append, List.nil_append]
  entry_read
  pointwise

theorem u_at (c : Dev nD) (T : Fin 4096) (q : Fin 512) : uM m c (ix2 T q) = uArg m c (ix3 ⟨T.val / 2048, by omega⟩ ⟨T.val % 2048, by omega⟩ q) := by
  unfold uM V
  simp only [List.flatten_cons, List.flatten_nil, List.append_assoc, List.cons_append, List.nil_append]
  entry_read
  pointwise

theorem v_at (c : Dev nD) (T : Fin 4096) (q : Fin 512) : vM m c (ix2 T q) = vArg m c (ix3 ⟨T.val / 2048, by omega⟩ ⟨T.val % 2048, by omega⟩ q) := by
  unfold vM V
  simp only [List.flatten_cons, List.flatten_nil, List.append_assoc, List.cons_append, List.nil_append]
  entry_read
  pointwise

/-! ## The arguments as real numbers -/

/-- Every element read is a real number. -/
structure Finite (c : Dev nD) : Prop where
  u : ∀ i, uArg m c i = ((uArg m c i).toReal : EReal)
  v : ∀ i, vArg m c i = ((vArg m c i).toReal : EReal)
  lw : ∀ i, lwArg m c i = ((lwArg m c i).toReal : EReal)
  lb : ∀ i, lbArg m c i = ((lbArg m c i).toReal : EReal)
  w : ∀ i, wArg m c i = ((wArg m c i).toReal : EReal)
  b : ∀ i, bArg m c i = ((bArg m c i).toReal : EReal)
  d : ∀ (b : Fin 2) (l : Fin 2048) (q : Fin 512), dArg m c (ix3 b l ⟨q.val, by omega⟩) = ((dArg m c (ix3 b l ⟨q.val, by omega⟩)).toReal : EReal)

/-- The real numbers of the arguments: tokens one after the other, the causal mask on the weights. -/
def data (c : Dev nD) : Data where
  u T q := (uArg m c (ix3 ⟨T / 2048 % 2, Nat.mod_lt _ (by norm_num)⟩ ⟨T % 2048, Nat.mod_lt _ (by norm_num)⟩ q)).toReal
  v T q := (vArg m c (ix3 ⟨T / 2048 % 2, Nat.mod_lt _ (by norm_num)⟩ ⟨T % 2048, Nat.mod_lt _ (by norm_num)⟩ q)).toReal
  d T q := (dArg m c (ix3 ⟨T / 2048 % 2, Nat.mod_lt _ (by norm_num)⟩ ⟨T % 2048, Nat.mod_lt _ (by norm_num)⟩ ⟨q.val, by omega⟩)).toReal
  lw q := (lwArg m c (ix3 0 (hd q) (ln q))).toReal
  lb q := (lbArg m c (ix3 0 (hd q) (ln q))).toReal
  w h t s := (wArg m c (ix4 0 h t s)).toReal * (if s.val ≤ t.val then 1 else 0)
  b h t := (bArg m c (ix3 0 h t)).toReal

theorem wide_at (x : FVec Ideal S512x512 .bf16) (r q : Fin 512) : wide x (ix2 r q) = x (ix2 r q) := by
  pointwise [wide]
theorem lane_at (x : FVec Ideal S1x512 .f32) (r q : Fin 512) : lane x (ix2 r q) = x (ix2 0 q) := by
  pointwise [lane]
theorem A_at (B : Blocks) (r q : Fin 256) : A B (ix2 r q) = B.avg (ix2 r q) := by
  pointwise [A]
theorem E_at (B : Blocks) (r : Fin 512) (q : Fin 128) : E B (ix2 r q) = B.ex (ix2 r q) := by
  pointwise [E]
theorem bias_cast (B : Blocks) (r : Fin 128) (q : Fin 512) : GateKernel.bias B (ix2 r q) = B.bias (ix2 r q) := by
  pointwise [GateKernel.bias]

theorem read_d (c : Dev nD) (t : Fin cfg0.N) (r q : Fin 512) (h : t.val * 512 + r.val < 4096) :
    (iblk m c 0 t : FVec Ideal S512x512 .bf16) (ix2 r q) = dM m c (ix2 (⟨t.val * 512 + r.val, h⟩ : Fin 4096) (⟨q.val, by omega⟩ : Fin 1024)) := by
  blk_point [iblk, places t]
theorem read_u (c : Dev nD) (t : Fin cfg0.N) (r q : Fin 512) (h : t.val * 512 + r.val < 4096) :
    (iblk m c 1 t : FVec Ideal S512x512 .bf16) (ix2 r q) = uM m c (ix2 (⟨t.val * 512 + r.val, h⟩ : Fin 4096) q) := by
  blk_point [iblk, places t]
theorem read_v (c : Dev nD) (t : Fin cfg0.N) (r q : Fin 512) (h : t.val * 512 + r.val < 4096) :
    (iblk m c 2 t : FVec Ideal S512x512 .bf16) (ix2 r q) = vM m c (ix2 (⟨t.val * 512 + r.val, h⟩ : Fin 4096) q) := by
  blk_point [iblk, places t]
theorem read_lw (c : Dev nD) (t : Fin cfg0.N) (q : Fin 512) : (iblk m c 3 t : FVec Ideal S1x512 .f32) (ix2 0 q) = lwM m c (ix2 0 q) := by
  blk_point [iblk, places t]
theorem read_lb (c : Dev nD) (t : Fin cfg0.N) (q : Fin 512) : (iblk m c 4 t : FVec Ideal S1x512 .f32) (ix2 0 q) = lbM m c (ix2 0 q) := by
  blk_point [iblk, places t]
theorem read_w (c : Dev nD) (t : Fin cfg0.N) (j : Fin 4) (s : Fin 128) (i : Fin 256) :
    (iblk m c 5 t : FVec Ideal S4x128x256 .bf16) (ix3 j s i) = wcatM m c (ix3 j s i) := by
  blk_point [iblk, places t]
theorem read_wt (c : Dev nD) (t : Fin cfg0.N) (j : Fin 4) (s : Fin 128) (i : Fin 256) :
    (iblk m c 6 t : FVec Ideal S4x128x256 .bf16) (ix3 j s i) = wtcatM m c (ix3 j s i) := by
  blk_point [iblk, places t]
theorem read_bias (c : Dev nD) (t : Fin cfg0.N) (s : Fin 128) (q : Fin 512) :
    (iblk m c 7 t : FVec Ideal S128x512 .f32) (ix2 s q) = biasM m c (ix2 s q) := by
  blk_point [iblk, places t]
theorem read_avg (c : Dev nD) (t : Fin cfg0.N) (k q : Fin 256) :
    (iblk m c 8 t : FVec Ideal S256x256 .bf16) (ix2 k q) = avgM m c (ix2 k q) := by
  blk_point [iblk, places t]
theorem read_expand (c : Dev nD) (t : Fin cfg0.N) (k : Fin 512) (q : Fin 128) :
    (iblk m c 9 t : FVec Ideal S512x128 .bf16) (ix2 k q) = expandM m c (ix2 k q) := by
  blk_point [iblk, places t]

theorem val_d {c : Dev nD} (H : Finite m c) (t : Fin cfg0.N) (r q : Fin 512) :
    (iblk m c 0 t : FVec Ideal S512x512 .bf16) (ix2 r q) = (((data m c).d (512 * t.val + r.val) q : ℝ) : EReal) := by
  have ht := (places t).2.2.2.2.2.2.2.2.2.2.2.2
  have row : t.val * 512 + r.val = 512 * t.val + r.val := by omega
  have key : ∀ T : ℕ, (h : T < 4096) → dM m c (ix2 (⟨T, h⟩ : Fin 4096) (⟨q.val, by omega⟩ : Fin 1024)) = (((data m c).d T q : ℝ) : EReal) := by
    intro T h
    have e : T / 2048 % 2 = T / 2048 := Nat.mod_eq_of_lt (by omega)
    rw [d_at, H.d _ _ q]
    simp only [data, e]
  rw [read_d m c t r q (by omega), key]
  simp only [row]

theorem val_u {c : Dev nD} (H : Finite m c) (t : Fin cfg0.N) (r q : Fin 512) :
    (iblk m c 1 t : FVec Ideal S512x512 .bf16) (ix2 r q) = (((data m c).u (512 * t.val + r.val) q : ℝ) : EReal) := by
  have ht := (places t).2.2.2.2.2.2.2.2.2.2.2.2
  have row : t.val * 512 + r.val = 512 * t.val + r.val := by omega
  have key : ∀ T : ℕ, (h : T < 4096) → uM m c (ix2 (⟨T, h⟩ : Fin 4096) q) = (((data m c).u T q : ℝ) : EReal) := by
    intro T h
    have e : T / 2048 % 2 = T / 2048 := Nat.mod_eq_of_lt (by omega)
    rw [u_at, H.u (ix3 _ _ _)]
    simp only [data, e]
  rw [read_u m c t r q (by omega), key]
  simp only [row]

theorem val_v {c : Dev nD} (H : Finite m c) (t : Fin cfg0.N) (r q : Fin 512) :
    (iblk m c 2 t : FVec Ideal S512x512 .bf16) (ix2 r q) = (((data m c).v (512 * t.val + r.val) q : ℝ) : EReal) := by
  have ht := (places t).2.2.2.2.2.2.2.2.2.2.2.2
  have row : t.val * 512 + r.val = 512 * t.val + r.val := by omega
  have key : ∀ T : ℕ, (h : T < 4096) → vM m c (ix2 (⟨T, h⟩ : Fin 4096) q) = (((data m c).v T q : ℝ) : EReal) := by
    intro T h
    have e : T / 2048 % 2 = T / 2048 := Nat.mod_eq_of_lt (by omega)
    rw [v_at, H.v (ix3 _ _ _)]
    simp only [data, e]
  rw [read_v m c t r q (by omega), key]
  simp only [row]

theorem val_lw {c : Dev nD} (H : Finite m c) (t : Fin cfg0.N) (q : Fin 512) :
    (iblk m c 3 t : FVec Ideal S1x512 .f32) (ix2 0 q) = (((data m c).lw q : ℝ) : EReal) := by
  rw [read_lw m c t q, lw_at, H.lw]
  rfl
theorem val_lb {c : Dev nD} (H : Finite m c) (t : Fin cfg0.N) (q : Fin 512) :
    (iblk m c 4 t : FVec Ideal S1x512 .f32) (ix2 0 q) = (((data m c).lb q : ℝ) : EReal) := by
  rw [read_lb m c t q, lb_at, H.lb]
  rfl
theorem val_w {c : Dev nD} (H : Finite m c) (t : Fin cfg0.N) : GateReal.Weights (iblk m c 5 t) (data m c).w := by
  intro j s i
  have e := wcat_at m c j s i
  rw [H.w, ← EReal.coe_mul] at e
  exact (read_w m c t j s i).trans e
theorem val_wt {c : Dev nD} (H : Finite m c) (t : Fin cfg0.N) : GateReal.Weights (iblk m c 6 t) (fun h t s => (data m c).w h s t) := by
  intro j s i
  have e := wtcat_at m c j s i
  rw [H.w, ← EReal.coe_mul] at e
  exact (read_wt m c t j s i).trans e
theorem val_b {c : Dev nD} (H : Finite m c) (t : Fin cfg0.N) (s : Fin 128) (q : Fin 512) :
    (iblk m c 7 t : FVec Ideal S128x512 .f32) (ix2 s q) = (((data m c).b (hd q) s : ℝ) : EReal) := by
  rw [read_bias m c t s q, bias_at, H.b]
  rfl

theorem holds_of {B : Blocks} {D : Data} {n : ℕ}
    (d : ∀ r q, B.d (ix2 r q) = ((D.d (512 * n + r.val) q : ℝ) : EReal)) (u : ∀ r q, B.u (ix2 r q) = ((D.u (512 * n + r.val) q : ℝ) : EReal))
    (v : ∀ r q, B.v (ix2 r q) = ((D.v (512 * n + r.val) q : ℝ) : EReal)) (lw : ∀ q, B.lw (ix2 0 q) = ((D.lw q : ℝ) : EReal))
    (lb : ∀ q, B.lb (ix2 0 q) = ((D.lb q : ℝ) : EReal)) (w : GateReal.Weights B.w D.w) (wt : GateReal.Weights B.wt (fun h t s => D.w h s t))
    (b : ∀ s q, B.bias (ix2 s q) = ((D.b (hd q) s : ℝ) : EReal))
    (avg : ∀ k q, B.avg (ix2 k q) = (((if k.val / 64 = q.val / 64 then 1 / 64 else 0 : ℝ)) : EReal))
    (ex : ∀ k q, B.ex (ix2 k q) = (((if k.val / 64 = q.val then 1 else 0 : ℝ)) : EReal)) : GateReal.Holds B D n where
  d r q := (wide_at _ r q).trans (d r q)
  u r q := (wide_at _ r q).trans (u r q)
  v r q := (wide_at _ r q).trans (v r q)
  lw r q := (lane_at _ r q).trans (lw q)
  lb r q := (lane_at _ r q).trans (lb q)
  w := w
  wt := wt
  bias s q := (bias_cast _ s q).trans (b s q)
  avg k q := (A_at _ k q).trans (avg k q)
  ex k q := (E_at _ k q).trans (ex k q)

/-- The input blocks of point `t` are the arguments' real numbers. -/
theorem holds {c : Dev nD} (H : Finite m c) (t : Fin cfg0.N) : GateReal.Holds (GateWords.blocks m c t) (data m c) t.val := by
  have hd := val_d m H t
  have hu := val_u m H t
  have hv := val_v m H t
  have hlw := val_lw m H t
  have hlb := val_lb m H t
  have hw := val_w m H t
  have hwt := val_wt m H t
  have hb := val_b m H t
  have ha := fun k q => (read_avg m c t k q).trans (avg_at m c k q)
  have he := fun k q => (read_expand m c t k q).trans (expand_at m c k q)
  unfold GateWords.blocks
  generalize iblk m c 0 t = x0 at hd ⊢
  generalize iblk m c 1 t = x1 at hu ⊢
  generalize iblk m c 2 t = x2 at hv ⊢
  generalize iblk m c 3 t = x3 at hlw ⊢
  generalize iblk m c 4 t = x4 at hlb ⊢
  generalize iblk m c 5 t = x5 at hw ⊢
  generalize iblk m c 6 t = x6 at hwt ⊢
  generalize iblk m c 7 t = x7 at hb ⊢
  generalize iblk m c 8 t = x8 at ha ⊢
  generalize iblk m c 9 t = x9 at he ⊢
  exact holds_of hd hu hv hlw hlb hw hwt hb ha he

end Cert.GateHost

end
-- ==== Proof.GateFinal.lean ====
/-
  What the call `gmlp_bwd` leaves in its six results: the gradients of the spatial gating unit, on the real numbers of
  the arguments.
-/
module

public import proofs.«01_k».proof.Proof.GateHost

@[expose] public section

set_option maxRecDepth 16384

noncomputable section

namespace Cert.GateFinal

open Cert.GmlpIdeal Cert.GmlpIdeal.Gen Cert.Gate Cert.GateKernel Cert.GateHost Idealize.ShloMosaic Idealize.ShloMosaic.TcCoe Idealize.SL.Sem
open Idealize.ShloMosaic.Pipeline (Dat)

variable (m : (ℓ : Loc nD τ sig) → Buf (Elt Ideal) ℓ)

/-! ## The six results -/

abbrev resDu (D : Data) : FVec Ideal S4096x512 .bf16 := fun y => ((du D (y 0).val (y 1) : ℝ) : EReal)
abbrev resDv (D : Data) : FVec Ideal S4096x512 .bf16 := fun y => ((dv D (y 0).val (y 1) : ℝ) : EReal)
abbrev resDw (D : Data) : FVec Ideal S8x128x128 .f32 := fun y => ((dw D (y 0) (y 1) (y 2) : ℝ) : EReal)
abbrev resDb (D : Data) : FVec Ideal S128x128 .f32 := fun y => (((if h : (y 1).val < 8 then db D (y 0) ⟨(y 1).val, h⟩ else 0 : ℝ)) : EReal)
abbrev resDlw (D : Data) : FVec Ideal S1x512 .f32 := fun y => ((dlw D (y 1) : ℝ) : EReal)
abbrev resDlb (D : Data) : FVec Ideal S1x512 .f32 := fun y => ((dlb D (y 1) : ℝ) : EReal)

/-- The last point. -/
abbrev last : Fin cfg0.N := ⟨7, by decide⟩

theorem lt8 (t : Fin cfg0.N) : t.val < 8 := (places t).2.2.2.2.2.2.2.2.2.2.2.2

/-! ## Sums of blocks -/

/-- Four chunks at each of eight points are the thirty-two chunks. -/
theorem sum_chunks (f : ℕ → ℝ) : ∑ t : Fin cfg0.N, ((∑ k : Fin 4, f (4 * t.val + k.val) : ℝ) : EReal) = ((∑ n : Fin 32, f n.val : ℝ) : EReal) := by
  rw [coe_sum]
  refine congrArg _ ?_
  have e := (finProdFinEquiv (m := 8) (n := 4)).sum_comp (fun n : Fin (8 * 4) => f n.val)
  rw [Fintype.sum_prod_type] at e
  refine Eq.trans ?_ e
  show ∑ t : Fin 8, ∑ k : Fin 4, f (4 * t.val + k.val) = _
  refine Finset.sum_congr rfl fun t _ => Finset.sum_congr rfl fun k _ => congrArg f ?_
  simp only [finProdFinEquiv_apply_val]
  omega

/-- Eight blocks of 512 tokens are the 4096 tokens. -/
theorem sum_blocks (f : ℕ → ℝ) : ∑ t : Fin cfg0.N, ((∑ r : Fin 512, f (512 * t.val + r.val) : ℝ) : EReal) = ((∑ T : Fin 4096, f T.val : ℝ) : EReal) := by
  rw [coe_sum]
  refine congrArg _ ?_
  have e := (finProdFinEquiv (m := 8) (n := 512)).sum_comp (fun n : Fin (8 * 512) => f n.val)
  rw [Fintype.sum_prod_type] at e
  refine Eq.trans ?_ e
  show ∑ t : Fin 8, ∑ k : Fin 512, f (512 * t.val + k.val) = _
  refine Finset.sum_congr rfl fun t _ => Finset.sum_congr rfl fun k _ => congrArg f ?_
  simp only [finProdFinEquiv_apply_val]
  omega

section
variable {m} {c : Dev nD} (H : Finite m c)
include H

/-! ## Written block by block -/

theorem final_du : (dats m 0 c).arrAt 10 cfg0.N = resDu (data m c) := by
  refine (dats m 0 c).arrAt_eq_of_covers 10 _ (by decide +kernel) fun t _ y => ?_
  blk_simp
  have ht := lt8 t
  rw [after0_10]
  have e : (outsAt0 m c t.val t.isLt).1 = duT (GateWords.blocks m c t) := by
    by_cases h : t.val % 8 = 0
    · exact GateWords.du_A m c t h (by omega)
    · exact GateWords.du_B m c t h (by omega)
  rw [e]
  obtain ⟨r, q, rfl⟩ : ∃ (r q : Fin 512), y = ix2 r q := ⟨y 0, y 1, eq_ix2 y⟩
  have e2 : (((cfg0.win 10).blk t).view.emb (ix2 r q)) = (ix2 (⟨t.val * 512 + r.val, by omega⟩ : Fin 4096) q) := by
    blk_ext [places t]
  rw [e2]
  refine (GateReal.du_is (holds m H t) r q).trans ?_
  have e3 : 512 * t.val + r.val = t.val * 512 + r.val := by omega
  rw [e3]
  rfl

theorem final_dv : (dats m 0 c).arrAt 11 cfg0.N = resDv (data m c) := by
  refine (dats m 0 c).arrAt_eq_of_covers 11 _ (by decide +kernel) fun t _ y => ?_
  blk_simp
  have ht := lt8 t
  rw [after0_11]
  have e : (outsAt0 m c t.val t.isLt).2.1 = dvT (GateWords.blocks m c t) := by
    by_cases h : t.val % 8 = 0
    · exact GateWords.dv_A m c t h (by omega)
    · exact GateWords.dv_B m c t h (by omega)
  rw [e]
  obtain ⟨r, q, rfl⟩ : ∃ (r q : Fin 512), y = ix2 r q := ⟨y 0, y 1, eq_ix2 y⟩
  have e2 : (((cfg0.win 11).blk t).view.emb (ix2 r q)) = (ix2 (⟨t.val * 512 + r.val, by omega⟩ : Fin 4096) q) := by
    blk_ext [places t]
  rw [e2]
  refine (GateReal.dv_is (holds m H t) r q).trans ?_
  have e3 : 512 * t.val + r.val = t.val * 512 + r.val := by omega
  rw [e3]
  rfl

/-! ## Added up over the points -/

theorem last_dw (h : Fin 8) (t s : Fin 128) : (outsAt0 m c last.val last.isLt).2.2.1 (ix3 h t s) = resDw (data m c) (ix3 h t s) := by
  have step := Pipeline.eq_sum_fin_of_reset_step_apply_last (fun n h => (outsAt0 m c n h).2.2.1) 8 (fun _ => (0 : EReal))
    (fun t j => stackAlong0 (dwT (GateWords.blocks m c t)) j)
    (fun t h j => by rw [zero_add]; exact GateWords.dw_A m c t h (by have := lt8 t; omega) j)
    (fun t h j => by
      obtain ⟨k, p, q, rfl⟩ : ∃ (k : Fin 8) (p q : Fin 128), j = ix3 k p q := ⟨j 0, j 1, j 2, eq_ix3 j⟩
      exact (GateWords.dw_B m c t h (by omega) _).trans rfl)
    (le_of_eq N_0) last rfl (ix3 h t s)
  rw [step, zero_add]
  have e : ∀ n : Fin cfg0.N, stackAlong0 (dwT (GateWords.blocks m c n)) (ix3 h t s)
      = ((∑ k : Fin 4, dwAt (data m c) (4 * n.val + k.val) h t s : ℝ) : EReal) := by
    intro n
    refine Eq.trans ?_ (GateReal.dw_is (holds m H n) h t s)
    exact congrArg (dwT (GateWords.blocks m c n) h) (eq_ix2 _)
  rw [Finset.sum_congr rfl fun n _ => e n]
  exact sum_chunks fun n => dwAt (data m c) n h t s

theorem final_dw : (dats m 0 c).arrAt 12 cfg0.N = resDw (data m c) := by
  refine (dats m 0 c).arrAt_eq_of_after_last 12 last (by decide +kernel) _ fun j => ?_
  blk_simp
  obtain ⟨h, t, s, rfl⟩ : ∃ (h : Fin 8) (t s : Fin 128), j = ix3 h t s := ⟨j 0, j 1, j 2, eq_ix3 j⟩
  rw [after0_12]
  exact last_dw H h t s

theorem last_db (t q : Fin 128) : (outsAt0 m c last.val last.isLt).2.2.2.1 (ix2 t q) = resDb (data m c) (ix2 t q) := by
  have step := Pipeline.eq_sum_fin_of_reset_step_apply_last (fun n h => (outsAt0 m c n h).2.2.2.1) 8 (fun _ => (0 : EReal))
    (fun t j => dbT (GateWords.blocks m c t) j)
    (fun t h j => by rw [zero_add]; exact congrFun (GateWords.db_A m c t h (by have := lt8 t; omega)) j)
    (fun t h j => (congrFun (GateWords.db_B m c t h (by omega)) j).trans (by rfl))
    (le_of_eq N_0) last rfl (ix2 t q)
  rw [step, zero_add]
  rw [Finset.sum_congr rfl fun n _ => GateReal.db_is (holds m H n) t q,
    sum_chunks fun n => if h : q.val < 8 then dbAt (data m c) n t ⟨q.val, h⟩ else 0]
  refine congrArg _ ?_
  show _ = if h : q.val < 8 then db (data m c) t ⟨q.val, h⟩ else 0
  split
  · rfl
  · exact Finset.sum_const_zero

theorem final_db : (dats m 0 c).arrAt 13 cfg0.N = resDb (data m c) := by
  refine (dats m 0 c).arrAt_eq_of_after_last 13 last (by decide +kernel) _ fun j => ?_
  blk_simp
  obtain ⟨t, q, rfl⟩ : ∃ (t q : Fin 128), j = ix2 t q := ⟨j 0, j 1, eq_ix2 j⟩
  rw [after0_13]
  exact last_db H t q

theorem last_dlw (q : Fin 512) : (outsAt0 m c last.val last.isLt).2.2.2.2.1 (ix2 0 q) = resDlw (data m c) (ix2 0 q) := by
  have step := Pipeline.eq_sum_fin_of_reset_step_apply_last (fun n h => (outsAt0 m c n h).2.2.2.2.1) 8 (fun _ => (0 : EReal))
    (fun t j => colSum (mulf (dnormedT (GateWords.blocks m c t)) (unitT (GateWords.blocks m c t))) j)
    (fun t h j => by rw [zero_add]; exact congrFun (GateWords.dlw_A m c t h (by have := lt8 t; omega)) j)
    (fun t h j => (congrFun (GateWords.dlw_B m c t h (by omega)) j).trans (by rfl))
    (le_of_eq N_0) last rfl (ix2 0 q)
  rw [step, zero_add]
  rw [Finset.sum_congr rfl fun n _ => GateReal.dlw_is (holds m H n) q]
  exact sum_blocks fun T => dnormed (data m c) T q * unit (data m c) T q

theorem final_dlw : (dats m 0 c).arrAt 14 cfg0.N = resDlw (data m c) := by
  refine (dats m 0 c).arrAt_eq_of_after_last 14 last (by decide +kernel) _ fun j => ?_
  blk_simp
  obtain ⟨z, q, rfl⟩ : ∃ (z : Fin 1) (q : Fin 512), j = ix2 z q := ⟨j 0, j 1, eq_ix2 j⟩
  obtain rfl : z = 0 := Subsingleton.elim _ _
  rw [after0_14]
  exact last_dlw H q

theorem last_dlb (q : Fin 512) : (outsAt0 m c last.val last.isLt).2.2.2.2.2 (ix2 0 q) = resDlb (data m c) (ix2 0 q) := by
  have step := Pipeline.eq_sum_fin_of_reset_step_apply_last (fun n h => (outsAt0 m c n h).2.2.2.2.2) 8 (fun _ => (0 : EReal))
    (fun t j => colSum (dnormedT (GateWords.blocks m c t)) j)
    (fun t h j => by rw [zero_add]; exact congrFun (GateWords.dlb_A m c t h (by have := lt8 t; omega)) j)
    (fun t h j => (congrFun (GateWords.dlb_B m c t h (by omega)) j).trans (by rfl))
    (le_of_eq N_0) last rfl (ix2 0 q)
  rw [step, zero_add]
  rw [Finset.sum_congr rfl fun n _ => GateReal.dlb_is (holds m H n) q]
  exact sum_blocks fun T => dnormed (data m c) T q

theorem final_dlb : (dats m 0 c).arrAt 15 cfg0.N = resDlb (data m c) := by
  refine (dats m 0 c).arrAt_eq_of_after_last 15 last (by decide +kernel) _ fun j => ?_
  blk_simp
  obtain ⟨z, q, rfl⟩ : ∃ (z : Fin 1) (q : Fin 512), j = ix2 z q := ⟨j 0, j 1, eq_ix2 j⟩
  obtain rfl : z = 0 := Subsingleton.elim _ _
  rw [after0_15]
  exact last_dlb H q

end

end Cert.GateFinal

end
-- ==== Proof.GateRef.lean ====
/-
  The reference of `gmlp_bwd`, line by line: each of its arrays as the real numbers of the arguments, and its six results
  as the gradients of the spatial gating unit.
-/
module

public import proofs.«01_k».proof.Proof.Gate
public import proofs.«01_k».proof.Proof.Gen.GmlpRefIdeal.Run

@[expose] public section

set_option maxRecDepth 16384

noncomputable section

namespace Cert.GateRef

open Cert.GmlpRefIdeal Cert.GmlpRefIdeal.Gen Cert.GmlpRefIdeal.Value Cert.Gate Idealize.ShloMosaic Idealize.ShloMosaic.TcCoe Idealize.SL.Sem

/-! ## Arrays of real numbers -/

/-- Every element of the array is the real number given. -/
def Is {s : Shape} {φ : FTy} (x : FVec Ideal s φ) (X : s.Idx → ℝ) : Prop := ∀ i, x i = ((X i : ℝ) : EReal)

section Ops
variable {s : Shape} {φ : FTy} {x y : FVec Ideal s φ} {X Y : s.Idx → ℝ}

theorem to_is (hx : Is x X) (e : ∀ i, X i = Y i) : Is x Y := fun i => (hx i).trans (congrArg _ (e i))
theorem mul_is (hx : Is x X) (hy : Is y Y) : Is (mulf x y) (fun i => X i * Y i) := by
  intro i
  rw [EReal.coe_mul, ← hx i, ← hy i]; rfl
theorem add_is (hx : Is x X) (hy : Is y Y) : Is (addf x y) (fun i => X i + Y i) := by
  intro i
  rw [EReal.coe_add, ← hx i, ← hy i]; rfl
theorem sub_is (hx : Is x X) (hy : Is y Y) : Is (subf x y) (fun i => X i - Y i) := by
  intro i
  rw [EReal.coe_sub, ← hx i, ← hy i]; rfl
theorem neg_is (hx : Is x X) : Is (Host.negf x) (fun i => -X i) := by
  intro i
  rw [EReal.coe_neg, ← hx i]; rfl
theorem tanh_is (hx : Is x X) : Is (Host.tanh x) (fun i => Real.tanh (X i)) := by
  intro i
  rw [← Ideal.tanh_coe, ← hx i]; rfl
theorem div_is (hx : Is x X) (hy : Is y Y) (h : ∀ i, Y i ≠ 0) : Is (Host.divf x y) (fun i => X i / Y i) := by
  intro i
  rw [← div_real (h i), ← hx i, ← hy i]; rfl

/-- One number everywhere. -/
theorem const_is (s : Shape) (h : S_.BroadcastsInDim s (![] : Fin 0 → Fin s.rank)) {k : FVec Ideal S_ .f32} {r : ℝ}
    (e : Is k fun _ => r) : Is (broadcastInDim s ![] h k) (fun _ => r) := fun i => e _
theorem lit_is {w : BitVec 32} {r : ℝ} (e : Ideal.ofBits .f32 w = ((r : ℝ) : EReal)) :
    Is (constant S_ .f32 w : FVec Ideal S_ .f32) (fun _ => r) := fun i => e
end Ops

/-! ## Layouts -/

def T3 (X : ℕ → Fin 512 → ℝ) (i : S2x2048x512.Idx) : ℝ := X (2048 * (i 0).val + (i 1).val) (i 2)
def T4 (X : ℕ → Fin 512 → ℝ) (i : S2x2048x8x64.Idx) : ℝ := X (2048 * (i 0).val + (i 1).val) (col (i 2) (i 3))
def T5 (X : ℕ → Fin 512 → ℝ) (i : S2x16x128x8x64.Idx) : ℝ := X (2048 * (i 0).val + 128 * (i 1).val + (i 2).val) (col (i 3) (i 4))
/-- Heads first, the positions of a chunk last. -/
def TP (X : ℕ → Fin 512 → ℝ) (i : S8x2x16x64x128.Idx) : ℝ := X (2048 * (i 1).val + 128 * (i 2).val + (i 4).val) (col (i 0) (i 3))
def TH (Y : ℕ → Fin 8 → ℝ) (i : S2x2048x8.Idx) : ℝ := Y (2048 * (i 0).val + (i 1).val) (i 2)
def T1 (Y : ℕ → Fin 8 → ℝ) (i : S2x2048x8x1.Idx) : ℝ := Y (2048 * (i 0).val + (i 1).val) (i 2)
def TL (f : Fin 512 → ℝ) (i : S1x1x8x64.Idx) : ℝ := f (col (i 2) (i 3))

/-- A statement at every index from the same at coordinates. -/
theorem at4 {x : FVec Ideal S2x2048x8x64 .f32} {X : ℕ → Fin 512 → ℝ}
    (h : ∀ (b : Fin 2) (l : Fin 2048) (k : Fin 8) (p : Fin 64), x (ix4 b l k p) = ((X (2048 * b.val + l.val) (col k p) : ℝ) : EReal)) : Is x (T4 X) := by
  intro i; rw [eq_ix4 i]; exact h _ _ _ _
theorem at3 {x : FVec Ideal S2x2048x512 .f32} {X : ℕ → Fin 512 → ℝ}
    (h : ∀ (b : Fin 2) (l : Fin 2048) (c : Fin 512), x (ix3 b l c) = ((X (2048 * b.val + l.val) c : ℝ) : EReal)) : Is x (T3 X) := by
  intro i; rw [eq_ix3 i]; exact h _ _ _
theorem at5 {x : FVec Ideal S2x16x128x8x64 .f32} {X : ℕ → Fin 512 → ℝ}
    (h : ∀ (b : Fin 2) (n : Fin 16) (s : Fin 128) (k : Fin 8) (p : Fin 64),
      x (ix5 b n s k p) = ((X (2048 * b.val + 128 * n.val + s.val) (col k p) : ℝ) : EReal)) : Is x (T5 X) := by
  intro i; rw [eq_ix5 i]; exact h _ _ _ _ _
theorem atP {x : FVec Ideal S8x2x16x64x128 .f32} {X : ℕ → Fin 512 → ℝ}
    (h : ∀ (k : Fin 8) (b : Fin 2) (n : Fin 16) (p : Fin 64) (s : Fin 128),
      x (ix5 k b n p s) = ((X (2048 * b.val + 128 * n.val + s.val) (col k p) : ℝ) : EReal)) : Is x (TP X) := by
  intro i; rw [eq_ix5 i]; exact h _ _ _ _ _
theorem atH {x : FVec Ideal S2x2048x8 .f32} {Y : ℕ → Fin 8 → ℝ}
    (h : ∀ (b : Fin 2) (l : Fin 2048) (k : Fin 8), x (ix3 b l k) = ((Y (2048 * b.val + l.val) k : ℝ) : EReal)) : Is x (TH Y) := by
  intro i; rw [eq_ix3 i]; exact h _ _ _
theorem at1 {x : FVec Ideal S2x2048x8x1 .f32} {Y : ℕ → Fin 8 → ℝ}
    (h : ∀ (b : Fin 2) (l : Fin 2048) (k : Fin 8) (z : Fin 1), x (ix4 b l k z) = ((Y (2048 * b.val + l.val) k : ℝ) : EReal)) : Is x (T1 Y) := by
  intro i; rw [eq_ix4 i]; exact h _ _ _ _

section Layouts
variable {X : ℕ → Fin 512 → ℝ} {Y : ℕ → Fin 8 → ℝ} {f : Fin 512 → ℝ}

/-- Two entries of a table agree where row and column do. -/
theorem entry {T T' : ℕ} {c c' : Fin 512} (h : T = T') (h' : c.val = c'.val) : ((X T c : ℝ) : EReal) = ((X T' c' : ℝ) : EReal) := by
  obtain rfl := h
  obtain rfl := Fin.ext h'
  rfl

theorem cast34 {x : FVec Ideal S2x2048x512 .f32} (h : Is x (T3 X)) (hc : S2x2048x512.ShapeCasts S2x2048x8x64) :
    Is (shapeCast S2x2048x8x64 x hc) (T4 X) := at4 fun b l k p => by
  pointwise []
  exact (h _).trans (entry rfl (by simp only [col]; show k.val * 64 + p.val = 64 * k.val + p.val; omega))
theorem cast43 {x : FVec Ideal S2x2048x8x64 .f32} (h : Is x (T4 X)) (hc : S2x2048x8x64.ShapeCasts S2x2048x512) :
    Is (shapeCast S2x2048x512 x hc) (T3 X) := at3 fun b l c => by
  pointwise []
  exact (h _).trans (entry rfl (by simp only [col]; show 64 * (c.val / 64) + c.val % 64 = _; omega))
theorem cast45 {x : FVec Ideal S2x2048x8x64 .f32} (h : Is x (T4 X)) (hc : S2x2048x8x64.ShapeCasts S2x16x128x8x64) :
    Is (shapeCast S2x16x128x8x64 x hc) (T5 X) := at5 fun b n s k p => by
  pointwise []
  exact (h _).trans (entry (by show 2048 * b.val + (n.val * 128 + s.val) = _; omega) rfl)
theorem cast54 {x : FVec Ideal S2x16x128x8x64 .f32} (h : Is x (T5 X)) (hc : S2x16x128x8x64.ShapeCasts S2x2048x8x64) :
    Is (shapeCast S2x2048x8x64 x hc) (T4 X) := at4 fun b l k p => by
  pointwise []
  exact (h _).trans (entry (by show 2048 * b.val + 128 * (l.val / 128) + l.val % 128 = _; omega) rfl)
theorem cast35 {x : FVec Ideal S2x2048x512 .f32} (h : Is x (T3 X)) (hc : S2x2048x512.ShapeCasts S2x16x128x8x64) :
    Is (shapeCast S2x16x128x8x64 x hc) (T5 X) := at5 fun b n s k p => by
  pointwise []
  exact (h _).trans (entry (by show 2048 * b.val + (n.val * 128 + s.val) = _; omega) (by simp only [col]; show k.val * 64 + p.val = 64 * k.val + p.val; omega))
theorem cast53 {x : FVec Ideal S2x16x128x8x64 .f32} (h : Is x (T5 X)) (hc : S2x16x128x8x64.ShapeCasts S2x2048x512) :
    Is (shapeCast S2x2048x512 x hc) (T3 X) := at3 fun b l c => by
  pointwise []
  exact (h _).trans (entry (by show 2048 * b.val + 128 * (l.val / 128) + l.val % 128 = _; omega)
    (by simp only [col]; show 64 * (c.val / 64) + c.val % 64 = _; omega))
theorem turnP {x : FVec Ideal S2x16x128x8x64 .f32} (h : Is x (T5 X)) (ht : S2x16x128x8x64.Transposes [3, 0, 1, 4, 2] S8x2x16x64x128) :
    Is (transpose S8x2x16x64x128 [3, 0, 1, 4, 2] x ht) (TP X) := atP fun k b n p s => by
  pointwise []
  exact h _
theorem turn5 {x : FVec Ideal S8x2x16x64x128 .f32} (h : Is x (TP X)) (ht : S8x2x16x64x128.Transposes [1, 2, 4, 0, 3] S2x16x128x8x64) :
    Is (transpose S2x16x128x8x64 [1, 2, 4, 0, 3] x ht) (T5 X) := at5 fun b n s k p => by
  pointwise []
  exact h _

/-- The sum over a head's lanes. -/
theorem lanes_is {x : FVec Ideal S2x2048x8x64 .f32} (h : Is x (T4 X)) (hr : S2x2048x8x64.ReducesTo [3] S2x2048x8) (h0 : 0 < S_.numel) :
    Is (Host.reduceAdd x (constant S_ .f32 0x00000000#32) hr h0) (TH fun T k => ∑ p : Fin 64, X T (col k p)) := atH fun b l k => by
  have e : ∀ p : Fin 64, x (ix4 b l k p) = ((X (2048 * b.val + l.val) (col k p) : ℝ) : EReal) := fun p => h _
  pointwise []
  simp only [e, coe_sum, zero_add]
theorem drop_is {x : FVec Ideal S2x2048x8x1 .f32} (h : Is x (T1 Y)) (hr : S2x2048x8x1.ReducesTo [3] S2x2048x8) (h0 : 0 < S_.numel) :
    Is (Host.reduceAdd x (constant S_ .f32 0x00000000#32) hr h0) (TH Y) := atH fun b l k => by
  have e : ∀ p : Fin 1, x (ix4 b l k p) = ((Y (2048 * b.val + l.val) k : ℝ) : EReal) := fun p => h _
  pointwise []
  simp only [e, coe_sum, zero_add, Finset.sum_const, Finset.card_univ, Fintype.card_fin, one_smul]
theorem bcastH1 {x : FVec Ideal S2x2048x8 .f32} (h : Is x (TH Y)) (hb : S2x2048x8.BroadcastsInDim S2x2048x8x1 ![0, 1, 2]) :
    Is (broadcastInDim S2x2048x8x1 ![0, 1, 2] hb x) (T1 Y) := at1 fun b l k z => by
  pointwise []
  exact h _
theorem castH1 {x : FVec Ideal S2x2048x8 .f32} (h : Is x (TH Y)) (hc : S2x2048x8.ShapeCasts S2x2048x8x1) :
    Is (shapeCast S2x2048x8x1 x hc) (T1 Y) := at1 fun b l k z => by
  pointwise []
  exact h _
theorem bcast14 {x : FVec Ideal S2x2048x8x1 .f32} (h : Is x (T1 Y)) (hb : S2x2048x8x1.BroadcastsInDim S2x2048x8x64 ![0, 1, 2, 3]) :
    Is (broadcastInDim S2x2048x8x64 ![0, 1, 2, 3] hb x) (T4 fun T c => Y T (hd c)) := at4 fun b l k p => by
  rw [hd_col]
  pointwise []
  exact h _
theorem bcastH4 {x : FVec Ideal S2x2048x8 .f32} (h : Is x (TH Y)) (hb : S2x2048x8.BroadcastsInDim S2x2048x8x64 ![0, 1, 2]) :
    Is (broadcastInDim S2x2048x8x64 ![0, 1, 2] hb x) (T4 fun T c => Y T (hd c)) := at4 fun b l k p => by
  rw [hd_col]
  pointwise []
  exact h _
theorem bcastL4 {x : FVec Ideal S1x1x8x64 .f32} (h : Is x (TL f)) (hb : S1x1x8x64.BroadcastsInDim S2x2048x8x64 ![0, 1, 2, 3]) :
    Is (broadcastInDim S2x2048x8x64 ![0, 1, 2, 3] hb x) (T4 fun _ c => f c) := at4 fun b l k p => by
  pointwise []
  exact h _
end Layouts

/-! ## The layer norm's derivative -/

/-- What comes back through the variance. -/
def viaSpread (D : Data) (T : ℕ) (k : Fin 8) : ℝ :=
  (∑ q : Fin 64, centred D T (col k q) * dhat D T (col k q)) * (-(1 / 2) * (rs (head (gv D) T k) / spread (head (gv D) T k))) / 64

/-- What comes back through the mean. -/
def viaMean (D : Data) (T : ℕ) (k : Fin 8) : ℝ :=
  ((∑ q : Fin 64, -(dhat D T (col k q) * scale D T (col k q)))
    + ∑ q : Fin 64, -(viaSpread D T (hd (col k q)) * (2 * centred D T (col k q)))) / 64

theorem spread_eq (D : Data) (T : ℕ) (k : Fin 8) :
    (∑ p : Fin 64, centred D T (col k p) * centred D T (col k p)) / 64 + eps = spread (head (gv D) T k) := by
  unfold spread mean
  simp only [centred, hd_col, ln_col]

theorem dgv_eq (D : Data) (T : ℕ) (c : Fin 512) :
    dhat D T c * scale D T c + viaSpread D T (hd c) * (2 * centred D T c) + viaMean D T (hd c) = dgv D T c := by
  unfold dgv
  rw [← back_eq]
  unfold viaMean viaSpread scale centred
  simp only [hd_col, ln_col, head, col_hd_ln]

/-! ## The arguments -/

variable (V0 : Valuation τ sig (Elt Ideal))

abbrev uA : FVec Ideal S2x2048x512 .f32 := V0 (Proc.devRef .tc main_arg0)
abbrev vA : FVec Ideal S2x2048x512 .f32 := V0 (Proc.devRef .tc main_arg1)
abbrev lwA : FVec Ideal S1x8x64 .f32 := V0 (Proc.devRef .tc main_arg2)
abbrev lbA : FVec Ideal S1x8x64 .f32 := V0 (Proc.devRef .tc main_arg3)
abbrev wA : FVec Ideal S1x8x128x128 .f32 := V0 (Proc.devRef .tc main_arg4)
abbrev bA : FVec Ideal S1x8x128 .f32 := V0 (Proc.devRef .tc main_arg5)
abbrev dA : FVec Ideal S2x2048x1024 .f32 := V0 (Proc.devRef .tc main_arg6)

/-- The arguments are the real numbers of `D`. -/
structure Reads (D : Data) : Prop where
  u : Is (uA V0) (T3 D.u)
  v : Is (vA V0) (T3 D.v)
  lw : ∀ (k : Fin 8) (p : Fin 64), lwA V0 (ix3 0 k p) = ((D.lw (col k p) : ℝ) : EReal)
  lb : ∀ (k : Fin 8) (p : Fin 64), lbA V0 (ix3 0 k p) = ((D.lb (col k p) : ℝ) : EReal)
  w : ∀ (k : Fin 8) (t s : Fin 128), wA V0 (ix4 0 k t s) * (((if s.val ≤ t.val then 1 else 0 : ℝ)) : EReal) = ((D.w k t s : ℝ) : EReal)
  b : ∀ (k : Fin 8) (t : Fin 128), bA V0 (ix3 0 k t) = ((D.b k t : ℝ) : EReal)
  d : ∀ (b : Fin 2) (l : Fin 2048) (c : Fin 512), dA V0 (ix3 b l ⟨c.val, by omega⟩) = ((D.d (2048 * b.val + l.val) c : ℝ) : EReal)

theorem slope_lit : Ideal.ofBits .f32 0x3F4C422A#32 = ((g : ℝ) : EReal) := g_eq
theorem eps_lit : Ideal.ofBits .f32 0x358637BD#32 = ((eps : ℝ) : EReal) := eps_eq.1

theorem mask_eq (x : EReal) : ∀ a b : Fin 128,
    Scalar.select (Scalar.select (IntOp.cmpi CmpIPredicate.sge (IntOp.addi (BitVec.ofNat 32 a.val) 0#32) (BitVec.ofNat 32 b.val)) 1#1 0#1) x 0
      = x * (((if b.val ≤ a.val then 1 else 0 : ℝ)) : EReal) := by
  intro a b
  have e : Scalar.select (IntOp.cmpi CmpIPredicate.sge (IntOp.addi (BitVec.ofNat 32 a.val) 0#32) (BitVec.ofNat 32 b.val)) 1#1 0#1
      = if b.val ≤ a.val then 1#1 else 0#1 := by
    revert a b; decide +kernel
  rw [e]
  split
  · rw [EReal.coe_one, mul_one]; rfl
  · rw [EReal.coe_zero, mul_zero]; rfl

section
variable {V0} {D : Data} (R : Reads V0 D)
include R

theorem is4 (k : Fin 8) (t s : Fin 128) : (res_main_v4 V0 : FVec Ideal S8x128x128 .f32) (ix3 k t s) = ((D.w k t s : ℝ) : EReal) := by
  have e := R.w k t s
  unfold res_main_v4
  unfold wA at e
  generalize V0 (Proc.devRef .tc main_arg4) = a at e ⊢
  pointwise []
  show Scalar.select _ _ (Ideal.ofBits .f32 0x00000000#32) = _
  rw [zero_eq, EReal.coe_zero]
  exact (mask_eq _ t s).trans e

/-! ## The GELU -/

theorem is8 : Is (s := S_) (φ := .f32) (res_main_v8 V0) (fun _ => cub) :=
  to_is (div_is (lit_is numer_eq) (lit_is denom_eq) (fun _ => by norm_num)) fun _ => rfl
theorem is30 : Is (s := S_) (φ := .f32) (res_main_v30 V0) (fun _ => cub) :=
  to_is (div_is (lit_is numer_eq) (lit_is denom_eq) (fun _ => by norm_num)) fun _ => rfl

theorem is19 : Is (s := S2x2048x512) (φ := .f32) (res_main_v19 V0) (T3 fun T c => th (D.u T c)) :=
  to_is (tanh_is (mul_is (const_is _ _ (lit_is slope_lit)) (add_is R.u (mul_is (const_is _ _ (is8 R)) (mul_is (mul_is R.u R.u) R.u)))))
    fun i => by unfold T3 th; simp only [mul_assoc]
theorem is41 : Is (s := S2x2048x512) (φ := .f32) (res_main_v41 V0) (T3 fun T c => th (D.v T c)) :=
  to_is (tanh_is (mul_is (const_is _ _ (lit_is slope_lit)) (add_is R.v (mul_is (const_is _ _ (is30 R)) (mul_is (mul_is R.v R.v) R.v)))))
    fun i => by unfold T3 th; simp only [mul_assoc]
theorem is28 : Is (s := S2x2048x512) (φ := .f32) (res_main_v28 V0) (T3 fun T c => 1 / 2 * (1 + th (D.u T c))) :=
  to_is (mul_is (const_is _ _ (lit_is half_eq)) (add_is (const_is _ _ (lit_is one_eq)) (is19 R))) fun i => rfl
theorem is50 : Is (s := S2x2048x512) (φ := .f32) (res_main_v50 V0) (T3 fun T c => 1 / 2 * (1 + th (D.v T c))) :=
  to_is (mul_is (const_is _ _ (lit_is half_eq)) (add_is (const_is _ _ (lit_is one_eq)) (is41 R))) fun i => rfl
theorem is29 : Is (s := S2x2048x512) (φ := .f32) (res_main_v29 V0) (T3 (gu D)) :=
  to_is (mul_is R.u (is28 R)) fun i => by unfold T3 gu gel; ring
theorem is52 : Is (s := S2x2048x8x64) (φ := .f32) (res_main_v52 V0) (T4 (gv D)) :=
  cast34 (to_is (mul_is R.v (is50 R)) fun i => by unfold T3 gv gel; ring) _

/-! ## The layer norm -/

theorem is56 : Is (s := S2x2048x8x1) (φ := .f32) (res_main_v56 V0) (T1 fun T k => mean (head (gv D) T k)) :=
  to_is (div_is (bcastH1 (lanes_is (is52 R) _ _) _) (const_is _ _ (lit_is lanes_eq)) (fun _ => by norm_num)) fun i => rfl
theorem is58 : Is (s := S2x2048x8x64) (φ := .f32) (res_main_v58 V0) (T4 (centred D)) :=
  to_is (sub_is (is52 R) (bcast14 (is56 R) _)) fun i => by
    unfold T4 centred dev
    rw [head, col_hd_ln]
theorem is67 : Is (s := S2x2048x8x64) (φ := .f32) (res_main_v67 V0) (T4 (centred D)) := is58 R
theorem is69 : Is (s := S2x2048x8x1) (φ := .f32) (res_main_v69 V0) (T1 fun T k => spread (head (gv D) T k)) :=
  to_is (add_is (div_is (bcastH1 (lanes_is (X := fun T c => centred D T c * centred D T c) (to_is (mul_is (is58 R) (is58 R)) fun i => rfl) _ _) _)
    (const_is _ _ (lit_is lanes_eq)) (fun _ => by norm_num)) (const_is _ _ (lit_is eps_lit))) fun i => spread_eq D _ _
theorem is70 : Is (s := S2x2048x8x1) (φ := .f32) (res_main_v70 V0) (T1 fun T k => rs (head (gv D) T k)) := by
  intro i
  show Ideal.rsqrt ((res_main_v69 V0 : FVec Ideal S2x2048x8x1 .f32) i) = _
  rw [is69 R i]
  exact rsqrt_spread _
theorem is75 : Is (s := S2x2048x8x64) (φ := .f32) (res_main_v75 V0) (T4 (unit D)) :=
  to_is (mul_is (is67 R) (bcast14 (is70 R) _)) fun i => rfl
theorem is76 : Is (s := S1x1x8x64) (φ := .f32) (res_main_v76 V0) (TL D.lw) := by
  intro i
  rw [eq_ix4 i]
  have e := R.lw
  unfold res_main_v76
  unfold lwA at e
  generalize V0 (Proc.devRef .tc main_arg2) = a at e ⊢
  pointwise []
  exact e _ _
theorem isShift (h1 : S1x8x64.ShapeCasts S8x64) (h2 : S8x64.BroadcastsInDim S1x1x8x64 ![2, 3]) :
    Is (broadcastInDim S1x1x8x64 ![2, 3] h2 (shapeCast S8x64 (lbA V0) h1)) (TL D.lb) := by
  intro i
  rw [eq_ix4 i]
  have e := R.lb
  generalize lbA V0 = a at e ⊢
  pointwise []
  exact e _ _
theorem is82 : Is (s := S2x16x128x8x64) (φ := .f32) (res_main_v82 V0) (T5 (normed D)) :=
  cast45 (to_is (add_is (mul_is (is75 R) (bcastL4 (is76 R) _)) (bcastL4 (isShift R _ _) _)) fun i => rfl) _

/-! ## The mixing -/

theorem isMix {x : FVec Ideal S2x16x128x8x64 .f32} {w : FVec Ideal S8x128x128 .f32} {X : ℕ → Fin 512 → ℝ} (hx : Is x (T5 X))
    (hw : ∀ k t s, w (ix3 k t s) = ((D.w k t s : ℝ) : EReal)) :
    Is (Host.dotGeneral dot_S2x16x128x8x64_S8x128x128_S8x2x16x64x128_2_2_014_1_3_0 none x w : FVec Ideal S8x2x16x64x128 .f32)
      (TP fun T c => ∑ s : Fin 128, D.w (hd c) (pos T) s * X (mate T s) c) := atP fun k b n p t => by
  have e : ∀ s : Fin 128, x (ix5 b n s k p) = ((X (mate (2048 * b.val + 128 * n.val + t.val) s) (col k p) : ℝ) : EReal) := fun s =>
    (hx _).trans (entry (by show 2048 * b.val + 128 * n.val + s.val = (2048 * b.val + 128 * n.val + t.val) / 128 * 128 + s.val; omega) rfl)
  have ep : pos (2048 * b.val + 128 * n.val + t.val) = t := Fin.ext (by simp only [pos]; omega)
  pointwise []
  simp only [e, hw, ← EReal.coe_mul, coe_sum, hd_col, ep]
  exact congrArg _ (Finset.sum_congr rfl fun s _ => mul_comm _ _)
theorem isMixBack {x : FVec Ideal S8x2x16x64x128 .f32} {w : FVec Ideal S8x128x128 .f32} {X : ℕ → Fin 512 → ℝ} (hx : Is x (TP X))
    (hw : ∀ k t s, w (ix3 k t s) = ((D.w k t s : ℝ) : EReal)) :
    Is (Host.dotGeneral dot_S8x2x16x64x128_S8x128x128_S8x2x16x64x128_4_1_123_2_0_0 none x w : FVec Ideal S8x2x16x64x128 .f32)
      (TP fun T c => ∑ t : Fin 128, D.w (hd c) t (pos T) * X (mate T t) c) := atP fun k b n p s => by
  have e : ∀ t : Fin 128, x (ix5 k b n p t) = ((X (mate (2048 * b.val + 128 * n.val + s.val) t) (col k p) : ℝ) : EReal) := fun t =>
    (hx _).trans (entry (by show 2048 * b.val + 128 * n.val + t.val = (2048 * b.val + 128 * n.val + s.val) / 128 * 128 + t.val; omega) rfl)
  have ep : pos (2048 * b.val + 128 * n.val + s.val) = s := Fin.ext (by simp only [pos]; omega)
  pointwise []
  simp only [e, hw, ← EReal.coe_mul, coe_sum, hd_col, ep]
  exact congrArg _ (Finset.sum_congr rfl fun s _ => mul_comm _ _)
theorem isBias (h1 : S1x8x128.ShapeCasts S8x128) (h2 : S8x128.Transposes [1, 0] S128x8) (h3 : S128x8.BroadcastsInDim S1x1x128x8x1 ![2, 3])
    (h4 : S1x1x128x8x1.BroadcastsInDim S2x16x128x8x64 ![0, 1, 2, 3, 4]) :
    Is (broadcastInDim S2x16x128x8x64 ![0, 1, 2, 3, 4] h4 (broadcastInDim S1x1x128x8x1 ![2, 3] h3 (transpose S128x8 [1, 0] (shapeCast S8x128 (bA V0) h1) h2)))
      (T5 fun T c => D.b (hd c) (pos T)) := at5 fun b n s k p => by
  have e := R.b
  have ep : pos (2048 * b.val + 128 * n.val + s.val) = s := Fin.ext (by simp only [pos]; omega)
  rw [hd_col, ep]
  generalize bA V0 = a at e ⊢
  pointwise []
  exact e _ _
theorem is89 : Is (s := S2x2048x512) (φ := .f32) (res_main_v89 V0) (T3 (mixed D)) :=
  cast53 (to_is (add_is (turn5 (isMix R (is82 R) (is4 R)) _) (isBias R _ _ _ _)) fun i => rfl) _
theorem is91 : Is (s := S2x2048x512) (φ := .f32) (res_main_v91 V0) (T3 D.d) := at3 fun b l c => by
  have e := R.d b l c
  unfold res_main_v91
  unfold dA at e
  generalize V0 (Proc.devRef .tc main_arg6) = a at e ⊢
  pointwise []
  exact e
theorem is93 : Is (s := S2x2048x512) (φ := .f32) (res_main_v93 V0) (T3 fun T c => D.d T c * mixed D T c) :=
  to_is (mul_is (is91 R) (is89 R)) fun i => rfl
theorem is94 : Is (s := S2x16x128x8x64) (φ := .f32) (res_main_v94 V0) (T5 (dgate D)) :=
  cast35 (to_is (mul_is (is29 R) (is91 R)) fun i => mul_comm _ _) _
theorem is99 : Is (s := S8x2x16x64x128) (φ := .f32) (res_main_v99 V0) (TP (dgate D)) := turnP (is94 R) _
theorem is103 : Is (s := S2x2048x8x64) (φ := .f32) (res_main_v103 V0) (T4 (dnormed D)) :=
  cast54 (turn5 (isMixBack R (is99 R) (is4 R)) _) _

/-! ## Back through the layer norm and the GELU -/

theorem is111 : Is (s := S2x2048x8x64) (φ := .f32) (res_main_v111 V0) (T4 (dhat D)) :=
  to_is (mul_is (is103 R) (bcastL4 (is76 R) _)) fun i => rfl
theorem is117 : Is (s := S2x2048x8x64) (φ := .f32) (res_main_v117 V0) (T4 fun T c => dhat D T c * scale D T c) :=
  to_is (mul_is (is111 R) (bcast14 (is70 R) _)) fun i => rfl

theorem is126 : Is (s := S2x2048x8x64) (φ := .f32) (res_main_v126 V0) (T4 fun T c => viaSpread D T (hd c) * (2 * centred D T c)) :=
  to_is (mul_is (bcastH4 (drop_is (Y := viaSpread D) (to_is (div_is (mul_is
      (castH1 (lanes_is (X := fun T c => centred D T c * dhat D T c) (to_is (mul_is (is67 R) (is111 R)) fun i => rfl) _ _) _)
      (mul_is (const_is _ _ (lit_is neg_half_eq)) (div_is (is70 R) (is69 R) (fun i => (spread_pos _).ne'))))
      (const_is _ _ (lit_is lanes_eq)) (fun _ => by norm_num)) fun i => rfl) _ _) _)
    (mul_is (const_is _ _ (lit_is two_eq)) (is58 R))) fun i => rfl

theorem is137 : Is (s := S2x2048x512) (φ := .f32) (res_main_v137 V0) (T3 (dgv D)) :=
  cast43 (X := dgv D) (to_is (add_is (add_is (is117 R) (is126 R)) (bcastH4 (drop_is (Y := viaMean D) (to_is (div_is (add_is
      (castH1 (lanes_is (X := fun T c => -(dhat D T c * scale D T c)) (to_is (neg_is (is117 R)) fun i => rfl) _ _) _)
      (castH1 (lanes_is (X := fun T c => -(viaSpread D T (hd c) * (2 * centred D T c))) (to_is (neg_is (is126 R)) fun i => rfl) _ _) _))
      (const_is _ _ (lit_is lanes_eq)) (fun _ => by norm_num)) fun i => rfl) _ _) _)) fun i => dgv_eq D _ _) _

theorem is144 : Is (s := S2x2048x512) (φ := .f32) (res_main_v144 V0)
    (T3 fun T c => g * (1 / 2 * (D.v T c * dgv D T c) * ((1 + th (D.v T c)) * (1 - th (D.v T c))))) :=
  to_is (mul_is (const_is _ _ (lit_is slope_lit)) (mul_is (mul_is (const_is _ _ (lit_is half_eq)) (mul_is R.v (is137 R)))
    (mul_is (add_is (const_is _ _ (lit_is one_eq)) (is41 R)) (sub_is (const_is _ _ (lit_is one_eq)) (is41 R))))) fun i => rfl
theorem is156 : Is (s := S2x2048x512) (φ := .f32) (res_main_v156 V0)
    (T3 fun T c => g * (1 / 2 * (D.u T c * (D.d T c * mixed D T c)) * ((1 + th (D.u T c)) * (1 - th (D.u T c))))) :=
  to_is (mul_is (const_is _ _ (lit_is slope_lit)) (mul_is (mul_is (const_is _ _ (lit_is half_eq)) (mul_is R.u (is93 R)))
    (mul_is (add_is (const_is _ _ (lit_is one_eq)) (is19 R)) (sub_is (const_is _ _ (lit_is one_eq)) (is19 R))))) fun i => rfl
end

/-! ## The six results -/

theorem fold_is {x : FVec Ideal S2x2048x512 .f32} {X : ℕ → Fin 512 → ℝ} (h : Is x (T3 X)) (hc : S2x2048x512.ShapeCasts S4096x512) :
    Is (s := S4096x512) (φ := .bf16) (truncf .bf16 (shapeCast S4096x512 x hc) bitsLt_bf16_f32) (fun i => X (i 0).val (i 1)) := by
  intro i
  rw [eq_ix2 i]
  pointwise []
  exact (h _).trans (entry (by show 2048 * ((i 0).val / 2048) + (i 0).val % 2048 = (i 0).val; omega) rfl)

/-- A sum over both sequences' chunks is a sum over all chunks. -/
theorem sum_chunks (f : ℕ → ℝ) : ∑ b : Fin 2, ∑ n : Fin 16, f (16 * b.val + n.val) = ∑ n : Fin 32, f n.val := by
  have e := (finProdFinEquiv (m := 2) (n := 16)).sum_comp (fun n : Fin (2 * 16) => f n.val)
  rw [Fintype.sum_prod_type] at e
  refine Eq.trans ?_ e
  refine Finset.sum_congr rfl fun t _ => Finset.sum_congr rfl fun k _ => congrArg f ?_
  simp only [finProdFinEquiv_apply_val]
  omega
/-- A sum over both sequences' tokens is a sum over all tokens. -/
theorem sum_tokens (f : ℕ → ℝ) : ∑ b : Fin 2, ∑ l : Fin 2048, f (2048 * b.val + l.val) = ∑ T : Fin 4096, f T.val := by
  have e := (finProdFinEquiv (m := 2) (n := 2048)).sum_comp (fun n : Fin (2 * 2048) => f n.val)
  rw [Fintype.sum_prod_type] at e
  refine Eq.trans ?_ e
  refine Finset.sum_congr rfl fun t _ => Finset.sum_congr rfl fun k _ => congrArg f ?_
  simp only [finProdFinEquiv_apply_val]
  omega

/-! ## Sums over several axes -/

section Reduce
variable {n0 n1 n2 n3 n4 : ℕ}

theorem reduce_tokens (h : (⟨4, ![n0, n1, n2, n3]⟩ : Shape).ReducesTo [0, 1] ⟨2, ![n2, n3]⟩) (v : (⟨4, ![n0, n1, n2, n3]⟩ : Shape).Idx → EReal)
    (init : EReal) (k : Fin n2) (q : Fin n3) :
    Ideal.hostReduceAdd h v init (ix2 k q) = init + ∑ a : Fin n0, ∑ b : Fin n1, v (ix4 a b k q) := by
  have key : ∀ i, h.drop i = ix2 k q ↔ ∃ p : Fin n0 × Fin n1, ix4 p.1 p.2 k q = i := by
    intro i
    refine ⟨fun e => ⟨(i 0, i 1), ?_⟩, ?_⟩
    · have e0 : i 2 = k := Fin.ext (congrArg Fin.val (congrFun e 0))
      have e1 : i 3 = q := Fin.ext (congrArg Fin.val (congrFun e 1))
      rw [← e0, ← e1]
      exact (eq_ix4 i).symm
    · rintro ⟨p, rfl⟩
      funext b
      fin_cases b
      · rfl
      · rfl
  refine congrArg (init + ·) ?_
  rw [Finset.sum_filter_eq_sum_of_fiber _ (fun p : Fin n0 × Fin n1 => ix4 p.1 p.2 k q)
    (fun _ _ e => Prod.ext (congrFun e 0) (congrFun e 1)) key v, Fintype.sum_prod_type]

theorem reduce_chunks (h : (⟨5, ![n0, n1, n2, n3, n4]⟩ : Shape).ReducesTo [0, 1, 4] ⟨2, ![n2, n3]⟩)
    (v : (⟨5, ![n0, n1, n2, n3, n4]⟩ : Shape).Idx → EReal) (init : EReal) (k : Fin n2) (q : Fin n3) :
    Ideal.hostReduceAdd h v init (ix2 k q) = init + ∑ a : Fin n0, ∑ b : Fin n1, ∑ p : Fin n4, v (ix5 a b k q p) := by
  have key : ∀ i, h.drop i = ix2 k q ↔ ∃ p : Fin n0 × Fin n1 × Fin n4, ix5 p.1 p.2.1 k q p.2.2 = i := by
    intro i
    refine ⟨fun e => ⟨(i 0, i 1, i 4), ?_⟩, ?_⟩
    · have e0 : i 2 = k := Fin.ext (congrArg Fin.val (congrFun e 0))
      have e1 : i 3 = q := Fin.ext (congrArg Fin.val (congrFun e 1))
      rw [← e0, ← e1]
      exact (eq_ix5 i).symm
    · rintro ⟨p, rfl⟩
      funext b
      fin_cases b
      · rfl
      · rfl
  refine congrArg (init + ·) ?_
  rw [Finset.sum_filter_eq_sum_of_fiber _ (fun p : Fin n0 × Fin n1 × Fin n4 => ix5 p.1 p.2.1 k q p.2.2)
    (fun _ _ e => Prod.ext (congrFun e 0) (Prod.ext (congrFun e 1) (congrFun e 4))) key v, Fintype.sum_prod_type]
  simp only [Fintype.sum_prod_type]
end Reduce

/-- The product over sequences, chunks and lanes. -/
theorem outer_sum (x : FVec Ideal S8x2x16x64x128 .f32) (y : FVec Ideal S2x16x128x8x64 .f32) (k : Fin 8) (t s : Fin 128) :
    (Host.dotGeneral dot_S8x2x16x64x128_S2x16x128x8x64_S8x128x128_123_014_4_2_0_3 none x y : FVec Ideal S8x128x128 .f32) (ix3 k t s)
      = ∑ b : Fin 2, ∑ n : Fin 16, ∑ p : Fin 64, x (ix5 k b n p t) * y (ix5 b n s k p) := by
  let d := dot_S8x2x16x64x128_S2x16x128x8x64_S8x128x128_123_014_4_2_0_3
  have hz : ∀ p : Fin d.contr.rank, p.val = 0 ∧ d.contr.size p = 2 ∨ p.val = 1 ∧ d.contr.size p = 16 ∨ p.val = 2 ∧ d.contr.size p = 64 := by
    rintro ⟨p, hp⟩
    have hp' : p < 3 := hp
    interval_cases p
    · exact Or.inl ⟨rfl, rfl⟩
    · exact Or.inr (Or.inl ⟨rfl, rfl⟩)
    · exact Or.inr (Or.inr ⟨rfl, rfl⟩)
  let e : Fin 2 × Fin 16 × Fin 64 ≃ d.contr.Idx :=
    { toFun := fun a p => ⟨if p.val = 0 then a.1.val else if p.val = 1 then a.2.1.val else a.2.2.val, by
        rcases hz p with ⟨h, e⟩ | ⟨h, e⟩ | ⟨h, e⟩ <;> rw [e, h]
        · exact a.1.isLt
        · exact a.2.1.isLt
        · exact a.2.2.isLt⟩
      invFun := fun i => (i ⟨0, (by decide : 0 < 3)⟩, i ⟨1, (by decide : 1 < 3)⟩, i ⟨2, (by decide : 2 < 3)⟩)
      left_inv := fun _ => rfl
      right_inv := fun i => by
        funext p
        obtain ⟨p, hp⟩ := p
        have hp' : p < 3 := hp
        interval_cases p <;> rfl }
  show (0 : EReal) + ∑ kk : d.contr.Idx, x (d.lhsIdx (ix3 k t s) kk) * y (d.rhsIdx (ix3 k t s) kk) = _
  rw [zero_add, ← e.sum_comp, Fintype.sum_prod_type]
  simp only [Fintype.sum_prod_type]
  refine Finset.sum_congr rfl fun b _ => Finset.sum_congr rfl fun n _ => Finset.sum_congr rfl fun p _ => ?_
  have hl : d.lhsIdx (ix3 k t s) (e (b, n, p)) = ix5 k b n p t := by
    funext a
    fin_cases a <;> rfl
  have hr : d.rhsIdx (ix3 k t s) (e (b, n, p)) = ix5 b n s k p := by
    funext a
    fin_cases a <;> rfl
  rw [hl, hr]

theorem isDw {x : FVec Ideal S8x2x16x64x128 .f32} {y : FVec Ideal S2x16x128x8x64 .f32} {X Y : ℕ → Fin 512 → ℝ} (hx : Is x (TP X)) (hy : Is y (T5 Y))
    (k : Fin 8) (t s : Fin 128) :
    (Host.dotGeneral dot_S8x2x16x64x128_S2x16x128x8x64_S8x128x128_123_014_4_2_0_3 none x y : FVec Ideal S8x128x128 .f32) (ix3 k t s)
      = ((∑ n : Fin 32, ∑ p : Fin 64, X (128 * n.val + t.val) (col k p) * Y (128 * n.val + s.val) (col k p) : ℝ) : EReal) := by
  have e1 : ∀ b n p, x (ix5 k b n p t) = ((X (2048 * b.val + 128 * n.val + t.val) (col k p) : ℝ) : EReal) := fun b n p => hx _
  have e2 : ∀ b n p, y (ix5 b n s k p) = ((Y (2048 * b.val + 128 * n.val + s.val) (col k p) : ℝ) : EReal) := fun b n p => hy _
  rw [outer_sum]
  simp only [e1, e2, ← EReal.coe_mul, coe_sum]
  rw [← sum_chunks (fun n => ∑ p : Fin 64, X (128 * n + t.val) (col k p) * Y (128 * n + s.val) (col k p))]
  exact congrArg _ (Finset.sum_congr rfl fun b _ => Finset.sum_congr rfl fun n _ => by
    have row : ∀ a, 2048 * b.val + 128 * n.val + a = 128 * (16 * b.val + n.val) + a := fun a => by omega
    simp only [row])
theorem isDb {x : FVec Ideal S2x16x128x8x64 .f32} {X : ℕ → Fin 512 → ℝ} (hx : Is x (T5 X)) (h1 : S2x16x128x8x64.ReducesTo [0, 1, 4] S128x8) (h0 : 0 < S_.numel)
    (t : Fin 128) (k : Fin 8) :
    (Host.reduceAdd x (constant S_ .f32 0x00000000#32) h1 h0 : FVec Ideal S128x8 .f32) (ix2 t k)
      = ((∑ n : Fin 32, ∑ p : Fin 64, X (128 * n.val + t.val) (col k p) : ℝ) : EReal) := by
  have e1 : ∀ b n p, x (ix5 b n t k p) = ((X (2048 * b.val + 128 * n.val + t.val) (col k p) : ℝ) : EReal) := fun b n p => hx _
  show Ideal.hostReduceAdd h1 x (Ideal.ofBits .f32 0x00000000#32) (ix2 t k) = _
  rw [reduce_chunks, zero_eq, EReal.coe_zero, zero_add]
  simp only [e1, coe_sum]
  rw [← sum_chunks (fun n => ∑ p : Fin 64, X (128 * n + t.val) (col k p))]
  exact congrArg _ (Finset.sum_congr rfl fun b _ => Finset.sum_congr rfl fun n _ => by
    have row : ∀ a, 2048 * b.val + 128 * n.val + a = 128 * (16 * b.val + n.val) + a := fun a => by omega
    simp only [row])
theorem isDl {x : FVec Ideal S2x2048x8x64 .f32} {X : ℕ → Fin 512 → ℝ} (hx : Is x (T4 X)) (h1 : S2x2048x8x64.ReducesTo [0, 1] S8x64) (h0 : 0 < S_.numel)
    (k : Fin 8) (p : Fin 64) :
    (Host.reduceAdd x (constant S_ .f32 0x00000000#32) h1 h0 : FVec Ideal S8x64 .f32) (ix2 k p)
      = ((∑ T : Fin 4096, X T.val (col k p) : ℝ) : EReal) := by
  have e1 : ∀ b l, x (ix4 b l k p) = ((X (2048 * b.val + l.val) (col k p) : ℝ) : EReal) := fun b n => hx _
  show Ideal.hostReduceAdd h1 x (Ideal.ofBits .f32 0x00000000#32) (ix2 k p) = _
  rw [reduce_tokens, zero_eq, EReal.coe_zero, zero_add]
  simp only [e1, coe_sum]
  rw [← sum_tokens (fun T => X T (col k p))]

section
variable {V0} {D : Data} (R : Reads V0 D)
include R
theorem is_du (X : FVec Ideal S2x2048x512 .f32)
    (e : X = addf (addf (mulf (res_main_v93 V0) (res_main_v28 V0)) (res_main_v156 V0))
      (mulf (mulf (broadcastInDim S2x2048x512 ![] bcast_S_S2x2048x512 (res_main_v8 V0)) (res_main_v156 V0))
        (mulf (broadcastInDim S2x2048x512 ![] bcast_S_S2x2048x512 (constant S_ .f32 0x40400000#32)) (mulf (uA V0) (uA V0))))) :
    Is X (T3 (du D)) := by
  subst e
  exact to_is (add_is (add_is (mul_is (is93 R) (is28 R)) (is156 R)) (mul_is (mul_is (const_is _ _ (is8 R)) (is156 R))
    (mul_is (const_is _ _ (lit_is three_eq)) (mul_is R.u R.u)))) fun i => slope_back (D.u _ _) _
theorem is_dv (X : FVec Ideal S2x2048x512 .f32)
    (e : X = addf (addf (mulf (res_main_v137 V0) (res_main_v50 V0)) (res_main_v144 V0))
      (mulf (mulf (broadcastInDim S2x2048x512 ![] bcast_S_S2x2048x512 (res_main_v30 V0)) (res_main_v144 V0))
        (mulf (broadcastInDim S2x2048x512 ![] bcast_S_S2x2048x512 (constant S_ .f32 0x40400000#32)) (mulf (vA V0) (vA V0))))) :
    Is X (T3 (dv D)) := by
  subst e
  exact to_is (add_is (add_is (mul_is (is137 R) (is50 R)) (is144 R)) (mul_is (mul_is (const_is _ _ (is30 R)) (is144 R))
    (mul_is (const_is _ _ (lit_is three_eq)) (mul_is R.v R.v)))) fun i => slope_back (D.v _ _) _

theorem is_dw : Is (s := S8x128x128) (φ := .f32) (Host.dotGeneral (φ₁ := .f32) (φ₂ := .f32) dot_S8x2x16x64x128_S2x16x128x8x64_S8x128x128_123_014_4_2_0_3 none (res_main_v99 V0) (res_main_v82 V0))
    (fun i => dw D (i 0) (i 1) (i 2)) := by
  intro i
  rw [eq_ix3 i]
  exact isDw (is99 R) (is82 R) _ _ _

theorem is_db (h1 : S2x16x128x8x64.ReducesTo [0, 1, 4] S128x8) (h0 : 0 < S_.numel) (h2 : S128x8.ShapeCasts S1x1x128x8x1)
    (h3 : S1x1x128x8x1.ReducesTo [0, 1, 4] S128x8) (h4 : S128x8.Transposes [1, 0] S8x128) (h5 : S8x128.Transposes [1, 0] S128x8)
    (h6 : S128x8.Pads ![0, 0] ![0, 120] ![0, 0] S128x128) :
    Is (s := S128x128) (φ := .f32) (pad S128x128 ![0, 0] ![0, 120] ![0, 0] (transpose S128x8 [1, 0] (transpose S8x128 [1, 0]
        (Host.reduceAdd (shapeCast S1x1x128x8x1 (Host.reduceAdd (res_main_v94 V0) (constant S_ .f32 0x00000000#32) h1 h0) h2)
          (constant S_ .f32 0x00000000#32) h3 h0) h4) h5) (sitofp .f32 (constantI S_ 32 0#32)) h6 h0)
      (fun i => if h : (i 1).val < 8 then db D (i 0) ⟨(i 1).val, h⟩ else 0) := by
  intro i
  rw [eq_ix2 i]
  have e := isDb (is94 R) h1 h0
  generalize (Host.reduceAdd (res_main_v94 V0) (constant S_ .f32 0x00000000#32) h1 h0 : FVec Ideal S128x8 .f32) = a at e ⊢
  have e2 : ∀ (t : Fin 128) (k : Fin 8), (Host.reduceAdd (shapeCast S1x1x128x8x1 a h2) (constant S_ .f32 0x00000000#32) h3 h0 : FVec Ideal S128x8 .f32) (ix2 t k)
      = ((db D t k : ℝ) : EReal) := by
    intro t k
    show Ideal.hostReduceAdd h3 (shapeCast S1x1x128x8x1 a h2) (Ideal.ofBits .f32 0x00000000#32) (ix2 t k) = _
    rw [reduce_chunks, zero_eq, EReal.coe_zero, zero_add, Fin.sum_univ_one, Fin.sum_univ_one, Fin.sum_univ_one]
    pointwise []
    exact e t k
  generalize (Host.reduceAdd (shapeCast S1x1x128x8x1 a h2) (constant S_ .f32 0x00000000#32) h3 h0 : FVec Ideal S128x8 .f32) = f at e2 ⊢
  pointwise []
  split
  · exact e2 _ _
  · simp [FloatOps.sitofp]

theorem isLanes {x : FVec Ideal S2x2048x8x64 .f32} {X : ℕ → Fin 512 → ℝ} (hx : Is x (T4 X)) (h1 : S2x2048x8x64.ReducesTo [0, 1] S8x64) (h0 : 0 < S_.numel)
    (h2 : S8x64.ShapeCasts S1x1x8x64) (h3 : S1x1x8x64.ReducesTo [0, 1] S8x64) (h4 : S8x64.ShapeCasts S1x512) :
    Is (s := S1x512) (φ := .f32) (shapeCast S1x512 (Host.reduceAdd (shapeCast S1x1x8x64 (Host.reduceAdd x (constant S_ .f32 0x00000000#32) h1 h0) h2)
        (constant S_ .f32 0x00000000#32) h3 h0) h4) (fun i => ∑ T : Fin 4096, X T.val (i 1)) := by
  intro i
  rw [eq_ix2 i]
  have e := isDl hx h1 h0
  generalize (Host.reduceAdd x (constant S_ .f32 0x00000000#32) h1 h0 : FVec Ideal S8x64 .f32) = a at e ⊢
  have e2 : ∀ (k : Fin 8) (p : Fin 64), (Host.reduceAdd (shapeCast S1x1x8x64 a h2) (constant S_ .f32 0x00000000#32) h3 h0 : FVec Ideal S8x64 .f32) (ix2 k p)
      = ((∑ T : Fin 4096, X T.val (col k p) : ℝ) : EReal) := by
    intro k p
    show Ideal.hostReduceAdd h3 (shapeCast S1x1x8x64 a h2) (Ideal.ofBits .f32 0x00000000#32) (ix2 k p) = _
    rw [reduce_tokens, zero_eq, EReal.coe_zero, zero_add, Fin.sum_univ_one, Fin.sum_univ_one]
    pointwise []
    exact e k p
  generalize (Host.reduceAdd (shapeCast S1x1x8x64 a h2) (constant S_ .f32 0x00000000#32) h3 h0 : FVec Ideal S8x64 .f32) = f at e2 ⊢
  pointwise []
  refine (e2 _ _).trans (congrArg _ (Finset.sum_congr rfl fun T _ => congrArg (X T.val) (Fin.ext ?_)))
  show 64 * ((i 1).val / 64) + (i 1).val % 64 = (i 1).val
  omega
end

end Cert.GateRef

end
-- ==== Proof.Gmlp.lean ====
/-
  `gmlp_bwd`: its claims.
-/
module

public import proofs.«01_k».proof.Defs
public import proofs.«01_k».proof.Proof.GateFinal
public import proofs.«01_k».proof.Proof.GateRef
public import proofs.«01_k».proof.Proof.Gen.Gmlp.Frame
public import proofs.«01_k».proof.Proof.Gen.GmlpIdeal.Value
public import Idealize.ShloMosaic.Lib.ReduceAll
public import Idealize.ShloMosaic.Adequacy
public import Idealize.ShloMosaic.Init

@[expose] public section

set_option maxRecDepth 16384

noncomputable section

namespace Cert.GmlpClaims

open Idealize.ShloMosaic Idealize.ShloMosaic.TcCoe Idealize.SL.Sem
open Idealize.ShloMosaic.StableHlo
open Cert.Gate Cert.GateHost Cert.GateFinal

/-! ## The precondition -/

/-- A number below infinity in absolute value is a real number. -/
theorem real_of_lt {x y : EReal} (hy : y = Ideal.ofBits .f32 0x7F800000#32) (h : FloatOps.cmpf (F := Ideal) (φ := .f32) CmpFPredicate.olt (max x (-x)) y = 1#1) :
    x = ((x.toReal : ℝ) : EReal) := by
  have ht : Ideal.ofBits .f32 0x7F800000#32 = ⊤ := by simp [Ideal.ofBits, Ideal.ieee]
  rw [hy, ht] at h
  induction x with
  | bot => simp [FloatOps.cmpf, Ideal.cmp] at h
  | top => simp [FloatOps.cmpf, Ideal.cmp] at h
  | coe r => rfl

section
variable [h : Cert.Pre_finite.Facts]

/-- An array whose test came out one holds real numbers. -/
theorem array_real {s : Shape} {axes : List (Fin s.rank)} (x : FVec Ideal s .f32) (hb : Cert.Pre_finite.S_.BroadcastsInDim s (![] : Fin 0 → Fin s.rank))
    (hr : s.ReducesTo axes Cert.Pre_finite.S_) (h0 : 0 < Cert.Pre_finite.S_.numel)
    (e : Host.reduce IntOp.andi (cmpf CmpFPredicate.olt (Host.absf x) (broadcastInDim s ![] hb (constant Cert.Pre_finite.S_ .f32 0x7F800000#32)))
      (constantI Cert.Pre_finite.S_ 1 1#1) hr h0 ix0 = 1#1) (i : s.Idx) : x i = ((x i).toReal : EReal) :=
  real_of_lt rfl (Host.reduce_andi_all _ _ _ _ _ e i)

/-- The six arrays read whole and the columns read of the seventh. -/
theorem all_real (x0 x1 : FVec Ideal Cert.Pre_finite.S2x2048x512 .f32) (x2 x3 : FVec Ideal Cert.Pre_finite.S1x8x64 .f32)
    (x4 : FVec Ideal Cert.Pre_finite.S1x8x128x128 .f32) (x5 : FVec Ideal Cert.Pre_finite.S1x8x128 .f32) (x6 : FVec Ideal Cert.Pre_finite.S2x2048x1024 .f32)
    (e : Cert.Pre_finite.fn (F := Ideal) x0 x1 x2 x3 x4 x5 x6 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ ∀ (b : Fin 2) (l : Fin 2048) (c : Fin 512), x6 (ix3 b l ⟨c.val, by omega⟩) = ((x6 (ix3 b l ⟨c.val, by omega⟩)).toReal : EReal) := by
  have e' := congrFun e ix0
  simp only [Cert.Pre_finite.fn, Cert.Pre_finite.fn_part1, Cert.Pre_finite.fn_part2, andi, IntOp.andi_eq_one] at e'
  obtain ⟨⟨⟨⟨⟨⟨e0, e1⟩, e2⟩, e3⟩, e4⟩, e5⟩, e6⟩ := e'
  refine ⟨array_real x0 _ _ _ e0, array_real x1 _ _ _ e1, array_real x2 _ _ _ e2, array_real x3 _ _ _ e3, array_real x4 _ _ _ e4, array_real x5 _ _ _ e5,
    fun b l c => ?_⟩
  have e7 := array_real _ _ _ _ e6 (ix3 b l c)
  have e8 : extractStridedSlice Cert.Pre_finite.S2x2048x512 ![0, 0, 0] x6 h.slices_S2x2048x1024_S2x2048x512_0_0_0 (ix3 b l c)
      = x6 (ix3 b l ⟨c.val, by omega⟩) := by
    pointwise []
  rw [e8] at e7
  exact e7

theorem finite_of_pre {m : (ℓ : Loc Cert.GmlpIdeal.nD Cert.GmlpIdeal.τ Cert.GmlpIdeal.sig) → Buf (Elt Ideal) ℓ} (hp : Cert.Pre_GmlpIdeal_finite m)
    (c : Dev Cert.GmlpIdeal.nD) : Finite m c := by
  obtain ⟨h0, h1, h2, h3, h4, h5, h6⟩ := all_real _ _ _ _ _ _ _ (hp c)
  exact ⟨h0, h1, h2, h3, h4, h5, h6⟩
end

/-! ## The arguments of the reference -/

theorem reads_of {m : (ℓ : Loc Cert.GmlpIdeal.nD Cert.GmlpIdeal.τ Cert.GmlpIdeal.sig) → Buf (Elt Ideal) ℓ} {c : Dev Cert.GmlpIdeal.nD} (H : Finite m c)
    (V0 : Valuation Cert.GmlpRefIdeal.τ Cert.GmlpRefIdeal.sig (Elt Ideal)) (e0 : GateRef.uA V0 = uArg m c) (e1 : GateRef.vA V0 = vArg m c)
    (e2 : GateRef.lwA V0 = lwArg m c) (e3 : GateRef.lbA V0 = lbArg m c) (e4 : GateRef.wA V0 = wArg m c) (e5 : GateRef.bA V0 = bArg m c)
    (e6 : GateRef.dA V0 = dArg m c) : GateRef.Reads V0 (data m c) where
  u := GateRef.at3 fun b l q => by
    rw [e0, H.u]
    have key : ∀ (b' : Fin 2) (l' : Fin 2048), b' = b → l' = l →
        (((uArg m c (ix3 b l q)).toReal : ℝ) : EReal) = (((uArg m c (ix3 b' l' q)).toReal : ℝ) : EReal) := by
      rintro _ _ rfl rfl; rfl
    exact key _ _ (Fin.ext (by simp only; omega)) (Fin.ext (by simp only; omega))
  v := GateRef.at3 fun b l q => by
    rw [e1, H.v]
    have key : ∀ (b' : Fin 2) (l' : Fin 2048), b' = b → l' = l →
        (((vArg m c (ix3 b l q)).toReal : ℝ) : EReal) = (((vArg m c (ix3 b' l' q)).toReal : ℝ) : EReal) := by
      rintro _ _ rfl rfl; rfl
    exact key _ _ (Fin.ext (by simp only; omega)) (Fin.ext (by simp only; omega))
  lw := fun k p => by
    rw [e2, H.lw]
    simp only [data, hd_col, ln_col]
  lb := fun k p => by
    rw [e3, H.lb]
    simp only [data, hd_col, ln_col]
  w := fun k t s => by
    rw [e4, H.w, ← EReal.coe_mul]
    rfl
  b := fun k t => by
    rw [e5, H.b]
    rfl
  d := fun b l q => by
    rw [e6, H.d]
    have key : ∀ (b' : Fin 2) (l' : Fin 2048), b' = b → l' = l →
        (((dArg m c (ix3 b l ⟨q.val, by omega⟩)).toReal : ℝ) : EReal) = (((dArg m c (ix3 b' l' ⟨q.val, by omega⟩)).toReal : ℝ) : EReal) := by
      rintro _ _ rfl rfl; rfl
    exact key _ _ (Fin.ext (by simp only; omega)) (Fin.ext (by simp only; omega))

/-! ## The claims -/

theorem frame : Cert.quiescent_Gmlp := fun m ρ _ => Cert.Gmlp.Gen.frame m ρ
theorem frame_ideal : Cert.quiescent_GmlpIdeal := fun m ρ _ => Cert.GmlpIdeal.Gen.frame m ρ
theorem frame_ideal_finite [Cert.Pre_finite.Facts] : Cert.quiescent_GmlpIdeal_pre_finite := fun m ρ _ => Cert.GmlpIdeal.Gen.frame m ρ
theorem frame_ref : Cert.quiescent_GmlpRefIdeal := fun m ρ _ =>
  (θ_run Cert.GmlpRefIdeal.defs _ _).mono (fun r h => ⟨fun c => (h c).2.2.2.2.2.2, sem_eq_zero_of_no_sems (by decide) r.2⟩)
    (Cert.GmlpRefIdeal.Value.run (F := Ideal) m ρ)
theorem frame_ref_finite [Cert.Pre_finite.Facts] : Cert.quiescent_GmlpRefIdeal_pre_finite := fun m ρ _ => frame_ref m ρ trivial

theorem preserves : Cert.preserves_Gmlp_GmlpIdeal :=
  ⟨IdealRules.named_const.statement Cert.GmlpIdeal.κ _ _ _ _ rfl, IdealRules.named_const.statement Cert.GmlpIdeal.κ _ _ _ _ rfl⟩

set_option maxHeartbeats 1000000 in
theorem algebraic [Cert.Pre_finite.Facts] : Cert.algebraic_GmlpIdeal_GmlpRefIdeal_pre_finite := by
  intro m ρ m' ρ' hp hag
  have H := finite_of_pre hp
  refine ⟨fun c => resDu (data m c), fun c => resDv (data m c), fun c => resDw (data m c), fun c => resDb (data m c), fun c => resDlw (data m c),
    fun c => resDlb (data m c), ?_, ?_⟩
  · exact (θ_run Cert.GmlpIdeal.defs _ _).mono (fun _ h c => ⟨(h c).1.trans (final_du (H c)), (h c).2.1.trans (final_dv (H c)),
      (h c).2.2.1.trans (final_dw (H c)), (h c).2.2.2.1.trans (final_db (H c)), (h c).2.2.2.2.1.trans (final_dlw (H c)),
      (h c).2.2.2.2.2.1.trans (final_dlb (H c)), (h c).2.2.2.2.2.2⟩)
      (Cert.GmlpIdeal.Value.run_blocks m ρ)
  · refine (θ_run Cert.GmlpRefIdeal.defs _ _).mono (fun _ h c => ?_) (Cert.GmlpRefIdeal.Value.run (F := Ideal) m' ρ')
    obtain ⟨a0, a1, a2, a3, a4, a5, a6⟩ := hag c
    have R := reads_of (H c) (launchContents m' c) a0 a1 a2 a3 a4 a5 a6
    refine ⟨(h c).1.trans ?_, (h c).2.1.trans ?_, (h c).2.2.1.trans ?_, (h c).2.2.2.1.trans ?_, (h c).2.2.2.2.1.trans ?_, (h c).2.2.2.2.2.1.trans ?_,
      (h c).2.2.2.2.2.2⟩
    · exact funext (GateRef.fold_is (GateRef.is_du R _ rfl) _)
    · exact funext (GateRef.fold_is (GateRef.is_dv R _ rfl) _)
    · exact funext (GateRef.is_dw R)
    · exact funext (GateRef.is_db R _ _ _ _ _ _ _)
    · exact funext (GateRef.isLanes R (X := fun T c' => dnormed (data m c) T c' * unit (data m c) T c')
        (GateRef.to_is (GateRef.mul_is (GateRef.is75 R) (GateRef.is103 R)) fun i => mul_comm _ _) _ _ _ _ _)
    · exact funext (GateRef.isLanes R (X := dnormed (data m c)) (GateRef.is103 R) _ _ _ _ _)

end Cert.GmlpClaims

end
-- ==== Proof.GfwdKernel.lean ====
/-
  `gmlp_fwd`: the spatial gating unit's forward call.  Its body is the first half of `gmlp_bwd`'s, so what a grid point
  computes is said with the pieces of `GateKernel`, and its real numbers are those of `GateReal` and `GateRef`.
-/
module

public import proofs.«01_k».proof.Defs
public import proofs.«01_k».proof.Proof.GateHost
public import proofs.«01_k».proof.Proof.Gen.GfwdIdeal.Value
public import Idealize.ShloMosaic.Lib.ReduceAll
public import Idealize.ShloMosaic.Lib.Pipeline.ValueKit
public import Idealize.ShloMosaic.Lib.Pipeline.ValueKit.Stack
public import Idealize.ShloMosaic.Adequacy
public import Idealize.ShloMosaic.Init

@[expose] public section

set_option maxRecDepth 16384

noncomputable section

namespace Cert.GfwdValue

open Cert.GfwdIdeal Cert.GfwdIdeal.Gen Cert.Gate Idealize.ShloMosaic Idealize.ShloMosaic.TcCoe Idealize.SL.Sem
open Cert.GateKernel (Tab gelT wide lane unitT normedT mixedT mixRow rows pair headMean Blocks)

/-! ## What a grid point computes -/

theorem cubic_same : (Named.named (F := Ideal) Cert.GfwdIdeal.κ "cubic" 0x3D372713#32 : Ideal .f32)
    = Named.named (F := Ideal) Cert.GmlpIdeal.κ "cubic" 0x3D372713#32 :=
  (IdealRules.named_const.ideal_named_scalar Cert.GfwdIdeal.κ "cubic" _ _ rfl).trans GateKernel.cubic_eq.symm

theorem gate_same (x : FVec Ideal S512x512 .bf16) : k0_pay8 (F := Ideal) x = gelT (wide x) := by
  have h : k0_pay8 (F := Ideal) x = mulf (mulf (broadcast S512x512 (Scalar.ofBits .f32 0x3F000000#32)) (wide x))
      (addf (broadcast S512x512 (Scalar.ofBits .f32 0x3F800000#32)) (tanh (mulf (broadcast S512x512 (Scalar.ofBits .f32 0x3F4C422A#32))
        (addf (wide x) (mulf (mulf (mulf (broadcast S512x512 (Named.named Cert.GfwdIdeal.κ "cubic" 0x3D372713#32)) (wide x)) (wide x)) (wide x)))))) := rfl
  rw [h, cubic_same]
  rfl

theorem inner_same (x : FVec Ideal S512x512 .bf16) : k0_pay9 (F := Ideal) x
    = addf (wide x) (mulf (mulf (mulf (broadcast S512x512 (Named.named Cert.GmlpIdeal.κ "cubic" 0x3D372713#32)) (wide x)) (wide x)) (wide x)) := by
  have h : k0_pay9 (F := Ideal) x
      = addf (wide x) (mulf (mulf (mulf (broadcast S512x512 (Named.named Cert.GfwdIdeal.κ "cubic" 0x3D372713#32)) (wide x)) (wide x)) (wide x)) := rfl
  rw [h, cubic_same]

theorem unit_same (B : Blocks) : k0_pay10 (F := Ideal) (k0_pay3 B.v) (k0_pay6 B.avg) (k0_pay9 B.v) (Scalar.ofBits .f32 0x3F4C422A#32) = unitT B := by
  rw [inner_same]
  rfl

theorem normed_same (B : Blocks) : k0_pay12 (F := Ideal) (k0_pay5 B.lb) (unitT B) (k0_pay11 (k0_pay4 B.lw)) = normedT B := rfl

section Rows
variable (w : FVec Ideal S4x128x256 .bf16) (b : FVec Ideal S128x512 .f32) (l : FVec Ideal S1x512 .f32) (U W X g : Tab)

theorem row0 : k0_pay14 (F := Ideal) (k0_pay7 b) (k0_pay13 (F := Ideal) (k0_pay1 (F := Ideal)) (k0_pay2 (F := Ideal)) l U W (pair w 0) (pair w 1) (pair w 2) (pair w 3))
    = addf (mixRow w 0 (k0_pay12 (F := Ideal) l U W)) (k0_pay7 b) := rfl
theorem row1 : k0_pay15 (F := Ideal) (k0_pay1 (F := Ideal)) (k0_pay2 (F := Ideal)) (k0_pay7 b) X (pair w 0) (pair w 1) (pair w 2) (pair w 3)
    = addf (mixRow w 1 X) (k0_pay7 b) := rfl
theorem row2 : k0_pay17 (F := Ideal) (k0_pay1 (F := Ideal)) (k0_pay2 (F := Ideal)) (k0_pay7 b) X (k0_pay16 X) (pair w 0) (pair w 1) (pair w 2) (pair w 3)
    = addf (mixRow w 2 X) (k0_pay7 b) := rfl
theorem whole_same : k0_pay19 (F := Ideal) (k0_pay1 (F := Ideal)) (k0_pay2 (F := Ideal)) (k0_pay7 b) g X (addf (mixRow w 0 X) (k0_pay7 b)) (addf (mixRow w 1 X) (k0_pay7 b))
      (addf (mixRow w 2 X) (k0_pay7 b)) (k0_pay18 X) (pair w 0) (pair w 1) (pair w 2) (pair w 3)
    = truncf .bf16 (mulf g (rows fun r => addf (mixRow w r X) (k0_pay7 b))) bitsLt_bf16_f32 := rfl
end Rows

/-- The block a grid point leaves: the gate over the mixed rows. -/
def blockT (B : Blocks) : FVec Ideal S512x512 .bf16 := truncf .bf16 (mulf (gelT (wide B.u)) (mixedT B)) bitsLt_bf16_f32

theorem block_same (B : Blocks) :
    k0_pay19 (F := Ideal) (k0_pay1 (F := Ideal)) (k0_pay2 (F := Ideal)) (k0_pay7 B.bias) (k0_pay8 B.u) (k0_pay12 (k0_pay5 B.lb) (k0_pay10 (k0_pay3 B.v) (k0_pay6 B.avg) (k0_pay9 B.v) (Scalar.ofBits .f32 0x3F4C422A#32)) (k0_pay11 (k0_pay4 B.lw)))
      (k0_pay14 (k0_pay7 B.bias) (k0_pay13 (F := Ideal) (k0_pay1 (F := Ideal)) (k0_pay2 (F := Ideal)) (k0_pay5 B.lb) (k0_pay10 (k0_pay3 B.v) (k0_pay6 B.avg) (k0_pay9 B.v) (Scalar.ofBits .f32 0x3F4C422A#32)) (k0_pay11 (k0_pay4 B.lw)) (pair B.w 0) (pair B.w 1) (pair B.w 2) (pair B.w 3)))
      (k0_pay15 (F := Ideal) (k0_pay1 (F := Ideal)) (k0_pay2 (F := Ideal)) (k0_pay7 B.bias) (k0_pay12 (k0_pay5 B.lb) (k0_pay10 (k0_pay3 B.v) (k0_pay6 B.avg) (k0_pay9 B.v) (Scalar.ofBits .f32 0x3F4C422A#32)) (k0_pay11 (k0_pay4 B.lw))) (pair B.w 0) (pair B.w 1) (pair B.w 2) (pair B.w 3))
      (k0_pay17 (F := Ideal) (k0_pay1 (F := Ideal)) (k0_pay2 (F := Ideal)) (k0_pay7 B.bias) (k0_pay12 (k0_pay5 B.lb) (k0_pay10 (k0_pay3 B.v) (k0_pay6 B.avg) (k0_pay9 B.v) (Scalar.ofBits .f32 0x3F4C422A#32)) (k0_pay11 (k0_pay4 B.lw)))
        (k0_pay16 (k0_pay12 (k0_pay5 B.lb) (k0_pay10 (k0_pay3 B.v) (k0_pay6 B.avg) (k0_pay9 B.v) (Scalar.ofBits .f32 0x3F4C422A#32)) (k0_pay11 (k0_pay4 B.lw)))) (pair B.w 0) (pair B.w 1) (pair B.w 2) (pair B.w 3))
      (k0_pay18 (k0_pay12 (k0_pay5 B.lb) (k0_pay10 (k0_pay3 B.v) (k0_pay6 B.avg) (k0_pay9 B.v) (Scalar.ofBits .f32 0x3F4C422A#32)) (k0_pay11 (k0_pay4 B.lw)))) (pair B.w 0) (pair B.w 1) (pair B.w 2) (pair B.w 3)
    = blockT B := by
  rw [unit_same, row0, normed_same, row1, row2, whole_same, gate_same]
  rfl

/-! ## The host lines and the blocks -/

variable (m : (ℓ : Loc nD τ sig) → Buf (Elt Ideal) ℓ)

theorem places : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![0, 0]
    ∧ win0_7.index t = ![t.val, 0] ∧ t.val < 8 :=
  (by decide +kernel : ∀ t : Fin grid0.N, _)

abbrev uArg (c : Dev nD) : FVec Ideal S2x2048x512 .f32 := m ((c : Thread nD τ).loc main_arg0)
abbrev vArg (c : Dev nD) : FVec Ideal S2x2048x512 .f32 := m ((c : Thread nD τ).loc main_arg1)
abbrev lwArg (c : Dev nD) : FVec Ideal S1x8x64 .f32 := m ((c : Thread nD τ).loc main_arg2)
abbrev lbArg (c : Dev nD) : FVec Ideal S1x8x64 .f32 := m ((c : Thread nD τ).loc main_arg3)
abbrev wArg (c : Dev nD) : FVec Ideal S1x8x128x128 .f32 := m ((c : Thread nD τ).loc main_arg4)
abbrev bArg (c : Dev nD) : FVec Ideal S1x8x128 .f32 := m ((c : Thread nD τ).loc main_arg5)
abbrev avgM (c : Dev nD) : FVec Ideal S256x256 .bf16 := V m c main_v6
abbrev wcatM (c : Dev nD) : FVec Ideal S4x128x256 .bf16 := V m c main_v41
abbrev biasM (c : Dev nD) : FVec Ideal S128x512 .f32 := V m c main_v49
abbrev lwM (c : Dev nD) : FVec Ideal S1x512 .f32 := V m c main_v50
abbrev lbM (c : Dev nD) : FVec Ideal S1x512 .f32 := V m c main_v51
abbrev uM (c : Dev nD) : FVec Ideal S4096x512 .bf16 := V m c main_v53
abbrev vM (c : Dev nD) : FVec Ideal S4096x512 .bf16 := V m c main_v55

theorem avg_at (c : Dev nD) (k q : Fin 256) : avgM m c (ix2 k q) = (((if k.val / 64 = q.val / 64 then 1 / 64 else 0 : ℝ)) : EReal) := by
  unfold avgM V
  simp only [List.flatten_cons, List.flatten_nil, List.append_assoc, List.cons_append, List.nil_append]
  entry_read
  simp only [StableHlo.TRef.toBuf, StableHlo.TRef.ofBuf, cast_cast, cast_eq]
  pointwise
  show Scalar.select (IntOp.cmpi CmpIPredicate.eq (GateHost.quot (BitVec.ofNat 32 k.val)) (GateHost.quot (BitVec.ofNat 32 q.val))) _ _ = _
  rw [GateHost.quot_eq ⟨k.val, by omega⟩, GateHost.quot_eq ⟨q.val, by omega⟩]
  refine (GateHost.pick_eq ⟨k.val / 64, by omega⟩ ⟨q.val / 64, by omega⟩).trans ?_
  have e : Ideal.ofBits .f32 0x3C800000#32 = ((1 / 64 : ℝ) : EReal) := by
    simp [Ideal.ofBits, Ideal.ieee, -EReal.coe_mul]; norm_num
  rw [e]
  split <;> simp

theorem wcat_at (c : Dev nD) (j : Fin 4) (t : Fin 128) (i : Fin 256) : wcatM m c (ix3 j t i)
    = wArg m c (ix4 0 ⟨2 * j.val + i.val / 128, by omega⟩ t ⟨i.val % 128, by omega⟩) * (((if i.val % 128 ≤ t.val then 1 else 0 : ℝ)) : EReal) := by
  unfold wcatM V
  simp only [List.flatten_cons, List.flatten_nil, List.append_assoc, List.cons_append, List.nil_append]
  entry_read
  simp only [StableHlo.TRef.toBuf, StableHlo.TRef.ofBuf, cast_cast, cast_eq]
  pointwise
  have e : (⟨j.val * 2 + i.val / 128, by omega⟩ : Fin 8) = ⟨2 * j.val + i.val / 128, by omega⟩ := Fin.ext (by simp only; omega)
  rw [e]
  exact GateHost.mask_eq _ t ⟨i.val % 128, by omega⟩

theorem bias_at (c : Dev nD) (t : Fin 128) (q : Fin 512) : biasM m c (ix2 t q) = bArg m c (ix3 0 (hd q) t) := by
  unfold biasM V
  simp only [List.flatten_cons, List.flatten_nil, List.append_assoc, List.cons_append, List.nil_append]
  entry_read
  pointwise
  rfl
theorem lw_at (c : Dev nD) (q : Fin 512) : lwM m c (ix2 0 q) = lwArg m c (ix3 0 (hd q) (ln q)) := by
  unfold lwM V
  simp only [List.flatten_cons, List.flatten_nil, List.append_assoc, List.cons_append, List.nil_append]
  entry_read
  pointwise
  rfl
theorem lb_at (c : Dev nD) (q : Fin 512) : lbM m c (ix2 0 q) = lbArg m c (ix3 0 (hd q) (ln q)) := by
  unfold lbM V
  simp only [List.flatten_cons, List.flatten_nil, List.append_assoc, List.cons_append, List.nil_append]
  entry_read
  pointwise
  rfl
theorem u_at (c : Dev nD) (T : Fin 4096) (q : Fin 512) : uM m c (ix2 T q) = uArg m c (ix3 ⟨T.val / 2048, by omega⟩ ⟨T.val % 2048, by omega⟩ q) := by
  unfold uM V
  simp only [List.flatten_cons, List.flatten_nil, List.append_assoc, List.cons_append, List.nil_append]
  entry_read
  pointwise
theorem v_at (c : Dev nD) (T : Fin 4096) (q : Fin 512) : vM m c (ix2 T q) = vArg m c (ix3 ⟨T.val / 2048, by omega⟩ ⟨T.val % 2048, by omega⟩ q) := by
  unfold vM V
  simp only [List.flatten_cons, List.flatten_nil, List.append_assoc, List.cons_append, List.nil_append]
  entry_read
  pointwise

/-- Every element read is a real number. -/
structure Finite (c : Dev nD) : Prop where
  u : ∀ i, uArg m c i = ((uArg m c i).toReal : EReal)
  v : ∀ i, vArg m c i = ((vArg m c i).toReal : EReal)
  lw : ∀ i, lwArg m c i = ((lwArg m c i).toReal : EReal)
  lb : ∀ i, lbArg m c i = ((lbArg m c i).toReal : EReal)
  w : ∀ i, wArg m c i = ((wArg m c i).toReal : EReal)
  b : ∀ i, bArg m c i = ((bArg m c i).toReal : EReal)

/-- The real numbers of the arguments; no gradient arrives, so its table is zero. -/
def data (c : Dev nD) : Data where
  u T q := (uArg m c (ix3 ⟨T / 2048 % 2, Nat.mod_lt _ (by norm_num)⟩ ⟨T % 2048, Nat.mod_lt _ (by norm_num)⟩ q)).toReal
  v T q := (vArg m c (ix3 ⟨T / 2048 % 2, Nat.mod_lt _ (by norm_num)⟩ ⟨T % 2048, Nat.mod_lt _ (by norm_num)⟩ q)).toReal
  d _ _ := 0
  lw q := (lwArg m c (ix3 0 (hd q) (ln q))).toReal
  lb q := (lbArg m c (ix3 0 (hd q) (ln q))).toReal
  w h t s := (wArg m c (ix4 0 h t s)).toReal * (if s.val ≤ t.val then 1 else 0)
  b h t := (bArg m c (ix3 0 h t)).toReal

/-- The blocks a grid point reads, with those `gmlp_bwd` reads besides filled in by their values. -/
def blocksOf (D : Data) (x0 x1 : FVec Ideal S512x512 .bf16) (x2 x3 : FVec Ideal S1x512 .f32) (x4 : FVec Ideal S4x128x256 .bf16)
    (x5 : FVec Ideal S128x512 .f32) (x6 : FVec Ideal S256x256 .bf16) : Blocks where
  d := fun _ => ((0 : ℝ) : EReal)
  u := x0
  v := x1
  lw := x2
  lb := x3
  w := x4
  wt := fun i => ((D.w ⟨2 * (i 0).val + (i 2).val / 128, by
    have h0 : (i 0).val < 4 := (i 0).isLt
    have h2 : (i 2).val < 256 := (i 2).isLt
    omega⟩ ⟨(i 2).val % 128, Nat.mod_lt _ (by norm_num)⟩ ⟨(i 1).val, (i 1).isLt⟩ : ℝ) : EReal)
  bias := x5
  avg := x6
  ex := fun i => (((if (i 0).val / 64 = (i 1).val then 1 else 0 : ℝ)) : EReal)

/-- What the body leaves is the block. -/
theorem out_eq (D : Data) (x0 x1 : FVec Ideal S512x512 .bf16) (x2 x3 : FVec Ideal S1x512 .f32) (x4 : FVec Ideal S4x128x256 .bf16)
    (x5 : FVec Ideal S128x512 .f32) (x6 : FVec Ideal S256x256 .bf16) :
    out0_7 (F := Ideal) x0 x1 x2 x3 x4 x5 x6 = blockT (blocksOf D x0 x1 x2 x3 x4 x5 x6) := by
  refine Eq.trans ?_ (block_same (blocksOf D x0 x1 x2 x3 x4 x5 x6))
  unfold out0_7 k0_pay26 k0_pay25 k0_pay24 k0_pay23 k0_pay22 k0_pay21 k0_pay20
  frame_out
  rfl

/-- The blocks of point `t`. -/
def blocks (c : Dev nD) (t : Fin cfg0.N) : Blocks :=
  blocksOf (data m c) (iblk m c 0 t) (iblk m c 1 t) (iblk m c 2 t) (iblk m c 3 t) (iblk m c 4 t) (iblk m c 5 t) (iblk m c 6 t)

theorem read_u (c : Dev nD) (t : Fin cfg0.N) (r q : Fin 512) (h : t.val * 512 + r.val < 4096) :
    (iblk m c 0 t : FVec Ideal S512x512 .bf16) (ix2 r q) = uM m c (ix2 (⟨t.val * 512 + r.val, h⟩ : Fin 4096) q) := by
  blk_point [iblk, places t]
theorem read_v (c : Dev nD) (t : Fin cfg0.N) (r q : Fin 512) (h : t.val * 512 + r.val < 4096) :
    (iblk m c 1 t : FVec Ideal S512x512 .bf16) (ix2 r q) = vM m c (ix2 (⟨t.val * 512 + r.val, h⟩ : Fin 4096) q) := by
  blk_point [iblk, places t]
theorem read_lw (c : Dev nD) (t : Fin cfg0.N) (q : Fin 512) : (iblk m c 2 t : FVec Ideal S1x512 .f32) (ix2 0 q) = lwM m c (ix2 0 q) := by
  blk_point [iblk, places t]
theorem read_lb (c : Dev nD) (t : Fin cfg0.N) (q : Fin 512) : (iblk m c 3 t : FVec Ideal S1x512 .f32) (ix2 0 q) = lbM m c (ix2 0 q) := by
  blk_point [iblk, places t]
theorem read_w (c : Dev nD) (t : Fin cfg0.N) (j : Fin 4) (s : Fin 128) (i : Fin 256) :
    (iblk m c 4 t : FVec Ideal S4x128x256 .bf16) (ix3 j s i) = wcatM m c (ix3 j s i) := by
  blk_point [iblk, places t]
theorem read_bias (c : Dev nD) (t : Fin cfg0.N) (s : Fin 128) (q : Fin 512) :
    (iblk m c 5 t : FVec Ideal S128x512 .f32) (ix2 s q) = biasM m c (ix2 s q) := by
  blk_point [iblk, places t]
theorem read_avg (c : Dev nD) (t : Fin cfg0.N) (k q : Fin 256) :
    (iblk m c 6 t : FVec Ideal S256x256 .bf16) (ix2 k q) = avgM m c (ix2 k q) := by
  blk_point [iblk, places t]

theorem val_u {c : Dev nD} (H : Finite m c) (t : Fin cfg0.N) (r q : Fin 512) :
    (iblk m c 0 t : FVec Ideal S512x512 .bf16) (ix2 r q) = (((data m c).u (512 * t.val + r.val) q : ℝ) : EReal) := by
  have ht := (places t).2.2.2.2.2.2.2.2
  have row : t.val * 512 + r.val = 512 * t.val + r.val := by omega
  have key : ∀ T : ℕ, (h : T < 4096) → uM m c (ix2 (⟨T, h⟩ : Fin 4096) q) = (((data m c).u T q : ℝ) : EReal) := by
    intro T h
    have e : T / 2048 % 2 = T / 2048 := Nat.mod_eq_of_lt (by omega)
    rw [u_at, H.u (ix3 _ _ _)]
    simp only [data, e]
  rw [read_u m c t r q (by omega), key]
  simp only [row]

theorem val_v {c : Dev nD} (H : Finite m c) (t : Fin cfg0.N) (r q : Fin 512) :
    (iblk m c 1 t : FVec Ideal S512x512 .bf16) (ix2 r q) = (((data m c).v (512 * t.val + r.val) q : ℝ) : EReal) := by
  have ht := (places t).2.2.2.2.2.2.2.2
  have row : t.val * 512 + r.val = 512 * t.val + r.val := by omega
  have key : ∀ T : ℕ, (h : T < 4096) → vM m c (ix2 (⟨T, h⟩ : Fin 4096) q) = (((data m c).v T q : ℝ) : EReal) := by
    intro T h
    have e : T / 2048 % 2 = T / 2048 := Nat.mod_eq_of_lt (by omega)
    rw [v_at, H.v (ix3 _ _ _)]
    simp only [data, e]
  rw [read_v m c t r q (by omega), key]
  simp only [row]

theorem val_w {c : Dev nD} (H : Finite m c) (t : Fin cfg0.N) : GateReal.Weights (iblk m c 4 t) (data m c).w := by
  intro j s i
  have e := wcat_at m c j s i
  rw [H.w, ← EReal.coe_mul] at e
  exact (read_w m c t j s i).trans e

theorem holds_of {D : Data} {n : ℕ} {x0 x1 : FVec Ideal S512x512 .bf16} {x2 x3 : FVec Ideal S1x512 .f32} {x4 : FVec Ideal S4x128x256 .bf16}
    {x5 : FVec Ideal S128x512 .f32} {x6 : FVec Ideal S256x256 .bf16} (zero : ∀ T q, D.d T q = 0)
    (u : ∀ r q, x0 (ix2 r q) = ((D.u (512 * n + r.val) q : ℝ) : EReal)) (v : ∀ r q, x1 (ix2 r q) = ((D.v (512 * n + r.val) q : ℝ) : EReal))
    (lw : ∀ q, x2 (ix2 0 q) = ((D.lw q : ℝ) : EReal)) (lb : ∀ q, x3 (ix2 0 q) = ((D.lb q : ℝ) : EReal)) (w : GateReal.Weights x4 D.w)
    (b : ∀ s q, x5 (ix2 s q) = ((D.b (hd q) s : ℝ) : EReal))
    (avg : ∀ k q, x6 (ix2 k q) = (((if k.val / 64 = q.val / 64 then 1 / 64 else 0 : ℝ)) : EReal)) :
    GateReal.Holds (blocksOf D x0 x1 x2 x3 x4 x5 x6) D n :=
  GateHost.holds_of (fun r q => by rw [zero]; rfl) u v lw lb w (fun _ _ _ => rfl) b avg (fun _ _ => rfl)

/-- The input blocks of point `t` are the arguments' real numbers. -/
theorem holds {c : Dev nD} (H : Finite m c) (t : Fin cfg0.N) : GateReal.Holds (blocks m c t) (data m c) t.val := by
  have hu := val_u m H t
  have hv := val_v m H t
  have hlw := fun q => (read_lw m c t q).trans ((lw_at m c q).trans (H.lw _))
  have hlb := fun q => (read_lb m c t q).trans ((lb_at m c q).trans (H.lb _))
  have hw := val_w m H t
  have hb := fun s q => (read_bias m c t s q).trans ((bias_at m c s q).trans (H.b _))
  have ha := fun k q => (read_avg m c t k q).trans (avg_at m c k q)
  unfold blocks
  generalize iblk m c 0 t = x0 at hu ⊢
  generalize iblk m c 1 t = x1 at hv ⊢
  generalize iblk m c 2 t = x2 at hlw ⊢
  generalize iblk m c 3 t = x3 at hlb ⊢
  generalize iblk m c 4 t = x4 at hw ⊢
  generalize iblk m c 5 t = x5 at hb ⊢
  generalize iblk m c 6 t = x6 at ha ⊢
  exact holds_of (fun _ _ => rfl) hu hv hlw hlb hw hb ha

/-! ## The result, whole -/

/-- The unit's output, token by token. -/
abbrev res (D : Data) : FVec Ideal S4096x512 .bf16 := fun y => ((gu D (y 0).val (y 1) * mixed D (y 0).val (y 1) : ℝ) : EReal)

theorem block_is {c : Dev nD} (H : Finite m c) (t : Fin cfg0.N) (r q : Fin 512) :
    blockT (blocks m c t) (ix2 r q) = ((gu (data m c) (512 * t.val + r.val) q * mixed (data m c) (512 * t.val + r.val) q : ℝ) : EReal) :=
  GateReal.mul_is (GateReal.gu_is (holds m H t)) (GateReal.mixed_is (holds m H t)) r q

theorem final {c : Dev nD} (H : Finite m c) : (dats m 0 c).arrAt 7 cfg0.N = res (data m c) := by
  refine (dats m 0 c).arrAt_eq_of_covers 7 _ (by decide +kernel) fun t _ y => ?_
  blk_simp
  rw [after0_7]
  have e : out0_7 (iblk m c 0 t) (iblk m c 1 t) (iblk m c 2 t) (iblk m c 3 t) (iblk m c 4 t) (iblk m c 5 t) (iblk m c 6 t) = blockT (blocks m c t) :=
    out_eq (data m c) _ _ _ _ _ _ _
  rw [e]
  have ht := (places t).2.2.2.2.2.2.2.2
  obtain ⟨r, q, rfl⟩ : ∃ (r q : Fin 512), y = ix2 r q := ⟨y 0, y 1, eq_ix2 y⟩
  have e2 : (((cfg0.win 7).blk t).view.emb (ix2 r q)) = (ix2 (⟨t.val * 512 + r.val, by omega⟩ : Fin 4096) q) := by
    blk_ext [places t]
  rw [e2]
  refine (block_is m H t r q).trans ?_
  have row : 512 * t.val + r.val = t.val * 512 + r.val := by omega
  rw [row]
  rfl

end Cert.GfwdValue

end
-- ==== Proof.Gfwd.lean ====
/-
  `gmlp_fwd`: the reference's lines are the forward lines of `gmlp_bwd`'s reference, whose real numbers `GateRef` states.
-/
module

public import proofs.«01_k».proof.Defs
public import proofs.«01_k».proof.Proof.GfwdKernel
public import proofs.«01_k».proof.Proof.Gmlp
public import proofs.«01_k».proof.Proof.Gen.Pre_finite_fwd
public import proofs.«01_k».proof.Proof.Gen.Gfwd.Frame
public import proofs.«01_k».proof.Proof.Gen.GfwdRefIdeal.Run
public import Idealize.ShloMosaic.Lib.ReduceAll
public import Idealize.ShloMosaic.Adequacy
public import Idealize.ShloMosaic.Init

@[expose] public section

set_option maxRecDepth 16384

noncomputable section

namespace Cert.GfwdClaims

open Idealize.ShloMosaic Idealize.ShloMosaic.TcCoe Idealize.SL.Sem
open Idealize.ShloMosaic.StableHlo
open Cert.Gate Cert.GfwdValue

/-! ## The precondition -/

section
variable [h : Cert.Pre_finite_fwd.Facts]

/-- An array whose test came out one holds real numbers. -/
theorem tested {s : Shape} {axes : List (Fin s.rank)} (x : FVec Ideal s .f32) (hb : Cert.Pre_finite_fwd.S_.BroadcastsInDim s (![] : Fin 0 → Fin s.rank))
    (hr : s.ReducesTo axes Cert.Pre_finite_fwd.S_) (h0 : 0 < Cert.Pre_finite_fwd.S_.numel)
    (e : Host.reduce IntOp.andi (cmpf CmpFPredicate.olt (Host.absf x) (broadcastInDim s ![] hb (constant Cert.Pre_finite_fwd.S_ .f32 0x7F800000#32)))
      (constantI Cert.Pre_finite_fwd.S_ 1 1#1) hr h0 ix0 = 1#1) (i : s.Idx) : x i = ((x i).toReal : EReal) :=
  GmlpClaims.real_of_lt rfl (Host.reduce_andi_all _ _ _ _ _ e i)

theorem finite_of_pre {m : (ℓ : Loc Cert.GfwdIdeal.nD Cert.GfwdIdeal.τ Cert.GfwdIdeal.sig) → Buf (Elt Ideal) ℓ} (hp : Cert.Pre_GfwdIdeal_finite_fwd m)
    (c : Dev Cert.GfwdIdeal.nD) : Finite m c := by
  have e := congrFun (hp c) ix0
  simp only [Cert.Pre_finite_fwd.fn, Cert.Pre_finite_fwd.fn_part1, andi, IntOp.andi_eq_one] at e
  obtain ⟨⟨⟨⟨⟨e0, e1⟩, e2⟩, e3⟩, e4⟩, e5⟩ := e
  exact ⟨tested _ _ _ _ e0, tested _ _ _ _ e1, tested _ _ _ _ e2, tested _ _ _ _ e3, tested _ _ _ _ e4, tested _ _ _ _ e5⟩
end

/-! ## The reference -/

section Args
open Cert.GmlpRefIdeal

/-- Some element of each type. -/
def any : (e : EltTy) → Elt Ideal e
  | .i1 => 0#1 | .i4 => 0#4 | .i8 => 0#8 | .i16 => 0#16 | .i32 => 0#32 | .i64 => 0#64
  | .fp8e4m3 => (0 : EReal) | .fp8e5m2 => (0 : EReal) | .bf16 => (0 : EReal) | .f16 => (0 : EReal) | .f32 => (0 : EReal)

/-- There are contents that hold six given arrays as the arguments of `gmlp_bwd`'s reference, the gradient zero. -/
theorem exists_args (x0 x1 : FVec Ideal S2x2048x512 .f32) (x2 x3 : FVec Ideal S1x8x64 .f32) (x4 : FVec Ideal S1x8x128x128 .f32) (x5 : FVec Ideal S1x8x128 .f32) :
    ∃ V0 : Valuation τ sig (Elt Ideal), GateRef.uA V0 = x0 ∧ GateRef.vA V0 = x1 ∧ GateRef.lwA V0 = x2 ∧ GateRef.lbA V0 = x3 ∧ GateRef.wA V0 = x4
      ∧ GateRef.bA V0 = x5 ∧ GateRef.dA V0 = fun _ => ((0 : ℝ) : EReal) := by
  classical
  let V : Valuation τ sig (Elt Ideal) := fun b i => any _
  refine ⟨Function.update (Function.update (Function.update (Function.update (Function.update (Function.update (Function.update V
    (Proc.devRef .tc main_arg6) (fun _ => ((0 : ℝ) : EReal))) (Proc.devRef .tc main_arg5) x5) (Proc.devRef .tc main_arg4) x4) (Proc.devRef .tc main_arg3) x3)
    (Proc.devRef .tc main_arg2) x2) (Proc.devRef .tc main_arg1) x1) (Proc.devRef .tc main_arg0) x0, ?_, ?_, ?_, ?_, ?_, ?_, ?_⟩
  · exact Function.update_self _ _ _
  · exact (Function.update_of_ne (by decide) _ _).trans (Function.update_self _ _ _)
  · exact (Function.update_of_ne (by decide) _ _).trans ((Function.update_of_ne (by decide) _ _).trans (Function.update_self _ _ _))
  · exact (Function.update_of_ne (by decide) _ _).trans ((Function.update_of_ne (by decide) _ _).trans ((Function.update_of_ne (by decide) _ _).trans
      (Function.update_self _ _ _)))
  · exact (Function.update_of_ne (by decide) _ _).trans ((Function.update_of_ne (by decide) _ _).trans ((Function.update_of_ne (by decide) _ _).trans
      ((Function.update_of_ne (by decide) _ _).trans (Function.update_self _ _ _))))
  · exact (Function.update_of_ne (by decide) _ _).trans ((Function.update_of_ne (by decide) _ _).trans ((Function.update_of_ne (by decide) _ _).trans
      ((Function.update_of_ne (by decide) _ _).trans ((Function.update_of_ne (by decide) _ _).trans (Function.update_self _ _ _)))))
  · exact (Function.update_of_ne (by decide) _ _).trans ((Function.update_of_ne (by decide) _ _).trans ((Function.update_of_ne (by decide) _ _).trans
      ((Function.update_of_ne (by decide) _ _).trans ((Function.update_of_ne (by decide) _ _).trans ((Function.update_of_ne (by decide) _ _).trans
        (Function.update_self _ _ _))))))

end Args

section Forward
variable (m' : (ℓ : Loc Cert.GfwdRefIdeal.nD Cert.GfwdRefIdeal.τ Cert.GfwdRefIdeal.sig) → Buf (Elt Ideal) ℓ) (c : Dev Cert.GfwdRefIdeal.nD)
  (V0 : Valuation Cert.GmlpRefIdeal.τ Cert.GmlpRefIdeal.sig (Elt Ideal))

set_option maxHeartbeats 1000000 in
/-- The reference's result is the gate over the mixed rows, as `gmlp_bwd`'s reference computes both. -/
theorem forward_eq (e0 : GateRef.uA V0 = m' ((c.tc : Thread _ _).loc Cert.GfwdRefIdeal.main_arg0)) (e1 : GateRef.vA V0 = m' ((c.tc : Thread _ _).loc Cert.GfwdRefIdeal.main_arg1))
    (e2 : GateRef.lwA V0 = m' ((c.tc : Thread _ _).loc Cert.GfwdRefIdeal.main_arg2)) (e3 : GateRef.lbA V0 = m' ((c.tc : Thread _ _).loc Cert.GfwdRefIdeal.main_arg3))
    (e4 : GateRef.wA V0 = m' ((c.tc : Thread _ _).loc Cert.GfwdRefIdeal.main_arg4)) (e5 : GateRef.bA V0 = m' ((c.tc : Thread _ _).loc Cert.GfwdRefIdeal.main_arg5)) :
    Cert.GfwdRefIdeal.Value.res_main_v71 (F := Ideal) m' c
      = truncf (F := Ideal) .bf16 (shapeCast Cert.GfwdRefIdeal.S4096x512 (mulf (φ := .f32) (s := Cert.GmlpRefIdeal.S2x2048x512) (Cert.GmlpRefIdeal.Value.res_main_v29 V0) (Cert.GmlpRefIdeal.Value.res_main_v89 V0))
          Cert.GfwdRefIdeal.Gen.shapeCasts_S2x2048x512_S4096x512) Cert.GfwdRefIdeal.Gen.bitsLt_bf16_f32 := by
  unfold Cert.GfwdRefIdeal.Value.res_main_v71
  rw [← e0, ← e1, ← e2, ← e3, ← e4, ← e5]
  rfl
end Forward

theorem reads_of {m : (ℓ : Loc Cert.GfwdIdeal.nD Cert.GfwdIdeal.τ Cert.GfwdIdeal.sig) → Buf (Elt Ideal) ℓ} {c : Dev Cert.GfwdIdeal.nD} (H : Finite m c)
    (V0 : Valuation Cert.GmlpRefIdeal.τ Cert.GmlpRefIdeal.sig (Elt Ideal)) (e0 : GateRef.uA V0 = uArg m c) (e1 : GateRef.vA V0 = vArg m c)
    (e2 : GateRef.lwA V0 = lwArg m c) (e3 : GateRef.lbA V0 = lbArg m c) (e4 : GateRef.wA V0 = wArg m c) (e5 : GateRef.bA V0 = bArg m c)
    (e6 : GateRef.dA V0 = fun _ => ((0 : ℝ) : EReal)) : GateRef.Reads V0 (data m c) where
  u := GateRef.at3 fun b l q => by
    rw [e0, H.u]
    have key : ∀ (b' : Fin 2) (l' : Fin 2048), b' = b → l' = l →
        (((uArg m c (ix3 b l q)).toReal : ℝ) : EReal) = (((uArg m c (ix3 b' l' q)).toReal : ℝ) : EReal) := by
      rintro _ _ rfl rfl; rfl
    exact key _ _ (Fin.ext (by simp only; omega)) (Fin.ext (by simp only; omega))
  v := GateRef.at3 fun b l q => by
    rw [e1, H.v]
    have key : ∀ (b' : Fin 2) (l' : Fin 2048), b' = b → l' = l →
        (((vArg m c (ix3 b l q)).toReal : ℝ) : EReal) = (((vArg m c (ix3 b' l' q)).toReal : ℝ) : EReal) := by
      rintro _ _ rfl rfl; rfl
    exact key _ _ (Fin.ext (by simp only; omega)) (Fin.ext (by simp only; omega))
  lw := fun k p => by
    rw [e2, H.lw]
    simp only [data, hd_col, ln_col]
  lb := fun k p => by
    rw [e3, H.lb]
    simp only [data, hd_col, ln_col]
  w := fun k t s => by
    rw [e4, H.w, ← EReal.coe_mul]
    rfl
  b := fun k t => by
    rw [e5, H.b]
    rfl
  d := fun b l q => by
    rw [e6]
    rfl

/-! ## The claims -/

theorem frame : Cert.quiescent_Gfwd := fun m ρ _ => Cert.Gfwd.Gen.frame m ρ
theorem frame_ideal : Cert.quiescent_GfwdIdeal := fun m ρ _ => Cert.GfwdIdeal.Gen.frame m ρ
theorem frame_ideal_finite_fwd [Cert.Pre_finite_fwd.Facts] : Cert.quiescent_GfwdIdeal_pre_finite_fwd := fun m ρ _ => Cert.GfwdIdeal.Gen.frame m ρ
theorem frame_ref : Cert.quiescent_GfwdRefIdeal := fun m ρ _ =>
  (θ_run Cert.GfwdRefIdeal.defs _ _).mono (fun r h => ⟨fun c => (h c).2, sem_eq_zero_of_no_sems (by decide) r.2⟩)
    (Cert.GfwdRefIdeal.Value.run (F := Ideal) m ρ)
theorem frame_ref_finite_fwd [Cert.Pre_finite_fwd.Facts] : Cert.quiescent_GfwdRefIdeal_pre_finite_fwd := fun m ρ _ => frame_ref m ρ trivial

theorem preserves : Cert.preserves_Gfwd_GfwdIdeal := IdealRules.named_const.statement Cert.GfwdIdeal.κ _ _ _ _ rfl

theorem algebraic [Cert.Pre_finite_fwd.Facts] : Cert.algebraic_GfwdIdeal_GfwdRefIdeal_pre_finite_fwd := by
  intro m ρ m' ρ' hp hag
  have H := finite_of_pre hp
  refine ⟨fun c => res (data m c), ?_, ?_⟩
  · exact (θ_run Cert.GfwdIdeal.defs _ _).mono (fun _ h c => ⟨(h c).1.trans (final m (H c)), (h c).2⟩) (Cert.GfwdIdeal.Value.run_blocks m ρ)
  · refine (θ_run Cert.GfwdRefIdeal.defs _ _).mono (fun _ h c => ⟨(h c).1.trans ?_, (h c).2⟩) (Cert.GfwdRefIdeal.Value.run (F := Ideal) m' ρ')
    obtain ⟨a0, a1, a2, a3, a4, a5⟩ := hag c
    obtain ⟨V0, e0, e1, e2, e3, e4, e5, e6⟩ := exists_args (uArg m c) (vArg m c) (lwArg m c) (lbArg m c) (wArg m c) (bArg m c)
    have R := reads_of (H c) V0 e0 e1 e2 e3 e4 e5 e6
    refine (forward_eq m' c V0 (e0.trans a0.symm) (e1.trans a1.symm) (e2.trans a2.symm) (e3.trans a3.symm) (e4.trans a4.symm) (e5.trans a5.symm)).trans ?_
    have p : GateRef.Is (s := Cert.GmlpRefIdeal.S2x2048x512) (φ := .f32) _ (GateRef.T3 fun T l => gu (data m c) T l * mixed (data m c) T l) :=
      GateRef.to_is (GateRef.mul_is (GateRef.is29 R) (GateRef.is89 R)) fun i => rfl
    exact funext fun i => GateRef.fold_is p _ i

end Cert.GfwdClaims

end
-- ==== Proof.Out.lean ====
/-
  The output projection with the two norms after it: what the call `out_proj` leaves in its three results is the
  reference's, at every extended real.

  A grid point works on 512 tokens: it multiplies the two halves of the mixed rows with the two halves of the weight and adds
  the products, then norms the sum, adds it to the residual rows, and norms that.
-/
module

public import proofs.«01_k».proof.Defs
public import proofs.«01_k».proof.Proof.Norm
public import proofs.«01_k».proof.Proof.Gen.OutIdeal.Value
public import proofs.«01_k».proof.Proof.Gen.OutRefIdeal.Run
public import proofs.«01_k».proof.Proof.Gen.Out.Frame
public import Idealize.ShloMosaic.Lib.Pipeline.ValueKit
public import Idealize.ShloMosaic.Lib.Quiescent

@[expose] public section

set_option maxRecDepth 16384

noncomputable section

namespace Cert.OutValue

open Cert.OutIdeal Cert.OutIdeal.Gen Idealize.ShloMosaic Idealize.ShloMosaic.TcCoe Idealize.SL.Sem
open Cert.Norm (len eps energy unit gain)

variable (m : (ℓ : Loc nD τ sig) → Buf (Elt Ideal) ℓ)

/-! ## The reference -/

abbrev cat (a b : FVec Ideal S2x2048x512 .f32) : FVec Ideal S2x2048x1024 .f32 :=
  concatenate S2x2048x1024 2 [⟨S2x2048x512, a⟩, ⟨S2x2048x512, b⟩] Cert.OutRefIdeal.Gen.concatenates_S2x2048x512_S2x2048x512_S2x2048x1024_d2

abbrev prod (x : FVec Ideal S2x2048x1024 .f32) (w : FVec Ideal S1x1024x1024 .f32) : FVec Ideal S2x2048x1024 .f32 :=
  Host.dotGeneral Cert.OutRefIdeal.dot_S2x2048x1024_S1024x1024_S2x2048x1024_2_0_01_1_n_n none x (shapeCast _ w Cert.OutRefIdeal.Gen.shapeCasts_S1x1024x1024_S1024x1024)

/-- The norm of every token's row, with its gain. -/
abbrev normed (x : FVec Ideal S2x2048x1024 .f32) (g : FVec Ideal S1x1024 .f32) : FVec Ideal S2x2048x1024 .f32 :=
  mulf (unit x) (gain g)

abbrev argA (c : Dev nD) : FVec Ideal S2x2048x512 .f32 := m ((c : Thread nD τ).loc main_arg0)
abbrev argB (c : Dev nD) : FVec Ideal S2x2048x512 .f32 := m ((c : Thread nD τ).loc main_arg1)
abbrev argW (c : Dev nD) : FVec Ideal S1x1024x1024 .f32 := m ((c : Thread nD τ).loc main_arg2)
abbrev argX (c : Dev nD) : FVec Ideal S2x2048x1024 .f32 := m ((c : Thread nD τ).loc main_arg3)
abbrev argG2 (c : Dev nD) : FVec Ideal S1x1024 .f32 := m ((c : Thread nD τ).loc main_arg4)
abbrev argG3 (c : Dev nD) : FVec Ideal S1x1024 .f32 := m ((c : Thread nD τ).loc main_arg5)

abbrev mixed (c : Dev nD) : FVec Ideal S2x2048x1024 .f32 := prod (cat (argA m c) (argB m c)) (argW m c)
abbrev stream (c : Dev nD) : FVec Ideal S2x2048x1024 .f32 := addf (argX m c) (normed (mixed m c) (argG2 m c))

abbrev resultO (c : Dev nD) : FVec Ideal S4096x1024 .f32 :=
  shapeCast _ (mixed m c) Cert.OutRefIdeal.Gen.shapeCasts_S2x2048x1024_S4096x1024
abbrev resultX (c : Dev nD) : FVec Ideal S4096x1024 .f32 :=
  shapeCast _ (stream m c) Cert.OutRefIdeal.Gen.shapeCasts_S2x2048x1024_S4096x1024
abbrev resultH (c : Dev nD) : FVec Ideal S4096x1024 .bf16 :=
  truncf .bf16 (shapeCast _ (normed (stream m c) (argG3 m c)) Cert.OutRefIdeal.Gen.shapeCasts_S2x2048x1024_S4096x1024) Cert.OutRefIdeal.Gen.bitsLt_bf16_f32

theorem cat_low (a b : FVec Ideal S2x2048x512 .f32) (s : Fin 2) (l : Fin 2048) (k : Fin 512) :
    cat a b (ix3 s l (Fin.castAdd 512 k)) = a (ix3 s l k) := by
  pointwise
  simp only [Fin.val_castAdd, dif_pos k.isLt]

theorem cat_high (a b : FVec Ideal S2x2048x512 .f32) (s : Fin 2) (l : Fin 2048) (k : Fin 512) :
    cat a b (ix3 s l (Fin.natAdd 512 k)) = b (ix3 s l k) := by
  pointwise
  have h : ¬ 512 + k.val < 512 := by omega
  have e : (⟨512 + k.val - 512, by omega⟩ : Fin 512) = k := Fin.ext (by show 512 + k.val - 512 = k.val; omega)
  simp only [Fin.val_natAdd, dif_neg h, e]

theorem prod_apply (x : FVec Ideal S2x2048x1024 .f32) (w : FVec Ideal S1x1024x1024 .f32) (b : Fin 2) (l : Fin 2048) (q : Fin 1024) :
    prod x w (ix3 b l q) = ∑ k : Fin 1024, x (ix3 b l k) * w (ix3 0 k q) := by
  pointwise

theorem mixed_apply (c : Dev nD) (b : Fin 2) (l : Fin 2048) (q : Fin 1024) :
    mixed m c (ix3 b l q) = (∑ k : Fin 512, argA m c (ix3 b l k) * argW m c (ix3 0 (Fin.castAdd 512 k) q))
      + ∑ k : Fin 512, argB m c (ix3 b l k) * argW m c (ix3 0 (Fin.natAdd 512 k) q) := by
  refine (prod_apply _ _ b l q).trans ((Fin.sum_univ_add (a := 512) (b := 512) _).trans ?_)
  exact congrArg₂ (· + ·) (Finset.sum_congr rfl fun k _ => congrArg (· * _) (cat_low _ _ b l k))
    (Finset.sum_congr rfl fun k _ => congrArg (· * _) (cat_high _ _ b l k))

theorem normed_apply (x : FVec Ideal S2x2048x1024 .f32) (g : FVec Ideal S1x1024 .f32) (b : Fin 2) (l : Fin 2048) (q : Fin 1024) :
    normed x g (ix3 b l q) = x (ix3 b l q) * Ideal.rsqrt (energy len eps (fun k => x (ix3 b l k))) * g (ix2 0 q) :=
  congrArg₂ (· * ·) (Cert.Norm.unit_apply x b l q) (Cert.Norm.gain_apply g b l q)

/-! ## What a grid point computes -/

theorem places : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ t.val < 8 :=
  (by decide +kernel : ∀ t : Fin grid0.N, _)

section Pays

variable (a : FVec Ideal S512x512 .bf16) (u : FVec Ideal S512x1024 .bf16) (b : FVec Ideal S512x512 .bf16) (v : FVec Ideal S512x1024 .bf16)
  (x : FVec Ideal S512x1024 .f32) (g h : FVec Ideal S1x1024 .f32) (r : Fin 512) (q : Fin 1024)

theorem pay2_apply : k0_pay2 (F := Ideal) a u b v (ix2 r q) = (∑ k : Fin 512, a (ix2 r k) * u (ix2 k q)) + ∑ k : Fin 512, b (ix2 r k) * v (ix2 k q) := by
  pointwise [k0_pay2]

theorem pay3_apply : k0_pay3 (F := Ideal) a u b v x g (ix2 r q) = x (ix2 r q)
    + k0_pay2 (F := Ideal) a u b v (ix2 r q) * Ideal.rsqrt (energy len eps fun k => k0_pay2 (F := Ideal) a u b v (ix2 r k)) * g (ix2 0 q) := by
  pointwise [k0_pay3, energy]

theorem pay4_apply : k0_pay4 (F := Ideal) a u b v x g (ix2 r 0)
    = Ideal.div (∑ k : Fin 1024, k0_pay3 (F := Ideal) a u b v x g (ix2 r k) * k0_pay3 (F := Ideal) a u b v x g (ix2 r k)) len := by
  pointwise [k0_pay4]

theorem pay1_apply (e : FVec Ideal S512x1 .f32) (he : e (ix2 r 0) = Ideal.div (∑ k : Fin 1024, x (ix2 r k) * x (ix2 r k)) len) :
    k0_pay1 (F := Ideal) x e h (ix2 r q) = x (ix2 r q) * Ideal.rsqrt (energy len eps fun k => x (ix2 r k)) * h (ix2 0 q) := by
  unfold energy
  rw [← he]
  pointwise [k0_pay1]

end Pays

/-- The sequence and the place in it of a point's row. -/
abbrev seq (t : Fin cfg0.N) : Fin 2 := ⟨t.val / 4, by have : t.val < 8 := t.isLt; omega⟩
abbrev tok (t : Fin cfg0.N) (r : Fin 512) : Fin 2048 := ⟨t.val % 4 * 512 + r.val, by omega⟩

theorem read_a (c : Dev nD) (t : Fin cfg0.N) (r : Fin 512) (k : Fin 512) :
    (iblk m c 0 t : FVec Ideal S512x512 .bf16) (ix2 r k) = argA m c (ix3 (seq t) (tok t r) k) := by
  have ht : t.val < 8 := t.isLt
  blk_point [iblk, places t]

theorem read_b (c : Dev nD) (t : Fin cfg0.N) (r : Fin 512) (k : Fin 512) :
    (iblk m c 1 t : FVec Ideal S512x512 .bf16) (ix2 r k) = argB m c (ix3 (seq t) (tok t r) k) := by
  have ht : t.val < 8 := t.isLt
  blk_point [iblk, places t]

theorem read_w (c : Dev nD) (t : Fin cfg0.N) (k q : Fin 1024) :
    (iblk m c 2 t : FVec Ideal S1024x1024 .bf16) (ix2 k q) = argW m c (ix3 0 k q) := by
  blk_point [iblk, places t]

theorem read_x (c : Dev nD) (t : Fin cfg0.N) (r : Fin 512) (k : Fin 1024) :
    (iblk m c 3 t : FVec Ideal S512x1024 .f32) (ix2 r k) = argX m c (ix3 (seq t) (tok t r) k) := by
  have ht : t.val < 8 := t.isLt
  blk_point [iblk, places t]

theorem read_g2 (c : Dev nD) (t : Fin cfg0.N) (k : Fin 1024) : (iblk m c 4 t : FVec Ideal S1x1024 .f32) (ix2 0 k) = argG2 m c (ix2 0 k) := by
  blk_point [iblk, places t]

theorem read_g3 (c : Dev nD) (t : Fin cfg0.N) (k : Fin 1024) : (iblk m c 5 t : FVec Ideal S1x1024 .f32) (ix2 0 k) = argG3 m c (ix2 0 k) := by
  blk_point [iblk, places t]

/-- The two halves of the weight, as a point loads them. -/
abbrev lowW (c : Dev nD) (t : Fin cfg0.N) : FVec Ideal S512x1024 .bf16 := View.ld (iblk m c 2 t) r0_1
abbrev highW (c : Dev nD) (t : Fin cfg0.N) : FVec Ideal S512x1024 .bf16 := View.ld (iblk m c 2 t) r0_2

theorem lowW_apply (c : Dev nD) (t : Fin cfg0.N) (k : Fin 512) (q : Fin 1024) : lowW m c t (ix2 k q) = argW m c (ix3 0 (Fin.castAdd 512 k) q) := by
  refine Eq.trans ?_ (read_w m c t (Fin.castAdd 512 k) q)
  refine congrArg (iblk m c 2 t : FVec Ideal S1024x1024 .bf16) ?_
  funext i
  match i with
  | 0 => exact Fin.ext (by show 0 + 1 * k.val = k.val; omega)
  | 1 => exact Fin.ext (by show 0 + 1 * q.val = q.val; omega)

theorem highW_apply (c : Dev nD) (t : Fin cfg0.N) (k : Fin 512) (q : Fin 1024) : highW m c t (ix2 k q) = argW m c (ix3 0 (Fin.natAdd 512 k) q) := by
  refine Eq.trans ?_ (read_w m c t (Fin.natAdd 512 k) q)
  refine congrArg (iblk m c 2 t : FVec Ideal S1024x1024 .bf16) ?_
  funext i
  match i with
  | 0 => exact Fin.ext (by show 512 + 1 * k.val = 512 + k.val; omega)
  | 1 => exact Fin.ext (by show 0 + 1 * q.val = q.val; omega)

/-- The rows a point leaves in its blocks. -/
abbrev blockO (c : Dev nD) (t : Fin cfg0.N) : FVec Ideal S512x1024 .f32 :=
  k0_pay2 (F := Ideal) (iblk m c 0 t) (lowW m c t) (iblk m c 1 t) (highW m c t)
abbrev blockX (c : Dev nD) (t : Fin cfg0.N) : FVec Ideal S512x1024 .f32 :=
  k0_pay3 (F := Ideal) (iblk m c 0 t) (lowW m c t) (iblk m c 1 t) (highW m c t) (iblk m c 3 t) (iblk m c 4 t)
abbrev blockH (c : Dev nD) (t : Fin cfg0.N) : FVec Ideal S512x1024 .bf16 :=
  k0_pay1 (F := Ideal) (blockX m c t)
    (k0_pay4 (F := Ideal) (iblk m c 0 t) (lowW m c t) (iblk m c 1 t) (highW m c t) (iblk m c 3 t) (iblk m c 4 t)) (iblk m c 5 t)

theorem point_o (c : Dev nD) (t : Fin cfg0.N) (r : Fin 512) (q : Fin 1024) :
    blockO m c t (ix2 r q) = mixed m c (ix3 (seq t) (tok t r) q) := by
  refine (pay2_apply _ _ _ _ r q).trans (Eq.trans ?_ (mixed_apply m c _ _ _).symm)
  exact congrArg₂ (· + ·) (Finset.sum_congr rfl fun k _ => congrArg₂ (· * ·) (read_a m c t r k) (lowW_apply m c t k q))
    (Finset.sum_congr rfl fun k _ => congrArg₂ (· * ·) (read_b m c t r k) (highW_apply m c t k q))

theorem point_x (c : Dev nD) (t : Fin cfg0.N) (r : Fin 512) (q : Fin 1024) :
    blockX m c t (ix2 r q) = stream m c (ix3 (seq t) (tok t r) q) := by
  refine (pay3_apply _ _ _ _ _ _ r q).trans (congrArg₂ (· + ·) (read_x m c t r q) (Eq.trans ?_ (normed_apply _ _ _ _ _).symm))
  exact congrArg₂ (· * ·) (congrArg₂ (· * Ideal.rsqrt ·) (point_o m c t r q) (congrArg (energy len eps) (funext fun k => point_o m c t r k))) (read_g2 m c t q)

theorem point_h (c : Dev nD) (t : Fin cfg0.N) (r : Fin 512) (q : Fin 1024) :
    blockH m c t (ix2 r q) = normed (stream m c) (argG3 m c) (ix3 (seq t) (tok t r) q) := by
  refine (pay1_apply _ _ r q _ (pay4_apply _ _ _ _ _ _ r)).trans (Eq.trans ?_ (normed_apply _ _ _ _ _).symm)
  exact congrArg₂ (· * ·) (congrArg₂ (· * Ideal.rsqrt ·) (point_x m c t r q) (congrArg (energy len eps) (funext fun k => point_x m c t r k))) (read_g3 m c t q)

/-! ## The results, whole -/

theorem flat_block (v : FVec Ideal S2x2048x1024 .f32) (t : Fin cfg0.N) (r : Fin 512) (q : Fin 1024) (h : t.val * 512 + r.val < 4096) :
    (shapeCast S4096x1024 v Cert.OutRefIdeal.Gen.shapeCasts_S2x2048x1024_S4096x1024) (ix2 ⟨t.val * 512 + r.val, h⟩ q) = v (ix3 (seq t) (tok t r) q) := by
  have e : (shapeCast S4096x1024 v Cert.OutRefIdeal.Gen.shapeCasts_S2x2048x1024_S4096x1024) (ix2 (⟨t.val * 512 + r.val, h⟩ : Fin 4096) q)
      = v (ix3 ⟨(t.val * 512 + r.val) / 2048, by omega⟩ ⟨(t.val * 512 + r.val) % 2048, by omega⟩ q) := by pointwise
  refine e.trans ?_
  congr 2
  · exact Fin.ext (by show (t.val * 512 + r.val) / 2048 = t.val / 4; omega)
  · exact Fin.ext (by show (t.val * 512 + r.val) % 2048 = t.val % 4 * 512 + r.val; omega)

theorem final6 (c : Dev nD) : (dats m 0 c).arrAt 6 cfg0.N = resultO m c := by
  refine (dats m 0 c).arrAt_eq_of_covers 6 _ (by decide +kernel) fun t _ y => ?_
  blk_simp
  rw [after0_6]; frame_out
  have ht : t.val < 8 := t.isLt
  obtain ⟨r, q, rfl⟩ : ∃ (r : Fin 512) (q : Fin 1024), y = ix2 r q := ⟨y 0, y 1, eq_ix2 y⟩
  have e : (((cfg0.win 6).blk t).view.emb (ix2 r q)) = (ix2 (⟨t.val * 512 + r.val, by omega⟩ : Fin 4096) q) := by
    blk_ext [places t]
  rw [e]
  exact (point_o m c t r q).trans (flat_block _ t r q (by omega)).symm

theorem final7 (c : Dev nD) : (dats m 0 c).arrAt 7 cfg0.N = resultX m c := by
  refine (dats m 0 c).arrAt_eq_of_covers 7 _ (by decide +kernel) fun t _ y => ?_
  blk_simp
  rw [after0_7]; frame_out
  have ht : t.val < 8 := t.isLt
  obtain ⟨r, q, rfl⟩ : ∃ (r : Fin 512) (q : Fin 1024), y = ix2 r q := ⟨y 0, y 1, eq_ix2 y⟩
  have e : (((cfg0.win 7).blk t).view.emb (ix2 r q)) = (ix2 (⟨t.val * 512 + r.val, by omega⟩ : Fin 4096) q) := by
    blk_ext [places t]
  rw [e]
  exact (point_x m c t r q).trans (flat_block _ t r q (by omega)).symm

theorem final8 (c : Dev nD) : (dats m 0 c).arrAt 8 cfg0.N = resultH m c := by
  refine (dats m 0 c).arrAt_eq_of_covers 8 _ (by decide +kernel) fun t _ y => ?_
  blk_simp
  rw [after0_8]; frame_out
  have ht : t.val < 8 := t.isLt
  obtain ⟨r, q, rfl⟩ : ∃ (r : Fin 512) (q : Fin 1024), y = ix2 r q := ⟨y 0, y 1, eq_ix2 y⟩
  have e : (((cfg0.win 8).blk t).view.emb (ix2 r q)) = (ix2 (⟨t.val * 512 + r.val, by omega⟩ : Fin 4096) q) := by
    blk_ext [places t]
  rw [e]
  exact (point_h m c t r q).trans (flat_block _ t r q (by omega)).symm

end Cert.OutValue

namespace Cert.OutClaims

open Idealize.ShloMosaic Idealize.ShloMosaic.TcCoe Idealize.SL.Sem

theorem frame : Cert.quiescent_Out := fun m ρ _ => Cert.Out.Gen.frame m ρ
theorem frame_ideal : Cert.quiescent_OutIdeal := fun m ρ _ => Cert.OutIdeal.Gen.frame m ρ
theorem frame_ref : Cert.quiescent_OutRefIdeal := fun m ρ _ =>
  (θ_run Cert.OutRefIdeal.defs _ _).mono (fun r h => ⟨fun c => (h c).2.2.2, sem_eq_zero_of_no_sems (by decide) r.2⟩)
    (Cert.OutRefIdeal.Value.run (F := Ideal) m ρ)

theorem algebraic : Cert.algebraic_OutIdeal_OutRefIdeal := by
  intro m ρ m' ρ' _ hag
  refine ⟨Cert.OutValue.resultO m, Cert.OutValue.resultX m, Cert.OutValue.resultH m, ?_, ?_⟩
  · exact (θ_run Cert.OutIdeal.defs _ _).mono (fun _ h c => ⟨(h c).1.trans (Cert.OutValue.final6 m c),
      (h c).2.1.trans (Cert.OutValue.final7 m c), (h c).2.2.1.trans (Cert.OutValue.final8 m c), (h c).2.2.2⟩)
      (Cert.OutIdeal.Value.run_blocks m ρ)
  · refine (θ_run Cert.OutRefIdeal.defs _ _).mono (fun _ h c => ⟨(h c).1.trans ?_, (h c).2.1.trans ?_, (h c).2.2.1.trans ?_, (h c).2.2.2⟩)
      (Cert.OutRefIdeal.Value.run (F := Ideal) m' ρ')
    · rw [(hag c).1, (hag c).2.1, (hag c).2.2.1]
    · rw [(hag c).1, (hag c).2.1, (hag c).2.2.1, (hag c).2.2.2.1, (hag c).2.2.2.2.1]
    · unfold Cert.OutRefIdeal.Value.res_main_v35
      rw [(hag c).1, (hag c).2.1, (hag c).2.2.1, (hag c).2.2.2.1, (hag c).2.2.2.2.1, (hag c).2.2.2.2.2]
      rfl

end Cert.OutClaims

end
-- ==== Proof.Prenorm.lean ====
/-
  The first norm: what the call `prenorm` leaves in its result is the reference's norm, at every extended real.
-/
module

public import proofs.«01_k».proof.Defs
public import proofs.«01_k».proof.Proof.Norm
public import proofs.«01_k».proof.Proof.Gen.PrenormIdeal.Value
public import proofs.«01_k».proof.Proof.Gen.PrenormRefIdeal.Run
public import proofs.«01_k».proof.Proof.Gen.Prenorm.Frame
public import Idealize.ShloMosaic.Lib.Pipeline.ValueKit
public import Idealize.ShloMosaic.Lib.Quiescent

@[expose] public section

set_option maxRecDepth 16384

noncomputable section

namespace Cert.PrenormValue

open Cert.PrenormIdeal Cert.PrenormIdeal.Gen Idealize.ShloMosaic Idealize.ShloMosaic.TcCoe Idealize.SL.Sem
open Cert.Norm (len eps energy unit gain)

variable (m : (ℓ : Loc nD τ sig) → Buf (Elt Ideal) ℓ)

abbrev argX (c : Dev nD) : FVec Ideal S2x2048x1024 .f32 := m ((c : Thread nD τ).loc main_arg0)
abbrev argG (c : Dev nD) : FVec Ideal S1x1024 .f32 := m ((c : Thread nD τ).loc main_arg1)

/-- The norm of every token's row, with its gain. -/
abbrev normed (x : FVec Ideal S2x2048x1024 .f32) (g : FVec Ideal S1x1024 .f32) : FVec Ideal S2x2048x1024 .f32 :=
  mulf (unit x) (gain g)

abbrev result (c : Dev nD) : FVec Ideal S4096x1024 .bf16 :=
  truncf .bf16 (shapeCast _ (normed (argX m c) (argG m c)) Cert.PrenormRefIdeal.Gen.shapeCasts_S2x2048x1024_S4096x1024) Cert.PrenormRefIdeal.Gen.bitsLt_bf16_f32

theorem places : ∀ t : Fin cfg0.N, win0_0.index t = ![t.val, 0] ∧ win0_1.index t = ![0, 0] ∧ win0_2.index t = ![t.val, 0] ∧ t.val < 8 :=
  (by decide +kernel : ∀ t : Fin grid0.N, _)

theorem pay1_apply (x : FVec Ideal S512x1024 .f32) (g : FVec Ideal S1x1024 .f32) (r : Fin 512) (q : Fin 1024) :
    k0_pay1 (F := Ideal) x g (ix2 r q) = x (ix2 r q) * Ideal.rsqrt (energy len eps fun k => x (ix2 r k)) * g (ix2 0 q) := by
  pointwise [k0_pay1, energy]

/-- The sequence and the place in it of a point's row. -/
abbrev seq (t : Fin cfg0.N) : Fin 2 := ⟨t.val / 4, by have : t.val < 8 := t.isLt; omega⟩
abbrev tok (t : Fin cfg0.N) (r : Fin 512) : Fin 2048 := ⟨t.val % 4 * 512 + r.val, by omega⟩

theorem read_x (c : Dev nD) (t : Fin cfg0.N) (r : Fin 512) (k : Fin 1024) :
    (iblk m c 0 t : FVec Ideal S512x1024 .f32) (ix2 r k) = argX m c (ix3 (seq t) (tok t r) k) := by
  have ht : t.val < 8 := t.isLt
  blk_point [iblk, places t]

theorem read_g (c : Dev nD) (t : Fin cfg0.N) (k : Fin 1024) :
    (iblk m c 1 t : FVec Ideal S1x1024 .f32) (ix2 0 k) = argG m c (ix2 0 k) := by
  blk_point [iblk, places t]

theorem normed_apply (x : FVec Ideal S2x2048x1024 .f32) (g : FVec Ideal S1x1024 .f32) (b : Fin 2) (l : Fin 2048) (q : Fin 1024) :
    normed x g (ix3 b l q) = x (ix3 b l q) * Ideal.rsqrt (energy len eps (fun k => x (ix3 b l k))) * g (ix2 0 q) :=
  congrArg₂ (· * ·) (Cert.Norm.unit_apply x b l q) (Cert.Norm.gain_apply g b l q)

theorem point (c : Dev nD) (t : Fin cfg0.N) (r : Fin 512) (q : Fin 1024) :
    k0_pay1 (F := Ideal) (iblk m c 0 t) (iblk m c 1 t) (ix2 r q) = normed (argX m c) (argG m c) (ix3 (seq t) (tok t r) q) := by
  refine (pay1_apply _ _ r q).trans (Eq.trans ?_ (normed_apply _ _ _ _ _).symm)
  exact congrArg₂ (· * ·) (congrArg₂ (· * Ideal.rsqrt ·) (read_x m c t r q) (congrArg (energy len eps) (funext fun k => read_x m c t r k))) (read_g m c t q)

theorem flat_block (v : FVec Ideal S2x2048x1024 .f32) (t : Fin cfg0.N) (r : Fin 512) (q : Fin 1024) (h : t.val * 512 + r.val < 4096) :
    (shapeCast S4096x1024 v Cert.PrenormRefIdeal.Gen.shapeCasts_S2x2048x1024_S4096x1024) (ix2 ⟨t.val * 512 + r.val, h⟩ q) = v (ix3 (seq t) (tok t r) q) := by
  have e : (shapeCast S4096x1024 v Cert.PrenormRefIdeal.Gen.shapeCasts_S2x2048x1024_S4096x1024) (ix2 (⟨t.val * 512 + r.val, h⟩ : Fin 4096) q)
      = v (ix3 ⟨(t.val * 512 + r.val) / 2048, by omega⟩ ⟨(t.val * 512 + r.val) % 2048, by omega⟩ q) := by pointwise
  refine e.trans ?_
  congr 2
  · exact Fin.ext (by show (t.val * 512 + r.val) / 2048 = t.val / 4; omega)
  · exact Fin.ext (by show (t.val * 512 + r.val) % 2048 = t.val % 4 * 512 + r.val; omega)

theorem final (c : Dev nD) : (dats m 0 c).arrAt 2 cfg0.N = result m c := by
  refine (dats m 0 c).arrAt_eq_of_covers 2 _ (by decide +kernel) fun t _ y => ?_
  blk_simp
  rw [after0_2]; frame_out
  have ht : t.val < 8 := t.isLt
  obtain ⟨r, q, rfl⟩ : ∃ (r : Fin 512) (q : Fin 1024), y = ix2 r q := ⟨y 0, y 1, eq_ix2 y⟩
  have e : (((cfg0.win 2).blk t).view.emb (ix2 r q)) = (ix2 (⟨t.val * 512 + r.val, by omega⟩ : Fin 4096) q) := by
    blk_ext [places t]
  rw [e]
  exact (point m c t r q).trans (flat_block _ t r q (by omega)).symm

end Cert.PrenormValue

namespace Cert.PrenormClaims

open Idealize.ShloMosaic Idealize.ShloMosaic.TcCoe Idealize.SL.Sem

theorem frame : Cert.quiescent_Prenorm := fun m ρ _ => Cert.Prenorm.Gen.frame m ρ
theorem frame_ideal : Cert.quiescent_PrenormIdeal := fun m ρ _ => Cert.PrenormIdeal.Gen.frame m ρ
theorem frame_ref : Cert.quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run (F := Ideal) m ρ)

theorem algebraic : Cert.algebraic_PrenormIdeal_PrenormRefIdeal := by
  intro m ρ m' ρ' _ hag
  refine ⟨Cert.PrenormValue.result m, ?_, ?_⟩
  · exact (θ_run Cert.PrenormIdeal.defs _ _).mono (fun _ h c => ⟨(h c).1.trans (Cert.PrenormValue.final m c), (h c).2⟩)
      (Cert.PrenormIdeal.Value.run_blocks m ρ)
  · refine (θ_run Cert.PrenormRefIdeal.defs _ _).mono (fun _ h c => ⟨(h c).1.trans ?_, (h c).2⟩)
      (Cert.PrenormRefIdeal.Value.run (F := Ideal) m' ρ')
    rw [(hag c).1, (hag c).2]

end Cert.PrenormClaims

end
-- ==== Proof.SfwdConv.lean ====
/-
  The convolution `ssd_fwd` saves: what it leaves in its fourth result is the reference's causal convolution of the
  channels, four taps deep, at every extended real.
-/
module

public import proofs.«01_k».proof.Proof.Gen.SfwdIdeal.Value
public import proofs.«01_k».proof.Proof.Gen.SfwdRefIdeal.Run
public import Idealize.ShloMosaic.Lib.Pipeline.ValueKit

@[expose] public section

set_option maxRecDepth 16384

noncomputable section

namespace Cert.SfwdValue

open Cert.SfwdIdeal Cert.SfwdIdeal.Gen Idealize.ShloMosaic Idealize.ShloMosaic.TcCoe Idealize.SL.Sem

/-- The rows of a block moved down by `j`, the first `j` taken from the end of the eight rows `e`. -/
def shift (j : BitVec 32) (v : FVec Ideal S128x1024 .f32) (e : FVec Ideal S8x1024 .f32) : FVec Ideal S128x1024 .f32 :=
  shapeCast S128x1024 (select
    (broadcastTo S16x8x1024 (shapeCast S1x8x1 (cmpi .slt (iota .tc S1x8x1 32 [1] iota_S1x8x1_d1_w32) (broadcast S1x8x1 j)) shapeCasts_S1x8x1_S1x8x1) broadcasts_S1x8x1_S16x8x1024)
    (concatenate S16x8x1024 0 [⟨S1x8x1024, shapeCast S1x8x1024 (dynamicRotate 0 j none e rotates_S8x1024_d0) shapeCasts_S8x1024_S1x8x1024⟩,
      ⟨S15x8x1024, extractStridedSlice S15x8x1024 ![0, 0, 0] (dynamicRotate 1 j none (shapeCast S16x8x1024 v shapeCasts_S128x1024_S16x8x1024) rotates_S16x8x1024_d1) slices_S16x8x1024_o0_0_0_S15x8x1024⟩] concatenates_S1x8x1024_S15x8x1024_S16x8x1024_d0)
    (dynamicRotate 1 j none (shapeCast S16x8x1024 v shapeCasts_S128x1024_S16x8x1024) rotates_S16x8x1024_d1)) shapeCasts_S16x8x1024_S128x1024

theorem below (j n : ℕ) (hj : j ≤ 3) (hn : n < 8) : IntOp.cmpi .slt (BitVec.ofNat 32 n) (BitVec.ofNat 32 j) = if n < j then 1#1 else 0#1 :=
  (by decide : ∀ j ≤ 3, ∀ n < 8, IntOp.cmpi .slt (BitVec.ofNat 32 n) (BitVec.ofNat 32 j) = if n < j then 1#1 else 0#1) j hj n hn

theorem shift_one (v : FVec Ideal S128x1024 .f32) (e : FVec Ideal S8x1024 .f32) (r : Fin 128) (q : Fin 1024) :
    shift 1#32 v e (ix2 r q) = if h : r.val < 1 then e (ix2 ⟨8 - 1 + r.val, by omega⟩ q) else v (ix2 ⟨r.val - 1, by omega⟩ q) := by
  pointwise [shift]
  rw [below 1 (r.val % 8) (by omega) (by omega)]
  by_cases hr : r.val % 8 < 1
  · rw [if_pos hr]
    refine (if_pos rfl).trans ?_
    split <;> split <;> first | (exfalso; omega) | (congr 2; exact Fin.ext (by dsimp only; omega))
  · rw [if_neg hr]
    refine (if_neg (by decide)).trans ?_
    split <;> first | (exfalso; omega) | (congr 2; exact Fin.ext (by dsimp only; omega))

theorem shift_two (v : FVec Ideal S128x1024 .f32) (e : FVec Ideal S8x1024 .f32) (r : Fin 128) (q : Fin 1024) :
    shift 2#32 v e (ix2 r q) = if h : r.val < 2 then e (ix2 ⟨8 - 2 + r.val, by omega⟩ q) else v (ix2 ⟨r.val - 2, by omega⟩ q) := by
  pointwise [shift]
  rw [below 2 (r.val % 8) (by omega) (by omega)]
  by_cases hr : r.val % 8 < 2
  · rw [if_pos hr]
    refine (if_pos rfl).trans ?_
    split <;> split <;> first | (exfalso; omega) | (congr 2; exact Fin.ext (by dsimp only; omega))
  · rw [if_neg hr]
    refine (if_neg (by decide)).trans ?_
    split <;> first | (exfalso; omega) | (congr 2; exact Fin.ext (by dsimp only; omega))

theorem shift_three (v : FVec Ideal S128x1024 .f32) (e : FVec Ideal S8x1024 .f32) (r : Fin 128) (q : Fin 1024) :
    shift 3#32 v e (ix2 r q) = if h : r.val < 3 then e (ix2 ⟨8 - 3 + r.val, by omega⟩ q) else v (ix2 ⟨r.val - 3, by omega⟩ q) := by
  pointwise [shift]
  rw [below 3 (r.val % 8) (by omega) (by omega)]
  by_cases hr : r.val % 8 < 3
  · rw [if_pos hr]
    refine (if_pos rfl).trans ?_
    split <;> split <;> first | (exfalso; omega) | (congr 2; exact Fin.ext (by dsimp only; omega))
  · rw [if_neg hr]
    refine (if_neg (by decide)).trans ?_
    split <;> first | (exfalso; omega) | (congr 2; exact Fin.ext (by dsimp only; omega))

/-- The four taps and the bias of a block. -/
def conv (v : FVec Ideal S128x1024 .f32) (e : FVec Ideal S8x1024 .f32) (b w0 w1 w2 w3 : Vec Ideal S1x1024 .f32) : FVec Ideal S128x1024 .f32 :=
  addf (addf (addf (addf (broadcastTo S128x1024 b broadcasts_S1x1024_S128x1024)
    (mulf (broadcastTo S128x1024 (shapeCast S1x1024 w0 shapeCasts_S1x1024_S1x1024) broadcasts_S1x1024_S128x1024) (shift 3#32 v e)))
    (mulf (broadcastTo S128x1024 (shapeCast S1x1024 w1 shapeCasts_S1x1024_S1x1024) broadcasts_S1x1024_S128x1024) (shift 2#32 v e)))
    (mulf (broadcastTo S128x1024 (shapeCast S1x1024 w2 shapeCasts_S1x1024_S1x1024) broadcasts_S1x1024_S128x1024) (shift 1#32 v e)))
    (mulf (broadcastTo S128x1024 (shapeCast S1x1024 w3 shapeCasts_S1x1024_S1x1024) broadcasts_S1x1024_S128x1024) v)

theorem pay_first (i : grid0.Coords) (x : Vec Ideal S1x128x1024 .f32) (e : Vec Ideal S1x8x1024 .f32) (b w0 w1 w2 w3 : Vec Ideal S1x1024 .f32) :
    k0_pay13 (F := Ideal) (k0_pay6 x) (k0_pay7 i e) b (k0_pay8 i x e) (k0_pay9 x) (k0_pay10 i e) k0_pay11 w0 w1 w2 w3
      = shapeCast S1x128x1024 (conv (k0_pay6 x) (k0_pay7 i e) b w0 w1 w2 w3) shapeCasts_S128x1024_S1x128x1024 := rfl

theorem pay_second (i : grid0.Coords) (x : Vec Ideal S1x128x1024 .f32) (e : Vec Ideal S1x8x1024 .f32) (b w0 w1 w2 w3 : Vec Ideal S1x1024 .f32) :
    k0_pay74 (F := Ideal) (k0_pay67 x) (k0_pay68 (BitVec.ofNat 32 (i 0).val) e) b (k0_pay69 (BitVec.ofNat 32 (i 0).val) x e) (k0_pay70 x)
      (k0_pay71 (BitVec.ofNat 32 (i 0).val) e) (iota .tc S1x8x1 32 [1] iota_S1x8x1_d1_w32) k0_pay72 w0 w1 w2 w3
      = shapeCast S1x128x1024 (conv (k0_pay6 x) (k0_pay7 i e) b w0 w1 w2 w3) shapeCasts_S128x1024_S1x128x1024 := rfl

theorem conv_apply (v : FVec Ideal S128x1024 .f32) (e : FVec Ideal S8x1024 .f32) (b w0 w1 w2 w3 : Vec Ideal S1x1024 .f32) (r : Fin 128) (q : Fin 1024) :
    conv v e b w0 w1 w2 w3 (ix2 r q) = b (ix2 0 q) + w0 (ix2 0 q) * shift 3#32 v e (ix2 r q) + w1 (ix2 0 q) * shift 2#32 v e (ix2 r q)
      + w2 (ix2 0 q) * shift 1#32 v e (ix2 r q) + w3 (ix2 0 q) * v (ix2 r q) := by
  pointwise [conv]

end Cert.SfwdValue

end
-- ==== Proof.SfwdHost.lean ====
/-
  What `ssd_fwd` reads of the channels and the taps: the input blocks of a grid point as elements of the arguments.
-/
module

public import proofs.«01_k».proof.Proof.SfwdConv

@[expose] public section

set_option maxRecDepth 16384

noncomputable section

namespace Cert.SfwdValue

open Cert.SfwdIdeal Cert.SfwdIdeal.Gen Idealize.ShloMosaic Idealize.ShloMosaic.TcCoe Idealize.SL.Sem

variable (m : (ℓ : Loc nD τ sig) → Buf (Elt Ideal) ℓ)

abbrev argX (c : Dev nD) : FVec Ideal S2x2048x1024 .f32 := m ((c : Thread nD τ).loc main_arg1)
abbrev argW (c : Dev nD) : FVec Ideal S1x4x1024 .f32 := m ((c : Thread nD τ).loc main_arg3)
abbrev argB (c : Dev nD) : FVec Ideal S1x1024 .f32 := m ((c : Thread nD τ).loc main_arg4)

abbrev rowsM (c : Dev nD) : FVec Ideal S2x2048x1024 .f32 := V m c main_v40
abbrev headM (c : Dev nD) : FVec Ideal S2x2048x1024 .f32 := V m c main_v41
abbrev tapsM (c : Dev nD) : FVec Ideal S4x1024 .f32 := V m c main_v38

theorem places : ∀ t : Fin cfg0.N, win0_1.index t = ![0, t.val, 0] ∧ win0_2.index t = ![0, 16 * t.val - 1, 0] ∧ win0_4.index t = ![0, 0]
    ∧ win0_5.index t = ![0, 0] ∧ win0_15.index t = ![0, t.val, 0] ∧ (grid0.coords t 0).val = t.val ∧ t.val < 16 :=
  (by decide +kernel : ∀ t : Fin grid0.N, _)

theorem rows_at (c : Dev nD) (s : Fin 2) (l : Fin 2048) (q : Fin 1024) : rowsM m c (ix3 s l q) = argX m c (ix3 s l q) := by
  unfold rowsM V
  simp only [List.flatten_cons, List.flatten_nil, List.append_assoc, List.cons_append, List.nil_append]
  entry_read
  pointwise

theorem head_at (c : Dev nD) (s : Fin 2) (l : Fin 2048) (q : Fin 1024) : headM m c (ix3 s l q) = argX m c (ix3 s l q) := by
  unfold headM V
  simp only [List.flatten_cons, List.flatten_nil, List.append_assoc, List.cons_append, List.nil_append]
  entry_read
  pointwise

theorem taps_at (c : Dev nD) (k : Fin 4) (q : Fin 1024) : tapsM m c (ix2 k q) = argW m c (ix3 0 k q) := by
  unfold tapsM V
  simp only [List.flatten_cons, List.flatten_nil, List.append_assoc, List.cons_append, List.nil_append]
  entry_read
  pointwise

theorem read_x (c : Dev nD) (t : Fin cfg0.N) (s : Fin 2) (r : Fin 128) (q : Fin 1024) (h : t.val * 128 + r.val < 2048) :
    (iblk m c 1 t : FVec Ideal S2x128x1024 .f32) (ix3 s r q) = argX m c (ix3 s ⟨t.val * 128 + r.val, h⟩ q) := by
  refine Eq.trans (congrArg (rowsM m c) ?_) (rows_at m c s ⟨t.val * 128 + r.val, h⟩ q)
  blk_ext [places t]

theorem read_e (c : Dev nD) (t : Fin cfg0.N) (s : Fin 2) (r : Fin 8) (q : Fin 1024) (h : (16 * t.val - 1) * 8 + r.val < 2048) :
    (iblk m c 2 t : FVec Ideal S2x8x1024 .f32) (ix3 s r q) = argX m c (ix3 s ⟨(16 * t.val - 1) * 8 + r.val, h⟩ q) := by
  refine Eq.trans (congrArg (headM m c) ?_) (head_at m c s ⟨(16 * t.val - 1) * 8 + r.val, h⟩ q)
  blk_ext [places t]

theorem read_w (c : Dev nD) (t : Fin cfg0.N) (k : Fin 4) (q : Fin 1024) :
    (iblk m c 4 t : FVec Ideal S4x1024 .f32) (ix2 k q) = argW m c (ix3 0 k q) := by
  refine Eq.trans (congrArg (tapsM m c) ?_) (taps_at m c k q)
  blk_ext [places t]

theorem read_b (c : Dev nD) (t : Fin cfg0.N) (q : Fin 1024) :
    (iblk m c 5 t : FVec Ideal S1x1024 .f32) (ix2 0 q) = argB m c (ix2 0 q) := by
  blk_point [iblk, places t]

end Cert.SfwdValue

end
-- ==== Proof.SfwdOut.lean ====
/-
  The block `ssd_fwd` leaves in its fourth result: of both sequences, the convolution of the block read.
-/
module

public import proofs.«01_k».proof.Proof.SfwdConv

@[expose] public section

set_option maxRecDepth 16384

noncomputable section

namespace Cert.SfwdValue

open Cert.SfwdIdeal Cert.SfwdIdeal.Gen Idealize.ShloMosaic Idealize.ShloMosaic.TcCoe Idealize.SL.Sem

variable (c : Dev nD) (i : grid0.Coords)
  (a1 : Memref sig .tc .vmem S2x128x512 .bf16) (h1 : a1.IsWhole) (x0 : Vec Ideal S2x128x512 .bf16)
  (a2 : Memref sig .tc .vmem S2x128x1024 .f32) (h2 : a2.IsWhole) (x1 : Vec Ideal S2x128x1024 .f32)
  (a3 : Memref sig .tc .vmem S2x8x1024 .f32) (h3 : a3.IsWhole) (x2 : Vec Ideal S2x8x1024 .f32)
  (a4 : Memref sig .tc .vmem S2x128x128 .f32) (h4 : a4.IsWhole) (x3 : Vec Ideal S2x128x128 .f32)
  (a5 : Memref sig .tc .vmem S4x1024 .f32) (h5 : a5.IsWhole) (x4 : Vec Ideal S4x1024 .f32)
  (a6 : Memref sig .tc .vmem S1x1024 .f32) (h6 : a6.IsWhole) (x5 : Vec Ideal S1x1024 .f32)
  (a7 : Memref sig .tc .vmem S1x128 .f32) (h7 : a7.IsWhole) (x6 : Vec Ideal S1x128 .f32)
  (a8 : Memref sig .tc .vmem S1x128 .f32) (h8 : a8.IsWhole) (x7 : Vec Ideal S1x128 .f32)
  (a9 : Memref sig .tc .vmem S1x512 .f32) (h9 : a9.IsWhole) (x8 : Vec Ideal S1x512 .f32)
  (a10 : Memref sig .tc .vmem S1x512 .f32) (h10 : a10.IsWhole) (x9 : Vec Ideal S1x512 .f32)
  (a11 : Memref sig .tc .vmem S128x512 .bf16) (h11 : a11.IsWhole) (x10 : Vec Ideal S128x512 .bf16)
  (a12 : Memref sig .tc .vmem S128x128 .bf16) (h12 : a12.IsWhole) (x11 : Vec Ideal S128x128 .bf16)
  (a13 : Memref sig .tc .vmem S2x128x512 .bf16) (h13 : a13.IsWhole)
  (a14 : Memref sig .tc .vmem S2x128x512 .f32) (h14 : a14.IsWhole)
  (a15 : Memref sig .tc .vmem S2x1x128x512 .f32) (h15 : a15.IsWhole)
  (a16 : Memref sig .tc .vmem S2x128x1024 .f32) (h16 : a16.IsWhole)
  (a17 : Memref sig .tc .vmem S128x512 .f32) (h17 : a17.IsWhole)
  (a18 : Memref sig .tc .vmem S128x512 .f32) (h18 : a18.IsWhole)

/-- Of sequence `s` the convolution of its rows of the block. -/
def convOf (x1 : Vec Ideal S2x128x1024 .f32) (x2 : Vec Ideal S2x8x1024 .f32) (x4 : Vec Ideal S4x1024 .f32) (x5 : Vec Ideal S1x1024 .f32)
    (s : Fin 2) : FVec Ideal S128x1024 .f32 :=
  conv (fun j => x1 (ix3 s (j 0) (j 1))) (fun j => if (i 0).val = 0 then 0 else x2 (ix3 s (j 0) (j 1))) x5
    (fun j => x4 (ix2 0 (j 1))) (fun j => x4 (ix2 1 (j 1))) (fun j => x4 (ix2 2 (j 1))) (fun j => x4 (ix2 3 (j 1)))

theorem two_rows (p1 p0 : Vec Ideal S1x128x1024 .f32) (s : Fin 2) (r : Fin 128) (q : Fin 1024) :
    View.read (Elt Ideal) VO0_15 (VO0_15.writes (Elt Ideal) VO0_15.junk
      [⟨Rect.unit (s := S2x128x1024) ![1, 0, 0] S1x128x1024.size inb_S2x128x1024_S1x128x1024_1_0_0, p1⟩,
       ⟨Rect.unit (s := S2x128x1024) ![0, 0, 0] S1x128x1024.size inb_S2x128x1024_S1x128x1024_0_0_0, p0⟩]) (ix3 s r q)
      = if s = 0 then p0 (ix3 0 r q) else p1 (ix3 0 r q) := by
  rw [View.read_writes_junk_eq_canon]
  have e1 : (Rect.unit (s := S2x128x1024) ![1, 0, 0] S1x128x1024.size inb_S2x128x1024_S1x128x1024_1_0_0).emb (ix3 0 r q) = ix3 1 r q := by
    blk_ext
  have e0 : (Rect.unit (s := S2x128x1024) ![0, 0, 0] S1x128x1024.size inb_S2x128x1024_S1x128x1024_0_0_0).emb (ix3 0 r q) = ix3 0 r q := by
    blk_ext
  fin_cases s
  · refine Eq.trans ?_ (if_pos rfl).symm
    refine (View.canon_cons_of_not_mem _ _ ?_).trans ?_
    · intro h
      have h' : (ix3 0 r q : S2x128x1024.Idx) ∈ (Rect.unit (s := S2x128x1024) ![1, 0, 0] S1x128x1024.size inb_S2x128x1024_S1x128x1024_1_0_0).set := h
      rw [Rect.mem_set_unit] at h'
      exact absurd (show (1 : ℕ) ≤ 0 from (h' 0).1) (by decide)
    · refine Eq.trans ?_ (View.canon_cons_emb (Val := Elt Ideal) (e := .f32) (Rect.unit (s := S2x128x1024) ![0, 0, 0] S1x128x1024.size inb_S2x128x1024_S1x128x1024_0_0_0) p0 [] (ix3 0 r q))
      exact congrArg _ e0.symm
  · refine Eq.trans ?_ (if_neg (by decide)).symm
    refine Eq.trans ?_ (View.canon_cons_emb (Val := Elt Ideal) (e := .f32) (Rect.unit (s := S2x128x1024) ![1, 0, 0] S1x128x1024.size inb_S2x128x1024_S1x128x1024_1_0_0) p1
      [⟨Rect.unit (s := S2x128x1024) ![0, 0, 0] S1x128x1024.size inb_S2x128x1024_S1x128x1024_0_0_0, p0⟩] (ix3 0 r q))
    exact congrArg _ e1.symm

omit c in
theorem read_whole {S : Shape} {e : EltTy} (M : Memref sig .tc .vmem S e) (h : M.IsWhole) (X : S.Idx → Elt Ideal e) (r : Rect S) :
    View.readAt (Elt Ideal) M.view r.toLoadRect (h.unread X) = View.ld X r := by
  rw [View.readAt_eq_ld]
  exact congrArg (fun f => View.ld f r) (h.read_unread X)

theorem first (n : Fin 16) {α : Type} (x y : α) : Scalar.select (IntOp.cmpi .eq (BitVec.ofNat 32 n.val) 0#32) x y = if n.val = 0 then x else y := by
  have h : IntOp.cmpi .eq (BitVec.ofNat 32 n.val) 0#32 = if n.val = 0 then 1#1 else 0#1 :=
    (by decide : ∀ n : Fin 16, IntOp.cmpi .eq (BitVec.ofNat 32 n.val) 0#32 = if n.val = 0 then 1#1 else 0#1) n
  rw [h]
  by_cases k : n.val = 0
  · rw [if_pos k, if_pos k]; exact if_pos rfl
  · rw [if_neg k, if_neg k]; exact if_neg (by decide)

theorem cast_row (v : FVec Ideal S128x1024 .f32) (r : Fin 128) (q : Fin 1024) :
    shapeCast S1x128x1024 v shapeCasts_S128x1024_S1x128x1024 (ix3 0 r q) = v (ix2 r q) := by
  pointwise

theorem bias (x : Vec Ideal S1x1024 .f32) :
    (View.readAt (Elt Ideal) a6.view (Rect.unit (s := S1x1024) ![0, 0] S1x1024.size inb_S1x1024_S1x1024_0_0).toLoadRect (h6.unread x) : Vec Ideal S1x1024 .f32) = x := by
  rw [read_whole]
  exact View.ld_unit_lit' _ _ (by decide)

theorem rows_0 (x : Vec Ideal S2x128x1024 .f32) :
    k0_pay6 (F := Ideal) (View.readAt (Elt Ideal) a2.view (Rect.unit (s := S2x128x1024) ![0, 0, 0] S1x128x1024.size inb_S2x128x1024_S1x128x1024_0_0_0).toLoadRect (h2.unread x))
      = fun j => x (ix3 0 (j 0) (j 1)) := by
  rw [read_whole]
  funext j
  obtain ⟨r, q, rfl⟩ : ∃ (r : Fin 128) (q : Fin 1024), j = ix2 r q := ⟨j 0, j 1, eq_ix2 j⟩
  pointwise [k0_pay6]

theorem head_0 (x : Vec Ideal S2x8x1024 .f32) :
    k0_pay7 (F := Ideal) i (View.readAt (Elt Ideal) a3.view (Rect.unit (s := S2x8x1024) ![0, 0, 0] S1x8x1024.size inb_S2x8x1024_S1x8x1024_0_0_0).toLoadRect (h3.unread x))
      = fun j => if (i 0).val = 0 then 0 else x (ix3 0 (j 0) (j 1)) := by
  rw [read_whole]
  funext j
  obtain ⟨r, q, rfl⟩ : ∃ (r : Fin 8) (q : Fin 1024), j = ix2 r q := ⟨j 0, j 1, eq_ix2 j⟩
  pointwise [k0_pay7]
  exact first ⟨(i 0).val, (i 0).isLt⟩ _ _

theorem rows_1 (x : Vec Ideal S2x128x1024 .f32) :
    k0_pay6 (F := Ideal) (View.readAt (Elt Ideal) a2.view (Rect.unit (s := S2x128x1024) ![1, 0, 0] S1x128x1024.size inb_S2x128x1024_S1x128x1024_1_0_0).toLoadRect (h2.unread x))
      = fun j => x (ix3 1 (j 0) (j 1)) := by
  rw [read_whole]
  funext j
  obtain ⟨r, q, rfl⟩ : ∃ (r : Fin 128) (q : Fin 1024), j = ix2 r q := ⟨j 0, j 1, eq_ix2 j⟩
  pointwise [k0_pay6]

theorem head_1 (x : Vec Ideal S2x8x1024 .f32) :
    k0_pay7 (F := Ideal) i (View.readAt (Elt Ideal) a3.view (Rect.unit (s := S2x8x1024) ![1, 0, 0] S1x8x1024.size inb_S2x8x1024_S1x8x1024_1_0_0).toLoadRect (h3.unread x))
      = fun j => if (i 0).val = 0 then 0 else x (ix3 1 (j 0) (j 1)) := by
  rw [read_whole]
  funext j
  obtain ⟨r, q, rfl⟩ : ∃ (r : Fin 8) (q : Fin 1024), j = ix2 r q := ⟨j 0, j 1, eq_ix2 j⟩
  pointwise [k0_pay7]
  exact first ⟨(i 0).val, (i 0).isLt⟩ _ _

theorem tap_0 (x : Vec Ideal S4x1024 .f32) :
    (View.readAt (Elt Ideal) a5.view (Rect.unit (s := S4x1024) ![0, 0] ![1, 1024] inb_S4x1024_S1x1024_0_0).toLoadRect (h5.unread x) : Vec Ideal S1x1024 .f32)
      = fun j => x (ix2 0 (j 1)) := by
  rw [read_whole]
  funext j
  obtain ⟨r, q, rfl⟩ : ∃ (r : Fin 1) (q : Fin 1024), j = ix2 r q := ⟨j 0, j 1, eq_ix2 j⟩
  pointwise

theorem tap_1 (x : Vec Ideal S4x1024 .f32) :
    (View.readAt (Elt Ideal) a5.view (Rect.unit (s := S4x1024) ![1, 0] ![1, 1024] inb_S4x1024_S1x1024_1_0).toLoadRect (h5.unread x) : Vec Ideal S1x1024 .f32)
      = fun j => x (ix2 1 (j 1)) := by
  rw [read_whole]
  funext j
  obtain ⟨r, q, rfl⟩ : ∃ (r : Fin 1) (q : Fin 1024), j = ix2 r q := ⟨j 0, j 1, eq_ix2 j⟩
  pointwise

theorem tap_2 (x : Vec Ideal S4x1024 .f32) :
    (View.readAt (Elt Ideal) a5.view (Rect.unit (s := S4x1024) ![2, 0] ![1, 1024] inb_S4x1024_S1x1024_2_0).toLoadRect (h5.unread x) : Vec Ideal S1x1024 .f32)
      = fun j => x (ix2 2 (j 1)) := by
  rw [read_whole]
  funext j
  obtain ⟨r, q, rfl⟩ : ∃ (r : Fin 1) (q : Fin 1024), j = ix2 r q := ⟨j 0, j 1, eq_ix2 j⟩
  pointwise

theorem tap_3 (x : Vec Ideal S4x1024 .f32) :
    (View.readAt (Elt Ideal) a5.view (Rect.unit (s := S4x1024) ![3, 0] ![1, 1024] inb_S4x1024_S1x1024_3_0).toLoadRect (h5.unread x) : Vec Ideal S1x1024 .f32)
      = fun j => x (ix2 3 (j 1)) := by
  rw [read_whole]
  funext j
  obtain ⟨r, q, rfl⟩ : ∃ (r : Fin 1) (q : Fin 1024), j = ix2 r q := ⟨j 0, j 1, eq_ix2 j⟩
  pointwise

theorem out_A (h : cond0_0 i) (s : Fin 2) (r : Fin 128) (q : Fin 1024) :
    out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 h x0 x1 x2 x3 x4 x5 x6 x7 x8 x9 x10 x11 (ix3 s r q) = convOf i x1 x2 x4 x5 s (ix2 r q) := by
  unfold out0_A_15
  dsimp only [kernelRun0_A]
  refine (two_rows _ _ s r q).trans ?_
  fin_cases s
  · refine (if_pos rfl).trans ?_
    refine (congrFun (pay_first i _ _ _ _ _ _ _) _).trans ?_
    rw [rows_0, head_0, tap_0, tap_1, tap_2, tap_3]
    refine (cast_row _ r q).trans ?_
    exact congrArg (fun b => conv (fun j => x1 (ix3 0 (j 0) (j 1))) (fun j => if (i 0).val = 0 then 0 else x2 (ix3 0 (j 0) (j 1))) b
      (fun j => x4 (ix2 0 (j 1))) (fun j => x4 (ix2 1 (j 1))) (fun j => x4 (ix2 2 (j 1))) (fun j => x4 (ix2 3 (j 1))) (ix2 r q)) (bias a6 h6 x5)
  · refine (if_neg (by decide)).trans ?_
    refine (congrFun (pay_second i _ _ _ _ _ _ _) _).trans ?_
    rw [rows_1, head_1, tap_0, tap_1, tap_2, tap_3]
    refine (cast_row _ r q).trans ?_
    exact congrArg (fun b => conv (fun j => x1 (ix3 1 (j 0) (j 1))) (fun j => if (i 0).val = 0 then 0 else x2 (ix3 1 (j 0) (j 1))) b
      (fun j => x4 (ix2 0 (j 1))) (fun j => x4 (ix2 1 (j 1))) (fun j => x4 (ix2 2 (j 1))) (fun j => x4 (ix2 3 (j 1))) (ix2 r q)) (bias a6 h6 x5)

theorem out_B (h : ¬ cond0_0 i) (y0 y1 : Vec Ideal S128x512 .f32) (s : Fin 2) (r : Fin 128) (q : Fin 1024) :
    out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 h x0 x1 x2 x3 x4 x5 x6 x7 x8 x9 x10 x11 y0 y1 (ix3 s r q) = convOf i x1 x2 x4 x5 s (ix2 r q) := by
  unfold out0_B_15
  dsimp only [kernelRun0_B]
  refine (two_rows _ _ s r q).trans ?_
  fin_cases s
  · refine (if_pos rfl).trans ?_
    refine (congrFun (pay_first i _ _ _ _ _ _ _) _).trans ?_
    rw [rows_0, head_0, tap_0, tap_1, tap_2, tap_3]
    refine (cast_row _ r q).trans ?_
    exact congrArg (fun b => conv (fun j => x1 (ix3 0 (j 0) (j 1))) (fun j => if (i 0).val = 0 then 0 else x2 (ix3 0 (j 0) (j 1))) b
      (fun j => x4 (ix2 0 (j 1))) (fun j => x4 (ix2 1 (j 1))) (fun j => x4 (ix2 2 (j 1))) (fun j => x4 (ix2 3 (j 1))) (ix2 r q)) (bias a6 h6 x5)
  · refine (if_neg (by decide)).trans ?_
    refine (congrFun (pay_second i _ _ _ _ _ _ _) _).trans ?_
    rw [rows_1, head_1, tap_0, tap_1, tap_2, tap_3]
    refine (cast_row _ r q).trans ?_
    exact congrArg (fun b => conv (fun j => x1 (ix3 1 (j 0) (j 1))) (fun j => if (i 0).val = 0 then 0 else x2 (ix3 1 (j 0) (j 1))) b
      (fun j => x4 (ix2 0 (j 1))) (fun j => x4 (ix2 1 (j 1))) (fun j => x4 (ix2 2 (j 1))) (fun j => x4 (ix2 3 (j 1))) (ix2 r q)) (bias a6 h6 x5)

end Cert.SfwdValue

end
-- ==== Proof.SfwdConvRef.lean ====
/-
  The causal convolution of the reference, four taps deep, read at a token and a channel.
-/
module

public import proofs.«01_k».proof.Proof.Gen.SfwdRefIdeal.Run
public import Idealize.ShloMosaic.Lib.Pipeline.ValueKit

@[expose] public section

set_option maxRecDepth 16384

noncomputable section

namespace Cert.SfwdConvRef

open Cert.SfwdRefIdeal Cert.SfwdRefIdeal.Gen Cert.SfwdRefIdeal.Value Idealize.ShloMosaic Idealize.ShloMosaic.TcCoe Idealize.SL.Sem

/-- The channel `q` of sequence `s`, `k` tokens before token `l`; zero before the first token. -/
def before (x : FVec Ideal S2x2048x1024 .f32) (k : ℕ) (s : Fin 2) (l : Fin 2048) (q : Fin 1024) : EReal :=
  if l.val < k then 0 else x (ix3 s ⟨l.val - k, by omega⟩ q)

/-- The convolution: bias and four taps. -/
def causal (x : FVec Ideal S2x2048x1024 .f32) (w : FVec Ideal S1x4x1024 .f32) (b : FVec Ideal S1x1024 .f32) (s : Fin 2) (l : Fin 2048) (q : Fin 1024) : EReal :=
  b (ix2 0 q) + w (ix3 0 0 q) * before x 3 s l q + w (ix3 0 1 q) * before x 2 s l q + w (ix3 0 2 q) * before x 1 s l q + w (ix3 0 3 q) * before x 0 s l q

variable (V0 : Valuation τ sig (Elt Ideal))

abbrev argX : FVec Ideal S2x2048x1024 .f32 := V0 (Proc.devRef .tc main_arg1)
abbrev argW : FVec Ideal S1x4x1024 .f32 := V0 (Proc.devRef .tc main_arg3)
abbrev argB : FVec Ideal S1x1024 .f32 := V0 (Proc.devRef .tc main_arg4)

theorem taps (k : Fin 4) (q : Fin 1024) : (res_main_v0 (F := Ideal) V0 : FVec Ideal S4x1024 .f32) (ix2 k q) = argW V0 (ix3 0 k q) := by
  pointwise [res_main_v0]

theorem padded (s : Fin 2) (l : Fin 2051) (q : Fin 1024) : (res_main_v6 (F := Ideal) V0 : FVec Ideal S2x2051x1024 .f32) (ix3 s l q)
    = if h : l.val < 3 then 0 else argX V0 (ix3 s ⟨l.val - 3, by omega⟩ q) := by
  pointwise [res_main_v6]

theorem lagged (k : ℕ) (hk : k ≤ 3) (s : Fin 2) (l : Fin 2048) (q : Fin 1024) :
    (res_main_v6 (F := Ideal) V0 : FVec Ideal S2x2051x1024 .f32) (ix3 s ⟨3 - k + l.val, by omega⟩ q) = before (argX V0) k s l q := by
  rw [padded]
  unfold before
  by_cases h : l.val < k
  · rw [if_pos h, dif_pos (by show 3 - k + l.val < 3; omega)]
  · rw [if_neg h, dif_neg (by show ¬ 3 - k + l.val < 3; omega)]
    congr 2
    exact Fin.ext (by show 3 - k + l.val - 3 = l.val - k; omega)

theorem times {a b c d : EReal} (h : a = b) (k : c = d) : a * c = b * d := by rw [h, k]

theorem total {a0 a1 a2 a3 a4 b0 b1 b2 b3 b4 : EReal} (h0 : a0 = b0) (h1 : a1 = b1) (h2 : a2 = b2) (h3 : a3 = b3) (h4 : a4 = b4) :
    a0 + a1 + a2 + a3 + a4 = b4 + b0 + b1 + b2 + b3 := by
  rw [h0, h1, h2, h3, h4, add_comm _ b4]
  simp only [add_assoc]

theorem conv_at (s : Fin 2) (l : Fin 2048) (q : Fin 1024) :
    (res_main_v38 (F := Ideal) V0 : FVec Ideal S2x2048x1024 .f32) (ix3 s l q) = causal (argX V0) (argW V0) (argB V0) s l q := by
  unfold res_main_v38
  pointwise
  have e3 : (res_main_v6 (F := Ideal) V0 : FVec Ideal S2x2051x1024 .f32) (ix3 s ⟨l.val, by omega⟩ q) = before (argX V0) 3 s l q :=
    Eq.trans (congrArg (fun k => (res_main_v6 (F := Ideal) V0 : FVec Ideal S2x2051x1024 .f32) (ix3 s k q)) (Fin.ext (by show l.val = 3 - 3 + l.val; omega))) (lagged V0 3 (by omega) s l q)
  exact total (times (taps V0 0 q) e3) (times (taps V0 1 q) (lagged V0 2 (by omega) s l q)) (times (taps V0 2 q) (lagged V0 1 (by omega) s l q))
    (times (taps V0 3 q) (lagged V0 0 (by omega) s l q)) rfl

end Cert.SfwdConvRef

end
-- ==== Proof.SfwdFinal.lean ====
/-
  The whole fourth result of `ssd_fwd`: at every token and channel the reference's causal convolution.
-/
module

public import proofs.«01_k».proof.Proof.SfwdHost
public import proofs.«01_k».proof.Proof.SfwdOut
public import proofs.«01_k».proof.Proof.SfwdConvRef

@[expose] public section

set_option maxRecDepth 16384

noncomputable section

namespace Cert.SfwdValue

open Cert.SfwdIdeal Cert.SfwdIdeal.Gen Idealize.ShloMosaic Idealize.ShloMosaic.TcCoe Idealize.SL.Sem
open Cert.SfwdConvRef (before causal)

variable (m : (ℓ : Loc nD τ sig) → Buf (Elt Ideal) ℓ)

theorem out_block (c : Dev nD) (t : Fin cfg0.N) (s : Fin 2) (r : Fin 128) (q : Fin 1024) :
    ((outsAt0 m c t.val t.isLt).2.2.2.1 : FVec Ideal S2x128x1024 .f32) (ix3 s r q)
      = convOf (grid0.coords t) (iblk m c 1 t) (iblk m c 2 t) (iblk m c 4 t) (iblk m c 5 t) s (ix2 r q) := by
  by_cases h : t.val % 16 = 0
  · rw [outsAt0_A m c t h]
    dsimp only
    exact out_A c (grid0.coords t) (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t) (ms0_10 t) (hs0_10 t) (iblk m c 10 t) (ms0_11 t) (hs0_11 t) (iblk m c 11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h) s r q
  · rw [outsAt0_B m c t h]
    dsimp only
    exact out_B c (grid0.coords t) (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t) (ms0_10 t) (hs0_10 t) (iblk m c 10 t) (ms0_11 t) (hs0_11 t) (iblk m c 11 t) (ms0_12 t) (hs0_12 t) (ms0_13 t) (hs0_13 t) (ms0_14 t) (hs0_14 t) (ms0_15 t) (hs0_15 t) scM0_0 (Memref.isWhole_whole _) scM0_1 (Memref.isWhole_whole _) (fun k => h ((hcond0_0 t).mp k)) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 s r q

/-- The row a tap reads: of the block itself, or of the eight rows before it, or zero before the first token. -/
theorem lag (c : Dev nD) (t : Fin cfg0.N) (k : ℕ) (hk : k ≤ 3) (s : Fin 2) (r : Fin 128) (q : Fin 1024) (h : t.val * 128 + r.val < 2048) :
    (if h : r.val < k then (if (grid0.coords t 0).val = 0 then (0 : EReal) else (iblk m c 2 t : FVec Ideal S2x8x1024 .f32) (ix3 s ⟨8 - k + r.val, by omega⟩ q))
      else (iblk m c 1 t : FVec Ideal S2x128x1024 .f32) (ix3 s ⟨r.val - k, by omega⟩ q)) = before (argX m c) k s ⟨t.val * 128 + r.val, h⟩ q := by
  have ht : t.val < 16 := t.isLt
  rw [(places t).2.2.2.2.2.1]
  unfold before
  by_cases hr : r.val < k
  · rw [dif_pos hr]
    by_cases h0 : t.val = 0
    · rw [if_pos h0, if_pos (by show t.val * 128 + r.val < k; omega)]
    · rw [if_neg h0, if_neg (by show ¬ t.val * 128 + r.val < k; omega), read_e m c t s _ q (by show (16 * t.val - 1) * 8 + (8 - k + r.val) < 2048; omega)]
      congr 2
      exact Fin.ext (by show (16 * t.val - 1) * 8 + (8 - k + r.val) = t.val * 128 + r.val - k; omega)
  · rw [dif_neg hr, if_neg (by show ¬ t.val * 128 + r.val < k; omega), read_x m c t s _ q (by show t.val * 128 + (r.val - k) < 2048; omega)]
    congr 2
    exact Fin.ext (by show t.val * 128 + (r.val - k) = t.val * 128 + r.val - k; omega)

theorem sum_eq {a0 a1 a2 a3 a4 b0 b1 b2 b3 b4 : EReal} (h0 : a0 = b0) (h1 : a1 = b1) (h2 : a2 = b2) (h3 : a3 = b3) (h4 : a4 = b4) :
    a0 + a1 + a2 + a3 + a4 = b0 + b1 + b2 + b3 + b4 := by rw [h0, h1, h2, h3, h4]

theorem point (c : Dev nD) (t : Fin cfg0.N) (s : Fin 2) (r : Fin 128) (q : Fin 1024) (h : t.val * 128 + r.val < 2048) :
    convOf (grid0.coords t) (iblk m c 1 t) (iblk m c 2 t) (iblk m c 4 t) (iblk m c 5 t) s (ix2 r q)
      = causal (argX m c) (argW m c) (argB m c) s ⟨t.val * 128 + r.val, h⟩ q := by
  have z : (iblk m c 1 t : FVec Ideal S2x128x1024 .f32) (ix3 s r q) = before (argX m c) 0 s ⟨t.val * 128 + r.val, h⟩ q :=
    (read_x m c t s r q h).trans (if_neg (Nat.not_lt_zero _)).symm
  unfold convOf
  refine (conv_apply _ _ _ _ _ _ _ r q).trans ?_
  rw [shift_one, shift_two, shift_three]
  unfold causal
  exact sum_eq (read_b m c t q) (Cert.SfwdConvRef.times (read_w m c t 0 q) (lag m c t 3 (by omega) s r q h))
    (Cert.SfwdConvRef.times (read_w m c t 1 q) (lag m c t 2 (by omega) s r q h)) (Cert.SfwdConvRef.times (read_w m c t 2 q) (lag m c t 1 (by omega) s r q h))
    (Cert.SfwdConvRef.times (read_w m c t 3 q) z)

/-- The convolution at every token and channel. -/
abbrev saved (c : Dev nD) : FVec Ideal S2x2048x1024 .f32 := fun i => causal (argX m c) (argW m c) (argB m c) (i 0) (i 1) (i 2)

theorem final (c : Dev nD) : (dats m 0 c).arrAt 15 cfg0.N = saved m c := by
  refine (dats m 0 c).arrAt_eq_of_covers 15 _ (by decide +kernel) fun t _ y => ?_
  blk_simp
  have ht : t.val < 16 := t.isLt
  obtain ⟨s, r, q, rfl⟩ : ∃ (s : Fin 2) (r : Fin 128) (q : Fin 1024), y = ix3 s r q := ⟨y 0, y 1, y 2, eq_ix3 y⟩
  have e : (((cfg0.win 15).blk t).view.emb (ix3 s r q)) = (ix3 s (⟨t.val * 128 + r.val, by omega⟩ : Fin 2048) q) := by
    blk_ext [places t]
  rw [e]
  exact (out_block m c t s r q).trans (point m c t s r q (by omega))

end Cert.SfwdValue

end
-- ==== Proof.Sfwd.lean ====
/-
  `ssd_fwd`: the three programs leave their arguments unchanged, and the convolution it saves is the reference's.
-/
module

public import proofs.«01_k».proof.Defs
public import proofs.«01_k».proof.Proof.Gen.Sfwd.Frame
public import proofs.«01_k».proof.Proof.SfwdFinal
public import proofs.«01_k».proof.Proof.Gen.SfwdRefIdeal.Run
public import Idealize.ShloMosaic.Adequacy
public import Idealize.ShloMosaic.Init

@[expose] public section

set_option maxRecDepth 16384

namespace Cert.SfwdClaims

open Idealize.ShloMosaic Idealize.ShloMosaic.TcCoe Idealize.SL.Sem
open Idealize.ShloMosaic.StableHlo

theorem frame : Cert.quiescent_Sfwd := fun m ρ _ => Cert.Sfwd.Gen.frame m ρ
theorem frame_ideal : Cert.quiescent_SfwdIdeal := fun m ρ _ => Cert.SfwdIdeal.Gen.frame m ρ
theorem frame_ref : Cert.quiescent_SfwdRefIdeal := fun m ρ _ =>
  (θ_run Cert.SfwdRefIdeal.defs _ _).mono (fun r h => ⟨fun c => (h c).2.2.2.2, sem_eq_zero_of_no_sems (by decide) r.2⟩)
    (Cert.SfwdRefIdeal.Value.run (F := Ideal) m ρ)

/-- The fourth result of the reference, from arguments equal to the kernel's. -/
theorem reference (m : (ℓ : Loc Cert.SfwdIdeal.nD Cert.SfwdIdeal.τ Cert.SfwdIdeal.sig) → Buf (Elt Ideal) ℓ) (c : Dev Cert.SfwdIdeal.nD)
    (V0 : Valuation Cert.SfwdRefIdeal.τ Cert.SfwdRefIdeal.sig (Elt Ideal)) (hx : Cert.SfwdConvRef.argX V0 = Cert.SfwdValue.argX m c)
    (hw : Cert.SfwdConvRef.argW V0 = Cert.SfwdValue.argW m c) (hb : Cert.SfwdConvRef.argB V0 = Cert.SfwdValue.argB m c)
    (i : Cert.SfwdRefIdeal.S2x2048x1024.Idx) :
    (Cert.SfwdRefIdeal.Value.res_main_v38 (F := Ideal) V0 : FVec Ideal Cert.SfwdRefIdeal.S2x2048x1024 .f32) i = Cert.SfwdValue.saved m c i := by
  obtain ⟨s, l, q, rfl⟩ : ∃ (s : Fin 2) (l : Fin 2048) (q : Fin 1024), i = ix3 s l q := ⟨i 0, i 1, i 2, eq_ix3 i⟩
  refine (Cert.SfwdConvRef.conv_at V0 s l q).trans ?_
  rw [hx, hw, hb]
  rfl

theorem unmasked {p : Prop} (h : (0#1 : BitVec 1) = 1#1) : p := absurd h (by decide)

theorem algebraic [Cert.On_convolution.Facts] : Cert.algebraic_SfwdIdeal_SfwdRefIdeal_on_convolution := by
  intro m ρ m' ρ' _ hag
  refine ⟨fun c => (Cert.SfwdIdeal.Gen.dats m 0 c).arrAt 12 Cert.SfwdIdeal.cfg0.N, fun c => (Cert.SfwdIdeal.Gen.dats m 0 c).arrAt 13 Cert.SfwdIdeal.cfg0.N,
    fun c => (Cert.SfwdIdeal.Gen.dats m 0 c).arrAt 14 Cert.SfwdIdeal.cfg0.N, Cert.SfwdValue.saved m, ?_, ?_⟩
  · exact (θ_run Cert.SfwdIdeal.defs _ _).mono (fun _ h c => ⟨fun i _ => congrFun (h c).1 i, fun i _ => congrFun (h c).2.1 i,
      fun i _ => congrFun (h c).2.2.1 i, fun i _ => congrFun ((h c).2.2.2.1.trans (Cert.SfwdValue.final m c)) i, (h c).2.2.2.2⟩)
      (Cert.SfwdIdeal.Value.run_blocks m ρ)
  · refine (θ_run Cert.SfwdRefIdeal.defs _ _).mono (fun _ h c => ⟨fun i hi => unmasked hi, fun i hi => unmasked hi, fun i hi => unmasked hi,
      fun i _ => (congrFun (h c).2.2.2.1 i).trans ?_, (h c).2.2.2.2⟩) (Cert.SfwdRefIdeal.Value.run (F := Ideal) m' ρ')
    obtain ⟨-, a1, -, a3, a4, -⟩ := hag c
    exact reference m c _ a1 a3 a4 i

end Cert.SfwdClaims
-- ==== Proof.Ssd.lean ====
/-
  `ssd_bwd`: the three programs leave their arguments unchanged.
-/
module

public import proofs.«01_k».proof.Defs
public import proofs.«01_k».proof.Proof.Gen.Ssd.Frame
public import proofs.«01_k».proof.Proof.Gen.SsdIdeal.Frame
public import proofs.«01_k».proof.Proof.Gen.SsdRefIdeal.Run
public import Idealize.ShloMosaic.Adequacy
public import Idealize.ShloMosaic.Init

@[expose] public section

namespace Cert.SsdClaims

open Idealize.ShloMosaic Idealize.ShloMosaic.TcCoe Idealize.SL.Sem
open Idealize.ShloMosaic.StableHlo

theorem frame : Cert.quiescent_Ssd := fun m ρ _ => Cert.Ssd.Gen.frame m ρ
theorem frame_ideal : Cert.quiescent_SsdIdeal := fun m ρ _ => Cert.SsdIdeal.Gen.frame m ρ
theorem frame_ref : Cert.quiescent_SsdRefIdeal := fun m ρ _ =>
  (θ_run Cert.SsdRefIdeal.defs _ _).mono (fun r h => ⟨fun c => (h c).2.2.2.2.2.2.2.2.2, sem_eq_zero_of_no_sems (by decide) r.2⟩)
    (Cert.SsdRefIdeal.Value.run (F := Ideal) m ρ)

end Cert.SsdClaims
-- ==== Proof.lean ====
/-
  The certificate: each claim by the module that proves it.
-/
module

public import proofs.«01_k».proof.Defs
public import proofs.«01_k».proof.Proof.Hidden
public import proofs.«01_k».proof.Proof.Gen.HiddenIdeal.Value
public import proofs.«01_k».proof.Proof.Gen.HiddenRefIdeal.Run
public import proofs.«01_k».proof.Proof.MlpIn
public import proofs.«01_k».proof.Proof.Gen.MlpInIdeal.Value
public import proofs.«01_k».proof.Proof.Gen.MlpInRefIdeal.Run
public import proofs.«01_k».proof.Proof.In
public import proofs.«01_k».proof.Proof.Gen.InIdeal.Value
public import proofs.«01_k».proof.Proof.Gen.InRefIdeal.Run
public import proofs.«01_k».proof.Proof.Mlp
public import proofs.«01_k».proof.Proof.Gen.MlpIdeal.Value
public import proofs.«01_k».proof.Proof.Gen.MlpRefIdeal.Run
public import proofs.«01_k».proof.Proof.Wdown
public import proofs.«01_k».proof.Proof.Gen.WdownIdeal.Value
public import proofs.«01_k».proof.Proof.Gen.WdownRefIdeal.Run
public import proofs.«01_k».proof.Proof.Gmlp
public import proofs.«01_k».proof.Proof.Gen.GmlpIdeal.Value
public import proofs.«01_k».proof.Proof.Gen.GmlpRefIdeal.Run
public import proofs.«01_k».proof.Proof.Gfwd
public import proofs.«01_k».proof.Proof.Gen.GfwdIdeal.Value
public import proofs.«01_k».proof.Proof.Gen.GfwdRefIdeal.Run
public import proofs.«01_k».proof.Proof.Out
public import proofs.«01_k».proof.Proof.Gen.OutIdeal.Value
public import proofs.«01_k».proof.Proof.Gen.OutRefIdeal.Run
public import proofs.«01_k».proof.Proof.Prenorm
public import proofs.«01_k».proof.Proof.Gen.PrenormIdeal.Value
public import proofs.«01_k».proof.Proof.Gen.PrenormRefIdeal.Run
public import proofs.«01_k».proof.Proof.Sfwd
public import proofs.«01_k».proof.Proof.Gen.SfwdIdeal.Value
public import proofs.«01_k».proof.Proof.Gen.SfwdRefIdeal.Run
public import proofs.«01_k».proof.Proof.Ssd
public import proofs.«01_k».proof.Proof.Gen.SsdIdeal.Frame
public import proofs.«01_k».proof.Proof.Gen.SsdRefIdeal.Run
public import proofs.«01_k».proof.Proof.Gen.Pre_finite
public import proofs.«01_k».proof.Proof.Gen.Pre_finite_fwd
public import proofs.«01_k».proof.Proof.Gen.On_convolution
public import Idealize.ShloMosaic.Adequacy
public import Idealize.ShloMosaic.Init

@[expose] public section

noncomputable section

namespace Cert.Proof

theorem claim : Cert.Claim :=
  ⟨Cert.Hidden.Gen.facts, Cert.HiddenIdeal.Gen.facts, Cert.HiddenRefIdeal.Gen.facts,
    Cert.MlpIn.Gen.facts, Cert.MlpInIdeal.Gen.facts, Cert.MlpInRefIdeal.Gen.facts,
    Cert.In.Gen.facts, Cert.InIdeal.Gen.facts, Cert.InRefIdeal.Gen.facts,
    Cert.Mlp.Gen.facts, Cert.MlpIdeal.Gen.facts, Cert.MlpRefIdeal.Gen.facts,
    Cert.Wdown.Gen.facts, Cert.WdownIdeal.Gen.facts, Cert.WdownRefIdeal.Gen.facts,
    Cert.Gmlp.Gen.facts, Cert.GmlpIdeal.Gen.facts, Cert.GmlpRefIdeal.Gen.facts,
    Cert.Gfwd.Gen.facts, Cert.GfwdIdeal.Gen.facts, Cert.GfwdRefIdeal.Gen.facts,
    Cert.Out.Gen.facts, Cert.OutIdeal.Gen.facts, Cert.OutRefIdeal.Gen.facts,
    Cert.Prenorm.Gen.facts, Cert.PrenormIdeal.Gen.facts, Cert.PrenormRefIdeal.Gen.facts,
    Cert.Sfwd.Gen.facts, Cert.SfwdIdeal.Gen.facts, Cert.SfwdRefIdeal.Gen.facts,
    Cert.Ssd.Gen.facts, Cert.SsdIdeal.Gen.facts, Cert.SsdRefIdeal.Gen.facts,
    Cert.Pre_finite.Gen.facts,
    Cert.Pre_finite_fwd.Gen.facts,
    Cert.On_convolution.Gen.facts,
    Cert.HiddenClaims.frame, Cert.HiddenClaims.frame_ideal, Cert.HiddenClaims.frame_ref,
    Cert.MlpInClaims.frame, Cert.MlpInClaims.frame_ideal, Cert.MlpInClaims.frame_ref,
    Cert.InClaims.frame, Cert.InClaims.frame_ideal, Cert.InClaims.frame_ref,
    Cert.MlpClaims.frame, Cert.MlpClaims.frame_ideal, Cert.MlpClaims.frame_ref,
    Cert.WdownClaims.frame, Cert.WdownClaims.frame_ideal, Cert.WdownClaims.frame_ref,
    Cert.GmlpClaims.frame, Cert.GmlpClaims.frame_ideal, Cert.GmlpClaims.frame_ideal_finite, Cert.GmlpClaims.frame_ref, Cert.GmlpClaims.frame_ref_finite,
    Cert.GfwdClaims.frame, Cert.GfwdClaims.frame_ideal, Cert.GfwdClaims.frame_ideal_finite_fwd, Cert.GfwdClaims.frame_ref, Cert.GfwdClaims.frame_ref_finite_fwd,
    Cert.OutClaims.frame, Cert.OutClaims.frame_ideal, Cert.OutClaims.frame_ref,
    Cert.PrenormClaims.frame, Cert.PrenormClaims.frame_ideal, Cert.PrenormClaims.frame_ref,
    Cert.SfwdClaims.frame, Cert.SfwdClaims.frame_ideal, Cert.SfwdClaims.frame_ref,
    Cert.SsdClaims.frame, Cert.SsdClaims.frame_ideal, Cert.SsdClaims.frame_ref,
    trivial, Cert.HiddenClaims.algebraic,
    trivial, Cert.MlpInClaims.algebraic,
    trivial, Cert.InClaims.algebraic,
    trivial, Cert.MlpClaims.algebraic,
    trivial, Cert.WdownClaims.algebraic,
    Cert.GmlpClaims.preserves, Cert.GmlpClaims.algebraic,
    Cert.GfwdClaims.preserves, Cert.GfwdClaims.algebraic,
    trivial, Cert.OutClaims.algebraic,
    trivial, Cert.PrenormClaims.algebraic,
    trivial, Cert.SfwdClaims.algebraic,
    trivial⟩

end Cert.Proof

end
